-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsReferenceIdeal (m : (ℓ : Loc Cert.LogitsReferenceIdeal.nD Cert.LogitsReferenceIdeal.τ Cert.LogitsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3)
      ∧ r.2.mem ((c.tc : Thread Cert.Logits.nD Cert.Logits.τ).loc Cert.Logits.main_arg4) = m ((c.tc : Thread Cert.Logits.nD Cert.Logits.τ).loc Cert.Logits.main_arg4))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4))
      ∧ r.2.sem = fun _ => 0)

def quiescent_LogitsReferenceIdeal [hLogitsReferenceIdeal : Cert.LogitsReferenceIdeal.Facts] : Prop :=
  ∀ (m : (ℓ : Loc Cert.LogitsReferenceIdeal.nD Cert.LogitsReferenceIdeal.τ Cert.LogitsReferenceIdeal.sig) → Buf (Elt Ideal) ℓ) (g : Dev Cert.LogitsReferenceIdeal.nD → PrngReg), Pre_LogitsReferenceIdeal m →
    θ_run (Cert.LogitsReferenceIdeal.defs (F := Ideal)) (onTc (τ := Cert.LogitsReferenceIdeal.τ) (Cert.LogitsReferenceIdeal.main (F := Ideal))) ⟨m, fun _ => 0, g⟩ (fun r => (∀ c : Dev Cert.LogitsReferenceIdeal.nD,
      r.2.mem ((c.tc : Thread Cert.LogitsReferenceIdeal.nD Cert.LogitsReferenceIdeal.τ).loc Cert.LogitsReferenceIdeal.main_arg0) = m ((c.tc : Thread Cert.LogitsReferenceIdeal.nD Cert.LogitsReferenceIdeal.τ).loc Cert.LogitsReferenceIdeal.main_arg0)
      ∧ r.2.mem ((c.tc : Thread Cert.LogitsReferenceIdeal.nD Cert.LogitsReferenceIdeal.τ).loc Cert.LogitsReferenceIdeal.main_arg1) = m ((c.tc : Thread Cert.LogitsReferenceIdeal.nD Cert.LogitsReferenceIdeal.τ).loc Cert.LogitsReferenceIdeal.main_arg1)
      ∧ r.2.mem ((c.tc : Thread Cert.LogitsReferenceIdeal.nD Cert.LogitsReferenceIdeal.τ).loc Cert.LogitsReferenceIdeal.main_arg2) = m ((c.tc : Thread Cert.LogitsReferenceIdeal.nD Cert.LogitsReferenceIdeal.τ).loc Cert.LogitsReferenceIdeal.main_arg2)
      ∧ r.2.mem ((c.tc : Thread Cert.LogitsReferenceIdeal.nD Cert.LogitsReferenceIdeal.τ).loc Cert.LogitsReferenceIdeal.main_arg3) = m ((c.tc : Thread Cert.LogitsReferenceIdeal.nD Cert.LogitsReferenceIdeal.τ).loc Cert.LogitsReferenceIdeal.main_arg3)
      ∧ r.2.mem ((c.tc : Thread Cert.LogitsReferenceIdeal.nD Cert.LogitsReferenceIdeal.τ).loc Cert.LogitsReferenceIdeal.main_arg4) = m ((c.tc : Thread Cert.LogitsReferenceIdeal.nD Cert.LogitsReferenceIdeal.τ).loc Cert.LogitsReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Logits_LogitsIdeal : Prop :=
  True

def algebraic_LogitsIdeal_LogitsReferenceIdeal [hLogitsIdeal : Cert.LogitsIdeal.Facts] [hLogitsReferenceIdeal : Cert.LogitsReferenceIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsReferenceIdeal.nD Cert.LogitsReferenceIdeal.τ Cert.LogitsReferenceIdeal.sig) → Buf (Elt Ideal) ℓ) (g' : Dev Cert.LogitsReferenceIdeal.nD → PrngReg), Pre_LogitsIdeal m →
    (∀ c : Dev Cert.LogitsIdeal.nD,
      m' ((c.tc : Thread Cert.LogitsReferenceIdeal.nD Cert.LogitsReferenceIdeal.τ).loc Cert.LogitsReferenceIdeal.main_arg0) = m ((c.tc : Thread Cert.LogitsIdeal.nD Cert.LogitsIdeal.τ).loc Cert.LogitsIdeal.main_arg0)
      ∧ m' ((c.tc : Thread Cert.LogitsReferenceIdeal.nD Cert.LogitsReferenceIdeal.τ).loc Cert.LogitsReferenceIdeal.main_arg1) = m ((c.tc : Thread Cert.LogitsIdeal.nD Cert.LogitsIdeal.τ).loc Cert.LogitsIdeal.main_arg1)
      ∧ m' ((c.tc : Thread Cert.LogitsReferenceIdeal.nD Cert.LogitsReferenceIdeal.τ).loc Cert.LogitsReferenceIdeal.main_arg2) = m ((c.tc : Thread Cert.LogitsIdeal.nD Cert.LogitsIdeal.τ).loc Cert.LogitsIdeal.main_arg2)
      ∧ m' ((c.tc : Thread Cert.LogitsReferenceIdeal.nD Cert.LogitsReferenceIdeal.τ).loc Cert.LogitsReferenceIdeal.main_arg3) = m ((c.tc : Thread Cert.LogitsIdeal.nD Cert.LogitsIdeal.τ).loc Cert.LogitsIdeal.main_arg3)
      ∧ m' ((c.tc : Thread Cert.LogitsReferenceIdeal.nD Cert.LogitsReferenceIdeal.τ).loc Cert.LogitsReferenceIdeal.main_arg4) = m ((c.tc : Thread Cert.LogitsIdeal.nD Cert.LogitsIdeal.τ).loc Cert.LogitsIdeal.main_arg4)) →
    ∃ (v0 : (c : Dev Cert.LogitsIdeal.nD) → Buf (Elt Ideal) ((c.tc : Thread Cert.LogitsIdeal.nD Cert.LogitsIdeal.τ).loc Cert.LogitsIdeal.main_v3)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v3) = v0 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
          ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4))
      ∧ θ_run (Cert.LogitsReferenceIdeal.defs (F := Ideal)) (onTc (τ := Cert.LogitsReferenceIdeal.τ) (Cert.LogitsReferenceIdeal.main (F := Ideal))) ⟨m', fun _ => 0, g'⟩ (fun r => ∀ c : Dev Cert.LogitsReferenceIdeal.nD,
          r.2.mem ((c.tc : Thread Cert.LogitsReferenceIdeal.nD Cert.LogitsReferenceIdeal.τ).loc Cert.LogitsReferenceIdeal.main_v3) = v0 c
          ∧ r.2.mem ((c.tc : Thread Cert.LogitsReferenceIdeal.nD Cert.LogitsReferenceIdeal.τ).loc Cert.LogitsReferenceIdeal.main_arg0) = m' ((c.tc : Thread Cert.LogitsReferenceIdeal.nD Cert.LogitsReferenceIdeal.τ).loc Cert.LogitsReferenceIdeal.main_arg0)
          ∧ r.2.mem ((c.tc : Thread Cert.LogitsReferenceIdeal.nD Cert.LogitsReferenceIdeal.τ).loc Cert.LogitsReferenceIdeal.main_arg1) = m' ((c.tc : Thread Cert.LogitsReferenceIdeal.nD Cert.LogitsReferenceIdeal.τ).loc Cert.LogitsReferenceIdeal.main_arg1)
          ∧ r.2.mem ((c.tc : Thread Cert.LogitsReferenceIdeal.nD Cert.LogitsReferenceIdeal.τ).loc Cert.LogitsReferenceIdeal.main_arg2) = m' ((c.tc : Thread Cert.LogitsReferenceIdeal.nD Cert.LogitsReferenceIdeal.τ).loc Cert.LogitsReferenceIdeal.main_arg2)
          ∧ r.2.mem ((c.tc : Thread Cert.LogitsReferenceIdeal.nD Cert.LogitsReferenceIdeal.τ).loc Cert.LogitsReferenceIdeal.main_arg3) = m' ((c.tc : Thread Cert.LogitsReferenceIdeal.nD Cert.LogitsReferenceIdeal.τ).loc Cert.LogitsReferenceIdeal.main_arg3)
          ∧ r.2.mem ((c.tc : Thread Cert.LogitsReferenceIdeal.nD Cert.LogitsReferenceIdeal.τ).loc Cert.LogitsReferenceIdeal.main_arg4) = m' ((c.tc : Thread Cert.LogitsReferenceIdeal.nD Cert.LogitsReferenceIdeal.τ).loc Cert.LogitsReferenceIdeal.main_arg4))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hLogits : Cert.Logits.Facts) (hLogitsIdeal : Cert.LogitsIdeal.Facts) (hLogitsReferenceIdeal : Cert.LogitsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ quiescent_Logits (hLogits := hLogits)
    ∧ quiescent_LogitsIdeal (hLogitsIdeal := hLogitsIdeal)
    ∧ quiescent_LogitsReferenceIdeal (hLogitsReferenceIdeal := hLogitsReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
    ∧ preserves_Logits_LogitsIdeal
    ∧ algebraic_LogitsIdeal_LogitsReferenceIdeal (hLogitsIdeal := hLogitsIdeal) (hLogitsReferenceIdeal := hLogitsReferenceIdeal)
-- ==== Kernel.lean ====
abbrev S192x8192 : Shape := ⟨2, ![192, 8192]⟩
abbrev S192 : Shape := ⟨1, ![192]⟩
abbrev S8192x44032 : Shape := ⟨2, ![8192, 44032]⟩
abbrev S44032 : Shape := ⟨1, ![44032]⟩
abbrev S192x1 : Shape := ⟨2, ![192, 1]⟩
abbrev S192x128 : Shape := ⟨2, ![192, 128]⟩
abbrev S344x128 : Shape := ⟨2, ![344, 128]⟩
abbrev S33024x128 : Shape := ⟨2, ![33024, 128]⟩
abbrev S6x8192x512 : Shape := ⟨3, ![6, 8192, 512]⟩
abbrev S6 : Shape := ⟨1, ![6]⟩
abbrev S1 : Shape := ⟨1, ![1]⟩
abbrev S_ : Shape := ⟨0, ![]⟩
abbrev S1x8192x512 : Shape := ⟨3, ![1, 8192, 512]⟩
abbrev S8192x512 : Shape := ⟨2, ![8192, 512]⟩
abbrev S192x512 : Shape := ⟨2, ![192, 512]⟩
abbrev S64x128 : Shape := ⟨2, ![64, 128]⟩
abbrev S1x128 : Shape := ⟨2, ![1, 128]⟩

abbrev nBuf : Space → Nat
  | .hbm => 8
  | .vmem => 6
  | .smem => 0
  | _ => 0

abbrev bufTy : (tb : Table) → Fin (tcTables nBuf tb) → BufTy
  | .hbm, ⟨0, _⟩ => ⟨S192x8192, .fp8e4m3⟩
  | .hbm, ⟨1, _⟩ => ⟨S192, .f32⟩
  | .hbm, ⟨2, _⟩ => ⟨S8192x44032, .fp8e4m3⟩
  | .hbm, ⟨3, _⟩ => ⟨S44032, .f32⟩
  | .hbm, ⟨4, _⟩ => ⟨S192x1, .f32⟩
  | .hbm, ⟨5, _⟩ => ⟨S192x128, .f32⟩
  | .hbm, ⟨6, _⟩ => ⟨S344x128, .f32⟩
  | .hbm, ⟨7, _⟩ => ⟨S33024x128, .f32⟩
  | .local _ .vmem, ⟨0, _⟩ => ⟨S192x8192, .fp8e4m3⟩
  | .local _ .vmem, ⟨1, _⟩ => ⟨S192x128, .f32⟩
  | .local _ .vmem, ⟨2, _⟩ => ⟨S344x128, .f32⟩
  | .local _ .vmem, ⟨3, _⟩ => ⟨S33024x128, .f32⟩
  | .local _ .vmem, ⟨4, _⟩ => ⟨S6x8192x512, .fp8e4m3⟩
  | .local _ .vmem, ⟨5, _⟩ => ⟨S192x128, .f32⟩
  | _, _ => ⟨S192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_mult1 : BitVec 32 :=
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c2_i32 : BitVec 32 := 2#32
  let c0_i32_2 : BitVec 32 := 0#32
  let v6 : BitVec 1 := Scalar.cmpi .sgt c2_i32 c0_i32_2
  let v7 : BitVec 32 := Scalar.extui v6
  let c0_i32_3 : BitVec 32 := 0#32
  let v8 : BitVec 1 := Scalar.cmpi .slt c2_i32 c0_i32_3
  let v9 : BitVec 32 := Scalar.extui v8
  let v10 : BitVec 32 := Scalar.subi v7 v9
  let v11 : BitVec 1 := Scalar.cmpi .ne v5 v10
  let v12 : BitVec 32 := Scalar.remsi c0_i32 c2_i32
  let c0_i32_4 : BitVec 32 := 0#32
  let v13 : BitVec 1 := Scalar.cmpi .ne v12 c0_i32_4
  let v14 : BitVec 1 := Scalar.andi v11 v13
  let v0 : BitVec 32 := Scalar.divsi c0_i32 c2_i32
  let c1_i32 : BitVec 32 := 1#32
  let v15 : BitVec 32 := Scalar.subi v0 c1_i32
  let v16 : BitVec 32 := Scalar.select v14 v15 v0
  let c512_i32 : BitVec 32 := 512#32
  let v17 : BitVec 32 := Scalar.muli v16 c512_i32
  let c0_i32_5 : BitVec 32 := 0#32
  let c2_i32_6 : BitVec 32 := 2#32
  let c0_i32_7 : BitVec 32 := 0#32
  let v18 : BitVec 1 := Scalar.cmpi .eq c2_i32_6 c0_i32_7
  let c1_i32_8 : BitVec 32 := 1#32
  let v19 : BitVec 32 := Scalar.select v18 c1_i32_8 c2_i32_6
  let v20 : BitVec 32 := Scalar.remsi c0_i32_5 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c22016_i32 : BitVec 32 := 22016#32
  let v28 : BitVec 32 := Scalar.muli v27 c22016_i32
  let v29 : BitVec 32 := Scalar.addi v17 v28
  v29
def k0_off1 (c0_i32 : BitVec 32) (c0_i32_5 : BitVec 32) : Fin 2 → Nat :=
  let c0_i32_16 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c2_i32 : BitVec 32 := 2#32
  let c0_i32_2 : BitVec 32 := 0#32
  let v6 : BitVec 1 := Scalar.cmpi .sgt c2_i32 c0_i32_2
  let v7 : BitVec 32 := Scalar.extui v6
  let c0_i32_3 : BitVec 32 := 0#32
  let v8 : BitVec 1 := Scalar.cmpi .slt c2_i32 c0_i32_3
  let v9 : BitVec 32 := Scalar.extui v8
  let v10 : BitVec 32 := Scalar.subi v7 v9
  let v11 : BitVec 1 := Scalar.cmpi .ne v5 v10
  let v12 : BitVec 32 := Scalar.remsi c0_i32 c2_i32
  let c0_i32_4 : BitVec 32 := 0#32
  let v13 : BitVec 1 := Scalar.cmpi .ne v12 c0_i32_4
  let v14 : BitVec 1 := Scalar.andi v11 v13
  let v0 : BitVec 32 := Scalar.divsi c0_i32 c2_i32
  let c1_i32 : BitVec 32 := 1#32
  let v15 : BitVec 32 := Scalar.subi v0 c1_i32
  let v16 : BitVec 32 := Scalar.select v14 v15 v0
  let c512_i32 : BitVec 32 := 512#32
  let v17 : BitVec 32 := Scalar.muli v16 c512_i32
  let c2_i32_6 : BitVec 32 := 2#32
  let c0_i32_7 : BitVec 32 := 0#32
  let v18 : BitVec 1 := Scalar.cmpi .eq c2_i32_6 c0_i32_7
  let c1_i32_8 : BitVec 32 := 1#32
  let v19 : BitVec 32 := Scalar.select v18 c1_i32_8 c2_i32_6
  let v20 : BitVec 32 := Scalar.remsi c0_i32_5 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c22016_i32 : BitVec 32 := 22016#32
  let v28 : BitVec 32 := Scalar.muli v27 c22016_i32
  let v29 : BitVec 32 := Scalar.addi v17 v28
  let v30 : BitVec 32 := v29
  ![0, v30.toNat]
def k0_off1_at (r : Fin 6) : BitVec 32 × BitVec 32 :=
  if r.val < 3 then
    if r.val < 1 then
      (0#32, 0#32)
    else
      if r.val < 2 then
        (1#32, 1#32)
      else
        (2#32, 2#32)
  else
    if r.val < 4 then
      (3#32, 3#32)
    else
      if r.val < 5 then
        (4#32, 4#32)
      else
        (5#32, 5#32)
def k0_mult2 : BitVec 32 :=
  let c1_i32_17 : BitVec 32 := 1#32
  let c0_i32_19 : BitVec 32 := 0#32
  let v37 : BitVec 1 := Scalar.cmpi .sgt c1_i32_17 c0_i32_19
  let v38 : BitVec 32 := Scalar.extui v37
  let c0_i32_20 : BitVec 32 := 0#32
  let v39 : BitVec 1 := Scalar.cmpi .slt c1_i32_17 c0_i32_20
  let v40 : BitVec 32 := Scalar.extui v39
  let v41 : BitVec 32 := Scalar.subi v38 v40
  let c2_i32_18 : BitVec 32 := 2#32
  let c0_i32_21 : BitVec 32 := 0#32
  let v42 : BitVec 1 := Scalar.cmpi .sgt c2_i32_18 c0_i32_21
  let v43 : BitVec 32 := Scalar.extui v42
  let c0_i32_22 : BitVec 32 := 0#32
  let v44 : BitVec 1 := Scalar.cmpi .slt c2_i32_18 c0_i32_22
  let v45 : BitVec 32 := Scalar.extui v44
  let v46 : BitVec 32 := Scalar.subi v43 v45
  let v47 : BitVec 1 := Scalar.cmpi .ne v41 v46
  let v48 : BitVec 32 := Scalar.remsi c1_i32_17 c2_i32_18
  let c0_i32_23 : BitVec 32 := 0#32
  let v49 : BitVec 1 := Scalar.cmpi .ne v48 c0_i32_23
  let v50 : BitVec 1 := Scalar.andi v47 v49
  let v36 : BitVec 32 := Scalar.divsi c1_i32_17 c2_i32_18
  let c1_i32_24 : BitVec 32 := 1#32
  let v51 : BitVec 32 := Scalar.subi v36 c1_i32_24
  let v52 : BitVec 32 := Scalar.select v50 v51 v36
  let c512_i32_25 : BitVec 32 := 512#32
  let v53 : BitVec 32 := Scalar.muli v52 c512_i32_25
  let c1_i32_26 : BitVec 32 := 1#32
  let c2_i32_27 : BitVec 32 := 2#32
  let c0_i32_28 : BitVec 32 := 0#32
  let v54 : BitVec 1 := Scalar.cmpi .eq c2_i32_27 c0_i32_28
  let c1_i32_29 : BitVec 32 := 1#32
  let v55 : BitVec 32 := Scalar.select v54 c1_i32_29 c2_i32_27
  let v56 : BitVec 32 := Scalar.remsi c1_i32_26 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c22016_i32_33 : BitVec 32 := 22016#32
  let v64 : BitVec 32 := Scalar.muli v63 c22016_i32_33
  let v65 : BitVec 32 := Scalar.addi v53 v64
  v65
def k0_mult3 : BitVec 32 :=
  let c2_i32_39 : BitVec 32 := 2#32
  let c0_i32_41 : BitVec 32 := 0#32
  let v73 : BitVec 1 := Scalar.cmpi .sgt c2_i32_39 c0_i32_41
  let v74 : BitVec 32 := Scalar.extui v73
  let c0_i32_42 : BitVec 32 := 0#32
  let v75 : BitVec 1 := Scalar.cmpi .slt c2_i32_39 c0_i32_42
  let v76 : BitVec 32 := Scalar.extui v75
  let v77 : BitVec 32 := Scalar.subi v74 v76
  let c2_i32_40 : BitVec 32 := 2#32
  let c0_i32_43 : BitVec 32 := 0#32
  let v78 : BitVec 1 := Scalar.cmpi .sgt c2_i32_40 c0_i32_43
  let v79 : BitVec 32 := Scalar.extui v78
  let c0_i32_44 : BitVec 32 := 0#32
  let v80 : BitVec 1 := Scalar.cmpi .slt c2_i32_40 c0_i32_44
  let v81 : BitVec 32 := Scalar.extui v80
  let v82 : BitVec 32 := Scalar.subi v79 v81
  let v83 : BitVec 1 := Scalar.cmpi .ne v77 v82
  let v84 : BitVec 32 := Scalar.remsi c2_i32_39 c2_i32_40
  let c0_i32_45 : BitVec 32 := 0#32
  let v85 : BitVec 1 := Scalar.cmpi .ne v84 c0_i32_45
  let v86 : BitVec 1 := Scalar.andi v83 v85
  let v72 : BitVec 32 := Scalar.divsi c2_i32_39 c2_i32_40
  let c1_i32_46 : BitVec 32 := 1#32
  let v87 : BitVec 32 := Scalar.subi v72 c1_i32_46
  let v88 : BitVec 32 := Scalar.select v86 v87 v72
  let c512_i32_47 : BitVec 32 := 512#32
  let v89 : BitVec 32 := Scalar.muli v88 c512_i32_47
  let c2_i32_48 : BitVec 32 := 2#32
  let c2_i32_49 : BitVec 32 := 2#32
  let c0_i32_50 : BitVec 32 := 0#32
  let v90 : BitVec 1 := Scalar.cmpi .eq c2_i32_49 c0_i32_50
  let c1_i32_51 : BitVec 32 := 1#32
  let v91 : BitVec 32 := Scalar.select v90 c1_i32_51 c2_i32_49
  let v92 : BitVec 32 := Scalar.remsi c2_i32_48 v91
  let c0_i32_53 : BitVec 32 := 0#32
  let v94 : BitVec 1 := Scalar.cmpi .slt v92 c0_i32_53
  let c0_i32_54 : BitVec 32 := 0#32
  let v95 : BitVec 1 := Scalar.cmpi .slt v91 c0_i32_54
  let v96 : BitVec 1 := Scalar.xori v94 v95
  let c0_i32_52 : BitVec 32 := 0#32
  let v93 : BitVec 1 := Scalar.cmpi .ne v92 c0_i32_52
  let v97 : BitVec 1 := Scalar.andi v96 v93
  let v98 : BitVec 32 := Scalar.addi v92 v91
  let v99 : BitVec 32 := Scalar.select v97 v98 v92
  let c22016_i32_55 : BitVec 32 := 22016#32
  let v100 : BitVec 32 := Scalar.muli v99 c22016_i32_55
  let v101 : BitVec 32 := Scalar.addi v89 v100
  v101
def k0_mult4 : BitVec 32 :=
  let c3_i32 : BitVec 32 := 3#32
  let c0_i32_62 : BitVec 32 := 0#32
  let v109 : BitVec 1 := Scalar.cmpi .sgt c3_i32 c0_i32_62
  let v110 : BitVec 32 := Scalar.extui v109
  let c0_i32_63 : BitVec 32 := 0#32
  let v111 : BitVec 1 := Scalar.cmpi .slt c3_i32 c0_i32_63
  let v112 : BitVec 32 := Scalar.extui v111
  let v113 : BitVec 32 := Scalar.subi v110 v112
  let c2_i32_61 : BitVec 32 := 2#32
  let c0_i32_64 : BitVec 32 := 0#32
  let v114 : BitVec 1 := Scalar.cmpi .sgt c2_i32_61 c0_i32_64
  let v115 : BitVec 32 := Scalar.extui v114
  let c0_i32_65 : BitVec 32 := 0#32
  let v116 : BitVec 1 := Scalar.cmpi .slt c2_i32_61 c0_i32_65
  let v117 : BitVec 32 := Scalar.extui v116
  let v118 : BitVec 32 := Scalar.subi v115 v117
  let v119 : BitVec 1 := Scalar.cmpi .ne v113 v118
  let v120 : BitVec 32 := Scalar.remsi c3_i32 c2_i32_61
  let c0_i32_66 : BitVec 32 := 0#32
  let v121 : BitVec 1 := Scalar.cmpi .ne v120 c0_i32_66
  let v122 : BitVec 1 := Scalar.andi v119 v121
  let v108 : BitVec 32 := Scalar.divsi c3_i32 c2_i32_61
  let c1_i32_67 : BitVec 32 := 1#32
  let v123 : BitVec 32 := Scalar.subi v108 c1_i32_67
  let v124 : BitVec 32 := Scalar.select v122 v123 v108
  let c512_i32_68 : BitVec 32 := 512#32
  let v125 : BitVec 32 := Scalar.muli v124 c512_i32_68
  let c3_i32_69 : BitVec 32 := 3#32
  let c2_i32_70 : BitVec 32 := 2#32
  let c0_i32_71 : BitVec 32 := 0#32
  let v126 : BitVec 1 := Scalar.cmpi .eq c2_i32_70 c0_i32_71
  let c1_i32_72 : BitVec 32 := 1#32
  let v127 : BitVec 32 := Scalar.select v126 c1_i32_72 c2_i32_70
  let v128 : BitVec 32 := Scalar.remsi c3_i32_69 v127
  let c0_i32_74 : BitVec 32 := 0#32
  let v130 : BitVec 1 := Scalar.cmpi .slt v128 c0_i32_74
  let c0_i32_75 : BitVec 32 := 0#32
  let v131 : BitVec 1 := Scalar.cmpi .slt v127 c0_i32_75
  let v132 : BitVec 1 := Scalar.xori v130 v131
  let c0_i32_73 : BitVec 32 := 0#32
  let v129 : BitVec 1 := Scalar.cmpi .ne v128 c0_i32_73
  let v133 : BitVec 1 := Scalar.andi v132 v129
  let v134 : BitVec 32 := Scalar.addi v128 v127
  let v135 : BitVec 32 := Scalar.select v133 v134 v128
  let c22016_i32_76 : BitVec 32 := 22016#32
  let v136 : BitVec 32 := Scalar.muli v135 c22016_i32_76
  let v137 : BitVec 32 := Scalar.addi v125 v136
  v137
def k0_mult5 : BitVec 32 :=
  let c4_i32 : BitVec 32 := 4#32
  let c0_i32_83 : BitVec 32 := 0#32
  let v145 : BitVec 1 := Scalar.cmpi .sgt c4_i32 c0_i32_83
  let v146 : BitVec 32 := Scalar.extui v145
  let c0_i32_84 : BitVec 32 := 0#32
  let v147 : BitVec 1 := Scalar.cmpi .slt c4_i32 c0_i32_84
  let v148 : BitVec 32 := Scalar.extui v147
  let v149 : BitVec 32 := Scalar.subi v146 v148
  let c2_i32_82 : BitVec 32 := 2#32
  let c0_i32_85 : BitVec 32 := 0#32
  let v150 : BitVec 1 := Scalar.cmpi .sgt c2_i32_82 c0_i32_85
  let v151 : BitVec 32 := Scalar.extui v150
  let c0_i32_86 : BitVec 32 := 0#32
  let v152 : BitVec 1 := Scalar.cmpi .slt c2_i32_82 c0_i32_86
  let v153 : BitVec 32 := Scalar.extui v152
  let v154 : BitVec 32 := Scalar.subi v151 v153
  let v155 : BitVec 1 := Scalar.cmpi .ne v149 v154
  let v156 : BitVec 32 := Scalar.remsi c4_i32 c2_i32_82
  let c0_i32_87 : BitVec 32 := 0#32
  let v157 : BitVec 1 := Scalar.cmpi .ne v156 c0_i32_87
  let v158 : BitVec 1 := Scalar.andi v155 v157
  let v144 : BitVec 32 := Scalar.divsi c4_i32 c2_i32_82
  let c1_i32_88 : BitVec 32 := 1#32
  let v159 : BitVec 32 := Scalar.subi v144 c1_i32_88
  let v160 : BitVec 32 := Scalar.select v158 v159 v144
  let c512_i32_89 : BitVec 32 := 512#32
  let v161 : BitVec 32 := Scalar.muli v160 c512_i32_89
  let c4_i32_90 : BitVec 32 := 4#32
  let c2_i32_91 : BitVec 32 := 2#32
  let c0_i32_92 : BitVec 32 := 0#32
  let v162 : BitVec 1 := Scalar.cmpi .eq c2_i32_91 c0_i32_92
  let c1_i32_93 : BitVec 32 := 1#32
  let v163 : BitVec 32 := Scalar.select v162 c1_i32_93 c2_i32_91
  let v164 : BitVec 32 := Scalar.remsi c4_i32_90 v163
  let c0_i32_95 : BitVec 32 := 0#32
  let v166 : BitVec 1 := Scalar.cmpi .slt v164 c0_i32_95
  let c0_i32_96 : BitVec 32 := 0#32
  let v167 : BitVec 1 := Scalar.cmpi .slt v163 c0_i32_96
  let v168 : BitVec 1 := Scalar.xori v166 v167
  let c0_i32_94 : BitVec 32 := 0#32
  let v165 : BitVec 1 := Scalar.cmpi .ne v164 c0_i32_94
  let v169 : BitVec 1 := Scalar.andi v168 v165
  let v170 : BitVec 32 := Scalar.addi v164 v163
  let v171 : BitVec 32 := Scalar.select v169 v170 v164
  let c22016_i32_97 : BitVec 32 := 22016#32
  let v172 : BitVec 32 := Scalar.muli v171 c22016_i32_97
  let v173 : BitVec 32 := Scalar.addi v161 v172
  v173
def k0_mult6 : BitVec 32 :=
  let c5_i32 : BitVec 32 := 5#32
  let c0_i32_104 : BitVec 32 := 0#32
  let v181 : BitVec 1 := Scalar.cmpi .sgt c5_i32 c0_i32_104
  let v182 : BitVec 32 := Scalar.extui v181
  let c0_i32_105 : BitVec 32 := 0#32
  let v183 : BitVec 1 := Scalar.cmpi .slt c5_i32 c0_i32_105
  let v184 : BitVec 32 := Scalar.extui v183
  let v185 : BitVec 32 := Scalar.subi v182 v184
  let c2_i32_103 : BitVec 32 := 2#32
  let c0_i32_106 : BitVec 32 := 0#32
  let v186 : BitVec 1 := Scalar.cmpi .sgt c2_i32_103 c0_i32_106
  let v187 : BitVec 32 := Scalar.extui v186
  let c0_i32_107 : BitVec 32 := 0#32
  let v188 : BitVec 1 := Scalar.cmpi .slt c2_i32_103 c0_i32_107
  let v189 : BitVec 32 := Scalar.extui v188
  let v190 : BitVec 32 := Scalar.subi v187 v189
  let v191 : BitVec 1 := Scalar.cmpi .ne v185 v190
  let v192 : BitVec 32 := Scalar.remsi c5_i32 c2_i32_103
  let c0_i32_108 : BitVec 32 := 0#32
  let v193 : BitVec 1 := Scalar.cmpi .ne v192 c0_i32_108
  let v194 : BitVec 1 := Scalar.andi v191 v193
  let v180 : BitVec 32 := Scalar.divsi c5_i32 c2_i32_103
  let c1_i32_109 : BitVec 32 := 1#32
  let v195 : BitVec 32 := Scalar.subi v180 c1_i32_109
  let v196 : BitVec 32 := Scalar.select v194 v195 v180
  let c512_i32_110 : BitVec 32 := 512#32
  let v197 : BitVec 32 := Scalar.muli v196 c512_i32_110
  let c5_i32_111 : BitVec 32 := 5#32
  let c2_i32_112 : BitVec 32 := 2#32
  let c0_i32_113 : BitVec 32 := 0#32
  let v198 : BitVec 1 := Scalar.cmpi .eq c2_i32_112 c0_i32_113
  let c1_i32_114 : BitVec 32 := 1#32
  let v199 : BitVec 32 := Scalar.select v198 c1_i32_114 c2_i32_112
  let v200 : BitVec 32 := Scalar.remsi c5_i32_111 v199
  let c0_i32_116 : BitVec 32 := 0#32
  let v202 : BitVec 1 := Scalar.cmpi .slt v200 c0_i32_116
  let c0_i32_117 : BitVec 32 := 0#32
  let v203 : BitVec 1 := Scalar.cmpi .slt v199 c0_i32_117
  let v204 : BitVec 1 := Scalar.xori v202 v203
  let c0_i32_115 : BitVec 32 := 0#32
  let v201 : BitVec 1 := Scalar.cmpi .ne v200 c0_i32_115
  let v205 : BitVec 1 := Scalar.andi v204 v201
  let v206 : BitVec 32 := Scalar.addi v200 v199
  let v207 : BitVec 32 := Scalar.select v205 v206 v200
  let c22016_i32_118 : BitVec 32 := 22016#32
  let v208 : BitVec 32 := Scalar.muli v207 c22016_i32_118
  let v209 : BitVec 32 := Scalar.addi v197 v208
  v209
@[reducible] def k0_t1_loop : Scf.Loop 32 :=
  let c0_i32_125 : BitVec 32 := 0#32
  let c43_i32 : BitVec 32 := 43#32
  let v220 : BitVec 32 := Scalar.addi c0_i32_125 c43_i32
  let c1_i32_126 : BitVec 32 := 1#32
  ⟨c0_i32_125, v220, c1_i32_126⟩
def k0_cond1 (k0_t1 : Fin k0_t1_loop.trips) : BitVec 1 :=
  let c0_i32_125 : BitVec 32 := 0#32
  let c1_i32_126 : BitVec 32 := 1#32
  let arg8 : BitVec 32 := Scf.iv c0_i32_125 c1_i32_126 k0_t1
  let c0_i32_137 : BitVec 32 := 0#32
  let v231 : BitVec 1 := Scalar.cmpi .sgt arg8 c0_i32_137
  let v232 : BitVec 32 := Scalar.extui v231
  let c0_i32_138 : BitVec 32 := 0#32
  let v233 : BitVec 1 := Scalar.cmpi .ne v232 c0_i32_138
  v233

def k0_cond2 (k0_t1 : Fin k0_t1_loop.trips) : BitVec 1 :=
  let c2_i32_339 : BitVec 32 := 2#32
  let c0_i32_125 : BitVec 32 := 0#32
  let c1_i32_126 : BitVec 32 := 1#32
  let arg8 : BitVec 32 := Scf.iv c0_i32_125 c1_i32_126 k0_t1
  let v740 : BitVec 32 := Scalar.muli c2_i32_339 arg8
  let c2_i32_340 : BitVec 32 := 2#32
  let v741 : BitVec 32 := Scalar.subi v740 c2_i32_340
  let c6_i32_341 : BitVec 32 := 6#32
  let v742 : BitVec 32 := Scalar.addi v741 c6_i32_341
  let c86_i32_344 : BitVec 32 := 86#32
  let v745 : BitVec 1 := Scalar.cmpi .slt v742 c86_i32_344
  let v746 : BitVec 32 := Scalar.extui v745
  let c0_i32_345 : BitVec 32 := 0#32
  let v747 : BitVec 1 := Scalar.cmpi .ne v746 c0_i32_345
  v747

def k0_mult7 (k0_t1 : Fin k0_t1_loop.trips) : BitVec 32 :=
  let c2_i32_339 : BitVec 32 := 2#32
  let c0_i32_125 : BitVec 32 := 0#32
  let c1_i32_126 : BitVec 32 := 1#32
  let arg8 : BitVec 32 := Scf.iv c0_i32_125 c1_i32_126 k0_t1
  let v740 : BitVec 32 := Scalar.muli c2_i32_339 arg8
  let c2_i32_340 : BitVec 32 := 2#32
  let v741 : BitVec 32 := Scalar.subi v740 c2_i32_340
  let c6_i32_341 : BitVec 32 := 6#32
  let v742 : BitVec 32 := Scalar.addi v741 c6_i32_341
  let c0_i32_354 : BitVec 32 := 0#32
  let v757 : BitVec 1 := Scalar.cmpi .sgt v742 c0_i32_354
  let v758 : BitVec 32 := Scalar.extui v757
  let c0_i32_355 : BitVec 32 := 0#32
  let v759 : BitVec 1 := Scalar.cmpi .slt v742 c0_i32_355
  let v760 : BitVec 32 := Scalar.extui v759
  let v761 : BitVec 32 := Scalar.subi v758 v760
  let c2_i32_353 : BitVec 32 := 2#32
  let c0_i32_356 : BitVec 32 := 0#32
  let v762 : BitVec 1 := Scalar.cmpi .sgt c2_i32_353 c0_i32_356
  let v763 : BitVec 32 := Scalar.extui v762
  let c0_i32_357 : BitVec 32 := 0#32
  let v764 : BitVec 1 := Scalar.cmpi .slt c2_i32_353 c0_i32_357
  let v765 : BitVec 32 := Scalar.extui v764
  let v766 : BitVec 32 := Scalar.subi v763 v765
  let v767 : BitVec 1 := Scalar.cmpi .ne v761 v766
  let v768 : BitVec 32 := Scalar.remsi v742 c2_i32_353
  let c0_i32_358 : BitVec 32 := 0#32
  let v769 : BitVec 1 := Scalar.cmpi .ne v768 c0_i32_358
  let v770 : BitVec 1 := Scalar.andi v767 v769
  let v756 : BitVec 32 := Scalar.divsi v742 c2_i32_353
  let c1_i32_359 : BitVec 32 := 1#32
  let v771 : BitVec 32 := Scalar.subi v756 c1_i32_359
  let v772 : BitVec 32 := Scalar.select v770 v771 v756
  let c512_i32_360 : BitVec 32 := 512#32
  let v773 : BitVec 32 := Scalar.muli v772 c512_i32_360
  let c2_i32_361 : BitVec 32 := 2#32
  let c0_i32_362 : BitVec 32 := 0#32
  let v774 : BitVec 1 := Scalar.cmpi .eq c2_i32_361 c0_i32_362
  let c1_i32_363 : BitVec 32 := 1#32
  let v775 : BitVec 32 := Scalar.select v774 c1_i32_363 c2_i32_361
  let v776 : BitVec 32 := Scalar.remsi v742 v775
  let c0_i32_365 : BitVec 32 := 0#32
  let v778 : BitVec 1 := Scalar.cmpi .slt v776 c0_i32_365
  let c0_i32_366 : BitVec 32 := 0#32
  let v779 : BitVec 1 := Scalar.cmpi .slt v775 c0_i32_366
  let v780 : BitVec 1 := Scalar.xori v778 v779
  let c0_i32_364 : BitVec 32 := 0#32
  let v777 : BitVec 1 := Scalar.cmpi .ne v776 c0_i32_364
  let v781 : BitVec 1 := Scalar.andi v780 v777
  let v782 : BitVec 32 := Scalar.addi v776 v775
  let v783 : BitVec 32 := Scalar.select v781 v782 v776
  let c22016_i32_367 : BitVec 32 := 22016#32
  let v784 : BitVec 32 := Scalar.muli v783 c22016_i32_367
  let v785 : BitVec 32 := Scalar.addi v773 v784
  v785
def k0_off2 (k0_t1 : Fin k0_t1_loop.trips) : Fin 1 → Nat :=
  let c30_i32_342 : BitVec 32 := 30#32
  let c2_i32_339 : BitVec 32 := 2#32
  let c0_i32_125 : BitVec 32 := 0#32
  let c1_i32_126 : BitVec 32 := 1#32
  let arg8 : BitVec 32 := Scf.iv c0_i32_125 c1_i32_126 k0_t1
  let v740 : BitVec 32 := Scalar.muli c2_i32_339 arg8
  let c2_i32_340 : BitVec 32 := 2#32
  let v741 : BitVec 32 := Scalar.subi v740 c2_i32_340
  let c6_i32_341 : BitVec 32 := 6#32
  let v742 : BitVec 32 := Scalar.addi v741 c6_i32_341
  let v743 : BitVec 32 := Scalar.addi c30_i32_342 v742
  let c6_i32_343 : BitVec 32 := 6#32
  let v744 : BitVec 32 := Scalar.remsi v743 c6_i32_343
  ![v744.toNat]
def k0_off3 (k0_t1 : Fin k0_t1_loop.trips) : Fin 3 → Nat :=
  let c30_i32_342 : BitVec 32 := 30#32
  let c2_i32_339 : BitVec 32 := 2#32
  let c0_i32_125 : BitVec 32 := 0#32
  let c1_i32_126 : BitVec 32 := 1#32
  let arg8 : BitVec 32 := Scf.iv c0_i32_125 c1_i32_126 k0_t1
  let v740 : BitVec 32 := Scalar.muli c2_i32_339 arg8
  let c2_i32_340 : BitVec 32 := 2#32
  let v741 : BitVec 32 := Scalar.subi v740 c2_i32_340
  let c6_i32_341 : BitVec 32 := 6#32
  let v742 : BitVec 32 := Scalar.addi v741 c6_i32_341
  let v743 : BitVec 32 := Scalar.addi c30_i32_342 v742
  let c6_i32_343 : BitVec 32 := 6#32
  let v744 : BitVec 32 := Scalar.remsi v743 c6_i32_343
  let c0_i32_368 : BitVec 32 := 0#32
  let c0_i32_369 : BitVec 32 := 0#32
  ![v744.toNat, 0, 0]
def k0_off4 (k0_t1 : Fin k0_t1_loop.trips) : Fin 2 → Nat :=
  let c0_i32_370 : BitVec 32 := 0#32
  let c2_i32_339 : BitVec 32 := 2#32
  let c0_i32_125 : BitVec 32 := 0#32
  let c1_i32_126 : BitVec 32 := 1#32
  let arg8 : BitVec 32 := Scf.iv c0_i32_125 c1_i32_126 k0_t1
  let v740 : BitVec 32 := Scalar.muli c2_i32_339 arg8
  let c2_i32_340 : BitVec 32 := 2#32
  let v741 : BitVec 32 := Scalar.subi v740 c2_i32_340
  let c6_i32_341 : BitVec 32 := 6#32
  let v742 : BitVec 32 := Scalar.addi v741 c6_i32_341
  let c0_i32_354 : BitVec 32 := 0#32
  let v757 : BitVec 1 := Scalar.cmpi .sgt v742 c0_i32_354
  let v758 : BitVec 32 := Scalar.extui v757
  let c0_i32_355 : BitVec 32 := 0#32
  let v759 : BitVec 1 := Scalar.cmpi .slt v742 c0_i32_355
  let v760 : BitVec 32 := Scalar.extui v759
  let v761 : BitVec 32 := Scalar.subi v758 v760
  let c2_i32_353 : BitVec 32 := 2#32
  let c0_i32_356 : BitVec 32 := 0#32
  let v762 : BitVec 1 := Scalar.cmpi .sgt c2_i32_353 c0_i32_356
  let v763 : BitVec 32 := Scalar.extui v762
  let c0_i32_357 : BitVec 32 := 0#32
  let v764 : BitVec 1 := Scalar.cmpi .slt c2_i32_353 c0_i32_357
  let v765 : BitVec 32 := Scalar.extui v764
  let v766 : BitVec 32 := Scalar.subi v763 v765
  let v767 : BitVec 1 := Scalar.cmpi .ne v761 v766
  let v768 : BitVec 32 := Scalar.remsi v742 c2_i32_353
  let c0_i32_358 : BitVec 32 := 0#32
  let v769 : BitVec 1 := Scalar.cmpi .ne v768 c0_i32_358
  let v770 : BitVec 1 := Scalar.andi v767 v769
  let v756 : BitVec 32 := Scalar.divsi v742 c2_i32_353
  let c1_i32_359 : BitVec 32 := 1#32
  let v771 : BitVec 32 := Scalar.subi v756 c1_i32_359
  let v772 : BitVec 32 := Scalar.select v770 v771 v756
  let c512_i32_360 : BitVec 32 := 512#32
  let v773 : BitVec 32 := Scalar.muli v772 c512_i32_360
  let c2_i32_361 : BitVec 32 := 2#32
  let c0_i32_362 : BitVec 32 := 0#32
  let v774 : BitVec 1 := Scalar.cmpi .eq c2_i32_361 c0_i32_362
  let c1_i32_363 : BitVec 32 := 1#32
  let v775 : BitVec 32 := Scalar.select v774 c1_i32_363 c2_i32_361
  let v776 : BitVec 32 := Scalar.remsi v742 v775
  let c0_i32_365 : BitVec 32 := 0#32
  let v778 : BitVec 1 := Scalar.cmpi .slt v776 c0_i32_365
  let c0_i32_366 : BitVec 32 := 0#32
  let v779 : BitVec 1 := Scalar.cmpi .slt v775 c0_i32_366
  let v780 : BitVec 1 := Scalar.xori v778 v779
  let c0_i32_364 : BitVec 32 := 0#32
  let v777 : BitVec 1 := Scalar.cmpi .ne v776 c0_i32_364
  let v781 : BitVec 1 := Scalar.andi v780 v777
  let v782 : BitVec 32 := Scalar.addi v776 v775
  let v783 : BitVec 32 := Scalar.select v781 v782 v776
  let c22016_i32_367 : BitVec 32 := 22016#32
  let v784 : BitVec 32 := Scalar.muli v783 c22016_i32_367
  let v785 : BitVec 32 := Scalar.addi v773 v784
  let v786 : BitVec 32 := v785
  ![0, v786.toNat]
def k0_cond3 (k0_t1 : Fin k0_t1_loop.trips) : BitVec 1 :=
  let c2_i32_346 : BitVec 32 := 2#32
  let c0_i32_125 : BitVec 32 := 0#32
  let c1_i32_126 : BitVec 32 := 1#32
  let arg8 : BitVec 32 := Scf.iv c0_i32_125 c1_i32_126 k0_t1
  let v748 : BitVec 32 := Scalar.muli c2_i32_346 arg8
  let c1_i32_347 : BitVec 32 := 1#32
  let v749 : BitVec 32 := Scalar.subi v748 c1_i32_347
  let c6_i32_348 : BitVec 32 := 6#32
  let v750 : BitVec 32 := Scalar.addi v749 c6_i32_348
  let c86_i32_351 : BitVec 32 := 86#32
  let v753 : BitVec 1 := Scalar.cmpi .slt v750 c86_i32_351
  let v754 : BitVec 32 := Scalar.extui v753
  let c0_i32_352 : BitVec 32 := 0#32
  let v755 : BitVec 1 := Scalar.cmpi .ne v754 c0_i32_352
  v755

def k0_mult8 (k0_t1 : Fin k0_t1_loop.trips) : BitVec 32 :=
  let c2_i32_346 : BitVec 32 := 2#32
  let c0_i32_125 : BitVec 32 := 0#32
  let c1_i32_126 : BitVec 32 := 1#32
  let arg8 : BitVec 32 := Scf.iv c0_i32_125 c1_i32_126 k0_t1
  let v748 : BitVec 32 := Scalar.muli c2_i32_346 arg8
  let c1_i32_347 : BitVec 32 := 1#32
  let v749 : BitVec 32 := Scalar.subi v748 c1_i32_347
  let c6_i32_348 : BitVec 32 := 6#32
  let v750 : BitVec 32 := Scalar.addi v749 c6_i32_348
  let c0_i32_354 : BitVec 32 := 0#32
  let v757 : BitVec 1 := Scalar.cmpi .sgt v750 c0_i32_354
  let v758 : BitVec 32 := Scalar.extui v757
  let c0_i32_355 : BitVec 32 := 0#32
  let v759 : BitVec 1 := Scalar.cmpi .slt v750 c0_i32_355
  let v760 : BitVec 32 := Scalar.extui v759
  let v761 : BitVec 32 := Scalar.subi v758 v760
  let c2_i32_353 : BitVec 32 := 2#32
  let c0_i32_356 : BitVec 32 := 0#32
  let v762 : BitVec 1 := Scalar.cmpi .sgt c2_i32_353 c0_i32_356
  let v763 : BitVec 32 := Scalar.extui v762
  let c0_i32_357 : BitVec 32 := 0#32
  let v764 : BitVec 1 := Scalar.cmpi .slt c2_i32_353 c0_i32_357
  let v765 : BitVec 32 := Scalar.extui v764
  let v766 : BitVec 32 := Scalar.subi v763 v765
  let v767 : BitVec 1 := Scalar.cmpi .ne v761 v766
  let v768 : BitVec 32 := Scalar.remsi v750 c2_i32_353
  let c0_i32_358 : BitVec 32 := 0#32
  let v769 : BitVec 1 := Scalar.cmpi .ne v768 c0_i32_358
  let v770 : BitVec 1 := Scalar.andi v767 v769
  let v756 : BitVec 32 := Scalar.divsi v750 c2_i32_353
  let c1_i32_359 : BitVec 32 := 1#32
  let v771 : BitVec 32 := Scalar.subi v756 c1_i32_359
  let v772 : BitVec 32 := Scalar.select v770 v771 v756
  let c512_i32_360 : BitVec 32 := 512#32
  let v773 : BitVec 32 := Scalar.muli v772 c512_i32_360
  let c2_i32_361 : BitVec 32 := 2#32
  let c0_i32_362 : BitVec 32 := 0#32
  let v774 : BitVec 1 := Scalar.cmpi .eq c2_i32_361 c0_i32_362
  let c1_i32_363 : BitVec 32 := 1#32
  let v775 : BitVec 32 := Scalar.select v774 c1_i32_363 c2_i32_361
  let v776 : BitVec 32 := Scalar.remsi v750 v775
  let c0_i32_365 : BitVec 32 := 0#32
  let v778 : BitVec 1 := Scalar.cmpi .slt v776 c0_i32_365
  let c0_i32_366 : BitVec 32 := 0#32
  let v779 : BitVec 1 := Scalar.cmpi .slt v775 c0_i32_366
  let v780 : BitVec 1 := Scalar.xori v778 v779
  let c0_i32_364 : BitVec 32 := 0#32
  let v777 : BitVec 1 := Scalar.cmpi .ne v776 c0_i32_364
  let v781 : BitVec 1 := Scalar.andi v780 v777
  let v782 : BitVec 32 := Scalar.addi v776 v775
  let v783 : BitVec 32 := Scalar.select v781 v782 v776
  let c22016_i32_367 : BitVec 32 := 22016#32
  let v784 : BitVec 32 := Scalar.muli v783 c22016_i32_367
  let v785 : BitVec 32 := Scalar.addi v773 v784
  v785
def k0_off5 (k0_t1 : Fin k0_t1_loop.trips) : Fin 1 → Nat :=
  let c30_i32_349 : BitVec 32 := 30#32
  let c2_i32_346 : BitVec 32 := 2#32
  let c0_i32_125 : BitVec 32 := 0#32
  let c1_i32_126 : BitVec 32 := 1#32
  let arg8 : BitVec 32 := Scf.iv c0_i32_125 c1_i32_126 k0_t1
  let v748 : BitVec 32 := Scalar.muli c2_i32_346 arg8
  let c1_i32_347 : BitVec 32 := 1#32
  let v749 : BitVec 32 := Scalar.subi v748 c1_i32_347
  let c6_i32_348 : BitVec 32 := 6#32
  let v750 : BitVec 32 := Scalar.addi v749 c6_i32_348
  let v751 : BitVec 32 := Scalar.addi c30_i32_349 v750
  let c6_i32_350 : BitVec 32 := 6#32
  let v752 : BitVec 32 := Scalar.remsi v751 c6_i32_350
  ![v752.toNat]
def k0_off6 (k0_t1 : Fin k0_t1_loop.trips) : Fin 3 → Nat :=
  let c30_i32_349 : BitVec 32 := 30#32
  let c2_i32_346 : BitVec 32 := 2#32
  let c0_i32_125 : BitVec 32 := 0#32
  let c1_i32_126 : BitVec 32 := 1#32
  let arg8 : BitVec 32 := Scf.iv c0_i32_125 c1_i32_126 k0_t1
  let v748 : BitVec 32 := Scalar.muli c2_i32_346 arg8
  let c1_i32_347 : BitVec 32 := 1#32
  let v749 : BitVec 32 := Scalar.subi v748 c1_i32_347
  let c6_i32_348 : BitVec 32 := 6#32
  let v750 : BitVec 32 := Scalar.addi v749 c6_i32_348
  let v751 : BitVec 32 := Scalar.addi c30_i32_349 v750
  let c6_i32_350 : BitVec 32 := 6#32
  let v752 : BitVec 32 := Scalar.remsi v751 c6_i32_350
  let c0_i32_368 : BitVec 32 := 0#32
  let c0_i32_369 : BitVec 32 := 0#32
  ![v752.toNat, 0, 0]
def k0_off7 (k0_t1 : Fin k0_t1_loop.trips) : Fin 2 → Nat :=
  let c0_i32_370 : BitVec 32 := 0#32
  let c2_i32_346 : BitVec 32 := 2#32
  let c0_i32_125 : BitVec 32 := 0#32
  let c1_i32_126 : BitVec 32 := 1#32
  let arg8 : BitVec 32 := Scf.iv c0_i32_125 c1_i32_126 k0_t1
  let v748 : BitVec 32 := Scalar.muli c2_i32_346 arg8
  let c1_i32_347 : BitVec 32 := 1#32
  let v749 : BitVec 32 := Scalar.subi v748 c1_i32_347
  let c6_i32_348 : BitVec 32 := 6#32
  let v750 : BitVec 32 := Scalar.addi v749 c6_i32_348
  let c0_i32_354 : BitVec 32 := 0#32
  let v757 : BitVec 1 := Scalar.cmpi .sgt v750 c0_i32_354
  let v758 : BitVec 32 := Scalar.extui v757
  let c0_i32_355 : BitVec 32 := 0#32
  let v759 : BitVec 1 := Scalar.cmpi .slt v750 c0_i32_355
  let v760 : BitVec 32 := Scalar.extui v759
  let v761 : BitVec 32 := Scalar.subi v758 v760
  let c2_i32_353 : BitVec 32 := 2#32
  let c0_i32_356 : BitVec 32 := 0#32
  let v762 : BitVec 1 := Scalar.cmpi .sgt c2_i32_353 c0_i32_356
  let v763 : BitVec 32 := Scalar.extui v762
  let c0_i32_357 : BitVec 32 := 0#32
  let v764 : BitVec 1 := Scalar.cmpi .slt c2_i32_353 c0_i32_357
  let v765 : BitVec 32 := Scalar.extui v764
  let v766 : BitVec 32 := Scalar.subi v763 v765
  let v767 : BitVec 1 := Scalar.cmpi .ne v761 v766
  let v768 : BitVec 32 := Scalar.remsi v750 c2_i32_353
  let c0_i32_358 : BitVec 32 := 0#32
  let v769 : BitVec 1 := Scalar.cmpi .ne v768 c0_i32_358
  let v770 : BitVec 1 := Scalar.andi v767 v769
  let v756 : BitVec 32 := Scalar.divsi v750 c2_i32_353
  let c1_i32_359 : BitVec 32 := 1#32
  let v771 : BitVec 32 := Scalar.subi v756 c1_i32_359
  let v772 : BitVec 32 := Scalar.select v770 v771 v756
  let c512_i32_360 : BitVec 32 := 512#32
  let v773 : BitVec 32 := Scalar.muli v772 c512_i32_360
  let c2_i32_361 : BitVec 32 := 2#32
  let c0_i32_362 : BitVec 32 := 0#32
  let v774 : BitVec 1 := Scalar.cmpi .eq c2_i32_361 c0_i32_362
  let c1_i32_363 : BitVec 32 := 1#32
  let v775 : BitVec 32 := Scalar.select v774 c1_i32_363 c2_i32_361
  let v776 : BitVec 32 := Scalar.remsi v750 v775
  let c0_i32_365 : BitVec 32 := 0#32
  let v778 : BitVec 1 := Scalar.cmpi .slt v776 c0_i32_365
  let c0_i32_366 : BitVec 32 := 0#32
  let v779 : BitVec 1 := Scalar.cmpi .slt v775 c0_i32_366
  let v780 : BitVec 1 := Scalar.xori v778 v779
  let c0_i32_364 : BitVec 32 := 0#32
  let v777 : BitVec 1 := Scalar.cmpi .ne v776 c0_i32_364
  let v781 : BitVec 1 := Scalar.andi v780 v777
  let v782 : BitVec 32 := Scalar.addi v776 v775
  let v783 : BitVec 32 := Scalar.select v781 v782 v776
  let c22016_i32_367 : BitVec 32 := 22016#32
  let v784 : BitVec 32 := Scalar.muli v783 c22016_i32_367
  let v785 : BitVec 32 := Scalar.addi v773 v784
  let v786 : BitVec 32 := v785
  ![0, v786.toNat]
def k0_mult9 (k0_t1 : Fin k0_t1_loop.trips) : BitVec 32 :=
  let c2_i32_146 : BitVec 32 := 2#32
  let c0_i32_125 : BitVec 32 := 0#32
  let c1_i32_126 : BitVec 32 := 1#32
  let arg8 : BitVec 32 := Scf.iv c0_i32_125 c1_i32_126 k0_t1
  let v241 : BitVec 32 := Scalar.muli c2_i32_146 arg8
  let c0_i32_148 : BitVec 32 := 0#32
  let v243 : BitVec 1 := Scalar.cmpi .sgt v241 c0_i32_148
  let v244 : BitVec 32 := Scalar.extui v243
  let c0_i32_149 : BitVec 32 := 0#32
  let v245 : BitVec 1 := Scalar.cmpi .slt v241 c0_i32_149
  let v246 : BitVec 32 := Scalar.extui v245
  let v247 : BitVec 32 := Scalar.subi v244 v246
  let c2_i32_147 : BitVec 32 := 2#32
  let c0_i32_150 : BitVec 32 := 0#32
  let v248 : BitVec 1 := Scalar.cmpi .sgt c2_i32_147 c0_i32_150
  let v249 : BitVec 32 := Scalar.extui v248
  let c0_i32_151 : BitVec 32 := 0#32
  let v250 : BitVec 1 := Scalar.cmpi .slt c2_i32_147 c0_i32_151
  let v251 : BitVec 32 := Scalar.extui v250
  let v252 : BitVec 32 := Scalar.subi v249 v251
  let v253 : BitVec 1 := Scalar.cmpi .ne v247 v252
  let v254 : BitVec 32 := Scalar.remsi v241 c2_i32_147
  let c0_i32_152 : BitVec 32 := 0#32
  let v255 : BitVec 1 := Scalar.cmpi .ne v254 c0_i32_152
  let v256 : BitVec 1 := Scalar.andi v253 v255
  let v242 : BitVec 32 := Scalar.divsi v241 c2_i32_147
  let c1_i32_153 : BitVec 32 := 1#32
  let v257 : BitVec 32 := Scalar.subi v242 c1_i32_153
  let v258 : BitVec 32 := Scalar.select v256 v257 v242
  let c512_i32_154 : BitVec 32 := 512#32
  let v259 : BitVec 32 := Scalar.muli v258 c512_i32_154
  let c2_i32_155 : BitVec 32 := 2#32
  let c0_i32_156 : BitVec 32 := 0#32
  let v260 : BitVec 1 := Scalar.cmpi .eq c2_i32_155 c0_i32_156
  let c1_i32_157 : BitVec 32 := 1#32
  let v261 : BitVec 32 := Scalar.select v260 c1_i32_157 c2_i32_155
  let v262 : BitVec 32 := Scalar.remsi v241 v261
  let c0_i32_159 : BitVec 32 := 0#32
  let v264 : BitVec 1 := Scalar.cmpi .slt v262 c0_i32_159
  let c0_i32_160 : BitVec 32 := 0#32
  let v265 : BitVec 1 := Scalar.cmpi .slt v261 c0_i32_160
  let v266 : BitVec 1 := Scalar.xori v264 v265
  let c0_i32_158 : BitVec 32 := 0#32
  let v263 : BitVec 1 := Scalar.cmpi .ne v262 c0_i32_158
  let v267 : BitVec 1 := Scalar.andi v266 v263
  let v268 : BitVec 32 := Scalar.addi v262 v261
  let v269 : BitVec 32 := Scalar.select v267 v268 v262
  let c22016_i32_161 : BitVec 32 := 22016#32
  let v270 : BitVec 32 := Scalar.muli v269 c22016_i32_161
  let v271 : BitVec 32 := Scalar.addi v259 v270
  v271
def k0_off8 (k0_t1 : Fin k0_t1_loop.trips) : Fin 1 → Nat :=
  let c30_i32_140 : BitVec 32 := 30#32
  let c2_i32_139 : BitVec 32 := 2#32
  let c0_i32_125 : BitVec 32 := 0#32
  let c1_i32_126 : BitVec 32 := 1#32
  let arg8 : BitVec 32 := Scf.iv c0_i32_125 c1_i32_126 k0_t1
  let v234 : BitVec 32 := Scalar.muli c2_i32_139 arg8
  let v235 : BitVec 32 := Scalar.addi c30_i32_140 v234
  let c6_i32_141 : BitVec 32 := 6#32
  let v236 : BitVec 32 := Scalar.remsi v235 c6_i32_141
  ![v236.toNat]
def k0_off9 (k0_t1 : Fin k0_t1_loop.trips) : Fin 3 → Nat :=
  let c30_i32_140 : BitVec 32 := 30#32
  let c2_i32_139 : BitVec 32 := 2#32
  let c0_i32_125 : BitVec 32 := 0#32
  let c1_i32_126 : BitVec 32 := 1#32
  let arg8 : BitVec 32 := Scf.iv c0_i32_125 c1_i32_126 k0_t1
  let v234 : BitVec 32 := Scalar.muli c2_i32_139 arg8
  let v235 : BitVec 32 := Scalar.addi c30_i32_140 v234
  let c6_i32_141 : BitVec 32 := 6#32
  let v236 : BitVec 32 := Scalar.remsi v235 c6_i32_141
  let c0_i32_162 : BitVec 32 := 0#32
  let c0_i32_163 : BitVec 32 := 0#32
  ![v236.toNat, 0, 0]
def k0_off10 (k0_t1 : Fin k0_t1_loop.trips) : Fin 2 → Nat :=
  let c0_i32_164 : BitVec 32 := 0#32
  let c2_i32_146 : BitVec 32 := 2#32
  let c0_i32_125 : BitVec 32 := 0#32
  let c1_i32_126 : BitVec 32 := 1#32
  let arg8 : BitVec 32 := Scf.iv c0_i32_125 c1_i32_126 k0_t1
  let v241 : BitVec 32 := Scalar.muli c2_i32_146 arg8
  let c0_i32_148 : BitVec 32 := 0#32
  let v243 : BitVec 1 := Scalar.cmpi .sgt v241 c0_i32_148
  let v244 : BitVec 32 := Scalar.extui v243
  let c0_i32_149 : BitVec 32 := 0#32
  let v245 : BitVec 1 := Scalar.cmpi .slt v241 c0_i32_149
  let v246 : BitVec 32 := Scalar.extui v245
  let v247 : BitVec 32 := Scalar.subi v244 v246
  let c2_i32_147 : BitVec 32 := 2#32
  let c0_i32_150 : BitVec 32 := 0#32
  let v248 : BitVec 1 := Scalar.cmpi .sgt c2_i32_147 c0_i32_150
  let v249 : BitVec 32 := Scalar.extui v248
  let c0_i32_151 : BitVec 32 := 0#32
  let v250 : BitVec 1 := Scalar.cmpi .slt c2_i32_147 c0_i32_151
  let v251 : BitVec 32 := Scalar.extui v250
  let v252 : BitVec 32 := Scalar.subi v249 v251
  let v253 : BitVec 1 := Scalar.cmpi .ne v247 v252
  let v254 : BitVec 32 := Scalar.remsi v241 c2_i32_147
  let c0_i32_152 : BitVec 32 := 0#32
  let v255 : BitVec 1 := Scalar.cmpi .ne v254 c0_i32_152
  let v256 : BitVec 1 := Scalar.andi v253 v255
  let v242 : BitVec 32 := Scalar.divsi v241 c2_i32_147
  let c1_i32_153 : BitVec 32 := 1#32
  let v257 : BitVec 32 := Scalar.subi v242 c1_i32_153
  let v258 : BitVec 32 := Scalar.select v256 v257 v242
  let c512_i32_154 : BitVec 32 := 512#32
  let v259 : BitVec 32 := Scalar.muli v258 c512_i32_154
  let c2_i32_155 : BitVec 32 := 2#32
  let c0_i32_156 : BitVec 32 := 0#32
  let v260 : BitVec 1 := Scalar.cmpi .eq c2_i32_155 c0_i32_156
  let c1_i32_157 : BitVec 32 := 1#32
  let v261 : BitVec 32 := Scalar.select v260 c1_i32_157 c2_i32_155
  let v262 : BitVec 32 := Scalar.remsi v241 v261
  let c0_i32_159 : BitVec 32 := 0#32
  let v264 : BitVec 1 := Scalar.cmpi .slt v262 c0_i32_159
  let c0_i32_160 : BitVec 32 := 0#32
  let v265 : BitVec 1 := Scalar.cmpi .slt v261 c0_i32_160
  let v266 : BitVec 1 := Scalar.xori v264 v265
  let c0_i32_158 : BitVec 32 := 0#32
  let v263 : BitVec 1 := Scalar.cmpi .ne v262 c0_i32_158
  let v267 : BitVec 1 := Scalar.andi v266 v263
  let v268 : BitVec 32 := Scalar.addi v262 v261
  let v269 : BitVec 32 := Scalar.select v267 v268 v262
  let c22016_i32_161 : BitVec 32 := 22016#32
  let v270 : BitVec 32 := Scalar.muli v269 c22016_i32_161
  let v271 : BitVec 32 := Scalar.addi v259 v270
  let v272 : BitVec 32 := v271
  ![0, v272.toNat]
def k0_mult10 (k0_t1 : Fin k0_t1_loop.trips) : BitVec 32 :=
  let c2_i32_165 : BitVec 32 := 2#32
  let c0_i32_125 : BitVec 32 := 0#32
  let c1_i32_126 : BitVec 32 := 1#32
  let arg8 : BitVec 32 := Scf.iv c0_i32_125 c1_i32_126 k0_t1
  let v278 : BitVec 32 := Scalar.muli c2_i32_165 arg8
  let c1_i32_166 : BitVec 32 := 1#32
  let v279 : BitVec 32 := Scalar.addi v278 c1_i32_166
  let c0_i32_168 : BitVec 32 := 0#32
  let v281 : BitVec 1 := Scalar.cmpi .sgt v279 c0_i32_168
  let v282 : BitVec 32 := Scalar.extui v281
  let c0_i32_169 : BitVec 32 := 0#32
  let v283 : BitVec 1 := Scalar.cmpi .slt v279 c0_i32_169
  let v284 : BitVec 32 := Scalar.extui v283
  let v285 : BitVec 32 := Scalar.subi v282 v284
  let c2_i32_167 : BitVec 32 := 2#32
  let c0_i32_170 : BitVec 32 := 0#32
  let v286 : BitVec 1 := Scalar.cmpi .sgt c2_i32_167 c0_i32_170
  let v287 : BitVec 32 := Scalar.extui v286
  let c0_i32_171 : BitVec 32 := 0#32
  let v288 : BitVec 1 := Scalar.cmpi .slt c2_i32_167 c0_i32_171
  let v289 : BitVec 32 := Scalar.extui v288
  let v290 : BitVec 32 := Scalar.subi v287 v289
  let v291 : BitVec 1 := Scalar.cmpi .ne v285 v290
  let v292 : BitVec 32 := Scalar.remsi v279 c2_i32_167
  let c0_i32_172 : BitVec 32 := 0#32
  let v293 : BitVec 1 := Scalar.cmpi .ne v292 c0_i32_172
  let v294 : BitVec 1 := Scalar.andi v291 v293
  let v280 : BitVec 32 := Scalar.divsi v279 c2_i32_167
  let c1_i32_173 : BitVec 32 := 1#32
  let v295 : BitVec 32 := Scalar.subi v280 c1_i32_173
  let v296 : BitVec 32 := Scalar.select v294 v295 v280
  let c512_i32_174 : BitVec 32 := 512#32
  let v297 : BitVec 32 := Scalar.muli v296 c512_i32_174
  let c2_i32_175 : BitVec 32 := 2#32
  let c0_i32_176 : BitVec 32 := 0#32
  let v298 : BitVec 1 := Scalar.cmpi .eq c2_i32_175 c0_i32_176
  let c1_i32_177 : BitVec 32 := 1#32
  let v299 : BitVec 32 := Scalar.select v298 c1_i32_177 c2_i32_175
  let v300 : BitVec 32 := Scalar.remsi v279 v299
  let c0_i32_179 : BitVec 32 := 0#32
  let v302 : BitVec 1 := Scalar.cmpi .slt v300 c0_i32_179
  let c0_i32_180 : BitVec 32 := 0#32
  let v303 : BitVec 1 := Scalar.cmpi .slt v299 c0_i32_180
  let v304 : BitVec 1 := Scalar.xori v302 v303
  let c0_i32_178 : BitVec 32 := 0#32
  let v301 : BitVec 1 := Scalar.cmpi .ne v300 c0_i32_178
  let v305 : BitVec 1 := Scalar.andi v304 v301
  let v306 : BitVec 32 := Scalar.addi v300 v299
  let v307 : BitVec 32 := Scalar.select v305 v306 v300
  let c22016_i32_181 : BitVec 32 := 22016#32
  let v308 : BitVec 32 := Scalar.muli v307 c22016_i32_181
  let v309 : BitVec 32 := Scalar.addi v297 v308
  v309
def k0_off11 (k0_t1 : Fin k0_t1_loop.trips) : Fin 1 → Nat :=
  let c30_i32_144 : BitVec 32 := 30#32
  let c2_i32_142 : BitVec 32 := 2#32
  let c0_i32_125 : BitVec 32 := 0#32
  let c1_i32_126 : BitVec 32 := 1#32
  let arg8 : BitVec 32 := Scf.iv c0_i32_125 c1_i32_126 k0_t1
  let v237 : BitVec 32 := Scalar.muli c2_i32_142 arg8
  let c1_i32_143 : BitVec 32 := 1#32
  let v238 : BitVec 32 := Scalar.addi v237 c1_i32_143
  let v239 : BitVec 32 := Scalar.addi c30_i32_144 v238
  let c6_i32_145 : BitVec 32 := 6#32
  let v240 : BitVec 32 := Scalar.remsi v239 c6_i32_145
  ![v240.toNat]
def k0_off12 (k0_t1 : Fin k0_t1_loop.trips) : Fin 3 → Nat :=
  let c30_i32_144 : BitVec 32 := 30#32
  let c2_i32_142 : BitVec 32 := 2#32
  let c0_i32_125 : BitVec 32 := 0#32
  let c1_i32_126 : BitVec 32 := 1#32
  let arg8 : BitVec 32 := Scf.iv c0_i32_125 c1_i32_126 k0_t1
  let v237 : BitVec 32 := Scalar.muli c2_i32_142 arg8
  let c1_i32_143 : BitVec 32 := 1#32
  let v238 : BitVec 32 := Scalar.addi v237 c1_i32_143
  let v239 : BitVec 32 := Scalar.addi c30_i32_144 v238
  let c6_i32_145 : BitVec 32 := 6#32
  let v240 : BitVec 32 := Scalar.remsi v239 c6_i32_145
  let c0_i32_182 : BitVec 32 := 0#32
  let c0_i32_183 : BitVec 32 := 0#32
  ![v240.toNat, 0, 0]
def k0_off13 (k0_t1 : Fin k0_t1_loop.trips) : Fin 2 → Nat :=
  let c0_i32_184 : BitVec 32 := 0#32
  let c2_i32_165 : BitVec 32 := 2#32
  let c0_i32_125 : BitVec 32 := 0#32
  let c1_i32_126 : BitVec 32 := 1#32
  let arg8 : BitVec 32 := Scf.iv c0_i32_125 c1_i32_126 k0_t1
  let v278 : BitVec 32 := Scalar.muli c2_i32_165 arg8
  let c1_i32_166 : BitVec 32 := 1#32
  let v279 : BitVec 32 := Scalar.addi v278 c1_i32_166
  let c0_i32_168 : BitVec 32 := 0#32
  let v281 : BitVec 1 := Scalar.cmpi .sgt v279 c0_i32_168
  let v282 : BitVec 32 := Scalar.extui v281
  let c0_i32_169 : BitVec 32 := 0#32
  let v283 : BitVec 1 := Scalar.cmpi .slt v279 c0_i32_169
  let v284 : BitVec 32 := Scalar.extui v283
  let v285 : BitVec 32 := Scalar.subi v282 v284
  let c2_i32_167 : BitVec 32 := 2#32
  let c0_i32_170 : BitVec 32 := 0#32
  let v286 : BitVec 1 := Scalar.cmpi .sgt c2_i32_167 c0_i32_170
  let v287 : BitVec 32 := Scalar.extui v286
  let c0_i32_171 : BitVec 32 := 0#32
  let v288 : BitVec 1 := Scalar.cmpi .slt c2_i32_167 c0_i32_171
  let v289 : BitVec 32 := Scalar.extui v288
  let v290 : BitVec 32 := Scalar.subi v287 v289
  let v291 : BitVec 1 := Scalar.cmpi .ne v285 v290
  let v292 : BitVec 32 := Scalar.remsi v279 c2_i32_167
  let c0_i32_172 : BitVec 32 := 0#32
  let v293 : BitVec 1 := Scalar.cmpi .ne v292 c0_i32_172
  let v294 : BitVec 1 := Scalar.andi v291 v293
  let v280 : BitVec 32 := Scalar.divsi v279 c2_i32_167
  let c1_i32_173 : BitVec 32 := 1#32
  let v295 : BitVec 32 := Scalar.subi v280 c1_i32_173
  let v296 : BitVec 32 := Scalar.select v294 v295 v280
  let c512_i32_174 : BitVec 32 := 512#32
  let v297 : BitVec 32 := Scalar.muli v296 c512_i32_174
  let c2_i32_175 : BitVec 32 := 2#32
  let c0_i32_176 : BitVec 32 := 0#32
  let v298 : BitVec 1 := Scalar.cmpi .eq c2_i32_175 c0_i32_176
  let c1_i32_177 : BitVec 32 := 1#32
  let v299 : BitVec 32 := Scalar.select v298 c1_i32_177 c2_i32_175
  let v300 : BitVec 32 := Scalar.remsi v279 v299
  let c0_i32_179 : BitVec 32 := 0#32
  let v302 : BitVec 1 := Scalar.cmpi .slt v300 c0_i32_179
  let c0_i32_180 : BitVec 32 := 0#32
  let v303 : BitVec 1 := Scalar.cmpi .slt v299 c0_i32_180
  let v304 : BitVec 1 := Scalar.xori v302 v303
  let c0_i32_178 : BitVec 32 := 0#32
  let v301 : BitVec 1 := Scalar.cmpi .ne v300 c0_i32_178
  let v305 : BitVec 1 := Scalar.andi v304 v301
  let v306 : BitVec 32 := Scalar.addi v300 v299
  let v307 : BitVec 32 := Scalar.select v305 v306 v300
  let c22016_i32_181 : BitVec 32 := 22016#32
  let v308 : BitVec 32 := Scalar.muli v307 c22016_i32_181
  let v309 : BitVec 32 := Scalar.addi v297 v308
  let v310 : BitVec 32 := v309
  ![0, v310.toNat]
def k0_off14 (k0_t1 : Fin k0_t1_loop.trips) : Fin 3 → Nat :=
  let c30_i32_140 : BitVec 32 := 30#32
  let c2_i32_139 : BitVec 32 := 2#32
  let c0_i32_125 : BitVec 32 := 0#32
  let c1_i32_126 : BitVec 32 := 1#32
  let arg8 : BitVec 32 := Scf.iv c0_i32_125 c1_i32_126 k0_t1
  let v234 : BitVec 32 := Scalar.muli c2_i32_139 arg8
  let v235 : BitVec 32 := Scalar.addi c30_i32_140 v234
  let c6_i32_141 : BitVec 32 := 6#32
  let v236 : BitVec 32 := Scalar.remsi v235 c6_i32_141
  let v317 : Index := Scalar.indexCast v236
  let c0_187 : Index := 0#32
  let c0_188 : Index := 0#32
  ![v317.toNat, 0, 0]
def k0_off15 (k0_t1 : Fin k0_t1_loop.trips) : Fin 3 → Nat :=
  let c30_i32_144 : BitVec 32 := 30#32
  let c2_i32_142 : BitVec 32 := 2#32
  let c0_i32_125 : BitVec 32 := 0#32
  let c1_i32_126 : BitVec 32 := 1#32
  let arg8 : BitVec 32 := Scf.iv c0_i32_125 c1_i32_126 k0_t1
  let v237 : BitVec 32 := Scalar.muli c2_i32_142 arg8
  let c1_i32_143 : BitVec 32 := 1#32
  let v238 : BitVec 32 := Scalar.addi v237 c1_i32_143
  let v239 : BitVec 32 := Scalar.addi c30_i32_144 v238
  let c6_i32_145 : BitVec 32 := 6#32
  let v240 : BitVec 32 := Scalar.remsi v239 c6_i32_145
  let v322 : Index := Scalar.indexCast v240
  let c0_192 : Index := 0#32
  let c0_193 : Index := 0#32
  ![v322.toNat, 0, 0]
def k0_off16 (k0_t1 : Fin k0_t1_loop.trips) (c0_i32_200 : BitVec 32) : Fin 2 → Nat :=
  let c0_i32_125 : BitVec 32 := 0#32
  let c1_i32_126 : BitVec 32 := 1#32
  let arg8 : BitVec 32 := Scf.iv c0_i32_125 c1_i32_126 k0_t1
  let c4_i32_199 : BitVec 32 := 4#32
  let v329 : BitVec 32 := Scalar.muli arg8 c4_i32_199
  let v330 : BitVec 32 := Scalar.addi v329 c0_i32_200
  let v333 : Index := Scalar.indexCast v330
  let c0_201 : Index := 0#32
  ![v333.toNat, 0]
def k0_off17 (k0_t1 : Fin k0_t1_loop.trips) (c0_i32_200 : BitVec 32) : Fin 2 → Nat :=
  let c172_i32 : BitVec 32 := 172#32
  let c0_i32_125 : BitVec 32 := 0#32
  let c1_i32_126 : BitVec 32 := 1#32
  let arg8 : BitVec 32 := Scf.iv c0_i32_125 c1_i32_126 k0_t1
  let c4_i32_199 : BitVec 32 := 4#32
  let v329 : BitVec 32 := Scalar.muli arg8 c4_i32_199
  let v330 : BitVec 32 := Scalar.addi v329 c0_i32_200
  let v340 : BitVec 32 := Scalar.addi c172_i32 v330
  let v341 : Index := Scalar.indexCast v340
  let c0_202 : Index := 0#32
  ![v341.toNat, 0]
def k0_mult11 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_199 : BitVec 32 := 4#32
  let v329 : BitVec 32 := Scalar.muli arg8 c4_i32_199
  let c0_i32_200 : BitVec 32 := 0#32
  let v330 : BitVec 32 := Scalar.addi v329 c0_i32_200
  let c192_i32 : BitVec 32 := 192#32
  let v355 : BitVec 32 := Scalar.muli v330 c192_i32
  let c0_i32_206 : BitVec 32 := 0#32
  let v356 : BitVec 32 := Scalar.addi v355 c0_i32_206
  v356
def k0_off18 (k0_t1 : Fin k0_t1_loop.trips) (c0_i32_200 : BitVec 32) (c0_i32_206 : BitVec 32) : Fin 2 → Nat :=
  let c0_i32_125 : BitVec 32 := 0#32
  let c1_i32_126 : BitVec 32 := 1#32
  let arg8 : BitVec 32 := Scf.iv c0_i32_125 c1_i32_126 k0_t1
  let c4_i32_199 : BitVec 32 := 4#32
  let v329 : BitVec 32 := Scalar.muli arg8 c4_i32_199
  let v330 : BitVec 32 := Scalar.addi v329 c0_i32_200
  let c192_i32 : BitVec 32 := 192#32
  let v355 : BitVec 32 := Scalar.muli v330 c192_i32
  let v356 : BitVec 32 := Scalar.addi v355 c0_i32_206
  let v357 : BitVec 32 := v356
  let v358 : Index := Scalar.indexCast v357
  let c0_207 : Index := 0#32
  ![v358.toNat, 0]
def k0_mult12 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_208 : BitVec 32 := 4#32
  let v362 : BitVec 32 := Scalar.muli arg8 c4_i32_208
  let c1_i32_209 : BitVec 32 := 1#32
  let v363 : BitVec 32 := Scalar.addi v362 c1_i32_209
  let c192_i32_216 : BitVec 32 := 192#32
  let v388 : BitVec 32 := Scalar.muli v363 c192_i32_216
  let c0_i32_217 : BitVec 32 := 0#32
  let v389 : BitVec 32 := Scalar.addi v388 c0_i32_217
  v389
def k0_mult13 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_219 : BitVec 32 := 4#32
  let v395 : BitVec 32 := Scalar.muli arg8 c4_i32_219
  let c2_i32_220 : BitVec 32 := 2#32
  let v396 : BitVec 32 := Scalar.addi v395 c2_i32_220
  let c192_i32_227 : BitVec 32 := 192#32
  let v421 : BitVec 32 := Scalar.muli v396 c192_i32_227
  let c0_i32_228 : BitVec 32 := 0#32
  let v422 : BitVec 32 := Scalar.addi v421 c0_i32_228
  v422
def k0_mult14 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_230 : BitVec 32 := 4#32
  let v428 : BitVec 32 := Scalar.muli arg8 c4_i32_230
  let c3_i32_231 : BitVec 32 := 3#32
  let v429 : BitVec 32 := Scalar.addi v428 c3_i32_231
  let c192_i32_238 : BitVec 32 := 192#32
  let v454 : BitVec 32 := Scalar.muli v429 c192_i32_238
  let c0_i32_239 : BitVec 32 := 0#32
  let v455 : BitVec 32 := Scalar.addi v454 c0_i32_239
  v455
def k0_mult15 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_246 : BitVec 32 := 4#32
  let v467 : BitVec 32 := Scalar.muli arg8 c4_i32_246
  let c0_i32_247 : BitVec 32 := 0#32
  let v468 : BitVec 32 := Scalar.addi v467 c0_i32_247
  let c192_i32_254 : BitVec 32 := 192#32
  let v493 : BitVec 32 := Scalar.muli v468 c192_i32_254
  let c64_i32 : BitVec 32 := 64#32
  let v494 : BitVec 32 := Scalar.addi v493 c64_i32
  v494
def k0_mult16 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_256 : BitVec 32 := 4#32
  let v500 : BitVec 32 := Scalar.muli arg8 c4_i32_256
  let c1_i32_257 : BitVec 32 := 1#32
  let v501 : BitVec 32 := Scalar.addi v500 c1_i32_257
  let c192_i32_264 : BitVec 32 := 192#32
  let v526 : BitVec 32 := Scalar.muli v501 c192_i32_264
  let c64_i32_265 : BitVec 32 := 64#32
  let v527 : BitVec 32 := Scalar.addi v526 c64_i32_265
  v527
def k0_mult17 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_267 : BitVec 32 := 4#32
  let v533 : BitVec 32 := Scalar.muli arg8 c4_i32_267
  let c2_i32_268 : BitVec 32 := 2#32
  let v534 : BitVec 32 := Scalar.addi v533 c2_i32_268
  let c192_i32_275 : BitVec 32 := 192#32
  let v559 : BitVec 32 := Scalar.muli v534 c192_i32_275
  let c64_i32_276 : BitVec 32 := 64#32
  let v560 : BitVec 32 := Scalar.addi v559 c64_i32_276
  v560
def k0_mult18 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_278 : BitVec 32 := 4#32
  let v566 : BitVec 32 := Scalar.muli arg8 c4_i32_278
  let c3_i32_279 : BitVec 32 := 3#32
  let v567 : BitVec 32 := Scalar.addi v566 c3_i32_279
  let c192_i32_286 : BitVec 32 := 192#32
  let v592 : BitVec 32 := Scalar.muli v567 c192_i32_286
  let c64_i32_287 : BitVec 32 := 64#32
  let v593 : BitVec 32 := Scalar.addi v592 c64_i32_287
  v593
def k0_mult19 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_294 : BitVec 32 := 4#32
  let v605 : BitVec 32 := Scalar.muli arg8 c4_i32_294
  let c0_i32_295 : BitVec 32 := 0#32
  let v606 : BitVec 32 := Scalar.addi v605 c0_i32_295
  let c192_i32_302 : BitVec 32 := 192#32
  let v631 : BitVec 32 := Scalar.muli v606 c192_i32_302
  let c128_i32 : BitVec 32 := 128#32
  let v632 : BitVec 32 := Scalar.addi v631 c128_i32
  v632
def k0_mult20 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_304 : BitVec 32 := 4#32
  let v638 : BitVec 32 := Scalar.muli arg8 c4_i32_304
  let c1_i32_305 : BitVec 32 := 1#32
  let v639 : BitVec 32 := Scalar.addi v638 c1_i32_305
  let c192_i32_312 : BitVec 32 := 192#32
  let v664 : BitVec 32 := Scalar.muli v639 c192_i32_312
  let c128_i32_313 : BitVec 32 := 128#32
  let v665 : BitVec 32 := Scalar.addi v664 c128_i32_313
  v665
def k0_mult21 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_315 : BitVec 32 := 4#32
  let v671 : BitVec 32 := Scalar.muli arg8 c4_i32_315
  let c2_i32_316 : BitVec 32 := 2#32
  let v672 : BitVec 32 := Scalar.addi v671 c2_i32_316
  let c192_i32_323 : BitVec 32 := 192#32
  let v697 : BitVec 32 := Scalar.muli v672 c192_i32_323
  let c128_i32_324 : BitVec 32 := 128#32
  let v698 : BitVec 32 := Scalar.addi v697 c128_i32_324
  v698
def k0_mult22 (k0_t1 : Fin k0_t1_loop.trips) : BitVec 32 :=
  let c0_i32_125 : BitVec 32 := 0#32
  let c1_i32_126 : BitVec 32 := 1#32
  let arg8 : BitVec 32 := Scf.iv c0_i32_125 c1_i32_126 k0_t1
  let c4_i32_326 : BitVec 32 := 4#32
  let v704 : BitVec 32 := Scalar.muli arg8 c4_i32_326
  let c3_i32_327 : BitVec 32 := 3#32
  let v705 : BitVec 32 := Scalar.addi v704 c3_i32_327
  let c192_i32_334 : BitVec 32 := 192#32
  let v730 : BitVec 32 := Scalar.muli v705 c192_i32_334
  let c128_i32_335 : BitVec 32 := 128#32
  let v731 : BitVec 32 := Scalar.addi v730 c128_i32_335
  v731
def k0_cond4 : BitVec 1 :=
  let c90_i32_128 : BitVec 32 := 90#32
  let c86_i32 : BitVec 32 := 86#32
  let v223 : BitVec 1 := Scalar.cmpi .slt c90_i32_128 c86_i32
  let v224 : BitVec 32 := Scalar.extui v223
  let c0_i32_130 : BitVec 32 := 0#32
  let v225 : BitVec 1 := Scalar.cmpi .ne v224 c0_i32_130
  v225

def k0_mult23 : BitVec 32 :=
  let c90_i32_129 : BitVec 32 := 90#32
  let c0_i32_138 : BitVec 32 := 0#32
  let v232 : BitVec 1 := Scalar.cmpi .sgt c90_i32_129 c0_i32_138
  let v233 : BitVec 32 := Scalar.extui v232
  let c0_i32_139 : BitVec 32 := 0#32
  let v234 : BitVec 1 := Scalar.cmpi .slt c90_i32_129 c0_i32_139
  let v235 : BitVec 32 := Scalar.extui v234
  let v236 : BitVec 32 := Scalar.subi v233 v235
  let c2_i32_137 : BitVec 32 := 2#32
  let c0_i32_140 : BitVec 32 := 0#32
  let v237 : BitVec 1 := Scalar.cmpi .sgt c2_i32_137 c0_i32_140
  let v238 : BitVec 32 := Scalar.extui v237
  let c0_i32_141 : BitVec 32 := 0#32
  let v239 : BitVec 1 := Scalar.cmpi .slt c2_i32_137 c0_i32_141
  let v240 : BitVec 32 := Scalar.extui v239
  let v241 : BitVec 32 := Scalar.subi v238 v240
  let v242 : BitVec 1 := Scalar.cmpi .ne v236 v241
  let v243 : BitVec 32 := Scalar.remsi c90_i32_129 c2_i32_137
  let c0_i32_142 : BitVec 32 := 0#32
  let v244 : BitVec 1 := Scalar.cmpi .ne v243 c0_i32_142
  let v245 : BitVec 1 := Scalar.andi v242 v244
  let v231 : BitVec 32 := Scalar.divsi c90_i32_129 c2_i32_137
  let c1_i32_143 : BitVec 32 := 1#32
  let v246 : BitVec 32 := Scalar.subi v231 c1_i32_143
  let v247 : BitVec 32 := Scalar.select v245 v246 v231
  let c512_i32_144 : BitVec 32 := 512#32
  let v248 : BitVec 32 := Scalar.muli v247 c512_i32_144
  let c2_i32_145 : BitVec 32 := 2#32
  let c0_i32_146 : BitVec 32 := 0#32
  let v249 : BitVec 1 := Scalar.cmpi .eq c2_i32_145 c0_i32_146
  let c1_i32_147 : BitVec 32 := 1#32
  let v250 : BitVec 32 := Scalar.select v249 c1_i32_147 c2_i32_145
  let v251 : BitVec 32 := Scalar.remsi c90_i32_129 v250
  let c0_i32_149 : BitVec 32 := 0#32
  let v253 : BitVec 1 := Scalar.cmpi .slt v251 c0_i32_149
  let c0_i32_150 : BitVec 32 := 0#32
  let v254 : BitVec 1 := Scalar.cmpi .slt v250 c0_i32_150
  let v255 : BitVec 1 := Scalar.xori v253 v254
  let c0_i32_148 : BitVec 32 := 0#32
  let v252 : BitVec 1 := Scalar.cmpi .ne v251 c0_i32_148
  let v256 : BitVec 1 := Scalar.andi v255 v252
  let v257 : BitVec 32 := Scalar.addi v251 v250
  let v258 : BitVec 32 := Scalar.select v256 v257 v251
  let c22016_i32_151 : BitVec 32 := 22016#32
  let v259 : BitVec 32 := Scalar.muli v258 c22016_i32_151
  let v260 : BitVec 32 := Scalar.addi v248 v259
  v260
def k0_off19 : Fin 1 → Nat :=
  let c30_i32 : BitVec 32 := 30#32
  let c90_i32 : BitVec 32 := 90#32
  let v221 : BitVec 32 := Scalar.addi c30_i32 c90_i32
  let c6_i32 : BitVec 32 := 6#32
  let v222 : BitVec 32 := Scalar.remsi v221 c6_i32
  ![v222.toNat]
def k0_off20 : Fin 3 → Nat :=
  let c30_i32 : BitVec 32 := 30#32
  let c90_i32 : BitVec 32 := 90#32
  let v221 : BitVec 32 := Scalar.addi c30_i32 c90_i32
  let c6_i32 : BitVec 32 := 6#32
  let v222 : BitVec 32 := Scalar.remsi v221 c6_i32
  let c0_i32_152 : BitVec 32 := 0#32
  let c0_i32_153 : BitVec 32 := 0#32
  ![v222.toNat, 0, 0]
def k0_off21 : Fin 2 → Nat :=
  let c0_i32_154 : BitVec 32 := 0#32
  let c90_i32_129 : BitVec 32 := 90#32
  let c0_i32_138 : BitVec 32 := 0#32
  let v232 : BitVec 1 := Scalar.cmpi .sgt c90_i32_129 c0_i32_138
  let v233 : BitVec 32 := Scalar.extui v232
  let c0_i32_139 : BitVec 32 := 0#32
  let v234 : BitVec 1 := Scalar.cmpi .slt c90_i32_129 c0_i32_139
  let v235 : BitVec 32 := Scalar.extui v234
  let v236 : BitVec 32 := Scalar.subi v233 v235
  let c2_i32_137 : BitVec 32 := 2#32
  let c0_i32_140 : BitVec 32 := 0#32
  let v237 : BitVec 1 := Scalar.cmpi .sgt c2_i32_137 c0_i32_140
  let v238 : BitVec 32 := Scalar.extui v237
  let c0_i32_141 : BitVec 32 := 0#32
  let v239 : BitVec 1 := Scalar.cmpi .slt c2_i32_137 c0_i32_141
  let v240 : BitVec 32 := Scalar.extui v239
  let v241 : BitVec 32 := Scalar.subi v238 v240
  let v242 : BitVec 1 := Scalar.cmpi .ne v236 v241
  let v243 : BitVec 32 := Scalar.remsi c90_i32_129 c2_i32_137
  let c0_i32_142 : BitVec 32 := 0#32
  let v244 : BitVec 1 := Scalar.cmpi .ne v243 c0_i32_142
  let v245 : BitVec 1 := Scalar.andi v242 v244
  let v231 : BitVec 32 := Scalar.divsi c90_i32_129 c2_i32_137
  let c1_i32_143 : BitVec 32 := 1#32
  let v246 : BitVec 32 := Scalar.subi v231 c1_i32_143
  let v247 : BitVec 32 := Scalar.select v245 v246 v231
  let c512_i32_144 : BitVec 32 := 512#32
  let v248 : BitVec 32 := Scalar.muli v247 c512_i32_144
  let c2_i32_145 : BitVec 32 := 2#32
  let c0_i32_146 : BitVec 32 := 0#32
  let v249 : BitVec 1 := Scalar.cmpi .eq c2_i32_145 c0_i32_146
  let c1_i32_147 : BitVec 32 := 1#32
  let v250 : BitVec 32 := Scalar.select v249 c1_i32_147 c2_i32_145
  let v251 : BitVec 32 := Scalar.remsi c90_i32_129 v250
  let c0_i32_149 : BitVec 32 := 0#32
  let v253 : BitVec 1 := Scalar.cmpi .slt v251 c0_i32_149
  let c0_i32_150 : BitVec 32 := 0#32
  let v254 : BitVec 1 := Scalar.cmpi .slt v250 c0_i32_150
  let v255 : BitVec 1 := Scalar.xori v253 v254
  let c0_i32_148 : BitVec 32 := 0#32
  let v252 : BitVec 1 := Scalar.cmpi .ne v251 c0_i32_148
  let v256 : BitVec 1 := Scalar.andi v255 v252
  let v257 : BitVec 32 := Scalar.addi v251 v250
  let v258 : BitVec 32 := Scalar.select v256 v257 v251
  let c22016_i32_151 : BitVec 32 := 22016#32
  let v259 : BitVec 32 := Scalar.muli v258 c22016_i32_151
  let v260 : BitVec 32 := Scalar.addi v248 v259
  let v261 : BitVec 32 := v260
  ![0, v261.toNat]
def k0_cond5 : BitVec 1 :=
  let c91_i32_133 : BitVec 32 := 91#32
  let c86_i32_134 : BitVec 32 := 86#32
  let v228 : BitVec 1 := Scalar.cmpi .slt c91_i32_133 c86_i32_134
  let v229 : BitVec 32 := Scalar.extui v228
  let c0_i32_136 : BitVec 32 := 0#32
  let v230 : BitVec 1 := Scalar.cmpi .ne v229 c0_i32_136
  v230

def k0_mult24 : BitVec 32 :=
  let c91_i32_135 : BitVec 32 := 91#32
  let c0_i32_138 : BitVec 32 := 0#32
  let v232 : BitVec 1 := Scalar.cmpi .sgt c91_i32_135 c0_i32_138
  let v233 : BitVec 32 := Scalar.extui v232
  let c0_i32_139 : BitVec 32 := 0#32
  let v234 : BitVec 1 := Scalar.cmpi .slt c91_i32_135 c0_i32_139
  let v235 : BitVec 32 := Scalar.extui v234
  let v236 : BitVec 32 := Scalar.subi v233 v235
  let c2_i32_137 : BitVec 32 := 2#32
  let c0_i32_140 : BitVec 32 := 0#32
  let v237 : BitVec 1 := Scalar.cmpi .sgt c2_i32_137 c0_i32_140
  let v238 : BitVec 32 := Scalar.extui v237
  let c0_i32_141 : BitVec 32 := 0#32
  let v239 : BitVec 1 := Scalar.cmpi .slt c2_i32_137 c0_i32_141
  let v240 : BitVec 32 := Scalar.extui v239
  let v241 : BitVec 32 := Scalar.subi v238 v240
  let v242 : BitVec 1 := Scalar.cmpi .ne v236 v241
  let v243 : BitVec 32 := Scalar.remsi c91_i32_135 c2_i32_137
  let c0_i32_142 : BitVec 32 := 0#32
  let v244 : BitVec 1 := Scalar.cmpi .ne v243 c0_i32_142
  let v245 : BitVec 1 := Scalar.andi v242 v244
  let v231 : BitVec 32 := Scalar.divsi c91_i32_135 c2_i32_137
  let c1_i32_143 : BitVec 32 := 1#32
  let v246 : BitVec 32 := Scalar.subi v231 c1_i32_143
  let v247 : BitVec 32 := Scalar.select v245 v246 v231
  let c512_i32_144 : BitVec 32 := 512#32
  let v248 : BitVec 32 := Scalar.muli v247 c512_i32_144
  let c2_i32_145 : BitVec 32 := 2#32
  let c0_i32_146 : BitVec 32 := 0#32
  let v249 : BitVec 1 := Scalar.cmpi .eq c2_i32_145 c0_i32_146
  let c1_i32_147 : BitVec 32 := 1#32
  let v250 : BitVec 32 := Scalar.select v249 c1_i32_147 c2_i32_145
  let v251 : BitVec 32 := Scalar.remsi c91_i32_135 v250
  let c0_i32_149 : BitVec 32 := 0#32
  let v253 : BitVec 1 := Scalar.cmpi .slt v251 c0_i32_149
  let c0_i32_150 : BitVec 32 := 0#32
  let v254 : BitVec 1 := Scalar.cmpi .slt v250 c0_i32_150
  let v255 : BitVec 1 := Scalar.xori v253 v254
  let c0_i32_148 : BitVec 32 := 0#32
  let v252 : BitVec 1 := Scalar.cmpi .ne v251 c0_i32_148
  let v256 : BitVec 1 := Scalar.andi v255 v252
  let v257 : BitVec 32 := Scalar.addi v251 v250
  let v258 : BitVec 32 := Scalar.select v256 v257 v251
  let c22016_i32_151 : BitVec 32 := 22016#32
  let v259 : BitVec 32 := Scalar.muli v258 c22016_i32_151
  let v260 : BitVec 32 := Scalar.addi v248 v259
  v260
def k0_off22 : Fin 1 → Nat :=
  let c30_i32_131 : BitVec 32 := 30#32
  let c91_i32 : BitVec 32 := 91#32
  let v226 : BitVec 32 := Scalar.addi c30_i32_131 c91_i32
  let c6_i32_132 : BitVec 32 := 6#32
  let v227 : BitVec 32 := Scalar.remsi v226 c6_i32_132
  ![v227.toNat]
def k0_off23 : Fin 3 → Nat :=
  let c30_i32_131 : BitVec 32 := 30#32
  let c91_i32 : BitVec 32 := 91#32
  let v226 : BitVec 32 := Scalar.addi c30_i32_131 c91_i32
  let c6_i32_132 : BitVec 32 := 6#32
  let v227 : BitVec 32 := Scalar.remsi v226 c6_i32_132
  let c0_i32_152 : BitVec 32 := 0#32
  let c0_i32_153 : BitVec 32 := 0#32
  ![v227.toNat, 0, 0]
def k0_off24 : Fin 2 → Nat :=
  let c0_i32_154 : BitVec 32 := 0#32
  let c91_i32_135 : BitVec 32 := 91#32
  let c0_i32_138 : BitVec 32 := 0#32
  let v232 : BitVec 1 := Scalar.cmpi .sgt c91_i32_135 c0_i32_138
  let v233 : BitVec 32 := Scalar.extui v232
  let c0_i32_139 : BitVec 32 := 0#32
  let v234 : BitVec 1 := Scalar.cmpi .slt c91_i32_135 c0_i32_139
  let v235 : BitVec 32 := Scalar.extui v234
  let v236 : BitVec 32 := Scalar.subi v233 v235
  let c2_i32_137 : BitVec 32 := 2#32
  let c0_i32_140 : BitVec 32 := 0#32
  let v237 : BitVec 1 := Scalar.cmpi .sgt c2_i32_137 c0_i32_140
  let v238 : BitVec 32 := Scalar.extui v237
  let c0_i32_141 : BitVec 32 := 0#32
  let v239 : BitVec 1 := Scalar.cmpi .slt c2_i32_137 c0_i32_141
  let v240 : BitVec 32 := Scalar.extui v239
  let v241 : BitVec 32 := Scalar.subi v238 v240
  let v242 : BitVec 1 := Scalar.cmpi .ne v236 v241
  let v243 : BitVec 32 := Scalar.remsi c91_i32_135 c2_i32_137
  let c0_i32_142 : BitVec 32 := 0#32
  let v244 : BitVec 1 := Scalar.cmpi .ne v243 c0_i32_142
  let v245 : BitVec 1 := Scalar.andi v242 v244
  let v231 : BitVec 32 := Scalar.divsi c91_i32_135 c2_i32_137
  let c1_i32_143 : BitVec 32 := 1#32
  let v246 : BitVec 32 := Scalar.subi v231 c1_i32_143
  let v247 : BitVec 32 := Scalar.select v245 v246 v231
  let c512_i32_144 : BitVec 32 := 512#32
  let v248 : BitVec 32 := Scalar.muli v247 c512_i32_144
  let c2_i32_145 : BitVec 32 := 2#32
  let c0_i32_146 : BitVec 32 := 0#32
  let v249 : BitVec 1 := Scalar.cmpi .eq c2_i32_145 c0_i32_146
  let c1_i32_147 : BitVec 32 := 1#32
  let v250 : BitVec 32 := Scalar.select v249 c1_i32_147 c2_i32_145
  let v251 : BitVec 32 := Scalar.remsi c91_i32_135 v250
  let c0_i32_149 : BitVec 32 := 0#32
  let v253 : BitVec 1 := Scalar.cmpi .slt v251 c0_i32_149
  let c0_i32_150 : BitVec 32 := 0#32
  let v254 : BitVec 1 := Scalar.cmpi .slt v250 c0_i32_150
  let v255 : BitVec 1 := Scalar.xori v253 v254
  let c0_i32_148 : BitVec 32 := 0#32
  let v252 : BitVec 1 := Scalar.cmpi .ne v251 c0_i32_148
  let v256 : BitVec 1 := Scalar.andi v255 v252
  let v257 : BitVec 32 := Scalar.addi v251 v250
  let v258 : BitVec 32 := Scalar.select v256 v257 v251
  let c22016_i32_151 : BitVec 32 := 22016#32
  let v259 : BitVec 32 := Scalar.muli v258 c22016_i32_151
  let v260 : BitVec 32 := Scalar.addi v248 v259
  let v261 : BitVec 32 := v260
  ![0, v261.toNat]
abbrev stage0_0 : Fin 1 → Memref sig .tc .vmem S192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S344x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S33024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S192x8192 : Shape := ⟨2, ![192, 8192]⟩
abbrev S192 : Shape := ⟨1, ![192]⟩
abbrev S8192x44032 : Shape := ⟨2, ![8192, 44032]⟩
abbrev S44032 : Shape := ⟨1, ![44032]⟩
abbrev S192x1 : Shape := ⟨2, ![192, 1]⟩
abbrev S1x44032 : Shape := ⟨2, ![1, 44032]⟩
abbrev S33024x128 : Shape := ⟨2, ![33024, 128]⟩
abbrev S192x44032 : Shape := ⟨2, ![192, 44032]⟩
abbrev S192x22016 : Shape := ⟨2, ![192, 22016]⟩
abbrev S192x172x128 : Shape := ⟨3, ![192, 172, 128]⟩
abbrev S172x192x128 : Shape := ⟨3, ![172, 192, 128]⟩

abbrev nBuf : Space → Nat
  | .hbm => 7
  | .vmem => 5
  | .smem => 0
  | _ => 0

abbrev bufTy : (tb : Table) → Fin (tcTables nBuf tb) → BufTy
  | .hbm, ⟨0, _⟩ => ⟨S192x8192, .fp8e4m3⟩
  | .hbm, ⟨1, _⟩ => ⟨S192, .f32⟩
  | .hbm, ⟨2, _⟩ => ⟨S8192x44032, .fp8e4m3⟩
  | .hbm, ⟨3, _⟩ => ⟨S44032, .f32⟩
  | .hbm, ⟨4, _⟩ => ⟨S192x1, .f32⟩
  | .hbm, ⟨5, _⟩ => ⟨S1x44032, .f32⟩
  | .hbm, ⟨6, _⟩ => ⟨S33024x128, .f32⟩
  | .local _ .vmem, ⟨0, _⟩ => ⟨S192x8192, .fp8e4m3⟩
  | .local _ .vmem, ⟨1, _⟩ => ⟨S192x1, .f32⟩
  | .local _ .vmem, ⟨2, _⟩ => ⟨S8192x44032, .fp8e4m3⟩
  | .local _ .vmem, ⟨3, _⟩ => ⟨S1x44032, .f32⟩
  | .local _ .vmem, ⟨4, _⟩ => ⟨S33024x128, .f32⟩
  | _, _ => ⟨S192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x44032 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x44032 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S33024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Down.lean ====
abbrev S192x22016 : Shape := ⟨2, ![192, 22016]⟩
abbrev S192 : Shape := ⟨1, ![192]⟩
abbrev S192x8192 : Shape := ⟨2, ![192, 8192]⟩
abbrev S22016x8192 : Shape := ⟨2, ![22016, 8192]⟩
abbrev S8192 : Shape := ⟨1, ![8192]⟩
abbrev S192x64x128 : Shape := ⟨3, ![192, 64, 128]⟩
abbrev S64x192x128 : Shape := ⟨3, ![64, 192, 128]⟩
abbrev S12288x128 : Shape := ⟨2, ![12288, 128]⟩
abbrev S192x1 : Shape := ⟨2, ![192, 1]⟩
abbrev S192x128 : Shape := ⟨2, ![192, 128]⟩
abbrev S64x128 : Shape := ⟨2, ![64, 128]⟩
abbrev S3x63x8192 : Shape := ⟨3, ![3, 63, 8192]⟩
abbrev S6x8192x512 : Shape := ⟨3, ![6, 8192, 512]⟩
abbrev S6 : Shape := ⟨1, ![6]⟩
abbrev S1 : Shape := ⟨1, ![1]⟩
abbrev S_ : Shape := ⟨0, ![]⟩
abbrev S1x7424x512 : Shape := ⟨3, ![1, 7424, 512]⟩
abbrev S7424x512 : Shape := ⟨2, ![7424, 512]⟩
abbrev S1x7168x512 : Shape := ⟨3, ![1, 7168, 512]⟩
abbrev S7168x512 : Shape := ⟨2, ![7168, 512]⟩
abbrev S192x7424 : Shape := ⟨2, ![192, 7424]⟩
abbrev S192x512 : Shape := ⟨2, ![192, 512]⟩
abbrev S192x7168 : Shape := ⟨2, ![192, 7168]⟩
abbrev S1x128 : Shape := ⟨2, ![1, 128]⟩
abbrev S63x128 : Shape := ⟨2, ![63, 128]⟩
abbrev S1x63x128 : Shape := ⟨3, ![1, 63, 128]⟩

abbrev nBuf : Space → Nat
  | .hbm => 12
  | .vmem => 7
  | .smem => 0
  | _ => 0

abbrev bufTy : (tb : Table) → Fin (tcTables nBuf tb) → BufTy
  | .hbm, ⟨0, _⟩ => ⟨S192x22016, .fp8e4m3⟩
  | .hbm, ⟨1, _⟩ => ⟨S192, .f32⟩
  | .hbm, ⟨2, _⟩ => ⟨S192x8192, .f32⟩
  | .hbm, ⟨3, _⟩ => ⟨S22016x8192, .fp8e4m3⟩
  | .hbm, ⟨4, _⟩ => ⟨S8192, .f32⟩
  | .hbm, ⟨5, _⟩ => ⟨S192x64x128, .f32⟩
  | .hbm, ⟨6, _⟩ => ⟨S64x192x128, .f32⟩
  | .hbm, ⟨7, _⟩ => ⟨S12288x128, .f32⟩
  | .hbm, ⟨8, _⟩ => ⟨S192x1, .f32⟩
  | .hbm, ⟨9, _⟩ => ⟨S192x128, .f32⟩
  | .hbm, ⟨10, _⟩ => ⟨S64x128, .f32⟩
  | .hbm, ⟨11, _⟩ => ⟨S3x63x8192, .bf16⟩
  | .local _ .vmem, ⟨0, _⟩ => ⟨S192x22016, .fp8e4m3⟩
  | .local _ .vmem, ⟨1, _⟩ => ⟨S192x128, .f32⟩
  | .local _ .vmem, ⟨2, _⟩ => ⟨S64x128, .f32⟩
  | .local _ .vmem, ⟨3, _⟩ => ⟨S12288x128, .f32⟩
  | .local _ .vmem, ⟨4, _⟩ => ⟨S3x63x8192, .bf16⟩
  | .local _ .vmem, ⟨5, _⟩ => ⟨S6x8192x512, .fp8e4m3⟩
  | .local _ .vmem, ⟨6, _⟩ => ⟨S192x128, .f32⟩
  | _, _ => ⟨S192x22016, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_mult1 : BitVec 32 :=
  let c0_i32_5 : BitVec 32 := 0#32
  let c3_i32_6 : BitVec 32 := 3#32
  let c0_i32_7 : BitVec 32 := 0#32
  let v17 : BitVec 1 := Scalar.cmpi .eq c3_i32_6 c0_i32_7
  let c1_i32_8 : BitVec 32 := 1#32
  let v18 : BitVec 32 := Scalar.select v17 c1_i32_8 c3_i32_6
  let v19 : BitVec 32 := Scalar.remsi c0_i32_5 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c7424_i32 : BitVec 32 := 7424#32
  let v27 : BitVec 32 := Scalar.muli v26 c7424_i32
  v27
def k0_mult2 : BitVec 32 :=
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c3_i32 : BitVec 32 := 3#32
  let c0_i32_2 : BitVec 32 := 0#32
  let v6 : BitVec 1 := Scalar.cmpi .sgt c3_i32 c0_i32_2
  let v7 : BitVec 32 := Scalar.extui v6
  let c0_i32_3 : BitVec 32 := 0#32
  let v8 : BitVec 1 := Scalar.cmpi .slt c3_i32 c0_i32_3
  let v9 : BitVec 32 := Scalar.extui v8
  let v10 : BitVec 32 := Scalar.subi v7 v9
  let v11 : BitVec 1 := Scalar.cmpi .ne v5 v10
  let v12 : BitVec 32 := Scalar.remsi c0_i32 c3_i32
  let c0_i32_4 : BitVec 32 := 0#32
  let v13 : BitVec 1 := Scalar.cmpi .ne v12 c0_i32_4
  let v14 : BitVec 1 := Scalar.andi v11 v13
  let v0 : BitVec 32 := Scalar.divsi c0_i32 c3_i32
  let c1_i32 : BitVec 32 := 1#32
  let v15 : BitVec 32 := Scalar.subi v0 c1_i32
  let v16 : BitVec 32 := Scalar.select v14 v15 v0
  let c512_i32 : BitVec 32 := 512#32
  let v29 : BitVec 32 := Scalar.muli v16 c512_i32
  v29
def k0_off1 (c0_i32_5 : BitVec 32) (c0_i32 : BitVec 32) : Fin 2 → Nat :=
  let c3_i32_6 : BitVec 32 := 3#32
  let c0_i32_7 : BitVec 32 := 0#32
  let v17 : BitVec 1 := Scalar.cmpi .eq c3_i32_6 c0_i32_7
  let c1_i32_8 : BitVec 32 := 1#32
  let v18 : BitVec 32 := Scalar.select v17 c1_i32_8 c3_i32_6
  let v19 : BitVec 32 := Scalar.remsi c0_i32_5 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c7424_i32 : BitVec 32 := 7424#32
  let v27 : BitVec 32 := Scalar.muli v26 c7424_i32
  let v28 : BitVec 32 := v27
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c3_i32 : BitVec 32 := 3#32
  let c0_i32_2 : BitVec 32 := 0#32
  let v6 : BitVec 1 := Scalar.cmpi .sgt c3_i32 c0_i32_2
  let v7 : BitVec 32 := Scalar.extui v6
  let c0_i32_3 : BitVec 32 := 0#32
  let v8 : BitVec 1 := Scalar.cmpi .slt c3_i32 c0_i32_3
  let v9 : BitVec 32 := Scalar.extui v8
  let v10 : BitVec 32 := Scalar.subi v7 v9
  let v11 : BitVec 1 := Scalar.cmpi .ne v5 v10
  let v12 : BitVec 32 := Scalar.remsi c0_i32 c3_i32
  let c0_i32_4 : BitVec 32 := 0#32
  let v13 : BitVec 1 := Scalar.cmpi .ne v12 c0_i32_4
  let v14 : BitVec 1 := Scalar.andi v11 v13
  let v0 : BitVec 32 := Scalar.divsi c0_i32 c3_i32
  let c1_i32 : BitVec 32 := 1#32
  let v15 : BitVec 32 := Scalar.subi v0 c1_i32
  let v16 : BitVec 32 := Scalar.select v14 v15 v0
  let c512_i32 : BitVec 32 := 512#32
  let v29 : BitVec 32 := Scalar.muli v16 c512_i32
  let v30 : BitVec 32 := v29
  ![v28.toNat, v30.toNat]
def k0_off1_at (r : Fin 4) : BitVec 32 × BitVec 32 :=
  if r.val < 2 then
    if r.val < 1 then
      (0#32, 0#32)
    else
      (1#32, 1#32)
  else
    if r.val < 3 then
      (3#32, 3#32)
    else
      (4#32, 4#32)
def k0_mult3 : BitVec 32 :=
  let c1_i32_23 : BitVec 32 := 1#32
  let c3_i32_24 : BitVec 32 := 3#32
  let c0_i32_25 : BitVec 32 := 0#32
  let v53 : BitVec 1 := Scalar.cmpi .eq c3_i32_24 c0_i32_25
  let c1_i32_26 : BitVec 32 := 1#32
  let v54 : BitVec 32 := Scalar.select v53 c1_i32_26 c3_i32_24
  let v55 : BitVec 32 := Scalar.remsi c1_i32_23 v54
  let c0_i32_28 : BitVec 32 := 0#32
  let v57 : BitVec 1 := Scalar.cmpi .slt v55 c0_i32_28
  let c0_i32_29 : BitVec 32 := 0#32
  let v58 : BitVec 1 := Scalar.cmpi .slt v54 c0_i32_29
  let v59 : BitVec 1 := Scalar.xori v57 v58
  let c0_i32_27 : BitVec 32 := 0#32
  let v56 : BitVec 1 := Scalar.cmpi .ne v55 c0_i32_27
  let v60 : BitVec 1 := Scalar.andi v59 v56
  let v61 : BitVec 32 := Scalar.addi v55 v54
  let v62 : BitVec 32 := Scalar.select v60 v61 v55
  let c7424_i32_30 : BitVec 32 := 7424#32
  let v63 : BitVec 32 := Scalar.muli v62 c7424_i32_30
  v63
def k0_mult4 : BitVec 32 :=
  let c1_i32_15 : BitVec 32 := 1#32
  let c0_i32_17 : BitVec 32 := 0#32
  let v37 : BitVec 1 := Scalar.cmpi .sgt c1_i32_15 c0_i32_17
  let v38 : BitVec 32 := Scalar.extui v37
  let c0_i32_18 : BitVec 32 := 0#32
  let v39 : BitVec 1 := Scalar.cmpi .slt c1_i32_15 c0_i32_18
  let v40 : BitVec 32 := Scalar.extui v39
  let v41 : BitVec 32 := Scalar.subi v38 v40
  let c3_i32_16 : BitVec 32 := 3#32
  let c0_i32_19 : BitVec 32 := 0#32
  let v42 : BitVec 1 := Scalar.cmpi .sgt c3_i32_16 c0_i32_19
  let v43 : BitVec 32 := Scalar.extui v42
  let c0_i32_20 : BitVec 32 := 0#32
  let v44 : BitVec 1 := Scalar.cmpi .slt c3_i32_16 c0_i32_20
  let v45 : BitVec 32 := Scalar.extui v44
  let v46 : BitVec 32 := Scalar.subi v43 v45
  let v47 : BitVec 1 := Scalar.cmpi .ne v41 v46
  let v48 : BitVec 32 := Scalar.remsi c1_i32_15 c3_i32_16
  let c0_i32_21 : BitVec 32 := 0#32
  let v49 : BitVec 1 := Scalar.cmpi .ne v48 c0_i32_21
  let v50 : BitVec 1 := Scalar.andi v47 v49
  let v36 : BitVec 32 := Scalar.divsi c1_i32_15 c3_i32_16
  let c1_i32_22 : BitVec 32 := 1#32
  let v51 : BitVec 32 := Scalar.subi v36 c1_i32_22
  let v52 : BitVec 32 := Scalar.select v50 v51 v36
  let c512_i32_31 : BitVec 32 := 512#32
  let v65 : BitVec 32 := Scalar.muli v52 c512_i32_31
  v65
def k0_mult5 : BitVec 32 :=
  let c2_i32_44 : BitVec 32 := 2#32
  let c3_i32_45 : BitVec 32 := 3#32
  let c0_i32_46 : BitVec 32 := 0#32
  let v89 : BitVec 1 := Scalar.cmpi .eq c3_i32_45 c0_i32_46
  let c1_i32_47 : BitVec 32 := 1#32
  let v90 : BitVec 32 := Scalar.select v89 c1_i32_47 c3_i32_45
  let v91 : BitVec 32 := Scalar.remsi c2_i32_44 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let c7424_i32_51 : BitVec 32 := 7424#32
  let v99 : BitVec 32 := Scalar.muli v98 c7424_i32_51
  v99
def k0_mult6 : BitVec 32 :=
  let c2_i32_36 : BitVec 32 := 2#32
  let c0_i32_38 : BitVec 32 := 0#32
  let v73 : BitVec 1 := Scalar.cmpi .sgt c2_i32_36 c0_i32_38
  let v74 : BitVec 32 := Scalar.extui v73
  let c0_i32_39 : BitVec 32 := 0#32
  let v75 : BitVec 1 := Scalar.cmpi .slt c2_i32_36 c0_i32_39
  let v76 : BitVec 32 := Scalar.extui v75
  let v77 : BitVec 32 := Scalar.subi v74 v76
  let c3_i32_37 : BitVec 32 := 3#32
  let c0_i32_40 : BitVec 32 := 0#32
  let v78 : BitVec 1 := Scalar.cmpi .sgt c3_i32_37 c0_i32_40
  let v79 : BitVec 32 := Scalar.extui v78
  let c0_i32_41 : BitVec 32 := 0#32
  let v80 : BitVec 1 := Scalar.cmpi .slt c3_i32_37 c0_i32_41
  let v81 : BitVec 32 := Scalar.extui v80
  let v82 : BitVec 32 := Scalar.subi v79 v81
  let v83 : BitVec 1 := Scalar.cmpi .ne v77 v82
  let v84 : BitVec 32 := Scalar.remsi c2_i32_36 c3_i32_37
  let c0_i32_42 : BitVec 32 := 0#32
  let v85 : BitVec 1 := Scalar.cmpi .ne v84 c0_i32_42
  let v86 : BitVec 1 := Scalar.andi v83 v85
  let v72 : BitVec 32 := Scalar.divsi c2_i32_36 c3_i32_37
  let c1_i32_43 : BitVec 32 := 1#32
  let v87 : BitVec 32 := Scalar.subi v72 c1_i32_43
  let v88 : BitVec 32 := Scalar.select v86 v87 v72
  let c512_i32_52 : BitVec 32 := 512#32
  let v101 : BitVec 32 := Scalar.muli v88 c512_i32_52
  v101
def k0_off2 (c2_i32_44 : BitVec 32) (c2_i32_36 : BitVec 32) : Fin 2 → Nat :=
  let c3_i32_45 : BitVec 32 := 3#32
  let c0_i32_46 : BitVec 32 := 0#32
  let v89 : BitVec 1 := Scalar.cmpi .eq c3_i32_45 c0_i32_46
  let c1_i32_47 : BitVec 32 := 1#32
  let v90 : BitVec 32 := Scalar.select v89 c1_i32_47 c3_i32_45
  let v91 : BitVec 32 := Scalar.remsi c2_i32_44 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let c7424_i32_51 : BitVec 32 := 7424#32
  let v99 : BitVec 32 := Scalar.muli v98 c7424_i32_51
  let v100 : BitVec 32 := v99
  let c0_i32_38 : BitVec 32 := 0#32
  let v73 : BitVec 1 := Scalar.cmpi .sgt c2_i32_36 c0_i32_38
  let v74 : BitVec 32 := Scalar.extui v73
  let c0_i32_39 : BitVec 32 := 0#32
  let v75 : BitVec 1 := Scalar.cmpi .slt c2_i32_36 c0_i32_39
  let v76 : BitVec 32 := Scalar.extui v75
  let v77 : BitVec 32 := Scalar.subi v74 v76
  let c3_i32_37 : BitVec 32 := 3#32
  let c0_i32_40 : BitVec 32 := 0#32
  let v78 : BitVec 1 := Scalar.cmpi .sgt c3_i32_37 c0_i32_40
  let v79 : BitVec 32 := Scalar.extui v78
  let c0_i32_41 : BitVec 32 := 0#32
  let v80 : BitVec 1 := Scalar.cmpi .slt c3_i32_37 c0_i32_41
  let v81 : BitVec 32 := Scalar.extui v80
  let v82 : BitVec 32 := Scalar.subi v79 v81
  let v83 : BitVec 1 := Scalar.cmpi .ne v77 v82
  let v84 : BitVec 32 := Scalar.remsi c2_i32_36 c3_i32_37
  let c0_i32_42 : BitVec 32 := 0#32
  let v85 : BitVec 1 := Scalar.cmpi .ne v84 c0_i32_42
  let v86 : BitVec 1 := Scalar.andi v83 v85
  let v72 : BitVec 32 := Scalar.divsi c2_i32_36 c3_i32_37
  let c1_i32_43 : BitVec 32 := 1#32
  let v87 : BitVec 32 := Scalar.subi v72 c1_i32_43
  let v88 : BitVec 32 := Scalar.select v86 v87 v72
  let c512_i32_52 : BitVec 32 := 512#32
  let v101 : BitVec 32 := Scalar.muli v88 c512_i32_52
  let v102 : BitVec 32 := v101
  ![v100.toNat, v102.toNat]
def k0_off2_at (r : Fin 2) : BitVec 32 × BitVec 32 :=
  if r.val < 1 then
    (2#32, 2#32)
  else
    (5#32, 5#32)
def k0_mult7 : BitVec 32 :=
  let c3_i32_64 : BitVec 32 := 3#32
  let c3_i32_65 : BitVec 32 := 3#32
  let c0_i32_66 : BitVec 32 := 0#32
  let v125 : BitVec 1 := Scalar.cmpi .eq c3_i32_65 c0_i32_66
  let c1_i32_67 : BitVec 32 := 1#32
  let v126 : BitVec 32 := Scalar.select v125 c1_i32_67 c3_i32_65
  let v127 : BitVec 32 := Scalar.remsi c3_i32_64 v126
  let c0_i32_69 : BitVec 32 := 0#32
  let v129 : BitVec 1 := Scalar.cmpi .slt v127 c0_i32_69
  let c0_i32_70 : BitVec 32 := 0#32
  let v130 : BitVec 1 := Scalar.cmpi .slt v126 c0_i32_70
  let v131 : BitVec 1 := Scalar.xori v129 v130
  let c0_i32_68 : BitVec 32 := 0#32
  let v128 : BitVec 1 := Scalar.cmpi .ne v127 c0_i32_68
  let v132 : BitVec 1 := Scalar.andi v131 v128
  let v133 : BitVec 32 := Scalar.addi v127 v126
  let v134 : BitVec 32 := Scalar.select v132 v133 v127
  let c7424_i32_71 : BitVec 32 := 7424#32
  let v135 : BitVec 32 := Scalar.muli v134 c7424_i32_71
  v135
def k0_mult8 : BitVec 32 :=
  let c3_i32_56 : BitVec 32 := 3#32
  let c0_i32_58 : BitVec 32 := 0#32
  let v109 : BitVec 1 := Scalar.cmpi .sgt c3_i32_56 c0_i32_58
  let v110 : BitVec 32 := Scalar.extui v109
  let c0_i32_59 : BitVec 32 := 0#32
  let v111 : BitVec 1 := Scalar.cmpi .slt c3_i32_56 c0_i32_59
  let v112 : BitVec 32 := Scalar.extui v111
  let v113 : BitVec 32 := Scalar.subi v110 v112
  let c3_i32_57 : BitVec 32 := 3#32
  let c0_i32_60 : BitVec 32 := 0#32
  let v114 : BitVec 1 := Scalar.cmpi .sgt c3_i32_57 c0_i32_60
  let v115 : BitVec 32 := Scalar.extui v114
  let c0_i32_61 : BitVec 32 := 0#32
  let v116 : BitVec 1 := Scalar.cmpi .slt c3_i32_57 c0_i32_61
  let v117 : BitVec 32 := Scalar.extui v116
  let v118 : BitVec 32 := Scalar.subi v115 v117
  let v119 : BitVec 1 := Scalar.cmpi .ne v113 v118
  let v120 : BitVec 32 := Scalar.remsi c3_i32_56 c3_i32_57
  let c0_i32_62 : BitVec 32 := 0#32
  let v121 : BitVec 1 := Scalar.cmpi .ne v120 c0_i32_62
  let v122 : BitVec 1 := Scalar.andi v119 v121
  let v108 : BitVec 32 := Scalar.divsi c3_i32_56 c3_i32_57
  let c1_i32_63 : BitVec 32 := 1#32
  let v123 : BitVec 32 := Scalar.subi v108 c1_i32_63
  let v124 : BitVec 32 := Scalar.select v122 v123 v108
  let c512_i32_72 : BitVec 32 := 512#32
  let v137 : BitVec 32 := Scalar.muli v124 c512_i32_72
  v137
def k0_mult9 : BitVec 32 :=
  let c4_i32_84 : BitVec 32 := 4#32
  let c3_i32_85 : BitVec 32 := 3#32
  let c0_i32_86 : BitVec 32 := 0#32
  let v161 : BitVec 1 := Scalar.cmpi .eq c3_i32_85 c0_i32_86
  let c1_i32_87 : BitVec 32 := 1#32
  let v162 : BitVec 32 := Scalar.select v161 c1_i32_87 c3_i32_85
  let v163 : BitVec 32 := Scalar.remsi c4_i32_84 v162
  let c0_i32_89 : BitVec 32 := 0#32
  let v165 : BitVec 1 := Scalar.cmpi .slt v163 c0_i32_89
  let c0_i32_90 : BitVec 32 := 0#32
  let v166 : BitVec 1 := Scalar.cmpi .slt v162 c0_i32_90
  let v167 : BitVec 1 := Scalar.xori v165 v166
  let c0_i32_88 : BitVec 32 := 0#32
  let v164 : BitVec 1 := Scalar.cmpi .ne v163 c0_i32_88
  let v168 : BitVec 1 := Scalar.andi v167 v164
  let v169 : BitVec 32 := Scalar.addi v163 v162
  let v170 : BitVec 32 := Scalar.select v168 v169 v163
  let c7424_i32_91 : BitVec 32 := 7424#32
  let v171 : BitVec 32 := Scalar.muli v170 c7424_i32_91
  v171
def k0_mult10 : BitVec 32 :=
  let c4_i32_76 : BitVec 32 := 4#32
  let c0_i32_78 : BitVec 32 := 0#32
  let v145 : BitVec 1 := Scalar.cmpi .sgt c4_i32_76 c0_i32_78
  let v146 : BitVec 32 := Scalar.extui v145
  let c0_i32_79 : BitVec 32 := 0#32
  let v147 : BitVec 1 := Scalar.cmpi .slt c4_i32_76 c0_i32_79
  let v148 : BitVec 32 := Scalar.extui v147
  let v149 : BitVec 32 := Scalar.subi v146 v148
  let c3_i32_77 : BitVec 32 := 3#32
  let c0_i32_80 : BitVec 32 := 0#32
  let v150 : BitVec 1 := Scalar.cmpi .sgt c3_i32_77 c0_i32_80
  let v151 : BitVec 32 := Scalar.extui v150
  let c0_i32_81 : BitVec 32 := 0#32
  let v152 : BitVec 1 := Scalar.cmpi .slt c3_i32_77 c0_i32_81
  let v153 : BitVec 32 := Scalar.extui v152
  let v154 : BitVec 32 := Scalar.subi v151 v153
  let v155 : BitVec 1 := Scalar.cmpi .ne v149 v154
  let v156 : BitVec 32 := Scalar.remsi c4_i32_76 c3_i32_77
  let c0_i32_82 : BitVec 32 := 0#32
  let v157 : BitVec 1 := Scalar.cmpi .ne v156 c0_i32_82
  let v158 : BitVec 1 := Scalar.andi v155 v157
  let v144 : BitVec 32 := Scalar.divsi c4_i32_76 c3_i32_77
  let c1_i32_83 : BitVec 32 := 1#32
  let v159 : BitVec 32 := Scalar.subi v144 c1_i32_83
  let v160 : BitVec 32 := Scalar.select v158 v159 v144
  let c512_i32_92 : BitVec 32 := 512#32
  let v173 : BitVec 32 := Scalar.muli v160 c512_i32_92
  v173
def k0_mult11 : BitVec 32 :=
  let c5_i32_105 : BitVec 32 := 5#32
  let c3_i32_106 : BitVec 32 := 3#32
  let c0_i32_107 : BitVec 32 := 0#32
  let v197 : BitVec 1 := Scalar.cmpi .eq c3_i32_106 c0_i32_107
  let c1_i32_108 : BitVec 32 := 1#32
  let v198 : BitVec 32 := Scalar.select v197 c1_i32_108 c3_i32_106
  let v199 : BitVec 32 := Scalar.remsi c5_i32_105 v198
  let c0_i32_110 : BitVec 32 := 0#32
  let v201 : BitVec 1 := Scalar.cmpi .slt v199 c0_i32_110
  let c0_i32_111 : BitVec 32 := 0#32
  let v202 : BitVec 1 := Scalar.cmpi .slt v198 c0_i32_111
  let v203 : BitVec 1 := Scalar.xori v201 v202
  let c0_i32_109 : BitVec 32 := 0#32
  let v200 : BitVec 1 := Scalar.cmpi .ne v199 c0_i32_109
  let v204 : BitVec 1 := Scalar.andi v203 v200
  let v205 : BitVec 32 := Scalar.addi v199 v198
  let v206 : BitVec 32 := Scalar.select v204 v205 v199
  let c7424_i32_112 : BitVec 32 := 7424#32
  let v207 : BitVec 32 := Scalar.muli v206 c7424_i32_112
  v207
def k0_mult12 : BitVec 32 :=
  let c5_i32_97 : BitVec 32 := 5#32
  let c0_i32_99 : BitVec 32 := 0#32
  let v181 : BitVec 1 := Scalar.cmpi .sgt c5_i32_97 c0_i32_99
  let v182 : BitVec 32 := Scalar.extui v181
  let c0_i32_100 : BitVec 32 := 0#32
  let v183 : BitVec 1 := Scalar.cmpi .slt c5_i32_97 c0_i32_100
  let v184 : BitVec 32 := Scalar.extui v183
  let v185 : BitVec 32 := Scalar.subi v182 v184
  let c3_i32_98 : BitVec 32 := 3#32
  let c0_i32_101 : BitVec 32 := 0#32
  let v186 : BitVec 1 := Scalar.cmpi .sgt c3_i32_98 c0_i32_101
  let v187 : BitVec 32 := Scalar.extui v186
  let c0_i32_102 : BitVec 32 := 0#32
  let v188 : BitVec 1 := Scalar.cmpi .slt c3_i32_98 c0_i32_102
  let v189 : BitVec 32 := Scalar.extui v188
  let v190 : BitVec 32 := Scalar.subi v187 v189
  let v191 : BitVec 1 := Scalar.cmpi .ne v185 v190
  let v192 : BitVec 32 := Scalar.remsi c5_i32_97 c3_i32_98
  let c0_i32_103 : BitVec 32 := 0#32
  let v193 : BitVec 1 := Scalar.cmpi .ne v192 c0_i32_103
  let v194 : BitVec 1 := Scalar.andi v191 v193
  let v180 : BitVec 32 := Scalar.divsi c5_i32_97 c3_i32_98
  let c1_i32_104 : BitVec 32 := 1#32
  let v195 : BitVec 32 := Scalar.subi v180 c1_i32_104
  let v196 : BitVec 32 := Scalar.select v194 v195 v180
  let c512_i32_113 : BitVec 32 := 512#32
  let v209 : BitVec 32 := Scalar.muli v196 c512_i32_113
  v209
@[reducible] def k0_t1_loop : Scf.Loop 32 :=
  let c0_i32_119 : BitVec 32 := 0#32
  let c16_i32 : BitVec 32 := 16#32
  let v220 : BitVec 32 := Scalar.addi c0_i32_119 c16_i32
  let c1_i32_120 : BitVec 32 := 1#32
  ⟨c0_i32_119, v220, c1_i32_120⟩
def k0_cond1 (k0_t1 : Fin k0_t1_loop.trips) : BitVec 1 :=
  let c0_i32_119 : BitVec 32 := 0#32
  let c1_i32_120 : BitVec 32 := 1#32
  let arg9 : BitVec 32 := Scf.iv c0_i32_119 c1_i32_120 k0_t1
  let c0_i32_169 : BitVec 32 := 0#32
  let v284 : BitVec 1 := Scalar.cmpi .sgt arg9 c0_i32_169
  let v285 : BitVec 32 := Scalar.extui v284
  let c0_i32_170 : BitVec 32 := 0#32
  let v286 : BitVec 1 := Scalar.cmpi .ne v285 c0_i32_170
  v286

def k0_cond2 (k0_t1 : Fin k0_t1_loop.trips) : BitVec 1 :=
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let c48_i32_400 : BitVec 32 := 48#32
  let v764 : BitVec 1 := Scalar.cmpi .slt v761 c48_i32_400
  let c3_i32_401 : BitVec 32 := 3#32
  let c0_i32_402 : BitVec 32 := 0#32
  let v765 : BitVec 1 := Scalar.cmpi .eq c3_i32_401 c0_i32_402
  let c1_i32_403 : BitVec 32 := 1#32
  let v766 : BitVec 32 := Scalar.select v765 c1_i32_403 c3_i32_401
  let v767 : BitVec 32 := Scalar.remsi v761 v766
  let c0_i32_405 : BitVec 32 := 0#32
  let v769 : BitVec 1 := Scalar.cmpi .slt v767 c0_i32_405
  let c0_i32_406 : BitVec 32 := 0#32
  let v770 : BitVec 1 := Scalar.cmpi .slt v766 c0_i32_406
  let v771 : BitVec 1 := Scalar.xori v769 v770
  let c0_i32_404 : BitVec 32 := 0#32
  let v768 : BitVec 1 := Scalar.cmpi .ne v767 c0_i32_404
  let v772 : BitVec 1 := Scalar.andi v771 v768
  let v773 : BitVec 32 := Scalar.addi v767 v766
  let v774 : BitVec 32 := Scalar.select v772 v773 v767
  let c2_i32_407 : BitVec 32 := 2#32
  let v775 : BitVec 1 := Scalar.cmpi .eq v774 c2_i32_407
  let true_408 : BitVec 1 := 1#1
  let v776 : BitVec 1 := Scalar.xori v775 true_408
  let v777 : BitVec 1 := Scalar.andi v764 v776
  let v778 : BitVec 32 := Scalar.extui v777
  let c0_i32_409 : BitVec 32 := 0#32
  let v779 : BitVec 1 := Scalar.cmpi .ne v778 c0_i32_409
  v779

def k0_mult13 (k0_t1 : Fin k0_t1_loop.trips) : BitVec 32 :=
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v761 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  v860
def k0_mult14 (k0_t1 : Fin k0_t1_loop.trips) : BitVec 32 :=
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let c0_i32_446 : BitVec 32 := 0#32
  let v834 : BitVec 1 := Scalar.cmpi .sgt v761 c0_i32_446
  let v835 : BitVec 32 := Scalar.extui v834
  let c0_i32_447 : BitVec 32 := 0#32
  let v836 : BitVec 1 := Scalar.cmpi .slt v761 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v761 c3_i32_445
  let c0_i32_450 : BitVec 32 := 0#32
  let v846 : BitVec 1 := Scalar.cmpi .ne v845 c0_i32_450
  let v847 : BitVec 1 := Scalar.andi v844 v846
  let v833 : BitVec 32 := Scalar.divsi v761 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  v862
def k0_off3 (k0_t1 : Fin k0_t1_loop.trips) : Fin 1 → Nat :=
  let c116_i32_398 : BitVec 32 := 116#32
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let v762 : BitVec 32 := Scalar.addi c116_i32_398 v761
  let c6_i32_399 : BitVec 32 := 6#32
  let v763 : BitVec 32 := Scalar.remsi v762 c6_i32_399
  ![v763.toNat]
def k0_off4 (k0_t1 : Fin k0_t1_loop.trips) : Fin 3 → Nat :=
  let c116_i32_398 : BitVec 32 := 116#32
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let v762 : BitVec 32 := Scalar.addi c116_i32_398 v761
  let c6_i32_399 : BitVec 32 := 6#32
  let v763 : BitVec 32 := Scalar.remsi v762 c6_i32_399
  let c0_i32_460 : BitVec 32 := 0#32
  let c0_i32_461 : BitVec 32 := 0#32
  ![v763.toNat, 0, 0]
def k0_off5 (k0_t1 : Fin k0_t1_loop.trips) : Fin 2 → Nat :=
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v761 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  let v861 : BitVec 32 := v860
  let c0_i32_446 : BitVec 32 := 0#32
  let v834 : BitVec 1 := Scalar.cmpi .sgt v761 c0_i32_446
  let v835 : BitVec 32 := Scalar.extui v834
  let c0_i32_447 : BitVec 32 := 0#32
  let v836 : BitVec 1 := Scalar.cmpi .slt v761 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v761 c3_i32_445
  let c0_i32_450 : BitVec 32 := 0#32
  let v846 : BitVec 1 := Scalar.cmpi .ne v845 c0_i32_450
  let v847 : BitVec 1 := Scalar.andi v844 v846
  let v833 : BitVec 32 := Scalar.divsi v761 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  let v863 : BitVec 32 := v862
  ![v861.toNat, v863.toNat]
def k0_cond3 (k0_t1 : Fin k0_t1_loop.trips) : BitVec 1 :=
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let c48_i32_400 : BitVec 32 := 48#32
  let v764 : BitVec 1 := Scalar.cmpi .slt v761 c48_i32_400
  let c3_i32_401 : BitVec 32 := 3#32
  let c0_i32_402 : BitVec 32 := 0#32
  let v765 : BitVec 1 := Scalar.cmpi .eq c3_i32_401 c0_i32_402
  let c1_i32_403 : BitVec 32 := 1#32
  let v766 : BitVec 32 := Scalar.select v765 c1_i32_403 c3_i32_401
  let v767 : BitVec 32 := Scalar.remsi v761 v766
  let c0_i32_405 : BitVec 32 := 0#32
  let v769 : BitVec 1 := Scalar.cmpi .slt v767 c0_i32_405
  let c0_i32_406 : BitVec 32 := 0#32
  let v770 : BitVec 1 := Scalar.cmpi .slt v766 c0_i32_406
  let v771 : BitVec 1 := Scalar.xori v769 v770
  let c0_i32_404 : BitVec 32 := 0#32
  let v768 : BitVec 1 := Scalar.cmpi .ne v767 c0_i32_404
  let v772 : BitVec 1 := Scalar.andi v771 v768
  let v773 : BitVec 32 := Scalar.addi v767 v766
  let v774 : BitVec 32 := Scalar.select v772 v773 v767
  let c2_i32_407 : BitVec 32 := 2#32
  let v775 : BitVec 1 := Scalar.cmpi .eq v774 c2_i32_407
  let v780 : BitVec 1 := Scalar.andi v764 v775
  let v781 : BitVec 32 := Scalar.extui v780
  let c0_i32_410 : BitVec 32 := 0#32
  let v782 : BitVec 1 := Scalar.cmpi .ne v781 c0_i32_410
  v782

def k0_mult15 (k0_t1 : Fin k0_t1_loop.trips) : BitVec 32 :=
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v761 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  v860
def k0_mult16 (k0_t1 : Fin k0_t1_loop.trips) : BitVec 32 :=
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let c0_i32_446 : BitVec 32 := 0#32
  let v834 : BitVec 1 := Scalar.cmpi .sgt v761 c0_i32_446
  let v835 : BitVec 32 := Scalar.extui v834
  let c0_i32_447 : BitVec 32 := 0#32
  let v836 : BitVec 1 := Scalar.cmpi .slt v761 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v761 c3_i32_445
  let c0_i32_450 : BitVec 32 := 0#32
  let v846 : BitVec 1 := Scalar.cmpi .ne v845 c0_i32_450
  let v847 : BitVec 1 := Scalar.andi v844 v846
  let v833 : BitVec 32 := Scalar.divsi v761 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  v862
def k0_off6 (k0_t1 : Fin k0_t1_loop.trips) : Fin 1 → Nat :=
  let c116_i32_398 : BitVec 32 := 116#32
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let v762 : BitVec 32 := Scalar.addi c116_i32_398 v761
  let c6_i32_399 : BitVec 32 := 6#32
  let v763 : BitVec 32 := Scalar.remsi v762 c6_i32_399
  ![v763.toNat]
def k0_off7 (k0_t1 : Fin k0_t1_loop.trips) : Fin 3 → Nat :=
  let c116_i32_398 : BitVec 32 := 116#32
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let v762 : BitVec 32 := Scalar.addi c116_i32_398 v761
  let c6_i32_399 : BitVec 32 := 6#32
  let v763 : BitVec 32 := Scalar.remsi v762 c6_i32_399
  let c0_i32_460 : BitVec 32 := 0#32
  let c0_i32_461 : BitVec 32 := 0#32
  ![v763.toNat, 0, 0]
def k0_off8 (k0_t1 : Fin k0_t1_loop.trips) : Fin 2 → Nat :=
  let c3_i32_394 : BitVec 32 := 3#32
  let c0_i32_119 : BitVec 32 := 0#32
  let c1_i32_120 : BitVec 32 := 1#32
  let arg9 : BitVec 32 := Scf.iv c0_i32_119 c1_i32_120 k0_t1
  let v758 : BitVec 32 := Scalar.muli c3_i32_394 arg9
  let c3_i32_395 : BitVec 32 := 3#32
  let v759 : BitVec 32 := Scalar.subi v758 c3_i32_395
  let c0_i32_396 : BitVec 32 := 0#32
  let v760 : BitVec 32 := Scalar.addi v759 c0_i32_396
  let c6_i32_397 : BitVec 32 := 6#32
  let v761 : BitVec 32 := Scalar.addi v760 c6_i32_397
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v761 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  let v861 : BitVec 32 := v860
  let c0_i32_446 : BitVec 32 := 0#32
  let v834 : BitVec 1 := Scalar.cmpi .sgt v761 c0_i32_446
  let v835 : BitVec 32 := Scalar.extui v834
  let c0_i32_447 : BitVec 32 := 0#32
  let v836 : BitVec 1 := Scalar.cmpi .slt v761 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v761 c3_i32_445
  let c0_i32_450 : BitVec 32 := 0#32
  let v846 : BitVec 1 := Scalar.cmpi .ne v845 c0_i32_450
  let v847 : BitVec 1 := Scalar.andi v844 v846
  let v833 : BitVec 32 := Scalar.divsi v761 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  let v863 : BitVec 32 := v862
  ![v861.toNat, v863.toNat]
def k0_cond4 (k0_t1 : Fin k0_t1_loop.trips) : BitVec 1 :=
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let c48_i32_417 : BitVec 32 := 48#32
  let v789 : BitVec 1 := Scalar.cmpi .slt v786 c48_i32_417
  let c3_i32_418 : BitVec 32 := 3#32
  let c0_i32_419 : BitVec 32 := 0#32
  let v790 : BitVec 1 := Scalar.cmpi .eq c3_i32_418 c0_i32_419
  let c1_i32_420 : BitVec 32 := 1#32
  let v791 : BitVec 32 := Scalar.select v790 c1_i32_420 c3_i32_418
  let v792 : BitVec 32 := Scalar.remsi v786 v791
  let c0_i32_422 : BitVec 32 := 0#32
  let v794 : BitVec 1 := Scalar.cmpi .slt v792 c0_i32_422
  let c0_i32_423 : BitVec 32 := 0#32
  let v795 : BitVec 1 := Scalar.cmpi .slt v791 c0_i32_423
  let v796 : BitVec 1 := Scalar.xori v794 v795
  let c0_i32_421 : BitVec 32 := 0#32
  let v793 : BitVec 1 := Scalar.cmpi .ne v792 c0_i32_421
  let v797 : BitVec 1 := Scalar.andi v796 v793
  let v798 : BitVec 32 := Scalar.addi v792 v791
  let v799 : BitVec 32 := Scalar.select v797 v798 v792
  let c2_i32_424 : BitVec 32 := 2#32
  let v800 : BitVec 1 := Scalar.cmpi .eq v799 c2_i32_424
  let true_425 : BitVec 1 := 1#1
  let v801 : BitVec 1 := Scalar.xori v800 true_425
  let v802 : BitVec 1 := Scalar.andi v789 v801
  let v803 : BitVec 32 := Scalar.extui v802
  let c0_i32_426 : BitVec 32 := 0#32
  let v804 : BitVec 1 := Scalar.cmpi .ne v803 c0_i32_426
  v804

def k0_mult17 (k0_t1 : Fin k0_t1_loop.trips) : BitVec 32 :=
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v786 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  v860
def k0_mult18 (k0_t1 : Fin k0_t1_loop.trips) : BitVec 32 :=
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let c0_i32_446 : BitVec 32 := 0#32
  let v834 : BitVec 1 := Scalar.cmpi .sgt v786 c0_i32_446
  let v835 : BitVec 32 := Scalar.extui v834
  let c0_i32_447 : BitVec 32 := 0#32
  let v836 : BitVec 1 := Scalar.cmpi .slt v786 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v786 c3_i32_445
  let c0_i32_450 : BitVec 32 := 0#32
  let v846 : BitVec 1 := Scalar.cmpi .ne v845 c0_i32_450
  let v847 : BitVec 1 := Scalar.andi v844 v846
  let v833 : BitVec 32 := Scalar.divsi v786 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  v862
def k0_off9 (k0_t1 : Fin k0_t1_loop.trips) : Fin 1 → Nat :=
  let c116_i32_415 : BitVec 32 := 116#32
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let v787 : BitVec 32 := Scalar.addi c116_i32_415 v786
  let c6_i32_416 : BitVec 32 := 6#32
  let v788 : BitVec 32 := Scalar.remsi v787 c6_i32_416
  ![v788.toNat]
def k0_off10 (k0_t1 : Fin k0_t1_loop.trips) : Fin 3 → Nat :=
  let c116_i32_415 : BitVec 32 := 116#32
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let v787 : BitVec 32 := Scalar.addi c116_i32_415 v786
  let c6_i32_416 : BitVec 32 := 6#32
  let v788 : BitVec 32 := Scalar.remsi v787 c6_i32_416
  let c0_i32_460 : BitVec 32 := 0#32
  let c0_i32_461 : BitVec 32 := 0#32
  ![v788.toNat, 0, 0]
def k0_off11 (k0_t1 : Fin k0_t1_loop.trips) : Fin 2 → Nat :=
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v786 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  let v861 : BitVec 32 := v860
  let c0_i32_446 : BitVec 32 := 0#32
  let v834 : BitVec 1 := Scalar.cmpi .sgt v786 c0_i32_446
  let v835 : BitVec 32 := Scalar.extui v834
  let c0_i32_447 : BitVec 32 := 0#32
  let v836 : BitVec 1 := Scalar.cmpi .slt v786 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v786 c3_i32_445
  let c0_i32_450 : BitVec 32 := 0#32
  let v846 : BitVec 1 := Scalar.cmpi .ne v845 c0_i32_450
  let v847 : BitVec 1 := Scalar.andi v844 v846
  let v833 : BitVec 32 := Scalar.divsi v786 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  let v863 : BitVec 32 := v862
  ![v861.toNat, v863.toNat]
def k0_cond5 (k0_t1 : Fin k0_t1_loop.trips) : BitVec 1 :=
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let c48_i32_417 : BitVec 32 := 48#32
  let v789 : BitVec 1 := Scalar.cmpi .slt v786 c48_i32_417
  let c3_i32_418 : BitVec 32 := 3#32
  let c0_i32_419 : BitVec 32 := 0#32
  let v790 : BitVec 1 := Scalar.cmpi .eq c3_i32_418 c0_i32_419
  let c1_i32_420 : BitVec 32 := 1#32
  let v791 : BitVec 32 := Scalar.select v790 c1_i32_420 c3_i32_418
  let v792 : BitVec 32 := Scalar.remsi v786 v791
  let c0_i32_422 : BitVec 32 := 0#32
  let v794 : BitVec 1 := Scalar.cmpi .slt v792 c0_i32_422
  let c0_i32_423 : BitVec 32 := 0#32
  let v795 : BitVec 1 := Scalar.cmpi .slt v791 c0_i32_423
  let v796 : BitVec 1 := Scalar.xori v794 v795
  let c0_i32_421 : BitVec 32 := 0#32
  let v793 : BitVec 1 := Scalar.cmpi .ne v792 c0_i32_421
  let v797 : BitVec 1 := Scalar.andi v796 v793
  let v798 : BitVec 32 := Scalar.addi v792 v791
  let v799 : BitVec 32 := Scalar.select v797 v798 v792
  let c2_i32_424 : BitVec 32 := 2#32
  let v800 : BitVec 1 := Scalar.cmpi .eq v799 c2_i32_424
  let v805 : BitVec 1 := Scalar.andi v789 v800
  let v806 : BitVec 32 := Scalar.extui v805
  let c0_i32_427 : BitVec 32 := 0#32
  let v807 : BitVec 1 := Scalar.cmpi .ne v806 c0_i32_427
  v807

def k0_mult19 (k0_t1 : Fin k0_t1_loop.trips) : BitVec 32 :=
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v786 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  v860
def k0_mult20 (k0_t1 : Fin k0_t1_loop.trips) : BitVec 32 :=
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let c0_i32_446 : BitVec 32 := 0#32
  let v834 : BitVec 1 := Scalar.cmpi .sgt v786 c0_i32_446
  let v835 : BitVec 32 := Scalar.extui v834
  let c0_i32_447 : BitVec 32 := 0#32
  let v836 : BitVec 1 := Scalar.cmpi .slt v786 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v786 c3_i32_445
  let c0_i32_450 : BitVec 32 := 0#32
  let v846 : BitVec 1 := Scalar.cmpi .ne v845 c0_i32_450
  let v847 : BitVec 1 := Scalar.andi v844 v846
  let v833 : BitVec 32 := Scalar.divsi v786 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  v862
def k0_off12 (k0_t1 : Fin k0_t1_loop.trips) : Fin 1 → Nat :=
  let c116_i32_415 : BitVec 32 := 116#32
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let v787 : BitVec 32 := Scalar.addi c116_i32_415 v786
  let c6_i32_416 : BitVec 32 := 6#32
  let v788 : BitVec 32 := Scalar.remsi v787 c6_i32_416
  ![v788.toNat]
def k0_off13 (k0_t1 : Fin k0_t1_loop.trips) : Fin 3 → Nat :=
  let c116_i32_415 : BitVec 32 := 116#32
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let v787 : BitVec 32 := Scalar.addi c116_i32_415 v786
  let c6_i32_416 : BitVec 32 := 6#32
  let v788 : BitVec 32 := Scalar.remsi v787 c6_i32_416
  let c0_i32_460 : BitVec 32 := 0#32
  let c0_i32_461 : BitVec 32 := 0#32
  ![v788.toNat, 0, 0]
def k0_off14 (k0_t1 : Fin k0_t1_loop.trips) : Fin 2 → Nat :=
  let c3_i32_411 : BitVec 32 := 3#32
  let c0_i32_119 : BitVec 32 := 0#32
  let c1_i32_120 : BitVec 32 := 1#32
  let arg9 : BitVec 32 := Scf.iv c0_i32_119 c1_i32_120 k0_t1
  let v783 : BitVec 32 := Scalar.muli c3_i32_411 arg9
  let c3_i32_412 : BitVec 32 := 3#32
  let v784 : BitVec 32 := Scalar.subi v783 c3_i32_412
  let c1_i32_413 : BitVec 32 := 1#32
  let v785 : BitVec 32 := Scalar.addi v784 c1_i32_413
  let c6_i32_414 : BitVec 32 := 6#32
  let v786 : BitVec 32 := Scalar.addi v785 c6_i32_414
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v786 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  let v861 : BitVec 32 := v860
  let c0_i32_446 : BitVec 32 := 0#32
  let v834 : BitVec 1 := Scalar.cmpi .sgt v786 c0_i32_446
  let v835 : BitVec 32 := Scalar.extui v834
  let c0_i32_447 : BitVec 32 := 0#32
  let v836 : BitVec 1 := Scalar.cmpi .slt v786 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v786 c3_i32_445
  let c0_i32_450 : BitVec 32 := 0#32
  let v846 : BitVec 1 := Scalar.cmpi .ne v845 c0_i32_450
  let v847 : BitVec 1 := Scalar.andi v844 v846
  let v833 : BitVec 32 := Scalar.divsi v786 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  let v863 : BitVec 32 := v862
  ![v861.toNat, v863.toNat]
def k0_cond6 (k0_t1 : Fin k0_t1_loop.trips) : BitVec 1 :=
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let c48_i32_434 : BitVec 32 := 48#32
  let v814 : BitVec 1 := Scalar.cmpi .slt v811 c48_i32_434
  let c3_i32_435 : BitVec 32 := 3#32
  let c0_i32_436 : BitVec 32 := 0#32
  let v815 : BitVec 1 := Scalar.cmpi .eq c3_i32_435 c0_i32_436
  let c1_i32_437 : BitVec 32 := 1#32
  let v816 : BitVec 32 := Scalar.select v815 c1_i32_437 c3_i32_435
  let v817 : BitVec 32 := Scalar.remsi v811 v816
  let c0_i32_439 : BitVec 32 := 0#32
  let v819 : BitVec 1 := Scalar.cmpi .slt v817 c0_i32_439
  let c0_i32_440 : BitVec 32 := 0#32
  let v820 : BitVec 1 := Scalar.cmpi .slt v816 c0_i32_440
  let v821 : BitVec 1 := Scalar.xori v819 v820
  let c0_i32_438 : BitVec 32 := 0#32
  let v818 : BitVec 1 := Scalar.cmpi .ne v817 c0_i32_438
  let v822 : BitVec 1 := Scalar.andi v821 v818
  let v823 : BitVec 32 := Scalar.addi v817 v816
  let v824 : BitVec 32 := Scalar.select v822 v823 v817
  let c2_i32_441 : BitVec 32 := 2#32
  let v825 : BitVec 1 := Scalar.cmpi .eq v824 c2_i32_441
  let true_442 : BitVec 1 := 1#1
  let v826 : BitVec 1 := Scalar.xori v825 true_442
  let v827 : BitVec 1 := Scalar.andi v814 v826
  let v828 : BitVec 32 := Scalar.extui v827
  let c0_i32_443 : BitVec 32 := 0#32
  let v829 : BitVec 1 := Scalar.cmpi .ne v828 c0_i32_443
  v829

def k0_mult21 (k0_t1 : Fin k0_t1_loop.trips) : BitVec 32 :=
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v811 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  v860
def k0_mult22 (k0_t1 : Fin k0_t1_loop.trips) : BitVec 32 :=
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let c0_i32_446 : BitVec 32 := 0#32
  let v834 : BitVec 1 := Scalar.cmpi .sgt v811 c0_i32_446
  let v835 : BitVec 32 := Scalar.extui v834
  let c0_i32_447 : BitVec 32 := 0#32
  let v836 : BitVec 1 := Scalar.cmpi .slt v811 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v811 c3_i32_445
  let c0_i32_450 : BitVec 32 := 0#32
  let v846 : BitVec 1 := Scalar.cmpi .ne v845 c0_i32_450
  let v847 : BitVec 1 := Scalar.andi v844 v846
  let v833 : BitVec 32 := Scalar.divsi v811 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  v862
def k0_off15 (k0_t1 : Fin k0_t1_loop.trips) : Fin 1 → Nat :=
  let c116_i32_432 : BitVec 32 := 116#32
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let v812 : BitVec 32 := Scalar.addi c116_i32_432 v811
  let c6_i32_433 : BitVec 32 := 6#32
  let v813 : BitVec 32 := Scalar.remsi v812 c6_i32_433
  ![v813.toNat]
def k0_off16 (k0_t1 : Fin k0_t1_loop.trips) : Fin 3 → Nat :=
  let c116_i32_432 : BitVec 32 := 116#32
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let v812 : BitVec 32 := Scalar.addi c116_i32_432 v811
  let c6_i32_433 : BitVec 32 := 6#32
  let v813 : BitVec 32 := Scalar.remsi v812 c6_i32_433
  let c0_i32_460 : BitVec 32 := 0#32
  let c0_i32_461 : BitVec 32 := 0#32
  ![v813.toNat, 0, 0]
def k0_off17 (k0_t1 : Fin k0_t1_loop.trips) : Fin 2 → Nat :=
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v811 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  let v861 : BitVec 32 := v860
  let c0_i32_446 : BitVec 32 := 0#32
  let v834 : BitVec 1 := Scalar.cmpi .sgt v811 c0_i32_446
  let v835 : BitVec 32 := Scalar.extui v834
  let c0_i32_447 : BitVec 32 := 0#32
  let v836 : BitVec 1 := Scalar.cmpi .slt v811 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v811 c3_i32_445
  let c0_i32_450 : BitVec 32 := 0#32
  let v846 : BitVec 1 := Scalar.cmpi .ne v845 c0_i32_450
  let v847 : BitVec 1 := Scalar.andi v844 v846
  let v833 : BitVec 32 := Scalar.divsi v811 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  let v863 : BitVec 32 := v862
  ![v861.toNat, v863.toNat]
def k0_cond7 (k0_t1 : Fin k0_t1_loop.trips) : BitVec 1 :=
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let c48_i32_434 : BitVec 32 := 48#32
  let v814 : BitVec 1 := Scalar.cmpi .slt v811 c48_i32_434
  let c3_i32_435 : BitVec 32 := 3#32
  let c0_i32_436 : BitVec 32 := 0#32
  let v815 : BitVec 1 := Scalar.cmpi .eq c3_i32_435 c0_i32_436
  let c1_i32_437 : BitVec 32 := 1#32
  let v816 : BitVec 32 := Scalar.select v815 c1_i32_437 c3_i32_435
  let v817 : BitVec 32 := Scalar.remsi v811 v816
  let c0_i32_439 : BitVec 32 := 0#32
  let v819 : BitVec 1 := Scalar.cmpi .slt v817 c0_i32_439
  let c0_i32_440 : BitVec 32 := 0#32
  let v820 : BitVec 1 := Scalar.cmpi .slt v816 c0_i32_440
  let v821 : BitVec 1 := Scalar.xori v819 v820
  let c0_i32_438 : BitVec 32 := 0#32
  let v818 : BitVec 1 := Scalar.cmpi .ne v817 c0_i32_438
  let v822 : BitVec 1 := Scalar.andi v821 v818
  let v823 : BitVec 32 := Scalar.addi v817 v816
  let v824 : BitVec 32 := Scalar.select v822 v823 v817
  let c2_i32_441 : BitVec 32 := 2#32
  let v825 : BitVec 1 := Scalar.cmpi .eq v824 c2_i32_441
  let v830 : BitVec 1 := Scalar.andi v814 v825
  let v831 : BitVec 32 := Scalar.extui v830
  let c0_i32_444 : BitVec 32 := 0#32
  let v832 : BitVec 1 := Scalar.cmpi .ne v831 c0_i32_444
  v832

def k0_mult23 (k0_t1 : Fin k0_t1_loop.trips) : BitVec 32 :=
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v811 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  v860
def k0_mult24 (k0_t1 : Fin k0_t1_loop.trips) : BitVec 32 :=
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let c0_i32_446 : BitVec 32 := 0#32
  let v834 : BitVec 1 := Scalar.cmpi .sgt v811 c0_i32_446
  let v835 : BitVec 32 := Scalar.extui v834
  let c0_i32_447 : BitVec 32 := 0#32
  let v836 : BitVec 1 := Scalar.cmpi .slt v811 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v811 c3_i32_445
  let c0_i32_450 : BitVec 32 := 0#32
  let v846 : BitVec 1 := Scalar.cmpi .ne v845 c0_i32_450
  let v847 : BitVec 1 := Scalar.andi v844 v846
  let v833 : BitVec 32 := Scalar.divsi v811 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  v862
def k0_off18 (k0_t1 : Fin k0_t1_loop.trips) : Fin 1 → Nat :=
  let c116_i32_432 : BitVec 32 := 116#32
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let v812 : BitVec 32 := Scalar.addi c116_i32_432 v811
  let c6_i32_433 : BitVec 32 := 6#32
  let v813 : BitVec 32 := Scalar.remsi v812 c6_i32_433
  ![v813.toNat]
def k0_off19 (k0_t1 : Fin k0_t1_loop.trips) : Fin 3 → Nat :=
  let c116_i32_432 : BitVec 32 := 116#32
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let v812 : BitVec 32 := Scalar.addi c116_i32_432 v811
  let c6_i32_433 : BitVec 32 := 6#32
  let v813 : BitVec 32 := Scalar.remsi v812 c6_i32_433
  let c0_i32_460 : BitVec 32 := 0#32
  let c0_i32_461 : BitVec 32 := 0#32
  ![v813.toNat, 0, 0]
def k0_off20 (k0_t1 : Fin k0_t1_loop.trips) : Fin 2 → Nat :=
  let c3_i32_428 : BitVec 32 := 3#32
  let c0_i32_119 : BitVec 32 := 0#32
  let c1_i32_120 : BitVec 32 := 1#32
  let arg9 : BitVec 32 := Scf.iv c0_i32_119 c1_i32_120 k0_t1
  let v808 : BitVec 32 := Scalar.muli c3_i32_428 arg9
  let c3_i32_429 : BitVec 32 := 3#32
  let v809 : BitVec 32 := Scalar.subi v808 c3_i32_429
  let c2_i32_430 : BitVec 32 := 2#32
  let v810 : BitVec 32 := Scalar.addi v809 c2_i32_430
  let c6_i32_431 : BitVec 32 := 6#32
  let v811 : BitVec 32 := Scalar.addi v810 c6_i32_431
  let c3_i32_452 : BitVec 32 := 3#32
  let c0_i32_453 : BitVec 32 := 0#32
  let v850 : BitVec 1 := Scalar.cmpi .eq c3_i32_452 c0_i32_453
  let c1_i32_454 : BitVec 32 := 1#32
  let v851 : BitVec 32 := Scalar.select v850 c1_i32_454 c3_i32_452
  let v852 : BitVec 32 := Scalar.remsi v811 v851
  let c0_i32_456 : BitVec 32 := 0#32
  let v854 : BitVec 1 := Scalar.cmpi .slt v852 c0_i32_456
  let c0_i32_457 : BitVec 32 := 0#32
  let v855 : BitVec 1 := Scalar.cmpi .slt v851 c0_i32_457
  let v856 : BitVec 1 := Scalar.xori v854 v855
  let c0_i32_455 : BitVec 32 := 0#32
  let v853 : BitVec 1 := Scalar.cmpi .ne v852 c0_i32_455
  let v857 : BitVec 1 := Scalar.andi v856 v853
  let v858 : BitVec 32 := Scalar.addi v852 v851
  let v859 : BitVec 32 := Scalar.select v857 v858 v852
  let c7424_i32_458 : BitVec 32 := 7424#32
  let v860 : BitVec 32 := Scalar.muli v859 c7424_i32_458
  let v861 : BitVec 32 := v860
  let c0_i32_446 : BitVec 32 := 0#32
  let v834 : BitVec 1 := Scalar.cmpi .sgt v811 c0_i32_446
  let v835 : BitVec 32 := Scalar.extui v834
  let c0_i32_447 : BitVec 32 := 0#32
  let v836 : BitVec 1 := Scalar.cmpi .slt v811 c0_i32_447
  let v837 : BitVec 32 := Scalar.extui v836
  let v838 : BitVec 32 := Scalar.subi v835 v837
  let c3_i32_445 : BitVec 32 := 3#32
  let c0_i32_448 : BitVec 32 := 0#32
  let v839 : BitVec 1 := Scalar.cmpi .sgt c3_i32_445 c0_i32_448
  let v840 : BitVec 32 := Scalar.extui v839
  let c0_i32_449 : BitVec 32 := 0#32
  let v841 : BitVec 1 := Scalar.cmpi .slt c3_i32_445 c0_i32_449
  let v842 : BitVec 32 := Scalar.extui v841
  let v843 : BitVec 32 := Scalar.subi v840 v842
  let v844 : BitVec 1 := Scalar.cmpi .ne v838 v843
  let v845 : BitVec 32 := Scalar.remsi v811 c3_i32_445
  let c0_i32_450 : BitVec 32 := 0#32
  let v846 : BitVec 1 := Scalar.cmpi .ne v845 c0_i32_450
  let v847 : BitVec 1 := Scalar.andi v844 v846
  let v833 : BitVec 32 := Scalar.divsi v811 c3_i32_445
  let c1_i32_451 : BitVec 32 := 1#32
  let v848 : BitVec 32 := Scalar.subi v833 c1_i32_451
  let v849 : BitVec 32 := Scalar.select v847 v848 v833
  let c512_i32_459 : BitVec 32 := 512#32
  let v862 : BitVec 32 := Scalar.muli v849 c512_i32_459
  let v863 : BitVec 32 := v862
  ![v861.toNat, v863.toNat]
def k0_mult25 (k0_t1 : Fin k0_t1_loop.trips) : BitVec 32 :=
  let c3_i32_175 : BitVec 32 := 3#32
  let c0_i32_119 : BitVec 32 := 0#32
  let c1_i32_120 : BitVec 32 := 1#32
  let arg9 : BitVec 32 := Scf.iv c0_i32_119 c1_i32_120 k0_t1
  let v291 : BitVec 32 := Scalar.muli c3_i32_175 arg9
  let c0_i32_176 : BitVec 32 := 0#32
  let v292 : BitVec 32 := Scalar.addi v291 c0_i32_176
  let c3_i32_184 : BitVec 32 := 3#32
  let c0_i32_185 : BitVec 32 := 0#32
  let v310 : BitVec 1 := Scalar.cmpi .eq c3_i32_184 c0_i32_185
  let c1_i32_186 : BitVec 32 := 1#32
  let v311 : BitVec 32 := Scalar.select v310 c1_i32_186 c3_i32_184
  let v312 : BitVec 32 := Scalar.remsi v292 v311
  let c0_i32_188 : BitVec 32 := 0#32
  let v314 : BitVec 1 := Scalar.cmpi .slt v312 c0_i32_188
  let c0_i32_189 : BitVec 32 := 0#32
  let v315 : BitVec 1 := Scalar.cmpi .slt v311 c0_i32_189
  let v316 : BitVec 1 := Scalar.xori v314 v315
  let c0_i32_187 : BitVec 32 := 0#32
  let v313 : BitVec 1 := Scalar.cmpi .ne v312 c0_i32_187
  let v317 : BitVec 1 := Scalar.andi v316 v313
  let v318 : BitVec 32 := Scalar.addi v312 v311
  let v319 : BitVec 32 := Scalar.select v317 v318 v312
  let c7424_i32_190 : BitVec 32 := 7424#32
  let v320 : BitVec 32 := Scalar.muli v319 c7424_i32_190
  v320
def k0_mult26 (k0_t1 : Fin k0_t1_loop.trips) : BitVec 32 :=
  let c3_i32_175 : BitVec 32 := 3#32
  let c0_i32_119 : BitVec 32 := 0#32
  let c1_i32_120 : BitVec 32 := 1#32
  let arg9 : BitVec 32 := Scf.iv c0_i32_119 c1_i32_120 k0_t1
  let v291 : BitVec 32 := Scalar.muli c3_i32_175 arg9
  let c0_i32_176 : BitVec 32 := 0#32
  let v292 : BitVec 32 := Scalar.addi v291 c0_i32_176
  let c0_i32_178 : BitVec 32 := 0#32
  let v294 : BitVec 1 := Scalar.cmpi .sgt v292 c0_i32_178
  let v295 : BitVec 32 := Scalar.extui v294
  let c0_i32_179 : BitVec 32 := 0#32
  let v296 : BitVec 1 := Scalar.cmpi .slt v292 c0_i32_179
  let v297 : BitVec 32 := Scalar.extui v296
  let v298 : BitVec 32 := Scalar.subi v295 v297
  let c3_i32_177 : BitVec 32 := 3#32
  let c0_i32_180 : BitVec 32 := 0#32
  let v299 : BitVec 1 := Scalar.cmpi .sgt c3_i32_177 c0_i32_180
  let v300 : BitVec 32 := Scalar.extui v299
  let c0_i32_181 : BitVec 32 := 0#32
  let v301 : BitVec 1 := Scalar.cmpi .slt c3_i32_177 c0_i32_181
  let v302 : BitVec 32 := Scalar.extui v301
  let v303 : BitVec 32 := Scalar.subi v300 v302
  let v304 : BitVec 1 := Scalar.cmpi .ne v298 v303
  let v305 : BitVec 32 := Scalar.remsi v292 c3_i32_177
  let c0_i32_182 : BitVec 32 := 0#32
  let v306 : BitVec 1 := Scalar.cmpi .ne v305 c0_i32_182
  let v307 : BitVec 1 := Scalar.andi v304 v306
  let v293 : BitVec 32 := Scalar.divsi v292 c3_i32_177
  let c1_i32_183 : BitVec 32 := 1#32
  let v308 : BitVec 32 := Scalar.subi v293 c1_i32_183
  let v309 : BitVec 32 := Scalar.select v307 v308 v293
  let c512_i32_191 : BitVec 32 := 512#32
  let v322 : BitVec 32 := Scalar.muli v309 c512_i32_191
  v322
def k0_off21 (k0_t1 : Fin k0_t1_loop.trips) (c0_i32_172 : BitVec 32) : Fin 1 → Nat :=
  let c116_i32_173 : BitVec 32 := 116#32
  let c3_i32_171 : BitVec 32 := 3#32
  let c0_i32_119 : BitVec 32 := 0#32
  let c1_i32_120 : BitVec 32 := 1#32
  let arg9 : BitVec 32 := Scf.iv c0_i32_119 c1_i32_120 k0_t1
  let v287 : BitVec 32 := Scalar.muli c3_i32_171 arg9
  let v288 : BitVec 32 := Scalar.addi v287 c0_i32_172
  let v289 : BitVec 32 := Scalar.addi c116_i32_173 v288
  let c6_i32_174 : BitVec 32 := 6#32
  let v290 : BitVec 32 := Scalar.remsi v289 c6_i32_174
  ![v290.toNat]
def k0_off22 (k0_t1 : Fin k0_t1_loop.trips) (c0_i32_172 : BitVec 32) : Fin 3 → Nat :=
  let c116_i32_173 : BitVec 32 := 116#32
  let c3_i32_171 : BitVec 32 := 3#32
  let c0_i32_119 : BitVec 32 := 0#32
  let c1_i32_120 : BitVec 32 := 1#32
  let arg9 : BitVec 32 := Scf.iv c0_i32_119 c1_i32_120 k0_t1
  let v287 : BitVec 32 := Scalar.muli c3_i32_171 arg9
  let v288 : BitVec 32 := Scalar.addi v287 c0_i32_172
  let v289 : BitVec 32 := Scalar.addi c116_i32_173 v288
  let c6_i32_174 : BitVec 32 := 6#32
  let v290 : BitVec 32 := Scalar.remsi v289 c6_i32_174
  let c0_i32_192 : BitVec 32 := 0#32
  let c0_i32_193 : BitVec 32 := 0#32
  ![v290.toNat, 0, 0]
def k0_off23 (k0_t1 : Fin k0_t1_loop.trips) (c0_i32_176 : BitVec 32) : Fin 2 → Nat :=
  let c3_i32_175 : BitVec 32 := 3#32
  let c0_i32_119 : BitVec 32 := 0#32
  let c1_i32_120 : BitVec 32 := 1#32
  let arg9 : BitVec 32 := Scf.iv c0_i32_119 c1_i32_120 k0_t1
  let v291 : BitVec 32 := Scalar.muli c3_i32_175 arg9
  let v292 : BitVec 32 := Scalar.addi v291 c0_i32_176
  let c3_i32_184 : BitVec 32 := 3#32
  let c0_i32_185 : BitVec 32 := 0#32
  let v310 : BitVec 1 := Scalar.cmpi .eq c3_i32_184 c0_i32_185
  let c1_i32_186 : BitVec 32 := 1#32
  let v311 : BitVec 32 := Scalar.select v310 c1_i32_186 c3_i32_184
  let v312 : BitVec 32 := Scalar.remsi v292 v311
  let c0_i32_188 : BitVec 32 := 0#32
  let v314 : BitVec 1 := Scalar.cmpi .slt v312 c0_i32_188
  let c0_i32_189 : BitVec 32 := 0#32
  let v315 : BitVec 1 := Scalar.cmpi .slt v311 c0_i32_189
  let v316 : BitVec 1 := Scalar.xori v314 v315
  let c0_i32_187 : BitVec 32 := 0#32
  let v313 : BitVec 1 := Scalar.cmpi .ne v312 c0_i32_187
  let v317 : BitVec 1 := Scalar.andi v316 v313
  let v318 : BitVec 32 := Scalar.addi v312 v311
  let v319 : BitVec 32 := Scalar.select v317 v318 v312
  let c7424_i32_190 : BitVec 32 := 7424#32
  let v320 : BitVec 32 := Scalar.muli v319 c7424_i32_190
  let v321 : BitVec 32 := v320
  let c0_i32_178 : BitVec 32 := 0#32
  let v294 : BitVec 1 := Scalar.cmpi .sgt v292 c0_i32_178
  let v295 : BitVec 32 := Scalar.extui v294
  let c0_i32_179 : BitVec 32 := 0#32
  let v296 : BitVec 1 := Scalar.cmpi .slt v292 c0_i32_179
  let v297 : BitVec 32 := Scalar.extui v296
  let v298 : BitVec 32 := Scalar.subi v295 v297
  let c3_i32_177 : BitVec 32 := 3#32
  let c0_i32_180 : BitVec 32 := 0#32
  let v299 : BitVec 1 := Scalar.cmpi .sgt c3_i32_177 c0_i32_180
  let v300 : BitVec 32 := Scalar.extui v299
  let c0_i32_181 : BitVec 32 := 0#32
  let v301 : BitVec 1 := Scalar.cmpi .slt c3_i32_177 c0_i32_181
  let v302 : BitVec 32 := Scalar.extui v301
  let v303 : BitVec 32 := Scalar.subi v300 v302
  let v304 : BitVec 1 := Scalar.cmpi .ne v298 v303
  let v305 : BitVec 32 := Scalar.remsi v292 c3_i32_177
  let c0_i32_182 : BitVec 32 := 0#32
  let v306 : BitVec 1 := Scalar.cmpi .ne v305 c0_i32_182
  let v307 : BitVec 1 := Scalar.andi v304 v306
  let v293 : BitVec 32 := Scalar.divsi v292 c3_i32_177
  let c1_i32_183 : BitVec 32 := 1#32
  let v308 : BitVec 32 := Scalar.subi v293 c1_i32_183
  let v309 : BitVec 32 := Scalar.select v307 v308 v293
  let c512_i32_191 : BitVec 32 := 512#32
  let v322 : BitVec 32 := Scalar.muli v309 c512_i32_191
  let v323 : BitVec 32 := v322
  ![v321.toNat, v323.toNat]
def k0_off24 (k0_t1 : Fin k0_t1_loop.trips) (c0_i32_172 : BitVec 32) : Fin 3 → Nat :=
  let c116_i32_173 : BitVec 32 := 116#32
  let c3_i32_171 : BitVec 32 := 3#32
  let c0_i32_119 : BitVec 32 := 0#32
  let c1_i32_120 : BitVec 32 := 1#32
  let arg9 : BitVec 32 := Scf.iv c0_i32_119 c1_i32_120 k0_t1
  let v287 : BitVec 32 := Scalar.muli c3_i32_171 arg9
  let v288 : BitVec 32 := Scalar.addi v287 c0_i32_172
  let v289 : BitVec 32 := Scalar.addi c116_i32_173 v288
  let c6_i32_174 : BitVec 32 := 6#32
  let v290 : BitVec 32 := Scalar.remsi v289 c6_i32_174
  let v330 : Index := Scalar.indexCast v290
  let c0_196 : Index := 0#32
  let c0_197 : Index := 0#32
  ![v330.toNat, 0, 0]
def k0_mult27 (k0_t1 : Fin k0_t1_loop.trips) : BitVec 32 :=
  let c3_i32_203 : BitVec 32 := 3#32
  let c0_i32_119 : BitVec 32 := 0#32
  let c1_i32_120 : BitVec 32 := 1#32
  let arg9 : BitVec 32 := Scf.iv c0_i32_119 c1_i32_120 k0_t1
  let v338 : BitVec 32 := Scalar.muli c3_i32_203 arg9
  let c1_i32_204 : BitVec 32 := 1#32
  let v339 : BitVec 32 := Scalar.addi v338 c1_i32_204
  let c3_i32_212 : BitVec 32 := 3#32
  let c0_i32_213 : BitVec 32 := 0#32
  let v357 : BitVec 1 := Scalar.cmpi .eq c3_i32_212 c0_i32_213
  let c1_i32_214 : BitVec 32 := 1#32
  let v358 : BitVec 32 := Scalar.select v357 c1_i32_214 c3_i32_212
  let v359 : BitVec 32 := Scalar.remsi v339 v358
  let c0_i32_216 : BitVec 32 := 0#32
  let v361 : BitVec 1 := Scalar.cmpi .slt v359 c0_i32_216
  let c0_i32_217 : BitVec 32 := 0#32
  let v362 : BitVec 1 := Scalar.cmpi .slt v358 c0_i32_217
  let v363 : BitVec 1 := Scalar.xori v361 v362
  let c0_i32_215 : BitVec 32 := 0#32
  let v360 : BitVec 1 := Scalar.cmpi .ne v359 c0_i32_215
  let v364 : BitVec 1 := Scalar.andi v363 v360
  let v365 : BitVec 32 := Scalar.addi v359 v358
  let v366 : BitVec 32 := Scalar.select v364 v365 v359
  let c7424_i32_218 : BitVec 32 := 7424#32
  let v367 : BitVec 32 := Scalar.muli v366 c7424_i32_218
  v367
def k0_mult28 (k0_t1 : Fin k0_t1_loop.trips) : BitVec 32 :=
  let c3_i32_203 : BitVec 32 := 3#32
  let c0_i32_119 : BitVec 32 := 0#32
  let c1_i32_120 : BitVec 32 := 1#32
  let arg9 : BitVec 32 := Scf.iv c0_i32_119 c1_i32_120 k0_t1
  let v338 : BitVec 32 := Scalar.muli c3_i32_203 arg9
  let c1_i32_204 : BitVec 32 := 1#32
  let v339 : BitVec 32 := Scalar.addi v338 c1_i32_204
  let c0_i32_206 : BitVec 32 := 0#32
  let v341 : BitVec 1 := Scalar.cmpi .sgt v339 c0_i32_206
  let v342 : BitVec 32 := Scalar.extui v341
  let c0_i32_207 : BitVec 32 := 0#32
  let v343 : BitVec 1 := Scalar.cmpi .slt v339 c0_i32_207
  let v344 : BitVec 32 := Scalar.extui v343
  let v345 : BitVec 32 := Scalar.subi v342 v344
  let c3_i32_205 : BitVec 32 := 3#32
  let c0_i32_208 : BitVec 32 := 0#32
  let v346 : BitVec 1 := Scalar.cmpi .sgt c3_i32_205 c0_i32_208
  let v347 : BitVec 32 := Scalar.extui v346
  let c0_i32_209 : BitVec 32 := 0#32
  let v348 : BitVec 1 := Scalar.cmpi .slt c3_i32_205 c0_i32_209
  let v349 : BitVec 32 := Scalar.extui v348
  let v350 : BitVec 32 := Scalar.subi v347 v349
  let v351 : BitVec 1 := Scalar.cmpi .ne v345 v350
  let v352 : BitVec 32 := Scalar.remsi v339 c3_i32_205
  let c0_i32_210 : BitVec 32 := 0#32
  let v353 : BitVec 1 := Scalar.cmpi .ne v352 c0_i32_210
  let v354 : BitVec 1 := Scalar.andi v351 v353
  let v340 : BitVec 32 := Scalar.divsi v339 c3_i32_205
  let c1_i32_211 : BitVec 32 := 1#32
  let v355 : BitVec 32 := Scalar.subi v340 c1_i32_211
  let v356 : BitVec 32 := Scalar.select v354 v355 v340
  let c512_i32_219 : BitVec 32 := 512#32
  let v369 : BitVec 32 := Scalar.muli v356 c512_i32_219
  v369
def k0_mult29 (k0_t1 : Fin k0_t1_loop.trips) : BitVec 32 :=
  let c3_i32_230 : BitVec 32 := 3#32
  let c0_i32_119 : BitVec 32 := 0#32
  let c1_i32_120 : BitVec 32 := 1#32
  let arg9 : BitVec 32 := Scf.iv c0_i32_119 c1_i32_120 k0_t1
  let v386 : BitVec 32 := Scalar.muli c3_i32_230 arg9
  let c2_i32_231 : BitVec 32 := 2#32
  let v387 : BitVec 32 := Scalar.addi v386 c2_i32_231
  let c3_i32_239 : BitVec 32 := 3#32
  let c0_i32_240 : BitVec 32 := 0#32
  let v405 : BitVec 1 := Scalar.cmpi .eq c3_i32_239 c0_i32_240
  let c1_i32_241 : BitVec 32 := 1#32
  let v406 : BitVec 32 := Scalar.select v405 c1_i32_241 c3_i32_239
  let v407 : BitVec 32 := Scalar.remsi v387 v406
  let c0_i32_243 : BitVec 32 := 0#32
  let v409 : BitVec 1 := Scalar.cmpi .slt v407 c0_i32_243
  let c0_i32_244 : BitVec 32 := 0#32
  let v410 : BitVec 1 := Scalar.cmpi .slt v406 c0_i32_244
  let v411 : BitVec 1 := Scalar.xori v409 v410
  let c0_i32_242 : BitVec 32 := 0#32
  let v408 : BitVec 1 := Scalar.cmpi .ne v407 c0_i32_242
  let v412 : BitVec 1 := Scalar.andi v411 v408
  let v413 : BitVec 32 := Scalar.addi v407 v406
  let v414 : BitVec 32 := Scalar.select v412 v413 v407
  let c7424_i32_245 : BitVec 32 := 7424#32
  let v415 : BitVec 32 := Scalar.muli v414 c7424_i32_245
  v415
def k0_mult30 (k0_t1 : Fin k0_t1_loop.trips) : BitVec 32 :=
  let c3_i32_230 : BitVec 32 := 3#32
  let c0_i32_119 : BitVec 32 := 0#32
  let c1_i32_120 : BitVec 32 := 1#32
  let arg9 : BitVec 32 := Scf.iv c0_i32_119 c1_i32_120 k0_t1
  let v386 : BitVec 32 := Scalar.muli c3_i32_230 arg9
  let c2_i32_231 : BitVec 32 := 2#32
  let v387 : BitVec 32 := Scalar.addi v386 c2_i32_231
  let c0_i32_233 : BitVec 32 := 0#32
  let v389 : BitVec 1 := Scalar.cmpi .sgt v387 c0_i32_233
  let v390 : BitVec 32 := Scalar.extui v389
  let c0_i32_234 : BitVec 32 := 0#32
  let v391 : BitVec 1 := Scalar.cmpi .slt v387 c0_i32_234
  let v392 : BitVec 32 := Scalar.extui v391
  let v393 : BitVec 32 := Scalar.subi v390 v392
  let c3_i32_232 : BitVec 32 := 3#32
  let c0_i32_235 : BitVec 32 := 0#32
  let v394 : BitVec 1 := Scalar.cmpi .sgt c3_i32_232 c0_i32_235
  let v395 : BitVec 32 := Scalar.extui v394
  let c0_i32_236 : BitVec 32 := 0#32
  let v396 : BitVec 1 := Scalar.cmpi .slt c3_i32_232 c0_i32_236
  let v397 : BitVec 32 := Scalar.extui v396
  let v398 : BitVec 32 := Scalar.subi v395 v397
  let v399 : BitVec 1 := Scalar.cmpi .ne v393 v398
  let v400 : BitVec 32 := Scalar.remsi v387 c3_i32_232
  let c0_i32_237 : BitVec 32 := 0#32
  let v401 : BitVec 1 := Scalar.cmpi .ne v400 c0_i32_237
  let v402 : BitVec 1 := Scalar.andi v399 v401
  let v388 : BitVec 32 := Scalar.divsi v387 c3_i32_232
  let c1_i32_238 : BitVec 32 := 1#32
  let v403 : BitVec 32 := Scalar.subi v388 c1_i32_238
  let v404 : BitVec 32 := Scalar.select v402 v403 v388
  let c512_i32_246 : BitVec 32 := 512#32
  let v417 : BitVec 32 := Scalar.muli v404 c512_i32_246
  v417
def k0_off25 (k0_t1 : Fin k0_t1_loop.trips) : Fin 3 → Nat :=
  let c116_i32_228 : BitVec 32 := 116#32
  let c3_i32_226 : BitVec 32 := 3#32
  let c0_i32_119 : BitVec 32 := 0#32
  let c1_i32_120 : BitVec 32 := 1#32
  let arg9 : BitVec 32 := Scf.iv c0_i32_119 c1_i32_120 k0_t1
  let v382 : BitVec 32 := Scalar.muli c3_i32_226 arg9
  let c2_i32_227 : BitVec 32 := 2#32
  let v383 : BitVec 32 := Scalar.addi v382 c2_i32_227
  let v384 : BitVec 32 := Scalar.addi c116_i32_228 v383
  let c6_i32_229 : BitVec 32 := 6#32
  let v385 : BitVec 32 := Scalar.remsi v384 c6_i32_229
  let c0_i32_247 : BitVec 32 := 0#32
  let c0_i32_248 : BitVec 32 := 0#32
  ![v385.toNat, 0, 0]
def k0_off26 (k0_t1 : Fin k0_t1_loop.trips) : Fin 2 → Nat :=
  let c3_i32_230 : BitVec 32 := 3#32
  let c0_i32_119 : BitVec 32 := 0#32
  let c1_i32_120 : BitVec 32 := 1#32
  let arg9 : BitVec 32 := Scf.iv c0_i32_119 c1_i32_120 k0_t1
  let v386 : BitVec 32 := Scalar.muli c3_i32_230 arg9
  let c2_i32_231 : BitVec 32 := 2#32
  let v387 : BitVec 32 := Scalar.addi v386 c2_i32_231
  let c3_i32_239 : BitVec 32 := 3#32
  let c0_i32_240 : BitVec 32 := 0#32
  let v405 : BitVec 1 := Scalar.cmpi .eq c3_i32_239 c0_i32_240
  let c1_i32_241 : BitVec 32 := 1#32
  let v406 : BitVec 32 := Scalar.select v405 c1_i32_241 c3_i32_239
  let v407 : BitVec 32 := Scalar.remsi v387 v406
  let c0_i32_243 : BitVec 32 := 0#32
  let v409 : BitVec 1 := Scalar.cmpi .slt v407 c0_i32_243
  let c0_i32_244 : BitVec 32 := 0#32
  let v410 : BitVec 1 := Scalar.cmpi .slt v406 c0_i32_244
  let v411 : BitVec 1 := Scalar.xori v409 v410
  let c0_i32_242 : BitVec 32 := 0#32
  let v408 : BitVec 1 := Scalar.cmpi .ne v407 c0_i32_242
  let v412 : BitVec 1 := Scalar.andi v411 v408
  let v413 : BitVec 32 := Scalar.addi v407 v406
  let v414 : BitVec 32 := Scalar.select v412 v413 v407
  let c7424_i32_245 : BitVec 32 := 7424#32
  let v415 : BitVec 32 := Scalar.muli v414 c7424_i32_245
  let v416 : BitVec 32 := v415
  let c0_i32_233 : BitVec 32 := 0#32
  let v389 : BitVec 1 := Scalar.cmpi .sgt v387 c0_i32_233
  let v390 : BitVec 32 := Scalar.extui v389
  let c0_i32_234 : BitVec 32 := 0#32
  let v391 : BitVec 1 := Scalar.cmpi .slt v387 c0_i32_234
  let v392 : BitVec 32 := Scalar.extui v391
  let v393 : BitVec 32 := Scalar.subi v390 v392
  let c3_i32_232 : BitVec 32 := 3#32
  let c0_i32_235 : BitVec 32 := 0#32
  let v394 : BitVec 1 := Scalar.cmpi .sgt c3_i32_232 c0_i32_235
  let v395 : BitVec 32 := Scalar.extui v394
  let c0_i32_236 : BitVec 32 := 0#32
  let v396 : BitVec 1 := Scalar.cmpi .slt c3_i32_232 c0_i32_236
  let v397 : BitVec 32 := Scalar.extui v396
  let v398 : BitVec 32 := Scalar.subi v395 v397
  let v399 : BitVec 1 := Scalar.cmpi .ne v393 v398
  let v400 : BitVec 32 := Scalar.remsi v387 c3_i32_232
  let c0_i32_237 : BitVec 32 := 0#32
  let v401 : BitVec 1 := Scalar.cmpi .ne v400 c0_i32_237
  let v402 : BitVec 1 := Scalar.andi v399 v401
  let v388 : BitVec 32 := Scalar.divsi v387 c3_i32_232
  let c1_i32_238 : BitVec 32 := 1#32
  let v403 : BitVec 32 := Scalar.subi v388 c1_i32_238
  let v404 : BitVec 32 := Scalar.select v402 v403 v388
  let c512_i32_246 : BitVec 32 := 512#32
  let v417 : BitVec 32 := Scalar.muli v404 c512_i32_246
  let v418 : BitVec 32 := v417
  ![v416.toNat, v418.toNat]
def k0_off27 (k0_t1 : Fin k0_t1_loop.trips) : Fin 3 → Nat :=
  let c116_i32_228 : BitVec 32 := 116#32
  let c3_i32_226 : BitVec 32 := 3#32
  let c0_i32_119 : BitVec 32 := 0#32
  let c1_i32_120 : BitVec 32 := 1#32
  let arg9 : BitVec 32 := Scf.iv c0_i32_119 c1_i32_120 k0_t1
  let v382 : BitVec 32 := Scalar.muli c3_i32_226 arg9
  let c2_i32_227 : BitVec 32 := 2#32
  let v383 : BitVec 32 := Scalar.addi v382 c2_i32_227
  let v384 : BitVec 32 := Scalar.addi c116_i32_228 v383
  let c6_i32_229 : BitVec 32 := 6#32
  let v385 : BitVec 32 := Scalar.remsi v384 c6_i32_229
  let v425 : Index := Scalar.indexCast v385
  let c0_250 : Index := 0#32
  let c0_251 : Index := 0#32
  ![v425.toNat, 0, 0]
def k0_off28 (k0_t1 : Fin k0_t1_loop.trips) (c0_i32_254 : BitVec 32) : Fin 2 → Nat :=
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let v431 : BitVec 32 := Scalar.addi v430 c0_i32_254
  let v432 : Index := Scalar.indexCast v431
  let c0_255 : Index := 0#32
  ![v432.toNat, 0]
def k0_mult31 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let c0_i32_254 : BitVec 32 := 0#32
  let v431 : BitVec 32 := Scalar.addi v430 c0_i32_254
  let c128_i32 : BitVec 32 := 128#32
  let v435 : BitVec 32 := Scalar.muli v431 c128_i32
  v435
def k0_mult32 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let c0_i32_254 : BitVec 32 := 0#32
  let v431 : BitVec 32 := Scalar.addi v430 c0_i32_254
  let c192_i32 : BitVec 32 := 192#32
  let v443 : BitVec 32 := Scalar.muli v431 c192_i32
  let c0_i32_258 : BitVec 32 := 0#32
  let v444 : BitVec 32 := Scalar.addi v443 c0_i32_258
  v444
def k0_off29 (k0_t1 : Fin k0_t1_loop.trips) (c0_i32_254 : BitVec 32) (c0_i32_258 : BitVec 32) : Fin 2 → Nat :=
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let v431 : BitVec 32 := Scalar.addi v430 c0_i32_254
  let c192_i32 : BitVec 32 := 192#32
  let v443 : BitVec 32 := Scalar.muli v431 c192_i32
  let v444 : BitVec 32 := Scalar.addi v443 c0_i32_258
  let v445 : BitVec 32 := v444
  let v446 : Index := Scalar.indexCast v445
  let c0_259 : Index := 0#32
  ![v446.toNat, 0]
def k0_off30 (k0_t1 : Fin k0_t1_loop.trips) (c0_i32_254 : BitVec 32) : Fin 3 → Nat :=
  let c0_264 : Index := 0#32
  let c0_265 : Index := 0#32
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let v431 : BitVec 32 := Scalar.addi v430 c0_i32_254
  let c128_i32 : BitVec 32 := 128#32
  let v435 : BitVec 32 := Scalar.muli v431 c128_i32
  let v436 : BitVec 32 := v435
  let v458 : Index := Scalar.indexCast v436
  ![0, 0, v458.toNat]
def k0_mult33 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let c0_i32_254 : BitVec 32 := 0#32
  let v431 : BitVec 32 := Scalar.addi v430 c0_i32_254
  let c192_i32_267 : BitVec 32 := 192#32
  let v468 : BitVec 32 := Scalar.muli v431 c192_i32_267
  let c64_i32 : BitVec 32 := 64#32
  let v469 : BitVec 32 := Scalar.addi v468 c64_i32
  v469
def k0_off31 (k0_t1 : Fin k0_t1_loop.trips) (c0_i32_254 : BitVec 32) : Fin 3 → Nat :=
  let c1 : Index := 1#32
  let c0_273 : Index := 0#32
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let v431 : BitVec 32 := Scalar.addi v430 c0_i32_254
  let c128_i32 : BitVec 32 := 128#32
  let v435 : BitVec 32 := Scalar.muli v431 c128_i32
  let v436 : BitVec 32 := v435
  let v483 : Index := Scalar.indexCast v436
  ![1, 0, v483.toNat]
def k0_mult34 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let c0_i32_254 : BitVec 32 := 0#32
  let v431 : BitVec 32 := Scalar.addi v430 c0_i32_254
  let c192_i32_275 : BitVec 32 := 192#32
  let v493 : BitVec 32 := Scalar.muli v431 c192_i32_275
  let c128_i32_276 : BitVec 32 := 128#32
  let v494 : BitVec 32 := Scalar.addi v493 c128_i32_276
  v494
def k0_off32 (k0_t1 : Fin k0_t1_loop.trips) (c0_i32_254 : BitVec 32) : Fin 3 → Nat :=
  let c2 : Index := 2#32
  let c0_282 : Index := 0#32
  let c0_i32_119 : BitVec 32 := 0#32
  let c1_i32_120 : BitVec 32 := 1#32
  let arg9 : BitVec 32 := Scf.iv c0_i32_119 c1_i32_120 k0_t1
  let c4_i32_253 : BitVec 32 := 4#32
  let v430 : BitVec 32 := Scalar.muli arg9 c4_i32_253
  let v431 : BitVec 32 := Scalar.addi v430 c0_i32_254
  let c128_i32 : BitVec 32 := 128#32
  let v435 : BitVec 32 := Scalar.muli v431 c128_i32
  let v436 : BitVec 32 := v435
  let v508 : Index := Scalar.indexCast v436
  ![2, 0, v508.toNat]
def k0_mult35 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_283 : BitVec 32 := 4#32
  let v512 : BitVec 32 := Scalar.muli arg9 c4_i32_283
  let c1_i32_284 : BitVec 32 := 1#32
  let v513 : BitVec 32 := Scalar.addi v512 c1_i32_284
  let c128_i32_286 : BitVec 32 := 128#32
  let v517 : BitVec 32 := Scalar.muli v513 c128_i32_286
  v517
def k0_mult36 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_283 : BitVec 32 := 4#32
  let v512 : BitVec 32 := Scalar.muli arg9 c4_i32_283
  let c1_i32_284 : BitVec 32 := 1#32
  let v513 : BitVec 32 := Scalar.addi v512 c1_i32_284
  let c192_i32_289 : BitVec 32 := 192#32
  let v525 : BitVec 32 := Scalar.muli v513 c192_i32_289
  let c0_i32_290 : BitVec 32 := 0#32
  let v526 : BitVec 32 := Scalar.addi v525 c0_i32_290
  v526
def k0_mult37 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_283 : BitVec 32 := 4#32
  let v512 : BitVec 32 := Scalar.muli arg9 c4_i32_283
  let c1_i32_284 : BitVec 32 := 1#32
  let v513 : BitVec 32 := Scalar.addi v512 c1_i32_284
  let c192_i32_300 : BitVec 32 := 192#32
  let v550 : BitVec 32 := Scalar.muli v513 c192_i32_300
  let c64_i32_301 : BitVec 32 := 64#32
  let v551 : BitVec 32 := Scalar.addi v550 c64_i32_301
  v551
def k0_mult38 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_283 : BitVec 32 := 4#32
  let v512 : BitVec 32 := Scalar.muli arg9 c4_i32_283
  let c1_i32_284 : BitVec 32 := 1#32
  let v513 : BitVec 32 := Scalar.addi v512 c1_i32_284
  let c192_i32_311 : BitVec 32 := 192#32
  let v575 : BitVec 32 := Scalar.muli v513 c192_i32_311
  let c128_i32_312 : BitVec 32 := 128#32
  let v576 : BitVec 32 := Scalar.addi v575 c128_i32_312
  v576
def k0_mult39 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_320 : BitVec 32 := 4#32
  let v594 : BitVec 32 := Scalar.muli arg9 c4_i32_320
  let c2_i32_321 : BitVec 32 := 2#32
  let v595 : BitVec 32 := Scalar.addi v594 c2_i32_321
  let c128_i32_323 : BitVec 32 := 128#32
  let v599 : BitVec 32 := Scalar.muli v595 c128_i32_323
  v599
def k0_mult40 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_320 : BitVec 32 := 4#32
  let v594 : BitVec 32 := Scalar.muli arg9 c4_i32_320
  let c2_i32_321 : BitVec 32 := 2#32
  let v595 : BitVec 32 := Scalar.addi v594 c2_i32_321
  let c192_i32_326 : BitVec 32 := 192#32
  let v607 : BitVec 32 := Scalar.muli v595 c192_i32_326
  let c0_i32_327 : BitVec 32 := 0#32
  let v608 : BitVec 32 := Scalar.addi v607 c0_i32_327
  v608
def k0_mult41 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_320 : BitVec 32 := 4#32
  let v594 : BitVec 32 := Scalar.muli arg9 c4_i32_320
  let c2_i32_321 : BitVec 32 := 2#32
  let v595 : BitVec 32 := Scalar.addi v594 c2_i32_321
  let c192_i32_337 : BitVec 32 := 192#32
  let v632 : BitVec 32 := Scalar.muli v595 c192_i32_337
  let c64_i32_338 : BitVec 32 := 64#32
  let v633 : BitVec 32 := Scalar.addi v632 c64_i32_338
  v633
def k0_mult42 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_320 : BitVec 32 := 4#32
  let v594 : BitVec 32 := Scalar.muli arg9 c4_i32_320
  let c2_i32_321 : BitVec 32 := 2#32
  let v595 : BitVec 32 := Scalar.addi v594 c2_i32_321
  let c192_i32_348 : BitVec 32 := 192#32
  let v657 : BitVec 32 := Scalar.muli v595 c192_i32_348
  let c128_i32_349 : BitVec 32 := 128#32
  let v658 : BitVec 32 := Scalar.addi v657 c128_i32_349
  v658
def k0_mult43 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_357 : BitVec 32 := 4#32
  let v676 : BitVec 32 := Scalar.muli arg9 c4_i32_357
  let c3_i32_358 : BitVec 32 := 3#32
  let v677 : BitVec 32 := Scalar.addi v676 c3_i32_358
  let c128_i32_360 : BitVec 32 := 128#32
  let v681 : BitVec 32 := Scalar.muli v677 c128_i32_360
  v681
def k0_mult44 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_357 : BitVec 32 := 4#32
  let v676 : BitVec 32 := Scalar.muli arg9 c4_i32_357
  let c3_i32_358 : BitVec 32 := 3#32
  let v677 : BitVec 32 := Scalar.addi v676 c3_i32_358
  let c192_i32_363 : BitVec 32 := 192#32
  let v689 : BitVec 32 := Scalar.muli v677 c192_i32_363
  let c0_i32_364 : BitVec 32 := 0#32
  let v690 : BitVec 32 := Scalar.addi v689 c0_i32_364
  v690
def k0_mult45 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_357 : BitVec 32 := 4#32
  let v676 : BitVec 32 := Scalar.muli arg9 c4_i32_357
  let c3_i32_358 : BitVec 32 := 3#32
  let v677 : BitVec 32 := Scalar.addi v676 c3_i32_358
  let c192_i32_374 : BitVec 32 := 192#32
  let v714 : BitVec 32 := Scalar.muli v677 c192_i32_374
  let c64_i32_375 : BitVec 32 := 64#32
  let v715 : BitVec 32 := Scalar.addi v714 c64_i32_375
  v715
def k0_mult46 (k0_t1 : Fin k0_t1_loop.trips) : BitVec 32 :=
  let c0_i32_119 : BitVec 32 := 0#32
  let c1_i32_120 : BitVec 32 := 1#32
  let arg9 : BitVec 32 := Scf.iv c0_i32_119 c1_i32_120 k0_t1
  let c4_i32_357 : BitVec 32 := 4#32
  let v676 : BitVec 32 := Scalar.muli arg9 c4_i32_357
  let c3_i32_358 : BitVec 32 := 3#32
  let v677 : BitVec 32 := Scalar.addi v676 c3_i32_358
  let c192_i32_385 : BitVec 32 := 192#32
  let v739 : BitVec 32 := Scalar.muli v677 c192_i32_385
  let c128_i32_386 : BitVec 32 := 128#32
  let v740 : BitVec 32 := Scalar.addi v739 c128_i32_386
  v740
def k0_cond8 : BitVec 1 :=
  let c51_i32_122 : BitVec 32 := 51#32
  let c48_i32 : BitVec 32 := 48#32
  let v223 : BitVec 1 := Scalar.cmpi .slt c51_i32_122 c48_i32
  let c51_i32_123 : BitVec 32 := 51#32
  let c3_i32_124 : BitVec 32 := 3#32
  let c0_i32_125 : BitVec 32 := 0#32
  let v224 : BitVec 1 := Scalar.cmpi .eq c3_i32_124 c0_i32_125
  let c1_i32_126 : BitVec 32 := 1#32
  let v225 : BitVec 32 := Scalar.select v224 c1_i32_126 c3_i32_124
  let v226 : BitVec 32 := Scalar.remsi c51_i32_123 v225
  let c0_i32_128 : BitVec 32 := 0#32
  let v228 : BitVec 1 := Scalar.cmpi .slt v226 c0_i32_128
  let c0_i32_129 : BitVec 32 := 0#32
  let v229 : BitVec 1 := Scalar.cmpi .slt v225 c0_i32_129
  let v230 : BitVec 1 := Scalar.xori v228 v229
  let c0_i32_127 : BitVec 32 := 0#32
  let v227 : BitVec 1 := Scalar.cmpi .ne v226 c0_i32_127
  let v231 : BitVec 1 := Scalar.andi v230 v227
  let v232 : BitVec 32 := Scalar.addi v226 v225
  let v233 : BitVec 32 := Scalar.select v231 v232 v226
  let c2_i32_130 : BitVec 32 := 2#32
  let v234 : BitVec 1 := Scalar.cmpi .eq v233 c2_i32_130
  let v_true : BitVec 1 := 1#1
  let v235 : BitVec 1 := Scalar.xori v234 v_true
  let v236 : BitVec 1 := Scalar.andi v223 v235
  let v237 : BitVec 32 := Scalar.extui v236
  let c0_i32_132 : BitVec 32 := 0#32
  let v238 : BitVec 1 := Scalar.cmpi .ne v237 c0_i32_132
  v238

def k0_mult47 : BitVec 32 :=
  let c51_i32_131 : BitVec 32 := 51#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c51_i32_131 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  v311
def k0_mult48 : BitVec 32 :=
  let c51_i32_131 : BitVec 32 := 51#32
  let c0_i32_170 : BitVec 32 := 0#32
  let v285 : BitVec 1 := Scalar.cmpi .sgt c51_i32_131 c0_i32_170
  let v286 : BitVec 32 := Scalar.extui v285
  let c0_i32_171 : BitVec 32 := 0#32
  let v287 : BitVec 1 := Scalar.cmpi .slt c51_i32_131 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c51_i32_131 c3_i32_169
  let c0_i32_174 : BitVec 32 := 0#32
  let v297 : BitVec 1 := Scalar.cmpi .ne v296 c0_i32_174
  let v298 : BitVec 1 := Scalar.andi v295 v297
  let v284 : BitVec 32 := Scalar.divsi c51_i32_131 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  v313
def k0_off33 : Fin 1 → Nat :=
  let c116_i32 : BitVec 32 := 116#32
  let c51_i32 : BitVec 32 := 51#32
  let v221 : BitVec 32 := Scalar.addi c116_i32 c51_i32
  let c6_i32 : BitVec 32 := 6#32
  let v222 : BitVec 32 := Scalar.remsi v221 c6_i32
  ![v222.toNat]
def k0_off34 : Fin 3 → Nat :=
  let c116_i32 : BitVec 32 := 116#32
  let c51_i32 : BitVec 32 := 51#32
  let v221 : BitVec 32 := Scalar.addi c116_i32 c51_i32
  let c6_i32 : BitVec 32 := 6#32
  let v222 : BitVec 32 := Scalar.remsi v221 c6_i32
  let c0_i32_184 : BitVec 32 := 0#32
  let c0_i32_185 : BitVec 32 := 0#32
  ![v222.toNat, 0, 0]
def k0_off35 : Fin 2 → Nat :=
  let c51_i32_131 : BitVec 32 := 51#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c51_i32_131 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  let v312 : BitVec 32 := v311
  let c0_i32_170 : BitVec 32 := 0#32
  let v285 : BitVec 1 := Scalar.cmpi .sgt c51_i32_131 c0_i32_170
  let v286 : BitVec 32 := Scalar.extui v285
  let c0_i32_171 : BitVec 32 := 0#32
  let v287 : BitVec 1 := Scalar.cmpi .slt c51_i32_131 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c51_i32_131 c3_i32_169
  let c0_i32_174 : BitVec 32 := 0#32
  let v297 : BitVec 1 := Scalar.cmpi .ne v296 c0_i32_174
  let v298 : BitVec 1 := Scalar.andi v295 v297
  let v284 : BitVec 32 := Scalar.divsi c51_i32_131 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  let v314 : BitVec 32 := v313
  ![v312.toNat, v314.toNat]
def k0_cond9 : BitVec 1 :=
  let c51_i32_122 : BitVec 32 := 51#32
  let c48_i32 : BitVec 32 := 48#32
  let v223 : BitVec 1 := Scalar.cmpi .slt c51_i32_122 c48_i32
  let c51_i32_123 : BitVec 32 := 51#32
  let c3_i32_124 : BitVec 32 := 3#32
  let c0_i32_125 : BitVec 32 := 0#32
  let v224 : BitVec 1 := Scalar.cmpi .eq c3_i32_124 c0_i32_125
  let c1_i32_126 : BitVec 32 := 1#32
  let v225 : BitVec 32 := Scalar.select v224 c1_i32_126 c3_i32_124
  let v226 : BitVec 32 := Scalar.remsi c51_i32_123 v225
  let c0_i32_128 : BitVec 32 := 0#32
  let v228 : BitVec 1 := Scalar.cmpi .slt v226 c0_i32_128
  let c0_i32_129 : BitVec 32 := 0#32
  let v229 : BitVec 1 := Scalar.cmpi .slt v225 c0_i32_129
  let v230 : BitVec 1 := Scalar.xori v228 v229
  let c0_i32_127 : BitVec 32 := 0#32
  let v227 : BitVec 1 := Scalar.cmpi .ne v226 c0_i32_127
  let v231 : BitVec 1 := Scalar.andi v230 v227
  let v232 : BitVec 32 := Scalar.addi v226 v225
  let v233 : BitVec 32 := Scalar.select v231 v232 v226
  let c2_i32_130 : BitVec 32 := 2#32
  let v234 : BitVec 1 := Scalar.cmpi .eq v233 c2_i32_130
  let v239 : BitVec 1 := Scalar.andi v223 v234
  let v240 : BitVec 32 := Scalar.extui v239
  let c0_i32_134 : BitVec 32 := 0#32
  let v241 : BitVec 1 := Scalar.cmpi .ne v240 c0_i32_134
  v241

def k0_mult49 : BitVec 32 :=
  let c51_i32_133 : BitVec 32 := 51#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c51_i32_133 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  v311
def k0_mult50 : BitVec 32 :=
  let c51_i32_133 : BitVec 32 := 51#32
  let c0_i32_170 : BitVec 32 := 0#32
  let v285 : BitVec 1 := Scalar.cmpi .sgt c51_i32_133 c0_i32_170
  let v286 : BitVec 32 := Scalar.extui v285
  let c0_i32_171 : BitVec 32 := 0#32
  let v287 : BitVec 1 := Scalar.cmpi .slt c51_i32_133 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c51_i32_133 c3_i32_169
  let c0_i32_174 : BitVec 32 := 0#32
  let v297 : BitVec 1 := Scalar.cmpi .ne v296 c0_i32_174
  let v298 : BitVec 1 := Scalar.andi v295 v297
  let v284 : BitVec 32 := Scalar.divsi c51_i32_133 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  v313
def k0_off36 : Fin 1 → Nat :=
  let c116_i32 : BitVec 32 := 116#32
  let c51_i32 : BitVec 32 := 51#32
  let v221 : BitVec 32 := Scalar.addi c116_i32 c51_i32
  let c6_i32 : BitVec 32 := 6#32
  let v222 : BitVec 32 := Scalar.remsi v221 c6_i32
  ![v222.toNat]
def k0_off37 : Fin 3 → Nat :=
  let c116_i32 : BitVec 32 := 116#32
  let c51_i32 : BitVec 32 := 51#32
  let v221 : BitVec 32 := Scalar.addi c116_i32 c51_i32
  let c6_i32 : BitVec 32 := 6#32
  let v222 : BitVec 32 := Scalar.remsi v221 c6_i32
  let c0_i32_184 : BitVec 32 := 0#32
  let c0_i32_185 : BitVec 32 := 0#32
  ![v222.toNat, 0, 0]
def k0_off38 : Fin 2 → Nat :=
  let c51_i32_133 : BitVec 32 := 51#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c51_i32_133 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  let v312 : BitVec 32 := v311
  let c0_i32_170 : BitVec 32 := 0#32
  let v285 : BitVec 1 := Scalar.cmpi .sgt c51_i32_133 c0_i32_170
  let v286 : BitVec 32 := Scalar.extui v285
  let c0_i32_171 : BitVec 32 := 0#32
  let v287 : BitVec 1 := Scalar.cmpi .slt c51_i32_133 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c51_i32_133 c3_i32_169
  let c0_i32_174 : BitVec 32 := 0#32
  let v297 : BitVec 1 := Scalar.cmpi .ne v296 c0_i32_174
  let v298 : BitVec 1 := Scalar.andi v295 v297
  let v284 : BitVec 32 := Scalar.divsi c51_i32_133 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  let v314 : BitVec 32 := v313
  ![v312.toNat, v314.toNat]
def k0_cond10 : BitVec 1 :=
  let c52_i32_137 : BitVec 32 := 52#32
  let c48_i32_138 : BitVec 32 := 48#32
  let v244 : BitVec 1 := Scalar.cmpi .slt c52_i32_137 c48_i32_138
  let c52_i32_139 : BitVec 32 := 52#32
  let c3_i32_140 : BitVec 32 := 3#32
  let c0_i32_141 : BitVec 32 := 0#32
  let v245 : BitVec 1 := Scalar.cmpi .eq c3_i32_140 c0_i32_141
  let c1_i32_142 : BitVec 32 := 1#32
  let v246 : BitVec 32 := Scalar.select v245 c1_i32_142 c3_i32_140
  let v247 : BitVec 32 := Scalar.remsi c52_i32_139 v246
  let c0_i32_144 : BitVec 32 := 0#32
  let v249 : BitVec 1 := Scalar.cmpi .slt v247 c0_i32_144
  let c0_i32_145 : BitVec 32 := 0#32
  let v250 : BitVec 1 := Scalar.cmpi .slt v246 c0_i32_145
  let v251 : BitVec 1 := Scalar.xori v249 v250
  let c0_i32_143 : BitVec 32 := 0#32
  let v248 : BitVec 1 := Scalar.cmpi .ne v247 c0_i32_143
  let v252 : BitVec 1 := Scalar.andi v251 v248
  let v253 : BitVec 32 := Scalar.addi v247 v246
  let v254 : BitVec 32 := Scalar.select v252 v253 v247
  let c2_i32_146 : BitVec 32 := 2#32
  let v255 : BitVec 1 := Scalar.cmpi .eq v254 c2_i32_146
  let true_147 : BitVec 1 := 1#1
  let v256 : BitVec 1 := Scalar.xori v255 true_147
  let v257 : BitVec 1 := Scalar.andi v244 v256
  let v258 : BitVec 32 := Scalar.extui v257
  let c0_i32_149 : BitVec 32 := 0#32
  let v259 : BitVec 1 := Scalar.cmpi .ne v258 c0_i32_149
  v259

def k0_mult51 : BitVec 32 :=
  let c52_i32_148 : BitVec 32 := 52#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c52_i32_148 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  v311
def k0_mult52 : BitVec 32 :=
  let c52_i32_148 : BitVec 32 := 52#32
  let c0_i32_170 : BitVec 32 := 0#32
  let v285 : BitVec 1 := Scalar.cmpi .sgt c52_i32_148 c0_i32_170
  let v286 : BitVec 32 := Scalar.extui v285
  let c0_i32_171 : BitVec 32 := 0#32
  let v287 : BitVec 1 := Scalar.cmpi .slt c52_i32_148 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c52_i32_148 c3_i32_169
  let c0_i32_174 : BitVec 32 := 0#32
  let v297 : BitVec 1 := Scalar.cmpi .ne v296 c0_i32_174
  let v298 : BitVec 1 := Scalar.andi v295 v297
  let v284 : BitVec 32 := Scalar.divsi c52_i32_148 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  v313
def k0_off39 : Fin 1 → Nat :=
  let c116_i32_135 : BitVec 32 := 116#32
  let c52_i32 : BitVec 32 := 52#32
  let v242 : BitVec 32 := Scalar.addi c116_i32_135 c52_i32
  let c6_i32_136 : BitVec 32 := 6#32
  let v243 : BitVec 32 := Scalar.remsi v242 c6_i32_136
  ![v243.toNat]
def k0_off40 : Fin 3 → Nat :=
  let c116_i32_135 : BitVec 32 := 116#32
  let c52_i32 : BitVec 32 := 52#32
  let v242 : BitVec 32 := Scalar.addi c116_i32_135 c52_i32
  let c6_i32_136 : BitVec 32 := 6#32
  let v243 : BitVec 32 := Scalar.remsi v242 c6_i32_136
  let c0_i32_184 : BitVec 32 := 0#32
  let c0_i32_185 : BitVec 32 := 0#32
  ![v243.toNat, 0, 0]
def k0_off41 : Fin 2 → Nat :=
  let c52_i32_148 : BitVec 32 := 52#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c52_i32_148 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  let v312 : BitVec 32 := v311
  let c0_i32_170 : BitVec 32 := 0#32
  let v285 : BitVec 1 := Scalar.cmpi .sgt c52_i32_148 c0_i32_170
  let v286 : BitVec 32 := Scalar.extui v285
  let c0_i32_171 : BitVec 32 := 0#32
  let v287 : BitVec 1 := Scalar.cmpi .slt c52_i32_148 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c52_i32_148 c3_i32_169
  let c0_i32_174 : BitVec 32 := 0#32
  let v297 : BitVec 1 := Scalar.cmpi .ne v296 c0_i32_174
  let v298 : BitVec 1 := Scalar.andi v295 v297
  let v284 : BitVec 32 := Scalar.divsi c52_i32_148 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  let v314 : BitVec 32 := v313
  ![v312.toNat, v314.toNat]
def k0_cond11 : BitVec 1 :=
  let c52_i32_137 : BitVec 32 := 52#32
  let c48_i32_138 : BitVec 32 := 48#32
  let v244 : BitVec 1 := Scalar.cmpi .slt c52_i32_137 c48_i32_138
  let c52_i32_139 : BitVec 32 := 52#32
  let c3_i32_140 : BitVec 32 := 3#32
  let c0_i32_141 : BitVec 32 := 0#32
  let v245 : BitVec 1 := Scalar.cmpi .eq c3_i32_140 c0_i32_141
  let c1_i32_142 : BitVec 32 := 1#32
  let v246 : BitVec 32 := Scalar.select v245 c1_i32_142 c3_i32_140
  let v247 : BitVec 32 := Scalar.remsi c52_i32_139 v246
  let c0_i32_144 : BitVec 32 := 0#32
  let v249 : BitVec 1 := Scalar.cmpi .slt v247 c0_i32_144
  let c0_i32_145 : BitVec 32 := 0#32
  let v250 : BitVec 1 := Scalar.cmpi .slt v246 c0_i32_145
  let v251 : BitVec 1 := Scalar.xori v249 v250
  let c0_i32_143 : BitVec 32 := 0#32
  let v248 : BitVec 1 := Scalar.cmpi .ne v247 c0_i32_143
  let v252 : BitVec 1 := Scalar.andi v251 v248
  let v253 : BitVec 32 := Scalar.addi v247 v246
  let v254 : BitVec 32 := Scalar.select v252 v253 v247
  let c2_i32_146 : BitVec 32 := 2#32
  let v255 : BitVec 1 := Scalar.cmpi .eq v254 c2_i32_146
  let v260 : BitVec 1 := Scalar.andi v244 v255
  let v261 : BitVec 32 := Scalar.extui v260
  let c0_i32_151 : BitVec 32 := 0#32
  let v262 : BitVec 1 := Scalar.cmpi .ne v261 c0_i32_151
  v262

def k0_mult53 : BitVec 32 :=
  let c52_i32_150 : BitVec 32 := 52#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c52_i32_150 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  v311
def k0_mult54 : BitVec 32 :=
  let c52_i32_150 : BitVec 32 := 52#32
  let c0_i32_170 : BitVec 32 := 0#32
  let v285 : BitVec 1 := Scalar.cmpi .sgt c52_i32_150 c0_i32_170
  let v286 : BitVec 32 := Scalar.extui v285
  let c0_i32_171 : BitVec 32 := 0#32
  let v287 : BitVec 1 := Scalar.cmpi .slt c52_i32_150 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c52_i32_150 c3_i32_169
  let c0_i32_174 : BitVec 32 := 0#32
  let v297 : BitVec 1 := Scalar.cmpi .ne v296 c0_i32_174
  let v298 : BitVec 1 := Scalar.andi v295 v297
  let v284 : BitVec 32 := Scalar.divsi c52_i32_150 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  v313
def k0_off42 : Fin 1 → Nat :=
  let c116_i32_135 : BitVec 32 := 116#32
  let c52_i32 : BitVec 32 := 52#32
  let v242 : BitVec 32 := Scalar.addi c116_i32_135 c52_i32
  let c6_i32_136 : BitVec 32 := 6#32
  let v243 : BitVec 32 := Scalar.remsi v242 c6_i32_136
  ![v243.toNat]
def k0_off43 : Fin 3 → Nat :=
  let c116_i32_135 : BitVec 32 := 116#32
  let c52_i32 : BitVec 32 := 52#32
  let v242 : BitVec 32 := Scalar.addi c116_i32_135 c52_i32
  let c6_i32_136 : BitVec 32 := 6#32
  let v243 : BitVec 32 := Scalar.remsi v242 c6_i32_136
  let c0_i32_184 : BitVec 32 := 0#32
  let c0_i32_185 : BitVec 32 := 0#32
  ![v243.toNat, 0, 0]
def k0_off44 : Fin 2 → Nat :=
  let c52_i32_150 : BitVec 32 := 52#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c52_i32_150 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  let v312 : BitVec 32 := v311
  let c0_i32_170 : BitVec 32 := 0#32
  let v285 : BitVec 1 := Scalar.cmpi .sgt c52_i32_150 c0_i32_170
  let v286 : BitVec 32 := Scalar.extui v285
  let c0_i32_171 : BitVec 32 := 0#32
  let v287 : BitVec 1 := Scalar.cmpi .slt c52_i32_150 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c52_i32_150 c3_i32_169
  let c0_i32_174 : BitVec 32 := 0#32
  let v297 : BitVec 1 := Scalar.cmpi .ne v296 c0_i32_174
  let v298 : BitVec 1 := Scalar.andi v295 v297
  let v284 : BitVec 32 := Scalar.divsi c52_i32_150 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  let v314 : BitVec 32 := v313
  ![v312.toNat, v314.toNat]
def k0_cond12 : BitVec 1 :=
  let c53_i32_154 : BitVec 32 := 53#32
  let c48_i32_155 : BitVec 32 := 48#32
  let v265 : BitVec 1 := Scalar.cmpi .slt c53_i32_154 c48_i32_155
  let c53_i32_156 : BitVec 32 := 53#32
  let c3_i32_157 : BitVec 32 := 3#32
  let c0_i32_158 : BitVec 32 := 0#32
  let v266 : BitVec 1 := Scalar.cmpi .eq c3_i32_157 c0_i32_158
  let c1_i32_159 : BitVec 32 := 1#32
  let v267 : BitVec 32 := Scalar.select v266 c1_i32_159 c3_i32_157
  let v268 : BitVec 32 := Scalar.remsi c53_i32_156 v267
  let c0_i32_161 : BitVec 32 := 0#32
  let v270 : BitVec 1 := Scalar.cmpi .slt v268 c0_i32_161
  let c0_i32_162 : BitVec 32 := 0#32
  let v271 : BitVec 1 := Scalar.cmpi .slt v267 c0_i32_162
  let v272 : BitVec 1 := Scalar.xori v270 v271
  let c0_i32_160 : BitVec 32 := 0#32
  let v269 : BitVec 1 := Scalar.cmpi .ne v268 c0_i32_160
  let v273 : BitVec 1 := Scalar.andi v272 v269
  let v274 : BitVec 32 := Scalar.addi v268 v267
  let v275 : BitVec 32 := Scalar.select v273 v274 v268
  let c2_i32_163 : BitVec 32 := 2#32
  let v276 : BitVec 1 := Scalar.cmpi .eq v275 c2_i32_163
  let true_164 : BitVec 1 := 1#1
  let v277 : BitVec 1 := Scalar.xori v276 true_164
  let v278 : BitVec 1 := Scalar.andi v265 v277
  let v279 : BitVec 32 := Scalar.extui v278
  let c0_i32_166 : BitVec 32 := 0#32
  let v280 : BitVec 1 := Scalar.cmpi .ne v279 c0_i32_166
  v280

def k0_mult55 : BitVec 32 :=
  let c53_i32_165 : BitVec 32 := 53#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c53_i32_165 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  v311
def k0_mult56 : BitVec 32 :=
  let c53_i32_165 : BitVec 32 := 53#32
  let c0_i32_170 : BitVec 32 := 0#32
  let v285 : BitVec 1 := Scalar.cmpi .sgt c53_i32_165 c0_i32_170
  let v286 : BitVec 32 := Scalar.extui v285
  let c0_i32_171 : BitVec 32 := 0#32
  let v287 : BitVec 1 := Scalar.cmpi .slt c53_i32_165 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c53_i32_165 c3_i32_169
  let c0_i32_174 : BitVec 32 := 0#32
  let v297 : BitVec 1 := Scalar.cmpi .ne v296 c0_i32_174
  let v298 : BitVec 1 := Scalar.andi v295 v297
  let v284 : BitVec 32 := Scalar.divsi c53_i32_165 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  v313
def k0_off45 : Fin 1 → Nat :=
  let c116_i32_152 : BitVec 32 := 116#32
  let c53_i32 : BitVec 32 := 53#32
  let v263 : BitVec 32 := Scalar.addi c116_i32_152 c53_i32
  let c6_i32_153 : BitVec 32 := 6#32
  let v264 : BitVec 32 := Scalar.remsi v263 c6_i32_153
  ![v264.toNat]
def k0_off46 : Fin 3 → Nat :=
  let c116_i32_152 : BitVec 32 := 116#32
  let c53_i32 : BitVec 32 := 53#32
  let v263 : BitVec 32 := Scalar.addi c116_i32_152 c53_i32
  let c6_i32_153 : BitVec 32 := 6#32
  let v264 : BitVec 32 := Scalar.remsi v263 c6_i32_153
  let c0_i32_184 : BitVec 32 := 0#32
  let c0_i32_185 : BitVec 32 := 0#32
  ![v264.toNat, 0, 0]
def k0_off47 : Fin 2 → Nat :=
  let c53_i32_165 : BitVec 32 := 53#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c53_i32_165 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  let v312 : BitVec 32 := v311
  let c0_i32_170 : BitVec 32 := 0#32
  let v285 : BitVec 1 := Scalar.cmpi .sgt c53_i32_165 c0_i32_170
  let v286 : BitVec 32 := Scalar.extui v285
  let c0_i32_171 : BitVec 32 := 0#32
  let v287 : BitVec 1 := Scalar.cmpi .slt c53_i32_165 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c53_i32_165 c3_i32_169
  let c0_i32_174 : BitVec 32 := 0#32
  let v297 : BitVec 1 := Scalar.cmpi .ne v296 c0_i32_174
  let v298 : BitVec 1 := Scalar.andi v295 v297
  let v284 : BitVec 32 := Scalar.divsi c53_i32_165 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  let v314 : BitVec 32 := v313
  ![v312.toNat, v314.toNat]
def k0_cond13 : BitVec 1 :=
  let c53_i32_154 : BitVec 32 := 53#32
  let c48_i32_155 : BitVec 32 := 48#32
  let v265 : BitVec 1 := Scalar.cmpi .slt c53_i32_154 c48_i32_155
  let c53_i32_156 : BitVec 32 := 53#32
  let c3_i32_157 : BitVec 32 := 3#32
  let c0_i32_158 : BitVec 32 := 0#32
  let v266 : BitVec 1 := Scalar.cmpi .eq c3_i32_157 c0_i32_158
  let c1_i32_159 : BitVec 32 := 1#32
  let v267 : BitVec 32 := Scalar.select v266 c1_i32_159 c3_i32_157
  let v268 : BitVec 32 := Scalar.remsi c53_i32_156 v267
  let c0_i32_161 : BitVec 32 := 0#32
  let v270 : BitVec 1 := Scalar.cmpi .slt v268 c0_i32_161
  let c0_i32_162 : BitVec 32 := 0#32
  let v271 : BitVec 1 := Scalar.cmpi .slt v267 c0_i32_162
  let v272 : BitVec 1 := Scalar.xori v270 v271
  let c0_i32_160 : BitVec 32 := 0#32
  let v269 : BitVec 1 := Scalar.cmpi .ne v268 c0_i32_160
  let v273 : BitVec 1 := Scalar.andi v272 v269
  let v274 : BitVec 32 := Scalar.addi v268 v267
  let v275 : BitVec 32 := Scalar.select v273 v274 v268
  let c2_i32_163 : BitVec 32 := 2#32
  let v276 : BitVec 1 := Scalar.cmpi .eq v275 c2_i32_163
  let v281 : BitVec 1 := Scalar.andi v265 v276
  let v282 : BitVec 32 := Scalar.extui v281
  let c0_i32_168 : BitVec 32 := 0#32
  let v283 : BitVec 1 := Scalar.cmpi .ne v282 c0_i32_168
  v283

def k0_mult57 : BitVec 32 :=
  let c53_i32_167 : BitVec 32 := 53#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c53_i32_167 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  v311
def k0_mult58 : BitVec 32 :=
  let c53_i32_167 : BitVec 32 := 53#32
  let c0_i32_170 : BitVec 32 := 0#32
  let v285 : BitVec 1 := Scalar.cmpi .sgt c53_i32_167 c0_i32_170
  let v286 : BitVec 32 := Scalar.extui v285
  let c0_i32_171 : BitVec 32 := 0#32
  let v287 : BitVec 1 := Scalar.cmpi .slt c53_i32_167 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c53_i32_167 c3_i32_169
  let c0_i32_174 : BitVec 32 := 0#32
  let v297 : BitVec 1 := Scalar.cmpi .ne v296 c0_i32_174
  let v298 : BitVec 1 := Scalar.andi v295 v297
  let v284 : BitVec 32 := Scalar.divsi c53_i32_167 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  v313
def k0_off48 : Fin 1 → Nat :=
  let c116_i32_152 : BitVec 32 := 116#32
  let c53_i32 : BitVec 32 := 53#32
  let v263 : BitVec 32 := Scalar.addi c116_i32_152 c53_i32
  let c6_i32_153 : BitVec 32 := 6#32
  let v264 : BitVec 32 := Scalar.remsi v263 c6_i32_153
  ![v264.toNat]
def k0_off49 : Fin 3 → Nat :=
  let c116_i32_152 : BitVec 32 := 116#32
  let c53_i32 : BitVec 32 := 53#32
  let v263 : BitVec 32 := Scalar.addi c116_i32_152 c53_i32
  let c6_i32_153 : BitVec 32 := 6#32
  let v264 : BitVec 32 := Scalar.remsi v263 c6_i32_153
  let c0_i32_184 : BitVec 32 := 0#32
  let c0_i32_185 : BitVec 32 := 0#32
  ![v264.toNat, 0, 0]
def k0_off50 : Fin 2 → Nat :=
  let c53_i32_167 : BitVec 32 := 53#32
  let c3_i32_176 : BitVec 32 := 3#32
  let c0_i32_177 : BitVec 32 := 0#32
  let v301 : BitVec 1 := Scalar.cmpi .eq c3_i32_176 c0_i32_177
  let c1_i32_178 : BitVec 32 := 1#32
  let v302 : BitVec 32 := Scalar.select v301 c1_i32_178 c3_i32_176
  let v303 : BitVec 32 := Scalar.remsi c53_i32_167 v302
  let c0_i32_180 : BitVec 32 := 0#32
  let v305 : BitVec 1 := Scalar.cmpi .slt v303 c0_i32_180
  let c0_i32_181 : BitVec 32 := 0#32
  let v306 : BitVec 1 := Scalar.cmpi .slt v302 c0_i32_181
  let v307 : BitVec 1 := Scalar.xori v305 v306
  let c0_i32_179 : BitVec 32 := 0#32
  let v304 : BitVec 1 := Scalar.cmpi .ne v303 c0_i32_179
  let v308 : BitVec 1 := Scalar.andi v307 v304
  let v309 : BitVec 32 := Scalar.addi v303 v302
  let v310 : BitVec 32 := Scalar.select v308 v309 v303
  let c7424_i32_182 : BitVec 32 := 7424#32
  let v311 : BitVec 32 := Scalar.muli v310 c7424_i32_182
  let v312 : BitVec 32 := v311
  let c0_i32_170 : BitVec 32 := 0#32
  let v285 : BitVec 1 := Scalar.cmpi .sgt c53_i32_167 c0_i32_170
  let v286 : BitVec 32 := Scalar.extui v285
  let c0_i32_171 : BitVec 32 := 0#32
  let v287 : BitVec 1 := Scalar.cmpi .slt c53_i32_167 c0_i32_171
  let v288 : BitVec 32 := Scalar.extui v287
  let v289 : BitVec 32 := Scalar.subi v286 v288
  let c3_i32_169 : BitVec 32 := 3#32
  let c0_i32_172 : BitVec 32 := 0#32
  let v290 : BitVec 1 := Scalar.cmpi .sgt c3_i32_169 c0_i32_172
  let v291 : BitVec 32 := Scalar.extui v290
  let c0_i32_173 : BitVec 32 := 0#32
  let v292 : BitVec 1 := Scalar.cmpi .slt c3_i32_169 c0_i32_173
  let v293 : BitVec 32 := Scalar.extui v292
  let v294 : BitVec 32 := Scalar.subi v291 v293
  let v295 : BitVec 1 := Scalar.cmpi .ne v289 v294
  let v296 : BitVec 32 := Scalar.remsi c53_i32_167 c3_i32_169
  let c0_i32_174 : BitVec 32 := 0#32
  let v297 : BitVec 1 := Scalar.cmpi .ne v296 c0_i32_174
  let v298 : BitVec 1 := Scalar.andi v295 v297
  let v284 : BitVec 32 := Scalar.divsi c53_i32_167 c3_i32_169
  let c1_i32_175 : BitVec 32 := 1#32
  let v299 : BitVec 32 := Scalar.subi v284 c1_i32_175
  let v300 : BitVec 32 := Scalar.select v298 v299 v284
  let c512_i32_183 : BitVec 32 := 512#32
  let v313 : BitVec 32 := Scalar.muli v300 c512_i32_183
  let v314 : BitVec 32 := v313
  ![v312.toNat, v314.toNat]
abbrev stage0_0 : Fin 1 → Memref sig .tc .vmem S192x22016 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x63x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DownReferenceIdeal.lean ====
abbrev S192x22016 : Shape := ⟨2, ![192, 22016]⟩
abbrev S192 : Shape := ⟨1, ![192]⟩
abbrev S192x8192 : Shape := ⟨2, ![192, 8192]⟩
abbrev S22016x8192 : Shape := ⟨2, ![22016, 8192]⟩
abbrev S8192 : Shape := ⟨1, ![8192]⟩
abbrev S192x1 : Shape := ⟨2, ![192, 1]⟩
abbrev S1x8192 : Shape := ⟨2, ![1, 8192]⟩
abbrev S3x63x8192 : Shape := ⟨3, ![3, 63, 8192]⟩
abbrev S3x64x8192 : Shape := ⟨3, ![3, 64, 8192]⟩

abbrev nBuf : Space → Nat
  | .hbm => 8
  | .vmem => 6
  | .smem => 0
  | _ => 0

abbrev bufTy : (tb : Table) → Fin (tcTables nBuf tb) → BufTy
  | .hbm, ⟨0, _⟩ => ⟨S192x22016, .fp8e4m3⟩
  | .hbm, ⟨1, _⟩ => ⟨S192, .f32⟩
  | .hbm, ⟨2, _⟩ => ⟨S192x8192, .f32⟩
  | .hbm, ⟨3, _⟩ => ⟨S22016x8192, .fp8e4m3⟩
  | .hbm, ⟨4, _⟩ => ⟨S8192, .f32⟩
  | .hbm, ⟨5, _⟩ => ⟨S192x1, .f32⟩
  | .hbm, ⟨6, _⟩ => ⟨S1x8192, .f32⟩
  | .hbm, ⟨7, _⟩ => ⟨S3x63x8192, .bf16⟩
  | .local _ .vmem, ⟨0, _⟩ => ⟨S192x22016, .fp8e4m3⟩
  | .local _ .vmem, ⟨1, _⟩ => ⟨S192x1, .f32⟩
  | .local _ .vmem, ⟨2, _⟩ => ⟨S192x8192, .f32⟩
  | .local _ .vmem, ⟨3, _⟩ => ⟨S22016x8192, .fp8e4m3⟩
  | .local _ .vmem, ⟨4, _⟩ => ⟨S1x8192, .f32⟩
  | .local _ .vmem, ⟨5, _⟩ => ⟨S3x63x8192, .bf16⟩
  | _, _ => ⟨S192x22016, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S192x22016 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22016x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x63x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Logits.lean ====
abbrev S192x8192 : Shape := ⟨2, ![192, 8192]⟩
abbrev S192 : Shape := ⟨1, ![192]⟩
abbrev S8192x32000 : Shape := ⟨2, ![8192, 32000]⟩
abbrev S32000 : Shape := ⟨1, ![32000]⟩
abbrev S3 : Shape := ⟨1, ![3]⟩
abbrev S192x1 : Shape := ⟨2, ![192, 1]⟩
abbrev S192x128 : Shape := ⟨2, ![192, 128]⟩
abbrev S250x128 : Shape := ⟨2, ![250, 128]⟩
abbrev S3x63 : Shape := ⟨2, ![3, 63]⟩
abbrev S6x8192x512 : Shape := ⟨3, ![6, 8192, 512]⟩
abbrev S33024x128 : Shape := ⟨2, ![33024, 128]⟩
abbrev S6 : Shape := ⟨1, ![6]⟩
abbrev S1 : Shape := ⟨1, ![1]⟩
abbrev S_ : Shape := ⟨0, ![]⟩
abbrev S1x8192x512 : Shape := ⟨3, ![1, 8192, 512]⟩
abbrev S8192x512 : Shape := ⟨2, ![8192, 512]⟩
abbrev S1x8192x256 : Shape := ⟨3, ![1, 8192, 256]⟩
abbrev S8192x256 : Shape := ⟨2, ![8192, 256]⟩
abbrev S192x512 : Shape := ⟨2, ![192, 512]⟩
abbrev S64x128 : Shape := ⟨2, ![64, 128]⟩
abbrev S1x128 : Shape := ⟨2, ![1, 128]⟩
abbrev S192x256 : Shape := ⟨2, ![192, 256]⟩
abbrev S64 : Shape := ⟨1, ![64]⟩
abbrev S64x1 : Shape := ⟨2, ![64, 1]⟩
abbrev S128 : Shape := ⟨1, ![128]⟩
abbrev S1x63 : Shape := ⟨2, ![1, 63]⟩

abbrev nBuf : Space → Nat
  | .hbm => 9
  | .vmem => 6
  | .smem => 1
  | _ => 0

abbrev bufTy : (tb : Table) → Fin (tcTables nBuf tb) → BufTy
  | .hbm, ⟨0, _⟩ => ⟨S192x8192, .fp8e4m3⟩
  | .hbm, ⟨1, _⟩ => ⟨S192, .f32⟩
  | .hbm, ⟨2, _⟩ => ⟨S8192x32000, .fp8e4m3⟩
  | .hbm, ⟨3, _⟩ => ⟨S32000, .f32⟩
  | .hbm, ⟨4, _⟩ => ⟨S3, .f32⟩
  | .hbm, ⟨5, _⟩ => ⟨S192x1, .f32⟩
  | .hbm, ⟨6, _⟩ => ⟨S192x128, .f32⟩
  | .hbm, ⟨7, _⟩ => ⟨S250x128, .f32⟩
  | .hbm, ⟨8, _⟩ => ⟨S3x63, .f32⟩
  | .local _ .vmem, ⟨0, _⟩ => ⟨S192x8192, .fp8e4m3⟩
  | .local _ .vmem, ⟨1, _⟩ => ⟨S192x128, .f32⟩
  | .local _ .vmem, ⟨2, _⟩ => ⟨S250x128, .f32⟩
  | .local _ .vmem, ⟨3, _⟩ => ⟨S3x63, .f32⟩
  | .local _ .vmem, ⟨4, _⟩ => ⟨S6x8192x512, .fp8e4m3⟩
  | .local _ .vmem, ⟨5, _⟩ => ⟨S33024x128, .f32⟩
  | .local _ .smem, ⟨0, _⟩ => ⟨S3, .f32⟩
  | _, _ => ⟨S192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c0_i32_3 : BitVec 32 := 0#32
  let c512_i32 : BitVec 32 := 512#32
  let v0 : BitVec 32 := Scalar.muli c0_i32 c512_i32
  let v1 : BitVec 32 := v0
  ![0, v1.toNat]
def k0_mult2 : BitVec 32 :=
  let c1_i32 : BitVec 32 := 1#32
  let c512_i32_4 : BitVec 32 := 512#32
  let v7 : BitVec 32 := Scalar.muli c1_i32 c512_i32_4
  v7
def k0_mult3 : BitVec 32 :=
  let c2_i32_9 : BitVec 32 := 2#32
  let c512_i32_10 : BitVec 32 := 512#32
  let v14 : BitVec 32 := Scalar.muli c2_i32_9 c512_i32_10
  v14
def k0_mult4 : BitVec 32 :=
  let c3_i32_15 : BitVec 32 := 3#32
  let c512_i32_16 : BitVec 32 := 512#32
  let v21 : BitVec 32 := Scalar.muli c3_i32_15 c512_i32_16
  v21
def k0_mult5 : BitVec 32 :=
  let c4_i32_21 : BitVec 32 := 4#32
  let c512_i32_22 : BitVec 32 := 512#32
  let v28 : BitVec 32 := Scalar.muli c4_i32_21 c512_i32_22
  v28
def k0_mult6 : BitVec 32 :=
  let c5_i32_28 : BitVec 32 := 5#32
  let c512_i32_29 : BitVec 32 := 512#32
  let v35 : BitVec 32 := Scalar.muli c5_i32_28 c512_i32_29
  v35
@[reducible] def k0_t1_loop : Scf.Loop 32 :=
  let c0_i32_37 : BitVec 32 := 0#32
  let c62_i32 : BitVec 32 := 62#32
  let v50 : BitVec 32 := Scalar.addi c0_i32_37 c62_i32
  let c1_i32_38 : BitVec 32 := 1#32
  ⟨c0_i32_37, v50, c1_i32_38⟩
def k0_cond1 (k0_t1 : Fin k0_t1_loop.trips) : BitVec 1 :=
  let c0_i32_37 : BitVec 32 := 0#32
  let c1_i32_38 : BitVec 32 := 1#32
  let arg9 : BitVec 32 := Scf.iv c0_i32_37 c1_i32_38 k0_t1
  let c0_i32_129 : BitVec 32 := 0#32
  let v266 : BitVec 1 := Scalar.cmpi .sgt arg9 c0_i32_129
  let v267 : BitVec 32 := Scalar.extui v266
  let c0_i32_130 : BitVec 32 := 0#32
  let v268 : BitVec 1 := Scalar.cmpi .ne v267 c0_i32_130
  v268

def k0_cond2 (k0_t1 : Fin k0_t1_loop.trips) : BitVec 1 :=
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let c63_i32 : BitVec 32 := 63#32
  let v554 : BitVec 1 := Scalar.cmpi .slt v551 c63_i32
  let c62_i32_240 : BitVec 32 := 62#32
  let v555 : BitVec 1 := Scalar.cmpi .slt v551 c62_i32_240
  let v556 : BitVec 1 := Scalar.andi v554 v555
  let v557 : BitVec 32 := Scalar.extui v556
  let c0_i32_241 : BitVec 32 := 0#32
  let v558 : BitVec 1 := Scalar.cmpi .ne v557 c0_i32_241
  v558

def k0_mult7 (k0_t1 : Fin k0_t1_loop.trips) : BitVec 32 :=
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let c512_i32_244 : BitVec 32 := 512#32
  let v563 : BitVec 32 := Scalar.muli v551 c512_i32_244
  v563
def k0_off2 (k0_t1 : Fin k0_t1_loop.trips) : Fin 1 → Nat :=
  let c164_i32_238 : BitVec 32 := 164#32
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let v552 : BitVec 32 := Scalar.addi c164_i32_238 v551
  let c6_i32_239 : BitVec 32 := 6#32
  let v553 : BitVec 32 := Scalar.remsi v552 c6_i32_239
  ![v553.toNat]
def k0_off3 (k0_t1 : Fin k0_t1_loop.trips) : Fin 3 → Nat :=
  let c164_i32_238 : BitVec 32 := 164#32
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let v552 : BitVec 32 := Scalar.addi c164_i32_238 v551
  let c6_i32_239 : BitVec 32 := 6#32
  let v553 : BitVec 32 := Scalar.remsi v552 c6_i32_239
  let c0_i32_245 : BitVec 32 := 0#32
  let c0_i32_246 : BitVec 32 := 0#32
  ![v553.toNat, 0, 0]
def k0_off4 (k0_t1 : Fin k0_t1_loop.trips) : Fin 2 → Nat :=
  let c0_i32_247 : BitVec 32 := 0#32
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let c512_i32_244 : BitVec 32 := 512#32
  let v563 : BitVec 32 := Scalar.muli v551 c512_i32_244
  let v564 : BitVec 32 := v563
  ![0, v564.toNat]
def k0_cond3 (k0_t1 : Fin k0_t1_loop.trips) : BitVec 1 :=
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let c63_i32 : BitVec 32 := 63#32
  let v554 : BitVec 1 := Scalar.cmpi .slt v551 c63_i32
  let c62_i32_242 : BitVec 32 := 62#32
  let v559 : BitVec 1 := Scalar.cmpi .eq v551 c62_i32_242
  let v560 : BitVec 1 := Scalar.andi v554 v559
  let v561 : BitVec 32 := Scalar.extui v560
  let c0_i32_243 : BitVec 32 := 0#32
  let v562 : BitVec 1 := Scalar.cmpi .ne v561 c0_i32_243
  v562

def k0_mult8 (k0_t1 : Fin k0_t1_loop.trips) : BitVec 32 :=
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let c512_i32_244 : BitVec 32 := 512#32
  let v563 : BitVec 32 := Scalar.muli v551 c512_i32_244
  v563
def k0_off5 (k0_t1 : Fin k0_t1_loop.trips) : Fin 1 → Nat :=
  let c164_i32_238 : BitVec 32 := 164#32
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let v552 : BitVec 32 := Scalar.addi c164_i32_238 v551
  let c6_i32_239 : BitVec 32 := 6#32
  let v553 : BitVec 32 := Scalar.remsi v552 c6_i32_239
  ![v553.toNat]
def k0_off6 (k0_t1 : Fin k0_t1_loop.trips) : Fin 3 → Nat :=
  let c164_i32_238 : BitVec 32 := 164#32
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let v552 : BitVec 32 := Scalar.addi c164_i32_238 v551
  let c6_i32_239 : BitVec 32 := 6#32
  let v553 : BitVec 32 := Scalar.remsi v552 c6_i32_239
  let c0_i32_245 : BitVec 32 := 0#32
  let c0_i32_246 : BitVec 32 := 0#32
  ![v553.toNat, 0, 0]
def k0_off7 (k0_t1 : Fin k0_t1_loop.trips) : Fin 2 → Nat :=
  let c0_i32_247 : BitVec 32 := 0#32
  let c0_i32_37 : BitVec 32 := 0#32
  let c1_i32_38 : BitVec 32 := 1#32
  let arg9 : BitVec 32 := Scf.iv c0_i32_37 c1_i32_38 k0_t1
  let c1_i32_236 : BitVec 32 := 1#32
  let v550 : BitVec 32 := Scalar.subi arg9 c1_i32_236
  let c6_i32_237 : BitVec 32 := 6#32
  let v551 : BitVec 32 := Scalar.addi v550 c6_i32_237
  let c512_i32_244 : BitVec 32 := 512#32
  let v563 : BitVec 32 := Scalar.muli v551 c512_i32_244
  let v564 : BitVec 32 := v563
  ![0, v564.toNat]
def k0_mult9 (k0_t1 : Fin k0_t1_loop.trips) : BitVec 32 :=
  let c0_i32_37 : BitVec 32 := 0#32
  let c1_i32_38 : BitVec 32 := 1#32
  let arg9 : BitVec 32 := Scf.iv c0_i32_37 c1_i32_38 k0_t1
  let c512_i32_131 : BitVec 32 := 512#32
  let v271 : BitVec 32 := Scalar.muli arg9 c512_i32_131
  v271
def k0_off8 (k0_t1 : Fin k0_t1_loop.trips) : Fin 1 → Nat :=
  let c164_i32 : BitVec 32 := 164#32
  let c0_i32_37 : BitVec 32 := 0#32
  let c1_i32_38 : BitVec 32 := 1#32
  let arg9 : BitVec 32 := Scf.iv c0_i32_37 c1_i32_38 k0_t1
  let v269 : BitVec 32 := Scalar.addi c164_i32 arg9
  let c6_i32 : BitVec 32 := 6#32
  let v270 : BitVec 32 := Scalar.remsi v269 c6_i32
  ![v270.toNat]
def k0_off9 (k0_t1 : Fin k0_t1_loop.trips) : Fin 3 → Nat :=
  let c164_i32 : BitVec 32 := 164#32
  let c0_i32_37 : BitVec 32 := 0#32
  let c1_i32_38 : BitVec 32 := 1#32
  let arg9 : BitVec 32 := Scf.iv c0_i32_37 c1_i32_38 k0_t1
  let v269 : BitVec 32 := Scalar.addi c164_i32 arg9
  let c6_i32 : BitVec 32 := 6#32
  let v270 : BitVec 32 := Scalar.remsi v269 c6_i32
  let c0_i32_132 : BitVec 32 := 0#32
  let c0_i32_133 : BitVec 32 := 0#32
  ![v270.toNat, 0, 0]
def k0_off10 (k0_t1 : Fin k0_t1_loop.trips) : Fin 2 → Nat :=
  let c0_i32_134 : BitVec 32 := 0#32
  let c0_i32_37 : BitVec 32 := 0#32
  let c1_i32_38 : BitVec 32 := 1#32
  let arg9 : BitVec 32 := Scf.iv c0_i32_37 c1_i32_38 k0_t1
  let c512_i32_131 : BitVec 32 := 512#32
  let v271 : BitVec 32 := Scalar.muli arg9 c512_i32_131
  let v272 : BitVec 32 := v271
  ![0, v272.toNat]
def k0_off11 (k0_t1 : Fin k0_t1_loop.trips) : Fin 3 → Nat :=
  let c164_i32 : BitVec 32 := 164#32
  let c0_i32_37 : BitVec 32 := 0#32
  let c1_i32_38 : BitVec 32 := 1#32
  let arg9 : BitVec 32 := Scf.iv c0_i32_37 c1_i32_38 k0_t1
  let v269 : BitVec 32 := Scalar.addi c164_i32 arg9
  let c6_i32 : BitVec 32 := 6#32
  let v270 : BitVec 32 := Scalar.remsi v269 c6_i32
  let v279 : Index := Scalar.indexCast v270
  let c0_137 : Index := 0#32
  let c0_138 : Index := 0#32
  ![v279.toNat, 0, 0]
def k0_off12 (k0_t1 : Fin k0_t1_loop.trips) (c0_i32_143 : BitVec 32) : Fin 2 → Nat :=
  let c0_i32_37 : BitVec 32 := 0#32
  let c1_i32_38 : BitVec 32 := 1#32
  let arg9 : BitVec 32 := Scf.iv c0_i32_37 c1_i32_38 k0_t1
  let c4_i32_142 : BitVec 32 := 4#32
  let v287 : BitVec 32 := Scalar.muli arg9 c4_i32_142
  let v288 : BitVec 32 := Scalar.addi v287 c0_i32_143
  let v289 : Index := Scalar.indexCast v288
  let c0_144 : Index := 0#32
  ![v289.toNat, 0]
def k0_mult10 : BitVec 32 :=
  let c62_i32_40 : BitVec 32 := 62#32
  let c512_i32_41 : BitVec 32 := 512#32
  let v51 : BitVec 32 := Scalar.muli c62_i32_40 c512_i32_41
  v51
def k0_off13 : Fin 2 → Nat :=
  let c0_i32_46 : BitVec 32 := 0#32
  let c62_i32_40 : BitVec 32 := 62#32
  let c512_i32_41 : BitVec 32 := 512#32
  let v51 : BitVec 32 := Scalar.muli c62_i32_40 c512_i32_41
  let v52 : BitVec 32 := v51
  ![0, v52.toNat]
abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S250x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x63 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== LogitsReferenceIdeal.lean ====
abbrev S192x8192 : Shape := ⟨2, ![192, 8192]⟩
abbrev S192 : Shape := ⟨1, ![192]⟩
abbrev S8192x32000 : Shape := ⟨2, ![8192, 32000]⟩
abbrev S32000 : Shape := ⟨1, ![32000]⟩
abbrev S3 : Shape := ⟨1, ![3]⟩
abbrev S192x1 : Shape := ⟨2, ![192, 1]⟩
abbrev S1x32000 : Shape := ⟨2, ![1, 32000]⟩
abbrev S3x1x1 : Shape := ⟨3, ![3, 1, 1]⟩
abbrev S3x63 : Shape := ⟨2, ![3, 63]⟩
abbrev S192x32000 : Shape := ⟨2, ![192, 32000]⟩
abbrev S3x64x32000 : Shape := ⟨3, ![3, 64, 32000]⟩
abbrev S3x63x32000 : Shape := ⟨3, ![3, 63, 32000]⟩
abbrev S3x63x1 : Shape := ⟨3, ![3, 63, 1]⟩

abbrev nBuf : Space → Nat
  | .hbm => 9
  | .vmem => 6
  | .smem => 0
  | _ => 0

abbrev bufTy : (tb : Table) → Fin (tcTables nBuf tb) → BufTy
  | .hbm, ⟨0, _⟩ => ⟨S192x8192, .fp8e4m3⟩
  | .hbm, ⟨1, _⟩ => ⟨S192, .f32⟩
  | .hbm, ⟨2, _⟩ => ⟨S8192x32000, .fp8e4m3⟩
  | .hbm, ⟨3, _⟩ => ⟨S32000, .f32⟩
  | .hbm, ⟨4, _⟩ => ⟨S3, .f32⟩
  | .hbm, ⟨5, _⟩ => ⟨S192x1, .f32⟩
  | .hbm, ⟨6, _⟩ => ⟨S1x32000, .f32⟩
  | .hbm, ⟨7, _⟩ => ⟨S3x1x1, .f32⟩
  | .hbm, ⟨8, _⟩ => ⟨S3x63, .f32⟩
  | .local _ .vmem, ⟨0, _⟩ => ⟨S192x8192, .fp8e4m3⟩
  | .local _ .vmem, ⟨1, _⟩ => ⟨S192x1, .f32⟩
  | .local _ .vmem, ⟨2, _⟩ => ⟨S8192x32000, .fp8e4m3⟩
  | .local _ .vmem, ⟨3, _⟩ => ⟨S1x32000, .f32⟩
  | .local _ .vmem, ⟨4, _⟩ => ⟨S3x1x1, .f32⟩
  | .local _ .vmem, ⟨5, _⟩ => ⟨S3x63, .f32⟩
  | _, _ => ⟨S192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x32000 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x63 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.GateUpIdeal.Names.lean ====
/-
  The gate/up kernel's names. The kernel streams the 86 column blocks of the weight (8192 rows, 512 columns each)
  through a ring of six slots: trip `t` of its 43 uses column blocks `t` (gate) and `43 + t` (up), in slots
  `2t mod 6` and `(2t + 1) mod 6`, each slot with a DMA semaphore of its own. Here: the column blocks, the slots and
  the semaphores under one name each, the offsets the kernel computes for them in closed form, and the pieces the
  proof moves about: a column block held, a slot held, a slot with a transfer under way.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.GateUpIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Column blocks, slots, semaphores -/

abbrev wM : Memref sig .tc .hbm S8192x44032 .fp8e4m3 := Memref.whole main_arg2
abbrev ringM : Memref sig .tc .vmem S6x8192x512 .fp8e4m3 := Memref.whole cc0_scratch0
abbrev amaxM : Memref sig .tc .vmem S192x128 .f32 := Memref.whole cc0_scratch1

abbrev grpOff (b : Fin 86) : Fin 2 → Nat := ![0, 512 * b.val]
theorem grpOff_inb (b : Fin 86) : ∀ a, grpOff b a + S8192x512.size a ≤ S8192x44032.size a := by
  have := b.isLt; intro a; fin_cases a
  · show 0 + 8192 ≤ 8192; omega
  · show 512 * b.val + 512 ≤ 44032; omega
abbrev slotOff (s : Fin 6) : Fin 3 → Nat := ![s.val, 0, 0]
theorem slotOff_inb (s : Fin 6) : ∀ a, slotOff s a + S1x8192x512.size a ≤ S6x8192x512.size a := by
  have := s.isLt; intro a; fin_cases a
  · show s.val + 1 ≤ 6; omega
  · show 0 + 8192 ≤ 8192; omega
  · show 0 + 512 ≤ 512; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Column block `b` of the weight. -/
def grp (b : Fin 86) : Memref sig .tc .hbm S8192x512 .fp8e4m3 :=
  wM.slice (Rect.unit (s := S8192x44032) (grpOff b) S8192x512.size (grpOff_inb b)) (fun _ => rfl)
/-- Slot `s` of the ring. -/
def rslot (s : Fin 6) : Memref sig .tc .vmem S8192x512 .fp8e4m3 :=
  (ringM.slice (Rect.unit (s := S6x8192x512) (slotOff s) S1x8192x512.size (slotOff_inb s)) (fun _ => rfl)).squeeze S8192x512 squeezes_S1x8192x512_S8192x512
/-- Slot `s`'s DMA semaphore. -/
def csm (s : Fin 6) : DmaSems sig S_ := (cc0_scratch2.slice (Rect.unit (s := S6) (semOff s) S1.size (semOff_inb s))).squeeze S_ squeezes_S1_S_

instance (s : Fin 6) : ClosedOff (slotOff s) := ⟨slotOff s, rfl⟩
instance (b : Fin 86) : ClosedOff (grpOff b) := ⟨grpOff b, rfl⟩

/-- Trip `t`'s gate slot and up slot. -/
abbrev sA (t : ℕ) : Fin 6 := Ring.sl 6 (2 * t)
abbrev sB (t : ℕ) : Fin 6 := Ring.sl 6 (2 * t + 1)
/-- Trip `t`'s gate column block and up column block. -/
abbrev gA (t : ℕ) : Fin 86 := Ring.bk 86 t
abbrev gB (t : ℕ) : Fin 86 := Ring.bk 86 (43 + t)

/-! ## The computed offsets in closed form -/

theorem off2_sA (k : Fin k0_t1_loop.trips) : k0_off2 k = semOff (sA (k.val + 2)) := by
  rw [k0_off2_eq, semOff]; simp only [sA, Ring.sl, Fin.ofNat]; congr 1; omega
theorem off3_sA (k : Fin k0_t1_loop.trips) : k0_off3 k = slotOff (sA (k.val + 2)) := by
  rw [k0_off3_eq, slotOff]; simp only [sA, Ring.sl, Fin.ofNat]; congr 1; omega
theorem off5_sB (k : Fin k0_t1_loop.trips) : k0_off5 k = semOff (sB (k.val + 2)) := by
  rw [k0_off5_eq, semOff]; simp only [sB, Ring.sl, Fin.ofNat]; congr 1; omega
theorem off6_sB (k : Fin k0_t1_loop.trips) : k0_off6 k = slotOff (sB (k.val + 2)) := by
  rw [k0_off6_eq, slotOff]; simp only [sB, Ring.sl, Fin.ofNat]; congr 1; omega
theorem off8_sA (k : Fin k0_t1_loop.trips) : k0_off8 k = semOff (sA k.val) := by
  rw [k0_off8_eq, semOff]; simp only [sA, Ring.sl, Fin.ofNat]; congr 1; omega
theorem off9_sA (k : Fin k0_t1_loop.trips) : k0_off9 k = slotOff (sA k.val) := by
  rw [k0_off9_eq, slotOff]; simp only [sA, Ring.sl, Fin.ofNat]; congr 1; omega
theorem off11_sB (k : Fin k0_t1_loop.trips) : k0_off11 k = semOff (sB k.val) := by
  rw [k0_off11_eq, semOff]; simp only [sB, Ring.sl, Fin.ofNat]; congr 1; omega
theorem off12_sB (k : Fin k0_t1_loop.trips) : k0_off12 k = slotOff (sB k.val) := by
  rw [k0_off12_eq, slotOff]; simp only [sB, Ring.sl, Fin.ofNat]; congr 1; omega
theorem off14_sA (k : Fin k0_t1_loop.trips) : k0_off14 k = slotOff (sA k.val) := by
  rw [k0_off14_eq, slotOff]; simp only [sA, Ring.sl, Fin.ofNat]; congr 1; omega
theorem off15_sB (k : Fin k0_t1_loop.trips) : k0_off15 k = slotOff (sB k.val) := by
  rw [k0_off15_eq, slotOff]; simp only [sB, Ring.sl, Fin.ofNat]; congr 1; omega

theorem off4_gA : ∀ k : Fin k0_t1_loop.trips, k.val ≤ 40 → k0_off4 k = grpOff (gA (k.val + 2)) := by decide +kernel
theorem off7_gB : ∀ k : Fin k0_t1_loop.trips, k.val ≤ 40 → k0_off7 k = grpOff (gB (k.val + 2)) := by decide +kernel
theorem off10_gA : ∀ k : Fin k0_t1_loop.trips, k0_off10 k = grpOff (gA k.val) := by decide +kernel
theorem off13_gB : ∀ k : Fin k0_t1_loop.trips, k0_off13 k = grpOff (gB k.val) := by decide +kernel

theorem trips_eq : k0_t1_loop.trips = 43 := by decide +kernel
theorem cond1_zero : ∀ k : Fin k0_t1_loop.trips, k.val = 0 → ¬ k0_cond1 k = 1#1 := by decide +kernel
theorem cond1_pos : ∀ k : Fin k0_t1_loop.trips, k.val ≠ 0 → k0_cond1 k = 1#1 := by decide +kernel
theorem cond2_low : ∀ k : Fin k0_t1_loop.trips, k.val ≤ 40 → k0_cond2 k = 1#1 := by decide +kernel
theorem cond3_low : ∀ k : Fin k0_t1_loop.trips, k.val ≤ 40 → k0_cond3 k = 1#1 := by decide +kernel
theorem cond2_high : ∀ k : Fin k0_t1_loop.trips, 40 < k.val → ¬ k0_cond2 k = 1#1 := by decide +kernel
theorem cond3_high : ∀ k : Fin k0_t1_loop.trips, 40 < k.val → ¬ k0_cond3 k = 1#1 := by decide +kernel
theorem cond4_no : ¬ k0_cond4 = 1#1 := by decide +kernel
theorem cond5_no : ¬ k0_cond5 = 1#1 := by decide +kernel

/-- The loop's windows of the ring, at trip `k`. -/
instance (priority := high) closed14 (k : Fin k0_t1_loop.trips) : ClosedOff (k0_off14 k) := ⟨slotOff (sA k.val), off14_sA k⟩
instance (priority := high) closed15 (k : Fin k0_t1_loop.trips) : ClosedOff (k0_off15 k) := ⟨slotOff (sB k.val), off15_sB k⟩

/-! ## The kernel's slices are these names -/

theorem csm_congr {off : Fin 1 → Nat} {s : Fin 6} (e : off = semOff s) (hh) :
    (cc0_scratch2.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (ringM.slice (Rect.unit (s := S6x8192x512) off S1x8192x512.size hh) hs).squeeze S8192x512 squeezes_S1x8192x512_S8192x512 = rslot s :=
  congrArg (fun M : Memref sig .tc .vmem S1x8192x512 .fp8e4m3 => M.squeeze S8192x512 squeezes_S1x8192x512_S8192x512) (Memref.slice_unit_congr _ e _ _ _ _)
theorem grp_congr {off : Fin 2 → Nat} {b : Fin 86} (e : off = grpOff b) (hh hs) :
    wM.slice (Rect.unit (s := S8192x44032) off S8192x512.size hh) hs = grp b :=
  Memref.slice_unit_congr _ e _ _ _ (fun _ => rfl)

section Canon
variable (k : Fin k0_t1_loop.trips)

@[sl_canon] theorem semL0 (hh) : (cc0_scratch2.slice (Rect.unit (s := S6) ![0] S1.size hh)).squeeze S_ squeezes_S1_S_ = csm 0 := csm_congr (by decide) _
@[sl_canon] theorem semL1 (hh) : (cc0_scratch2.slice (Rect.unit (s := S6) ![1] S1.size hh)).squeeze S_ squeezes_S1_S_ = csm 1 := csm_congr (by decide) _
@[sl_canon] theorem semL2 (hh) : (cc0_scratch2.slice (Rect.unit (s := S6) ![2] S1.size hh)).squeeze S_ squeezes_S1_S_ = csm 2 := csm_congr (by decide) _
@[sl_canon] theorem semL3 (hh) : (cc0_scratch2.slice (Rect.unit (s := S6) ![3] S1.size hh)).squeeze S_ squeezes_S1_S_ = csm 3 := csm_congr (by decide) _
@[sl_canon] theorem semL4 (hh) : (cc0_scratch2.slice (Rect.unit (s := S6) ![4] S1.size hh)).squeeze S_ squeezes_S1_S_ = csm 4 := csm_congr (by decide) _
@[sl_canon] theorem semL5 (hh) : (cc0_scratch2.slice (Rect.unit (s := S6) ![5] S1.size hh)).squeeze S_ squeezes_S1_S_ = csm 5 := csm_congr (by decide) _
@[sl_canon] theorem slotL0 (hh hs) : (ringM.slice (Rect.unit (s := S6x8192x512) ![0, 0, 0] S1x8192x512.size hh) hs).squeeze S8192x512 squeezes_S1x8192x512_S8192x512 = rslot 0 := rslot_congr (by decide) _ _
@[sl_canon] theorem slotL1 (hh hs) : (ringM.slice (Rect.unit (s := S6x8192x512) ![1, 0, 0] S1x8192x512.size hh) hs).squeeze S8192x512 squeezes_S1x8192x512_S8192x512 = rslot 1 := rslot_congr (by decide) _ _
@[sl_canon] theorem slotL2 (hh hs) : (ringM.slice (Rect.unit (s := S6x8192x512) ![2, 0, 0] S1x8192x512.size hh) hs).squeeze S8192x512 squeezes_S1x8192x512_S8192x512 = rslot 2 := rslot_congr (by decide) _ _
@[sl_canon] theorem slotL3 (hh hs) : (ringM.slice (Rect.unit (s := S6x8192x512) ![3, 0, 0] S1x8192x512.size hh) hs).squeeze S8192x512 squeezes_S1x8192x512_S8192x512 = rslot 3 := rslot_congr (by decide) _ _
@[sl_canon] theorem slotL4 (hh hs) : (ringM.slice (Rect.unit (s := S6x8192x512) ![4, 0, 0] S1x8192x512.size hh) hs).squeeze S8192x512 squeezes_S1x8192x512_S8192x512 = rslot 4 := rslot_congr (by decide) _ _
@[sl_canon] theorem slotL5 (hh hs) : (ringM.slice (Rect.unit (s := S6x8192x512) ![5, 0, 0] S1x8192x512.size hh) hs).squeeze S8192x512 squeezes_S1x8192x512_S8192x512 = rslot 5 := rslot_congr (by decide) _ _
@[sl_canon] theorem grpL0 (hh hs) : wM.slice (Rect.unit (s := S8192x44032) (k0_off1 0#32 0#32) S8192x512.size hh) hs = grp 0 := grp_congr (by decide +kernel) _ _
@[sl_canon] theorem grpL1 (hh hs) : wM.slice (Rect.unit (s := S8192x44032) (k0_off1 1#32 1#32) S8192x512.size hh) hs = grp 43 := grp_congr (by decide +kernel) _ _
@[sl_canon] theorem grpL2 (hh hs) : wM.slice (Rect.unit (s := S8192x44032) (k0_off1 2#32 2#32) S8192x512.size hh) hs = grp 1 := grp_congr (by decide +kernel) _ _
@[sl_canon] theorem grpL3 (hh hs) : wM.slice (Rect.unit (s := S8192x44032) (k0_off1 3#32 3#32) S8192x512.size hh) hs = grp 44 := grp_congr (by decide +kernel) _ _
@[sl_canon] theorem grpL4 (hh hs) : wM.slice (Rect.unit (s := S8192x44032) (k0_off1 4#32 4#32) S8192x512.size hh) hs = grp 2 := grp_congr (by decide +kernel) _ _
@[sl_canon] theorem grpL5 (hh hs) : wM.slice (Rect.unit (s := S8192x44032) (k0_off1 5#32 5#32) S8192x512.size hh) hs = grp 45 := grp_congr (by decide +kernel) _ _

@[sl_canon] theorem semIA (hh) : (cc0_scratch2.slice (Rect.unit (s := S6) (k0_off2 k) S1.size hh)).squeeze S_ squeezes_S1_S_ = csm (sA (k.val + 2)) := csm_congr (off2_sA k) _
@[sl_canon] theorem slotIA (hh hs) : (ringM.slice (Rect.unit (s := S6x8192x512) (k0_off3 k) S1x8192x512.size hh) hs).squeeze S8192x512 squeezes_S1x8192x512_S8192x512 = rslot (sA (k.val + 2)) := rslot_congr (off3_sA k) _ _
@[sl_canon] theorem grpIA (hk : k.val ≤ 40) (hh hs) : wM.slice (Rect.unit (s := S8192x44032) (k0_off4 k) S8192x512.size hh) hs = grp (gA (k.val + 2)) := grp_congr (off4_gA k hk) _ _
@[sl_canon] theorem semIB (hh) : (cc0_scratch2.slice (Rect.unit (s := S6) (k0_off5 k) S1.size hh)).squeeze S_ squeezes_S1_S_ = csm (sB (k.val + 2)) := csm_congr (off5_sB k) _
@[sl_canon] theorem slotIB (hh hs) : (ringM.slice (Rect.unit (s := S6x8192x512) (k0_off6 k) S1x8192x512.size hh) hs).squeeze S8192x512 squeezes_S1x8192x512_S8192x512 = rslot (sB (k.val + 2)) := rslot_congr (off6_sB k) _ _
@[sl_canon] theorem grpIB (hk : k.val ≤ 40) (hh hs) : wM.slice (Rect.unit (s := S8192x44032) (k0_off7 k) S8192x512.size hh) hs = grp (gB (k.val + 2)) := grp_congr (off7_gB k hk) _ _
@[sl_canon] theorem semWA (hh) : (cc0_scratch2.slice (Rect.unit (s := S6) (k0_off8 k) S1.size hh)).squeeze S_ squeezes_S1_S_ = csm (sA k.val) := csm_congr (off8_sA k) _
@[sl_canon] theorem slotWA (hh hs) : (ringM.slice (Rect.unit (s := S6x8192x512) (k0_off9 k) S1x8192x512.size hh) hs).squeeze S8192x512 squeezes_S1x8192x512_S8192x512 = rslot (sA k.val) := rslot_congr (off9_sA k) _ _
@[sl_canon] theorem grpWA (hh hs) : wM.slice (Rect.unit (s := S8192x44032) (k0_off10 k) S8192x512.size hh) hs = grp (gA k.val) := grp_congr (off10_gA k) _ _
@[sl_canon] theorem semWB (hh) : (cc0_scratch2.slice (Rect.unit (s := S6) (k0_off11 k) S1.size hh)).squeeze S_ squeezes_S1_S_ = csm (sB k.val) := csm_congr (off11_sB k) _
@[sl_canon] theorem slotWB (hh hs) : (ringM.slice (Rect.unit (s := S6x8192x512) (k0_off12 k) S1x8192x512.size hh) hs).squeeze S8192x512 squeezes_S1x8192x512_S8192x512 = rslot (sB k.val) := rslot_congr (off12_sB k) _ _
@[sl_canon] theorem grpWB (hh hs) : wM.slice (Rect.unit (s := S8192x44032) (k0_off13 k) S8192x512.size hh) hs = grp (gB k.val) := grp_congr (off13_gB k) _ _

end Canon

/-! ## The pieces -/

section Pieces
variable (c : Dev nD) (XW : Buf (Elt F) (wM.view.loc (c : Thread nD τ)))

/-- Slot `s`'s semaphore at zero. -/
abbrev cellP (s : Fin 6) : sProp 𝕄 := semVal ((c : Thread nD τ), SemLoc.dma (csm s).sem) 0
/-- Slot `s` held at contents `f`. -/
abbrev slotP (s : Fin 6) (f : Buf (Elt F) ((rslot s).view.loc (c : Thread nD τ))) : sProp 𝕄 :=
  (rslot s).view.loc (c : Thread nD τ) ↦[(rslot s).view.set]{fullShare} f
/-- Column block `b` held, at the weight's contents. -/
abbrev homeP (b : Fin 86) : sProp 𝕄 := (grp b).view.loc (c : Thread nD τ) ↦[(grp b).view.set]{fullShare} XW
/-- What column block `b`'s transfer leaves in slot `s`. -/
abbrev landed (s : Fin 6) (b : Fin 86) (f : Buf (Elt F) ((rslot s).view.loc (c : Thread nD τ))) : Buf (Elt F) ((rslot s).view.loc (c : Thread nD τ)) :=
  (rslot s).view.writes (Elt F) f [⟨Rect.whole S8192x512, ReadAs.same.apply ((grp b).view.read (Elt F) XW)⟩]
/-- Slot `s` with column block `b`'s transfer under way, issued over contents `f`. -/
abbrev flightP (s : Fin 6) (b : Fin 86) (f : Buf (Elt F) ((rslot s).view.loc (c : Thread nD τ))) : sProp 𝕄 :=
  Transfers.Flight countersEmb (c : Thread nD τ) (SemLoc.dma (csm s).sem) () 131072 iprop(slotP c s (landed c XW s b f) ∗ homeP c XW b)

/-- Trip `t`'s two transfers under way. -/
abbrev goP (t : ℕ) : sProp 𝕄 := iprop((∃ f, flightP c XW (sA t) (gA t) f) ∗ (∃ f, flightP c XW (sB t) (gB t) f))
/-- Trip `t`'s two column blocks held. -/
abbrev pairP (j : Fin 43) : sProp 𝕄 := iprop(homeP c XW (gA j.val) ∗ homeP c XW (gB j.val))
/-- Trip `t`'s two slots held at anything, their semaphores at zero. -/
abbrev freeP (t : ℕ) : sProp 𝕄 := iprop((∃ f, slotP (F := F) c (sA t) f) ∗ (∃ f, slotP (F := F) c (sB t) f) ∗ cellP (F := F) c (sA t) ∗ cellP (F := F) c (sB t))

end Pieces

end Cert.Proof.GateUpIdeal

end
-- ==== Proof.GateUpIdeal.Trip.lean ====
module

public import proofs.«01_k».proof.Proof.GateUpIdeal.Names

@[expose] public section

noncomputable section

namespace Cert.Proof.GateUpIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (XW : Buf (Elt F) (wM.view.loc (c : Thread nD τ)))
  (arg0 : Memref sig .tc .vmem S192x8192 .fp8e4m3) (harg0 : arg0.IsWhole)
  (arg1 : Memref sig .tc .vmem S192x128 .f32) (harg1 : arg1.IsWhole)
  (arg2 : Memref sig .tc .vmem S344x128 .f32) (harg2 : arg2.IsWhole)
  (arg4 : Memref sig .tc .vmem S33024x128 .f32) (harg4 : arg4.IsWhole)
  (arg6 : Memref sig .tc .vmem S192x128 .f32) (harg6 : arg6.IsWhole)
  (x0 : Buf (Elt F) (arg0.view.loc (c : Thread nD τ))) (x1 : Buf (Elt F) (arg1.view.loc (c : Thread nD τ)))
  (x2 : Buf (Elt F) (arg2.view.loc (c : Thread nD τ)))

/-- The three staged inputs, held at their contents. -/
abbrev insP : sProp 𝕄 :=
  iprop((arg0.view.loc (c : Thread nD τ) ↦[arg0.view.set]{fullShare} x0)
    ∗ (arg1.view.loc (c : Thread nD τ) ↦[arg1.view.set]{fullShare} x1)
    ∗ (arg2.view.loc (c : Thread nD τ) ↦[arg2.view.set]{fullShare} x2))
/-- The output block held at `fo`. -/
abbrev outP (fo : Buf (Elt F) (arg4.view.loc (c : Thread nD τ))) : sProp 𝕄 := arg4.view.loc (c : Thread nD τ) ↦[arg4.view.set]{fullShare} fo
/-- The running maxima held at anything. -/
abbrev maxP : sProp 𝕄 := iprop(∃ f : Buf (Elt F) (arg6.view.loc (c : Thread nD τ)), arg6.view.loc (c : Thread nD τ) ↦[arg6.view.set]{fullShare} f)
abbrev owesP : sProp 𝕄 := iprop(∃ W, owes (c : Thread nD τ) 0 W)

abbrev tripG (k : Fin k0_t1_loop.trips) : Prog (TpuEff nD τ sig (Elt F) Λ₀ .tc) Unit :=
  k0_t1_body (F := F) arg0 harg0 arg1 harg1 arg2 harg2 wM (Memref.isWhole_whole _) arg4 harg4 ringM (Memref.isWhole_whole _) arg6 harg6 cc0_scratch2 k ()

/-! ## What a trip stores -/

/-- The gate column block of trip `k` as the matrix product reads it from its slot. -/
abbrev wG (k : Fin k0_t1_loop.trips) : Vec F S1x8192x512 .fp8e4m3 :=
  ringM.view.readAt (Elt F) (Rect.unit (s := S6x8192x512) (k0_off14 k) S1x8192x512.size (k0_off14_inb k)).toLoadRect
    (landed c XW (sA k.val) (gA k.val) (rslot (sA k.val)).view.junk)
/-- The up column block of trip `k` as the matrix product reads it from its slot. -/
abbrev wU (k : Fin k0_t1_loop.trips) : Vec F S1x8192x512 .fp8e4m3 :=
  ringM.view.readAt (Elt F) (Rect.unit (s := S6x8192x512) (k0_off15 k) S1x8192x512.size (k0_off15_inb k)).toLoadRect
    (landed c XW (sB k.val) (gB k.val) (rslot (sB k.val)).view.junk)
/-- The left operand as loaded. -/
abbrev hV : Vec F S192x8192 .fp8e4m3 := arg0.view.readAt (Elt F) (Rect.unit ![0, 0] S192x8192.size inb_S192x8192_S192x8192_0_0).toLoadRect x0

theorem slc (r : Fin 4) (b : Fin 3) : S192x512.Slices ![64 * b.val, 128 * r.val] S64x128 := by
  revert r b; decide
theorem rs_inb (b : Fin 3) : ∀ a, (![64 * b.val, 0] : Fin 2 → Nat) a + S64x128.size a ≤ S192x128.size a := by
  revert b; decide

/-- One 64 by 128 tile: the silu of the scaled gate tile times the scaled up tile. -/
def tile (aG aU : FVec F S192x512 .f32) (rs : Vec F S64x128 .f32) (sg su : Vec F S1x128 .f32) (r : Fin 4) (b : Fin 3) : FVec F S64x128 .f32 :=
  have rs' : FVec F S64x128 .f32 := shapeCast S64x128 rs shapeCasts_S64x128_S64x128
  have g : FVec F S64x128 .f32 := mulf (mulf (extractStridedSlice S64x128 ![64 * b.val, 128 * r.val] aG (slc r b)) rs')
    (broadcastTo S64x128 (shapeCast S1x128 sg shapeCasts_S1x128_S1x128 : FVec F S1x128 .f32) broadcasts_S1x128_S64x128)
  have u : FVec F S64x128 .f32 := mulf (mulf (extractStridedSlice S64x128 ![64 * b.val, 128 * r.val] aU (slc r b)) rs')
    (broadcastTo S64x128 (shapeCast S1x128 su shapeCasts_S1x128_S1x128 : FVec F S1x128 .f32) broadcasts_S1x128_S64x128)
  have z : F .f32 := Scalar.ofBits .f32 0x00000000#32
  have o : F .f32 := Scalar.ofBits .f32 0x3F800000#32
  mulf (mulf g (divf (broadcast S64x128 o) (addf (broadcast S64x128 o) (exp (subf (broadcast S64x128 z) g))))) u

/-- Trip `k`'s tile of 128-lane group `r` and row block `b`. -/
def tileAt (k : Fin k0_t1_loop.trips) (r : Fin 4) (b : Fin 3) : FVec F S64x128 .f32 :=
  tile (k0_pay3 (hV c arg0 x0) (wG c XW k)) (k0_pay4 (hV c arg0 x0) (wU c XW k))
    (arg1.view.readAt (Elt F) (Rect.unit (s := S192x128) ![64 * b.val, 0] S64x128.size (rs_inb b)).toLoadRect x1)
    (arg2.view.readAt (Elt F) (Rect.unit (s := S344x128) (k0_off16 k (BitVec.ofNat 32 r.val)) S1x128.size (k0_off16_inb k r)).toLoadRect x2)
    (arg2.view.readAt (Elt F) (Rect.unit (s := S344x128) (k0_off17 k (BitVec.ofNat 32 r.val)) S1x128.size (k0_off17_inb k r)).toLoadRect x2) r b
/-- The tile with the place it is stored. -/
def piece (k : Fin k0_t1_loop.trips) (r : Fin 4) (b : Fin 3) : View.Piece (Elt F) S33024x128 .f32 :=
  ⟨Rect.unit (s := S33024x128) (k0_off18 k (BitVec.ofNat 32 r.val) (BitVec.ofNat 32 (64 * b.val))) S64x128.size (k0_off18_inb k r b),
    tileAt c XW arg0 arg1 arg2 x0 x1 x2 k r b⟩

/-- The twelve tiles trip `k` stores, the latest first. -/
def pieces (k : Fin k0_t1_loop.trips) : List (View.Piece (Elt F) S33024x128 .f32) :=
  let p := piece c XW arg0 arg1 arg2 x0 x1 x2 k
  [p 3 2, p 2 2, p 1 2, p 0 2, p 3 1, p 2 1, p 1 1, p 0 1, p 3 0, p 2 0, p 1 0, p 0 0]

abbrev nextO (k : Fin k0_t1_loop.trips) (fo : Buf (Elt F) (arg4.view.loc (c : Thread nD τ))) : Buf (Elt F) (arg4.view.loc (c : Thread nD τ)) :=
  arg4.view.writes (Elt F) fo (pieces c XW arg0 arg1 arg2 x0 x1 x2 k)

abbrev wpT (k : Fin k0_t1_loop.trips) (Q : Unit → sProp 𝕄) : sProp 𝕄 :=
  wp frame (wpE (defs₀ (F := F)) 𝒱₀ (c : Thread nD τ) none) Set.univ (tripG arg0 harg0 arg1 harg1 arg2 harg2 arg4 harg4 arg6 harg6 k) Q

/-! ## One trip -/

/-- What every trip takes: the inputs, the output block, the maxima, its two transfers under way. -/
abbrev tripPre (k : ℕ) (fo : Buf (Elt F) (arg4.view.loc (c : Thread nD τ))) : sProp 𝕄 :=
  iprop(insP c arg0 arg1 arg2 x0 x1 x2 ∗ outP c arg4 fo ∗ maxP c arg6 ∗ owesP c ∗ goP c XW k)
/-- What every trip leaves: the twelve tiles stored, its two column blocks and its two slots back. -/
abbrev tripPost (k : Fin k0_t1_loop.trips) (fo : Buf (Elt F) (arg4.view.loc (c : Thread nD τ))) : sProp 𝕄 :=
  iprop(insP c arg0 arg1 arg2 x0 x1 x2 ∗ outP c arg4 (nextO c XW arg0 arg1 arg2 arg4 x0 x1 x2 k fo) ∗ maxP c arg6 ∗ owesP c
    ∗ homeP c XW (gA k.val) ∗ homeP c XW (gB k.val) ∗ freeP (F := F) c k.val)

set_option backward.proofsInPublic true in
/-- The first trip issues nothing: the transfers of trip 2 are already under way. -/
theorem tripFirst (k : Fin k0_t1_loop.trips) (hk : k.val = 0) (fo : Buf (Elt F) (arg4.view.loc (c : Thread nD τ))) :
    iprop(tripPre c XW arg0 arg1 arg2 arg4 arg6 x0 x1 x2 k.val fo)
      ⊢ wpT c arg0 harg0 arg1 harg1 arg2 harg2 arg4 harg4 arg6 harg6 k
        (fun _ => iprop(tripPost c XW arg0 arg1 arg2 arg4 arg6 x0 x1 x2 k fo)) := by
  have h1 := cond1_zero k hk
  iintro ⟨⟨H0, H1, H2⟩, HO, ⟨%fm, HM⟩, ⟨%W, HW⟩, ⟨%fA, HFA⟩, ⟨%fB, HFB⟩⟩
  dsimp only [wpT, tripG]
  sl_unfold [k0_t1_body]
  sl_exec
  sl_step
  isplitl [H0 H1 H2]
  · isplitl [H0]; · iexact H0
    isplitl [H1]; · iexact H1
    iexact H2
  isplitl [HO]; · iexact HO
  isplitl [HM]; · iexists _; iexact HM
  isplitl [HW]; · iexists _; iexact HW
  isplitl [HFA_src]; · iexact HFA_src
  isplitl [HFB_src]; · iexact HFB_src
  isplitl [HFA_dst]; · iexists _; iexact HFA_dst
  isplitl [HFB_dst]; · iexists _; iexact HFB_dst
  isplitl [HFA]; · iexact HFA
  iexact HFB

set_option backward.proofsInPublic true in
/-- A trip in the middle issues the transfers of the trip after next into the slots the trip before it freed. -/
theorem tripMid (k : Fin k0_t1_loop.trips) (hk : k.val ≠ 0) (hk' : k.val ≤ 40) (fo : Buf (Elt F) (arg4.view.loc (c : Thread nD τ))) :
    iprop(tripPre c XW arg0 arg1 arg2 arg4 arg6 x0 x1 x2 k.val fo ∗ (homeP c XW (gA (k.val + 2)) ∗ homeP c XW (gB (k.val + 2))) ∗ freeP (F := F) c (k.val + 2))
      ⊢ wpT c arg0 harg0 arg1 harg1 arg2 harg2 arg4 harg4 arg6 harg6 k
        (fun _ => iprop(tripPost c XW arg0 arg1 arg2 arg4 arg6 x0 x1 x2 k fo ∗ goP c XW (k.val + 2))) := by
  have h1 := cond1_pos k hk
  have h2 := cond2_low k hk'
  have h3 := cond3_low k hk'
  iintro ⟨⟨⟨H0, H1, H2⟩, HO, ⟨%fm, HM⟩, ⟨%W, HW⟩, ⟨%fA, HFA⟩, ⟨%fB, HFB⟩⟩, ⟨Hgn, Hgm⟩, ⟨%fC, HSC⟩, ⟨%fD, HSD⟩, HCC, HCD⟩
  dsimp only [wpT, tripG]
  sl_unfold [k0_t1_body]
  sl_exec
  sl_step
  isplitl [H0 H1 H2 HO HM HW HFA HFB HFA_dst HFB_dst HFA_src HFB_src]
  · isplitl [H0 H1 H2]
    · isplitl [H0]; · iexact H0
      isplitl [H1]; · iexact H1
      iexact H2
    isplitl [HO]; · iexact HO
    isplitl [HM]; · iexists _; iexact HM
    isplitl [HW]; · iexists _; iexact HW
    isplitl [HFA_src]; · iexact HFA_src
    isplitl [HFB_src]; · iexact HFB_src
    isplitl [HFA_dst]; · iexists _; iexact HFA_dst
    isplitl [HFB_dst]; · iexists _; iexact HFB_dst
    isplitl [HFA]; · iexact HFA
    iexact HFB
  isplitl [HCC]; · iexists fC; iexact HCC
  iexists fD; iexact HCD

set_option backward.proofsInPublic true in
/-- The last two trips issue nothing. -/
theorem tripTail (k : Fin k0_t1_loop.trips) (hk : 40 < k.val) (fo : Buf (Elt F) (arg4.view.loc (c : Thread nD τ))) :
    iprop(tripPre c XW arg0 arg1 arg2 arg4 arg6 x0 x1 x2 k.val fo)
      ⊢ wpT c arg0 harg0 arg1 harg1 arg2 harg2 arg4 harg4 arg6 harg6 k
        (fun _ => iprop(tripPost c XW arg0 arg1 arg2 arg4 arg6 x0 x1 x2 k fo)) := by
  have h1 := cond1_pos k (by omega)
  have h2 := cond2_high k hk
  have h3 := cond3_high k hk
  iintro ⟨⟨H0, H1, H2⟩, HO, ⟨%fm, HM⟩, ⟨%W, HW⟩, ⟨%fA, HFA⟩, ⟨%fB, HFB⟩⟩
  dsimp only [wpT, tripG]
  sl_unfold [k0_t1_body]
  sl_exec
  sl_step
  isplitl [H0 H1 H2]
  · isplitl [H0]; · iexact H0
    isplitl [H1]; · iexact H1
    iexact H2
  isplitl [HO]; · iexact HO
  isplitl [HM]; · iexists _; iexact HM
  isplitl [HW]; · iexists _; iexact HW
  isplitl [HFA_src]; · iexact HFA_src
  isplitl [HFB_src]; · iexact HFB_src
  isplitl [HFA_dst]; · iexists _; iexact HFA_dst
  isplitl [HFB_dst]; · iexists _; iexact HFB_dst
  isplitl [HFA]; · iexact HFA
  iexact HFB

end Trip
end Cert.Proof.GateUpIdeal
end
-- ==== Proof.GateUpIdeal.Body.lean ====
module

public import proofs.«01_k».proof.Proof.GateUpIdeal.Trip

@[expose] public section

noncomputable section

namespace Cert.Proof.GateUpIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The loop -/

section Loop

variable (c : Dev nD) (XW : Buf (Elt F) (wM.view.loc (c : Thread nD τ)))
  (arg0 : Memref sig .tc .vmem S192x8192 .fp8e4m3) (harg0 : arg0.IsWhole)
  (arg1 : Memref sig .tc .vmem S192x128 .f32) (harg1 : arg1.IsWhole)
  (arg2 : Memref sig .tc .vmem S344x128 .f32) (harg2 : arg2.IsWhole)
  (arg4 : Memref sig .tc .vmem S33024x128 .f32) (harg4 : arg4.IsWhole)
  (x0 : Buf (Elt F) (arg0.view.loc (c : Thread nD τ))) (x1 : Buf (Elt F) (arg1.view.loc (c : Thread nD τ)))
  (x2 : Buf (Elt F) (arg2.view.loc (c : Thread nD τ)))

/-- Trip `t`'s slots before it: its transfers under way, or, past the last trip, free. -/
def liveP (t : ℕ) : sProp 𝕄 := if t < 43 then goP c XW t else freeP (F := F) c t
theorem liveP_lt (t : ℕ) (h : t < 43) : liveP c XW t = goP c XW t := if_pos h
theorem liveP_ge (t : ℕ) (h : ¬ t < 43) : liveP c XW t = freeP (F := F) c t := if_neg h

/-- The ring before the first trip: the transfers of trips 0, 1 and 2 under way, the other column blocks held. -/
abbrev ringZero : sProp 𝕄 :=
  iprop((∃ f, flightP c XW 0 0 f) ∗ (∃ f, flightP c XW 1 43 f) ∗ (∃ f, flightP c XW 2 1 f) ∗ (∃ f, flightP c XW 3 44 f)
    ∗ (∃ f, flightP c XW 4 2 f) ∗ (∃ f, flightP c XW 5 45 f) ∗ bigSep (Ring.homeSet (NB := 43) 3 0) (pairP c XW))
/-- The ring before trip `k`: from trip 1 on, the transfers of trips `k` and `k + 1` under way, the third pair of slots free. -/
def ringAt : ℕ → sProp 𝕄
  | 0 => ringZero c XW
  | k + 1 => iprop(liveP c XW (k + 1) ∗ liveP c XW (k + 2) ∗ freeP (F := F) c (k + 3) ∗ bigSep (Ring.homeSet (NB := 43) 2 (k + 1)) (pairP c XW))
theorem ringAt_pos (k : ℕ) (h : k ≠ 0) : ringAt c XW k
    = iprop(liveP c XW k ∗ liveP c XW (k + 1) ∗ freeP (F := F) c (k + 2) ∗ bigSep (Ring.homeSet (NB := 43) 2 k) (pairP c XW)) := by
  obtain ⟨n, rfl⟩ := Nat.exists_eq_succ_of_ne_zero h; rfl

/-- The output block before trip `k`, from `o0`: each trip's twelve tiles over what was there. -/
def outAcc (o0 : Buf (Elt F) (arg4.view.loc (c : Thread nD τ))) : ℕ → Buf (Elt F) (arg4.view.loc (c : Thread nD τ))
  | 0 => o0
  | k + 1 => if h : k < k0_t1_loop.trips then nextO c XW arg0 arg1 arg2 arg4 x0 x1 x2 ⟨k, h⟩ (outAcc o0 k) else outAcc o0 k
theorem outAcc_succ (o0) (k : Fin k0_t1_loop.trips) :
    outAcc c XW arg0 arg1 arg2 arg4 x0 x1 x2 o0 (k.val + 1) = nextO c XW arg0 arg1 arg2 arg4 x0 x1 x2 k (outAcc c XW arg0 arg1 arg2 arg4 x0 x1 x2 o0 k.val) := by
  rw [outAcc, dif_pos k.isLt]

theorem trips_pos : 0 < k0_t1_loop.trips := by rw [trips_eq]; decide
theorem freeP_add3 (k : ℕ) : freeP (F := F) c (k + 3) = freeP (F := F) c k := by
  have eA : sA (k + 3) = sA k := by rw [sA, show 2 * (k + 3) = 2 * k + 6 by omega, Ring.sl_add]
  have eB : sB (k + 3) = sB k := by rw [sB, show 2 * (k + 3) + 1 = 2 * k + 1 + 6 by omega, Ring.sl_add]
  unfold freeP; rw [eA, eB]
theorem pairP_bk (k : ℕ) (h : k < 43) : pairP c XW (Ring.bk 43 k) = iprop(homeP c XW (gA k) ∗ homeP c XW (gB k)) := by
  unfold pairP; rw [Ring.bk_val h]
theorem homes_out (k : ℕ) (h : k + 2 < 43) : bigSep (Ring.homeSet (NB := 43) 2 k) (pairP c XW)
    = iprop((homeP c XW (gA (k + 2)) ∗ homeP c XW (gB (k + 2))) ∗ bigSep ((Ring.homeSet (NB := 43) 2 k).erase (Ring.bk 43 (k + 2))) (pairP c XW)) := by
  conv_lhs => rw [Ring.homeSet_out 2 k h, bigSep_insert (Ring.bkL_not_mem_erase 2 k)]
  rw [← pairP_bk c XW (k + 2) h]; rfl
theorem homes_next (k : ℕ) (h : k + 2 < 43) : bigSep (Ring.homeSet (NB := 43) 2 (k + 1)) (pairP c XW)
    = iprop((homeP c XW (gA k) ∗ homeP c XW (gB k)) ∗ bigSep ((Ring.homeSet (NB := 43) 2 k).erase (Ring.bk 43 (k + 2))) (pairP c XW)) := by
  conv_lhs => rw [Ring.homeSet_succ 2 k h, bigSep_insert (Ring.bk_not_mem_erase 2 k (by omega) (by decide))]
  rw [← pairP_bk c XW k (by omega)]; rfl
theorem homes_tail (k : ℕ) (h : 43 ≤ k + 2) (hk : k < 43) : bigSep (Ring.homeSet (NB := 43) 2 (k + 1)) (pairP c XW)
    = iprop((homeP c XW (gA k) ∗ homeP c XW (gB k)) ∗ bigSep (Ring.homeSet (NB := 43) 2 k) (pairP c XW)) := by
  conv_lhs => rw [Ring.homeSet_succ_tail 2 k h hk, bigSep_insert (Ring.bk_not_mem_homeSet 2 k hk (by decide))]
  rw [← pairP_bk c XW k hk]; rfl
theorem homes_one : bigSep (Ring.homeSet (NB := 43) 2 1) (pairP c XW)
    = iprop((homeP c XW (gA 0) ∗ homeP c XW (gB 0)) ∗ bigSep (Ring.homeSet (NB := 43) 3 0) (pairP c XW)) := by
  have e : Ring.homeSet (NB := 43) 2 1 = insert (Ring.bk 43 0) (Ring.homeSet 3 0) := by
    ext b; rw [Ring.mem_homeSet, Finset.mem_insert, Ring.mem_homeSet, Fin.ext_iff, Ring.bk_val (by decide)]; omega
  conv_lhs => rw [e, bigSep_insert (Ring.bk_not_mem_homeSet 3 0 (by decide) (by decide))]
  rw [← pairP_bk c XW 0 (by decide)]; rfl

abbrev heldP (fo : Buf (Elt F) (arg4.view.loc (c : Thread nD τ))) : sProp 𝕄 :=
  iprop(insP c arg0 arg1 arg2 x0 x1 x2 ∗ outP c arg4 fo ∗ maxP c amaxM ∗ owesP c)

set_option warn.classDefReducibility false in
/-- The loop's invariant. -/
@[sl_loop] def loopInv (o0 : Buf (Elt F) (arg4.view.loc (c : Thread nD τ))) :
    LoopInvTy_k0_t1 (F := F) Unit ℕ (UU nD τ) ℕ 𝒱₀ c none Set.univ arg0 harg0 arg1 harg1 arg2 harg2 wM (Memref.isWhole_whole _) arg4 harg4 ringM (Memref.isWhole_whole _) amaxM (Memref.isWhole_whole _) cc0_scratch2 where
  inv k _ := iprop(heldP c arg0 arg1 arg2 arg4 x0 x1 x2 (outAcc c XW arg0 arg1 arg2 arg4 x0 x1 x2 o0 k) ∗ ringAt c XW k)
  step k _ := by
    have hlt : k.val < 43 := Nat.lt_of_lt_of_eq k.isLt trips_eq
    rw [outAcc_succ, ringAt_pos c XW (k.val + 1) (by omega), freeP_add3]
    by_cases h0 : k.val = 0
    · have hk : k = ⟨0, trips_pos⟩ := Fin.ext h0
      subst hk
      rw [liveP_lt c XW (0 + 1) (by decide), liveP_lt c XW (0 + 1 + 1) (by decide), show (0 + 1 : ℕ) = 1 from rfl, homes_one,
        show ringAt c XW (⟨0, trips_pos⟩ : Fin k0_t1_loop.trips).val = ringZero c XW from rfl]
      iintro ⟨⟨HI, HO, HM, HW⟩, F0, F1, F2, F3, F4, F5, HR⟩
      iapply (wp_wand_r Idealize.ShloMosaic.frame (wpE (defs₀ (F := F)) 𝒱₀ (c : Thread nD τ) none) Set.univ)
      isplitl [HI HO HM HW F0 F1]
      · iapply (tripFirst c XW arg0 harg0 arg1 harg1 arg2 harg2 arg4 harg4 amaxM (Memref.isWhole_whole _) x0 x1 x2 ⟨0, trips_pos⟩ rfl _)
        isplitl [HI]; · iexact HI
        isplitl [HO]; · iexact HO
        isplitl [HM]; · iexact HM
        isplitl [HW]; · iexact HW
        isplitl [F0]; · iexact F0
        iexact F1
      · iintro %_ ⟨HI, HO, HM, HW, HA, HB, HF⟩
        isplitl [HI HO HM HW]
        · isplitl [HI]; · iexact HI
          isplitl [HO]; · iexact HO
          isplitl [HM]; · iexact HM
          iexact HW
        isplitl [F2 F3]
        · isplitl [F2]; · iexact F2
          iexact F3
        isplitl [F4 F5]
        · isplitl [F4]; · iexact F4
          iexact F5
        isplitl [HF]; · iexact HF
        isplitl [HA HB]
        · isplitl [HA]; · iexact HA
          iexact HB
        iexact HR
    by_cases h1 : k.val ≤ 40
    · rw [ringAt_pos c XW k.val h0, liveP_lt c XW k.val hlt, liveP_lt c XW (k.val + 1 + 1) (by omega), homes_out c XW k.val (by omega), homes_next c XW k.val (by omega)]
      iintro ⟨⟨HI, HO, HM, HW⟩, HG, HL, HF, HN, HR⟩
      iapply (wp_wand_r Idealize.ShloMosaic.frame (wpE (defs₀ (F := F)) 𝒱₀ (c : Thread nD τ) none) Set.univ)
      isplitl [HI HO HM HW HG HF HN]
      · iapply (tripMid c XW arg0 harg0 arg1 harg1 arg2 harg2 arg4 harg4 amaxM (Memref.isWhole_whole _) x0 x1 x2 k h0 h1 _)
        isplitl [HI HO HM HW HG]
        · isplitl [HI]; · iexact HI
          isplitl [HO]; · iexact HO
          isplitl [HM]; · iexact HM
          isplitl [HW]; · iexact HW
          iexact HG
        isplitl [HN]; · iexact HN
        iexact HF
      · iintro %_ ⟨⟨HI, HO, HM, HW, HA, HB, HF⟩, HG⟩
        isplitl [HI HO HM HW]
        · isplitl [HI]; · iexact HI
          isplitl [HO]; · iexact HO
          isplitl [HM]; · iexact HM
          iexact HW
        isplitl [HL]; · iexact HL
        isplitl [HG]; · iexact HG
        isplitl [HF]; · iexact HF
        isplitl [HA HB]
        · isplitl [HA]; · iexact HA
          iexact HB
        iexact HR
    · rw [ringAt_pos c XW k.val h0, liveP_lt c XW k.val hlt, liveP_ge c XW (k.val + 1 + 1) (by omega), homes_tail c XW k.val (by omega) hlt]
      iintro ⟨⟨HI, HO, HM, HW⟩, HG, HL, HF, HR⟩
      iapply (wp_wand_r Idealize.ShloMosaic.frame (wpE (defs₀ (F := F)) 𝒱₀ (c : Thread nD τ) none) Set.univ)
      isplitl [HI HO HM HW HG]
      · iapply (tripTail c XW arg0 harg0 arg1 harg1 arg2 harg2 arg4 harg4 amaxM (Memref.isWhole_whole _) x0 x1 x2 k (by omega) _)
        isplitl [HI]; · iexact HI
        isplitl [HO]; · iexact HO
        isplitl [HM]; · iexact HM
        isplitl [HW]; · iexact HW
        iexact HG
      · iintro %_ ⟨HI, HO, HM, HW, HA, HB, HF2⟩
        isplitl [HI HO HM HW]
        · isplitl [HI]; · iexact HI
          isplitl [HO]; · iexact HO
          isplitl [HM]; · iexact HM
          iexact HW
        isplitl [HL]; · iexact HL
        isplitl [HF]; · iexact HF
        isplitl [HF2]; · iexact HF2
        isplitl [HA HB]
        · isplitl [HA]; · iexact HA
          iexact HB
        iexact HR

/-- What the body leaves in the output block. -/
abbrev outOf (gO : Buf (Elt F) (arg4.view.loc (c : Thread nD τ))) : Buf (Elt F) (arg4.view.loc (c : Thread nD τ)) := outAcc c XW arg0 arg1 arg2 arg4 x0 x1 x2 gO 43

/-- The six slots at anything and their semaphores at zero. -/
abbrev slotsP : sProp 𝕄 :=
  iprop((∃ f, slotP (F := F) c 0 f) ∗ (∃ f, slotP (F := F) c 1 f) ∗ (∃ f, slotP (F := F) c 2 f) ∗ (∃ f, slotP (F := F) c 3 f) ∗ (∃ f, slotP (F := F) c 4 f) ∗ (∃ f, slotP (F := F) c 5 f))
abbrev cellsP : sProp 𝕄 :=
  iprop(cellP (F := F) c 0 ∗ cellP (F := F) c 1 ∗ cellP (F := F) c 2 ∗ cellP (F := F) c 3 ∗ cellP (F := F) c 4 ∗ cellP (F := F) c 5)

/-- What the body leaves. -/
abbrev POST (out : Buf (Elt F) (arg4.view.loc (c : Thread nD τ))) : sProp 𝕄 :=
  iprop(insP c arg0 arg1 arg2 x0 x1 x2 ∗ outP c arg4 out ∗ maxP c amaxM ∗ bigSep Finset.univ (pairP c XW)
    ∗ slotsP c ∗ cellsP c ∗ owesP c)

/-- `POST` under one name, opened by `doneP_eq`. -/
@[irreducible] def doneP (out : Buf (Elt F) (arg4.view.loc (c : Thread nD τ))) : sProp 𝕄 := POST c XW arg0 arg1 arg2 arg4 x0 x1 x2 out
theorem doneP_eq (out) : doneP c XW arg0 arg1 arg2 arg4 x0 x1 x2 out = POST c XW arg0 arg1 arg2 arg4 x0 x1 x2 out := by rw [doneP]

theorem freeP_lit (t : ℕ) (a b : Fin 6) (ha : sA t = a) (hb : sB t = b) : freeP (F := F) c t
    = iprop((∃ f, slotP (F := F) c a f) ∗ (∃ f, slotP (F := F) c b f) ∗ cellP (F := F) c a ∗ cellP (F := F) c b) := by
  subst ha; subst hb; rfl

set_option warn.classDefReducibility false in
/-- After the loop the ring is whole again. -/
def loopExit (o0 : Buf (Elt F) (arg4.view.loc (c : Thread nD τ))) :
    LoopExit (loopInv (F := F) c XW arg0 harg0 arg1 harg1 arg2 harg2 arg4 harg4 x0 x1 x2 o0) where
  post _ := doneP c XW arg0 arg1 arg2 arg4 x0 x1 x2 (outOf c XW arg0 arg1 arg2 arg4 x0 x1 x2 o0)
  exit acc := by
    show iprop(heldP c arg0 arg1 arg2 arg4 x0 x1 x2 (outAcc c XW arg0 arg1 arg2 arg4 x0 x1 x2 o0 k0_t1_loop.trips) ∗ ringAt c XW k0_t1_loop.trips) ⊢ _
    rw [trips_eq, doneP_eq, ringAt_pos c XW 43 (by decide), liveP_ge c XW 43 (by decide), liveP_ge c XW (43 + 1) (by decide),
      freeP_lit c 43 2 3 (by decide) (by decide), freeP_lit c (43 + 1) 4 5 (by decide) (by decide), freeP_lit c (43 + 2) 0 1 (by decide) (by decide),
      Ring.homeSet_last (NB := 43) (L := 2) 43 (by decide)]
    iintro ⟨⟨HI, HO, HM, HW⟩, ⟨S2, S3, C2, C3⟩, ⟨S4, S5, C4, C5⟩, ⟨S0, S1, C0, C1⟩, HR⟩
    isplitl [HI]; · iexact HI
    isplitl [HO]; · iexact HO
    isplitl [HM]; · iexact HM
    isplitl [HR]; · iexact HR
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [C0 C1 C2 C3 C4 C5]
    · isplitl [C0]; · iexact C0
      isplitl [C1]; · iexact C1
      isplitl [C2]; · iexact C2
      isplitl [C3]; · iexact C3
      isplitl [C4]; · iexact C4
      iexact C5
    iexact HW

end Loop

/-! ## The kernel body -/

section Body

variable (c : Dev nD) (XW : Buf (Elt F) (wM.view.loc (c : Thread nD τ)))
  (arg0 : Memref sig .tc .vmem S192x8192 .fp8e4m3) (harg0 : arg0.IsWhole)
  (arg1 : Memref sig .tc .vmem S192x128 .f32) (harg1 : arg1.IsWhole)
  (arg2 : Memref sig .tc .vmem S344x128 .f32) (harg2 : arg2.IsWhole)
  (arg4 : Memref sig .tc .vmem S33024x128 .f32) (harg4 : arg4.IsWhole)
  (x0 : Buf (Elt F) (arg0.view.loc (c : Thread nD τ))) (x1 : Buf (Elt F) (arg1.view.loc (c : Thread nD τ)))
  (x2 : Buf (Elt F) (arg2.view.loc (c : Thread nD τ)))

/-- The kernel on the given staging buffers. -/
abbrev bodyG : Prog (TpuEff nD τ sig (Elt F) Λ₀ .tc) PUnit :=
  cc0_gate_up arg0 harg0 arg1 harg1 arg2 harg2 wM (Memref.isWhole_whole _) arg4 harg4 ringM (Memref.isWhole_whole _) amaxM (Memref.isWhole_whole _) cc0_scratch2

/-- What the body takes. -/
abbrev PRE (gO : Buf (Elt F) (arg4.view.loc (c : Thread nD τ))) (W : Waits sig Unit) : sProp 𝕄 :=
  iprop(insP c arg0 arg1 arg2 x0 x1 x2 ∗ outP c arg4 gO ∗ maxP c amaxM
    ∗ (homeP c XW 0 ∗ homeP c XW 43 ∗ homeP c XW 1 ∗ homeP c XW 44 ∗ homeP c XW 2 ∗ homeP c XW 45 ∗ bigSep (Ring.homeSet (NB := 43) 3 0) (pairP c XW))
    ∗ slotsP c ∗ cellsP c ∗ owes (c : Thread nD τ) 0 W)
set_option warn.classDefReducibility false in
attribute [local instance] loopExit in
theorem bodyRun (gO W) (Q : PUnit → sProp 𝕄) :
    iprop(PRE c XW arg0 arg1 arg2 arg4 x0 x1 x2 gO W ∗ (POST c XW arg0 arg1 arg2 arg4 x0 x1 x2 (outOf c XW arg0 arg1 arg2 arg4 x0 x1 x2 gO) -∗ Q ⟨⟩))
      ⊢ wp frame (wpE (defs₀ (F := F)) 𝒱₀ (c : Thread nD τ) none) Set.univ (bodyG arg0 harg0 arg1 harg1 arg2 harg2 arg4 harg4) Q := by
  have h4 := cond4_no
  have h5 := cond5_no
  iintro ⟨⟨⟨H0, H1, H2⟩, HO, ⟨%fm, HM⟩, ⟨Hg0, Hg1, Hg2, Hg3, Hg4, Hg5, HR⟩, ⟨⟨%f0, Hs0⟩, ⟨%f1, Hs1⟩, ⟨%f2, Hs2⟩, ⟨%f3, Hs3⟩, ⟨%f4, Hs4⟩, ⟨%f5, Hs5⟩⟩, ⟨Hc0, Hc1, Hc2, Hc3, Hc4, Hc5⟩, HW⟩, Hk⟩
  let L := loopInv c XW arg0 harg0 arg1 harg1 arg2 harg2 arg4 harg4 x0 x1 x2 gO
  sl_exec
  sl_step
  have hd : doneP c XW arg0 arg1 arg2 arg4 x0 x1 x2 (outOf c XW arg0 arg1 arg2 arg4 x0 x1 x2 gO)
      ⊢ POST c XW arg0 arg1 arg2 arg4 x0 x1 x2 (outOf c XW arg0 arg1 arg2 arg4 x0 x1 x2 gO) := entails_of_eq (doneP_eq ..)
  iapply Hk
  iapply hd
  iexact HL0

end Body
end Cert.Proof.GateUpIdeal
end
-- ==== Proof.GateUpIdeal.Stored.lean ====
module

public import proofs.«01_k».proof.Proof.GateUpIdeal.Body
public import Idealize.ShloMosaic.Lib.WritesUnit

@[expose] public section

noncomputable section

namespace Cert.Proof.GateUpIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # What the output block holds after the loop -/

section Stored

variable (c : Dev nD) (XW : Buf (Elt F) (wM.view.loc (c : Thread nD τ)))
  (arg0 : Memref sig .tc .vmem S192x8192 .fp8e4m3)
  (arg1 : Memref sig .tc .vmem S192x128 .f32)
  (arg2 : Memref sig .tc .vmem S344x128 .f32)
  (arg4 : Memref sig .tc .vmem S33024x128 .f32)
  (x0 : Buf (Elt F) (arg0.view.loc (c : Thread nD τ))) (x1 : Buf (Elt F) (arg1.view.loc (c : Thread nD τ)))
  (x2 : Buf (Elt F) (arg2.view.loc (c : Thread nD τ)))

/-- Row `s`, lane `l` of a tile. -/
def tix (s : Fin 64) (l : Fin 128) : S64x128.Idx := fun | ⟨0, _⟩ => s | ⟨1, _⟩ => l

theorem skipPiece (k : Fin k0_t1_loop.trips) (r : Fin 4) (b : Fin 3) (f) (L : List (View.Piece (Elt F) S33024x128 .f32)) (y : S33024x128.Idx)
    (h : (y 0).val < 768 * k.val + 192 * r.val + 64 * b.val ∨ 768 * k.val + 192 * r.val + 64 * b.val + 64 ≤ (y 0).val) :
    arg4.view.read (Elt F) (arg4.view.writes (Elt F) f (piece c XW arg0 arg1 arg2 x0 x1 x2 k r b :: L)) y
      = arg4.view.read (Elt F) (arg4.view.writes (Elt F) f L) y :=
  View.read_writes_cons_rows_of_not_mem arg4.view f _ _ L y (k0_off18_eq k r b) rfl h

theorem hitPiece (k : Fin k0_t1_loop.trips) (r : Fin 4) (b : Fin 3) (f) (L : List (View.Piece (Elt F) S33024x128 .f32)) (y : S33024x128.Idx)
    (s : Fin 64) (l : Fin 128) (h0 : (y 0).val = 768 * k.val + 192 * r.val + 64 * b.val + s.val) (h1 : (y 1).val = l.val) :
    arg4.view.read (Elt F) (arg4.view.writes (Elt F) f (piece c XW arg0 arg1 arg2 x0 x1 x2 k r b :: L)) y
      = tileAt c XW arg0 arg1 arg2 x0 x1 x2 k r b (tix s l) :=
  View.read_writes_cons_rows_of_mem arg4.view f (k0_off18_inb k r b) (tileAt c XW arg0 arg1 arg2 x0 x1 x2 k r b) L y (tix s l) (k0_off18_eq k r b) h0 h1

/-- The tiles in the order a trip stores them, the latest first: 128-lane group and row block. -/
def order : List (Fin 4 × Fin 3) := [(3, 2), (2, 2), (1, 2), (0, 2), (3, 1), (2, 1), (1, 1), (0, 1), (3, 0), (2, 0), (1, 0), (0, 0)]
theorem mem_order : ∀ (r : Fin 4) (b : Fin 3), (r, b) ∈ order := by decide
theorem pieces_eq (k : Fin k0_t1_loop.trips) :
    pieces c XW arg0 arg1 arg2 x0 x1 x2 k = order.map fun q => piece c XW arg0 arg1 arg2 x0 x1 x2 k q.1 q.2 := rfl

theorem read_map_hit (k : Fin k0_t1_loop.trips) (r : Fin 4) (b : Fin 3) (f) (y : S33024x128.Idx)
    (s : Fin 64) (l : Fin 128) (h0 : (y 0).val = 768 * k.val + 192 * r.val + 64 * b.val + s.val) (h1 : (y 1).val = l.val)
    (L : List (Fin 4 × Fin 3)) (hL : (r, b) ∈ L) :
    arg4.view.read (Elt F) (arg4.view.writes (Elt F) f (L.map fun q => piece c XW arg0 arg1 arg2 x0 x1 x2 k q.1 q.2)) y
      = tileAt c XW arg0 arg1 arg2 x0 x1 x2 k r b (tix s l) := by
  induction L with
  | nil => exact absurd hL List.not_mem_nil
  | cons q L ih =>
    rw [List.map_cons]
    by_cases e : (r, b) = q
    · rw [← e]; exact hitPiece c XW arg0 arg1 arg2 arg4 x0 x1 x2 k r b f _ y s l h0 h1
    · rw [skipPiece c XW arg0 arg1 arg2 arg4 x0 x1 x2 k q.1 q.2 f _ y (by
        have hs := s.isLt; have := r.isLt; have := b.isLt; have := q.1.isLt; have := q.2.isLt
        have hne : ¬ (r.val = q.1.val ∧ b.val = q.2.val) := fun h => e (Prod.ext (Fin.ext h.1) (Fin.ext h.2))
        omega)]
      exact ih ((List.mem_cons.mp hL).resolve_left e)
theorem read_map_skip (k : Fin k0_t1_loop.trips) (f) (y : S33024x128.Idx)
    (h : (y 0).val < 768 * k.val ∨ 768 * k.val + 768 ≤ (y 0).val) (L : List (Fin 4 × Fin 3)) :
    arg4.view.read (Elt F) (arg4.view.writes (Elt F) f (L.map fun q => piece c XW arg0 arg1 arg2 x0 x1 x2 k q.1 q.2)) y
      = arg4.view.read (Elt F) f y := by
  induction L with
  | nil => rfl
  | cons q L ih =>
    rw [List.map_cons, skipPiece c XW arg0 arg1 arg2 arg4 x0 x1 x2 k q.1 q.2 f _ y (by
        have := q.1.isLt; have := q.2.isLt; omega)]
    exact ih

/-- An element of trip `k`'s rows reads the tile that covers it; -/
theorem read_next_hit (k : Fin k0_t1_loop.trips) (r : Fin 4) (b : Fin 3) (f) (y : S33024x128.Idx)
    (s : Fin 64) (l : Fin 128) (h0 : (y 0).val = 768 * k.val + 192 * r.val + 64 * b.val + s.val) (h1 : (y 1).val = l.val) :
    arg4.view.read (Elt F) (nextO c XW arg0 arg1 arg2 arg4 x0 x1 x2 k f) y = tileAt c XW arg0 arg1 arg2 x0 x1 x2 k r b (tix s l) := by
  rw [nextO, pieces_eq]
  exact read_map_hit c XW arg0 arg1 arg2 arg4 x0 x1 x2 k r b f y s l h0 h1 order (mem_order r b)
/-- any other reads what was there. -/
theorem read_next_skip (k : Fin k0_t1_loop.trips) (f) (y : S33024x128.Idx)
    (h : (y 0).val < 768 * k.val ∨ 768 * k.val + 768 ≤ (y 0).val) :
    arg4.view.read (Elt F) (nextO c XW arg0 arg1 arg2 arg4 x0 x1 x2 k f) y = arg4.view.read (Elt F) f y := by
  rw [nextO, pieces_eq]
  exact read_map_skip c XW arg0 arg1 arg2 arg4 x0 x1 x2 k f y h order

/-- The trip, 128-lane group, row block, row and lane that element `y` of the output block comes from. -/
theorem row_lt (y : S33024x128.Idx) : (y 0).val < 33024 := (y 0).isLt
def outTrip (y : S33024x128.Idx) : Fin k0_t1_loop.trips := ⟨(y 0).val / 768, by have := row_lt y; rw [trips_eq]; omega⟩
def outGroup (y : S33024x128.Idx) : Fin 4 := ⟨(y 0).val % 768 / 192, by omega⟩
def outBlock (y : S33024x128.Idx) : Fin 3 := ⟨(y 0).val % 192 / 64, by omega⟩
def outRow (y : S33024x128.Idx) : Fin 64 := ⟨(y 0).val % 64, by omega⟩
def outLane (y : S33024x128.Idx) : Fin 128 := ⟨(y 1).val, (y 1).isLt⟩

/-- What element `y` of the output block holds after the loop. -/
def outVal (y : S33024x128.Idx) : F .f32 :=
  tileAt c XW arg0 arg1 arg2 x0 x1 x2 (outTrip y) (outGroup y) (outBlock y) (tix (outRow y) (outLane y))

theorem read_outAcc (o0) (n : ℕ) (hn : n ≤ 43) (y : S33024x128.Idx) :
    arg4.view.read (Elt F) (outAcc c XW arg0 arg1 arg2 arg4 x0 x1 x2 o0 n) y
      = if (y 0).val < 768 * n then outVal c XW arg0 arg1 arg2 x0 x1 x2 y else arg4.view.read (Elt F) o0 y := by
  induction n with
  | zero => rw [if_neg (by omega)]; rfl
  | succ n ih =>
    have hlt : n < k0_t1_loop.trips := by rw [trips_eq]; omega
    rw [outAcc_succ c XW arg0 arg1 arg2 arg4 x0 x1 x2 o0 ⟨n, hlt⟩]
    by_cases h : (y 0).val < 768 * n ∨ 768 * n + 768 ≤ (y 0).val
    · rw [read_next_skip c XW arg0 arg1 arg2 arg4 x0 x1 x2 ⟨n, hlt⟩ _ y h, ih (by omega)]
      by_cases h' : (y 0).val < 768 * n
      · rw [if_pos h', if_pos (by omega)]
      · rw [if_neg h', if_neg (by omega)]
    · rw [if_pos (by omega)]
      have e : outTrip y = ⟨n, hlt⟩ := Fin.ext (by show (y 0).val / 768 = n; omega)
      unfold outVal
      rw [e]
      exact read_next_hit c XW arg0 arg1 arg2 arg4 x0 x1 x2 ⟨n, hlt⟩ (outGroup y) (outBlock y) _ y (outRow y) (outLane y)
        (by show (y 0).val = 768 * n + 192 * ((y 0).val % 768 / 192) + 64 * ((y 0).val % 192 / 64) + (y 0).val % 64; omega) rfl

/-- After the loop every element has been stored, whatever was there before. -/
theorem read_outOf (o0) :
    arg4.view.read (Elt F) (outOf c XW arg0 arg1 arg2 arg4 x0 x1 x2 o0) = outVal c XW arg0 arg1 arg2 x0 x1 x2 := by
  funext y
  rw [read_outAcc c XW arg0 arg1 arg2 arg4 x0 x1 x2 o0 43 le_rfl y, if_pos (row_lt y)]

end Stored
end Cert.Proof.GateUpIdeal
end
-- ==== Proof.GateUpIdeal.Launch.lean ====
/-
  The gate/up kernel's launch: the weight whole is its 43 pairs of column blocks, the ring whole is its six slots; the
  body's run is the pipeline's body obligation at its one point; and the whole program runs to a final state with the
  result at the computed contents, the arguments unchanged and every semaphore counter at zero.
-/
module

public import proofs.«01_k».proof.Proof.GateUpIdeal.Stored

@[expose] public section

noncomputable section

namespace Cert.Proof.GateUpIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## @main up to the region -/

abbrev hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The weight's contents, as the column blocks read them. -/
abbrev XWof (c : Dev nD) : Buf (Elt F) (wM.view.loc (c : Thread nD τ)) := m ((c : Thread nD τ).loc main_arg2)

/-! ## The kernel's own semaphores -/

abbrev osem : Fin 6 → SemLoc sig := fun s => .dma (csm s).sem
theorem ownSemFacts : Pipeline.OwnSemFacts spec0 osem := by decide

/-! ## Element sets: the weight's column blocks, the ring's slots -/

abbrev G86 (b : Fin 86) : Finset S8192x44032.Idx := (Rect.unit (s := S8192x44032) (grpOff b) S8192x512.size (grpOff_inb b)).set
abbrev S6s (s : Fin 6) : Finset S6x8192x512.Idx := (Rect.unit (s := S6x8192x512) (slotOff s) S1x8192x512.size (slotOff_inb s)).set
/-- A pair of column blocks. -/
abbrev P43 (j : Fin 43) : Finset S8192x44032.Idx := G86 (gA j.val) ∪ G86 (gB j.val)

omit [FloatOps F] in
theorem grp_set (b : Fin 86) : (grp b : Memref sig .tc .hbm _ _).view.set = G86 b := View.set_slice_whole _ _
omit [FloatOps F] in
theorem rslot_set (s : Fin 6) : (rslot s : Memref sig .tc .vmem _ _).view.set = S6s s := (View.set_reshape _ _).trans (View.set_slice_whole _ _)

theorem mem_G86 (b : Fin 86) (y : S8192x44032.Idx) : y ∈ G86 b ↔ (y 1).val / 512 = b.val := by
  rw [Rect.mem_set_unit]
  have h0 : (y 0).val < 8192 := (y 0).isLt
  constructor
  · intro H; have a0 : 512 * b.val ≤ (y 1).val ∧ (y 1).val < 512 * b.val + 512 := H 1; omega
  · intro H i; fin_cases i
    · show 0 ≤ (y 0).val ∧ (y 0).val < 0 + 8192; omega
    · show 512 * b.val ≤ (y 1).val ∧ (y 1).val < 512 * b.val + 512; omega
theorem gA_val (j : Fin 43) : (gA j.val).val = j.val := Ring.bk_val (by have := j.isLt; omega)
theorem gB_val (j : Fin 43) : (gB j.val).val = 43 + j.val := Ring.bk_val (by have := j.isLt; omega)
theorem mem_P43 (j : Fin 43) (y : S8192x44032.Idx) : y ∈ P43 j ↔ (y 1).val / 512 = j.val ∨ (y 1).val / 512 = 43 + j.val := by
  rw [Finset.mem_union, mem_G86, mem_G86, gA_val, gB_val]
theorem mem_S6s (s : Fin 6) (y : S6x8192x512.Idx) : y ∈ S6s s ↔ (y 0).val = s.val := by
  rw [Rect.mem_set_unit]
  have h1 : (y 1).val < 8192 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 8192; omega
    · show 0 ≤ (y 2).val ∧ (y 2).val < 0 + 512; omega
theorem P43_disjoint : ∀ j j' : Fin 43, j ≠ j' → Disjoint (P43 j) (P43 j') := by
  intro j j' hne; rw [Finset.disjoint_left]; intro y hy hy'; rw [mem_P43] at hy hy'
  have := j.isLt; have := j'.isLt
  exact hne (Fin.ext (by omega))
theorem P43_cover : (Finset.univ : Finset (Fin 43)).biUnion P43 = Finset.univ := by
  ext y; simp only [Finset.mem_biUnion, Finset.mem_univ, true_and, iff_true]
  have h1 : (y 1).val < 44032 := (y 1).isLt
  refine ⟨⟨(y 1).val / 512 % 43, Nat.mod_lt _ (by decide)⟩, ?_⟩
  rw [mem_P43]; show (y 1).val / 512 = (y 1).val / 512 % 43 ∨ (y 1).val / 512 = 43 + (y 1).val / 512 % 43
  omega
theorem G_disjoint (j : Fin 43) : Disjoint (G86 (gA j.val)) (G86 (gB j.val)) := by
  rw [Finset.disjoint_left]; intro y hy hy'; rw [mem_G86, gA_val] at hy; rw [mem_G86, gB_val] at hy'; have := j.isLt; omega
theorem S6s_disjoint : ∀ s s' : Fin 6, s ≠ s' → Disjoint (S6s s) (S6s s') := by
  intro s s' hne; rw [Finset.disjoint_left]; intro y hy hy'; rw [mem_S6s] at hy hy'; exact hne (Fin.ext (hy.symm.trans hy'))
theorem S6s_cover : (Finset.univ : Finset (Fin 6)).biUnion S6s = Finset.univ := by
  ext y; simp only [Finset.mem_biUnion, Finset.mem_univ, true_and, iff_true]; exact ⟨(y 0).cast (by decide), by rw [mem_S6s]; rfl⟩

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

/-- The weight whole is its 43 pairs of column blocks; -/
theorem w_eq (c : Dev nD) (XW : Buf (Elt F) (wM.view.loc (c : Thread nD τ))) :
    (((c : Thread nD τ).loc main_arg2) ↦{fullShare} XW : sProp 𝕄) = bigSep Finset.univ (pairP c XW) := by
  rw [Ring.pointsTo_blocks (ℓ := (c : Thread nD τ).loc main_arg2) P43 P43_disjoint P43_cover]
  refine bigSep_congr fun j _ => ?_
  rw [pairP, homeP, homeP, grp_set, grp_set]
  exact Entails.antisymm (pointsTo_union (ℓ := (c : Thread nD τ).loc main_arg2) (G_disjoint j)).1 (pointsTo_union (ℓ := (c : Thread nD τ).loc main_arg2) (G_disjoint j)).2
/-- at the body's entry, the first three pairs apart from the rest. -/
theorem homes_zero (c : Dev nD) (XW : Buf (Elt F) (wM.view.loc (c : Thread nD τ))) :
    bigSep Finset.univ (pairP c XW) = iprop((homeP c XW 0 ∗ homeP c XW 43) ∗ (homeP c XW 1 ∗ homeP c XW 44) ∗ (homeP c XW 2 ∗ homeP c XW 45)
      ∗ bigSep (Ring.homeSet (NB := 43) 3 0) (pairP c XW)) := by
  have e : (Finset.univ : Finset (Fin 43)) = insert 0 (insert 1 (insert 2 (Ring.homeSet (NB := 43) 3 0))) := by
    ext b; simp only [Finset.mem_univ, Finset.mem_insert, Ring.mem_homeSet, true_iff, Fin.ext_iff]; have := b.isLt
    show b.val = 0 ∨ b.val = 1 ∨ b.val = 2 ∨ _; omega
  rw [e, bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 6) (f) : slotP c s f = (((c : Thread nD τ).loc cc0_scratch0) ↦[S6s s]{fullShare} f : sProp 𝕄) :=
  congrArg (fun S => (_ ↦[S]{fullShare} f : sProp 𝕄)) (rslot_set s)
/-- The ring whole is its six slots, and back. -/
theorem ring_split (c : Dev nD) :
    iprop(∃ f : Buf (Elt F) ((c : Thread nD τ).loc cc0_scratch0), ((c : Thread nD τ).loc cc0_scratch0) ↦{fullShare} f) ⊢ (slotsP c : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S6s S6s_disjoint S6s_cover f).trans (bigSep_fin6 _))) $$ H
  icases H2 with ⟨H0, H1, H2, H3, H4, H5⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  isplitl [H3]; · iexists f; iapply (entails_of_eq (slotP_eq c 3 f).symm); iexact H3
  isplitl [H4]; · iexists f; iapply (entails_of_eq (slotP_eq c 4 f).symm); iexact H4
  iexists f; iapply (entails_of_eq (slotP_eq c 5 f).symm); iexact H5
theorem ring_join (c : Dev nD) :
    (slotsP c : sProp 𝕄) ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩, ⟨%f4, H4⟩, ⟨%f5, H5⟩⟩
  iapply (Ring.pointsTo_blocks_join_exists (ℓ := (c : Thread nD τ).loc cc0_scratch0) S6s S6s_disjoint S6s_cover f0)
  irw [bigSep_fin6]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  isplitl [H3]; · iexists f3; iapply (entails_of_eq (slotP_eq c 3 f3)); iexact H3
  isplitl [H4]; · iexists f4; iapply (entails_of_eq (slotP_eq c 4 f4)); iexact H4
  iexists f5; iapply (entails_of_eq (slotP_eq c 5 f5)); iexact H5

omit [FloatOps F] in
/-- The kernel's own cells at zero are the six slots' cells. -/
theorem ownSems0_eq (c : Dev nD) : (Pipeline.ownSems0 (Ix := Unit) (Name := ℕ) (U := UU nD τ) (Lvl := ℕ) (Val := Elt F) (τ := τ) osem c : sProp 𝕄)
    = cellsP (F := F) c := by
  unfold Pipeline.ownSems0; rw [bigSep_fin6]

theorem amax_set : (amaxM : Memref sig .tc .vmem S192x128 .f32).view.set = Finset.univ := View.set_whole _
/-- The maxima's scratch whole is its whole view, and back. -/
theorem max_in (c : Dev nD) :
    iprop(∃ f : Buf (Elt F) ((c : Thread nD τ).loc cc0_scratch1), ((c : Thread nD τ).loc cc0_scratch1) ↦{fullShare} f) ⊢ (maxP c amaxM : sProp 𝕄) := by
  iintro ⟨%f, H⟩
  iexists f
  iapply (entails_of_eq (congrArg (fun S => (((c : Thread nD τ).loc cc0_scratch1) ↦[S]{fullShare} f : sProp 𝕄)) amax_set.symm)); iexact H
theorem max_out (c : Dev nD) :
    (maxP c amaxM : sProp 𝕄) ⊢ iprop(∃ f : Buf (Elt F) ((c : Thread nD τ).loc cc0_scratch1), ((c : Thread nD τ).loc cc0_scratch1) ↦{fullShare} f) := by
  iintro ⟨%f, H⟩
  iexists f
  iapply (entails_of_eq (congrArg (fun S => (((c : Thread nD τ).loc cc0_scratch1) ↦[S]{fullShare} f : sProp 𝕄)) amax_set)); iexact H

/-! ## The pipeline's proof data -/

/-- The region invariant, the same before and after the one point: the weight's pairs held, the six slots and the
    maxima's scratch at anything, the six cells at zero. -/
def Φ (c : Dev nD) : sProp 𝕄 :=
  iprop(bigSep Finset.univ (pairP c (XWof m c)) ∗ slotsP c ∗ maxP c amaxM ∗ cellsP (F := F) c)

abbrev st0 (t : Fin cfg0.N) : Memref sig .tc .vmem S192x8192 .fp8e4m3 := win0_0.stage (cfg0.slots t 0)
abbrev st1 (t : Fin cfg0.N) : Memref sig .tc .vmem S192x128 .f32 := win0_1.stage (cfg0.slots t 1)
abbrev st2 (t : Fin cfg0.N) : Memref sig .tc .vmem S344x128 .f32 := win0_2.stage (cfg0.slots t 2)
abbrev st3 (t : Fin cfg0.N) : Memref sig .tc .vmem S33024x128 .f32 := win0_3.stage (cfg0.slots t 3)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0

/-- The three inputs' staging buffers, holding their blocks. -/
abbrev in0 (c : Dev nD) (t : Fin cfg0.N) := (st0 t).view.rep (Val := Elt F) (iblk m c 0 t)
abbrev in1 (c : Dev nD) (t : Fin cfg0.N) := (st1 t).view.rep (Val := Elt F) (iblk m c 1 t)
abbrev in2 (c : Dev nD) (t : Fin cfg0.N) := (st2 t).view.rep (Val := Elt F) (iblk m c 2 t)

/-- What the body leaves in the result's block. -/
def outAt (c : Dev nD) (t : Fin cfg0.N) : (cfg0.win 3).block.Idx → Elt F (cfg0.win 3).elt :=
  outVal c (XWof m c) (st0 t) (st1 t) (st2 t) (in0 m c t) (in1 m c t) (in2 m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0 t) (hst0 t) (st1 t) (hst1 t) (st2 t) (hst2 t) (st3 t) (hst3 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, HS, HM, HC⟩, ⟨%W, -, HW⟩, ⟨%d0, %g0, %hg0, H0⟩, ⟨%d1, %g1, %hg1, H1⟩, ⟨%d2, %g2, %hg2, H2⟩, ⟨%d3, %gO, -, HO⟩⟩
  ihave Hh3 := (entails_of_eq (homes_zero c (XWof m c))) $$ Hh
  icases Hh3 with ⟨⟨Hg0, Hg1⟩, ⟨Hg2, Hg3⟩, ⟨Hg4, Hg5⟩, HR⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  rw [hg0, hg1, hg2]
  sl_rw [prog_eq t]
  iapply (bodyRun c (XWof m c) (st0 t) (hst0 t) (st1 t) (hst1 t) (st2 t) (hst2 t) (st3 t) (hst3 t) (in0 m c t) (in1 m c t) (in2 m c t) gO W)
  isplitl [H0' H1' H2' HO HM Hg0 Hg1 Hg2 Hg3 Hg4 Hg5 HR HS HC HW]
  · isplitl [H0' H1' H2']
    · isplitl [H0']; · iexact H0'
      isplitl [H1']; · iexact H1'
      iexact H2'
    isplitl [HO]; · iexact HO
    isplitl [HM]; · iexact HM
    isplitl [Hg0 Hg1 Hg2 Hg3 Hg4 Hg5 HR]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      iexact HR
    isplitl [HS]; · iexact HS
    isplitl [HC]; · iexact HC
    iexact HW
  · iintro ⟨⟨H0, H1, H2⟩, HO, HM, Hh, HS, HC, ⟨%W', HW⟩⟩
    isplitl [Hh HS HM HC]
    · isplitl [Hh]; · iexact Hh
      isplitl [HS]; · iexact HS
      isplitl [HM]; · iexact HM
      iexact HC
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr
    · ipureintro; exact read_outOf c (XWof m c) (st0 t) (st1 t) (st2 t) (st3 t) (in0 m c t) (in1 m c t) (in2 m c t) gO
    iexact HO

/-! ## The run -/

def intoΦ (c : Dev nD) : sProp 𝕄 := iprop(bigSep Finset.univ (pairP c (XWof m c)) ∗ Pipeline.ownSems0 osem c)
/-- The arguments no window stages, unchanged. -/
abbrev argP (c : Dev nD) (b : Ref sig .tc) : sProp 𝕄 := ((c : Thread nD τ).loc b) ↦{fullShare} m ((c : Thread nD τ).loc b)
def outOfΦ (c : Dev nD) : sProp 𝕄 := argP m c main_arg2
def keptZ (c : Dev nD) : sProp 𝕄 := iprop(argP m c main_arg1 ∗ argP m c main_arg3)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg2) = m ((c : Thread nD τ).loc main_arg2)
  ∧ s.mem ((c : Thread nD τ).loc main_arg1) = m ((c : Thread nD τ).loc main_arg1)
  ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- At the compiled mesh, for any float values, from any memory with zero counters: every weakly fair execution of
    @main on the TensorCores terminates, and every final state has the windows' arrays at the computed contents, the
    other arguments unchanged, every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := outOfΦ m) (Z := keptZ m)
    (hX := fun c => by
      rw [unscopedRest0_eq, V_main_arg1, V_main_arg2, V_main_arg3, w_eq c (XWof m c)]
      unfold intoΦ keptZ
      iintro ⟨⟨H1, H2, H3, -⟩, HS, -, -⟩; imodintro
      isplitl [H2 HS]
      · isplitl [H2]; · iexact H2
        iexact HS
      isplitl [H1]; · iexact H1
      iexact H3)
    (hin := fun c => by
      rw [scopedRest0_eq, show (dats m 0 c).Φ 0 = Φ m c from rfl]
      unfold intoΦ Φ; rw [ownSems0_eq]
      iintro ⟨⟨H0, HC⟩, Hb, Hm⟩
      ihave Hs := (ring_split c) $$ Hb
      isplitl [H0]; · iexact H0
      isplitl [Hs]; · iexact Hs
      isplitl [Hm]
      · iapply (max_in c); iexact Hm
      iexact HC)
    (hout := fun c => by
      rw [scopedRest0_eq, show (dats m 0 c).Φ (Fin.last cfg0.N) = Φ m c from rfl, ownSems0_eq]
      unfold Φ outOfΦ argP; rw [w_eq c (XWof m c)]
      iintro ⟨H0, HS, HM, HC⟩
      isplitl [H0]; · iexact H0
      isplitl [HC]; · iexact HC
      isplitl [HS]
      · iapply (ring_join c); iexact HS
      iapply (max_out c); iexact HM)
    (QY := QY m)
    (hY := fun c s' => by
      unfold outOfΦ keptZ argP QY
      iintro ⟨H2, ⟨H1, H3⟩, HSI⟩
      icombine HSI H2 gives %h2
      icombine HSI H1 gives %h1
      icombine HSI H3 gives %h3
      imodintro
      isplitr
      · ipureintro; exact ⟨Buf.eq_of_forall_mem_univ h2, Buf.eq_of_forall_mem_univ h1, Buf.eq_of_forall_mem_univ h3⟩
      iexact HSI)
    (hQ := fun _ hh hz => ⟨hh, hz⟩)

theorem finalA_in0 (c : Dev nD) : finalA m c 0 = m ((c : Thread nD τ).loc main_arg0) :=
  ((dats (F := F) m 0 c).arrAt_in 0 rfl _).trans (V_main_arg0 m c)

end Cert.Proof.GateUpIdeal
end
-- ==== Proof.GateUp.Names.lean ====
/-
  The gate/up kernel's names. The kernel streams the 86 column blocks of the weight (8192 rows, 512 columns each)
  through a ring of six slots: trip `t` of its 43 uses column blocks `t` (gate) and `43 + t` (up), in slots
  `2t mod 6` and `(2t + 1) mod 6`, each slot with a DMA semaphore of its own. Here: the column blocks, the slots and
  the semaphores under one name each, the offsets the kernel computes for them in closed form, and the pieces the
  proof moves about: a column block held, a slot held, a slot with a transfer under way.
-/
module

public import proofs.«01_k».proof.Defs
public import proofs.«01_k».proof.Proof.GateUpIdeal.Launch
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.GateUp

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Column blocks, slots, semaphores -/

abbrev wM : Memref sig .tc .hbm S8192x44032 .fp8e4m3 := Memref.whole main_arg2
abbrev ringM : Memref sig .tc .vmem S6x8192x512 .fp8e4m3 := Memref.whole cc0_scratch0
abbrev amaxM : Memref sig .tc .vmem S192x128 .f32 := Memref.whole cc0_scratch1

abbrev grpOff (b : Fin 86) : Fin 2 → Nat := ![0, 512 * b.val]
theorem grpOff_inb (b : Fin 86) : ∀ a, grpOff b a + S8192x512.size a ≤ S8192x44032.size a := by
  have := b.isLt; intro a; fin_cases a
  · show 0 + 8192 ≤ 8192; omega
  · show 512 * b.val + 512 ≤ 44032; omega
abbrev slotOff (s : Fin 6) : Fin 3 → Nat := ![s.val, 0, 0]
theorem slotOff_inb (s : Fin 6) : ∀ a, slotOff s a + S1x8192x512.size a ≤ S6x8192x512.size a := by
  have := s.isLt; intro a; fin_cases a
  · show s.val + 1 ≤ 6; omega
  · show 0 + 8192 ≤ 8192; omega
  · show 0 + 512 ≤ 512; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Column block `b` of the weight. -/
def grp (b : Fin 86) : Memref sig .tc .hbm S8192x512 .fp8e4m3 :=
  wM.slice (Rect.unit (s := S8192x44032) (grpOff b) S8192x512.size (grpOff_inb b)) (fun _ => rfl)
/-- Slot `s` of the ring. -/
def rslot (s : Fin 6) : Memref sig .tc .vmem S8192x512 .fp8e4m3 :=
  (ringM.slice (Rect.unit (s := S6x8192x512) (slotOff s) S1x8192x512.size (slotOff_inb s)) (fun _ => rfl)).squeeze S8192x512 squeezes_S1x8192x512_S8192x512
/-- Slot `s`'s DMA semaphore. -/
def csm (s : Fin 6) : DmaSems sig S_ := (cc0_scratch2.slice (Rect.unit (s := S6) (semOff s) S1.size (semOff_inb s))).squeeze S_ squeezes_S1_S_

instance (s : Fin 6) : ClosedOff (slotOff s) := ⟨slotOff s, rfl⟩
instance (b : Fin 86) : ClosedOff (grpOff b) := ⟨grpOff b, rfl⟩

/-- Trip `t`'s gate slot and up slot. -/
abbrev sA (t : ℕ) : Fin 6 := Ring.sl 6 (2 * t)
abbrev sB (t : ℕ) : Fin 6 := Ring.sl 6 (2 * t + 1)
/-- Trip `t`'s gate column block and up column block. -/
abbrev gA (t : ℕ) : Fin 86 := Ring.bk 86 t
abbrev gB (t : ℕ) : Fin 86 := Ring.bk 86 (43 + t)

/-! ## The computed offsets in closed form -/

theorem off2_sA (k : Fin k0_t1_loop.trips) : k0_off2 k = semOff (sA (k.val + 2)) := by
  rw [k0_off2_eq, semOff]; simp only [sA, Ring.sl, Fin.ofNat]; congr 1; omega
theorem off3_sA (k : Fin k0_t1_loop.trips) : k0_off3 k = slotOff (sA (k.val + 2)) := by
  rw [k0_off3_eq, slotOff]; simp only [sA, Ring.sl, Fin.ofNat]; congr 1; omega
theorem off5_sB (k : Fin k0_t1_loop.trips) : k0_off5 k = semOff (sB (k.val + 2)) := by
  rw [k0_off5_eq, semOff]; simp only [sB, Ring.sl, Fin.ofNat]; congr 1; omega
theorem off6_sB (k : Fin k0_t1_loop.trips) : k0_off6 k = slotOff (sB (k.val + 2)) := by
  rw [k0_off6_eq, slotOff]; simp only [sB, Ring.sl, Fin.ofNat]; congr 1; omega
theorem off8_sA (k : Fin k0_t1_loop.trips) : k0_off8 k = semOff (sA k.val) := by
  rw [k0_off8_eq, semOff]; simp only [sA, Ring.sl, Fin.ofNat]; congr 1; omega
theorem off9_sA (k : Fin k0_t1_loop.trips) : k0_off9 k = slotOff (sA k.val) := by
  rw [k0_off9_eq, slotOff]; simp only [sA, Ring.sl, Fin.ofNat]; congr 1; omega
theorem off11_sB (k : Fin k0_t1_loop.trips) : k0_off11 k = semOff (sB k.val) := by
  rw [k0_off11_eq, semOff]; simp only [sB, Ring.sl, Fin.ofNat]; congr 1; omega
theorem off12_sB (k : Fin k0_t1_loop.trips) : k0_off12 k = slotOff (sB k.val) := by
  rw [k0_off12_eq, slotOff]; simp only [sB, Ring.sl, Fin.ofNat]; congr 1; omega
theorem off14_sA (k : Fin k0_t1_loop.trips) : k0_off14 k = slotOff (sA k.val) := by
  rw [k0_off14_eq, slotOff]; simp only [sA, Ring.sl, Fin.ofNat]; congr 1; omega
theorem off15_sB (k : Fin k0_t1_loop.trips) : k0_off15 k = slotOff (sB k.val) := by
  rw [k0_off15_eq, slotOff]; simp only [sB, Ring.sl, Fin.ofNat]; congr 1; omega

theorem off4_gA : ∀ k : Fin k0_t1_loop.trips, k.val ≤ 40 → k0_off4 k = grpOff (gA (k.val + 2)) := by decide +kernel
theorem off7_gB : ∀ k : Fin k0_t1_loop.trips, k.val ≤ 40 → k0_off7 k = grpOff (gB (k.val + 2)) := by decide +kernel
theorem off10_gA : ∀ k : Fin k0_t1_loop.trips, k0_off10 k = grpOff (gA k.val) := by decide +kernel
theorem off13_gB : ∀ k : Fin k0_t1_loop.trips, k0_off13 k = grpOff (gB k.val) := by decide +kernel

theorem trips_eq : k0_t1_loop.trips = 43 := by decide +kernel
theorem cond1_zero : ∀ k : Fin k0_t1_loop.trips, k.val = 0 → ¬ k0_cond1 k = 1#1 := by decide +kernel
theorem cond1_pos : ∀ k : Fin k0_t1_loop.trips, k.val ≠ 0 → k0_cond1 k = 1#1 := by decide +kernel
theorem cond2_low : ∀ k : Fin k0_t1_loop.trips, k.val ≤ 40 → k0_cond2 k = 1#1 := by decide +kernel
theorem cond3_low : ∀ k : Fin k0_t1_loop.trips, k.val ≤ 40 → k0_cond3 k = 1#1 := by decide +kernel
theorem cond2_high : ∀ k : Fin k0_t1_loop.trips, 40 < k.val → ¬ k0_cond2 k = 1#1 := by decide +kernel
theorem cond3_high : ∀ k : Fin k0_t1_loop.trips, 40 < k.val → ¬ k0_cond3 k = 1#1 := by decide +kernel
theorem cond4_no : ¬ k0_cond4 = 1#1 := by decide +kernel
theorem cond5_no : ¬ k0_cond5 = 1#1 := by decide +kernel

/-- The loop's windows of the ring, at trip `k`. -/
instance (priority := high) closed14 (k : Fin k0_t1_loop.trips) : ClosedOff (k0_off14 k) := ⟨slotOff (sA k.val), off14_sA k⟩
instance (priority := high) closed15 (k : Fin k0_t1_loop.trips) : ClosedOff (k0_off15 k) := ⟨slotOff (sB k.val), off15_sB k⟩

/-! ## The kernel's slices are these names -/

theorem csm_congr {off : Fin 1 → Nat} {s : Fin 6} (e : off = semOff s) (hh) :
    (cc0_scratch2.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (ringM.slice (Rect.unit (s := S6x8192x512) off S1x8192x512.size hh) hs).squeeze S8192x512 squeezes_S1x8192x512_S8192x512 = rslot s :=
  congrArg (fun M : Memref sig .tc .vmem S1x8192x512 .fp8e4m3 => M.squeeze S8192x512 squeezes_S1x8192x512_S8192x512) (Memref.slice_unit_congr _ e _ _ _ _)
theorem grp_congr {off : Fin 2 → Nat} {b : Fin 86} (e : off = grpOff b) (hh hs) :
    wM.slice (Rect.unit (s := S8192x44032) off S8192x512.size hh) hs = grp b :=
  Memref.slice_unit_congr _ e _ _ _ (fun _ => rfl)

section Canon
variable (k : Fin k0_t1_loop.trips)

@[sl_canon] theorem semL0 (hh) : (cc0_scratch2.slice (Rect.unit (s := S6) ![0] S1.size hh)).squeeze S_ squeezes_S1_S_ = csm 0 := csm_congr (by decide) _
@[sl_canon] theorem semL1 (hh) : (cc0_scratch2.slice (Rect.unit (s := S6) ![1] S1.size hh)).squeeze S_ squeezes_S1_S_ = csm 1 := csm_congr (by decide) _
@[sl_canon] theorem semL2 (hh) : (cc0_scratch2.slice (Rect.unit (s := S6) ![2] S1.size hh)).squeeze S_ squeezes_S1_S_ = csm 2 := csm_congr (by decide) _
@[sl_canon] theorem semL3 (hh) : (cc0_scratch2.slice (Rect.unit (s := S6) ![3] S1.size hh)).squeeze S_ squeezes_S1_S_ = csm 3 := csm_congr (by decide) _
@[sl_canon] theorem semL4 (hh) : (cc0_scratch2.slice (Rect.unit (s := S6) ![4] S1.size hh)).squeeze S_ squeezes_S1_S_ = csm 4 := csm_congr (by decide) _
@[sl_canon] theorem semL5 (hh) : (cc0_scratch2.slice (Rect.unit (s := S6) ![5] S1.size hh)).squeeze S_ squeezes_S1_S_ = csm 5 := csm_congr (by decide) _
@[sl_canon] theorem slotL0 (hh hs) : (ringM.slice (Rect.unit (s := S6x8192x512) ![0, 0, 0] S1x8192x512.size hh) hs).squeeze S8192x512 squeezes_S1x8192x512_S8192x512 = rslot 0 := rslot_congr (by decide) _ _
@[sl_canon] theorem slotL1 (hh hs) : (ringM.slice (Rect.unit (s := S6x8192x512) ![1, 0, 0] S1x8192x512.size hh) hs).squeeze S8192x512 squeezes_S1x8192x512_S8192x512 = rslot 1 := rslot_congr (by decide) _ _
@[sl_canon] theorem slotL2 (hh hs) : (ringM.slice (Rect.unit (s := S6x8192x512) ![2, 0, 0] S1x8192x512.size hh) hs).squeeze S8192x512 squeezes_S1x8192x512_S8192x512 = rslot 2 := rslot_congr (by decide) _ _
@[sl_canon] theorem slotL3 (hh hs) : (ringM.slice (Rect.unit (s := S6x8192x512) ![3, 0, 0] S1x8192x512.size hh) hs).squeeze S8192x512 squeezes_S1x8192x512_S8192x512 = rslot 3 := rslot_congr (by decide) _ _
@[sl_canon] theorem slotL4 (hh hs) : (ringM.slice (Rect.unit (s := S6x8192x512) ![4, 0, 0] S1x8192x512.size hh) hs).squeeze S8192x512 squeezes_S1x8192x512_S8192x512 = rslot 4 := rslot_congr (by decide) _ _
@[sl_canon] theorem slotL5 (hh hs) : (ringM.slice (Rect.unit (s := S6x8192x512) ![5, 0, 0] S1x8192x512.size hh) hs).squeeze S8192x512 squeezes_S1x8192x512_S8192x512 = rslot 5 := rslot_congr (by decide) _ _
@[sl_canon] theorem grpL0 (hh hs) : wM.slice (Rect.unit (s := S8192x44032) (k0_off1 0#32 0#32) S8192x512.size hh) hs = grp 0 := grp_congr (by decide +kernel) _ _
@[sl_canon] theorem grpL1 (hh hs) : wM.slice (Rect.unit (s := S8192x44032) (k0_off1 1#32 1#32) S8192x512.size hh) hs = grp 43 := grp_congr (by decide +kernel) _ _
@[sl_canon] theorem grpL2 (hh hs) : wM.slice (Rect.unit (s := S8192x44032) (k0_off1 2#32 2#32) S8192x512.size hh) hs = grp 1 := grp_congr (by decide +kernel) _ _
@[sl_canon] theorem grpL3 (hh hs) : wM.slice (Rect.unit (s := S8192x44032) (k0_off1 3#32 3#32) S8192x512.size hh) hs = grp 44 := grp_congr (by decide +kernel) _ _
@[sl_canon] theorem grpL4 (hh hs) : wM.slice (Rect.unit (s := S8192x44032) (k0_off1 4#32 4#32) S8192x512.size hh) hs = grp 2 := grp_congr (by decide +kernel) _ _
@[sl_canon] theorem grpL5 (hh hs) : wM.slice (Rect.unit (s := S8192x44032) (k0_off1 5#32 5#32) S8192x512.size hh) hs = grp 45 := grp_congr (by decide +kernel) _ _

@[sl_canon] theorem semIA (hh) : (cc0_scratch2.slice (Rect.unit (s := S6) (k0_off2 k) S1.size hh)).squeeze S_ squeezes_S1_S_ = csm (sA (k.val + 2)) := csm_congr (off2_sA k) _
@[sl_canon] theorem slotIA (hh hs) : (ringM.slice (Rect.unit (s := S6x8192x512) (k0_off3 k) S1x8192x512.size hh) hs).squeeze S8192x512 squeezes_S1x8192x512_S8192x512 = rslot (sA (k.val + 2)) := rslot_congr (off3_sA k) _ _
@[sl_canon] theorem grpIA (hk : k.val ≤ 40) (hh hs) : wM.slice (Rect.unit (s := S8192x44032) (k0_off4 k) S8192x512.size hh) hs = grp (gA (k.val + 2)) := grp_congr (off4_gA k hk) _ _
@[sl_canon] theorem semIB (hh) : (cc0_scratch2.slice (Rect.unit (s := S6) (k0_off5 k) S1.size hh)).squeeze S_ squeezes_S1_S_ = csm (sB (k.val + 2)) := csm_congr (off5_sB k) _
@[sl_canon] theorem slotIB (hh hs) : (ringM.slice (Rect.unit (s := S6x8192x512) (k0_off6 k) S1x8192x512.size hh) hs).squeeze S8192x512 squeezes_S1x8192x512_S8192x512 = rslot (sB (k.val + 2)) := rslot_congr (off6_sB k) _ _
@[sl_canon] theorem grpIB (hk : k.val ≤ 40) (hh hs) : wM.slice (Rect.unit (s := S8192x44032) (k0_off7 k) S8192x512.size hh) hs = grp (gB (k.val + 2)) := grp_congr (off7_gB k hk) _ _
@[sl_canon] theorem semWA (hh) : (cc0_scratch2.slice (Rect.unit (s := S6) (k0_off8 k) S1.size hh)).squeeze S_ squeezes_S1_S_ = csm (sA k.val) := csm_congr (off8_sA k) _
@[sl_canon] theorem slotWA (hh hs) : (ringM.slice (Rect.unit (s := S6x8192x512) (k0_off9 k) S1x8192x512.size hh) hs).squeeze S8192x512 squeezes_S1x8192x512_S8192x512 = rslot (sA k.val) := rslot_congr (off9_sA k) _ _
@[sl_canon] theorem grpWA (hh hs) : wM.slice (Rect.unit (s := S8192x44032) (k0_off10 k) S8192x512.size hh) hs = grp (gA k.val) := grp_congr (off10_gA k) _ _
@[sl_canon] theorem semWB (hh) : (cc0_scratch2.slice (Rect.unit (s := S6) (k0_off11 k) S1.size hh)).squeeze S_ squeezes_S1_S_ = csm (sB k.val) := csm_congr (off11_sB k) _
@[sl_canon] theorem slotWB (hh hs) : (ringM.slice (Rect.unit (s := S6x8192x512) (k0_off12 k) S1x8192x512.size hh) hs).squeeze S8192x512 squeezes_S1x8192x512_S8192x512 = rslot (sB k.val) := rslot_congr (off12_sB k) _ _
@[sl_canon] theorem grpWB (hh hs) : wM.slice (Rect.unit (s := S8192x44032) (k0_off13 k) S8192x512.size hh) hs = grp (gB k.val) := grp_congr (off13_gB k) _ _

end Canon

/-! ## The pieces -/

section Pieces
variable (c : Dev nD) (XW : Buf (Elt F) (wM.view.loc (c : Thread nD τ)))

/-- Slot `s`'s semaphore at zero. -/
abbrev cellP (s : Fin 6) : sProp 𝕄 := semVal ((c : Thread nD τ), SemLoc.dma (csm s).sem) 0
/-- Slot `s` held at contents `f`. -/
abbrev slotP (s : Fin 6) (f : Buf (Elt F) ((rslot s).view.loc (c : Thread nD τ))) : sProp 𝕄 :=
  (rslot s).view.loc (c : Thread nD τ) ↦[(rslot s).view.set]{fullShare} f
/-- Column block `b` held, at the weight's contents. -/
abbrev homeP (b : Fin 86) : sProp 𝕄 := (grp b).view.loc (c : Thread nD τ) ↦[(grp b).view.set]{fullShare} XW
/-- What column block `b`'s transfer leaves in slot `s`. -/
abbrev landed (s : Fin 6) (b : Fin 86) (f : Buf (Elt F) ((rslot s).view.loc (c : Thread nD τ))) : Buf (Elt F) ((rslot s).view.loc (c : Thread nD τ)) :=
  (rslot s).view.writes (Elt F) f [⟨Rect.whole S8192x512, ReadAs.same.apply ((grp b).view.read (Elt F) XW)⟩]
/-- Slot `s` with column block `b`'s transfer under way, issued over contents `f`. -/
abbrev flightP (s : Fin 6) (b : Fin 86) (f : Buf (Elt F) ((rslot s).view.loc (c : Thread nD τ))) : sProp 𝕄 :=
  Transfers.Flight countersEmb (c : Thread nD τ) (SemLoc.dma (csm s).sem) () 131072 iprop(slotP c s (landed c XW s b f) ∗ homeP c XW b)

/-- Trip `t`'s two transfers under way. -/
abbrev goP (t : ℕ) : sProp 𝕄 := iprop((∃ f, flightP c XW (sA t) (gA t) f) ∗ (∃ f, flightP c XW (sB t) (gB t) f))
/-- Trip `t`'s two column blocks held. -/
abbrev pairP (j : Fin 43) : sProp 𝕄 := iprop(homeP c XW (gA j.val) ∗ homeP c XW (gB j.val))
/-- Trip `t`'s two slots held at anything, their semaphores at zero. -/
abbrev freeP (t : ℕ) : sProp 𝕄 := iprop((∃ f, slotP (F := F) c (sA t) f) ∗ (∃ f, slotP (F := F) c (sB t) f) ∗ cellP (F := F) c (sA t) ∗ cellP (F := F) c (sB t))

end Pieces

end Cert.Proof.GateUp

end
-- ==== Proof.GateUp.Trip.lean ====
module

public import proofs.«01_k».proof.Proof.GateUp.Names

@[expose] public section

noncomputable section

namespace Cert.Proof.GateUp

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (XW : Buf (Elt F) (wM.view.loc (c : Thread nD τ)))
  (arg0 : Memref sig .tc .vmem S192x8192 .fp8e4m3) (harg0 : arg0.IsWhole)
  (arg1 : Memref sig .tc .vmem S192x128 .f32) (harg1 : arg1.IsWhole)
  (arg2 : Memref sig .tc .vmem S344x128 .f32) (harg2 : arg2.IsWhole)
  (arg4 : Memref sig .tc .vmem S33024x128 .f32) (harg4 : arg4.IsWhole)
  (arg6 : Memref sig .tc .vmem S192x128 .f32) (harg6 : arg6.IsWhole)
  (x0 : Buf (Elt F) (arg0.view.loc (c : Thread nD τ))) (x1 : Buf (Elt F) (arg1.view.loc (c : Thread nD τ)))
  (x2 : Buf (Elt F) (arg2.view.loc (c : Thread nD τ)))

/-- The three staged inputs, held at their contents. -/
abbrev insP : sProp 𝕄 :=
  iprop((arg0.view.loc (c : Thread nD τ) ↦[arg0.view.set]{fullShare} x0)
    ∗ (arg1.view.loc (c : Thread nD τ) ↦[arg1.view.set]{fullShare} x1)
    ∗ (arg2.view.loc (c : Thread nD τ) ↦[arg2.view.set]{fullShare} x2))
/-- The output block held at `fo`. -/
abbrev outP (fo : Buf (Elt F) (arg4.view.loc (c : Thread nD τ))) : sProp 𝕄 := arg4.view.loc (c : Thread nD τ) ↦[arg4.view.set]{fullShare} fo
/-- The running maxima held at anything. -/
abbrev maxP : sProp 𝕄 := iprop(∃ f : Buf (Elt F) (arg6.view.loc (c : Thread nD τ)), arg6.view.loc (c : Thread nD τ) ↦[arg6.view.set]{fullShare} f)
abbrev owesP : sProp 𝕄 := iprop(∃ W, owes (c : Thread nD τ) 0 W)

abbrev tripG (k : Fin k0_t1_loop.trips) : Prog (TpuEff nD τ sig (Elt F) Λ₀ .tc) Unit :=
  k0_t1_body (F := F) arg0 harg0 arg1 harg1 arg2 harg2 wM (Memref.isWhole_whole _) arg4 harg4 ringM (Memref.isWhole_whole _) arg6 harg6 cc0_scratch2 k ()

/-! ## What a trip stores -/

/-- The gate column block of trip `k` as the matrix product reads it from its slot. -/
abbrev wG (k : Fin k0_t1_loop.trips) : Vec F S1x8192x512 .fp8e4m3 :=
  ringM.view.readAt (Elt F) (Rect.unit (s := S6x8192x512) (k0_off14 k) S1x8192x512.size (k0_off14_inb k)).toLoadRect
    (landed c XW (sA k.val) (gA k.val) (rslot (sA k.val)).view.junk)
/-- The up column block of trip `k` as the matrix product reads it from its slot. -/
abbrev wU (k : Fin k0_t1_loop.trips) : Vec F S1x8192x512 .fp8e4m3 :=
  ringM.view.readAt (Elt F) (Rect.unit (s := S6x8192x512) (k0_off15 k) S1x8192x512.size (k0_off15_inb k)).toLoadRect
    (landed c XW (sB k.val) (gB k.val) (rslot (sB k.val)).view.junk)
/-- The left operand as loaded. -/
abbrev hV : Vec F S192x8192 .fp8e4m3 := arg0.view.readAt (Elt F) (Rect.unit ![0, 0] S192x8192.size inb_S192x8192_S192x8192_0_0).toLoadRect x0

theorem slc (r : Fin 4) (b : Fin 3) : S192x512.Slices ![64 * b.val, 128 * r.val] S64x128 := by
  revert r b; decide
theorem rs_inb (b : Fin 3) : ∀ a, (![64 * b.val, 0] : Fin 2 → Nat) a + S64x128.size a ≤ S192x128.size a := by
  revert b; decide

/-- One 64 by 128 tile: the silu of the scaled gate tile times the scaled up tile. -/
def tile (aG aU : FVec F S192x512 .f32) (rs : Vec F S64x128 .f32) (sg su : Vec F S1x128 .f32) (r : Fin 4) (b : Fin 3) : FVec F S64x128 .f32 :=
  have rs' : FVec F S64x128 .f32 := shapeCast S64x128 rs shapeCasts_S64x128_S64x128
  have g : FVec F S64x128 .f32 := mulf (mulf (extractStridedSlice S64x128 ![64 * b.val, 128 * r.val] aG (slc r b)) rs')
    (broadcastTo S64x128 (shapeCast S1x128 sg shapeCasts_S1x128_S1x128 : FVec F S1x128 .f32) broadcasts_S1x128_S64x128)
  have u : FVec F S64x128 .f32 := mulf (mulf (extractStridedSlice S64x128 ![64 * b.val, 128 * r.val] aU (slc r b)) rs')
    (broadcastTo S64x128 (shapeCast S1x128 su shapeCasts_S1x128_S1x128 : FVec F S1x128 .f32) broadcasts_S1x128_S64x128)
  have z : F .f32 := Scalar.ofBits .f32 0x00000000#32
  have o : F .f32 := Scalar.ofBits .f32 0x3F800000#32
  mulf (mulf g (divf (broadcast S64x128 o) (addf (broadcast S64x128 o) (exp (subf (broadcast S64x128 z) g))))) u

/-- Trip `k`'s tile of 128-lane group `r` and row block `b`. -/
def tileAt (k : Fin k0_t1_loop.trips) (r : Fin 4) (b : Fin 3) : FVec F S64x128 .f32 :=
  tile (k0_pay3 (hV c arg0 x0) (wG c XW k)) (k0_pay4 (hV c arg0 x0) (wU c XW k))
    (arg1.view.readAt (Elt F) (Rect.unit (s := S192x128) ![64 * b.val, 0] S64x128.size (rs_inb b)).toLoadRect x1)
    (arg2.view.readAt (Elt F) (Rect.unit (s := S344x128) (k0_off16 k (BitVec.ofNat 32 r.val)) S1x128.size (k0_off16_inb k r)).toLoadRect x2)
    (arg2.view.readAt (Elt F) (Rect.unit (s := S344x128) (k0_off17 k (BitVec.ofNat 32 r.val)) S1x128.size (k0_off17_inb k r)).toLoadRect x2) r b
/-- The tile with the place it is stored. -/
def piece (k : Fin k0_t1_loop.trips) (r : Fin 4) (b : Fin 3) : View.Piece (Elt F) S33024x128 .f32 :=
  ⟨Rect.unit (s := S33024x128) (k0_off18 k (BitVec.ofNat 32 r.val) (BitVec.ofNat 32 (64 * b.val))) S64x128.size (k0_off18_inb k r b),
    tileAt c XW arg0 arg1 arg2 x0 x1 x2 k r b⟩

/-- The twelve tiles trip `k` stores, the latest first. -/
def pieces (k : Fin k0_t1_loop.trips) : List (View.Piece (Elt F) S33024x128 .f32) :=
  let p := piece c XW arg0 arg1 arg2 x0 x1 x2 k
  [p 3 2, p 2 2, p 1 2, p 0 2, p 3 1, p 2 1, p 1 1, p 0 1, p 3 0, p 2 0, p 1 0, p 0 0]

abbrev nextO (k : Fin k0_t1_loop.trips) (fo : Buf (Elt F) (arg4.view.loc (c : Thread nD τ))) : Buf (Elt F) (arg4.view.loc (c : Thread nD τ)) :=
  arg4.view.writes (Elt F) fo (pieces c XW arg0 arg1 arg2 x0 x1 x2 k)

abbrev wpT (k : Fin k0_t1_loop.trips) (Q : Unit → sProp 𝕄) : sProp 𝕄 :=
  wp frame (wpE (defs₀ (F := F)) 𝒱₀ (c : Thread nD τ) none) Set.univ (tripG arg0 harg0 arg1 harg1 arg2 harg2 arg4 harg4 arg6 harg6 k) Q

/-! ## One trip -/

/-- What every trip takes: the inputs, the output block, the maxima, its two transfers under way. -/
abbrev tripPre (k : ℕ) (fo : Buf (Elt F) (arg4.view.loc (c : Thread nD τ))) : sProp 𝕄 :=
  iprop(insP c arg0 arg1 arg2 x0 x1 x2 ∗ outP c arg4 fo ∗ maxP c arg6 ∗ owesP c ∗ goP c XW k)
/-- What every trip leaves: the twelve tiles stored, its two column blocks and its two slots back. -/
abbrev tripPost (k : Fin k0_t1_loop.trips) (fo : Buf (Elt F) (arg4.view.loc (c : Thread nD τ))) : sProp 𝕄 :=
  iprop(insP c arg0 arg1 arg2 x0 x1 x2 ∗ outP c arg4 (nextO c XW arg0 arg1 arg2 arg4 x0 x1 x2 k fo) ∗ maxP c arg6 ∗ owesP c
    ∗ homeP c XW (gA k.val) ∗ homeP c XW (gB k.val) ∗ freeP (F := F) c k.val)

set_option backward.proofsInPublic true in
/-- The first trip issues nothing: the transfers of trip 2 are already under way. -/
theorem tripFirst (k : Fin k0_t1_loop.trips) (hk : k.val = 0) (fo : Buf (Elt F) (arg4.view.loc (c : Thread nD τ))) :
    iprop(tripPre c XW arg0 arg1 arg2 arg4 arg6 x0 x1 x2 k.val fo)
      ⊢ wpT c arg0 harg0 arg1 harg1 arg2 harg2 arg4 harg4 arg6 harg6 k
        (fun _ => iprop(tripPost c XW arg0 arg1 arg2 arg4 arg6 x0 x1 x2 k fo)) := by
  have h1 := cond1_zero k hk
  iintro ⟨⟨H0, H1, H2⟩, HO, ⟨%fm, HM⟩, ⟨%W, HW⟩, ⟨%fA, HFA⟩, ⟨%fB, HFB⟩⟩
  dsimp only [wpT, tripG]
  sl_unfold [k0_t1_body]
  sl_exec
  sl_step
  isplitl [H0 H1 H2]
  · isplitl [H0]; · iexact H0
    isplitl [H1]; · iexact H1
    iexact H2
  isplitl [HO]; · iexact HO
  isplitl [HM]; · iexists _; iexact HM
  isplitl [HW]; · iexists _; iexact HW
  isplitl [HFA_src]; · iexact HFA_src
  isplitl [HFB_src]; · iexact HFB_src
  isplitl [HFA_dst]; · iexists _; iexact HFA_dst
  isplitl [HFB_dst]; · iexists _; iexact HFB_dst
  isplitl [HFA]; · iexact HFA
  iexact HFB

set_option backward.proofsInPublic true in
/-- A trip in the middle issues the transfers of the trip after next into the slots the trip before it freed. -/
theorem tripMid (k : Fin k0_t1_loop.trips) (hk : k.val ≠ 0) (hk' : k.val ≤ 40) (fo : Buf (Elt F) (arg4.view.loc (c : Thread nD τ))) :
    iprop(tripPre c XW arg0 arg1 arg2 arg4 arg6 x0 x1 x2 k.val fo ∗ (homeP c XW (gA (k.val + 2)) ∗ homeP c XW (gB (k.val + 2))) ∗ freeP (F := F) c (k.val + 2))
      ⊢ wpT c arg0 harg0 arg1 harg1 arg2 harg2 arg4 harg4 arg6 harg6 k
        (fun _ => iprop(tripPost c XW arg0 arg1 arg2 arg4 arg6 x0 x1 x2 k fo ∗ goP c XW (k.val + 2))) := by
  have h1 := cond1_pos k hk
  have h2 := cond2_low k hk'
  have h3 := cond3_low k hk'
  iintro ⟨⟨⟨H0, H1, H2⟩, HO, ⟨%fm, HM⟩, ⟨%W, HW⟩, ⟨%fA, HFA⟩, ⟨%fB, HFB⟩⟩, ⟨Hgn, Hgm⟩, ⟨%fC, HSC⟩, ⟨%fD, HSD⟩, HCC, HCD⟩
  dsimp only [wpT, tripG]
  sl_unfold [k0_t1_body]
  sl_exec
  sl_step
  isplitl [H0 H1 H2 HO HM HW HFA HFB HFA_dst HFB_dst HFA_src HFB_src]
  · isplitl [H0 H1 H2]
    · isplitl [H0]; · iexact H0
      isplitl [H1]; · iexact H1
      iexact H2
    isplitl [HO]; · iexact HO
    isplitl [HM]; · iexists _; iexact HM
    isplitl [HW]; · iexists _; iexact HW
    isplitl [HFA_src]; · iexact HFA_src
    isplitl [HFB_src]; · iexact HFB_src
    isplitl [HFA_dst]; · iexists _; iexact HFA_dst
    isplitl [HFB_dst]; · iexists _; iexact HFB_dst
    isplitl [HFA]; · iexact HFA
    iexact HFB
  isplitl [HCC]; · iexists fC; iexact HCC
  iexists fD; iexact HCD

set_option backward.proofsInPublic true in
/-- The last two trips issue nothing. -/
theorem tripTail (k : Fin k0_t1_loop.trips) (hk : 40 < k.val) (fo : Buf (Elt F) (arg4.view.loc (c : Thread nD τ))) :
    iprop(tripPre c XW arg0 arg1 arg2 arg4 arg6 x0 x1 x2 k.val fo)
      ⊢ wpT c arg0 harg0 arg1 harg1 arg2 harg2 arg4 harg4 arg6 harg6 k
        (fun _ => iprop(tripPost c XW arg0 arg1 arg2 arg4 arg6 x0 x1 x2 k fo)) := by
  have h1 := cond1_pos k (by omega)
  have h2 := cond2_high k hk
  have h3 := cond3_high k hk
  iintro ⟨⟨H0, H1, H2⟩, HO, ⟨%fm, HM⟩, ⟨%W, HW⟩, ⟨%fA, HFA⟩, ⟨%fB, HFB⟩⟩
  dsimp only [wpT, tripG]
  sl_unfold [k0_t1_body]
  sl_exec
  sl_step
  isplitl [H0 H1 H2]
  · isplitl [H0]; · iexact H0
    isplitl [H1]; · iexact H1
    iexact H2
  isplitl [HO]; · iexact HO
  isplitl [HM]; · iexists _; iexact HM
  isplitl [HW]; · iexists _; iexact HW
  isplitl [HFA_src]; · iexact HFA_src
  isplitl [HFB_src]; · iexact HFB_src
  isplitl [HFA_dst]; · iexists _; iexact HFA_dst
  isplitl [HFB_dst]; · iexists _; iexact HFB_dst
  isplitl [HFA]; · iexact HFA
  iexact HFB

end Trip
end Cert.Proof.GateUp
end
-- ==== Proof.GateUp.Body.lean ====
module

public import proofs.«01_k».proof.Proof.GateUp.Trip

@[expose] public section

noncomputable section

namespace Cert.Proof.GateUp

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The loop -/

section Loop

variable (c : Dev nD) (XW : Buf (Elt F) (wM.view.loc (c : Thread nD τ)))
  (arg0 : Memref sig .tc .vmem S192x8192 .fp8e4m3) (harg0 : arg0.IsWhole)
  (arg1 : Memref sig .tc .vmem S192x128 .f32) (harg1 : arg1.IsWhole)
  (arg2 : Memref sig .tc .vmem S344x128 .f32) (harg2 : arg2.IsWhole)
  (arg4 : Memref sig .tc .vmem S33024x128 .f32) (harg4 : arg4.IsWhole)
  (x0 : Buf (Elt F) (arg0.view.loc (c : Thread nD τ))) (x1 : Buf (Elt F) (arg1.view.loc (c : Thread nD τ)))
  (x2 : Buf (Elt F) (arg2.view.loc (c : Thread nD τ)))

/-- Trip `t`'s slots before it: its transfers under way, or, past the last trip, free. -/
def liveP (t : ℕ) : sProp 𝕄 := if t < 43 then goP c XW t else freeP (F := F) c t
theorem liveP_lt (t : ℕ) (h : t < 43) : liveP c XW t = goP c XW t := if_pos h
theorem liveP_ge (t : ℕ) (h : ¬ t < 43) : liveP c XW t = freeP (F := F) c t := if_neg h

/-- The ring before the first trip: the transfers of trips 0, 1 and 2 under way, the other column blocks held. -/
abbrev ringZero : sProp 𝕄 :=
  iprop((∃ f, flightP c XW 0 0 f) ∗ (∃ f, flightP c XW 1 43 f) ∗ (∃ f, flightP c XW 2 1 f) ∗ (∃ f, flightP c XW 3 44 f)
    ∗ (∃ f, flightP c XW 4 2 f) ∗ (∃ f, flightP c XW 5 45 f) ∗ bigSep (Ring.homeSet (NB := 43) 3 0) (pairP c XW))
/-- The ring before trip `k`: from trip 1 on, the transfers of trips `k` and `k + 1` under way, the third pair of slots free. -/
def ringAt : ℕ → sProp 𝕄
  | 0 => ringZero c XW
  | k + 1 => iprop(liveP c XW (k + 1) ∗ liveP c XW (k + 2) ∗ freeP (F := F) c (k + 3) ∗ bigSep (Ring.homeSet (NB := 43) 2 (k + 1)) (pairP c XW))
theorem ringAt_pos (k : ℕ) (h : k ≠ 0) : ringAt c XW k
    = iprop(liveP c XW k ∗ liveP c XW (k + 1) ∗ freeP (F := F) c (k + 2) ∗ bigSep (Ring.homeSet (NB := 43) 2 k) (pairP c XW)) := by
  obtain ⟨n, rfl⟩ := Nat.exists_eq_succ_of_ne_zero h; rfl

/-- The output block before trip `k`, from `o0`: each trip's twelve tiles over what was there. -/
def outAcc (o0 : Buf (Elt F) (arg4.view.loc (c : Thread nD τ))) : ℕ → Buf (Elt F) (arg4.view.loc (c : Thread nD τ))
  | 0 => o0
  | k + 1 => if h : k < k0_t1_loop.trips then nextO c XW arg0 arg1 arg2 arg4 x0 x1 x2 ⟨k, h⟩ (outAcc o0 k) else outAcc o0 k
theorem outAcc_succ (o0) (k : Fin k0_t1_loop.trips) :
    outAcc c XW arg0 arg1 arg2 arg4 x0 x1 x2 o0 (k.val + 1) = nextO c XW arg0 arg1 arg2 arg4 x0 x1 x2 k (outAcc c XW arg0 arg1 arg2 arg4 x0 x1 x2 o0 k.val) := by
  rw [outAcc, dif_pos k.isLt]

theorem trips_pos : 0 < k0_t1_loop.trips := by rw [trips_eq]; decide
theorem freeP_add3 (k : ℕ) : freeP (F := F) c (k + 3) = freeP (F := F) c k := by
  have eA : sA (k + 3) = sA k := by rw [sA, show 2 * (k + 3) = 2 * k + 6 by omega, Ring.sl_add]
  have eB : sB (k + 3) = sB k := by rw [sB, show 2 * (k + 3) + 1 = 2 * k + 1 + 6 by omega, Ring.sl_add]
  unfold freeP; rw [eA, eB]
theorem pairP_bk (k : ℕ) (h : k < 43) : pairP c XW (Ring.bk 43 k) = iprop(homeP c XW (gA k) ∗ homeP c XW (gB k)) := by
  unfold pairP; rw [Ring.bk_val h]
theorem homes_out (k : ℕ) (h : k + 2 < 43) : bigSep (Ring.homeSet (NB := 43) 2 k) (pairP c XW)
    = iprop((homeP c XW (gA (k + 2)) ∗ homeP c XW (gB (k + 2))) ∗ bigSep ((Ring.homeSet (NB := 43) 2 k).erase (Ring.bk 43 (k + 2))) (pairP c XW)) := by
  conv_lhs => rw [Ring.homeSet_out 2 k h, bigSep_insert (Ring.bkL_not_mem_erase 2 k)]
  rw [← pairP_bk c XW (k + 2) h]; rfl
theorem homes_next (k : ℕ) (h : k + 2 < 43) : bigSep (Ring.homeSet (NB := 43) 2 (k + 1)) (pairP c XW)
    = iprop((homeP c XW (gA k) ∗ homeP c XW (gB k)) ∗ bigSep ((Ring.homeSet (NB := 43) 2 k).erase (Ring.bk 43 (k + 2))) (pairP c XW)) := by
  conv_lhs => rw [Ring.homeSet_succ 2 k h, bigSep_insert (Ring.bk_not_mem_erase 2 k (by omega) (by decide))]
  rw [← pairP_bk c XW k (by omega)]; rfl
theorem homes_tail (k : ℕ) (h : 43 ≤ k + 2) (hk : k < 43) : bigSep (Ring.homeSet (NB := 43) 2 (k + 1)) (pairP c XW)
    = iprop((homeP c XW (gA k) ∗ homeP c XW (gB k)) ∗ bigSep (Ring.homeSet (NB := 43) 2 k) (pairP c XW)) := by
  conv_lhs => rw [Ring.homeSet_succ_tail 2 k h hk, bigSep_insert (Ring.bk_not_mem_homeSet 2 k hk (by decide))]
  rw [← pairP_bk c XW k hk]; rfl
theorem homes_one : bigSep (Ring.homeSet (NB := 43) 2 1) (pairP c XW)
    = iprop((homeP c XW (gA 0) ∗ homeP c XW (gB 0)) ∗ bigSep (Ring.homeSet (NB := 43) 3 0) (pairP c XW)) := by
  have e : Ring.homeSet (NB := 43) 2 1 = insert (Ring.bk 43 0) (Ring.homeSet 3 0) := by
    ext b; rw [Ring.mem_homeSet, Finset.mem_insert, Ring.mem_homeSet, Fin.ext_iff, Ring.bk_val (by decide)]; omega
  conv_lhs => rw [e, bigSep_insert (Ring.bk_not_mem_homeSet 3 0 (by decide) (by decide))]
  rw [← pairP_bk c XW 0 (by decide)]; rfl

abbrev heldP (fo : Buf (Elt F) (arg4.view.loc (c : Thread nD τ))) : sProp 𝕄 :=
  iprop(insP c arg0 arg1 arg2 x0 x1 x2 ∗ outP c arg4 fo ∗ maxP c amaxM ∗ owesP c)

set_option warn.classDefReducibility false in
/-- The loop's invariant. -/
@[sl_loop] def loopInv (o0 : Buf (Elt F) (arg4.view.loc (c : Thread nD τ))) :
    LoopInvTy_k0_t1 (F := F) Unit ℕ (UU nD τ) ℕ 𝒱₀ c none Set.univ arg0 harg0 arg1 harg1 arg2 harg2 wM (Memref.isWhole_whole _) arg4 harg4 ringM (Memref.isWhole_whole _) amaxM (Memref.isWhole_whole _) cc0_scratch2 where
  inv k _ := iprop(heldP c arg0 arg1 arg2 arg4 x0 x1 x2 (outAcc c XW arg0 arg1 arg2 arg4 x0 x1 x2 o0 k) ∗ ringAt c XW k)
  step k _ := by
    have hlt : k.val < 43 := Nat.lt_of_lt_of_eq k.isLt trips_eq
    rw [outAcc_succ, ringAt_pos c XW (k.val + 1) (by omega), freeP_add3]
    by_cases h0 : k.val = 0
    · have hk : k = ⟨0, trips_pos⟩ := Fin.ext h0
      subst hk
      rw [liveP_lt c XW (0 + 1) (by decide), liveP_lt c XW (0 + 1 + 1) (by decide), show (0 + 1 : ℕ) = 1 from rfl, homes_one,
        show ringAt c XW (⟨0, trips_pos⟩ : Fin k0_t1_loop.trips).val = ringZero c XW from rfl]
      iintro ⟨⟨HI, HO, HM, HW⟩, F0, F1, F2, F3, F4, F5, HR⟩
      iapply (wp_wand_r Idealize.ShloMosaic.frame (wpE (defs₀ (F := F)) 𝒱₀ (c : Thread nD τ) none) Set.univ)
      isplitl [HI HO HM HW F0 F1]
      · iapply (tripFirst c XW arg0 harg0 arg1 harg1 arg2 harg2 arg4 harg4 amaxM (Memref.isWhole_whole _) x0 x1 x2 ⟨0, trips_pos⟩ rfl _)
        isplitl [HI]; · iexact HI
        isplitl [HO]; · iexact HO
        isplitl [HM]; · iexact HM
        isplitl [HW]; · iexact HW
        isplitl [F0]; · iexact F0
        iexact F1
      · iintro %_ ⟨HI, HO, HM, HW, HA, HB, HF⟩
        isplitl [HI HO HM HW]
        · isplitl [HI]; · iexact HI
          isplitl [HO]; · iexact HO
          isplitl [HM]; · iexact HM
          iexact HW
        isplitl [F2 F3]
        · isplitl [F2]; · iexact F2
          iexact F3
        isplitl [F4 F5]
        · isplitl [F4]; · iexact F4
          iexact F5
        isplitl [HF]; · iexact HF
        isplitl [HA HB]
        · isplitl [HA]; · iexact HA
          iexact HB
        iexact HR
    by_cases h1 : k.val ≤ 40
    · rw [ringAt_pos c XW k.val h0, liveP_lt c XW k.val hlt, liveP_lt c XW (k.val + 1 + 1) (by omega), homes_out c XW k.val (by omega), homes_next c XW k.val (by omega)]
      iintro ⟨⟨HI, HO, HM, HW⟩, HG, HL, HF, HN, HR⟩
      iapply (wp_wand_r Idealize.ShloMosaic.frame (wpE (defs₀ (F := F)) 𝒱₀ (c : Thread nD τ) none) Set.univ)
      isplitl [HI HO HM HW HG HF HN]
      · iapply (tripMid c XW arg0 harg0 arg1 harg1 arg2 harg2 arg4 harg4 amaxM (Memref.isWhole_whole _) x0 x1 x2 k h0 h1 _)
        isplitl [HI HO HM HW HG]
        · isplitl [HI]; · iexact HI
          isplitl [HO]; · iexact HO
          isplitl [HM]; · iexact HM
          isplitl [HW]; · iexact HW
          iexact HG
        isplitl [HN]; · iexact HN
        iexact HF
      · iintro %_ ⟨⟨HI, HO, HM, HW, HA, HB, HF⟩, HG⟩
        isplitl [HI HO HM HW]
        · isplitl [HI]; · iexact HI
          isplitl [HO]; · iexact HO
          isplitl [HM]; · iexact HM
          iexact HW
        isplitl [HL]; · iexact HL
        isplitl [HG]; · iexact HG
        isplitl [HF]; · iexact HF
        isplitl [HA HB]
        · isplitl [HA]; · iexact HA
          iexact HB
        iexact HR
    · rw [ringAt_pos c XW k.val h0, liveP_lt c XW k.val hlt, liveP_ge c XW (k.val + 1 + 1) (by omega), homes_tail c XW k.val (by omega) hlt]
      iintro ⟨⟨HI, HO, HM, HW⟩, HG, HL, HF, HR⟩
      iapply (wp_wand_r Idealize.ShloMosaic.frame (wpE (defs₀ (F := F)) 𝒱₀ (c : Thread nD τ) none) Set.univ)
      isplitl [HI HO HM HW HG]
      · iapply (tripTail c XW arg0 harg0 arg1 harg1 arg2 harg2 arg4 harg4 amaxM (Memref.isWhole_whole _) x0 x1 x2 k (by omega) _)
        isplitl [HI]; · iexact HI
        isplitl [HO]; · iexact HO
        isplitl [HM]; · iexact HM
        isplitl [HW]; · iexact HW
        iexact HG
      · iintro %_ ⟨HI, HO, HM, HW, HA, HB, HF2⟩
        isplitl [HI HO HM HW]
        · isplitl [HI]; · iexact HI
          isplitl [HO]; · iexact HO
          isplitl [HM]; · iexact HM
          iexact HW
        isplitl [HL]; · iexact HL
        isplitl [HF]; · iexact HF
        isplitl [HF2]; · iexact HF2
        isplitl [HA HB]
        · isplitl [HA]; · iexact HA
          iexact HB
        iexact HR

/-- What the body leaves in the output block. -/
abbrev outOf (gO : Buf (Elt F) (arg4.view.loc (c : Thread nD τ))) : Buf (Elt F) (arg4.view.loc (c : Thread nD τ)) := outAcc c XW arg0 arg1 arg2 arg4 x0 x1 x2 gO 43

/-- The six slots at anything and their semaphores at zero. -/
abbrev slotsP : sProp 𝕄 :=
  iprop((∃ f, slotP (F := F) c 0 f) ∗ (∃ f, slotP (F := F) c 1 f) ∗ (∃ f, slotP (F := F) c 2 f) ∗ (∃ f, slotP (F := F) c 3 f) ∗ (∃ f, slotP (F := F) c 4 f) ∗ (∃ f, slotP (F := F) c 5 f))
abbrev cellsP : sProp 𝕄 :=
  iprop(cellP (F := F) c 0 ∗ cellP (F := F) c 1 ∗ cellP (F := F) c 2 ∗ cellP (F := F) c 3 ∗ cellP (F := F) c 4 ∗ cellP (F := F) c 5)

/-- What the body leaves. -/
abbrev POST (out : Buf (Elt F) (arg4.view.loc (c : Thread nD τ))) : sProp 𝕄 :=
  iprop(insP c arg0 arg1 arg2 x0 x1 x2 ∗ outP c arg4 out ∗ maxP c amaxM ∗ bigSep Finset.univ (pairP c XW)
    ∗ slotsP c ∗ cellsP c ∗ owesP c)

/-- `POST` under one name, opened by `doneP_eq`. -/
@[irreducible] def doneP (out : Buf (Elt F) (arg4.view.loc (c : Thread nD τ))) : sProp 𝕄 := POST c XW arg0 arg1 arg2 arg4 x0 x1 x2 out
theorem doneP_eq (out) : doneP c XW arg0 arg1 arg2 arg4 x0 x1 x2 out = POST c XW arg0 arg1 arg2 arg4 x0 x1 x2 out := by rw [doneP]

theorem freeP_lit (t : ℕ) (a b : Fin 6) (ha : sA t = a) (hb : sB t = b) : freeP (F := F) c t
    = iprop((∃ f, slotP (F := F) c a f) ∗ (∃ f, slotP (F := F) c b f) ∗ cellP (F := F) c a ∗ cellP (F := F) c b) := by
  subst ha; subst hb; rfl

set_option warn.classDefReducibility false in
/-- After the loop the ring is whole again. -/
def loopExit (o0 : Buf (Elt F) (arg4.view.loc (c : Thread nD τ))) :
    LoopExit (loopInv (F := F) c XW arg0 harg0 arg1 harg1 arg2 harg2 arg4 harg4 x0 x1 x2 o0) where
  post _ := doneP c XW arg0 arg1 arg2 arg4 x0 x1 x2 (outOf c XW arg0 arg1 arg2 arg4 x0 x1 x2 o0)
  exit acc := by
    show iprop(heldP c arg0 arg1 arg2 arg4 x0 x1 x2 (outAcc c XW arg0 arg1 arg2 arg4 x0 x1 x2 o0 k0_t1_loop.trips) ∗ ringAt c XW k0_t1_loop.trips) ⊢ _
    rw [trips_eq, doneP_eq, ringAt_pos c XW 43 (by decide), liveP_ge c XW 43 (by decide), liveP_ge c XW (43 + 1) (by decide),
      freeP_lit c 43 2 3 (by decide) (by decide), freeP_lit c (43 + 1) 4 5 (by decide) (by decide), freeP_lit c (43 + 2) 0 1 (by decide) (by decide),
      Ring.homeSet_last (NB := 43) (L := 2) 43 (by decide)]
    iintro ⟨⟨HI, HO, HM, HW⟩, ⟨S2, S3, C2, C3⟩, ⟨S4, S5, C4, C5⟩, ⟨S0, S1, C0, C1⟩, HR⟩
    isplitl [HI]; · iexact HI
    isplitl [HO]; · iexact HO
    isplitl [HM]; · iexact HM
    isplitl [HR]; · iexact HR
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [C0 C1 C2 C3 C4 C5]
    · isplitl [C0]; · iexact C0
      isplitl [C1]; · iexact C1
      isplitl [C2]; · iexact C2
      isplitl [C3]; · iexact C3
      isplitl [C4]; · iexact C4
      iexact C5
    iexact HW

end Loop

/-! ## The kernel body -/

section Body

variable (c : Dev nD) (XW : Buf (Elt F) (wM.view.loc (c : Thread nD τ)))
  (arg0 : Memref sig .tc .vmem S192x8192 .fp8e4m3) (harg0 : arg0.IsWhole)
  (arg1 : Memref sig .tc .vmem S192x128 .f32) (harg1 : arg1.IsWhole)
  (arg2 : Memref sig .tc .vmem S344x128 .f32) (harg2 : arg2.IsWhole)
  (arg4 : Memref sig .tc .vmem S33024x128 .f32) (harg4 : arg4.IsWhole)
  (x0 : Buf (Elt F) (arg0.view.loc (c : Thread nD τ))) (x1 : Buf (Elt F) (arg1.view.loc (c : Thread nD τ)))
  (x2 : Buf (Elt F) (arg2.view.loc (c : Thread nD τ)))

/-- The kernel on the given staging buffers. -/
abbrev bodyG : Prog (TpuEff nD τ sig (Elt F) Λ₀ .tc) PUnit :=
  cc0_gate_up arg0 harg0 arg1 harg1 arg2 harg2 wM (Memref.isWhole_whole _) arg4 harg4 ringM (Memref.isWhole_whole _) amaxM (Memref.isWhole_whole _) cc0_scratch2

/-- What the body takes. -/
abbrev PRE (gO : Buf (Elt F) (arg4.view.loc (c : Thread nD τ))) (W : Waits sig Unit) : sProp 𝕄 :=
  iprop(insP c arg0 arg1 arg2 x0 x1 x2 ∗ outP c arg4 gO ∗ maxP c amaxM
    ∗ (homeP c XW 0 ∗ homeP c XW 43 ∗ homeP c XW 1 ∗ homeP c XW 44 ∗ homeP c XW 2 ∗ homeP c XW 45 ∗ bigSep (Ring.homeSet (NB := 43) 3 0) (pairP c XW))
    ∗ slotsP c ∗ cellsP c ∗ owes (c : Thread nD τ) 0 W)
set_option warn.classDefReducibility false in
attribute [local instance] loopExit in
theorem bodyRun (gO W) (Q : PUnit → sProp 𝕄) :
    iprop(PRE c XW arg0 arg1 arg2 arg4 x0 x1 x2 gO W ∗ (POST c XW arg0 arg1 arg2 arg4 x0 x1 x2 (outOf c XW arg0 arg1 arg2 arg4 x0 x1 x2 gO) -∗ Q ⟨⟩))
      ⊢ wp frame (wpE (defs₀ (F := F)) 𝒱₀ (c : Thread nD τ) none) Set.univ (bodyG arg0 harg0 arg1 harg1 arg2 harg2 arg4 harg4) Q := by
  have h4 := cond4_no
  have h5 := cond5_no
  iintro ⟨⟨⟨H0, H1, H2⟩, HO, ⟨%fm, HM⟩, ⟨Hg0, Hg1, Hg2, Hg3, Hg4, Hg5, HR⟩, ⟨⟨%f0, Hs0⟩, ⟨%f1, Hs1⟩, ⟨%f2, Hs2⟩, ⟨%f3, Hs3⟩, ⟨%f4, Hs4⟩, ⟨%f5, Hs5⟩⟩, ⟨Hc0, Hc1, Hc2, Hc3, Hc4, Hc5⟩, HW⟩, Hk⟩
  let L := loopInv c XW arg0 harg0 arg1 harg1 arg2 harg2 arg4 harg4 x0 x1 x2 gO
  sl_exec
  sl_step
  have hd : doneP c XW arg0 arg1 arg2 arg4 x0 x1 x2 (outOf c XW arg0 arg1 arg2 arg4 x0 x1 x2 gO)
      ⊢ POST c XW arg0 arg1 arg2 arg4 x0 x1 x2 (outOf c XW arg0 arg1 arg2 arg4 x0 x1 x2 gO) := entails_of_eq (doneP_eq ..)
  iapply Hk
  iapply hd
  iexact HL0

end Body
end Cert.Proof.GateUp
end
-- ==== Proof.GateUp.Stored.lean ====
module

public import proofs.«01_k».proof.Proof.GateUp.Body
public import Idealize.ShloMosaic.Lib.WritesUnit

@[expose] public section

noncomputable section

namespace Cert.Proof.GateUp

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # What the output block holds after the loop -/

section Stored

variable (c : Dev nD) (XW : Buf (Elt F) (wM.view.loc (c : Thread nD τ)))
  (arg0 : Memref sig .tc .vmem S192x8192 .fp8e4m3)
  (arg1 : Memref sig .tc .vmem S192x128 .f32)
  (arg2 : Memref sig .tc .vmem S344x128 .f32)
  (arg4 : Memref sig .tc .vmem S33024x128 .f32)
  (x0 : Buf (Elt F) (arg0.view.loc (c : Thread nD τ))) (x1 : Buf (Elt F) (arg1.view.loc (c : Thread nD τ)))
  (x2 : Buf (Elt F) (arg2.view.loc (c : Thread nD τ)))

/-- Row `s`, lane `l` of a tile. -/
def tix (s : Fin 64) (l : Fin 128) : S64x128.Idx := fun | ⟨0, _⟩ => s | ⟨1, _⟩ => l

theorem skipPiece (k : Fin k0_t1_loop.trips) (r : Fin 4) (b : Fin 3) (f) (L : List (View.Piece (Elt F) S33024x128 .f32)) (y : S33024x128.Idx)
    (h : (y 0).val < 768 * k.val + 192 * r.val + 64 * b.val ∨ 768 * k.val + 192 * r.val + 64 * b.val + 64 ≤ (y 0).val) :
    arg4.view.read (Elt F) (arg4.view.writes (Elt F) f (piece c XW arg0 arg1 arg2 x0 x1 x2 k r b :: L)) y
      = arg4.view.read (Elt F) (arg4.view.writes (Elt F) f L) y :=
  View.read_writes_cons_rows_of_not_mem arg4.view f _ _ L y (k0_off18_eq k r b) rfl h

theorem hitPiece (k : Fin k0_t1_loop.trips) (r : Fin 4) (b : Fin 3) (f) (L : List (View.Piece (Elt F) S33024x128 .f32)) (y : S33024x128.Idx)
    (s : Fin 64) (l : Fin 128) (h0 : (y 0).val = 768 * k.val + 192 * r.val + 64 * b.val + s.val) (h1 : (y 1).val = l.val) :
    arg4.view.read (Elt F) (arg4.view.writes (Elt F) f (piece c XW arg0 arg1 arg2 x0 x1 x2 k r b :: L)) y
      = tileAt c XW arg0 arg1 arg2 x0 x1 x2 k r b (tix s l) :=
  View.read_writes_cons_rows_of_mem arg4.view f (k0_off18_inb k r b) (tileAt c XW arg0 arg1 arg2 x0 x1 x2 k r b) L y (tix s l) (k0_off18_eq k r b) h0 h1

/-- The tiles in the order a trip stores them, the latest first: 128-lane group and row block. -/
def order : List (Fin 4 × Fin 3) := [(3, 2), (2, 2), (1, 2), (0, 2), (3, 1), (2, 1), (1, 1), (0, 1), (3, 0), (2, 0), (1, 0), (0, 0)]
theorem mem_order : ∀ (r : Fin 4) (b : Fin 3), (r, b) ∈ order := by decide
theorem pieces_eq (k : Fin k0_t1_loop.trips) :
    pieces c XW arg0 arg1 arg2 x0 x1 x2 k = order.map fun q => piece c XW arg0 arg1 arg2 x0 x1 x2 k q.1 q.2 := rfl

theorem read_map_hit (k : Fin k0_t1_loop.trips) (r : Fin 4) (b : Fin 3) (f) (y : S33024x128.Idx)
    (s : Fin 64) (l : Fin 128) (h0 : (y 0).val = 768 * k.val + 192 * r.val + 64 * b.val + s.val) (h1 : (y 1).val = l.val)
    (L : List (Fin 4 × Fin 3)) (hL : (r, b) ∈ L) :
    arg4.view.read (Elt F) (arg4.view.writes (Elt F) f (L.map fun q => piece c XW arg0 arg1 arg2 x0 x1 x2 k q.1 q.2)) y
      = tileAt c XW arg0 arg1 arg2 x0 x1 x2 k r b (tix s l) := by
  induction L with
  | nil => exact absurd hL List.not_mem_nil
  | cons q L ih =>
    rw [List.map_cons]
    by_cases e : (r, b) = q
    · rw [← e]; exact hitPiece c XW arg0 arg1 arg2 arg4 x0 x1 x2 k r b f _ y s l h0 h1
    · rw [skipPiece c XW arg0 arg1 arg2 arg4 x0 x1 x2 k q.1 q.2 f _ y (by
        have hs := s.isLt; have := r.isLt; have := b.isLt; have := q.1.isLt; have := q.2.isLt
        have hne : ¬ (r.val = q.1.val ∧ b.val = q.2.val) := fun h => e (Prod.ext (Fin.ext h.1) (Fin.ext h.2))
        omega)]
      exact ih ((List.mem_cons.mp hL).resolve_left e)
theorem read_map_skip (k : Fin k0_t1_loop.trips) (f) (y : S33024x128.Idx)
    (h : (y 0).val < 768 * k.val ∨ 768 * k.val + 768 ≤ (y 0).val) (L : List (Fin 4 × Fin 3)) :
    arg4.view.read (Elt F) (arg4.view.writes (Elt F) f (L.map fun q => piece c XW arg0 arg1 arg2 x0 x1 x2 k q.1 q.2)) y
      = arg4.view.read (Elt F) f y := by
  induction L with
  | nil => rfl
  | cons q L ih =>
    rw [List.map_cons, skipPiece c XW arg0 arg1 arg2 arg4 x0 x1 x2 k q.1 q.2 f _ y (by
        have := q.1.isLt; have := q.2.isLt; omega)]
    exact ih

/-- An element of trip `k`'s rows reads the tile that covers it; -/
theorem read_next_hit (k : Fin k0_t1_loop.trips) (r : Fin 4) (b : Fin 3) (f) (y : S33024x128.Idx)
    (s : Fin 64) (l : Fin 128) (h0 : (y 0).val = 768 * k.val + 192 * r.val + 64 * b.val + s.val) (h1 : (y 1).val = l.val) :
    arg4.view.read (Elt F) (nextO c XW arg0 arg1 arg2 arg4 x0 x1 x2 k f) y = tileAt c XW arg0 arg1 arg2 x0 x1 x2 k r b (tix s l) := by
  rw [nextO, pieces_eq]
  exact read_map_hit c XW arg0 arg1 arg2 arg4 x0 x1 x2 k r b f y s l h0 h1 order (mem_order r b)
/-- any other reads what was there. -/
theorem read_next_skip (k : Fin k0_t1_loop.trips) (f) (y : S33024x128.Idx)
    (h : (y 0).val < 768 * k.val ∨ 768 * k.val + 768 ≤ (y 0).val) :
    arg4.view.read (Elt F) (nextO c XW arg0 arg1 arg2 arg4 x0 x1 x2 k f) y = arg4.view.read (Elt F) f y := by
  rw [nextO, pieces_eq]
  exact read_map_skip c XW arg0 arg1 arg2 arg4 x0 x1 x2 k f y h order

/-- The trip, 128-lane group, row block, row and lane that element `y` of the output block comes from. -/
theorem row_lt (y : S33024x128.Idx) : (y 0).val < 33024 := (y 0).isLt
def outTrip (y : S33024x128.Idx) : Fin k0_t1_loop.trips := ⟨(y 0).val / 768, by have := row_lt y; rw [trips_eq]; omega⟩
def outGroup (y : S33024x128.Idx) : Fin 4 := ⟨(y 0).val % 768 / 192, by omega⟩
def outBlock (y : S33024x128.Idx) : Fin 3 := ⟨(y 0).val % 192 / 64, by omega⟩
def outRow (y : S33024x128.Idx) : Fin 64 := ⟨(y 0).val % 64, by omega⟩
def outLane (y : S33024x128.Idx) : Fin 128 := ⟨(y 1).val, (y 1).isLt⟩

/-- What element `y` of the output block holds after the loop. -/
def outVal (y : S33024x128.Idx) : F .f32 :=
  tileAt c XW arg0 arg1 arg2 x0 x1 x2 (outTrip y) (outGroup y) (outBlock y) (tix (outRow y) (outLane y))

theorem read_outAcc (o0) (n : ℕ) (hn : n ≤ 43) (y : S33024x128.Idx) :
    arg4.view.read (Elt F) (outAcc c XW arg0 arg1 arg2 arg4 x0 x1 x2 o0 n) y
      = if (y 0).val < 768 * n then outVal c XW arg0 arg1 arg2 x0 x1 x2 y else arg4.view.read (Elt F) o0 y := by
  induction n with
  | zero => rw [if_neg (by omega)]; rfl
  | succ n ih =>
    have hlt : n < k0_t1_loop.trips := by rw [trips_eq]; omega
    rw [outAcc_succ c XW arg0 arg1 arg2 arg4 x0 x1 x2 o0 ⟨n, hlt⟩]
    by_cases h : (y 0).val < 768 * n ∨ 768 * n + 768 ≤ (y 0).val
    · rw [read_next_skip c XW arg0 arg1 arg2 arg4 x0 x1 x2 ⟨n, hlt⟩ _ y h, ih (by omega)]
      by_cases h' : (y 0).val < 768 * n
      · rw [if_pos h', if_pos (by omega)]
      · rw [if_neg h', if_neg (by omega)]
    · rw [if_pos (by omega)]
      have e : outTrip y = ⟨n, hlt⟩ := Fin.ext (by show (y 0).val / 768 = n; omega)
      unfold outVal
      rw [e]
      exact read_next_hit c XW arg0 arg1 arg2 arg4 x0 x1 x2 ⟨n, hlt⟩ (outGroup y) (outBlock y) _ y (outRow y) (outLane y)
        (by show (y 0).val = 768 * n + 192 * ((y 0).val % 768 / 192) + 64 * ((y 0).val % 192 / 64) + (y 0).val % 64; omega) rfl

/-- After the loop every element has been stored, whatever was there before. -/
theorem read_outOf (o0) :
    arg4.view.read (Elt F) (outOf c XW arg0 arg1 arg2 arg4 x0 x1 x2 o0) = outVal c XW arg0 arg1 arg2 x0 x1 x2 := by
  funext y
  rw [read_outAcc c XW arg0 arg1 arg2 arg4 x0 x1 x2 o0 43 le_rfl y, if_pos (row_lt y)]

end Stored
end Cert.Proof.GateUp
end
-- ==== Proof.GateUp.Launch.lean ====
/-
  The gate/up kernel's launch: the weight whole is its 43 pairs of column blocks, the ring whole is its six slots; the
  body's run is the pipeline's body obligation at its one point; and the whole program runs to a final state with the
  result at the computed contents, the arguments unchanged and every semaphore counter at zero.
-/
module

public import proofs.«01_k».proof.Proof.GateUp.Stored

@[expose] public section

noncomputable section

namespace Cert.Proof.GateUp

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## @main up to the region -/

abbrev hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The weight's contents, as the column blocks read them. -/
abbrev XWof (c : Dev nD) : Buf (Elt F) (wM.view.loc (c : Thread nD τ)) := m ((c : Thread nD τ).loc main_arg2)

/-! ## The kernel's own semaphores -/

abbrev osem : Fin 6 → SemLoc sig := fun s => .dma (csm s).sem
theorem ownSemFacts : Pipeline.OwnSemFacts spec0 osem := by decide

/-! ## Element sets: the weight's column blocks, the ring's slots -/

abbrev G86 (b : Fin 86) : Finset S8192x44032.Idx := (Rect.unit (s := S8192x44032) (grpOff b) S8192x512.size (grpOff_inb b)).set
abbrev S6s (s : Fin 6) : Finset S6x8192x512.Idx := (Rect.unit (s := S6x8192x512) (slotOff s) S1x8192x512.size (slotOff_inb s)).set
/-- A pair of column blocks. -/
abbrev P43 (j : Fin 43) : Finset S8192x44032.Idx := G86 (gA j.val) ∪ G86 (gB j.val)

omit [FloatOps F] in
theorem grp_set (b : Fin 86) : (grp b : Memref sig .tc .hbm _ _).view.set = G86 b := View.set_slice_whole _ _
omit [FloatOps F] in
theorem rslot_set (s : Fin 6) : (rslot s : Memref sig .tc .vmem _ _).view.set = S6s s := (View.set_reshape _ _).trans (View.set_slice_whole _ _)

theorem mem_G86 (b : Fin 86) (y : S8192x44032.Idx) : y ∈ G86 b ↔ (y 1).val / 512 = b.val := by
  rw [Rect.mem_set_unit]
  have h0 : (y 0).val < 8192 := (y 0).isLt
  constructor
  · intro H; have a0 : 512 * b.val ≤ (y 1).val ∧ (y 1).val < 512 * b.val + 512 := H 1; omega
  · intro H i; fin_cases i
    · show 0 ≤ (y 0).val ∧ (y 0).val < 0 + 8192; omega
    · show 512 * b.val ≤ (y 1).val ∧ (y 1).val < 512 * b.val + 512; omega
theorem gA_val (j : Fin 43) : (gA j.val).val = j.val := Ring.bk_val (by have := j.isLt; omega)
theorem gB_val (j : Fin 43) : (gB j.val).val = 43 + j.val := Ring.bk_val (by have := j.isLt; omega)
theorem mem_P43 (j : Fin 43) (y : S8192x44032.Idx) : y ∈ P43 j ↔ (y 1).val / 512 = j.val ∨ (y 1).val / 512 = 43 + j.val := by
  rw [Finset.mem_union, mem_G86, mem_G86, gA_val, gB_val]
theorem mem_S6s (s : Fin 6) (y : S6x8192x512.Idx) : y ∈ S6s s ↔ (y 0).val = s.val := by
  rw [Rect.mem_set_unit]
  have h1 : (y 1).val < 8192 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 8192; omega
    · show 0 ≤ (y 2).val ∧ (y 2).val < 0 + 512; omega
theorem P43_disjoint : ∀ j j' : Fin 43, j ≠ j' → Disjoint (P43 j) (P43 j') := by
  intro j j' hne; rw [Finset.disjoint_left]; intro y hy hy'; rw [mem_P43] at hy hy'
  have := j.isLt; have := j'.isLt
  exact hne (Fin.ext (by omega))
theorem P43_cover : (Finset.univ : Finset (Fin 43)).biUnion P43 = Finset.univ := by
  ext y; simp only [Finset.mem_biUnion, Finset.mem_univ, true_and, iff_true]
  have h1 : (y 1).val < 44032 := (y 1).isLt
  refine ⟨⟨(y 1).val / 512 % 43, Nat.mod_lt _ (by decide)⟩, ?_⟩
  rw [mem_P43]; show (y 1).val / 512 = (y 1).val / 512 % 43 ∨ (y 1).val / 512 = 43 + (y 1).val / 512 % 43
  omega
theorem G_disjoint (j : Fin 43) : Disjoint (G86 (gA j.val)) (G86 (gB j.val)) := by
  rw [Finset.disjoint_left]; intro y hy hy'; rw [mem_G86, gA_val] at hy; rw [mem_G86, gB_val] at hy'; have := j.isLt; omega
theorem S6s_disjoint : ∀ s s' : Fin 6, s ≠ s' → Disjoint (S6s s) (S6s s') := by
  intro s s' hne; rw [Finset.disjoint_left]; intro y hy hy'; rw [mem_S6s] at hy hy'; exact hne (Fin.ext (hy.symm.trans hy'))
theorem S6s_cover : (Finset.univ : Finset (Fin 6)).biUnion S6s = Finset.univ := by
  ext y; simp only [Finset.mem_biUnion, Finset.mem_univ, true_and, iff_true]; exact ⟨(y 0).cast (by decide), by rw [mem_S6s]; rfl⟩

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

/-- The weight whole is its 43 pairs of column blocks; -/
theorem w_eq (c : Dev nD) (XW : Buf (Elt F) (wM.view.loc (c : Thread nD τ))) :
    (((c : Thread nD τ).loc main_arg2) ↦{fullShare} XW : sProp 𝕄) = bigSep Finset.univ (pairP c XW) := by
  rw [Ring.pointsTo_blocks (ℓ := (c : Thread nD τ).loc main_arg2) P43 P43_disjoint P43_cover]
  refine bigSep_congr fun j _ => ?_
  rw [pairP, homeP, homeP, grp_set, grp_set]
  exact Entails.antisymm (pointsTo_union (ℓ := (c : Thread nD τ).loc main_arg2) (G_disjoint j)).1 (pointsTo_union (ℓ := (c : Thread nD τ).loc main_arg2) (G_disjoint j)).2
/-- at the body's entry, the first three pairs apart from the rest. -/
theorem homes_zero (c : Dev nD) (XW : Buf (Elt F) (wM.view.loc (c : Thread nD τ))) :
    bigSep Finset.univ (pairP c XW) = iprop((homeP c XW 0 ∗ homeP c XW 43) ∗ (homeP c XW 1 ∗ homeP c XW 44) ∗ (homeP c XW 2 ∗ homeP c XW 45)
      ∗ bigSep (Ring.homeSet (NB := 43) 3 0) (pairP c XW)) := by
  have e : (Finset.univ : Finset (Fin 43)) = insert 0 (insert 1 (insert 2 (Ring.homeSet (NB := 43) 3 0))) := by
    ext b; simp only [Finset.mem_univ, Finset.mem_insert, Ring.mem_homeSet, true_iff, Fin.ext_iff]; have := b.isLt
    show b.val = 0 ∨ b.val = 1 ∨ b.val = 2 ∨ _; omega
  rw [e, bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 6) (f) : slotP c s f = (((c : Thread nD τ).loc cc0_scratch0) ↦[S6s s]{fullShare} f : sProp 𝕄) :=
  congrArg (fun S => (_ ↦[S]{fullShare} f : sProp 𝕄)) (rslot_set s)
/-- The ring whole is its six slots, and back. -/
theorem ring_split (c : Dev nD) :
    iprop(∃ f : Buf (Elt F) ((c : Thread nD τ).loc cc0_scratch0), ((c : Thread nD τ).loc cc0_scratch0) ↦{fullShare} f) ⊢ (slotsP c : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S6s S6s_disjoint S6s_cover f).trans (bigSep_fin6 _))) $$ H
  icases H2 with ⟨H0, H1, H2, H3, H4, H5⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  isplitl [H3]; · iexists f; iapply (entails_of_eq (slotP_eq c 3 f).symm); iexact H3
  isplitl [H4]; · iexists f; iapply (entails_of_eq (slotP_eq c 4 f).symm); iexact H4
  iexists f; iapply (entails_of_eq (slotP_eq c 5 f).symm); iexact H5
theorem ring_join (c : Dev nD) :
    (slotsP c : sProp 𝕄) ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩, ⟨%f4, H4⟩, ⟨%f5, H5⟩⟩
  iapply (Ring.pointsTo_blocks_join_exists (ℓ := (c : Thread nD τ).loc cc0_scratch0) S6s S6s_disjoint S6s_cover f0)
  irw [bigSep_fin6]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  isplitl [H3]; · iexists f3; iapply (entails_of_eq (slotP_eq c 3 f3)); iexact H3
  isplitl [H4]; · iexists f4; iapply (entails_of_eq (slotP_eq c 4 f4)); iexact H4
  iexists f5; iapply (entails_of_eq (slotP_eq c 5 f5)); iexact H5

omit [FloatOps F] in
/-- The kernel's own cells at zero are the six slots' cells. -/
theorem ownSems0_eq (c : Dev nD) : (Pipeline.ownSems0 (Ix := Unit) (Name := ℕ) (U := UU nD τ) (Lvl := ℕ) (Val := Elt F) (τ := τ) osem c : sProp 𝕄)
    = cellsP (F := F) c := by
  unfold Pipeline.ownSems0; rw [bigSep_fin6]

theorem amax_set : (amaxM : Memref sig .tc .vmem S192x128 .f32).view.set = Finset.univ := View.set_whole _
/-- The maxima's scratch whole is its whole view, and back. -/
theorem max_in (c : Dev nD) :
    iprop(∃ f : Buf (Elt F) ((c : Thread nD τ).loc cc0_scratch1), ((c : Thread nD τ).loc cc0_scratch1) ↦{fullShare} f) ⊢ (maxP c amaxM : sProp 𝕄) := by
  iintro ⟨%f, H⟩
  iexists f
  iapply (entails_of_eq (congrArg (fun S => (((c : Thread nD τ).loc cc0_scratch1) ↦[S]{fullShare} f : sProp 𝕄)) amax_set.symm)); iexact H
theorem max_out (c : Dev nD) :
    (maxP c amaxM : sProp 𝕄) ⊢ iprop(∃ f : Buf (Elt F) ((c : Thread nD τ).loc cc0_scratch1), ((c : Thread nD τ).loc cc0_scratch1) ↦{fullShare} f) := by
  iintro ⟨%f, H⟩
  iexists f
  iapply (entails_of_eq (congrArg (fun S => (((c : Thread nD τ).loc cc0_scratch1) ↦[S]{fullShare} f : sProp 𝕄)) amax_set)); iexact H

/-! ## The pipeline's proof data -/

/-- The region invariant, the same before and after the one point: the weight's pairs held, the six slots and the
    maxima's scratch at anything, the six cells at zero. -/
def Φ (c : Dev nD) : sProp 𝕄 :=
  iprop(bigSep Finset.univ (pairP c (XWof m c)) ∗ slotsP c ∗ maxP c amaxM ∗ cellsP (F := F) c)

abbrev st0 (t : Fin cfg0.N) : Memref sig .tc .vmem S192x8192 .fp8e4m3 := win0_0.stage (cfg0.slots t 0)
abbrev st1 (t : Fin cfg0.N) : Memref sig .tc .vmem S192x128 .f32 := win0_1.stage (cfg0.slots t 1)
abbrev st2 (t : Fin cfg0.N) : Memref sig .tc .vmem S344x128 .f32 := win0_2.stage (cfg0.slots t 2)
abbrev st3 (t : Fin cfg0.N) : Memref sig .tc .vmem S33024x128 .f32 := win0_3.stage (cfg0.slots t 3)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0

/-- The three inputs' staging buffers, holding their blocks. -/
abbrev in0 (c : Dev nD) (t : Fin cfg0.N) := (st0 t).view.rep (Val := Elt F) (iblk m c 0 t)
abbrev in1 (c : Dev nD) (t : Fin cfg0.N) := (st1 t).view.rep (Val := Elt F) (iblk m c 1 t)
abbrev in2 (c : Dev nD) (t : Fin cfg0.N) := (st2 t).view.rep (Val := Elt F) (iblk m c 2 t)

/-- What the body leaves in the result's block. -/
def outAt (c : Dev nD) (t : Fin cfg0.N) : (cfg0.win 3).block.Idx → Elt F (cfg0.win 3).elt :=
  outVal c (XWof m c) (st0 t) (st1 t) (st2 t) (in0 m c t) (in1 m c t) (in2 m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0 t) (hst0 t) (st1 t) (hst1 t) (st2 t) (hst2 t) (st3 t) (hst3 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, HS, HM, HC⟩, ⟨%W, -, HW⟩, ⟨%d0, %g0, %hg0, H0⟩, ⟨%d1, %g1, %hg1, H1⟩, ⟨%d2, %g2, %hg2, H2⟩, ⟨%d3, %gO, -, HO⟩⟩
  ihave Hh3 := (entails_of_eq (homes_zero c (XWof m c))) $$ Hh
  icases Hh3 with ⟨⟨Hg0, Hg1⟩, ⟨Hg2, Hg3⟩, ⟨Hg4, Hg5⟩, HR⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  rw [hg0, hg1, hg2]
  sl_rw [prog_eq t]
  iapply (bodyRun c (XWof m c) (st0 t) (hst0 t) (st1 t) (hst1 t) (st2 t) (hst2 t) (st3 t) (hst3 t) (in0 m c t) (in1 m c t) (in2 m c t) gO W)
  isplitl [H0' H1' H2' HO HM Hg0 Hg1 Hg2 Hg3 Hg4 Hg5 HR HS HC HW]
  · isplitl [H0' H1' H2']
    · isplitl [H0']; · iexact H0'
      isplitl [H1']; · iexact H1'
      iexact H2'
    isplitl [HO]; · iexact HO
    isplitl [HM]; · iexact HM
    isplitl [Hg0 Hg1 Hg2 Hg3 Hg4 Hg5 HR]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      iexact HR
    isplitl [HS]; · iexact HS
    isplitl [HC]; · iexact HC
    iexact HW
  · iintro ⟨⟨H0, H1, H2⟩, HO, HM, Hh, HS, HC, ⟨%W', HW⟩⟩
    isplitl [Hh HS HM HC]
    · isplitl [Hh]; · iexact Hh
      isplitl [HS]; · iexact HS
      isplitl [HM]; · iexact HM
      iexact HC
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr
    · ipureintro; exact read_outOf c (XWof m c) (st0 t) (st1 t) (st2 t) (st3 t) (in0 m c t) (in1 m c t) (in2 m c t) gO
    iexact HO

/-! ## The run -/

def intoΦ (c : Dev nD) : sProp 𝕄 := iprop(bigSep Finset.univ (pairP c (XWof m c)) ∗ Pipeline.ownSems0 osem c)
/-- The arguments no window stages, unchanged. -/
abbrev argP (c : Dev nD) (b : Ref sig .tc) : sProp 𝕄 := ((c : Thread nD τ).loc b) ↦{fullShare} m ((c : Thread nD τ).loc b)
def outOfΦ (c : Dev nD) : sProp 𝕄 := argP m c main_arg2
def keptZ (c : Dev nD) : sProp 𝕄 := iprop(argP m c main_arg1 ∗ argP m c main_arg3)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg2) = m ((c : Thread nD τ).loc main_arg2)
  ∧ s.mem ((c : Thread nD τ).loc main_arg1) = m ((c : Thread nD τ).loc main_arg1)
  ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- At the compiled mesh, for any float values, from any memory with zero counters: every weakly fair execution of
    @main on the TensorCores terminates, and every final state has the windows' arrays at the computed contents, the
    other arguments unchanged, every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := outOfΦ m) (Z := keptZ m)
    (hX := fun c => by
      rw [unscopedRest0_eq, V_main_arg1, V_main_arg2, V_main_arg3, w_eq c (XWof m c)]
      unfold intoΦ keptZ
      iintro ⟨⟨H1, H2, H3, -⟩, HS, -, -⟩; imodintro
      isplitl [H2 HS]
      · isplitl [H2]; · iexact H2
        iexact HS
      isplitl [H1]; · iexact H1
      iexact H3)
    (hin := fun c => by
      rw [scopedRest0_eq, show (dats m 0 c).Φ 0 = Φ m c from rfl]
      unfold intoΦ Φ; rw [ownSems0_eq]
      iintro ⟨⟨H0, HC⟩, Hb, Hm⟩
      ihave Hs := (ring_split c) $$ Hb
      isplitl [H0]; · iexact H0
      isplitl [Hs]; · iexact Hs
      isplitl [Hm]
      · iapply (max_in c); iexact Hm
      iexact HC)
    (hout := fun c => by
      rw [scopedRest0_eq, show (dats m 0 c).Φ (Fin.last cfg0.N) = Φ m c from rfl, ownSems0_eq]
      unfold Φ outOfΦ argP; rw [w_eq c (XWof m c)]
      iintro ⟨H0, HS, HM, HC⟩
      isplitl [H0]; · iexact H0
      isplitl [HC]; · iexact HC
      isplitl [HS]
      · iapply (ring_join c); iexact HS
      iapply (max_out c); iexact HM)
    (QY := QY m)
    (hY := fun c s' => by
      unfold outOfΦ keptZ argP QY
      iintro ⟨H2, ⟨H1, H3⟩, HSI⟩
      icombine HSI H2 gives %h2
      icombine HSI H1 gives %h1
      icombine HSI H3 gives %h3
      imodintro
      isplitr
      · ipureintro; exact ⟨Buf.eq_of_forall_mem_univ h2, Buf.eq_of_forall_mem_univ h1, Buf.eq_of_forall_mem_univ h3⟩
      iexact HSI)
    (hQ := fun _ hh hz => ⟨hh, hz⟩)

theorem finalA_in0 (c : Dev nD) : finalA m c 0 = m ((c : Thread nD τ).loc main_arg0) :=
  ((dats (F := F) m 0 c).arrAt_in 0 rfl _).trans (V_main_arg0 m c)

end Cert.Proof.GateUp
end
-- ==== Proof.GateUpIdeal.Spec.lean ====
/-
  The gate/up phase as mathematics over the extended reals: the dequantised projection of the normalised rows, the silu
  of its gate half times its up half, and the place of each activation in the 128-lane column-group layout.
-/
module

public import Idealize.ShloMosaic.PureOps.Ideal
public import Idealize.ShloMosaic.Lib.Pointwise

@[expose] public section

noncomputable section

namespace Cert.Proof.GateUpIdeal

open Idealize.ShloMosaic
open scoped BigOperators

section
variable (h : (⟨2, ![192, 8192]⟩ : Shape).Idx → EReal) (hs : (⟨1, ![192]⟩ : Shape).Idx → EReal)
  (w : (⟨2, ![8192, 44032]⟩ : Shape).Idx → EReal) (s : (⟨1, ![44032]⟩ : Shape).Idx → EReal)

/-- Token `t`'s projection on column `n`: the product of the codes, times the row's scale, times the column's scale. -/
def proj (t : Fin 192) (n : Fin 44032) : EReal := (∑ d : Fin 8192, h (ix2 t d) * w (ix2 d n)) * hs (ix1 t) * s (ix1 n)

/-- Token `t`'s activation in column `n`: the silu of the gate projection times the up projection. -/
def act (t : Fin 192) (n : Fin 22016) : EReal :=
  proj h hs w s t ⟨n.val, by omega⟩ * Ideal.logistic (proj h hs w s t ⟨n.val, by omega⟩) * proj h hs w s t ⟨22016 + n.val, by omega⟩

/-- The activations in groups of 128 columns: row `R` is token `R mod 192` of group `R / 192`. -/
def grouped (y : (⟨2, ![33024, 128]⟩ : Shape).Idx) : EReal :=
  act h hs w s ⟨(y 0).val % 192, Nat.mod_lt _ (by decide)⟩
    ⟨(y 0).val / 192 * 128 + (y 1).val, by have h0 : (y 0).val < 33024 := (y 0).isLt; have h1 : (y 1).val < 128 := (y 1).isLt; omega⟩
end

end Cert.Proof.GateUpIdeal

end
-- ==== Proof.GateUpIdeal.KernelValue.lean ====
/-
  What the kernel's result array holds over the extended reals: the grouped activations of its arguments.
-/
module

public import proofs.«01_k».proof.Proof.GateUpIdeal.Spec
public import proofs.«01_k».proof.Proof.GateUpIdeal.Launch
public import Idealize.ShloMosaic.Lib.Pipeline.ValueKit

@[expose] public section

set_option maxRecDepth 16384

noncomputable section

namespace Cert.Proof.GateUpIdeal

open Cert.KernelIdeal Cert.KernelIdeal.Gen Idealize.ShloMosaic Idealize.ShloMosaic.TcCoe Idealize.SL.Sem
open Idealize.ShloMosaic.Pipeline (Dat)

/-! ## One tile -/

/-- Element `(s, l)` of the tile of row block `b` and lane group `r`. -/
theorem tile_apply (aG aU : FVec Ideal S192x512 .f32) (rs : Vec Ideal S64x128 .f32) (sg su : Vec Ideal S1x128 .f32)
    (r : Fin 4) (b : Fin 3) (s : Fin 64) (l : Fin 128) (i : Fin 192) (j : Fin 512) (hi : i.val = 64 * b.val + s.val) (hj : j.val = 128 * r.val + l.val)
    (g u : EReal) (hg : aG (ix2 i j) * rs (ix2 s l) * sg (ix2 0 l) = g) (hu : aU (ix2 i j) * rs (ix2 s l) * su (ix2 0 l) = u) :
    tile aG aU rs sg su r b (tix s l) = g * Ideal.logistic g * u := by
  rw [show tix s l = ix2 s l from by funext a; fin_cases a <;> rfl]
  unfold tile
  pointwise
  have ei : (⟨64 * b.val + s.val, by omega⟩ : Fin 192) = i := Fin.ext hi.symm
  have ej : (⟨128 * r.val + l.val, by omega⟩ : Fin 512) = j := Fin.ext hj.symm
  simp only [ei, ej, hg, hu, zero_sub]
  rfl

/-! ## A slot's contents -/

section Slot
variable (c : Dev nD) (XW : Buf (Elt Ideal) (wM.view.loc (c : Thread nD τ)))

/-- A slot in which column block `b` has landed reads, as a matrix, that block of the weight. -/
theorem slot_cast (s : Fin 6) (b : Fin 86) (f) (off : Fin 3 → Nat) (e : off = slotOff s) (hh) :
    shapeCast S8192x512 (ringM.view.readAt (Elt Ideal) (Rect.unit (s := S6x8192x512) off S1x8192x512.size hh).toLoadRect (landed c XW s b f))
      shapeCasts_S1x8192x512_S8192x512 = (grp b).view.read (Elt Ideal) XW := by
  subst e
  have h1 : ∀ f' : Buf (Elt Ideal) ((rslot s).view.loc (c : Thread nD τ)),
      shapeCast S8192x512 (ringM.view.readAt (Elt Ideal) (Rect.unit (s := S6x8192x512) (slotOff s) S1x8192x512.size hh).toLoadRect f')
        shapeCasts_S1x8192x512_S8192x512 = (rslot s).view.read (Elt Ideal) f' := fun _ => rfl
  rw [h1]
  exact View.read_writes_whole (rslot s).view f _

/-- Element `(d, n)` of column block `b` is the weight's at column `512 b + n`. -/
theorem grp_apply (b : Fin 86) (d : Fin 8192) (n : Fin 512) (j : Fin 44032) (hj : j.val = 512 * b.val + n.val) :
    (grp b).view.read (Elt Ideal) XW (ix2 d n) = XW (ix2 d j) := by
  refine congrArg XW (show (grp b).view.emb (ix2 d n) = ix2 d j from funext fun a => Fin.ext ?_)
  fin_cases a
  · show 0 + 1 * d.val = d.val; omega
  · show 512 * b.val + 1 * n.val = j.val; omega
end Slot

/-! ## The two products -/

theorem pay3_apply (x : Vec Ideal S192x8192 .fp8e4m3) (w : Vec Ideal S1x8192x512 .fp8e4m3) (W : Vec Ideal S8192x512 .fp8e4m3)
    (hw : shapeCast S8192x512 w shapeCasts_S1x8192x512_S8192x512 = W) (i : Fin 192) (j : Fin 512) :
    k0_pay3 x w (ix2 i j) = ∑ d : Fin 8192, x (ix2 i d) * W (ix2 d j) := by
  unfold k0_pay3
  rw [hw]
  pointwise
theorem pay4_apply (x : Vec Ideal S192x8192 .fp8e4m3) (w : Vec Ideal S1x8192x512 .fp8e4m3) (W : Vec Ideal S8192x512 .fp8e4m3)
    (hw : shapeCast S8192x512 w shapeCasts_S1x8192x512_S8192x512 = W) (i : Fin 192) (j : Fin 512) :
    k0_pay4 x w (ix2 i j) = ∑ d : Fin 8192, x (ix2 i d) * W (ix2 d j) := by
  unfold k0_pay4
  rw [hw]
  pointwise

/-- A load of a box from a buffer that holds `x` reads `x` at the box's place. -/
theorem load_rep {s : Shape} {e : EltTy} (M : Memref sig .tc .vmem s e) (x : s.Idx → Elt Ideal e) (off size : Fin s.rank → Nat) (inb)
    (i : (Rect.unit (s := s) off size inb).shape.Idx) (j : s.Idx) (hj : ∀ a, (j a).val = off a + (i a).val) :
    M.view.readAt (Elt Ideal) (Rect.unit (s := s) off size inb).toLoadRect (M.view.rep x) i = x j := by
  rw [View.readAt_apply, View.read_rep]
  exact congrArg x (funext fun a => Fin.ext ((Rect.idx_unit_val off size inb i a).trans (hj a).symm))

variable (m : (ℓ : Loc nD τ sig) → Buf (Elt Ideal) ℓ)

/-! ## The input blocks -/

/-- Every window's block index at the one point. -/
theorem kidx : ∀ t : Fin cfg0.N, win0_0.index t = ![0, 0] ∧ win0_1.index t = ![0, 0] ∧ win0_2.index t = ![0, 0] ∧ win0_3.index t = ![0, 0] :=
  (by decide +kernel : ∀ t : Fin grid0.N, _)

theorem kblk0 (c : Dev nD) (a : Fin 192) (b : Fin 8192) : iblk m c 0 t0_0 (ix2 a b) = m ((c : Thread nD τ).loc main_arg0) (ix2 a b) := by
  blk_ext! [iblk, V, kidx t0_0]
theorem kblk1 (c : Dev nD) (a : Fin 192) (b : Fin 128) : iblk m c 1 t0_0 (ix2 a b) = m ((c : Thread nD τ).loc main_arg1) (ix1 a) := by
  blk_ext! [iblk, V, kidx t0_0]
theorem kblk2 (c : Dev nD) (a : Fin 344) (b : Fin 128) (j : Fin 44032) (hj : j.val = a.val * 128 + b.val) :
    iblk m c 2 t0_0 (ix2 a b) = m ((c : Thread nD τ).loc main_arg3) (ix1 j) := by
  blk_ext! [iblk, V, kidx t0_0]

/-- Row `i` of the left operand as loaded. -/
theorem left_apply (c : Dev nD) (i : Fin 192) (d : Fin 8192) :
    hV c (st0 t0_0) (in0 m c t0_0) (ix2 i d) = m ((c : Thread nD τ).loc main_arg0) (ix2 i d) :=
  (load_rep (st0 t0_0) _ _ _ _ _ (ix2 i d) fun a => by
    fin_cases a
    · show i.val = 0 + i.val; omega
    · show d.val = 0 + d.val; omega).trans (kblk0 m c i d)
/-- The row scale of row block `b`'s row `s`, in every lane. -/
theorem rows_apply (c : Dev nD) (b : Fin 3) (s : Fin 64) (l : Fin 128) (t : Fin 192) (ht : t.val = 64 * b.val + s.val) :
    (st1 t0_0).view.readAt (Elt Ideal) (Rect.unit (s := S192x128) ![64 * b.val, 0] S64x128.size (rs_inb b)).toLoadRect (in1 m c t0_0) (ix2 s l)
      = m ((c : Thread nD τ).loc main_arg1) (ix1 t) :=
  (load_rep (st1 t0_0) _ _ _ _ _ (ix2 t l) fun a => by
    fin_cases a
    · exact ht
    · show l.val = 0 + l.val; omega).trans (kblk1 m c t l)
/-- The column scales of a lane group: row `q` of the scales' layout by 128 lanes. -/
theorem cols_apply (c : Dev nD) (off : Fin 2 → Nat) (inb) (q : Fin 344) (e : off = ![q.val, 0]) (l : Fin 128) (n : Fin 44032)
    (hn : n.val = q.val * 128 + l.val) :
    (st2 t0_0).view.readAt (Elt Ideal) (Rect.unit (s := S344x128) off S1x128.size inb).toLoadRect (in2 m c t0_0) (ix2 0 l)
      = m ((c : Thread nD τ).loc main_arg3) (ix1 n) :=
  (load_rep (st2 t0_0) _ _ _ _ _ (ix2 q l) fun a => by
    subst e
    fin_cases a
    · show q.val = q.val + 0; omega
    · show l.val = 0 + l.val; omega).trans (kblk2 m c q l n hn)

/-- What the body leaves in the result's block. -/
theorem outAt_apply (c : Dev nD) (y : S33024x128.Idx) : outAt m c t0_0 y
    = grouped (m ((c : Thread nD τ).loc main_arg0)) (m ((c : Thread nD τ).loc main_arg1))
        (m ((c : Thread nD τ).loc main_arg2)) (m ((c : Thread nD τ).loc main_arg3)) y := by
  have hR : (y 0).val < 33024 := (y 0).isLt
  have hL : (y 1).val < 128 := (y 1).isLt
  have hk : (outTrip y).val = (y 0).val / 768 := rfl
  have hk' : (outTrip y).val < 43 := by omega
  have hr : (outGroup y).val = (y 0).val % 768 / 192 := rfl
  have hb : (outBlock y).val = (y 0).val % 192 / 64 := rfl
  have hs : (outRow y).val = (y 0).val % 64 := rfl
  have hl : (outLane y).val = (y 1).val := rfl
  have hA : (gA (outTrip y).val).val = (outTrip y).val := gA_val ⟨_, hk'⟩
  have hB : (gB (outTrip y).val).val = 43 + (outTrip y).val := gB_val ⟨_, hk'⟩
  have ht : (y 0).val % 192 = 64 * (outBlock y).val + (outRow y).val := by omega
  unfold outAt outVal tileAt grouped act
  refine tile_apply _ _ _ _ _ _ _ _ _ ⟨(y 0).val % 192, by omega⟩ ⟨128 * (outGroup y).val + (y 1).val, by omega⟩ ht rfl _ _ ?_ ?_
  · unfold proj
    refine congrArg₂ (· * ·) (congrArg₂ (· * ·) ?_ (rows_apply m c _ _ _ _ ht)) ?_
    · rw [pay3_apply _ _ _ (slot_cast c (XWof m c) _ _ _ _ (off14_sA (outTrip y)) _)]
      refine Finset.sum_congr rfl fun d _ => congrArg₂ (· * ·) (left_apply m c _ d) (grp_apply c (XWof m c) _ d _ _ ?_)
      show (y 0).val / 192 * 128 + (y 1).val = 512 * (gA (outTrip y).val).val + (128 * (outGroup y).val + (y 1).val)
      omega
    · refine cols_apply m c _ _ ⟨4 * (outTrip y).val + (outGroup y).val, by omega⟩ (k0_off16_eq (outTrip y) (outGroup y)) _ _ ?_
      show (y 0).val / 192 * 128 + (y 1).val = (4 * (outTrip y).val + (outGroup y).val) * 128 + (y 1).val
      omega
  · unfold proj
    refine congrArg₂ (· * ·) (congrArg₂ (· * ·) ?_ (rows_apply m c _ _ _ _ ht)) ?_
    · rw [pay4_apply _ _ _ (slot_cast c (XWof m c) _ _ _ _ (off15_sB (outTrip y)) _)]
      refine Finset.sum_congr rfl fun d _ => congrArg₂ (· * ·) (left_apply m c _ d) (grp_apply c (XWof m c) _ d _ _ ?_)
      show 22016 + ((y 0).val / 192 * 128 + (y 1).val) = 512 * (gB (outTrip y).val).val + (128 * (outGroup y).val + (y 1).val)
      omega
    · refine cols_apply m c _ _ ⟨4 * (outTrip y).val + (outGroup y).val + 172, by omega⟩ (k0_off17_eq (outTrip y) (outGroup y)) _ _ ?_
      show 22016 + ((y 0).val / 192 * 128 + (y 1).val) = (4 * (outTrip y).val + (outGroup y).val + 172) * 128 + (y 1).val
      omega

/-- The kernel's result array after the run. -/
theorem kernel_final (c : Dev nD) : finalA m c 3
    = grouped (m ((c : Thread nD τ).loc main_arg0)) (m ((c : Thread nD τ).loc main_arg1))
        (m ((c : Thread nD τ).loc main_arg2)) (m ((c : Thread nD τ).loc main_arg3)) := by
  unfold finalA
  refine (dats m 0 c).arrAt_eq_of_after_last 3 t0_0 (by decide +kernel) _ fun j => ?_
  blk_simp
  rw [after_w3]
  exact outAt_apply m c j

end Cert.Proof.GateUpIdeal

end
-- ==== Proof.GateUpIdeal.ReferenceValue.lean ====
/-
  What the reference's result array holds: the grouped activations of its arguments.
-/
module

public import proofs.«01_k».proof.Proof.GateUpIdeal.Spec
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.Proof.GateUpIdeal

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- Every window's block index at the one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The four input blocks at the one point are the arguments. -/
theorem blk0 (c : Dev nD) (a : Fin 192) (b : Fin 8192) : iblk m c 0 t0_0 (ix2 a b) = m ((c : Thread nD τ).loc main_arg0) (ix2 a b) := by
  blk_ext! [iblk, V, idx t0_0]
theorem blk1 (c : Dev nD) (a : Fin 192) (b : Fin 1) : iblk m c 1 t0_0 (ix2 a b) = m ((c : Thread nD τ).loc main_arg1) (ix1 a) := by
  blk_ext! [iblk, V, idx t0_0]
theorem blk2 (c : Dev nD) (a : Fin 8192) (b : Fin 44032) : iblk m c 2 t0_0 (ix2 a b) = m ((c : Thread nD τ).loc main_arg2) (ix2 a b) := by
  blk_ext! [iblk, V, idx t0_0]
theorem blk3 (c : Dev nD) (a : Fin 1) (b : Fin 44032) : iblk m c 3 t0_0 (ix2 a b) = m ((c : Thread nD τ).loc main_arg3) (ix1 b) := by
  blk_ext! [iblk, V, idx t0_0]

/-- The reference's result array after the run. -/
theorem reference_final (c : Dev nD) : (dats m 0 c).arrAt 4 cfg0.N
    = grouped (m ((c : Thread nD τ).loc main_arg0)) (m ((c : Thread nD τ).loc main_arg1))
        (m ((c : Thread nD τ).loc main_arg2)) (m ((c : Thread nD τ).loc main_arg3)) := by
  refine (dats m 0 c).arrAt_eq_of_after_last 4 t0_0 (by decide +kernel) _ fun j => ?_
  blk_simp
  rw [after0_4]
  unfold out0_4
  frame_out
  unfold k0_pay1
  pointwise
  unfold grouped act proj
  simp only [blk0, blk1, blk2, blk3]

end Cert.Proof.GateUpIdeal

end
-- ==== Proof.MlpDownIdeal.Names.lean ====
/-
  The down kernel's names. The kernel streams the weight (22016 rows, 8192 columns) through a ring of six slots: trip `t`
  of its 16 uses column block `t` (512 columns) in three parts, of 7424, 7424 and 7168 rows, in slots `3t + 2`, `3t + 3`
  and `3t + 4` modulo six, each slot with a DMA semaphore of its own. Here: the parts, the slots and the semaphores under
  one name each, the offsets the kernel computes for them in closed form, and the pieces the proof moves about: a part
  of the weight held, a slot held, a slot with a transfer under way.
-/
module

public import proofs.«01_k».proof.Defs
public import proofs.«01_k».proof.Proof.Gen.DownIdeal.Launch
public import proofs.«01_k».proof.Proof.Gen.DownIdeal.Skeleton
public import proofs.«01_k».proof.Proof.Gen.DownIdeal.Loops
public import proofs.«01_k».proof.Proof.Gen.DownIdeal.Points
public import proofs.«01_k».proof.Proof.Gen.DownIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.MlpDownIdeal

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Parts of the weight, slots, semaphores -/

abbrev wM : Memref sig .tc .hbm S22016x8192 .fp8e4m3 := Memref.whole main_arg3
abbrev ringM : Memref sig .tc .vmem S6x8192x512 .fp8e4m3 := Memref.whole cc0_scratch0
abbrev ssqM : Memref sig .tc .vmem S192x128 .f32 := Memref.whole cc0_scratch1

abbrev grpOff (q : Fin 2) (b : Fin 16) : Fin 2 → Nat := ![7424 * q.val, 512 * b.val]
theorem grpOff_inb (q : Fin 2) (b : Fin 16) : ∀ a, grpOff q b a + S7424x512.size a ≤ S22016x8192.size a := by
  have := b.isLt; have := q.isLt; intro a; fin_cases a
  · show 7424 * q.val + 7424 ≤ 22016; omega
  · show 512 * b.val + 512 ≤ 8192; omega
abbrev grpOffC (b : Fin 16) : Fin 2 → Nat := ![14848, 512 * b.val]
theorem grpOffC_inb (b : Fin 16) : ∀ a, grpOffC b a + S7168x512.size a ≤ S22016x8192.size a := by
  have := b.isLt; intro a; fin_cases a
  · show 14848 + 7168 ≤ 22016; omega
  · show 512 * b.val + 512 ≤ 8192; omega
abbrev slotOff (s : Fin 6) : Fin 3 → Nat := ![s.val, 0, 0]
theorem slotOff_inb (s : Fin 6) : ∀ a, slotOff s a + S1x7424x512.size a ≤ S6x8192x512.size a := by
  have := s.isLt; intro a; fin_cases a
  · show s.val + 1 ≤ 6; omega
  · show 0 + 7424 ≤ 8192; omega
  · show 0 + 512 ≤ 512; omega
theorem slotOffC_inb (s : Fin 6) : ∀ a, slotOff s a + S1x7168x512.size a ≤ S6x8192x512.size a := by
  have := s.isLt; intro a; fin_cases a
  · show s.val + 1 ≤ 6; omega
  · show 0 + 7168 ≤ 8192; omega
  · show 0 + 512 ≤ 512; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- The first or second part of column block `b` of the weight; -/
def grp (q : Fin 2) (b : Fin 16) : Memref sig .tc .hbm S7424x512 .fp8e4m3 :=
  wM.slice (Rect.unit (s := S22016x8192) (grpOff q b) S7424x512.size (grpOff_inb q b)) (fun _ => rfl)
/-- its third. -/
def grpC (b : Fin 16) : Memref sig .tc .hbm S7168x512 .fp8e4m3 :=
  wM.slice (Rect.unit (s := S22016x8192) (grpOffC b) S7168x512.size (grpOffC_inb b)) (fun _ => rfl)
/-- The first 7424 rows of slot `s` of the ring; -/
def rslot (s : Fin 6) : Memref sig .tc .vmem S7424x512 .fp8e4m3 :=
  (ringM.slice (Rect.unit (s := S6x8192x512) (slotOff s) S1x7424x512.size (slotOff_inb s)) (fun _ => rfl)).squeeze S7424x512 squeezes_S1x7424x512_S7424x512
/-- its first 7168. -/
def rslotC (s : Fin 6) : Memref sig .tc .vmem S7168x512 .fp8e4m3 :=
  (ringM.slice (Rect.unit (s := S6x8192x512) (slotOff s) S1x7168x512.size (slotOffC_inb s)) (fun _ => rfl)).squeeze S7168x512 squeezes_S1x7168x512_S7168x512
/-- Slot `s`'s DMA semaphore. -/
def csm (s : Fin 6) : DmaSems sig S_ := (cc0_scratch2.slice (Rect.unit (s := S6) (semOff s) S1.size (semOff_inb s))).squeeze S_ squeezes_S1_S_

instance (s : Fin 6) : ClosedOff (slotOff s) := ⟨slotOff s, rfl⟩
instance (q : Fin 2) (b : Fin 16) : ClosedOff (grpOff q b) := ⟨grpOff q b, rfl⟩
instance (b : Fin 16) : ClosedOff (grpOffC b) := ⟨grpOffC b, rfl⟩

/-- Trip `t`'s three slots. -/
abbrev sA (t : ℕ) : Fin 6 := Ring.sl 6 (3 * t + 2)
abbrev sB (t : ℕ) : Fin 6 := Ring.sl 6 (3 * t + 3)
abbrev sC (t : ℕ) : Fin 6 := Ring.sl 6 (3 * t + 4)
/-- Trip `t`'s column block. -/
abbrev cb (t : ℕ) : Fin 16 := Ring.bk 16 t

/-! ## The computed offsets in closed form -/

theorem off3_sA (k : Fin k0_t1_loop.trips) : k0_off3 k = semOff (sA (k.val + 1)) := by
  rw [k0_off3_eq, semOff]; simp only [sA, Ring.sl, Fin.ofNat]; congr 1; omega
theorem off4_sA (k : Fin k0_t1_loop.trips) : k0_off4 k = slotOff (sA (k.val + 1)) := by
  rw [k0_off4_eq, slotOff]; simp only [sA, Ring.sl, Fin.ofNat]; congr 1; omega
theorem off9_sB (k : Fin k0_t1_loop.trips) : k0_off9 k = semOff (sB (k.val + 1)) := by
  rw [k0_off9_eq, semOff]; simp only [sB, Ring.sl, Fin.ofNat]; congr 1; omega
theorem off10_sB (k : Fin k0_t1_loop.trips) : k0_off10 k = slotOff (sB (k.val + 1)) := by
  rw [k0_off10_eq, slotOff]; simp only [sB, Ring.sl, Fin.ofNat]; congr 1; omega
theorem off18_sC (k : Fin k0_t1_loop.trips) : k0_off18 k = semOff (sC (k.val + 1)) := by
  rw [k0_off18_eq, semOff]; simp only [sC, Ring.sl, Fin.ofNat]; congr 1; omega
theorem off19_sC (k : Fin k0_t1_loop.trips) : k0_off19 k = slotOff (sC (k.val + 1)) := by
  rw [k0_off19_eq, slotOff]; simp only [sC, Ring.sl, Fin.ofNat]; congr 1; omega
theorem off25_sC (k : Fin k0_t1_loop.trips) : k0_off25 k = slotOff (sC k.val) := by
  rw [k0_off25_eq, slotOff]; simp only [sC, Ring.sl, Fin.ofNat]; congr 1; omega
theorem off27_sC (k : Fin k0_t1_loop.trips) : k0_off27 k = slotOff (sC k.val) := by
  rw [k0_off27_eq, slotOff]; simp only [sC, Ring.sl, Fin.ofNat]; congr 1; omega
theorem off21_sA (k : Fin k0_t1_loop.trips) : k0_off21 k 0#32 = semOff (sA k.val) := by
  rw [show (0#32 : BitVec 32) = BitVec.ofNat 32 (0 : Fin 3).val from rfl, k0_off21_eq, semOff]; simp only [sA, Ring.sl, Fin.ofNat]; congr 1; simp; omega
theorem off21_sB (k : Fin k0_t1_loop.trips) : k0_off21 k 1#32 = semOff (sB k.val) := by
  rw [show (1#32 : BitVec 32) = BitVec.ofNat 32 (1 : Fin 3).val from rfl, k0_off21_eq, semOff]; simp only [sB, Ring.sl, Fin.ofNat]; congr 1; simp; omega
theorem off21_sC (k : Fin k0_t1_loop.trips) : k0_off21 k 2#32 = semOff (sC k.val) := by
  rw [show (2#32 : BitVec 32) = BitVec.ofNat 32 (2 : Fin 3).val from rfl, k0_off21_eq, semOff]; simp only [sC, Ring.sl, Fin.ofNat]; congr 1; simp; omega
theorem off22_sA (k : Fin k0_t1_loop.trips) : k0_off22 k 0#32 = slotOff (sA k.val) := by
  rw [show (0#32 : BitVec 32) = BitVec.ofNat 32 (0 : Fin 2).val from rfl, k0_off22_eq, slotOff]; simp only [sA, Ring.sl, Fin.ofNat]; congr 1; simp; omega
theorem off22_sB (k : Fin k0_t1_loop.trips) : k0_off22 k 1#32 = slotOff (sB k.val) := by
  rw [show (1#32 : BitVec 32) = BitVec.ofNat 32 (1 : Fin 2).val from rfl, k0_off22_eq, slotOff]; simp only [sB, Ring.sl, Fin.ofNat]; congr 1; simp; omega
theorem off24_sA (k : Fin k0_t1_loop.trips) : k0_off24 k 0#32 = slotOff (sA k.val) := by
  rw [show (0#32 : BitVec 32) = BitVec.ofNat 32 (0 : Fin 2).val from rfl, k0_off24_eq, slotOff]; simp only [sA, Ring.sl, Fin.ofNat]; congr 1; simp; omega
theorem off24_sB (k : Fin k0_t1_loop.trips) : k0_off24 k 1#32 = slotOff (sB k.val) := by
  rw [show (1#32 : BitVec 32) = BitVec.ofNat 32 (1 : Fin 2).val from rfl, k0_off24_eq, slotOff]; simp only [sB, Ring.sl, Fin.ofNat]; congr 1; simp; omega

theorem off5_cb : ∀ k : Fin k0_t1_loop.trips, k.val ≤ 14 → k0_off5 k = grpOff 0 (cb (k.val + 1)) := by decide +kernel
theorem off11_cb : ∀ k : Fin k0_t1_loop.trips, k.val ≤ 14 → k0_off11 k = grpOff 1 (cb (k.val + 1)) := by decide +kernel
theorem off20_cb : ∀ k : Fin k0_t1_loop.trips, k.val ≤ 14 → k0_off20 k = grpOffC (cb (k.val + 1)) := by decide +kernel
theorem off23_cbA : ∀ k : Fin k0_t1_loop.trips, k0_off23 k 0#32 = grpOff 0 (cb k.val) := by decide +kernel
theorem off23_cbB : ∀ k : Fin k0_t1_loop.trips, k0_off23 k 1#32 = grpOff 1 (cb k.val) := by decide +kernel
theorem off26_cb : ∀ k : Fin k0_t1_loop.trips, k0_off26 k = grpOffC (cb k.val) := by decide +kernel

theorem trips_eq : k0_t1_loop.trips = 16 := by decide +kernel
theorem cond1_zero : ∀ k : Fin k0_t1_loop.trips, k.val = 0 → ¬ k0_cond1 k = 1#1 := by decide +kernel
theorem cond1_pos : ∀ k : Fin k0_t1_loop.trips, k.val ≠ 0 → k0_cond1 k = 1#1 := by decide +kernel
theorem cond_low : ∀ k : Fin k0_t1_loop.trips, k.val ≤ 14 → k0_cond2 k = 1#1 ∧ k0_cond4 k = 1#1 ∧ k0_cond7 k = 1#1 := by decide +kernel
theorem cond_high : ∀ k : Fin k0_t1_loop.trips, 14 < k.val → ¬ k0_cond2 k = 1#1 ∧ ¬ k0_cond4 k = 1#1 ∧ ¬ k0_cond7 k = 1#1 := by decide +kernel
theorem cond_never : ∀ k : Fin k0_t1_loop.trips, ¬ k0_cond3 k = 1#1 ∧ ¬ k0_cond5 k = 1#1 ∧ ¬ k0_cond6 k = 1#1 := by decide +kernel
theorem cond_last : ¬ k0_cond8 = 1#1 ∧ ¬ k0_cond9 = 1#1 ∧ ¬ k0_cond10 = 1#1 ∧ ¬ k0_cond11 = 1#1 ∧ ¬ k0_cond12 = 1#1 ∧ ¬ k0_cond13 = 1#1 := by decide +kernel

/-- The loop's windows of the ring, at trip `k`. -/
instance (priority := high) closedA (k : Fin k0_t1_loop.trips) : ClosedOff (k0_off24 k 0#32) := ⟨slotOff (sA k.val), off24_sA k⟩
instance (priority := high) closedB (k : Fin k0_t1_loop.trips) : ClosedOff (k0_off24 k 1#32) := ⟨slotOff (sB k.val), off24_sB k⟩
instance (priority := high) closedC (k : Fin k0_t1_loop.trips) : ClosedOff (k0_off27 k) := ⟨slotOff (sC k.val), off27_sC k⟩

/-! ## The kernel's slices are these names -/

theorem csm_congr {off : Fin 1 → Nat} {s : Fin 6} (e : off = semOff s) (hh) :
    (cc0_scratch2.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (ringM.slice (Rect.unit (s := S6x8192x512) off S1x7424x512.size hh) hs).squeeze S7424x512 squeezes_S1x7424x512_S7424x512 = rslot s :=
  congrArg (fun M : Memref sig .tc .vmem S1x7424x512 .fp8e4m3 => M.squeeze S7424x512 squeezes_S1x7424x512_S7424x512) (Memref.slice_unit_congr _ e _ _ _ _)
theorem rslotC_congr {off : Fin 3 → Nat} {s : Fin 6} (e : off = slotOff s) (hh hs) :
    (ringM.slice (Rect.unit (s := S6x8192x512) off S1x7168x512.size hh) hs).squeeze S7168x512 squeezes_S1x7168x512_S7168x512 = rslotC s :=
  congrArg (fun M : Memref sig .tc .vmem S1x7168x512 .fp8e4m3 => M.squeeze S7168x512 squeezes_S1x7168x512_S7168x512) (Memref.slice_unit_congr _ e _ _ _ _)
theorem grp_congr {off : Fin 2 → Nat} {q : Fin 2} {b : Fin 16} (e : off = grpOff q b) (hh hs) :
    wM.slice (Rect.unit (s := S22016x8192) off S7424x512.size hh) hs = grp q b :=
  Memref.slice_unit_congr _ e _ _ _ (fun _ => rfl)
theorem grpC_congr {off : Fin 2 → Nat} {b : Fin 16} (e : off = grpOffC b) (hh hs) :
    wM.slice (Rect.unit (s := S22016x8192) off S7168x512.size hh) hs = grpC b :=
  Memref.slice_unit_congr _ e _ _ _ (fun _ => rfl)

section Canon
variable (k : Fin k0_t1_loop.trips)

@[sl_canon] theorem semL0 (hh) : (cc0_scratch2.slice (Rect.unit (s := S6) ![0] S1.size hh)).squeeze S_ squeezes_S1_S_ = csm 0 := csm_congr (by decide) _
@[sl_canon] theorem semL1 (hh) : (cc0_scratch2.slice (Rect.unit (s := S6) ![1] S1.size hh)).squeeze S_ squeezes_S1_S_ = csm 1 := csm_congr (by decide) _
@[sl_canon] theorem semL2 (hh) : (cc0_scratch2.slice (Rect.unit (s := S6) ![2] S1.size hh)).squeeze S_ squeezes_S1_S_ = csm 2 := csm_congr (by decide) _
@[sl_canon] theorem semL3 (hh) : (cc0_scratch2.slice (Rect.unit (s := S6) ![3] S1.size hh)).squeeze S_ squeezes_S1_S_ = csm 3 := csm_congr (by decide) _
@[sl_canon] theorem semL4 (hh) : (cc0_scratch2.slice (Rect.unit (s := S6) ![4] S1.size hh)).squeeze S_ squeezes_S1_S_ = csm 4 := csm_congr (by decide) _
@[sl_canon] theorem semL5 (hh) : (cc0_scratch2.slice (Rect.unit (s := S6) ![5] S1.size hh)).squeeze S_ squeezes_S1_S_ = csm 5 := csm_congr (by decide) _
@[sl_canon] theorem slotL2 (hh hs) : (ringM.slice (Rect.unit (s := S6x8192x512) ![2, 0, 0] S1x7424x512.size hh) hs).squeeze S7424x512 squeezes_S1x7424x512_S7424x512 = rslot 2 := rslot_congr (by decide) _ _
@[sl_canon] theorem slotL3 (hh hs) : (ringM.slice (Rect.unit (s := S6x8192x512) ![3, 0, 0] S1x7424x512.size hh) hs).squeeze S7424x512 squeezes_S1x7424x512_S7424x512 = rslot 3 := rslot_congr (by decide) _ _
@[sl_canon] theorem slotL5 (hh hs) : (ringM.slice (Rect.unit (s := S6x8192x512) ![5, 0, 0] S1x7424x512.size hh) hs).squeeze S7424x512 squeezes_S1x7424x512_S7424x512 = rslot 5 := rslot_congr (by decide) _ _
@[sl_canon] theorem slotL0 (hh hs) : (ringM.slice (Rect.unit (s := S6x8192x512) ![0, 0, 0] S1x7424x512.size hh) hs).squeeze S7424x512 squeezes_S1x7424x512_S7424x512 = rslot 0 := rslot_congr (by decide) _ _
@[sl_canon] theorem slotL1 (hh hs) : (ringM.slice (Rect.unit (s := S6x8192x512) ![1, 0, 0] S1x7168x512.size hh) hs).squeeze S7168x512 squeezes_S1x7168x512_S7168x512 = rslotC 1 := rslotC_congr (by decide) _ _
@[sl_canon] theorem slotL4 (hh hs) : (ringM.slice (Rect.unit (s := S6x8192x512) ![4, 0, 0] S1x7168x512.size hh) hs).squeeze S7168x512 squeezes_S1x7168x512_S7168x512 = rslotC 4 := rslotC_congr (by decide) _ _
@[sl_canon] theorem grpL0 (hh hs) : wM.slice (Rect.unit (s := S22016x8192) (k0_off1 0#32 0#32) S7424x512.size hh) hs = grp 0 0 := grp_congr (by decide +kernel) _ _
@[sl_canon] theorem grpL1 (hh hs) : wM.slice (Rect.unit (s := S22016x8192) (k0_off1 1#32 1#32) S7424x512.size hh) hs = grp 1 0 := grp_congr (by decide +kernel) _ _
@[sl_canon] theorem grpL3 (hh hs) : wM.slice (Rect.unit (s := S22016x8192) (k0_off1 3#32 3#32) S7424x512.size hh) hs = grp 0 1 := grp_congr (by decide +kernel) _ _
@[sl_canon] theorem grpL4 (hh hs) : wM.slice (Rect.unit (s := S22016x8192) (k0_off1 4#32 4#32) S7424x512.size hh) hs = grp 1 1 := grp_congr (by decide +kernel) _ _
@[sl_canon] theorem grpL2 (hh hs) : wM.slice (Rect.unit (s := S22016x8192) (k0_off2 2#32 2#32) S7168x512.size hh) hs = grpC 0 := grpC_congr (by decide +kernel) _ _
@[sl_canon] theorem grpL5 (hh hs) : wM.slice (Rect.unit (s := S22016x8192) (k0_off2 5#32 5#32) S7168x512.size hh) hs = grpC 1 := grpC_congr (by decide +kernel) _ _

@[sl_canon] theorem semIA (hh) : (cc0_scratch2.slice (Rect.unit (s := S6) (k0_off3 k) S1.size hh)).squeeze S_ squeezes_S1_S_ = csm (sA (k.val + 1)) := csm_congr (off3_sA k) _
@[sl_canon] theorem slotIA (hh hs) : (ringM.slice (Rect.unit (s := S6x8192x512) (k0_off4 k) S1x7424x512.size hh) hs).squeeze S7424x512 squeezes_S1x7424x512_S7424x512 = rslot (sA (k.val + 1)) := rslot_congr (off4_sA k) _ _
@[sl_canon] theorem grpIA (hk : k.val ≤ 14) (hh hs) : wM.slice (Rect.unit (s := S22016x8192) (k0_off5 k) S7424x512.size hh) hs = grp 0 (cb (k.val + 1)) := grp_congr (off5_cb k hk) _ _
@[sl_canon] theorem semIB (hh) : (cc0_scratch2.slice (Rect.unit (s := S6) (k0_off9 k) S1.size hh)).squeeze S_ squeezes_S1_S_ = csm (sB (k.val + 1)) := csm_congr (off9_sB k) _
@[sl_canon] theorem slotIB (hh hs) : (ringM.slice (Rect.unit (s := S6x8192x512) (k0_off10 k) S1x7424x512.size hh) hs).squeeze S7424x512 squeezes_S1x7424x512_S7424x512 = rslot (sB (k.val + 1)) := rslot_congr (off10_sB k) _ _
@[sl_canon] theorem grpIB (hk : k.val ≤ 14) (hh hs) : wM.slice (Rect.unit (s := S22016x8192) (k0_off11 k) S7424x512.size hh) hs = grp 1 (cb (k.val + 1)) := grp_congr (off11_cb k hk) _ _
@[sl_canon] theorem semIC (hh) : (cc0_scratch2.slice (Rect.unit (s := S6) (k0_off18 k) S1.size hh)).squeeze S_ squeezes_S1_S_ = csm (sC (k.val + 1)) := csm_congr (off18_sC k) _
@[sl_canon] theorem slotIC (hh hs) : (ringM.slice (Rect.unit (s := S6x8192x512) (k0_off19 k) S1x7168x512.size hh) hs).squeeze S7168x512 squeezes_S1x7168x512_S7168x512 = rslotC (sC (k.val + 1)) := rslotC_congr (off19_sC k) _ _
@[sl_canon] theorem grpIC (hk : k.val ≤ 14) (hh hs) : wM.slice (Rect.unit (s := S22016x8192) (k0_off20 k) S7168x512.size hh) hs = grpC (cb (k.val + 1)) := grpC_congr (off20_cb k hk) _ _
@[sl_canon] theorem semWA (hh) : (cc0_scratch2.slice (Rect.unit (s := S6) (k0_off21 k 0#32) S1.size hh)).squeeze S_ squeezes_S1_S_ = csm (sA k.val) := csm_congr (off21_sA k) _
@[sl_canon] theorem slotWA (hh hs) : (ringM.slice (Rect.unit (s := S6x8192x512) (k0_off22 k 0#32) S1x7424x512.size hh) hs).squeeze S7424x512 squeezes_S1x7424x512_S7424x512 = rslot (sA k.val) := rslot_congr (off22_sA k) _ _
@[sl_canon] theorem grpWA (hh hs) : wM.slice (Rect.unit (s := S22016x8192) (k0_off23 k 0#32) S7424x512.size hh) hs = grp 0 (cb k.val) := grp_congr (off23_cbA k) _ _
@[sl_canon] theorem semWB (hh) : (cc0_scratch2.slice (Rect.unit (s := S6) (k0_off21 k 1#32) S1.size hh)).squeeze S_ squeezes_S1_S_ = csm (sB k.val) := csm_congr (off21_sB k) _
@[sl_canon] theorem slotWB (hh hs) : (ringM.slice (Rect.unit (s := S6x8192x512) (k0_off22 k 1#32) S1x7424x512.size hh) hs).squeeze S7424x512 squeezes_S1x7424x512_S7424x512 = rslot (sB k.val) := rslot_congr (off22_sB k) _ _
@[sl_canon] theorem grpWB (hh hs) : wM.slice (Rect.unit (s := S22016x8192) (k0_off23 k 1#32) S7424x512.size hh) hs = grp 1 (cb k.val) := grp_congr (off23_cbB k) _ _
@[sl_canon] theorem semWC (hh) : (cc0_scratch2.slice (Rect.unit (s := S6) (k0_off21 k 2#32) S1.size hh)).squeeze S_ squeezes_S1_S_ = csm (sC k.val) := csm_congr (off21_sC k) _
@[sl_canon] theorem slotWC (hh hs) : (ringM.slice (Rect.unit (s := S6x8192x512) (k0_off25 k) S1x7168x512.size hh) hs).squeeze S7168x512 squeezes_S1x7168x512_S7168x512 = rslotC (sC k.val) := rslotC_congr (off25_sC k) _ _
@[sl_canon] theorem grpWC (hh hs) : wM.slice (Rect.unit (s := S22016x8192) (k0_off26 k) S7168x512.size hh) hs = grpC (cb k.val) := grpC_congr (off26_cb k) _ _

end Canon

/-! ## The pieces -/

section Pieces
variable (c : Dev nD) (XW : Buf (Elt F) (wM.view.loc (c : Thread nD τ)))

/-- Slot `s`'s semaphore at zero. -/
abbrev cellP (s : Fin 6) : sProp 𝕄 := semVal ((c : Thread nD τ), SemLoc.dma (csm s).sem) 0
/-- Slot `s` held at contents `f`, as far as a long part reaches; -/
abbrev slotP (s : Fin 6) (f : Buf (Elt F) ((rslot s).view.loc (c : Thread nD τ))) : sProp 𝕄 :=
  (rslot s).view.loc (c : Thread nD τ) ↦[(rslot s).view.set]{fullShare} f
/-- as far as a short one does. -/
abbrev slotCP (s : Fin 6) (f : Buf (Elt F) ((rslotC s).view.loc (c : Thread nD τ))) : sProp 𝕄 :=
  (rslotC s).view.loc (c : Thread nD τ) ↦[(rslotC s).view.set]{fullShare} f
/-- Part `q` of column block `b` held, at the weight's contents. -/
abbrev homeP (q : Fin 2) (b : Fin 16) : sProp 𝕄 := (grp q b).view.loc (c : Thread nD τ) ↦[(grp q b).view.set]{fullShare} XW
abbrev homeCP (b : Fin 16) : sProp 𝕄 := (grpC b).view.loc (c : Thread nD τ) ↦[(grpC b).view.set]{fullShare} XW
/-- What a part's transfer leaves in slot `s`. -/
abbrev landed (s : Fin 6) (q : Fin 2) (b : Fin 16) (f : Buf (Elt F) ((rslot s).view.loc (c : Thread nD τ))) : Buf (Elt F) ((rslot s).view.loc (c : Thread nD τ)) :=
  (rslot s).view.writes (Elt F) f [⟨Rect.whole S7424x512, ReadAs.same.apply ((grp q b).view.read (Elt F) XW)⟩]
abbrev landedC (s : Fin 6) (b : Fin 16) (f : Buf (Elt F) ((rslotC s).view.loc (c : Thread nD τ))) : Buf (Elt F) ((rslotC s).view.loc (c : Thread nD τ)) :=
  (rslotC s).view.writes (Elt F) f [⟨Rect.whole S7168x512, ReadAs.same.apply ((grpC b).view.read (Elt F) XW)⟩]
/-- Slot `s` with a part's transfer under way, issued over contents `f`. -/
abbrev flightP (s : Fin 6) (q : Fin 2) (b : Fin 16) (f : Buf (Elt F) ((rslot s).view.loc (c : Thread nD τ))) : sProp 𝕄 :=
  Transfers.Flight countersEmb (c : Thread nD τ) (SemLoc.dma (csm s).sem) () 118784 iprop(slotP c s (landed c XW s q b f) ∗ homeP c XW q b)
abbrev flightCP (s : Fin 6) (b : Fin 16) (f : Buf (Elt F) ((rslotC s).view.loc (c : Thread nD τ))) : sProp 𝕄 :=
  Transfers.Flight countersEmb (c : Thread nD τ) (SemLoc.dma (csm s).sem) () 114688 iprop(slotCP c s (landedC c XW s b f) ∗ homeCP c XW b)

/-- Trip `t`'s three transfers under way. -/
abbrev goP (t : ℕ) : sProp 𝕄 :=
  iprop((∃ f, flightP c XW (sA t) 0 (cb t) f) ∗ (∃ f, flightP c XW (sB t) 1 (cb t) f) ∗ (∃ f, flightCP c XW (sC t) (cb t) f))
/-- Column block `b`'s three parts held. -/
abbrev tripleP (b : Fin 16) : sProp 𝕄 := iprop(homeP c XW 0 b ∗ homeP c XW 1 b ∗ homeCP c XW b)
/-- Trip `t`'s three slots held at anything, their semaphores at zero. -/
abbrev freeP (t : ℕ) : sProp 𝕄 :=
  iprop((∃ f, slotP (F := F) c (sA t) f) ∗ (∃ f, slotP (F := F) c (sB t) f) ∗ (∃ f, slotCP (F := F) c (sC t) f)
    ∗ cellP (F := F) c (sA t) ∗ cellP (F := F) c (sB t) ∗ cellP (F := F) c (sC t))

end Pieces

end Cert.Proof.MlpDownIdeal

end
-- ==== Proof.MlpDownIdeal.Trip.lean ====
module

public import proofs.«01_k».proof.Proof.MlpDownIdeal.Names

@[expose] public section

noncomputable section

namespace Cert.Proof.MlpDownIdeal

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (XW : Buf (Elt F) (wM.view.loc (c : Thread nD τ)))
  (arg0 : Memref sig .tc .vmem S192x22016 .fp8e4m3) (harg0 : arg0.IsWhole)
  (arg1 : Memref sig .tc .vmem S192x128 .f32) (harg1 : arg1.IsWhole)
  (arg2 : Memref sig .tc .vmem S64x128 .f32) (harg2 : arg2.IsWhole)
  (arg3 : Memref sig .tc .vmem S12288x128 .f32) (harg3 : arg3.IsWhole)
  (arg5 : Memref sig .tc .vmem S3x63x8192 .bf16) (harg5 : arg5.IsWhole)
  (arg7 : Memref sig .tc .vmem S192x128 .f32) (harg7 : arg7.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- The four staged inputs, held at their contents. -/
abbrev insP : sProp 𝕄 :=
  iprop((arg0.view.loc (c : Thread nD τ) ↦[arg0.view.set]{fullShare} x0)
    ∗ (arg1.view.loc (c : Thread nD τ) ↦[arg1.view.set]{fullShare} x1)
    ∗ (arg2.view.loc (c : Thread nD τ) ↦[arg2.view.set]{fullShare} x2)
    ∗ (arg3.view.loc (c : Thread nD τ) ↦[arg3.view.set]{fullShare} x3))
/-- The output block held at `fo`. -/
abbrev outP (fo : Buf (Elt F) (arg5.view.loc (c : Thread nD τ))) : sProp 𝕄 := arg5.view.loc (c : Thread nD τ) ↦[arg5.view.set]{fullShare} fo
/-- The running sums of squares held at anything. -/
abbrev ssqP : sProp 𝕄 := iprop(∃ f : Buf (Elt F) (arg7.view.loc (c : Thread nD τ)), arg7.view.loc (c : Thread nD τ) ↦[arg7.view.set]{fullShare} f)
abbrev owesP : sProp 𝕄 := iprop(∃ W, owes (c : Thread nD τ) 0 W)

abbrev tripG (k : Fin k0_t1_loop.trips) : Prog (TpuEff nD τ sig (Elt F) Λ₀ .tc) Unit :=
  k0_t1_body (F := F) arg0 harg0 arg1 harg1 arg2 harg2 arg3 harg3 wM (Memref.isWhole_whole _) arg5 harg5 ringM (Memref.isWhole_whole _) arg7 harg7 cc0_scratch2 0#32 1#32 k ()

/-! ## What a trip stores -/

/-- Trip `k`'s three parts of the weight as the matrix products read them from their slots. -/
abbrev wA (k : Fin k0_t1_loop.trips) : Vec F S1x7424x512 .fp8e4m3 :=
  ringM.view.readAt (Elt F) (Rect.unit (s := S6x8192x512) (k0_off24 k 0#32) S1x7424x512.size (k0_off24_inb k 0)).toLoadRect
    (landed c XW (sA k.val) 0 (cb k.val) (rslot (sA k.val)).view.junk)
abbrev wB (k : Fin k0_t1_loop.trips) : Vec F S1x7424x512 .fp8e4m3 :=
  ringM.view.readAt (Elt F) (Rect.unit (s := S6x8192x512) (k0_off24 k 1#32) S1x7424x512.size (k0_off24_inb k 1)).toLoadRect
    (landed c XW (sB k.val) 1 (cb k.val) (rslot (sB k.val)).view.junk)
abbrev wC (k : Fin k0_t1_loop.trips) : Vec F S1x7168x512 .fp8e4m3 :=
  ringM.view.readAt (Elt F) (Rect.unit (s := S6x8192x512) (k0_off27 k) S1x7168x512.size (k0_off27_inb k)).toLoadRect
    (landedC c XW (sC k.val) (cb k.val) (rslotC (sC k.val)).view.junk)
/-- The three column ranges of the left operand as loaded. -/
abbrev lA : Vec F S192x7424 .fp8e4m3 := arg0.view.readAt (Elt F) (Rect.unit (s := S192x22016) ![0, 0] S192x7424.size inb_S192x22016_S192x7424_0_0).toLoadRect x0
abbrev lB : Vec F S192x7424 .fp8e4m3 := arg0.view.readAt (Elt F) (Rect.unit (s := S192x22016) ![0, 7424] S192x7424.size inb_S192x22016_S192x7424_0_7424).toLoadRect x0
abbrev lC : Vec F S192x7168 .fp8e4m3 := arg0.view.readAt (Elt F) (Rect.unit (s := S192x22016) ![0, 14848] S192x7168.size inb_S192x22016_S192x7168_0_14848).toLoadRect x0
/-- Trip `k`'s 512 columns of the product. -/
abbrev accV (k : Fin k0_t1_loop.trips) : FVec F S192x512 .f32 :=
  k0_pay3 (k0_pay2 (k0_pay1 (lA c arg0 x0) (wA c XW k)) (lB c arg0 x0) (wB c XW k)) (lC c arg0 x0) (wC c XW k)

theorem slc (r : Fin 4) (b : Fin 3) : S192x512.Slices ![64 * b.val, 128 * r.val] S64x128 := by
  revert r b; decide
theorem rs_inb (b : Fin 3) : ∀ a, (![64 * b.val, 0] : Fin 2 → Nat) a + S64x128.size a ≤ S192x128.size a := by
  revert b; decide

/-- One 63 by 128 tile: the residual plus the scaled product, its last row dropped. -/
def tile (acc : FVec F S192x512 .f32) (rs : Vec F S64x128 .f32) (sc : Vec F S1x128 .f32) (h : Vec F S64x128 .f32) (r : Fin 4) (b : Fin 3) : FVec F S1x63x128 .bf16 :=
  have t : FVec F S64x128 .f32 := mulf (mulf (extractStridedSlice S64x128 ![64 * b.val, 128 * r.val] acc (slc r b)) (shapeCast S64x128 rs shapeCasts_S64x128_S64x128 : FVec F S64x128 .f32))
    (broadcastTo S64x128 (shapeCast S1x128 sc shapeCasts_S1x128_S1x128 : FVec F S1x128 .f32) broadcasts_S1x128_S64x128)
  have y : FVec F S64x128 .f32 := addf (shapeCast S64x128 h shapeCasts_S64x128_S64x128 : FVec F S64x128 .f32) t
  shapeCast S1x63x128 (truncf .bf16 (extractStridedSlice S63x128 ![0, 0] y slices_S64x128_o0_0_S63x128 : FVec F S63x128 .f32) bitsLt_bf16_f32 : FVec F S63x128 .bf16) shapeCasts_S63x128_S1x63x128

/-- Trip `k`'s tile of 128-lane group `r` and row block `b`. -/
def tileAt (k : Fin k0_t1_loop.trips) (r : Fin 4) (b : Fin 3) : FVec F S1x63x128 .bf16 :=
  tile (accV c XW arg0 x0 k)
    (arg1.view.readAt (Elt F) (Rect.unit (s := S192x128) ![64 * b.val, 0] S64x128.size (rs_inb b)).toLoadRect x1)
    (arg2.view.readAt (Elt F) (Rect.unit (s := S64x128) (k0_off28 k (BitVec.ofNat 32 r.val)) S1x128.size (k0_off28_inb k r)).toLoadRect x2)
    (arg3.view.readAt (Elt F) (Rect.unit (s := S12288x128) (k0_off29 k (BitVec.ofNat 32 r.val) (BitVec.ofNat 32 (64 * b.val))) S64x128.size (k0_off29_inb k r b)).toLoadRect x3) r b
/-- The tile with the place it is stored. -/
def piece (k : Fin k0_t1_loop.trips) (r : Fin 4) (b : Fin 3) : View.Piece (Elt F) S3x63x8192 .bf16 :=
  match b with
  | 0 => ⟨Rect.unit (s := S3x63x8192) (k0_off30 k (BitVec.ofNat 32 r.val)) S1x63x128.size (k0_off30_inb k r), tileAt c XW arg0 arg1 arg2 arg3 x0 x1 x2 x3 k r 0⟩
  | 1 => ⟨Rect.unit (s := S3x63x8192) (k0_off31 k (BitVec.ofNat 32 r.val)) S1x63x128.size (k0_off31_inb k r), tileAt c XW arg0 arg1 arg2 arg3 x0 x1 x2 x3 k r 1⟩
  | 2 => ⟨Rect.unit (s := S3x63x8192) (k0_off32 k (BitVec.ofNat 32 r.val)) S1x63x128.size (k0_off32_inb k r), tileAt c XW arg0 arg1 arg2 arg3 x0 x1 x2 x3 k r 2⟩

/-- The twelve tiles trip `k` stores, the latest first. -/
def pieces (k : Fin k0_t1_loop.trips) : List (View.Piece (Elt F) S3x63x8192 .bf16) :=
  let p := piece c XW arg0 arg1 arg2 arg3 x0 x1 x2 x3 k
  [p 3 2, p 3 1, p 3 0, p 2 2, p 2 1, p 2 0, p 1 2, p 1 1, p 1 0, p 0 2, p 0 1, p 0 0]

abbrev nextO (k : Fin k0_t1_loop.trips) (fo : Buf (Elt F) (arg5.view.loc (c : Thread nD τ))) : Buf (Elt F) (arg5.view.loc (c : Thread nD τ)) :=
  arg5.view.writes (Elt F) fo (pieces c XW arg0 arg1 arg2 arg3 x0 x1 x2 x3 k)

abbrev wpT (k : Fin k0_t1_loop.trips) (Q : Unit → sProp 𝕄) : sProp 𝕄 :=
  wp frame (wpE (defs₀ (F := F)) 𝒱₀ (c : Thread nD τ) none) Set.univ (tripG arg0 harg0 arg1 harg1 arg2 harg2 arg3 harg3 arg5 harg5 arg7 harg7 k) Q

/-! ## One trip -/

/-- What every trip takes: the inputs, the output block, the sums of squares, its three transfers under way. -/
abbrev tripPre (k : ℕ) (fo : Buf (Elt F) (arg5.view.loc (c : Thread nD τ))) : sProp 𝕄 :=
  iprop(insP c arg0 arg1 arg2 arg3 x0 x1 x2 x3 ∗ outP c arg5 fo ∗ ssqP c arg7 ∗ owesP c ∗ goP c XW k)
/-- What every trip leaves: the twelve tiles stored, its column block and its three slots back. -/
abbrev tripPost (k : Fin k0_t1_loop.trips) (fo : Buf (Elt F) (arg5.view.loc (c : Thread nD τ))) : sProp 𝕄 :=
  iprop(insP c arg0 arg1 arg2 arg3 x0 x1 x2 x3 ∗ outP c arg5 (nextO c XW arg0 arg1 arg2 arg3 arg5 x0 x1 x2 x3 k fo) ∗ ssqP c arg7 ∗ owesP c
    ∗ tripleP c XW (cb k.val) ∗ freeP (F := F) c k.val)

set_option backward.proofsInPublic true in
/-- The first trip issues nothing: the transfers of trip 1 are already under way. -/
theorem tripFirst (k : Fin k0_t1_loop.trips) (hk : k.val = 0) (fo : Buf (Elt F) (arg5.view.loc (c : Thread nD τ))) :
    iprop(tripPre c XW arg0 arg1 arg2 arg3 arg5 arg7 x0 x1 x2 x3 k.val fo)
      ⊢ wpT c arg0 harg0 arg1 harg1 arg2 harg2 arg3 harg3 arg5 harg5 arg7 harg7 k
        (fun _ => iprop(tripPost c XW arg0 arg1 arg2 arg3 arg5 arg7 x0 x1 x2 x3 k fo)) := by
  have h1 := cond1_zero k hk
  iintro ⟨⟨H0, H1, H2, H3⟩, HO, ⟨%fm, HM⟩, ⟨%W, HW⟩, ⟨%fA, HFA⟩, ⟨%fB, HFB⟩, ⟨%fC, HFC⟩⟩
  dsimp only [wpT, tripG]
  sl_unfold [k0_t1_body]
  sl_exec
  sl_step
  isplitl [H0 H1 H2 H3]
  · isplitl [H0]; · iexact H0
    isplitl [H1]; · iexact H1
    isplitl [H2]; · iexact H2
    iexact H3
  isplitl [HO]; · iexact HO
  isplitl [HM]; · iexists _; iexact HM
  isplitl [HW]; · iexists _; iexact HW
  isplitl [HFA_src HFB_src HFC_src]
  · isplitl [HFA_src]; · iexact HFA_src
    isplitl [HFB_src]; · iexact HFB_src
    iexact HFC_src
  isplitl [HFA_dst]; · iexists _; iexact HFA_dst
  isplitl [HFB_dst]; · iexists _; iexact HFB_dst
  isplitl [HFC_dst]; · iexists _; iexact HFC_dst
  isplitl [HFA]; · iexact HFA
  isplitl [HFB]; · iexact HFB
  iexact HFC

set_option backward.proofsInPublic true in
/-- A trip in the middle issues the transfers of the next trip into the slots the trip before it freed. -/
theorem tripMid (k : Fin k0_t1_loop.trips) (hk : k.val ≠ 0) (hk' : k.val ≤ 14) (fo : Buf (Elt F) (arg5.view.loc (c : Thread nD τ))) :
    iprop(tripPre c XW arg0 arg1 arg2 arg3 arg5 arg7 x0 x1 x2 x3 k.val fo ∗ tripleP c XW (cb (k.val + 1)) ∗ freeP (F := F) c (k.val + 1))
      ⊢ wpT c arg0 harg0 arg1 harg1 arg2 harg2 arg3 harg3 arg5 harg5 arg7 harg7 k
        (fun _ => iprop(tripPost c XW arg0 arg1 arg2 arg3 arg5 arg7 x0 x1 x2 x3 k fo ∗ goP c XW (k.val + 1))) := by
  have h1 := cond1_pos k hk
  obtain ⟨h2, h4, h7⟩ := cond_low k hk'
  obtain ⟨h3, h5, h6⟩ := cond_never k
  iintro ⟨⟨⟨H0, H1, H2, H3⟩, HO, ⟨%fm, HM⟩, ⟨%W, HW⟩, ⟨%fA, HFA⟩, ⟨%fB, HFB⟩, ⟨%fC, HFC⟩⟩, ⟨Hga, Hgb, Hgc⟩, ⟨%gA, HSA⟩, ⟨%gB, HSB⟩, ⟨%gC, HSC⟩, HCA, HCB, HCC⟩
  dsimp only [wpT, tripG]
  sl_unfold [k0_t1_body]
  sl_exec
  sl_step
  isplitl [H0 H1 H2 H3 HO HM HW HFA HFB HFC HFA_dst HFB_dst HFC_dst HFA_src HFB_src HFC_src]
  · isplitl [H0 H1 H2 H3]
    · isplitl [H0]; · iexact H0
      isplitl [H1]; · iexact H1
      isplitl [H2]; · iexact H2
      iexact H3
    isplitl [HO]; · iexact HO
    isplitl [HM]; · iexists _; iexact HM
    isplitl [HW]; · iexists _; iexact HW
    isplitl [HFA_src HFB_src HFC_src]
    · isplitl [HFA_src]; · iexact HFA_src
      isplitl [HFB_src]; · iexact HFB_src
      iexact HFC_src
    isplitl [HFA_dst]; · iexists _; iexact HFA_dst
    isplitl [HFB_dst]; · iexists _; iexact HFB_dst
    isplitl [HFC_dst]; · iexists _; iexact HFC_dst
    isplitl [HFA]; · iexact HFA
    isplitl [HFB]; · iexact HFB
    iexact HFC
  isplitl [HCA]; · iexists gA; iexact HCA
  isplitl [HCB]; · iexists gB; iexact HCB
  iexists gC; iexact HCC

set_option backward.proofsInPublic true in
/-- The last trip issues nothing. -/
theorem tripTail (k : Fin k0_t1_loop.trips) (hk : 14 < k.val) (fo : Buf (Elt F) (arg5.view.loc (c : Thread nD τ))) :
    iprop(tripPre c XW arg0 arg1 arg2 arg3 arg5 arg7 x0 x1 x2 x3 k.val fo)
      ⊢ wpT c arg0 harg0 arg1 harg1 arg2 harg2 arg3 harg3 arg5 harg5 arg7 harg7 k
        (fun _ => iprop(tripPost c XW arg0 arg1 arg2 arg3 arg5 arg7 x0 x1 x2 x3 k fo)) := by
  have h1 := cond1_pos k (by omega)
  obtain ⟨h2, h4, h7⟩ := cond_high k hk
  obtain ⟨h3, h5, h6⟩ := cond_never k
  iintro ⟨⟨H0, H1, H2, H3⟩, HO, ⟨%fm, HM⟩, ⟨%W, HW⟩, ⟨%fA, HFA⟩, ⟨%fB, HFB⟩, ⟨%fC, HFC⟩⟩
  dsimp only [wpT, tripG]
  sl_unfold [k0_t1_body]
  sl_exec
  sl_step
  isplitl [H0 H1 H2 H3]
  · isplitl [H0]; · iexact H0
    isplitl [H1]; · iexact H1
    isplitl [H2]; · iexact H2
    iexact H3
  isplitl [HO]; · iexact HO
  isplitl [HM]; · iexists _; iexact HM
  isplitl [HW]; · iexists _; iexact HW
  isplitl [HFA_src HFB_src HFC_src]
  · isplitl [HFA_src]; · iexact HFA_src
    isplitl [HFB_src]; · iexact HFB_src
    iexact HFC_src
  isplitl [HFA_dst]; · iexists _; iexact HFA_dst
  isplitl [HFB_dst]; · iexists _; iexact HFB_dst
  isplitl [HFC_dst]; · iexists _; iexact HFC_dst
  isplitl [HFA]; · iexact HFA
  isplitl [HFB]; · iexact HFB
  iexact HFC

end Trip
end Cert.Proof.MlpDownIdeal
end
-- ==== Proof.MlpDownIdeal.Body.lean ====
module

public import proofs.«01_k».proof.Proof.MlpDownIdeal.Trip

@[expose] public section

noncomputable section

namespace Cert.Proof.MlpDownIdeal

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The loop -/

section Loop

variable (c : Dev nD) (XW : Buf (Elt F) (wM.view.loc (c : Thread nD τ)))
  (arg0 : Memref sig .tc .vmem S192x22016 .fp8e4m3) (harg0 : arg0.IsWhole)
  (arg1 : Memref sig .tc .vmem S192x128 .f32) (harg1 : arg1.IsWhole)
  (arg2 : Memref sig .tc .vmem S64x128 .f32) (harg2 : arg2.IsWhole)
  (arg3 : Memref sig .tc .vmem S12288x128 .f32) (harg3 : arg3.IsWhole)
  (arg5 : Memref sig .tc .vmem S3x63x8192 .bf16) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- Trip `t`'s slots before it: its transfers under way, or, past the last trip, free. -/
def liveP (t : ℕ) : sProp 𝕄 := if t < 16 then goP c XW t else freeP (F := F) c t
theorem liveP_lt (t : ℕ) (h : t < 16) : liveP c XW t = goP c XW t := if_pos h
theorem liveP_ge (t : ℕ) (h : ¬ t < 16) : liveP c XW t = freeP (F := F) c t := if_neg h

/-- The ring before the first trip: the transfers of trips 0 and 1 under way, the other column blocks held. -/
abbrev ringZero : sProp 𝕄 :=
  iprop(goP c XW 0 ∗ goP c XW 1 ∗ bigSep (Ring.homeSet (NB := 16) 2 0) (tripleP c XW))
/-- The ring before trip `k`: from trip 1 on, the transfers of trip `k` under way, the other three slots free. -/
def ringAt : ℕ → sProp 𝕄
  | 0 => ringZero c XW
  | k + 1 => iprop(liveP c XW (k + 1) ∗ freeP (F := F) c (k + 2) ∗ bigSep (Ring.homeSet (NB := 16) 1 (k + 1)) (tripleP c XW))
theorem ringAt_pos (k : ℕ) (h : k ≠ 0) : ringAt c XW k
    = iprop(liveP c XW k ∗ freeP (F := F) c (k + 1) ∗ bigSep (Ring.homeSet (NB := 16) 1 k) (tripleP c XW)) := by
  obtain ⟨n, rfl⟩ := Nat.exists_eq_succ_of_ne_zero h; rfl

/-- The output block before trip `k`, from `o0`: each trip's twelve tiles over what was there. -/
def outAcc (o0 : Buf (Elt F) (arg5.view.loc (c : Thread nD τ))) : ℕ → Buf (Elt F) (arg5.view.loc (c : Thread nD τ))
  | 0 => o0
  | k + 1 => if h : k < k0_t1_loop.trips then nextO c XW arg0 arg1 arg2 arg3 arg5 x0 x1 x2 x3 ⟨k, h⟩ (outAcc o0 k) else outAcc o0 k
theorem outAcc_succ (o0) (k : Fin k0_t1_loop.trips) :
    outAcc c XW arg0 arg1 arg2 arg3 arg5 x0 x1 x2 x3 o0 (k.val + 1) = nextO c XW arg0 arg1 arg2 arg3 arg5 x0 x1 x2 x3 k (outAcc c XW arg0 arg1 arg2 arg3 arg5 x0 x1 x2 x3 o0 k.val) := by
  rw [outAcc, dif_pos k.isLt]

theorem trips_pos : 0 < k0_t1_loop.trips := by rw [trips_eq]; decide
theorem freeP_add2 (k : ℕ) : freeP (F := F) c (k + 2) = freeP (F := F) c k := by
  have eA : sA (k + 2) = sA k := by rw [sA, show 3 * (k + 2) + 2 = 3 * k + 2 + 6 by omega, Ring.sl_add]
  have eB : sB (k + 2) = sB k := by rw [sB, show 3 * (k + 2) + 3 = 3 * k + 3 + 6 by omega, Ring.sl_add]
  have eC : sC (k + 2) = sC k := by rw [sC, show 3 * (k + 2) + 4 = 3 * k + 4 + 6 by omega, Ring.sl_add]
  unfold freeP; rw [eA, eB, eC]
theorem homes_out (k : ℕ) (h : k + 1 < 16) : bigSep (Ring.homeSet (NB := 16) 1 k) (tripleP c XW)
    = iprop(tripleP c XW (cb (k + 1)) ∗ bigSep ((Ring.homeSet (NB := 16) 1 k).erase (Ring.bk 16 (k + 1))) (tripleP c XW)) := by
  conv_lhs => rw [Ring.homeSet_out 1 k h, bigSep_insert (Ring.bkL_not_mem_erase 1 k)]
  rfl
theorem homes_next (k : ℕ) (h : k + 1 < 16) : bigSep (Ring.homeSet (NB := 16) 1 (k + 1)) (tripleP c XW)
    = iprop(tripleP c XW (cb k) ∗ bigSep ((Ring.homeSet (NB := 16) 1 k).erase (Ring.bk 16 (k + 1))) (tripleP c XW)) := by
  conv_lhs => rw [Ring.homeSet_succ 1 k h, bigSep_insert (Ring.bk_not_mem_erase 1 k (by omega) (by decide))]
  rfl
theorem homes_tail (k : ℕ) (h : 16 ≤ k + 1) (hk : k < 16) : bigSep (Ring.homeSet (NB := 16) 1 (k + 1)) (tripleP c XW)
    = iprop(tripleP c XW (cb k) ∗ bigSep (Ring.homeSet (NB := 16) 1 k) (tripleP c XW)) := by
  conv_lhs => rw [Ring.homeSet_succ_tail 1 k h hk, bigSep_insert (Ring.bk_not_mem_homeSet 1 k hk (by decide))]
  rfl
theorem homes_one : bigSep (Ring.homeSet (NB := 16) 1 1) (tripleP c XW)
    = iprop(tripleP c XW (cb 0) ∗ bigSep (Ring.homeSet (NB := 16) 2 0) (tripleP c XW)) := by
  have e : Ring.homeSet (NB := 16) 1 1 = insert (Ring.bk 16 0) (Ring.homeSet 2 0) := by
    ext b; rw [Ring.mem_homeSet, Finset.mem_insert, Ring.mem_homeSet, Fin.ext_iff, Ring.bk_val (by decide)]; omega
  conv_lhs => rw [e, bigSep_insert (Ring.bk_not_mem_homeSet 2 0 (by decide) (by decide))]
  rfl

abbrev heldP (fo : Buf (Elt F) (arg5.view.loc (c : Thread nD τ))) : sProp 𝕄 :=
  iprop(insP c arg0 arg1 arg2 arg3 x0 x1 x2 x3 ∗ outP c arg5 fo ∗ ssqP c ssqM ∗ owesP c)

set_option warn.classDefReducibility false in
/-- The loop's invariant. -/
@[sl_loop] def loopInv (o0 : Buf (Elt F) (arg5.view.loc (c : Thread nD τ))) :
    LoopInvTy_k0_t1 (F := F) Unit ℕ (UU nD τ) ℕ 𝒱₀ c none Set.univ arg0 harg0 arg1 harg1 arg2 harg2 arg3 harg3 wM (Memref.isWhole_whole _) arg5 harg5 ringM (Memref.isWhole_whole _) ssqM (Memref.isWhole_whole _) cc0_scratch2 0#32 1#32 where
  inv k _ := iprop(heldP c arg0 arg1 arg2 arg3 arg5 x0 x1 x2 x3 (outAcc c XW arg0 arg1 arg2 arg3 arg5 x0 x1 x2 x3 o0 k) ∗ ringAt c XW k)
  step k _ := by
    have hlt : k.val < 16 := Nat.lt_of_lt_of_eq k.isLt trips_eq
    rw [outAcc_succ, ringAt_pos c XW (k.val + 1) (by omega), freeP_add2]
    by_cases h0 : k.val = 0
    · have hk : k = ⟨0, trips_pos⟩ := Fin.ext h0
      subst hk
      rw [liveP_lt c XW (0 + 1) (by decide), show (0 + 1 : ℕ) = 1 from rfl, homes_one,
        show ringAt c XW (⟨0, trips_pos⟩ : Fin k0_t1_loop.trips).val = ringZero c XW from rfl]
      iintro ⟨⟨HI, HO, HM, HW⟩, HG, HL, HR⟩
      iapply (wp_wand_r Idealize.ShloMosaic.frame (wpE (defs₀ (F := F)) 𝒱₀ (c : Thread nD τ) none) Set.univ)
      isplitl [HI HO HM HW HG]
      · iapply (tripFirst c XW arg0 harg0 arg1 harg1 arg2 harg2 arg3 harg3 arg5 harg5 ssqM (Memref.isWhole_whole _) x0 x1 x2 x3 ⟨0, trips_pos⟩ rfl _)
        isplitl [HI]; · iexact HI
        isplitl [HO]; · iexact HO
        isplitl [HM]; · iexact HM
        isplitl [HW]; · iexact HW
        iexact HG
      · iintro %_ ⟨HI, HO, HM, HW, HA, HF⟩
        isplitl [HI HO HM HW]
        · isplitl [HI]; · iexact HI
          isplitl [HO]; · iexact HO
          isplitl [HM]; · iexact HM
          iexact HW
        isplitl [HL]; · iexact HL
        isplitl [HF]; · iexact HF
        isplitl [HA]; · iexact HA
        iexact HR
    by_cases h1 : k.val ≤ 14
    · rw [ringAt_pos c XW k.val h0, liveP_lt c XW k.val hlt, liveP_lt c XW (k.val + 1) (by omega), homes_out c XW k.val (by omega), homes_next c XW k.val (by omega)]
      iintro ⟨⟨HI, HO, HM, HW⟩, HG, HF, HN, HR⟩
      iapply (wp_wand_r Idealize.ShloMosaic.frame (wpE (defs₀ (F := F)) 𝒱₀ (c : Thread nD τ) none) Set.univ)
      isplitl [HI HO HM HW HG HF HN]
      · iapply (tripMid c XW arg0 harg0 arg1 harg1 arg2 harg2 arg3 harg3 arg5 harg5 ssqM (Memref.isWhole_whole _) x0 x1 x2 x3 k h0 h1 _)
        isplitl [HI HO HM HW HG]
        · isplitl [HI]; · iexact HI
          isplitl [HO]; · iexact HO
          isplitl [HM]; · iexact HM
          isplitl [HW]; · iexact HW
          iexact HG
        isplitl [HN]; · iexact HN
        iexact HF
      · iintro %_ ⟨⟨HI, HO, HM, HW, HA, HF⟩, HG⟩
        isplitl [HI HO HM HW]
        · isplitl [HI]; · iexact HI
          isplitl [HO]; · iexact HO
          isplitl [HM]; · iexact HM
          iexact HW
        isplitl [HG]; · iexact HG
        isplitl [HF]; · iexact HF
        isplitl [HA]; · iexact HA
        iexact HR
    · rw [ringAt_pos c XW k.val h0, liveP_lt c XW k.val hlt, liveP_ge c XW (k.val + 1) (by omega), homes_tail c XW k.val (by omega) hlt]
      iintro ⟨⟨HI, HO, HM, HW⟩, HG, HF, HR⟩
      iapply (wp_wand_r Idealize.ShloMosaic.frame (wpE (defs₀ (F := F)) 𝒱₀ (c : Thread nD τ) none) Set.univ)
      isplitl [HI HO HM HW HG]
      · iapply (tripTail c XW arg0 harg0 arg1 harg1 arg2 harg2 arg3 harg3 arg5 harg5 ssqM (Memref.isWhole_whole _) x0 x1 x2 x3 k (by omega) _)
        isplitl [HI]; · iexact HI
        isplitl [HO]; · iexact HO
        isplitl [HM]; · iexact HM
        isplitl [HW]; · iexact HW
        iexact HG
      · iintro %_ ⟨HI, HO, HM, HW, HA, HF2⟩
        isplitl [HI HO HM HW]
        · isplitl [HI]; · iexact HI
          isplitl [HO]; · iexact HO
          isplitl [HM]; · iexact HM
          iexact HW
        isplitl [HF]; · iexact HF
        isplitl [HF2]; · iexact HF2
        isplitl [HA]; · iexact HA
        iexact HR

/-- What the body leaves in the output block. -/
abbrev outOf (gO : Buf (Elt F) (arg5.view.loc (c : Thread nD τ))) : Buf (Elt F) (arg5.view.loc (c : Thread nD τ)) := outAcc c XW arg0 arg1 arg2 arg3 arg5 x0 x1 x2 x3 gO 16

/-- The six slots at anything and their semaphores at zero. -/
abbrev slotsP : sProp 𝕄 :=
  iprop((∃ f, slotP (F := F) c 0 f) ∗ (∃ f, slotCP (F := F) c 1 f) ∗ (∃ f, slotP (F := F) c 2 f) ∗ (∃ f, slotP (F := F) c 3 f) ∗ (∃ f, slotCP (F := F) c 4 f) ∗ (∃ f, slotP (F := F) c 5 f))
abbrev cellsP : sProp 𝕄 :=
  iprop(cellP (F := F) c 0 ∗ cellP (F := F) c 1 ∗ cellP (F := F) c 2 ∗ cellP (F := F) c 3 ∗ cellP (F := F) c 4 ∗ cellP (F := F) c 5)

/-- What the body leaves. -/
abbrev POST (out : Buf (Elt F) (arg5.view.loc (c : Thread nD τ))) : sProp 𝕄 :=
  iprop(insP c arg0 arg1 arg2 arg3 x0 x1 x2 x3 ∗ outP c arg5 out ∗ ssqP c ssqM ∗ bigSep Finset.univ (tripleP c XW)
    ∗ slotsP c ∗ cellsP c ∗ owesP c)

/-- `POST` under one name, opened by `doneP_eq`. -/
@[irreducible] def doneP (out : Buf (Elt F) (arg5.view.loc (c : Thread nD τ))) : sProp 𝕄 := POST c XW arg0 arg1 arg2 arg3 arg5 x0 x1 x2 x3 out
theorem doneP_eq (out) : doneP c XW arg0 arg1 arg2 arg3 arg5 x0 x1 x2 x3 out = POST c XW arg0 arg1 arg2 arg3 arg5 x0 x1 x2 x3 out := by rw [doneP]

theorem freeP_lit (t : ℕ) (a b d : Fin 6) (ha : sA t = a) (hb : sB t = b) (hd : sC t = d) : freeP (F := F) c t
    = iprop((∃ f, slotP (F := F) c a f) ∗ (∃ f, slotP (F := F) c b f) ∗ (∃ f, slotCP (F := F) c d f) ∗ cellP (F := F) c a ∗ cellP (F := F) c b ∗ cellP (F := F) c d) := by
  subst ha; subst hb; subst hd; rfl

set_option warn.classDefReducibility false in
/-- After the loop the ring is whole again. -/
def loopExit (o0 : Buf (Elt F) (arg5.view.loc (c : Thread nD τ))) :
    LoopExit (loopInv (F := F) c XW arg0 harg0 arg1 harg1 arg2 harg2 arg3 harg3 arg5 harg5 x0 x1 x2 x3 o0) where
  post _ := doneP c XW arg0 arg1 arg2 arg3 arg5 x0 x1 x2 x3 (outOf c XW arg0 arg1 arg2 arg3 arg5 x0 x1 x2 x3 o0)
  exit acc := by
    show iprop(heldP c arg0 arg1 arg2 arg3 arg5 x0 x1 x2 x3 (outAcc c XW arg0 arg1 arg2 arg3 arg5 x0 x1 x2 x3 o0 k0_t1_loop.trips) ∗ ringAt c XW k0_t1_loop.trips) ⊢ _
    rw [trips_eq, doneP_eq, ringAt_pos c XW 16 (by decide), liveP_ge c XW 16 (by decide),
      freeP_lit c 16 2 3 4 (by decide) (by decide) (by decide), freeP_lit c (16 + 1) 5 0 1 (by decide) (by decide) (by decide),
      Ring.homeSet_last (NB := 16) (L := 1) 16 (by decide)]
    iintro ⟨⟨HI, HO, HM, HW⟩, ⟨S2, S3, S4, C2, C3, C4⟩, ⟨S5, S0, S1, C5, C0, C1⟩, HR⟩
    isplitl [HI]; · iexact HI
    isplitl [HO]; · iexact HO
    isplitl [HM]; · iexact HM
    isplitl [HR]; · iexact HR
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [C0 C1 C2 C3 C4 C5]
    · isplitl [C0]; · iexact C0
      isplitl [C1]; · iexact C1
      isplitl [C2]; · iexact C2
      isplitl [C3]; · iexact C3
      isplitl [C4]; · iexact C4
      iexact C5
    iexact HW

end Loop

/-! ## The kernel body -/

section Body

variable (c : Dev nD) (XW : Buf (Elt F) (wM.view.loc (c : Thread nD τ)))
  (arg0 : Memref sig .tc .vmem S192x22016 .fp8e4m3) (harg0 : arg0.IsWhole)
  (arg1 : Memref sig .tc .vmem S192x128 .f32) (harg1 : arg1.IsWhole)
  (arg2 : Memref sig .tc .vmem S64x128 .f32) (harg2 : arg2.IsWhole)
  (arg3 : Memref sig .tc .vmem S12288x128 .f32) (harg3 : arg3.IsWhole)
  (arg5 : Memref sig .tc .vmem S3x63x8192 .bf16) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- The kernel on the given staging buffers. -/
abbrev bodyG : Prog (TpuEff nD τ sig (Elt F) Λ₀ .tc) PUnit :=
  cc0_down arg0 harg0 arg1 harg1 arg2 harg2 arg3 harg3 wM (Memref.isWhole_whole _) arg5 harg5 ringM (Memref.isWhole_whole _) ssqM (Memref.isWhole_whole _) cc0_scratch2

/-- What the body takes. -/
abbrev PRE (gO : Buf (Elt F) (arg5.view.loc (c : Thread nD τ))) (W : Waits sig Unit) : sProp 𝕄 :=
  iprop(insP c arg0 arg1 arg2 arg3 x0 x1 x2 x3 ∗ outP c arg5 gO ∗ ssqP c ssqM
    ∗ (tripleP c XW 0 ∗ tripleP c XW 1 ∗ bigSep (Ring.homeSet (NB := 16) 2 0) (tripleP c XW))
    ∗ slotsP c ∗ cellsP c ∗ owes (c : Thread nD τ) 0 W)
set_option warn.classDefReducibility false in
attribute [local instance] loopExit in
theorem bodyRun (gO W) (Q : PUnit → sProp 𝕄) :
    iprop(PRE c XW arg0 arg1 arg2 arg3 arg5 x0 x1 x2 x3 gO W ∗ (POST c XW arg0 arg1 arg2 arg3 arg5 x0 x1 x2 x3 (outOf c XW arg0 arg1 arg2 arg3 arg5 x0 x1 x2 x3 gO) -∗ Q ⟨⟩))
      ⊢ wp frame (wpE (defs₀ (F := F)) 𝒱₀ (c : Thread nD τ) none) Set.univ (bodyG arg0 harg0 arg1 harg1 arg2 harg2 arg3 harg3 arg5 harg5) Q := by
  obtain ⟨h8, h9, h10, h11, h12, h13⟩ := cond_last
  iintro ⟨⟨⟨H0, H1, H2, H3⟩, HO, ⟨%fm, HM⟩, ⟨⟨Hg0, Hg1, Hg2⟩, ⟨Hg3, Hg4, Hg5⟩, HR⟩, ⟨⟨%f0, Hs0⟩, ⟨%f1, Hs1⟩, ⟨%f2, Hs2⟩, ⟨%f3, Hs3⟩, ⟨%f4, Hs4⟩, ⟨%f5, Hs5⟩⟩, ⟨Hc0, Hc1, Hc2, Hc3, Hc4, Hc5⟩, HW⟩, Hk⟩
  let L := loopInv c XW arg0 harg0 arg1 harg1 arg2 harg2 arg3 harg3 arg5 harg5 x0 x1 x2 x3 gO
  sl_exec
  sl_step
  have hd : doneP c XW arg0 arg1 arg2 arg3 arg5 x0 x1 x2 x3 (outOf c XW arg0 arg1 arg2 arg3 arg5 x0 x1 x2 x3 gO)
      ⊢ POST c XW arg0 arg1 arg2 arg3 arg5 x0 x1 x2 x3 (outOf c XW arg0 arg1 arg2 arg3 arg5 x0 x1 x2 x3 gO) := entails_of_eq (doneP_eq ..)
  iapply Hk
  iapply hd
  iexact HL0

end Body
end Cert.Proof.MlpDownIdeal
end
-- ==== Proof.MlpDownIdeal.Stored.lean ====
module

public import proofs.«01_k».proof.Proof.MlpDownIdeal.Body
public import Idealize.ShloMosaic.Lib.WritesUnit

@[expose] public section

noncomputable section

namespace Cert.Proof.MlpDownIdeal

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # What the output block holds after the loop -/

section Stored

variable (c : Dev nD) (XW : Buf (Elt F) (wM.view.loc (c : Thread nD τ)))
  (arg0 : Memref sig .tc .vmem S192x22016 .fp8e4m3)
  (arg1 : Memref sig .tc .vmem S192x128 .f32)
  (arg2 : Memref sig .tc .vmem S64x128 .f32)
  (arg3 : Memref sig .tc .vmem S12288x128 .f32)
  (arg5 : Memref sig .tc .vmem S3x63x8192 .bf16)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- Row `s`, lane `l` of a tile. -/
def tix (s : Fin 63) (l : Fin 128) : S1x63x128.Idx := fun | ⟨0, _⟩ => (0 : Fin 1) | ⟨1, _⟩ => s | ⟨2, _⟩ => l

theorem skipPiece (k : Fin k0_t1_loop.trips) (r : Fin 4) (b : Fin 3) (f) (L : List (View.Piece (Elt F) S3x63x8192 .bf16)) (y : S3x63x8192.Idx)
    (h : (y 0).val ≠ b.val ∨ (y 2).val < 512 * k.val + 128 * r.val ∨ 512 * k.val + 128 * r.val + 128 ≤ (y 2).val) :
    arg5.view.read (Elt F) (arg5.view.writes (Elt F) f (piece c XW arg0 arg1 arg2 arg3 x0 x1 x2 x3 k r b :: L)) y
      = arg5.view.read (Elt F) (arg5.view.writes (Elt F) f L) y := by
  rcases h with h | h
  · fin_cases b
    · exact View.read_writes_cons_unit_of_not_mem arg5.view f (k0_off30_inb k r) _ L y (k0_off30_eq k r) (0 : Fin 3)
        (show (y 0).val < 0 ∨ 0 + 1 ≤ (y 0).val by have h' : ¬ (y 0).val = 0 := h; omega)
    · exact View.read_writes_cons_unit_of_not_mem arg5.view f (k0_off31_inb k r) _ L y (k0_off31_eq k r) (0 : Fin 3)
        (show (y 0).val < 1 ∨ 1 + 1 ≤ (y 0).val by have h' : ¬ (y 0).val = 1 := h; omega)
    · exact View.read_writes_cons_unit_of_not_mem arg5.view f (k0_off32_inb k r) _ L y (k0_off32_eq k r) (0 : Fin 3)
        (show (y 0).val < 2 ∨ 2 + 1 ≤ (y 0).val by have h' : ¬ (y 0).val = 2 := h; omega)
  · fin_cases b
    · exact View.read_writes_cons_unit_of_not_mem arg5.view f (k0_off30_inb k r) _ L y (k0_off30_eq k r) (2 : Fin 3) h
    · exact View.read_writes_cons_unit_of_not_mem arg5.view f (k0_off31_inb k r) _ L y (k0_off31_eq k r) (2 : Fin 3) h
    · exact View.read_writes_cons_unit_of_not_mem arg5.view f (k0_off32_inb k r) _ L y (k0_off32_eq k r) (2 : Fin 3) h

theorem hitPiece (k : Fin k0_t1_loop.trips) (r : Fin 4) (b : Fin 3) (f) (L : List (View.Piece (Elt F) S3x63x8192 .bf16)) (y : S3x63x8192.Idx)
    (s : Fin 63) (l : Fin 128) (h0 : (y 0).val = b.val) (h1 : (y 1).val = s.val) (h2 : (y 2).val = 512 * k.val + 128 * r.val + l.val) :
    arg5.view.read (Elt F) (arg5.view.writes (Elt F) f (piece c XW arg0 arg1 arg2 arg3 x0 x1 x2 x3 k r b :: L)) y
      = tileAt c XW arg0 arg1 arg2 arg3 x0 x1 x2 x3 k r b (tix s l) := by
  have h1' : (y 1).val = 0 + s.val := by omega
  fin_cases b
  · exact View.read_writes_cons_unit_of_mem arg5.view f (k0_off30_inb k r) (tileAt c XW arg0 arg1 arg2 arg3 x0 x1 x2 x3 k r 0) L y (tix s l) (k0_off30_eq k r)
      fun a => match a with | ⟨0, _⟩ => h0 | ⟨1, _⟩ => h1' | ⟨2, _⟩ => h2
  · exact View.read_writes_cons_unit_of_mem arg5.view f (k0_off31_inb k r) (tileAt c XW arg0 arg1 arg2 arg3 x0 x1 x2 x3 k r 1) L y (tix s l) (k0_off31_eq k r)
      fun a => match a with | ⟨0, _⟩ => h0 | ⟨1, _⟩ => h1' | ⟨2, _⟩ => h2
  · exact View.read_writes_cons_unit_of_mem arg5.view f (k0_off32_inb k r) (tileAt c XW arg0 arg1 arg2 arg3 x0 x1 x2 x3 k r 2) L y (tix s l) (k0_off32_eq k r)
      fun a => match a with | ⟨0, _⟩ => h0 | ⟨1, _⟩ => h1' | ⟨2, _⟩ => h2

/-- The tiles in the order a trip stores them, the latest first: 128-lane group and row block. -/
def order : List (Fin 4 × Fin 3) := [(3, 2), (3, 1), (3, 0), (2, 2), (2, 1), (2, 0), (1, 2), (1, 1), (1, 0), (0, 2), (0, 1), (0, 0)]
theorem mem_order : ∀ (r : Fin 4) (b : Fin 3), (r, b) ∈ order := by decide
theorem pieces_eq (k : Fin k0_t1_loop.trips) :
    pieces c XW arg0 arg1 arg2 arg3 x0 x1 x2 x3 k = order.map fun q => piece c XW arg0 arg1 arg2 arg3 x0 x1 x2 x3 k q.1 q.2 := rfl

theorem read_map_hit (k : Fin k0_t1_loop.trips) (r : Fin 4) (b : Fin 3) (f) (y : S3x63x8192.Idx)
    (s : Fin 63) (l : Fin 128) (h0 : (y 0).val = b.val) (h1 : (y 1).val = s.val) (h2 : (y 2).val = 512 * k.val + 128 * r.val + l.val)
    (L : List (Fin 4 × Fin 3)) (hL : (r, b) ∈ L) :
    arg5.view.read (Elt F) (arg5.view.writes (Elt F) f (L.map fun q => piece c XW arg0 arg1 arg2 arg3 x0 x1 x2 x3 k q.1 q.2)) y
      = tileAt c XW arg0 arg1 arg2 arg3 x0 x1 x2 x3 k r b (tix s l) := by
  induction L with
  | nil => exact absurd hL List.not_mem_nil
  | cons q L ih =>
    rw [List.map_cons]
    by_cases e : (r, b) = q
    · rw [← e]; exact hitPiece c XW arg0 arg1 arg2 arg3 arg5 x0 x1 x2 x3 k r b f _ y s l h0 h1 h2
    · rw [skipPiece c XW arg0 arg1 arg2 arg3 arg5 x0 x1 x2 x3 k q.1 q.2 f _ y (by
        have hl := l.isLt; have := r.isLt; have := b.isLt; have := q.1.isLt; have := q.2.isLt
        have hne : ¬ (r.val = q.1.val ∧ b.val = q.2.val) := fun h => e (Prod.ext (Fin.ext h.1) (Fin.ext h.2))
        omega)]
      exact ih ((List.mem_cons.mp hL).resolve_left e)
theorem read_map_skip (k : Fin k0_t1_loop.trips) (f) (y : S3x63x8192.Idx)
    (h : (y 2).val < 512 * k.val ∨ 512 * k.val + 512 ≤ (y 2).val) (L : List (Fin 4 × Fin 3)) :
    arg5.view.read (Elt F) (arg5.view.writes (Elt F) f (L.map fun q => piece c XW arg0 arg1 arg2 arg3 x0 x1 x2 x3 k q.1 q.2)) y
      = arg5.view.read (Elt F) f y := by
  induction L with
  | nil => rfl
  | cons q L ih =>
    rw [List.map_cons, skipPiece c XW arg0 arg1 arg2 arg3 arg5 x0 x1 x2 x3 k q.1 q.2 f _ y (by
        have := q.1.isLt; have := q.2.isLt; omega)]
    exact ih

/-- An element of trip `k`'s columns reads the tile that covers it; -/
theorem read_next_hit (k : Fin k0_t1_loop.trips) (r : Fin 4) (b : Fin 3) (f) (y : S3x63x8192.Idx)
    (s : Fin 63) (l : Fin 128) (h0 : (y 0).val = b.val) (h1 : (y 1).val = s.val) (h2 : (y 2).val = 512 * k.val + 128 * r.val + l.val) :
    arg5.view.read (Elt F) (nextO c XW arg0 arg1 arg2 arg3 arg5 x0 x1 x2 x3 k f) y = tileAt c XW arg0 arg1 arg2 arg3 x0 x1 x2 x3 k r b (tix s l) := by
  rw [nextO, pieces_eq]
  exact read_map_hit c XW arg0 arg1 arg2 arg3 arg5 x0 x1 x2 x3 k r b f y s l h0 h1 h2 order (mem_order r b)
/-- any other reads what was there. -/
theorem read_next_skip (k : Fin k0_t1_loop.trips) (f) (y : S3x63x8192.Idx)
    (h : (y 2).val < 512 * k.val ∨ 512 * k.val + 512 ≤ (y 2).val) :
    arg5.view.read (Elt F) (nextO c XW arg0 arg1 arg2 arg3 arg5 x0 x1 x2 x3 k f) y = arg5.view.read (Elt F) f y := by
  rw [nextO, pieces_eq]
  exact read_map_skip c XW arg0 arg1 arg2 arg3 arg5 x0 x1 x2 x3 k f y h order

/-- The trip, 128-lane group, row block, row and lane that element `y` of the output block comes from. -/
theorem col_lt (y : S3x63x8192.Idx) : (y 2).val < 8192 := (y 2).isLt
def outTrip (y : S3x63x8192.Idx) : Fin k0_t1_loop.trips := ⟨(y 2).val / 512, by have := col_lt y; rw [trips_eq]; omega⟩
def outGroup (y : S3x63x8192.Idx) : Fin 4 := ⟨(y 2).val % 512 / 128, by omega⟩
def outBlock (y : S3x63x8192.Idx) : Fin 3 := ⟨(y 0).val, (y 0).isLt⟩
def outRow (y : S3x63x8192.Idx) : Fin 63 := ⟨(y 1).val, (y 1).isLt⟩
def outLane (y : S3x63x8192.Idx) : Fin 128 := ⟨(y 2).val % 128, by omega⟩

/-- What element `y` of the output block holds after the loop. -/
def outVal (y : S3x63x8192.Idx) : F .bf16 :=
  tileAt c XW arg0 arg1 arg2 arg3 x0 x1 x2 x3 (outTrip y) (outGroup y) (outBlock y) (tix (outRow y) (outLane y))

theorem read_outAcc (o0) (n : ℕ) (hn : n ≤ 16) (y : S3x63x8192.Idx) :
    arg5.view.read (Elt F) (outAcc c XW arg0 arg1 arg2 arg3 arg5 x0 x1 x2 x3 o0 n) y
      = if (y 2).val < 512 * n then outVal c XW arg0 arg1 arg2 arg3 x0 x1 x2 x3 y else arg5.view.read (Elt F) o0 y := by
  induction n with
  | zero => rw [if_neg (by omega)]; rfl
  | succ n ih =>
    have hlt : n < k0_t1_loop.trips := by rw [trips_eq]; omega
    rw [outAcc_succ c XW arg0 arg1 arg2 arg3 arg5 x0 x1 x2 x3 o0 ⟨n, hlt⟩]
    by_cases h : (y 2).val < 512 * n ∨ 512 * n + 512 ≤ (y 2).val
    · rw [read_next_skip c XW arg0 arg1 arg2 arg3 arg5 x0 x1 x2 x3 ⟨n, hlt⟩ _ y h, ih (by omega)]
      by_cases h' : (y 2).val < 512 * n
      · rw [if_pos h', if_pos (by omega)]
      · rw [if_neg h', if_neg (by omega)]
    · rw [if_pos (by omega)]
      have e : outTrip y = ⟨n, hlt⟩ := Fin.ext (by show (y 2).val / 512 = n; omega)
      unfold outVal
      rw [e]
      exact read_next_hit c XW arg0 arg1 arg2 arg3 arg5 x0 x1 x2 x3 ⟨n, hlt⟩ (outGroup y) (outBlock y) _ y (outRow y) (outLane y) rfl rfl
        (by show (y 2).val = 512 * n + 128 * ((y 2).val % 512 / 128) + (y 2).val % 128; omega)

/-- After the loop every element has been stored, whatever was there before. -/
theorem read_outOf (o0) :
    arg5.view.read (Elt F) (outOf c XW arg0 arg1 arg2 arg3 arg5 x0 x1 x2 x3 o0) = outVal c XW arg0 arg1 arg2 arg3 x0 x1 x2 x3 := by
  funext y
  rw [read_outAcc c XW arg0 arg1 arg2 arg3 arg5 x0 x1 x2 x3 o0 16 le_rfl y, if_pos (col_lt y)]

end Stored
end Cert.Proof.MlpDownIdeal
end
-- ==== Proof.MlpDownIdeal.Launch.lean ====
/-
  The down kernel's launch: the weight whole is its 16 column blocks in three parts each, the ring whole is its six slots and the rest; the
  body's run is the pipeline's body obligation at its one point; and the whole program runs to a final state with the
  result at the computed contents, the arguments unchanged and every semaphore counter at zero.
-/
module

public import proofs.«01_k».proof.Proof.MlpDownIdeal.Stored

@[expose] public section

noncomputable section

namespace Cert.Proof.MlpDownIdeal

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## @main up to the region -/

abbrev hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The weight's contents, as the column blocks read them. -/
abbrev XWof (c : Dev nD) : Buf (Elt F) (wM.view.loc (c : Thread nD τ)) := m ((c : Thread nD τ).loc main_arg3)

/-! ## The kernel's own semaphores -/

abbrev osem : Fin 6 → SemLoc sig := fun s => .dma (csm s).sem
theorem ownSemFacts : Pipeline.OwnSemFacts spec0 osem := by decide

/-! ## Element sets: the weight's column blocks, the ring's slots -/

/-- A part of a column block. -/
abbrev Gq (q : Fin 2) (b : Fin 16) : Finset S22016x8192.Idx := (Rect.unit (s := S22016x8192) (grpOff q b) S7424x512.size (grpOff_inb q b)).set
abbrev GqC (b : Fin 16) : Finset S22016x8192.Idx := (Rect.unit (s := S22016x8192) (grpOffC b) S7168x512.size (grpOffC_inb b)).set
/-- A column block. -/
abbrev P16 (b : Fin 16) : Finset S22016x8192.Idx := Gq 0 b ∪ (Gq 1 b ∪ GqC b)
abbrev S6L (s : Fin 6) : Finset S6x8192x512.Idx := (Rect.unit (s := S6x8192x512) (slotOff s) S1x7424x512.size (slotOff_inb s)).set
abbrev S6C (s : Fin 6) : Finset S6x8192x512.Idx := (Rect.unit (s := S6x8192x512) (slotOff s) S1x7168x512.size (slotOffC_inb s)).set
/-- How many rows of slot `s` a transfer reaches. -/
def slotLen (s : ℕ) : ℕ := if s = 1 ∨ s = 4 then 7168 else 7424
/-- The part of the ring no transfer reaches. -/
def Rest : Finset S6x8192x512.Idx := Finset.univ.filter fun y => slotLen (y 0).val ≤ (y 1).val
/-- The ring's seven parts: what the transfers reach of each slot, and the rest. -/
def R7 : Fin 7 → Finset S6x8192x512.Idx
  | 0 => S6L 0 | 1 => S6C 1 | 2 => S6L 2 | 3 => S6L 3 | 4 => S6C 4 | 5 => S6L 5 | 6 => Rest

omit [FloatOps F] in
theorem grp_set (q : Fin 2) (b : Fin 16) : (grp q b : Memref sig .tc .hbm _ _).view.set = Gq q b := View.set_slice_whole _ _
omit [FloatOps F] in
theorem grpC_set (b : Fin 16) : (grpC b : Memref sig .tc .hbm _ _).view.set = GqC b := View.set_slice_whole _ _
omit [FloatOps F] in
theorem rslot_set (s : Fin 6) : (rslot s : Memref sig .tc .vmem _ _).view.set = S6L s := (View.set_reshape _ _).trans (View.set_slice_whole _ _)
omit [FloatOps F] in
theorem rslotC_set (s : Fin 6) : (rslotC s : Memref sig .tc .vmem _ _).view.set = S6C s := (View.set_reshape _ _).trans (View.set_slice_whole _ _)

theorem mem_Gq (q : Fin 2) (b : Fin 16) (y : S22016x8192.Idx) : y ∈ Gq q b ↔ (y 0).val / 7424 = q.val ∧ (y 1).val / 512 = b.val := by
  rw [Rect.mem_set_unit]
  have hq := q.isLt
  constructor
  · intro H
    have a0 : 7424 * q.val ≤ (y 0).val ∧ (y 0).val < 7424 * q.val + 7424 := H 0
    have a1 : 512 * b.val ≤ (y 1).val ∧ (y 1).val < 512 * b.val + 512 := H 1
    omega
  · intro H i; fin_cases i
    · show 7424 * q.val ≤ (y 0).val ∧ (y 0).val < 7424 * q.val + 7424; omega
    · show 512 * b.val ≤ (y 1).val ∧ (y 1).val < 512 * b.val + 512; omega
theorem mem_GqC (b : Fin 16) (y : S22016x8192.Idx) : y ∈ GqC b ↔ (y 0).val / 7424 = 2 ∧ (y 1).val / 512 = b.val := by
  rw [Rect.mem_set_unit]
  have h0 : (y 0).val < 22016 := (y 0).isLt
  constructor
  · intro H
    have a0 : 14848 ≤ (y 0).val ∧ (y 0).val < 14848 + 7168 := H 0
    have a1 : 512 * b.val ≤ (y 1).val ∧ (y 1).val < 512 * b.val + 512 := H 1
    omega
  · intro H i; fin_cases i
    · show 14848 ≤ (y 0).val ∧ (y 0).val < 14848 + 7168; omega
    · show 512 * b.val ≤ (y 1).val ∧ (y 1).val < 512 * b.val + 512; omega
theorem mem_P16 (b : Fin 16) (y : S22016x8192.Idx) : y ∈ P16 b ↔ (y 1).val / 512 = b.val := by
  have h0 : (y 0).val < 22016 := (y 0).isLt
  rw [Finset.mem_union, Finset.mem_union, mem_Gq, mem_Gq, mem_GqC]
  show (y 0).val / 7424 = 0 ∧ _ ∨ (y 0).val / 7424 = 1 ∧ _ ∨ _ ↔ _
  omega
theorem mem_S6L (s : Fin 6) (y : S6x8192x512.Idx) : y ∈ S6L s ↔ (y 0).val = s.val ∧ (y 1).val < 7424 := by
  rw [Rect.mem_set_unit]
  have h2 : (y 2).val < 512 := (y 2).isLt
  constructor
  · intro H
    have a0 : s.val ≤ (y 0).val ∧ (y 0).val < s.val + 1 := H 0
    have a1 : 0 ≤ (y 1).val ∧ (y 1).val < 0 + 7424 := H 1
    omega
  · intro H i; fin_cases i
    · show s.val ≤ (y 0).val ∧ (y 0).val < s.val + 1; omega
    · show 0 ≤ (y 1).val ∧ (y 1).val < 0 + 7424; omega
    · show 0 ≤ (y 2).val ∧ (y 2).val < 0 + 512; omega
theorem mem_S6C (s : Fin 6) (y : S6x8192x512.Idx) : y ∈ S6C s ↔ (y 0).val = s.val ∧ (y 1).val < 7168 := by
  rw [Rect.mem_set_unit]
  have h2 : (y 2).val < 512 := (y 2).isLt
  constructor
  · intro H
    have a0 : s.val ≤ (y 0).val ∧ (y 0).val < s.val + 1 := H 0
    have a1 : 0 ≤ (y 1).val ∧ (y 1).val < 0 + 7168 := H 1
    omega
  · intro H i; fin_cases i
    · show s.val ≤ (y 0).val ∧ (y 0).val < s.val + 1; omega
    · show 0 ≤ (y 1).val ∧ (y 1).val < 0 + 7168; omega
    · show 0 ≤ (y 2).val ∧ (y 2).val < 0 + 512; omega
theorem mem_Rest (y : S6x8192x512.Idx) : y ∈ Rest ↔ slotLen (y 0).val ≤ (y 1).val := by
  rw [Rest, Finset.mem_filter]; exact and_iff_right (Finset.mem_univ y)
/-- Which part of the ring an element is in. -/
def partOf (a b : ℕ) : ℕ := if slotLen a ≤ b then 6 else a
theorem part_long (a b j : ℕ) (ha : a < 6) (hj : j = 0 ∨ j = 2 ∨ j = 3 ∨ j = 5) : a = j ∧ b < 7424 ↔ partOf a b = j := by
  unfold partOf slotLen; split_ifs <;> omega
theorem part_short (a b j : ℕ) (ha : a < 6) (hj : j = 1 ∨ j = 4) : a = j ∧ b < 7168 ↔ partOf a b = j := by
  unfold partOf slotLen; split_ifs <;> omega
theorem part_rest (a b : ℕ) (ha : a < 6) : slotLen a ≤ b ↔ partOf a b = 6 := by
  unfold partOf; split_ifs <;> omega
theorem mem_R7 (j : Fin 7) (y : S6x8192x512.Idx) : y ∈ R7 j ↔ partOf (y 0).val (y 1).val = j.val := by
  have h0 : (y 0).val < 6 := (y 0).isLt
  fin_cases j
  · exact (mem_S6L 0 y).trans (part_long _ _ 0 h0 (by decide))
  · exact (mem_S6C 1 y).trans (part_short _ _ 1 h0 (by decide))
  · exact (mem_S6L 2 y).trans (part_long _ _ 2 h0 (by decide))
  · exact (mem_S6L 3 y).trans (part_long _ _ 3 h0 (by decide))
  · exact (mem_S6C 4 y).trans (part_short _ _ 4 h0 (by decide))
  · exact (mem_S6L 5 y).trans (part_long _ _ 5 h0 (by decide))
  · exact (mem_Rest y).trans (part_rest _ _ h0)
theorem P16_disjoint : ∀ j j' : Fin 16, j ≠ j' → Disjoint (P16 j) (P16 j') := by
  intro j j' hne; rw [Finset.disjoint_left]; intro y hy hy'; rw [mem_P16] at hy hy'
  exact hne (Fin.ext (hy.symm.trans hy'))
theorem P16_cover : (Finset.univ : Finset (Fin 16)).biUnion P16 = Finset.univ := by
  ext y; simp only [Finset.mem_biUnion, Finset.mem_univ, true_and, iff_true]
  have h1 : (y 1).val < 8192 := (y 1).isLt
  exact ⟨⟨(y 1).val / 512, by omega⟩, by rw [mem_P16]⟩
theorem G_disjoint (b : Fin 16) : Disjoint (Gq 0 b) (Gq 1 b ∪ GqC b) := by
  rw [Finset.disjoint_left]; intro y hy hy'; rw [mem_Gq] at hy; rw [Finset.mem_union, mem_Gq, mem_GqC] at hy'
  have h : (y 0).val / 7424 = 0 := hy.1
  rcases hy' with h' | h'
  · have e : (y 0).val / 7424 = 1 := h'.1; omega
  · have e := h'.1; omega
theorem G_disjointC (b : Fin 16) : Disjoint (Gq 1 b) (GqC b) := by
  rw [Finset.disjoint_left]; intro y hy hy'; rw [mem_Gq] at hy; rw [mem_GqC] at hy'
  have h : (y 0).val / 7424 = 1 := hy.1
  have e := hy'.1; omega
theorem R7_disjoint : ∀ s s' : Fin 7, s ≠ s' → Disjoint (R7 s) (R7 s') := by
  intro s s' hne; rw [Finset.disjoint_left]; intro y hy hy'; rw [mem_R7] at hy hy'; exact hne (Fin.ext (hy.symm.trans hy'))
theorem R7_cover : (Finset.univ : Finset (Fin 7)).biUnion R7 = Finset.univ := by
  ext y; simp only [Finset.mem_biUnion, Finset.mem_univ, true_and, iff_true]
  have h0 : (y 0).val < 6 := (y 0).isLt
  exact ⟨⟨partOf (y 0).val (y 1).val, by unfold partOf; split_ifs <;> omega⟩, by rw [mem_R7]⟩

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), (1 : Fin 7), (2 : Fin 7), (3 : Fin 7), (4 : Fin 7), (5 : Fin 7), (6 : Fin 7)] (by decide) (by decide) Φ

/-- The weight whole is its 16 column blocks in three parts each; -/
theorem w_eq (c : Dev nD) (XW : Buf (Elt F) (wM.view.loc (c : Thread nD τ))) :
    (((c : Thread nD τ).loc main_arg3) ↦{fullShare} XW : sProp 𝕄) = bigSep Finset.univ (tripleP c XW) := by
  rw [Ring.pointsTo_blocks (ℓ := (c : Thread nD τ).loc main_arg3) P16 P16_disjoint P16_cover]
  refine bigSep_congr fun j _ => ?_
  rw [tripleP, homeP, homeP, homeCP, grp_set, grp_set, grpC_set]
  refine (Entails.antisymm (pointsTo_union (ℓ := (c : Thread nD τ).loc main_arg3) (G_disjoint j)).1 (pointsTo_union (ℓ := (c : Thread nD τ).loc main_arg3) (G_disjoint j)).2).trans ?_
  exact congrArg (fun P : sProp 𝕄 => iprop(_ ∗ P)) (Entails.antisymm (pointsTo_union (ℓ := (c : Thread nD τ).loc main_arg3) (G_disjointC j)).1 (pointsTo_union (ℓ := (c : Thread nD τ).loc main_arg3) (G_disjointC j)).2)
/-- at the body's entry, the first two column blocks apart from the rest. -/
theorem homes_zero (c : Dev nD) (XW : Buf (Elt F) (wM.view.loc (c : Thread nD τ))) :
    bigSep Finset.univ (tripleP c XW) = iprop(tripleP c XW 0 ∗ tripleP c XW 1 ∗ bigSep (Ring.homeSet (NB := 16) 2 0) (tripleP c XW)) := by
  have e : (Finset.univ : Finset (Fin 16)) = insert 0 (insert 1 (Ring.homeSet (NB := 16) 2 0)) := by
    ext b; simp only [Finset.mem_univ, Finset.mem_insert, Ring.mem_homeSet, true_iff, Fin.ext_iff]; have := b.isLt
    show b.val = 0 ∨ b.val = 1 ∨ _; omega
  rw [e, bigSep_insert (by simp [Ring.mem_homeSet, Fin.ext_iff]), bigSep_insert (by simp [Ring.mem_homeSet])]; rfl

omit [FloatOps F] in
theorem slotP_eq (c : Dev nD) (s : Fin 6) (f) : slotP c s f = (((c : Thread nD τ).loc cc0_scratch0) ↦[S6L s]{fullShare} f : sProp 𝕄) :=
  congrArg (fun S => (_ ↦[S]{fullShare} f : sProp 𝕄)) (rslot_set s)
omit [FloatOps F] in
theorem slotCP_eq (c : Dev nD) (s : Fin 6) (f) : slotCP c s f = (((c : Thread nD τ).loc cc0_scratch0) ↦[S6C s]{fullShare} f : sProp 𝕄) :=
  congrArg (fun S => (_ ↦[S]{fullShare} f : sProp 𝕄)) (rslotC_set s)
/-- The part of the ring no transfer reaches, at anything. -/
abbrev restP (c : Dev nD) : sProp 𝕄 := iprop(∃ f : Buf (Elt F) ((c : Thread nD τ).loc cc0_scratch0), ((c : Thread nD τ).loc cc0_scratch0) ↦[Rest]{fullShare} f)
/-- The ring whole is its six slots and the rest, and back. -/
theorem ring_split (c : Dev nD) :
    iprop(∃ f : Buf (Elt F) ((c : Thread nD τ).loc cc0_scratch0), ((c : Thread nD τ).loc cc0_scratch0) ↦{fullShare} f) ⊢ (iprop(slotsP c ∗ restP c) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) R7 R7_disjoint R7_cover f).trans (bigSep_fin7 _))) $$ H
  icases H2 with ⟨H0, H1, H2, H3, H4, H5, H6⟩
  isplitl [H0 H1 H2 H3 H4 H5]
  · isplitl [H0]; · iexists f; iapply (entails_of_eq (slotP_eq c 0 f).symm); iexact H0
    isplitl [H1]; · iexists f; iapply (entails_of_eq (slotCP_eq c 1 f).symm); iexact H1
    isplitl [H2]; · iexists f; iapply (entails_of_eq (slotP_eq c 2 f).symm); iexact H2
    isplitl [H3]; · iexists f; iapply (entails_of_eq (slotP_eq c 3 f).symm); iexact H3
    isplitl [H4]; · iexists f; iapply (entails_of_eq (slotCP_eq c 4 f).symm); iexact H4
    iexists f; iapply (entails_of_eq (slotP_eq c 5 f).symm); iexact H5
  iexists f; iexact H6
theorem ring_join (c : Dev nD) :
    (iprop(slotsP c ∗ restP c) : sProp 𝕄) ⊢ iprop(∃ f : Buf (Elt F) ((c : Thread nD τ).loc cc0_scratch0), ((c : Thread nD τ).loc cc0_scratch0) ↦{fullShare} f) := by
  iintro ⟨⟨⟨%f0, H0⟩, ⟨%f1, H1⟩, ⟨%f2, H2⟩, ⟨%f3, H3⟩, ⟨%f4, H4⟩, ⟨%f5, H5⟩⟩, ⟨%f6, H6⟩⟩
  iapply (Ring.pointsTo_blocks_join_exists (ℓ := (c : Thread nD τ).loc cc0_scratch0) R7 R7_disjoint R7_cover f0)
  irw [bigSep_fin7]
  isplitl [H0]; · iexists f0; iapply (entails_of_eq (slotP_eq c 0 f0)); iexact H0
  isplitl [H1]; · iexists f1; iapply (entails_of_eq (slotCP_eq c 1 f1)); iexact H1
  isplitl [H2]; · iexists f2; iapply (entails_of_eq (slotP_eq c 2 f2)); iexact H2
  isplitl [H3]; · iexists f3; iapply (entails_of_eq (slotP_eq c 3 f3)); iexact H3
  isplitl [H4]; · iexists f4; iapply (entails_of_eq (slotCP_eq c 4 f4)); iexact H4
  isplitl [H5]; · iexists f5; iapply (entails_of_eq (slotP_eq c 5 f5)); iexact H5
  iexists f6; iexact H6

omit [FloatOps F] in
/-- The kernel's own cells at zero are the six slots' cells. -/
theorem ownSems0_eq (c : Dev nD) : (Pipeline.ownSems0 (Ix := Unit) (Name := ℕ) (U := UU nD τ) (Lvl := ℕ) (Val := Elt F) (τ := τ) osem c : sProp 𝕄)
    = cellsP (F := F) c := by
  unfold Pipeline.ownSems0; rw [bigSep_fin6]

theorem ssq_set : (ssqM : Memref sig .tc .vmem S192x128 .f32).view.set = Finset.univ := View.set_whole _
/-- The scratch of the sums of squares whole is its whole view, and back. -/
theorem ssq_in (c : Dev nD) :
    iprop(∃ f : Buf (Elt F) ((c : Thread nD τ).loc cc0_scratch1), ((c : Thread nD τ).loc cc0_scratch1) ↦{fullShare} f) ⊢ (ssqP c ssqM : sProp 𝕄) := by
  iintro ⟨%f, H⟩
  iexists f
  iapply (entails_of_eq (congrArg (fun S => (((c : Thread nD τ).loc cc0_scratch1) ↦[S]{fullShare} f : sProp 𝕄)) ssq_set.symm)); iexact H
theorem ssq_out (c : Dev nD) :
    (ssqP c ssqM : sProp 𝕄) ⊢ iprop(∃ f : Buf (Elt F) ((c : Thread nD τ).loc cc0_scratch1), ((c : Thread nD τ).loc cc0_scratch1) ↦{fullShare} f) := by
  iintro ⟨%f, H⟩
  iexists f
  iapply (entails_of_eq (congrArg (fun S => (((c : Thread nD τ).loc cc0_scratch1) ↦[S]{fullShare} f : sProp 𝕄)) ssq_set)); iexact H

/-! ## The pipeline's proof data -/

/-- The region invariant, the same before and after the one point: the weight's column blocks held, the six slots, the rest of the ring and the
    scratch of the sums of squares at anything, the six cells at zero. -/
def Φ (c : Dev nD) : sProp 𝕄 :=
  iprop(bigSep Finset.univ (tripleP c (XWof m c)) ∗ slotsP c ∗ restP c ∗ ssqP c ssqM ∗ cellsP (F := F) c)

abbrev st0 (t : Fin cfg0.N) : Memref sig .tc .vmem S192x22016 .fp8e4m3 := win0_0.stage (cfg0.slots t 0)
abbrev st1 (t : Fin cfg0.N) : Memref sig .tc .vmem S192x128 .f32 := win0_1.stage (cfg0.slots t 1)
abbrev st2 (t : Fin cfg0.N) : Memref sig .tc .vmem S64x128 .f32 := win0_2.stage (cfg0.slots t 2)
abbrev st3 (t : Fin cfg0.N) : Memref sig .tc .vmem S12288x128 .f32 := win0_3.stage (cfg0.slots t 3)
abbrev st4 (t : Fin cfg0.N) : Memref sig .tc .vmem S3x63x8192 .bf16 := win0_4.stage (cfg0.slots t 4)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0
abbrev hst4 (t : Fin cfg0.N) : (st4 t).IsWhole := hstage0_4 0

/-- The four inputs' staging buffers, holding their blocks. -/
abbrev in0 (c : Dev nD) (t : Fin cfg0.N) := (st0 t).view.rep (Val := Elt F) (iblk m c 0 t)
abbrev in1 (c : Dev nD) (t : Fin cfg0.N) := (st1 t).view.rep (Val := Elt F) (iblk m c 1 t)
abbrev in2 (c : Dev nD) (t : Fin cfg0.N) := (st2 t).view.rep (Val := Elt F) (iblk m c 2 t)
abbrev in3 (c : Dev nD) (t : Fin cfg0.N) := (st3 t).view.rep (Val := Elt F) (iblk m c 3 t)

/-- What the body leaves in the result's block. -/
def outAt (c : Dev nD) (t : Fin cfg0.N) : (cfg0.win 4).block.Idx → Elt F (cfg0.win 4).elt :=
  outVal c (XWof m c) (st0 t) (st1 t) (st2 t) (st3 t) (in0 m c t) (in1 m c t) (in2 m c t) (in3 m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0 t) (hst0 t) (st1 t) (hst1 t) (st2 t) (hst2 t) (st3 t) (hst3 t) (st4 t) (hst4 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, HS, HE, HM, HC⟩, ⟨%W, -, HW⟩, ⟨%d0, %g0, %hg0, H0⟩, ⟨%d1, %g1, %hg1, H1⟩, ⟨%d2, %g2, %hg2, H2⟩, ⟨%d3, %g3, %hg3, H3⟩, ⟨%d4, %gO, -, HO⟩⟩
  ihave Hh3 := (entails_of_eq (homes_zero c (XWof m c))) $$ Hh
  icases Hh3 with ⟨Hg0, Hg1, HR⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  rw [hg0, hg1, hg2, hg3]
  sl_rw [prog_eq t]
  iapply (bodyRun c (XWof m c) (st0 t) (hst0 t) (st1 t) (hst1 t) (st2 t) (hst2 t) (st3 t) (hst3 t) (st4 t) (hst4 t) (in0 m c t) (in1 m c t) (in2 m c t) (in3 m c t) gO W)
  isplitl [H0' H1' H2' H3' HO HM Hg0 Hg1 HR HS HC HW]
  · isplitl [H0' H1' H2' H3']
    · isplitl [H0']; · iexact H0'
      isplitl [H1']; · iexact H1'
      isplitl [H2']; · iexact H2'
      iexact H3'
    isplitl [HO]; · iexact HO
    isplitl [HM]; · iexact HM
    isplitl [Hg0 Hg1 HR]
    · isplitl [Hg0]; · iexact Hg0
      isplitl [Hg1]; · iexact Hg1
      iexact HR
    isplitl [HS]; · iexact HS
    isplitl [HC]; · iexact HC
    iexact HW
  · iintro ⟨⟨H0, H1, H2, H3⟩, HO, HM, Hh, HS, HC, ⟨%W', HW⟩⟩
    isplitl [Hh HS HE HM HC]
    · isplitl [Hh]; · iexact Hh
      isplitl [HS]; · iexact HS
      isplitl [HE]; · iexact HE
      isplitl [HM]; · iexact HM
      iexact HC
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr
    · ipureintro; exact read_outOf c (XWof m c) (st0 t) (st1 t) (st2 t) (st3 t) (st4 t) (in0 m c t) (in1 m c t) (in2 m c t) (in3 m c t) gO
    iexact HO

/-! ## The run -/

def intoΦ (c : Dev nD) : sProp 𝕄 := iprop(bigSep Finset.univ (tripleP c (XWof m c)) ∗ Pipeline.ownSems0 osem c)
/-- The arguments no window stages, unchanged. -/
abbrev argP (c : Dev nD) (b : Ref sig .tc) : sProp 𝕄 := ((c : Thread nD τ).loc b) ↦{fullShare} m ((c : Thread nD τ).loc b)
def outOfΦ (c : Dev nD) : sProp 𝕄 := argP m c main_arg3
def keptZ (c : Dev nD) : sProp 𝕄 := iprop(argP m c main_arg1 ∗ argP m c main_arg2 ∗ argP m c main_arg4)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- At the compiled mesh, for any float values, from any memory with zero counters: every weakly fair execution of
    @main on the TensorCores terminates, and every final state has the windows' arrays at the computed contents, the
    other arguments unchanged, every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := outOfΦ m) (Z := keptZ m)
    (hX := fun c => by
      rw [unscopedRest0_eq, V_main_arg1, V_main_arg2, V_main_arg3, V_main_arg4, w_eq c (XWof m c)]
      unfold intoΦ keptZ
      iintro ⟨⟨H1, H2, H3, H4, -⟩, HS, -, -⟩; imodintro
      isplitl [H3 HS]
      · isplitl [H3]; · iexact H3
        iexact HS
      isplitl [H1]; · iexact H1
      isplitl [H2]; · iexact H2
      iexact H4)
    (hin := fun c => by
      rw [scopedRest0_eq, show (dats m 0 c).Φ 0 = Φ m c from rfl]
      unfold intoΦ Φ; rw [ownSems0_eq]
      iintro ⟨⟨H0, HC⟩, Hb, Hm⟩
      ihave Hs2 := (ring_split c) $$ Hb
      icases Hs2 with ⟨Hs, He⟩
      isplitl [H0]; · iexact H0
      isplitl [Hs]; · iexact Hs
      isplitl [He]; · iexact He
      isplitl [Hm]
      · iapply (ssq_in c); iexact Hm
      iexact HC)
    (hout := fun c => by
      rw [scopedRest0_eq, show (dats m 0 c).Φ (Fin.last cfg0.N) = Φ m c from rfl, ownSems0_eq]
      unfold Φ outOfΦ argP; rw [w_eq c (XWof m c)]
      iintro ⟨H0, HS, HE, HM, HC⟩
      isplitl [H0]; · iexact H0
      isplitl [HC]; · iexact HC
      isplitl [HS HE]
      · iapply (ring_join c)
        isplitl [HS]; · iexact HS
        iexact HE
      iapply (ssq_out c); iexact HM)
    (QY := QY m)
    (hY := fun c s' => by
      unfold outOfΦ keptZ argP QY
      iintro ⟨H3, ⟨H1, H2, H4⟩, HSI⟩
      icombine HSI H1 gives %h1
      icombine HSI H2 gives %h2
      icombine HSI H3 gives %h3
      icombine HSI H4 gives %h4
      imodintro
      isplitr
      · ipureintro; exact ⟨Buf.eq_of_forall_mem_univ h1, Buf.eq_of_forall_mem_univ h2, Buf.eq_of_forall_mem_univ h3, Buf.eq_of_forall_mem_univ h4⟩
      iexact HSI)
    (hQ := fun _ hh hz => ⟨hh, hz⟩)

theorem finalA_in0 (c : Dev nD) : finalA m c 0 = m ((c : Thread nD τ).loc main_arg0) :=
  ((dats (F := F) m 0 c).arrAt_in 0 rfl _).trans (V_main_arg0 m c)

end Cert.Proof.MlpDownIdeal
end
-- ==== Proof.MlpDown.Names.lean ====
/-
  The down kernel's names. The kernel streams the weight (22016 rows, 8192 columns) through a ring of six slots: trip `t`
  of its 16 uses column block `t` (512 columns) in three parts, of 7424, 7424 and 7168 rows, in slots `3t + 2`, `3t + 3`
  and `3t + 4` modulo six, each slot with a DMA semaphore of its own. Here: the parts, the slots and the semaphores under
  one name each, the offsets the kernel computes for them in closed form, and the pieces the proof moves about: a part
  of the weight held, a slot held, a slot with a transfer under way.
-/
module

public import proofs.«01_k».proof.Proof.MlpDownIdeal.Launch
public import proofs.«01_k».proof.Defs
public import proofs.«01_k».proof.Proof.Gen.Down.Launch
public import proofs.«01_k».proof.Proof.Gen.Down.Skeleton
public import proofs.«01_k».proof.Proof.Gen.Down.Loops
public import proofs.«01_k».proof.Proof.Gen.Down.Points
public import proofs.«01_k».proof.Proof.Gen.Down.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.MlpDown

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Parts of the weight, slots, semaphores -/

abbrev wM : Memref sig .tc .hbm S22016x8192 .fp8e4m3 := Memref.whole main_arg3
abbrev ringM : Memref sig .tc .vmem S6x8192x512 .fp8e4m3 := Memref.whole cc0_scratch0
abbrev ssqM : Memref sig .tc .vmem S192x128 .f32 := Memref.whole cc0_scratch1

abbrev grpOff (q : Fin 2) (b : Fin 16) : Fin 2 → Nat := ![7424 * q.val, 512 * b.val]
theorem grpOff_inb (q : Fin 2) (b : Fin 16) : ∀ a, grpOff q b a + S7424x512.size a ≤ S22016x8192.size a := by
  have := b.isLt; have := q.isLt; intro a; fin_cases a
  · show 7424 * q.val + 7424 ≤ 22016; omega
  · show 512 * b.val + 512 ≤ 8192; omega
abbrev grpOffC (b : Fin 16) : Fin 2 → Nat := ![14848, 512 * b.val]
theorem grpOffC_inb (b : Fin 16) : ∀ a, grpOffC b a + S7168x512.size a ≤ S22016x8192.size a := by
  have := b.isLt; intro a; fin_cases a
  · show 14848 + 7168 ≤ 22016; omega
  · show 512 * b.val + 512 ≤ 8192; omega
abbrev slotOff (s : Fin 6) : Fin 3 → Nat := ![s.val, 0, 0]
theorem slotOff_inb (s : Fin 6) : ∀ a, slotOff s a + S1x7424x512.size a ≤ S6x8192x512.size a := by
  have := s.isLt; intro a; fin_cases a
  · show s.val + 1 ≤ 6; omega
  · show 0 + 7424 ≤ 8192; omega
  · show 0 + 512 ≤ 512; omega
theorem slotOffC_inb (s : Fin 6) : ∀ a, slotOff s a + S1x7168x512.size a ≤ S6x8192x512.size a := by
  have := s.isLt; intro a; fin_cases a
  · show s.val + 1 ≤ 6; omega
  · show 0 + 7168 ≤ 8192; omega
  · show 0 + 512 ≤ 512; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- The first or second part of column block `b` of the weight; -/
def grp (q : Fin 2) (b : Fin 16) : Memref sig .tc .hbm S7424x512 .fp8e4m3 :=
  wM.slice (Rect.unit (s := S22016x8192) (grpOff q b) S7424x512.size (grpOff_inb q b)) (fun _ => rfl)
/-- its third. -/
def grpC (b : Fin 16) : Memref sig .tc .hbm S7168x512 .fp8e4m3 :=
  wM.slice (Rect.unit (s := S22016x8192) (grpOffC b) S7168x512.size (grpOffC_inb b)) (fun _ => rfl)
/-- The first 7424 rows of slot `s` of the ring; -/
def rslot (s : Fin 6) : Memref sig .tc .vmem S7424x512 .fp8e4m3 :=
  (ringM.slice (Rect.unit (s := S6x8192x512) (slotOff s) S1x7424x512.size (slotOff_inb s)) (fun _ => rfl)).squeeze S7424x512 squeezes_S1x7424x512_S7424x512
/-- its first 7168. -/
def rslotC (s : Fin 6) : Memref sig .tc .vmem S7168x512 .fp8e4m3 :=
  (ringM.slice (Rect.unit (s := S6x8192x512) (slotOff s) S1x7168x512.size (slotOffC_inb s)) (fun _ => rfl)).squeeze S7168x512 squeezes_S1x7168x512_S7168x512
/-- Slot `s`'s DMA semaphore. -/
def csm (s : Fin 6) : DmaSems sig S_ := (cc0_scratch2.slice (Rect.unit (s := S6) (semOff s) S1.size (semOff_inb s))).squeeze S_ squeezes_S1_S_

instance (s : Fin 6) : ClosedOff (slotOff s) := ⟨slotOff s, rfl⟩
instance (q : Fin 2) (b : Fin 16) : ClosedOff (grpOff q b) := ⟨grpOff q b, rfl⟩
instance (b : Fin 16) : ClosedOff (grpOffC b) := ⟨grpOffC b, rfl⟩

/-- Trip `t`'s three slots. -/
abbrev sA (t : ℕ) : Fin 6 := Ring.sl 6 (3 * t + 2)
abbrev sB (t : ℕ) : Fin 6 := Ring.sl 6 (3 * t + 3)
abbrev sC (t : ℕ) : Fin 6 := Ring.sl 6 (3 * t + 4)
/-- Trip `t`'s column block. -/
abbrev cb (t : ℕ) : Fin 16 := Ring.bk 16 t

/-! ## The computed offsets in closed form -/

theorem off3_sA (k : Fin k0_t1_loop.trips) : k0_off3 k = semOff (sA (k.val + 1)) := by
  rw [k0_off3_eq, semOff]; simp only [sA, Ring.sl, Fin.ofNat]; congr 1; omega
theorem off4_sA (k : Fin k0_t1_loop.trips) : k0_off4 k = slotOff (sA (k.val + 1)) := by
  rw [k0_off4_eq, slotOff]; simp only [sA, Ring.sl, Fin.ofNat]; congr 1; omega
theorem off9_sB (k : Fin k0_t1_loop.trips) : k0_off9 k = semOff (sB (k.val + 1)) := by
  rw [k0_off9_eq, semOff]; simp only [sB, Ring.sl, Fin.ofNat]; congr 1; omega
theorem off10_sB (k : Fin k0_t1_loop.trips) : k0_off10 k = slotOff (sB (k.val + 1)) := by
  rw [k0_off10_eq, slotOff]; simp only [sB, Ring.sl, Fin.ofNat]; congr 1; omega
theorem off18_sC (k : Fin k0_t1_loop.trips) : k0_off18 k = semOff (sC (k.val + 1)) := by
  rw [k0_off18_eq, semOff]; simp only [sC, Ring.sl, Fin.ofNat]; congr 1; omega
theorem off19_sC (k : Fin k0_t1_loop.trips) : k0_off19 k = slotOff (sC (k.val + 1)) := by
  rw [k0_off19_eq, slotOff]; simp only [sC, Ring.sl, Fin.ofNat]; congr 1; omega
theorem off25_sC (k : Fin k0_t1_loop.trips) : k0_off25 k = slotOff (sC k.val) := by
  rw [k0_off25_eq, slotOff]; simp only [sC, Ring.sl, Fin.ofNat]; congr 1; omega
theorem off27_sC (k : Fin k0_t1_loop.trips) : k0_off27 k = slotOff (sC k.val) := by
  rw [k0_off27_eq, slotOff]; simp only [sC, Ring.sl, Fin.ofNat]; congr 1; omega
theorem off21_sA (k : Fin k0_t1_loop.trips) : k0_off21 k 0#32 = semOff (sA k.val) := by
  rw [show (0#32 : BitVec 32) = BitVec.ofNat 32 (0 : Fin 3).val from rfl, k0_off21_eq, semOff]; simp only [sA, Ring.sl, Fin.ofNat]; congr 1; simp; omega
theorem off21_sB (k : Fin k0_t1_loop.trips) : k0_off21 k 1#32 = semOff (sB k.val) := by
  rw [show (1#32 : BitVec 32) = BitVec.ofNat 32 (1 : Fin 3).val from rfl, k0_off21_eq, semOff]; simp only [sB, Ring.sl, Fin.ofNat]; congr 1; simp; omega
theorem off21_sC (k : Fin k0_t1_loop.trips) : k0_off21 k 2#32 = semOff (sC k.val) := by
  rw [show (2#32 : BitVec 32) = BitVec.ofNat 32 (2 : Fin 3).val from rfl, k0_off21_eq, semOff]; simp only [sC, Ring.sl, Fin.ofNat]; congr 1; simp; omega
theorem off22_sA (k : Fin k0_t1_loop.trips) : k0_off22 k 0#32 = slotOff (sA k.val) := by
  rw [show (0#32 : BitVec 32) = BitVec.ofNat 32 (0 : Fin 2).val from rfl, k0_off22_eq, slotOff]; simp only [sA, Ring.sl, Fin.ofNat]; congr 1; simp; omega
theorem off22_sB (k : Fin k0_t1_loop.trips) : k0_off22 k 1#32 = slotOff (sB k.val) := by
  rw [show (1#32 : BitVec 32) = BitVec.ofNat 32 (1 : Fin 2).val from rfl, k0_off22_eq, slotOff]; simp only [sB, Ring.sl, Fin.ofNat]; congr 1; simp; omega
theorem off24_sA (k : Fin k0_t1_loop.trips) : k0_off24 k 0#32 = slotOff (sA k.val) := by
  rw [show (0#32 : BitVec 32) = BitVec.ofNat 32 (0 : Fin 2).val from rfl, k0_off24_eq, slotOff]; simp only [sA, Ring.sl, Fin.ofNat]; congr 1; simp; omega
theorem off24_sB (k : Fin k0_t1_loop.trips) : k0_off24 k 1#32 = slotOff (sB k.val) := by
  rw [show (1#32 : BitVec 32) = BitVec.ofNat 32 (1 : Fin 2).val from rfl, k0_off24_eq, slotOff]; simp only [sB, Ring.sl, Fin.ofNat]; congr 1; simp; omega

theorem off5_cb : ∀ k : Fin k0_t1_loop.trips, k.val ≤ 14 → k0_off5 k = grpOff 0 (cb (k.val + 1)) := by decide +kernel
theorem off11_cb : ∀ k : Fin k0_t1_loop.trips, k.val ≤ 14 → k0_off11 k = grpOff 1 (cb (k.val + 1)) := by decide +kernel
theorem off20_cb : ∀ k : Fin k0_t1_loop.trips, k.val ≤ 14 → k0_off20 k = grpOffC (cb (k.val + 1)) := by decide +kernel
theorem off23_cbA : ∀ k : Fin k0_t1_loop.trips, k0_off23 k 0#32 = grpOff 0 (cb k.val) := by decide +kernel
theorem off23_cbB : ∀ k : Fin k0_t1_loop.trips, k0_off23 k 1#32 = grpOff 1 (cb k.val) := by decide +kernel
theorem off26_cb : ∀ k : Fin k0_t1_loop.trips, k0_off26 k = grpOffC (cb k.val) := by decide +kernel

theorem trips_eq : k0_t1_loop.trips = 16 := by decide +kernel
theorem cond1_zero : ∀ k : Fin k0_t1_loop.trips, k.val = 0 → ¬ k0_cond1 k = 1#1 := by decide +kernel
theorem cond1_pos : ∀ k : Fin k0_t1_loop.trips, k.val ≠ 0 → k0_cond1 k = 1#1 := by decide +kernel
theorem cond_low : ∀ k : Fin k0_t1_loop.trips, k.val ≤ 14 → k0_cond2 k = 1#1 ∧ k0_cond4 k = 1#1 ∧ k0_cond7 k = 1#1 := by decide +kernel
theorem cond_high : ∀ k : Fin k0_t1_loop.trips, 14 < k.val → ¬ k0_cond2 k = 1#1 ∧ ¬ k0_cond4 k = 1#1 ∧ ¬ k0_cond7 k = 1#1 := by decide +kernel
theorem cond_never : ∀ k : Fin k0_t1_loop.trips, ¬ k0_cond3 k = 1#1 ∧ ¬ k0_cond5 k = 1#1 ∧ ¬ k0_cond6 k = 1#1 := by decide +kernel
theorem cond_last : ¬ k0_cond8 = 1#1 ∧ ¬ k0_cond9 = 1#1 ∧ ¬ k0_cond10 = 1#1 ∧ ¬ k0_cond11 = 1#1 ∧ ¬ k0_cond12 = 1#1 ∧ ¬ k0_cond13 = 1#1 := by decide +kernel

/-- The loop's windows of the ring, at trip `k`. -/
instance (priority := high) closedA (k : Fin k0_t1_loop.trips) : ClosedOff (k0_off24 k 0#32) := ⟨slotOff (sA k.val), off24_sA k⟩
instance (priority := high) closedB (k : Fin k0_t1_loop.trips) : ClosedOff (k0_off24 k 1#32) := ⟨slotOff (sB k.val), off24_sB k⟩
instance (priority := high) closedC (k : Fin k0_t1_loop.trips) : ClosedOff (k0_off27 k) := ⟨slotOff (sC k.val), off27_sC k⟩

/-! ## The kernel's slices are these names -/

theorem csm_congr {off : Fin 1 → Nat} {s : Fin 6} (e : off = semOff s) (hh) :
    (cc0_scratch2.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (ringM.slice (Rect.unit (s := S6x8192x512) off S1x7424x512.size hh) hs).squeeze S7424x512 squeezes_S1x7424x512_S7424x512 = rslot s :=
  congrArg (fun M : Memref sig .tc .vmem S1x7424x512 .fp8e4m3 => M.squeeze S7424x512 squeezes_S1x7424x512_S7424x512) (Memref.slice_unit_congr _ e _ _ _ _)
theorem rslotC_congr {off : Fin 3 → Nat} {s : Fin 6} (e : off = slotOff s) (hh hs) :
    (ringM.slice (Rect.unit (s := S6x8192x512) off S1x7168x512.size hh) hs).squeeze S7168x512 squeezes_S1x7168x512_S7168x512 = rslotC s :=
  congrArg (fun M : Memref sig .tc .vmem S1x7168x512 .fp8e4m3 => M.squeeze S7168x512 squeezes_S1x7168x512_S7168x512) (Memref.slice_unit_congr _ e _ _ _ _)
theorem grp_congr {off : Fin 2 → Nat} {q : Fin 2} {b : Fin 16} (e : off = grpOff q b) (hh hs) :
    wM.slice (Rect.unit (s := S22016x8192) off S7424x512.size hh) hs = grp q b :=
  Memref.slice_unit_congr _ e _ _ _ (fun _ => rfl)
theorem grpC_congr {off : Fin 2 → Nat} {b : Fin 16} (e : off = grpOffC b) (hh hs) :
    wM.slice (Rect.unit (s := S22016x8192) off S7168x512.size hh) hs = grpC b :=
  Memref.slice_unit_congr _ e _ _ _ (fun _ => rfl)

section Canon
variable (k : Fin k0_t1_loop.trips)

@[sl_canon] theorem semL0 (hh) : (cc0_scratch2.slice (Rect.unit (s := S6) ![0] S1.size hh)).squeeze S_ squeezes_S1_S_ = csm 0 := csm_congr (by decide) _
@[sl_canon] theorem semL1 (hh) : (cc0_scratch2.slice (Rect.unit (s := S6) ![1] S1.size hh)).squeeze S_ squeezes_S1_S_ = csm 1 := csm_congr (by decide) _
@[sl_canon] theorem semL2 (hh) : (cc0_scratch2.slice (Rect.unit (s := S6) ![2] S1.size hh)).squeeze S_ squeezes_S1_S_ = csm 2 := csm_congr (by decide) _
@[sl_canon] theorem semL3 (hh) : (cc0_scratch2.slice (Rect.unit (s := S6) ![3] S1.size hh)).squeeze S_ squeezes_S1_S_ = csm 3 := csm_congr (by decide) _
@[sl_canon] theorem semL4 (hh) : (cc0_scratch2.slice (Rect.unit (s := S6) ![4] S1.size hh)).squeeze S_ squeezes_S1_S_ = csm 4 := csm_congr (by decide) _
@[sl_canon] theorem semL5 (hh) : (cc0_scratch2.slice (Rect.unit (s := S6) ![5] S1.size hh)).squeeze S_ squeezes_S1_S_ = csm 5 := csm_congr (by decide) _
@[sl_canon] theorem slotL2 (hh hs) : (ringM.slice (Rect.unit (s := S6x8192x512) ![2, 0, 0] S1x7424x512.size hh) hs).squeeze S7424x512 squeezes_S1x7424x512_S7424x512 = rslot 2 := rslot_congr (by decide) _ _
@[sl_canon] theorem slotL3 (hh hs) : (ringM.slice (Rect.unit (s := S6x8192x512) ![3, 0, 0] S1x7424x512.size hh) hs).squeeze S7424x512 squeezes_S1x7424x512_S7424x512 = rslot 3 := rslot_congr (by decide) _ _
@[sl_canon] theorem slotL5 (hh hs) : (ringM.slice (Rect.unit (s := S6x8192x512) ![5, 0, 0] S1x7424x512.size hh) hs).squeeze S7424x512 squeezes_S1x7424x512_S7424x512 = rslot 5 := rslot_congr (by decide) _ _
@[sl_canon] theorem slotL0 (hh hs) : (ringM.slice (Rect.unit (s := S6x8192x512) ![0, 0, 0] S1x7424x512.size hh) hs).squeeze S7424x512 squeezes_S1x7424x512_S7424x512 = rslot 0 := rslot_congr (by decide) _ _
@[sl_canon] theorem slotL1 (hh hs) : (ringM.slice (Rect.unit (s := S6x8192x512) ![1, 0, 0] S1x7168x512.size hh) hs).squeeze S7168x512 squeezes_S1x7168x512_S7168x512 = rslotC 1 := rslotC_congr (by decide) _ _
@[sl_canon] theorem slotL4 (hh hs) : (ringM.slice (Rect.unit (s := S6x8192x512) ![4, 0, 0] S1x7168x512.size hh) hs).squeeze S7168x512 squeezes_S1x7168x512_S7168x512 = rslotC 4 := rslotC_congr (by decide) _ _
@[sl_canon] theorem grpL0 (hh hs) : wM.slice (Rect.unit (s := S22016x8192) (k0_off1 0#32 0#32) S7424x512.size hh) hs = grp 0 0 := grp_congr (by decide +kernel) _ _
@[sl_canon] theorem grpL1 (hh hs) : wM.slice (Rect.unit (s := S22016x8192) (k0_off1 1#32 1#32) S7424x512.size hh) hs = grp 1 0 := grp_congr (by decide +kernel) _ _
@[sl_canon] theorem grpL3 (hh hs) : wM.slice (Rect.unit (s := S22016x8192) (k0_off1 3#32 3#32) S7424x512.size hh) hs = grp 0 1 := grp_congr (by decide +kernel) _ _
@[sl_canon] theorem grpL4 (hh hs) : wM.slice (Rect.unit (s := S22016x8192) (k0_off1 4#32 4#32) S7424x512.size hh) hs = grp 1 1 := grp_congr (by decide +kernel) _ _
@[sl_canon] theorem grpL2 (hh hs) : wM.slice (Rect.unit (s := S22016x8192) (k0_off2 2#32 2#32) S7168x512.size hh) hs = grpC 0 := grpC_congr (by decide +kernel) _ _
@[sl_canon] theorem grpL5 (hh hs) : wM.slice (Rect.unit (s := S22016x8192) (k0_off2 5#32 5#32) S7168x512.size hh) hs = grpC 1 := grpC_congr (by decide +kernel) _ _

@[sl_canon] theorem semIA (hh) : (cc0_scratch2.slice (Rect.unit (s := S6) (k0_off3 k) S1.size hh)).squeeze S_ squeezes_S1_S_ = csm (sA (k.val + 1)) := csm_congr (off3_sA k) _
@[sl_canon] theorem slotIA (hh hs) : (ringM.slice (Rect.unit (s := S6x8192x512) (k0_off4 k) S1x7424x512.size hh) hs).squeeze S7424x512 squeezes_S1x7424x512_S7424x512 = rslot (sA (k.val + 1)) := rslot_congr (off4_sA k) _ _
@[sl_canon] theorem grpIA (hk : k.val ≤ 14) (hh hs) : wM.slice (Rect.unit (s := S22016x8192) (k0_off5 k) S7424x512.size hh) hs = grp 0 (cb (k.val + 1)) := grp_congr (off5_cb k hk) _ _
@[sl_canon] theorem semIB (hh) : (cc0_scratch2.slice (Rect.unit (s := S6) (k0_off9 k) S1.size hh)).squeeze S_ squeezes_S1_S_ = csm (sB (k.val + 1)) := csm_congr (off9_sB k) _
@[sl_canon] theorem slotIB (hh hs) : (ringM.slice (Rect.unit (s := S6x8192x512) (k0_off10 k) S1x7424x512.size hh) hs).squeeze S7424x512 squeezes_S1x7424x512_S7424x512 = rslot (sB (k.val + 1)) := rslot_congr (off10_sB k) _ _
@[sl_canon] theorem grpIB (hk : k.val ≤ 14) (hh hs) : wM.slice (Rect.unit (s := S22016x8192) (k0_off11 k) S7424x512.size hh) hs = grp 1 (cb (k.val + 1)) := grp_congr (off11_cb k hk) _ _
@[sl_canon] theorem semIC (hh) : (cc0_scratch2.slice (Rect.unit (s := S6) (k0_off18 k) S1.size hh)).squeeze S_ squeezes_S1_S_ = csm (sC (k.val + 1)) := csm_congr (off18_sC k) _
@[sl_canon] theorem slotIC (hh hs) : (ringM.slice (Rect.unit (s := S6x8192x512) (k0_off19 k) S1x7168x512.size hh) hs).squeeze S7168x512 squeezes_S1x7168x512_S7168x512 = rslotC (sC (k.val + 1)) := rslotC_congr (off19_sC k) _ _
@[sl_canon] theorem grpIC (hk : k.val ≤ 14) (hh hs) : wM.slice (Rect.unit (s := S22016x8192) (k0_off20 k) S7168x512.size hh) hs = grpC (cb (k.val + 1)) := grpC_congr (off20_cb k hk) _ _
@[sl_canon] theorem semWA (hh) : (cc0_scratch2.slice (Rect.unit (s := S6) (k0_off21 k 0#32) S1.size hh)).squeeze S_ squeezes_S1_S_ = csm (sA k.val) := csm_congr (off21_sA k) _
@[sl_canon] theorem slotWA (hh hs) : (ringM.slice (Rect.unit (s := S6x8192x512) (k0_off22 k 0#32) S1x7424x512.size hh) hs).squeeze S7424x512 squeezes_S1x7424x512_S7424x512 = rslot (sA k.val) := rslot_congr (off22_sA k) _ _
@[sl_canon] theorem grpWA (hh hs) : wM.slice (Rect.unit (s := S22016x8192) (k0_off23 k 0#32) S7424x512.size hh) hs = grp 0 (cb k.val) := grp_congr (off23_cbA k) _ _
@[sl_canon] theorem semWB (hh) : (cc0_scratch2.slice (Rect.unit (s := S6) (k0_off21 k 1#32) S1.size hh)).squeeze S_ squeezes_S1_S_ = csm (sB k.val) := csm_congr (off21_sB k) _
@[sl_canon] theorem slotWB (hh hs) : (ringM.slice (Rect.unit (s := S6x8192x512) (k0_off22 k 1#32) S1x7424x512.size hh) hs).squeeze S7424x512 squeezes_S1x7424x512_S7424x512 = rslot (sB k.val) := rslot_congr (off22_sB k) _ _
@[sl_canon] theorem grpWB (hh hs) : wM.slice (Rect.unit (s := S22016x8192) (k0_off23 k 1#32) S7424x512.size hh) hs = grp 1 (cb k.val) := grp_congr (off23_cbB k) _ _
@[sl_canon] theorem semWC (hh) : (cc0_scratch2.slice (Rect.unit (s := S6) (k0_off21 k 2#32) S1.size hh)).squeeze S_ squeezes_S1_S_ = csm (sC k.val) := csm_congr (off21_sC k) _
@[sl_canon] theorem slotWC (hh hs) : (ringM.slice (Rect.unit (s := S6x8192x512) (k0_off25 k) S1x7168x512.size hh) hs).squeeze S7168x512 squeezes_S1x7168x512_S7168x512 = rslotC (sC k.val) := rslotC_congr (off25_sC k) _ _
@[sl_canon] theorem grpWC (hh hs) : wM.slice (Rect.unit (s := S22016x8192) (k0_off26 k) S7168x512.size hh) hs = grpC (cb k.val) := grpC_congr (off26_cb k) _ _

end Canon

/-! ## The pieces -/

section Pieces
variable (c : Dev nD) (XW : Buf (Elt F) (wM.view.loc (c : Thread nD τ)))

/-- Slot `s`'s semaphore at zero. -/
abbrev cellP (s : Fin 6) : sProp 𝕄 := semVal ((c : Thread nD τ), SemLoc.dma (csm s).sem) 0
/-- Slot `s` held at contents `f`, as far as a long part reaches; -/
abbrev slotP (s : Fin 6) (f : Buf (Elt F) ((rslot s).view.loc (c : Thread nD τ))) : sProp 𝕄 :=
  (rslot s).view.loc (c : Thread nD τ) ↦[(rslot s).view.set]{fullShare} f
/-- as far as a short one does. -/
abbrev slotCP (s : Fin 6) (f : Buf (Elt F) ((rslotC s).view.loc (c : Thread nD τ))) : sProp 𝕄 :=
  (rslotC s).view.loc (c : Thread nD τ) ↦[(rslotC s).view.set]{fullShare} f
/-- Part `q` of column block `b` held, at the weight's contents. -/
abbrev homeP (q : Fin 2) (b : Fin 16) : sProp 𝕄 := (grp q b).view.loc (c : Thread nD τ) ↦[(grp q b).view.set]{fullShare} XW
abbrev homeCP (b : Fin 16) : sProp 𝕄 := (grpC b).view.loc (c : Thread nD τ) ↦[(grpC b).view.set]{fullShare} XW
/-- What a part's transfer leaves in slot `s`. -/
abbrev landed (s : Fin 6) (q : Fin 2) (b : Fin 16) (f : Buf (Elt F) ((rslot s).view.loc (c : Thread nD τ))) : Buf (Elt F) ((rslot s).view.loc (c : Thread nD τ)) :=
  (rslot s).view.writes (Elt F) f [⟨Rect.whole S7424x512, ReadAs.same.apply ((grp q b).view.read (Elt F) XW)⟩]
abbrev landedC (s : Fin 6) (b : Fin 16) (f : Buf (Elt F) ((rslotC s).view.loc (c : Thread nD τ))) : Buf (Elt F) ((rslotC s).view.loc (c : Thread nD τ)) :=
  (rslotC s).view.writes (Elt F) f [⟨Rect.whole S7168x512, ReadAs.same.apply ((grpC b).view.read (Elt F) XW)⟩]
/-- Slot `s` with a part's transfer under way, issued over contents `f`. -/
abbrev flightP (s : Fin 6) (q : Fin 2) (b : Fin 16) (f : Buf (Elt F) ((rslot s).view.loc (c : Thread nD τ))) : sProp 𝕄 :=
  Transfers.Flight countersEmb (c : Thread nD τ) (SemLoc.dma (csm s).sem) () 118784 iprop(slotP c s (landed c XW s q b f) ∗ homeP c XW q b)
abbrev flightCP (s : Fin 6) (b : Fin 16) (f : Buf (Elt F) ((rslotC s).view.loc (c : Thread nD τ))) : sProp 𝕄 :=
  Transfers.Flight countersEmb (c : Thread nD τ) (SemLoc.dma (csm s).sem) () 114688 iprop(slotCP c s (landedC c XW s b f) ∗ homeCP c XW b)

/-- Trip `t`'s three transfers under way. -/
abbrev goP (t : ℕ) : sProp 𝕄 :=
  iprop((∃ f, flightP c XW (sA t) 0 (cb t) f) ∗ (∃ f, flightP c XW (sB t) 1 (cb t) f) ∗ (∃ f, flightCP c XW (sC t) (cb t) f))
/-- Column block `b`'s three parts held. -/
abbrev tripleP (b : Fin 16) : sProp 𝕄 := iprop(homeP c XW 0 b ∗ homeP c XW 1 b ∗ homeCP c XW b)
/-- Trip `t`'s three slots held at anything, their semaphores at zero. -/
abbrev freeP (t : ℕ) : sProp 𝕄 :=
  iprop((∃ f, slotP (F := F) c (sA t) f) ∗ (∃ f, slotP (F := F) c (sB t) f) ∗ (∃ f, slotCP (F := F) c (sC t) f)
    ∗ cellP (F := F) c (sA t) ∗ cellP (F := F) c (sB t) ∗ cellP (F := F) c (sC t))

end Pieces

end Cert.Proof.MlpDown

end
-- ==== Proof.MlpDown.Trip.lean ====
module

public import proofs.«01_k».proof.Proof.MlpDown.Names

@[expose] public section

noncomputable section

namespace Cert.Proof.MlpDown

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (XW : Buf (Elt F) (wM.view.loc (c : Thread nD τ)))
  (arg0 : Memref sig .tc .vmem S192x22016 .fp8e4m3) (harg0 : arg0.IsWhole)
  (arg1 : Memref sig .tc .vmem S192x128 .f32) (harg1 : arg1.IsWhole)
  (arg2 : Memref sig .tc .vmem S64x128 .f32) (harg2 : arg2.IsWhole)
  (arg3 : Memref sig .tc .vmem S12288x128 .f32) (harg3 : arg3.IsWhole)
  (arg5 : Memref sig .tc .vmem S3x63x8192 .bf16) (harg5 : arg5.IsWhole)
  (arg7 : Memref sig .tc .vmem S192x128 .f32) (harg7 : arg7.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- The four staged inputs, held at their contents. -/
abbrev insP : sProp 𝕄 :=
  iprop((arg0.view.loc (c : Thread nD τ) ↦[arg0.view.set]{fullShare} x0)
    ∗ (arg1.view.loc (c : Thread nD τ) ↦[arg1.view.set]{fullShare} x1)
    ∗ (arg2.view.loc (c : Thread nD τ) ↦[arg2.view.set]{fullShare} x2)
    ∗ (arg3.view.loc (c : Thread nD τ) ↦[arg3.view.set]{fullShare} x3))
/-- The output block held at `fo`. -/
abbrev outP (fo : Buf (Elt F) (arg5.view.loc (c : Thread nD τ))) : sProp 𝕄 := arg5.view.loc (c : Thread nD τ) ↦[arg5.view.set]{fullShare} fo
/-- The running sums of squares held at anything. -/
abbrev ssqP : sProp 𝕄 := iprop(∃ f : Buf (Elt F) (arg7.view.loc (c : Thread nD τ)), arg7.view.loc (c : Thread nD τ) ↦[arg7.view.set]{fullShare} f)
abbrev owesP : sProp 𝕄 := iprop(∃ W, owes (c : Thread nD τ) 0 W)

abbrev tripG (k : Fin k0_t1_loop.trips) : Prog (TpuEff nD τ sig (Elt F) Λ₀ .tc) Unit :=
  k0_t1_body (F := F) arg0 harg0 arg1 harg1 arg2 harg2 arg3 harg3 wM (Memref.isWhole_whole _) arg5 harg5 ringM (Memref.isWhole_whole _) arg7 harg7 cc0_scratch2 0#32 1#32 k ()

/-! ## What a trip stores -/

/-- Trip `k`'s three parts of the weight as the matrix products read them from their slots. -/
abbrev wA (k : Fin k0_t1_loop.trips) : Vec F S1x7424x512 .fp8e4m3 :=
  ringM.view.readAt (Elt F) (Rect.unit (s := S6x8192x512) (k0_off24 k 0#32) S1x7424x512.size (k0_off24_inb k 0)).toLoadRect
    (landed c XW (sA k.val) 0 (cb k.val) (rslot (sA k.val)).view.junk)
abbrev wB (k : Fin k0_t1_loop.trips) : Vec F S1x7424x512 .fp8e4m3 :=
  ringM.view.readAt (Elt F) (Rect.unit (s := S6x8192x512) (k0_off24 k 1#32) S1x7424x512.size (k0_off24_inb k 1)).toLoadRect
    (landed c XW (sB k.val) 1 (cb k.val) (rslot (sB k.val)).view.junk)
abbrev wC (k : Fin k0_t1_loop.trips) : Vec F S1x7168x512 .fp8e4m3 :=
  ringM.view.readAt (Elt F) (Rect.unit (s := S6x8192x512) (k0_off27 k) S1x7168x512.size (k0_off27_inb k)).toLoadRect
    (landedC c XW (sC k.val) (cb k.val) (rslotC (sC k.val)).view.junk)
/-- The three column ranges of the left operand as loaded. -/
abbrev lA : Vec F S192x7424 .fp8e4m3 := arg0.view.readAt (Elt F) (Rect.unit (s := S192x22016) ![0, 0] S192x7424.size inb_S192x22016_S192x7424_0_0).toLoadRect x0
abbrev lB : Vec F S192x7424 .fp8e4m3 := arg0.view.readAt (Elt F) (Rect.unit (s := S192x22016) ![0, 7424] S192x7424.size inb_S192x22016_S192x7424_0_7424).toLoadRect x0
abbrev lC : Vec F S192x7168 .fp8e4m3 := arg0.view.readAt (Elt F) (Rect.unit (s := S192x22016) ![0, 14848] S192x7168.size inb_S192x22016_S192x7168_0_14848).toLoadRect x0
/-- Trip `k`'s 512 columns of the product. -/
abbrev accV (k : Fin k0_t1_loop.trips) : FVec F S192x512 .f32 :=
  k0_pay3 (k0_pay2 (k0_pay1 (lA c arg0 x0) (wA c XW k)) (lB c arg0 x0) (wB c XW k)) (lC c arg0 x0) (wC c XW k)

theorem slc (r : Fin 4) (b : Fin 3) : S192x512.Slices ![64 * b.val, 128 * r.val] S64x128 := by
  revert r b; decide
theorem rs_inb (b : Fin 3) : ∀ a, (![64 * b.val, 0] : Fin 2 → Nat) a + S64x128.size a ≤ S192x128.size a := by
  revert b; decide

/-- One 63 by 128 tile: the residual plus the scaled product, its last row dropped. -/
def tile (acc : FVec F S192x512 .f32) (rs : Vec F S64x128 .f32) (sc : Vec F S1x128 .f32) (h : Vec F S64x128 .f32) (r : Fin 4) (b : Fin 3) : FVec F S1x63x128 .bf16 :=
  have t : FVec F S64x128 .f32 := mulf (mulf (extractStridedSlice S64x128 ![64 * b.val, 128 * r.val] acc (slc r b)) (shapeCast S64x128 rs shapeCasts_S64x128_S64x128 : FVec F S64x128 .f32))
    (broadcastTo S64x128 (shapeCast S1x128 sc shapeCasts_S1x128_S1x128 : FVec F S1x128 .f32) broadcasts_S1x128_S64x128)
  have y : FVec F S64x128 .f32 := addf (shapeCast S64x128 h shapeCasts_S64x128_S64x128 : FVec F S64x128 .f32) t
  shapeCast S1x63x128 (truncf .bf16 (extractStridedSlice S63x128 ![0, 0] y slices_S64x128_o0_0_S63x128 : FVec F S63x128 .f32) bitsLt_bf16_f32 : FVec F S63x128 .bf16) shapeCasts_S63x128_S1x63x128

/-- Trip `k`'s tile of 128-lane group `r` and row block `b`. -/
def tileAt (k : Fin k0_t1_loop.trips) (r : Fin 4) (b : Fin 3) : FVec F S1x63x128 .bf16 :=
  tile (accV c XW arg0 x0 k)
    (arg1.view.readAt (Elt F) (Rect.unit (s := S192x128) ![64 * b.val, 0] S64x128.size (rs_inb b)).toLoadRect x1)
    (arg2.view.readAt (Elt F) (Rect.unit (s := S64x128) (k0_off28 k (BitVec.ofNat 32 r.val)) S1x128.size (k0_off28_inb k r)).toLoadRect x2)
    (arg3.view.readAt (Elt F) (Rect.unit (s := S12288x128) (k0_off29 k (BitVec.ofNat 32 r.val) (BitVec.ofNat 32 (64 * b.val))) S64x128.size (k0_off29_inb k r b)).toLoadRect x3) r b
/-- The tile with the place it is stored. -/
def piece (k : Fin k0_t1_loop.trips) (r : Fin 4) (b : Fin 3) : View.Piece (Elt F) S3x63x8192 .bf16 :=
  match b with
  | 0 => ⟨Rect.unit (s := S3x63x8192) (k0_off30 k (BitVec.ofNat 32 r.val)) S1x63x128.size (k0_off30_inb k r), tileAt c XW arg0 arg1 arg2 arg3 x0 x1 x2 x3 k r 0⟩
  | 1 => ⟨Rect.unit (s := S3x63x8192) (k0_off31 k (BitVec.ofNat 32 r.val)) S1x63x128.size (k0_off31_inb k r), tileAt c XW arg0 arg1 arg2 arg3 x0 x1 x2 x3 k r 1⟩
  | 2 => ⟨Rect.unit (s := S3x63x8192) (k0_off32 k (BitVec.ofNat 32 r.val)) S1x63x128.size (k0_off32_inb k r), tileAt c XW arg0 arg1 arg2 arg3 x0 x1 x2 x3 k r 2⟩

/-- The twelve tiles trip `k` stores, the latest first. -/
def pieces (k : Fin k0_t1_loop.trips) : List (View.Piece (Elt F) S3x63x8192 .bf16) :=
  let p := piece c XW arg0 arg1 arg2 arg3 x0 x1 x2 x3 k
  [p 3 2, p 3 1, p 3 0, p 2 2, p 2 1, p 2 0, p 1 2, p 1 1, p 1 0, p 0 2, p 0 1, p 0 0]

abbrev nextO (k : Fin k0_t1_loop.trips) (fo : Buf (Elt F) (arg5.view.loc (c : Thread nD τ))) : Buf (Elt F) (arg5.view.loc (c : Thread nD τ)) :=
  arg5.view.writes (Elt F) fo (pieces c XW arg0 arg1 arg2 arg3 x0 x1 x2 x3 k)

abbrev wpT (k : Fin k0_t1_loop.trips) (Q : Unit → sProp 𝕄) : sProp 𝕄 :=
  wp frame (wpE (defs₀ (F := F)) 𝒱₀ (c : Thread nD τ) none) Set.univ (tripG arg0 harg0 arg1 harg1 arg2 harg2 arg3 harg3 arg5 harg5 arg7 harg7 k) Q

/-! ## One trip -/

/-- What every trip takes: the inputs, the output block, the sums of squares, its three transfers under way. -/
abbrev tripPre (k : ℕ) (fo : Buf (Elt F) (arg5.view.loc (c : Thread nD τ))) : sProp 𝕄 :=
  iprop(insP c arg0 arg1 arg2 arg3 x0 x1 x2 x3 ∗ outP c arg5 fo ∗ ssqP c arg7 ∗ owesP c ∗ goP c XW k)
/-- What every trip leaves: the twelve tiles stored, its column block and its three slots back. -/
abbrev tripPost (k : Fin k0_t1_loop.trips) (fo : Buf (Elt F) (arg5.view.loc (c : Thread nD τ))) : sProp 𝕄 :=
  iprop(insP c arg0 arg1 arg2 arg3 x0 x1 x2 x3 ∗ outP c arg5 (nextO c XW arg0 arg1 arg2 arg3 arg5 x0 x1 x2 x3 k fo) ∗ ssqP c arg7 ∗ owesP c
    ∗ tripleP c XW (cb k.val) ∗ freeP (F := F) c k.val)

set_option backward.proofsInPublic true in
/-- The first trip issues nothing: the transfers of trip 1 are already under way. -/
theorem tripFirst (k : Fin k0_t1_loop.trips) (hk : k.val = 0) (fo : Buf (Elt F) (arg5.view.loc (c : Thread nD τ))) :
    iprop(tripPre c XW arg0 arg1 arg2 arg3 arg5 arg7 x0 x1 x2 x3 k.val fo)
      ⊢ wpT c arg0 harg0 arg1 harg1 arg2 harg2 arg3 harg3 arg5 harg5 arg7 harg7 k
        (fun _ => iprop(tripPost c XW arg0 arg1 arg2 arg3 arg5 arg7 x0 x1 x2 x3 k fo)) := by
  have h1 := cond1_zero k hk
  iintro ⟨⟨H0, H1, H2, H3⟩, HO, ⟨%fm, HM⟩, ⟨%W, HW⟩, ⟨%fA, HFA⟩, ⟨%fB, HFB⟩, ⟨%fC, HFC⟩⟩
  dsimp only [wpT, tripG]
  sl_unfold [k0_t1_body]
  sl_exec
  sl_step
  isplitl [H0 H1 H2 H3]
  · isplitl [H0]; · iexact H0
    isplitl [H1]; · iexact H1
    isplitl [H2]; · iexact H2
    iexact H3
  isplitl [HO]; · iexact HO
  isplitl [HM]; · iexists _; iexact HM
  isplitl [HW]; · iexists _; iexact HW
  isplitl [HFA_src HFB_src HFC_src]
  · isplitl [HFA_src]; · iexact HFA_src
    isplitl [HFB_src]; · iexact HFB_src
    iexact HFC_src
  isplitl [HFA_dst]; · iexists _; iexact HFA_dst
  isplitl [HFB_dst]; · iexists _; iexact HFB_dst
  isplitl [HFC_dst]; · iexists _; iexact HFC_dst
  isplitl [HFA]; · iexact HFA
  isplitl [HFB]; · iexact HFB
  iexact HFC

set_option backward.proofsInPublic true in
/-- A trip in the middle issues the transfers of the next trip into the slots the trip before it freed. -/
theorem tripMid (k : Fin k0_t1_loop.trips) (hk : k.val ≠ 0) (hk' : k.val ≤ 14) (fo : Buf (Elt F) (arg5.view.loc (c : Thread nD τ))) :
    iprop(tripPre c XW arg0 arg1 arg2 arg3 arg5 arg7 x0 x1 x2 x3 k.val fo ∗ tripleP c XW (cb (k.val + 1)) ∗ freeP (F := F) c (k.val + 1))
      ⊢ wpT c arg0 harg0 arg1 harg1 arg2 harg2 arg3 harg3 arg5 harg5 arg7 harg7 k
        (fun _ => iprop(tripPost c XW arg0 arg1 arg2 arg3 arg5 arg7 x0 x1 x2 x3 k fo ∗ goP c XW (k.val + 1))) := by
  have h1 := cond1_pos k hk
  obtain ⟨h2, h4, h7⟩ := cond_low k hk'
  obtain ⟨h3, h5, h6⟩ := cond_never k
  iintro ⟨⟨⟨H0, H1, H2, H3⟩, HO, ⟨%fm, HM⟩, ⟨%W, HW⟩, ⟨%fA, HFA⟩, ⟨%fB, HFB⟩, ⟨%fC, HFC⟩⟩, ⟨Hga, Hgb, Hgc⟩, ⟨%gA, HSA⟩, ⟨%gB, HSB⟩, ⟨%gC, HSC⟩, HCA, HCB, HCC⟩
  dsimp only [wpT, tripG]
  sl_unfold [k0_t1_body]
  sl_exec
  sl_step
  isplitl [H0 H1 H2 H3 HO HM HW HFA HFB HFC HFA_dst HFB_dst HFC_dst HFA_src HFB_src HFC_src]
  · isplitl [H0 H1 H2 H3]
    · isplitl [H0]; · iexact H0
      isplitl [H1]; · iexact H1
      isplitl [H2]; · iexact H2
      iexact H3
    isplitl [HO]; · iexact HO
    isplitl [HM]; · iexists _; iexact HM
    isplitl [HW]; · iexists _; iexact HW
    isplitl [HFA_src HFB_src HFC_src]
    · isplitl [HFA_src]; · iexact HFA_src
      isplitl [HFB_src]; · iexact HFB_src
      iexact HFC_src
    isplitl [HFA_dst]; · iexists _; iexact HFA_dst
    isplitl [HFB_dst]; · iexists _; iexact HFB_dst
    isplitl [HFC_dst]; · iexists _; iexact HFC_dst
    isplitl [HFA]; · iexact HFA
    isplitl [HFB]; · iexact HFB
    iexact HFC
  isplitl [HCA]; · iexists gA; iexact HCA
  isplitl [HCB]; · iexists gB; iexact HCB
  iexists gC; iexact HCC

set_option backward.proofsInPublic true in
/-- The last trip issues nothing. -/
theorem tripTail (k : Fin k0_t1_loop.trips) (hk : 14 < k.val) (fo : Buf (Elt F) (arg5.view.loc (c : Thread nD τ))) :
    iprop(tripPre c XW arg0 arg1 arg2 arg3 arg5 arg7 x0 x1 x2 x3 k.val fo)
      ⊢ wpT c arg0 harg0 arg1 harg1 arg2 harg2 arg3 harg3 arg5 harg5 arg7 harg7 k
        (fun _ => iprop(tripPost c XW arg0 arg1 arg2 arg3 arg5 arg7 x0 x1 x2 x3 k fo)) := by
  have h1 := cond1_pos k (by omega)
  obtain ⟨h2, h4, h7⟩ := cond_high k hk
  obtain ⟨h3, h5, h6⟩ := cond_never k
  iintro ⟨⟨H0, H1, H2, H3⟩, HO, ⟨%fm, HM⟩, ⟨%W, HW⟩, ⟨%fA, HFA⟩, ⟨%fB, HFB⟩, ⟨%fC, HFC⟩⟩
  dsimp only [wpT, tripG]
  sl_unfold [k0_t1_body]
  sl_exec
  sl_step
  isplitl [H0 H1 H2 H3]
  · isplitl [H0]; · iexact H0
    isplitl [H1]; · iexact H1
    isplitl [H2]; · iexact H2
    iexact H3
  isplitl [HO]; · iexact HO
  isplitl [HM]; · iexists _; iexact HM
  isplitl [HW]; · iexists _; iexact HW
  isplitl [HFA_src HFB_src HFC_src]
  · isplitl [HFA_src]; · iexact HFA_src
    isplitl [HFB_src]; · iexact HFB_src
    iexact HFC_src
  isplitl [HFA_dst]; · iexists _; iexact HFA_dst
  isplitl [HFB_dst]; · iexists _; iexact HFB_dst
  isplitl [HFC_dst]; · iexists _; iexact HFC_dst
  isplitl [HFA]; · iexact HFA
  isplitl [HFB]; · iexact HFB
  iexact HFC

end Trip
end Cert.Proof.MlpDown
end
-- ==== Proof.MlpDown.Body.lean ====
module

public import proofs.«01_k».proof.Proof.MlpDown.Trip

@[expose] public section

noncomputable section

namespace Cert.Proof.MlpDown

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The loop -/

section Loop

variable (c : Dev nD) (XW : Buf (Elt F) (wM.view.loc (c : Thread nD τ)))
  (arg0 : Memref sig .tc .vmem S192x22016 .fp8e4m3) (harg0 : arg0.IsWhole)
  (arg1 : Memref sig .tc .vmem S192x128 .f32) (harg1 : arg1.IsWhole)
  (arg2 : Memref sig .tc .vmem S64x128 .f32) (harg2 : arg2.IsWhole)
  (arg3 : Memref sig .tc .vmem S12288x128 .f32) (harg3 : arg3.IsWhole)
  (arg5 : Memref sig .tc .vmem S3x63x8192 .bf16) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- Trip `t`'s slots before it: its transfers under way, or, past the last trip, free. -/
def liveP (t : ℕ) : sProp 𝕄 := if t < 16 then goP c XW t else freeP (F := F) c t
theorem liveP_lt (t : ℕ) (h : t < 16) : liveP c XW t = goP c XW t := if_pos h
theorem liveP_ge (t : ℕ) (h : ¬ t < 16) : liveP c XW t = freeP (F := F) c t := if_neg h

/-- The ring before the first trip: the transfers of trips 0 and 1 under way, the other column blocks held. -/
abbrev ringZero : sProp 𝕄 :=
  iprop(goP c XW 0 ∗ goP c XW 1 ∗ bigSep (Ring.homeSet (NB := 16) 2 0) (tripleP c XW))
/-- The ring before trip `k`: from trip 1 on, the transfers of trip `k` under way, the other three slots free. -/
def ringAt : ℕ → sProp 𝕄
  | 0 => ringZero c XW
  | k + 1 => iprop(liveP c XW (k + 1) ∗ freeP (F := F) c (k + 2) ∗ bigSep (Ring.homeSet (NB := 16) 1 (k + 1)) (tripleP c XW))
theorem ringAt_pos (k : ℕ) (h : k ≠ 0) : ringAt c XW k
    = iprop(liveP c XW k ∗ freeP (F := F) c (k + 1) ∗ bigSep (Ring.homeSet (NB := 16) 1 k) (tripleP c XW)) := by
  obtain ⟨n, rfl⟩ := Nat.exists_eq_succ_of_ne_zero h; rfl

/-- The output block before trip `k`, from `o0`: each trip's twelve tiles over what was there. -/
def outAcc (o0 : Buf (Elt F) (arg5.view.loc (c : Thread nD τ))) : ℕ → Buf (Elt F) (arg5.view.loc (c : Thread nD τ))
  | 0 => o0
  | k + 1 => if h : k < k0_t1_loop.trips then nextO c XW arg0 arg1 arg2 arg3 arg5 x0 x1 x2 x3 ⟨k, h⟩ (outAcc o0 k) else outAcc o0 k
theorem outAcc_succ (o0) (k : Fin k0_t1_loop.trips) :
    outAcc c XW arg0 arg1 arg2 arg3 arg5 x0 x1 x2 x3 o0 (k.val + 1) = nextO c XW arg0 arg1 arg2 arg3 arg5 x0 x1 x2 x3 k (outAcc c XW arg0 arg1 arg2 arg3 arg5 x0 x1 x2 x3 o0 k.val) := by
  rw [outAcc, dif_pos k.isLt]

theorem trips_pos : 0 < k0_t1_loop.trips := by rw [trips_eq]; decide
theorem freeP_add2 (k : ℕ) : freeP (F := F) c (k + 2) = freeP (F := F) c k := by
  have eA : sA (k + 2) = sA k := by rw [sA, show 3 * (k + 2) + 2 = 3 * k + 2 + 6 by omega, Ring.sl_add]
  have eB : sB (k + 2) = sB k := by rw [sB, show 3 * (k + 2) + 3 = 3 * k + 3 + 6 by omega, Ring.sl_add]
  have eC : sC (k + 2) = sC k := by rw [sC, show 3 * (k + 2) + 4 = 3 * k + 4 + 6 by omega, Ring.sl_add]
  unfold freeP; rw [eA, eB, eC]
theorem homes_out (k : ℕ) (h : k + 1 < 16) : bigSep (Ring.homeSet (NB := 16) 1 k) (tripleP c XW)
    = iprop(tripleP c XW (cb (k + 1)) ∗ bigSep ((Ring.homeSet (NB := 16) 1 k).erase (Ring.bk 16 (k + 1))) (tripleP c XW)) := by
  conv_lhs => rw [Ring.homeSet_out 1 k h, bigSep_insert (Ring.bkL_not_mem_erase 1 k)]
  rfl
theorem homes_next (k : ℕ) (h : k + 1 < 16) : bigSep (Ring.homeSet (NB := 16) 1 (k + 1)) (tripleP c XW)
    = iprop(tripleP c XW (cb k) ∗ bigSep ((Ring.homeSet (NB := 16) 1 k).erase (Ring.bk 16 (k + 1))) (tripleP c XW)) := by
  conv_lhs => rw [Ring.homeSet_succ 1 k h, bigSep_insert (Ring.bk_not_mem_erase 1 k (by omega) (by decide))]
  rfl
theorem homes_tail (k : ℕ) (h : 16 ≤ k + 1) (hk : k < 16) : bigSep (Ring.homeSet (NB := 16) 1 (k + 1)) (tripleP c XW)
    = iprop(tripleP c XW (cb k) ∗ bigSep (Ring.homeSet (NB := 16) 1 k) (tripleP c XW)) := by
  conv_lhs => rw [Ring.homeSet_succ_tail 1 k h hk, bigSep_insert (Ring.bk_not_mem_homeSet 1 k hk (by decide))]
  rfl
theorem homes_one : bigSep (Ring.homeSet (NB := 16) 1 1) (tripleP c XW)
    = iprop(tripleP c XW (cb 0) ∗ bigSep (Ring.homeSet (NB := 16) 2 0) (tripleP c XW)) := by
  have e : Ring.homeSet (NB := 16) 1 1 = insert (Ring.bk 16 0) (Ring.homeSet 2 0) := by
    ext b; rw [Ring.mem_homeSet, Finset.mem_insert, Ring.mem_homeSet, Fin.ext_iff, Ring.bk_val (by decide)]; omega
  conv_lhs => rw [e, bigSep_insert (Ring.bk_not_mem_homeSet 2 0 (by decide) (by decide))]
  rfl

abbrev heldP (fo : Buf (Elt F) (arg5.view.loc (c : Thread nD τ))) : sProp 𝕄 :=
  iprop(insP c arg0 arg1 arg2 arg3 x0 x1 x2 x3 ∗ outP c arg5 fo ∗ ssqP c ssqM ∗ owesP c)

set_option warn.classDefReducibility false in
/-- The loop's invariant. -/
@[sl_loop] def loopInv (o0 : Buf (Elt F) (arg5.view.loc (c : Thread nD τ))) :
    LoopInvTy_k0_t1 (F := F) Unit ℕ (UU nD τ) ℕ 𝒱₀ c none Set.univ arg0 harg0 arg1 harg1 arg2 harg2 arg3 harg3 wM (Memref.isWhole_whole _) arg5 harg5 ringM (Memref.isWhole_whole _) ssqM (Memref.isWhole_whole _) cc0_scratch2 0#32 1#32 where
  inv k _ := iprop(heldP c arg0 arg1 arg2 arg3 arg5 x0 x1 x2 x3 (outAcc c XW arg0 arg1 arg2 arg3 arg5 x0 x1 x2 x3 o0 k) ∗ ringAt c XW k)
  step k _ := by
    have hlt : k.val < 16 := Nat.lt_of_lt_of_eq k.isLt trips_eq
    rw [outAcc_succ, ringAt_pos c XW (k.val + 1) (by omega), freeP_add2]
    by_cases h0 : k.val = 0
    · have hk : k = ⟨0, trips_pos⟩ := Fin.ext h0
      subst hk
      rw [liveP_lt c XW (0 + 1) (by decide), show (0 + 1 : ℕ) = 1 from rfl, homes_one,
        show ringAt c XW (⟨0, trips_pos⟩ : Fin k0_t1_loop.trips).val = ringZero c XW from rfl]
      iintro ⟨⟨HI, HO, HM, HW⟩, HG, HL, HR⟩
      iapply (wp_wand_r Idealize.ShloMosaic.frame (wpE (defs₀ (F := F)) 𝒱₀ (c : Thread nD τ) none) Set.univ)
      isplitl [HI HO HM HW HG]
      · iapply (tripFirst c XW arg0 harg0 arg1 harg1 arg2 harg2 arg3 harg3 arg5 harg5 ssqM (Memref.isWhole_whole _) x0 x1 x2 x3 ⟨0, trips_pos⟩ rfl _)
        isplitl [HI]; · iexact HI
        isplitl [HO]; · iexact HO
        isplitl [HM]; · iexact HM
        isplitl [HW]; · iexact HW
        iexact HG
      · iintro %_ ⟨HI, HO, HM, HW, HA, HF⟩
        isplitl [HI HO HM HW]
        · isplitl [HI]; · iexact HI
          isplitl [HO]; · iexact HO
          isplitl [HM]; · iexact HM
          iexact HW
        isplitl [HL]; · iexact HL
        isplitl [HF]; · iexact HF
        isplitl [HA]; · iexact HA
        iexact HR
    by_cases h1 : k.val ≤ 14
    · rw [ringAt_pos c XW k.val h0, liveP_lt c XW k.val hlt, liveP_lt c XW (k.val + 1) (by omega), homes_out c XW k.val (by omega), homes_next c XW k.val (by omega)]
      iintro ⟨⟨HI, HO, HM, HW⟩, HG, HF, HN, HR⟩
      iapply (wp_wand_r Idealize.ShloMosaic.frame (wpE (defs₀ (F := F)) 𝒱₀ (c : Thread nD τ) none) Set.univ)
      isplitl [HI HO HM HW HG HF HN]
      · iapply (tripMid c XW arg0 harg0 arg1 harg1 arg2 harg2 arg3 harg3 arg5 harg5 ssqM (Memref.isWhole_whole _) x0 x1 x2 x3 k h0 h1 _)
        isplitl [HI HO HM HW HG]
        · isplitl [HI]; · iexact HI
          isplitl [HO]; · iexact HO
          isplitl [HM]; · iexact HM
          isplitl [HW]; · iexact HW
          iexact HG
        isplitl [HN]; · iexact HN
        iexact HF
      · iintro %_ ⟨⟨HI, HO, HM, HW, HA, HF⟩, HG⟩
        isplitl [HI HO HM HW]
        · isplitl [HI]; · iexact HI
          isplitl [HO]; · iexact HO
          isplitl [HM]; · iexact HM
          iexact HW
        isplitl [HG]; · iexact HG
        isplitl [HF]; · iexact HF
        isplitl [HA]; · iexact HA
        iexact HR
    · rw [ringAt_pos c XW k.val h0, liveP_lt c XW k.val hlt, liveP_ge c XW (k.val + 1) (by omega), homes_tail c XW k.val (by omega) hlt]
      iintro ⟨⟨HI, HO, HM, HW⟩, HG, HF, HR⟩
      iapply (wp_wand_r Idealize.ShloMosaic.frame (wpE (defs₀ (F := F)) 𝒱₀ (c : Thread nD τ) none) Set.univ)
      isplitl [HI HO HM HW HG]
      · iapply (tripTail c XW arg0 harg0 arg1 harg1 arg2 harg2 arg3 harg3 arg5 harg5 ssqM (Memref.isWhole_whole _) x0 x1 x2 x3 k (by omega) _)
        isplitl [HI]; · iexact HI
        isplitl [HO]; · iexact HO
        isplitl [HM]; · iexact HM
        isplitl [HW]; · iexact HW
        iexact HG
      · iintro %_ ⟨HI, HO, HM, HW, HA, HF2⟩
        isplitl [HI HO HM HW]
        · isplitl [HI]; · iexact HI
          isplitl [HO]; · iexact HO
          isplitl [HM]; · iexact HM
          iexact HW
        isplitl [HF]; · iexact HF
        isplitl [HF2]; · iexact HF2
        isplitl [HA]; · iexact HA
        iexact HR

/-- What the body leaves in the output block. -/
abbrev outOf (gO : Buf (Elt F) (arg5.view.loc (c : Thread nD τ))) : Buf (Elt F) (arg5.view.loc (c : Thread nD τ)) := outAcc c XW arg0 arg1 arg2 arg3 arg5 x0 x1 x2 x3 gO 16

/-- The six slots at anything and their semaphores at zero. -/
abbrev slotsP : sProp 𝕄 :=
  iprop((∃ f, slotP (F := F) c 0 f) ∗ (∃ f, slotCP (F := F) c 1 f) ∗ (∃ f, slotP (F := F) c 2 f) ∗ (∃ f, slotP (F := F) c 3 f) ∗ (∃ f, slotCP (F := F) c 4 f) ∗ (∃ f, slotP (F := F) c 5 f))
abbrev cellsP : sProp 𝕄 :=
  iprop(cellP (F := F) c 0 ∗ cellP (F := F) c 1 ∗ cellP (F := F) c 2 ∗ cellP (F := F) c 3 ∗ cellP (F := F) c 4 ∗ cellP (F := F) c 5)

/-- What the body leaves. -/
abbrev POST (out : Buf (Elt F) (arg5.view.loc (c : Thread nD τ))) : sProp 𝕄 :=
  iprop(insP c arg0 arg1 arg2 arg3 x0 x1 x2 x3 ∗ outP c arg5 out ∗ ssqP c ssqM ∗ bigSep Finset.univ (tripleP c XW)
    ∗ slotsP c ∗ cellsP c ∗ owesP c)

/-- `POST` under one name, opened by `doneP_eq`. -/
@[irreducible] def doneP (out : Buf (Elt F) (arg5.view.loc (c : Thread nD τ))) : sProp 𝕄 := POST c XW arg0 arg1 arg2 arg3 arg5 x0 x1 x2 x3 out
theorem doneP_eq (out) : doneP c XW arg0 arg1 arg2 arg3 arg5 x0 x1 x2 x3 out = POST c XW arg0 arg1 arg2 arg3 arg5 x0 x1 x2 x3 out := by rw [doneP]

theorem freeP_lit (t : ℕ) (a b d : Fin 6) (ha : sA t = a) (hb : sB t = b) (hd : sC t = d) : freeP (F := F) c t
    = iprop((∃ f, slotP (F := F) c a f) ∗ (∃ f, slotP (F := F) c b f) ∗ (∃ f, slotCP (F := F) c d f) ∗ cellP (F := F) c a ∗ cellP (F := F) c b ∗ cellP (F := F) c d) := by
  subst ha; subst hb; subst hd; rfl

set_option warn.classDefReducibility false in
/-- After the loop the ring is whole again. -/
def loopExit (o0 : Buf (Elt F) (arg5.view.loc (c : Thread nD τ))) :
    LoopExit (loopInv (F := F) c XW arg0 harg0 arg1 harg1 arg2 harg2 arg3 harg3 arg5 harg5 x0 x1 x2 x3 o0) where
  post _ := doneP c XW arg0 arg1 arg2 arg3 arg5 x0 x1 x2 x3 (outOf c XW arg0 arg1 arg2 arg3 arg5 x0 x1 x2 x3 o0)
  exit acc := by
    show iprop(heldP c arg0 arg1 arg2 arg3 arg5 x0 x1 x2 x3 (outAcc c XW arg0 arg1 arg2 arg3 arg5 x0 x1 x2 x3 o0 k0_t1_loop.trips) ∗ ringAt c XW k0_t1_loop.trips) ⊢ _
    rw [trips_eq, doneP_eq, ringAt_pos c XW 16 (by decide), liveP_ge c XW 16 (by decide),
      freeP_lit c 16 2 3 4 (by decide) (by decide) (by decide), freeP_lit c (16 + 1) 5 0 1 (by decide) (by decide) (by decide),
      Ring.homeSet_last (NB := 16) (L := 1) 16 (by decide)]
    iintro ⟨⟨HI, HO, HM, HW⟩, ⟨S2, S3, S4, C2, C3, C4⟩, ⟨S5, S0, S1, C5, C0, C1⟩, HR⟩
    isplitl [HI]; · iexact HI
    isplitl [HO]; · iexact HO
    isplitl [HM]; · iexact HM
    isplitl [HR]; · iexact HR
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [C0 C1 C2 C3 C4 C5]
    · isplitl [C0]; · iexact C0
      isplitl [C1]; · iexact C1
      isplitl [C2]; · iexact C2
      isplitl [C3]; · iexact C3
      isplitl [C4]; · iexact C4
      iexact C5
    iexact HW

end Loop

/-! ## The kernel body -/

section Body

variable (c : Dev nD) (XW : Buf (Elt F) (wM.view.loc (c : Thread nD τ)))
  (arg0 : Memref sig .tc .vmem S192x22016 .fp8e4m3) (harg0 : arg0.IsWhole)
  (arg1 : Memref sig .tc .vmem S192x128 .f32) (harg1 : arg1.IsWhole)
  (arg2 : Memref sig .tc .vmem S64x128 .f32) (harg2 : arg2.IsWhole)
  (arg3 : Memref sig .tc .vmem S12288x128 .f32) (harg3 : arg3.IsWhole)
  (arg5 : Memref sig .tc .vmem S3x63x8192 .bf16) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- The kernel on the given staging buffers. -/
abbrev bodyG : Prog (TpuEff nD τ sig (Elt F) Λ₀ .tc) PUnit :=
  cc0_down arg0 harg0 arg1 harg1 arg2 harg2 arg3 harg3 wM (Memref.isWhole_whole _) arg5 harg5 ringM (Memref.isWhole_whole _) ssqM (Memref.isWhole_whole _) cc0_scratch2

/-- What the body takes. -/
abbrev PRE (gO : Buf (Elt F) (arg5.view.loc (c : Thread nD τ))) (W : Waits sig Unit) : sProp 𝕄 :=
  iprop(insP c arg0 arg1 arg2 arg3 x0 x1 x2 x3 ∗ outP c arg5 gO ∗ ssqP c ssqM
    ∗ (tripleP c XW 0 ∗ tripleP c XW 1 ∗ bigSep (Ring.homeSet (NB := 16) 2 0) (tripleP c XW))
    ∗ slotsP c ∗ cellsP c ∗ owes (c : Thread nD τ) 0 W)
set_option warn.classDefReducibility false in
attribute [local instance] loopExit in
theorem bodyRun (gO W) (Q : PUnit → sProp 𝕄) :
    iprop(PRE c XW arg0 arg1 arg2 arg3 arg5 x0 x1 x2 x3 gO W ∗ (POST c XW arg0 arg1 arg2 arg3 arg5 x0 x1 x2 x3 (outOf c XW arg0 arg1 arg2 arg3 arg5 x0 x1 x2 x3 gO) -∗ Q ⟨⟩))
      ⊢ wp frame (wpE (defs₀ (F := F)) 𝒱₀ (c : Thread nD τ) none) Set.univ (bodyG arg0 harg0 arg1 harg1 arg2 harg2 arg3 harg3 arg5 harg5) Q := by
  obtain ⟨h8, h9, h10, h11, h12, h13⟩ := cond_last
  iintro ⟨⟨⟨H0, H1, H2, H3⟩, HO, ⟨%fm, HM⟩, ⟨⟨Hg0, Hg1, Hg2⟩, ⟨Hg3, Hg4, Hg5⟩, HR⟩, ⟨⟨%f0, Hs0⟩, ⟨%f1, Hs1⟩, ⟨%f2, Hs2⟩, ⟨%f3, Hs3⟩, ⟨%f4, Hs4⟩, ⟨%f5, Hs5⟩⟩, ⟨Hc0, Hc1, Hc2, Hc3, Hc4, Hc5⟩, HW⟩, Hk⟩
  let L := loopInv c XW arg0 harg0 arg1 harg1 arg2 harg2 arg3 harg3 arg5 harg5 x0 x1 x2 x3 gO
  sl_exec
  sl_step
  have hd : doneP c XW arg0 arg1 arg2 arg3 arg5 x0 x1 x2 x3 (outOf c XW arg0 arg1 arg2 arg3 arg5 x0 x1 x2 x3 gO)
      ⊢ POST c XW arg0 arg1 arg2 arg3 arg5 x0 x1 x2 x3 (outOf c XW arg0 arg1 arg2 arg3 arg5 x0 x1 x2 x3 gO) := entails_of_eq (doneP_eq ..)
  iapply Hk
  iapply hd
  iexact HL0

end Body
end Cert.Proof.MlpDown
end
-- ==== Proof.MlpDown.Stored.lean ====
module

public import proofs.«01_k».proof.Proof.MlpDown.Body
public import Idealize.ShloMosaic.Lib.WritesUnit

@[expose] public section

noncomputable section

namespace Cert.Proof.MlpDown

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # What the output block holds after the loop -/

section Stored

variable (c : Dev nD) (XW : Buf (Elt F) (wM.view.loc (c : Thread nD τ)))
  (arg0 : Memref sig .tc .vmem S192x22016 .fp8e4m3)
  (arg1 : Memref sig .tc .vmem S192x128 .f32)
  (arg2 : Memref sig .tc .vmem S64x128 .f32)
  (arg3 : Memref sig .tc .vmem S12288x128 .f32)
  (arg5 : Memref sig .tc .vmem S3x63x8192 .bf16)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- Row `s`, lane `l` of a tile. -/
def tix (s : Fin 63) (l : Fin 128) : S1x63x128.Idx := fun | ⟨0, _⟩ => (0 : Fin 1) | ⟨1, _⟩ => s | ⟨2, _⟩ => l

theorem skipPiece (k : Fin k0_t1_loop.trips) (r : Fin 4) (b : Fin 3) (f) (L : List (View.Piece (Elt F) S3x63x8192 .bf16)) (y : S3x63x8192.Idx)
    (h : (y 0).val ≠ b.val ∨ (y 2).val < 512 * k.val + 128 * r.val ∨ 512 * k.val + 128 * r.val + 128 ≤ (y 2).val) :
    arg5.view.read (Elt F) (arg5.view.writes (Elt F) f (piece c XW arg0 arg1 arg2 arg3 x0 x1 x2 x3 k r b :: L)) y
      = arg5.view.read (Elt F) (arg5.view.writes (Elt F) f L) y := by
  rcases h with h | h
  · fin_cases b
    · exact View.read_writes_cons_unit_of_not_mem arg5.view f (k0_off30_inb k r) _ L y (k0_off30_eq k r) (0 : Fin 3)
        (show (y 0).val < 0 ∨ 0 + 1 ≤ (y 0).val by have h' : ¬ (y 0).val = 0 := h; omega)
    · exact View.read_writes_cons_unit_of_not_mem arg5.view f (k0_off31_inb k r) _ L y (k0_off31_eq k r) (0 : Fin 3)
        (show (y 0).val < 1 ∨ 1 + 1 ≤ (y 0).val by have h' : ¬ (y 0).val = 1 := h; omega)
    · exact View.read_writes_cons_unit_of_not_mem arg5.view f (k0_off32_inb k r) _ L y (k0_off32_eq k r) (0 : Fin 3)
        (show (y 0).val < 2 ∨ 2 + 1 ≤ (y 0).val by have h' : ¬ (y 0).val = 2 := h; omega)
  · fin_cases b
    · exact View.read_writes_cons_unit_of_not_mem arg5.view f (k0_off30_inb k r) _ L y (k0_off30_eq k r) (2 : Fin 3) h
    · exact View.read_writes_cons_unit_of_not_mem arg5.view f (k0_off31_inb k r) _ L y (k0_off31_eq k r) (2 : Fin 3) h
    · exact View.read_writes_cons_unit_of_not_mem arg5.view f (k0_off32_inb k r) _ L y (k0_off32_eq k r) (2 : Fin 3) h

theorem hitPiece (k : Fin k0_t1_loop.trips) (r : Fin 4) (b : Fin 3) (f) (L : List (View.Piece (Elt F) S3x63x8192 .bf16)) (y : S3x63x8192.Idx)
    (s : Fin 63) (l : Fin 128) (h0 : (y 0).val = b.val) (h1 : (y 1).val = s.val) (h2 : (y 2).val = 512 * k.val + 128 * r.val + l.val) :
    arg5.view.read (Elt F) (arg5.view.writes (Elt F) f (piece c XW arg0 arg1 arg2 arg3 x0 x1 x2 x3 k r b :: L)) y
      = tileAt c XW arg0 arg1 arg2 arg3 x0 x1 x2 x3 k r b (tix s l) := by
  have h1' : (y 1).val = 0 + s.val := by omega
  fin_cases b
  · exact View.read_writes_cons_unit_of_mem arg5.view f (k0_off30_inb k r) (tileAt c XW arg0 arg1 arg2 arg3 x0 x1 x2 x3 k r 0) L y (tix s l) (k0_off30_eq k r)
      fun a => match a with | ⟨0, _⟩ => h0 | ⟨1, _⟩ => h1' | ⟨2, _⟩ => h2
  · exact View.read_writes_cons_unit_of_mem arg5.view f (k0_off31_inb k r) (tileAt c XW arg0 arg1 arg2 arg3 x0 x1 x2 x3 k r 1) L y (tix s l) (k0_off31_eq k r)
      fun a => match a with | ⟨0, _⟩ => h0 | ⟨1, _⟩ => h1' | ⟨2, _⟩ => h2
  · exact View.read_writes_cons_unit_of_mem arg5.view f (k0_off32_inb k r) (tileAt c XW arg0 arg1 arg2 arg3 x0 x1 x2 x3 k r 2) L y (tix s l) (k0_off32_eq k r)
      fun a => match a with | ⟨0, _⟩ => h0 | ⟨1, _⟩ => h1' | ⟨2, _⟩ => h2

/-- The tiles in the order a trip stores them, the latest first: 128-lane group and row block. -/
def order : List (Fin 4 × Fin 3) := [(3, 2), (3, 1), (3, 0), (2, 2), (2, 1), (2, 0), (1, 2), (1, 1), (1, 0), (0, 2), (0, 1), (0, 0)]
theorem mem_order : ∀ (r : Fin 4) (b : Fin 3), (r, b) ∈ order := by decide
theorem pieces_eq (k : Fin k0_t1_loop.trips) :
    pieces c XW arg0 arg1 arg2 arg3 x0 x1 x2 x3 k = order.map fun q => piece c XW arg0 arg1 arg2 arg3 x0 x1 x2 x3 k q.1 q.2 := rfl

theorem read_map_hit (k : Fin k0_t1_loop.trips) (r : Fin 4) (b : Fin 3) (f) (y : S3x63x8192.Idx)
    (s : Fin 63) (l : Fin 128) (h0 : (y 0).val = b.val) (h1 : (y 1).val = s.val) (h2 : (y 2).val = 512 * k.val + 128 * r.val + l.val)
    (L : List (Fin 4 × Fin 3)) (hL : (r, b) ∈ L) :
    arg5.view.read (Elt F) (arg5.view.writes (Elt F) f (L.map fun q => piece c XW arg0 arg1 arg2 arg3 x0 x1 x2 x3 k q.1 q.2)) y
      = tileAt c XW arg0 arg1 arg2 arg3 x0 x1 x2 x3 k r b (tix s l) := by
  induction L with
  | nil => exact absurd hL List.not_mem_nil
  | cons q L ih =>
    rw [List.map_cons]
    by_cases e : (r, b) = q
    · rw [← e]; exact hitPiece c XW arg0 arg1 arg2 arg3 arg5 x0 x1 x2 x3 k r b f _ y s l h0 h1 h2
    · rw [skipPiece c XW arg0 arg1 arg2 arg3 arg5 x0 x1 x2 x3 k q.1 q.2 f _ y (by
        have hl := l.isLt; have := r.isLt; have := b.isLt; have := q.1.isLt; have := q.2.isLt
        have hne : ¬ (r.val = q.1.val ∧ b.val = q.2.val) := fun h => e (Prod.ext (Fin.ext h.1) (Fin.ext h.2))
        omega)]
      exact ih ((List.mem_cons.mp hL).resolve_left e)
theorem read_map_skip (k : Fin k0_t1_loop.trips) (f) (y : S3x63x8192.Idx)
    (h : (y 2).val < 512 * k.val ∨ 512 * k.val + 512 ≤ (y 2).val) (L : List (Fin 4 × Fin 3)) :
    arg5.view.read (Elt F) (arg5.view.writes (Elt F) f (L.map fun q => piece c XW arg0 arg1 arg2 arg3 x0 x1 x2 x3 k q.1 q.2)) y
      = arg5.view.read (Elt F) f y := by
  induction L with
  | nil => rfl
  | cons q L ih =>
    rw [List.map_cons, skipPiece c XW arg0 arg1 arg2 arg3 arg5 x0 x1 x2 x3 k q.1 q.2 f _ y (by
        have := q.1.isLt; have := q.2.isLt; omega)]
    exact ih

/-- An element of trip `k`'s columns reads the tile that covers it; -/
theorem read_next_hit (k : Fin k0_t1_loop.trips) (r : Fin 4) (b : Fin 3) (f) (y : S3x63x8192.Idx)
    (s : Fin 63) (l : Fin 128) (h0 : (y 0).val = b.val) (h1 : (y 1).val = s.val) (h2 : (y 2).val = 512 * k.val + 128 * r.val + l.val) :
    arg5.view.read (Elt F) (nextO c XW arg0 arg1 arg2 arg3 arg5 x0 x1 x2 x3 k f) y = tileAt c XW arg0 arg1 arg2 arg3 x0 x1 x2 x3 k r b (tix s l) := by
  rw [nextO, pieces_eq]
  exact read_map_hit c XW arg0 arg1 arg2 arg3 arg5 x0 x1 x2 x3 k r b f y s l h0 h1 h2 order (mem_order r b)
/-- any other reads what was there. -/
theorem read_next_skip (k : Fin k0_t1_loop.trips) (f) (y : S3x63x8192.Idx)
    (h : (y 2).val < 512 * k.val ∨ 512 * k.val + 512 ≤ (y 2).val) :
    arg5.view.read (Elt F) (nextO c XW arg0 arg1 arg2 arg3 arg5 x0 x1 x2 x3 k f) y = arg5.view.read (Elt F) f y := by
  rw [nextO, pieces_eq]
  exact read_map_skip c XW arg0 arg1 arg2 arg3 arg5 x0 x1 x2 x3 k f y h order

/-- The trip, 128-lane group, row block, row and lane that element `y` of the output block comes from. -/
theorem col_lt (y : S3x63x8192.Idx) : (y 2).val < 8192 := (y 2).isLt
def outTrip (y : S3x63x8192.Idx) : Fin k0_t1_loop.trips := ⟨(y 2).val / 512, by have := col_lt y; rw [trips_eq]; omega⟩
def outGroup (y : S3x63x8192.Idx) : Fin 4 := ⟨(y 2).val % 512 / 128, by omega⟩
def outBlock (y : S3x63x8192.Idx) : Fin 3 := ⟨(y 0).val, (y 0).isLt⟩
def outRow (y : S3x63x8192.Idx) : Fin 63 := ⟨(y 1).val, (y 1).isLt⟩
def outLane (y : S3x63x8192.Idx) : Fin 128 := ⟨(y 2).val % 128, by omega⟩

/-- What element `y` of the output block holds after the loop. -/
def outVal (y : S3x63x8192.Idx) : F .bf16 :=
  tileAt c XW arg0 arg1 arg2 arg3 x0 x1 x2 x3 (outTrip y) (outGroup y) (outBlock y) (tix (outRow y) (outLane y))

theorem read_outAcc (o0) (n : ℕ) (hn : n ≤ 16) (y : S3x63x8192.Idx) :
    arg5.view.read (Elt F) (outAcc c XW arg0 arg1 arg2 arg3 arg5 x0 x1 x2 x3 o0 n) y
      = if (y 2).val < 512 * n then outVal c XW arg0 arg1 arg2 arg3 x0 x1 x2 x3 y else arg5.view.read (Elt F) o0 y := by
  induction n with
  | zero => rw [if_neg (by omega)]; rfl
  | succ n ih =>
    have hlt : n < k0_t1_loop.trips := by rw [trips_eq]; omega
    rw [outAcc_succ c XW arg0 arg1 arg2 arg3 arg5 x0 x1 x2 x3 o0 ⟨n, hlt⟩]
    by_cases h : (y 2).val < 512 * n ∨ 512 * n + 512 ≤ (y 2).val
    · rw [read_next_skip c XW arg0 arg1 arg2 arg3 arg5 x0 x1 x2 x3 ⟨n, hlt⟩ _ y h, ih (by omega)]
      by_cases h' : (y 2).val < 512 * n
      · rw [if_pos h', if_pos (by omega)]
      · rw [if_neg h', if_neg (by omega)]
    · rw [if_pos (by omega)]
      have e : outTrip y = ⟨n, hlt⟩ := Fin.ext (by show (y 2).val / 512 = n; omega)
      unfold outVal
      rw [e]
      exact read_next_hit c XW arg0 arg1 arg2 arg3 arg5 x0 x1 x2 x3 ⟨n, hlt⟩ (outGroup y) (outBlock y) _ y (outRow y) (outLane y) rfl rfl
        (by show (y 2).val = 512 * n + 128 * ((y 2).val % 512 / 128) + (y 2).val % 128; omega)

/-- After the loop every element has been stored, whatever was there before. -/
theorem read_outOf (o0) :
    arg5.view.read (Elt F) (outOf c XW arg0 arg1 arg2 arg3 arg5 x0 x1 x2 x3 o0) = outVal c XW arg0 arg1 arg2 arg3 x0 x1 x2 x3 := by
  funext y
  rw [read_outAcc c XW arg0 arg1 arg2 arg3 arg5 x0 x1 x2 x3 o0 16 le_rfl y, if_pos (col_lt y)]

end Stored
end Cert.Proof.MlpDown
end
-- ==== Proof.MlpDown.Launch.lean ====
/-
  The down kernel's launch: the weight whole is its 16 column blocks in three parts each, the ring whole is its six slots and the rest; the
  body's run is the pipeline's body obligation at its one point; and the whole program runs to a final state with the
  result at the computed contents, the arguments unchanged and every semaphore counter at zero.
-/
module

public import proofs.«01_k».proof.Proof.MlpDown.Stored

@[expose] public section

noncomputable section

namespace Cert.Proof.MlpDown

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## @main up to the region -/

abbrev hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The weight's contents, as the column blocks read them. -/
abbrev XWof (c : Dev nD) : Buf (Elt F) (wM.view.loc (c : Thread nD τ)) := m ((c : Thread nD τ).loc main_arg3)

/-! ## The kernel's own semaphores -/

abbrev osem : Fin 6 → SemLoc sig := fun s => .dma (csm s).sem
theorem ownSemFacts : Pipeline.OwnSemFacts spec0 osem := by decide

/-! ## Element sets: the weight's column blocks, the ring's slots -/

/-- A part of a column block. -/
abbrev Gq (q : Fin 2) (b : Fin 16) : Finset S22016x8192.Idx := (Rect.unit (s := S22016x8192) (grpOff q b) S7424x512.size (grpOff_inb q b)).set
abbrev GqC (b : Fin 16) : Finset S22016x8192.Idx := (Rect.unit (s := S22016x8192) (grpOffC b) S7168x512.size (grpOffC_inb b)).set
/-- A column block. -/
abbrev P16 (b : Fin 16) : Finset S22016x8192.Idx := Gq 0 b ∪ (Gq 1 b ∪ GqC b)
abbrev S6L (s : Fin 6) : Finset S6x8192x512.Idx := (Rect.unit (s := S6x8192x512) (slotOff s) S1x7424x512.size (slotOff_inb s)).set
abbrev S6C (s : Fin 6) : Finset S6x8192x512.Idx := (Rect.unit (s := S6x8192x512) (slotOff s) S1x7168x512.size (slotOffC_inb s)).set
/-- How many rows of slot `s` a transfer reaches. -/
def slotLen (s : ℕ) : ℕ := if s = 1 ∨ s = 4 then 7168 else 7424
/-- The part of the ring no transfer reaches. -/
def Rest : Finset S6x8192x512.Idx := Finset.univ.filter fun y => slotLen (y 0).val ≤ (y 1).val
/-- The ring's seven parts: what the transfers reach of each slot, and the rest. -/
def R7 : Fin 7 → Finset S6x8192x512.Idx
  | 0 => S6L 0 | 1 => S6C 1 | 2 => S6L 2 | 3 => S6L 3 | 4 => S6C 4 | 5 => S6L 5 | 6 => Rest

omit [FloatOps F] in
theorem grp_set (q : Fin 2) (b : Fin 16) : (grp q b : Memref sig .tc .hbm _ _).view.set = Gq q b := View.set_slice_whole _ _
omit [FloatOps F] in
theorem grpC_set (b : Fin 16) : (grpC b : Memref sig .tc .hbm _ _).view.set = GqC b := View.set_slice_whole _ _
omit [FloatOps F] in
theorem rslot_set (s : Fin 6) : (rslot s : Memref sig .tc .vmem _ _).view.set = S6L s := (View.set_reshape _ _).trans (View.set_slice_whole _ _)
omit [FloatOps F] in
theorem rslotC_set (s : Fin 6) : (rslotC s : Memref sig .tc .vmem _ _).view.set = S6C s := (View.set_reshape _ _).trans (View.set_slice_whole _ _)

theorem mem_Gq (q : Fin 2) (b : Fin 16) (y : S22016x8192.Idx) : y ∈ Gq q b ↔ (y 0).val / 7424 = q.val ∧ (y 1).val / 512 = b.val := by
  rw [Rect.mem_set_unit]
  have hq := q.isLt
  constructor
  · intro H
    have a0 : 7424 * q.val ≤ (y 0).val ∧ (y 0).val < 7424 * q.val + 7424 := H 0
    have a1 : 512 * b.val ≤ (y 1).val ∧ (y 1).val < 512 * b.val + 512 := H 1
    omega
  · intro H i; fin_cases i
    · show 7424 * q.val ≤ (y 0).val ∧ (y 0).val < 7424 * q.val + 7424; omega
    · show 512 * b.val ≤ (y 1).val ∧ (y 1).val < 512 * b.val + 512; omega
theorem mem_GqC (b : Fin 16) (y : S22016x8192.Idx) : y ∈ GqC b ↔ (y 0).val / 7424 = 2 ∧ (y 1).val / 512 = b.val := by
  rw [Rect.mem_set_unit]
  have h0 : (y 0).val < 22016 := (y 0).isLt
  constructor
  · intro H
    have a0 : 14848 ≤ (y 0).val ∧ (y 0).val < 14848 + 7168 := H 0
    have a1 : 512 * b.val ≤ (y 1).val ∧ (y 1).val < 512 * b.val + 512 := H 1
    omega
  · intro H i; fin_cases i
    · show 14848 ≤ (y 0).val ∧ (y 0).val < 14848 + 7168; omega
    · show 512 * b.val ≤ (y 1).val ∧ (y 1).val < 512 * b.val + 512; omega
theorem mem_P16 (b : Fin 16) (y : S22016x8192.Idx) : y ∈ P16 b ↔ (y 1).val / 512 = b.val := by
  have h0 : (y 0).val < 22016 := (y 0).isLt
  rw [Finset.mem_union, Finset.mem_union, mem_Gq, mem_Gq, mem_GqC]
  show (y 0).val / 7424 = 0 ∧ _ ∨ (y 0).val / 7424 = 1 ∧ _ ∨ _ ↔ _
  omega
theorem mem_S6L (s : Fin 6) (y : S6x8192x512.Idx) : y ∈ S6L s ↔ (y 0).val = s.val ∧ (y 1).val < 7424 := by
  rw [Rect.mem_set_unit]
  have h2 : (y 2).val < 512 := (y 2).isLt
  constructor
  · intro H
    have a0 : s.val ≤ (y 0).val ∧ (y 0).val < s.val + 1 := H 0
    have a1 : 0 ≤ (y 1).val ∧ (y 1).val < 0 + 7424 := H 1
    omega
  · intro H i; fin_cases i
    · show s.val ≤ (y 0).val ∧ (y 0).val < s.val + 1; omega
    · show 0 ≤ (y 1).val ∧ (y 1).val < 0 + 7424; omega
    · show 0 ≤ (y 2).val ∧ (y 2).val < 0 + 512; omega
theorem mem_S6C (s : Fin 6) (y : S6x8192x512.Idx) : y ∈ S6C s ↔ (y 0).val = s.val ∧ (y 1).val < 7168 := by
  rw [Rect.mem_set_unit]
  have h2 : (y 2).val < 512 := (y 2).isLt
  constructor
  · intro H
    have a0 : s.val ≤ (y 0).val ∧ (y 0).val < s.val + 1 := H 0
    have a1 : 0 ≤ (y 1).val ∧ (y 1).val < 0 + 7168 := H 1
    omega
  · intro H i; fin_cases i
    · show s.val ≤ (y 0).val ∧ (y 0).val < s.val + 1; omega
    · show 0 ≤ (y 1).val ∧ (y 1).val < 0 + 7168; omega
    · show 0 ≤ (y 2).val ∧ (y 2).val < 0 + 512; omega
theorem mem_Rest (y : S6x8192x512.Idx) : y ∈ Rest ↔ slotLen (y 0).val ≤ (y 1).val := by
  rw [Rest, Finset.mem_filter]; exact and_iff_right (Finset.mem_univ y)
/-- Which part of the ring an element is in. -/
def partOf (a b : ℕ) : ℕ := if slotLen a ≤ b then 6 else a
theorem part_long (a b j : ℕ) (ha : a < 6) (hj : j = 0 ∨ j = 2 ∨ j = 3 ∨ j = 5) : a = j ∧ b < 7424 ↔ partOf a b = j := by
  unfold partOf slotLen; split_ifs <;> omega
theorem part_short (a b j : ℕ) (ha : a < 6) (hj : j = 1 ∨ j = 4) : a = j ∧ b < 7168 ↔ partOf a b = j := by
  unfold partOf slotLen; split_ifs <;> omega
theorem part_rest (a b : ℕ) (ha : a < 6) : slotLen a ≤ b ↔ partOf a b = 6 := by
  unfold partOf; split_ifs <;> omega
theorem mem_R7 (j : Fin 7) (y : S6x8192x512.Idx) : y ∈ R7 j ↔ partOf (y 0).val (y 1).val = j.val := by
  have h0 : (y 0).val < 6 := (y 0).isLt
  fin_cases j
  · exact (mem_S6L 0 y).trans (part_long _ _ 0 h0 (by decide))
  · exact (mem_S6C 1 y).trans (part_short _ _ 1 h0 (by decide))
  · exact (mem_S6L 2 y).trans (part_long _ _ 2 h0 (by decide))
  · exact (mem_S6L 3 y).trans (part_long _ _ 3 h0 (by decide))
  · exact (mem_S6C 4 y).trans (part_short _ _ 4 h0 (by decide))
  · exact (mem_S6L 5 y).trans (part_long _ _ 5 h0 (by decide))
  · exact (mem_Rest y).trans (part_rest _ _ h0)
theorem P16_disjoint : ∀ j j' : Fin 16, j ≠ j' → Disjoint (P16 j) (P16 j') := by
  intro j j' hne; rw [Finset.disjoint_left]; intro y hy hy'; rw [mem_P16] at hy hy'
  exact hne (Fin.ext (hy.symm.trans hy'))
theorem P16_cover : (Finset.univ : Finset (Fin 16)).biUnion P16 = Finset.univ := by
  ext y; simp only [Finset.mem_biUnion, Finset.mem_univ, true_and, iff_true]
  have h1 : (y 1).val < 8192 := (y 1).isLt
  exact ⟨⟨(y 1).val / 512, by omega⟩, by rw [mem_P16]⟩
theorem G_disjoint (b : Fin 16) : Disjoint (Gq 0 b) (Gq 1 b ∪ GqC b) := by
  rw [Finset.disjoint_left]; intro y hy hy'; rw [mem_Gq] at hy; rw [Finset.mem_union, mem_Gq, mem_GqC] at hy'
  have h : (y 0).val / 7424 = 0 := hy.1
  rcases hy' with h' | h'
  · have e : (y 0).val / 7424 = 1 := h'.1; omega
  · have e := h'.1; omega
theorem G_disjointC (b : Fin 16) : Disjoint (Gq 1 b) (GqC b) := by
  rw [Finset.disjoint_left]; intro y hy hy'; rw [mem_Gq] at hy; rw [mem_GqC] at hy'
  have h : (y 0).val / 7424 = 1 := hy.1
  have e := hy'.1; omega
theorem R7_disjoint : ∀ s s' : Fin 7, s ≠ s' → Disjoint (R7 s) (R7 s') := by
  intro s s' hne; rw [Finset.disjoint_left]; intro y hy hy'; rw [mem_R7] at hy hy'; exact hne (Fin.ext (hy.symm.trans hy'))
theorem R7_cover : (Finset.univ : Finset (Fin 7)).biUnion R7 = Finset.univ := by
  ext y; simp only [Finset.mem_biUnion, Finset.mem_univ, true_and, iff_true]
  have h0 : (y 0).val < 6 := (y 0).isLt
  exact ⟨⟨partOf (y 0).val (y 1).val, by unfold partOf; split_ifs <;> omega⟩, by rw [mem_R7]⟩

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), (1 : Fin 7), (2 : Fin 7), (3 : Fin 7), (4 : Fin 7), (5 : Fin 7), (6 : Fin 7)] (by decide) (by decide) Φ

/-- The weight whole is its 16 column blocks in three parts each; -/
theorem w_eq (c : Dev nD) (XW : Buf (Elt F) (wM.view.loc (c : Thread nD τ))) :
    (((c : Thread nD τ).loc main_arg3) ↦{fullShare} XW : sProp 𝕄) = bigSep Finset.univ (tripleP c XW) := by
  rw [Ring.pointsTo_blocks (ℓ := (c : Thread nD τ).loc main_arg3) P16 P16_disjoint P16_cover]
  refine bigSep_congr fun j _ => ?_
  rw [tripleP, homeP, homeP, homeCP, grp_set, grp_set, grpC_set]
  refine (Entails.antisymm (pointsTo_union (ℓ := (c : Thread nD τ).loc main_arg3) (G_disjoint j)).1 (pointsTo_union (ℓ := (c : Thread nD τ).loc main_arg3) (G_disjoint j)).2).trans ?_
  exact congrArg (fun P : sProp 𝕄 => iprop(_ ∗ P)) (Entails.antisymm (pointsTo_union (ℓ := (c : Thread nD τ).loc main_arg3) (G_disjointC j)).1 (pointsTo_union (ℓ := (c : Thread nD τ).loc main_arg3) (G_disjointC j)).2)
/-- at the body's entry, the first two column blocks apart from the rest. -/
theorem homes_zero (c : Dev nD) (XW : Buf (Elt F) (wM.view.loc (c : Thread nD τ))) :
    bigSep Finset.univ (tripleP c XW) = iprop(tripleP c XW 0 ∗ tripleP c XW 1 ∗ bigSep (Ring.homeSet (NB := 16) 2 0) (tripleP c XW)) := by
  have e : (Finset.univ : Finset (Fin 16)) = insert 0 (insert 1 (Ring.homeSet (NB := 16) 2 0)) := by
    ext b; simp only [Finset.mem_univ, Finset.mem_insert, Ring.mem_homeSet, true_iff, Fin.ext_iff]; have := b.isLt
    show b.val = 0 ∨ b.val = 1 ∨ _; omega
  rw [e, bigSep_insert (by simp [Ring.mem_homeSet, Fin.ext_iff]), bigSep_insert (by simp [Ring.mem_homeSet])]; rfl

omit [FloatOps F] in
theorem slotP_eq (c : Dev nD) (s : Fin 6) (f) : slotP c s f = (((c : Thread nD τ).loc cc0_scratch0) ↦[S6L s]{fullShare} f : sProp 𝕄) :=
  congrArg (fun S => (_ ↦[S]{fullShare} f : sProp 𝕄)) (rslot_set s)
omit [FloatOps F] in
theorem slotCP_eq (c : Dev nD) (s : Fin 6) (f) : slotCP c s f = (((c : Thread nD τ).loc cc0_scratch0) ↦[S6C s]{fullShare} f : sProp 𝕄) :=
  congrArg (fun S => (_ ↦[S]{fullShare} f : sProp 𝕄)) (rslotC_set s)
/-- The part of the ring no transfer reaches, at anything. -/
abbrev restP (c : Dev nD) : sProp 𝕄 := iprop(∃ f : Buf (Elt F) ((c : Thread nD τ).loc cc0_scratch0), ((c : Thread nD τ).loc cc0_scratch0) ↦[Rest]{fullShare} f)
/-- The ring whole is its six slots and the rest, and back. -/
theorem ring_split (c : Dev nD) :
    iprop(∃ f : Buf (Elt F) ((c : Thread nD τ).loc cc0_scratch0), ((c : Thread nD τ).loc cc0_scratch0) ↦{fullShare} f) ⊢ (iprop(slotsP c ∗ restP c) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) R7 R7_disjoint R7_cover f).trans (bigSep_fin7 _))) $$ H
  icases H2 with ⟨H0, H1, H2, H3, H4, H5, H6⟩
  isplitl [H0 H1 H2 H3 H4 H5]
  · isplitl [H0]; · iexists f; iapply (entails_of_eq (slotP_eq c 0 f).symm); iexact H0
    isplitl [H1]; · iexists f; iapply (entails_of_eq (slotCP_eq c 1 f).symm); iexact H1
    isplitl [H2]; · iexists f; iapply (entails_of_eq (slotP_eq c 2 f).symm); iexact H2
    isplitl [H3]; · iexists f; iapply (entails_of_eq (slotP_eq c 3 f).symm); iexact H3
    isplitl [H4]; · iexists f; iapply (entails_of_eq (slotCP_eq c 4 f).symm); iexact H4
    iexists f; iapply (entails_of_eq (slotP_eq c 5 f).symm); iexact H5
  iexists f; iexact H6
theorem ring_join (c : Dev nD) :
    (iprop(slotsP c ∗ restP c) : sProp 𝕄) ⊢ iprop(∃ f : Buf (Elt F) ((c : Thread nD τ).loc cc0_scratch0), ((c : Thread nD τ).loc cc0_scratch0) ↦{fullShare} f) := by
  iintro ⟨⟨⟨%f0, H0⟩, ⟨%f1, H1⟩, ⟨%f2, H2⟩, ⟨%f3, H3⟩, ⟨%f4, H4⟩, ⟨%f5, H5⟩⟩, ⟨%f6, H6⟩⟩
  iapply (Ring.pointsTo_blocks_join_exists (ℓ := (c : Thread nD τ).loc cc0_scratch0) R7 R7_disjoint R7_cover f0)
  irw [bigSep_fin7]
  isplitl [H0]; · iexists f0; iapply (entails_of_eq (slotP_eq c 0 f0)); iexact H0
  isplitl [H1]; · iexists f1; iapply (entails_of_eq (slotCP_eq c 1 f1)); iexact H1
  isplitl [H2]; · iexists f2; iapply (entails_of_eq (slotP_eq c 2 f2)); iexact H2
  isplitl [H3]; · iexists f3; iapply (entails_of_eq (slotP_eq c 3 f3)); iexact H3
  isplitl [H4]; · iexists f4; iapply (entails_of_eq (slotCP_eq c 4 f4)); iexact H4
  isplitl [H5]; · iexists f5; iapply (entails_of_eq (slotP_eq c 5 f5)); iexact H5
  iexists f6; iexact H6

omit [FloatOps F] in
/-- The kernel's own cells at zero are the six slots' cells. -/
theorem ownSems0_eq (c : Dev nD) : (Pipeline.ownSems0 (Ix := Unit) (Name := ℕ) (U := UU nD τ) (Lvl := ℕ) (Val := Elt F) (τ := τ) osem c : sProp 𝕄)
    = cellsP (F := F) c := by
  unfold Pipeline.ownSems0; rw [bigSep_fin6]

theorem ssq_set : (ssqM : Memref sig .tc .vmem S192x128 .f32).view.set = Finset.univ := View.set_whole _
/-- The scratch of the sums of squares whole is its whole view, and back. -/
theorem ssq_in (c : Dev nD) :
    iprop(∃ f : Buf (Elt F) ((c : Thread nD τ).loc cc0_scratch1), ((c : Thread nD τ).loc cc0_scratch1) ↦{fullShare} f) ⊢ (ssqP c ssqM : sProp 𝕄) := by
  iintro ⟨%f, H⟩
  iexists f
  iapply (entails_of_eq (congrArg (fun S => (((c : Thread nD τ).loc cc0_scratch1) ↦[S]{fullShare} f : sProp 𝕄)) ssq_set.symm)); iexact H
theorem ssq_out (c : Dev nD) :
    (ssqP c ssqM : sProp 𝕄) ⊢ iprop(∃ f : Buf (Elt F) ((c : Thread nD τ).loc cc0_scratch1), ((c : Thread nD τ).loc cc0_scratch1) ↦{fullShare} f) := by
  iintro ⟨%f, H⟩
  iexists f
  iapply (entails_of_eq (congrArg (fun S => (((c : Thread nD τ).loc cc0_scratch1) ↦[S]{fullShare} f : sProp 𝕄)) ssq_set)); iexact H

/-! ## The pipeline's proof data -/

/-- The region invariant, the same before and after the one point: the weight's column blocks held, the six slots, the rest of the ring and the
    scratch of the sums of squares at anything, the six cells at zero. -/
def Φ (c : Dev nD) : sProp 𝕄 :=
  iprop(bigSep Finset.univ (tripleP c (XWof m c)) ∗ slotsP c ∗ restP c ∗ ssqP c ssqM ∗ cellsP (F := F) c)

abbrev st0 (t : Fin cfg0.N) : Memref sig .tc .vmem S192x22016 .fp8e4m3 := win0_0.stage (cfg0.slots t 0)
abbrev st1 (t : Fin cfg0.N) : Memref sig .tc .vmem S192x128 .f32 := win0_1.stage (cfg0.slots t 1)
abbrev st2 (t : Fin cfg0.N) : Memref sig .tc .vmem S64x128 .f32 := win0_2.stage (cfg0.slots t 2)
abbrev st3 (t : Fin cfg0.N) : Memref sig .tc .vmem S12288x128 .f32 := win0_3.stage (cfg0.slots t 3)
abbrev st4 (t : Fin cfg0.N) : Memref sig .tc .vmem S3x63x8192 .bf16 := win0_4.stage (cfg0.slots t 4)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0
abbrev hst4 (t : Fin cfg0.N) : (st4 t).IsWhole := hstage0_4 0

/-- The four inputs' staging buffers, holding their blocks. -/
abbrev in0 (c : Dev nD) (t : Fin cfg0.N) := (st0 t).view.rep (Val := Elt F) (iblk m c 0 t)
abbrev in1 (c : Dev nD) (t : Fin cfg0.N) := (st1 t).view.rep (Val := Elt F) (iblk m c 1 t)
abbrev in2 (c : Dev nD) (t : Fin cfg0.N) := (st2 t).view.rep (Val := Elt F) (iblk m c 2 t)
abbrev in3 (c : Dev nD) (t : Fin cfg0.N) := (st3 t).view.rep (Val := Elt F) (iblk m c 3 t)

/-- What the body leaves in the result's block. -/
def outAt (c : Dev nD) (t : Fin cfg0.N) : (cfg0.win 4).block.Idx → Elt F (cfg0.win 4).elt :=
  outVal c (XWof m c) (st0 t) (st1 t) (st2 t) (st3 t) (in0 m c t) (in1 m c t) (in2 m c t) (in3 m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0 t) (hst0 t) (st1 t) (hst1 t) (st2 t) (hst2 t) (st3 t) (hst3 t) (st4 t) (hst4 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, HS, HE, HM, HC⟩, ⟨%W, -, HW⟩, ⟨%d0, %g0, %hg0, H0⟩, ⟨%d1, %g1, %hg1, H1⟩, ⟨%d2, %g2, %hg2, H2⟩, ⟨%d3, %g3, %hg3, H3⟩, ⟨%d4, %gO, -, HO⟩⟩
  ihave Hh3 := (entails_of_eq (homes_zero c (XWof m c))) $$ Hh
  icases Hh3 with ⟨Hg0, Hg1, HR⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  rw [hg0, hg1, hg2, hg3]
  sl_rw [prog_eq t]
  iapply (bodyRun c (XWof m c) (st0 t) (hst0 t) (st1 t) (hst1 t) (st2 t) (hst2 t) (st3 t) (hst3 t) (st4 t) (hst4 t) (in0 m c t) (in1 m c t) (in2 m c t) (in3 m c t) gO W)
  isplitl [H0' H1' H2' H3' HO HM Hg0 Hg1 HR HS HC HW]
  · isplitl [H0' H1' H2' H3']
    · isplitl [H0']; · iexact H0'
      isplitl [H1']; · iexact H1'
      isplitl [H2']; · iexact H2'
      iexact H3'
    isplitl [HO]; · iexact HO
    isplitl [HM]; · iexact HM
    isplitl [Hg0 Hg1 HR]
    · isplitl [Hg0]; · iexact Hg0
      isplitl [Hg1]; · iexact Hg1
      iexact HR
    isplitl [HS]; · iexact HS
    isplitl [HC]; · iexact HC
    iexact HW
  · iintro ⟨⟨H0, H1, H2, H3⟩, HO, HM, Hh, HS, HC, ⟨%W', HW⟩⟩
    isplitl [Hh HS HE HM HC]
    · isplitl [Hh]; · iexact Hh
      isplitl [HS]; · iexact HS
      isplitl [HE]; · iexact HE
      isplitl [HM]; · iexact HM
      iexact HC
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr
    · ipureintro; exact read_outOf c (XWof m c) (st0 t) (st1 t) (st2 t) (st3 t) (st4 t) (in0 m c t) (in1 m c t) (in2 m c t) (in3 m c t) gO
    iexact HO

/-! ## The run -/

def intoΦ (c : Dev nD) : sProp 𝕄 := iprop(bigSep Finset.univ (tripleP c (XWof m c)) ∗ Pipeline.ownSems0 osem c)
/-- The arguments no window stages, unchanged. -/
abbrev argP (c : Dev nD) (b : Ref sig .tc) : sProp 𝕄 := ((c : Thread nD τ).loc b) ↦{fullShare} m ((c : Thread nD τ).loc b)
def outOfΦ (c : Dev nD) : sProp 𝕄 := argP m c main_arg3
def keptZ (c : Dev nD) : sProp 𝕄 := iprop(argP m c main_arg1 ∗ argP m c main_arg2 ∗ argP m c main_arg4)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- At the compiled mesh, for any float values, from any memory with zero counters: every weakly fair execution of
    @main on the TensorCores terminates, and every final state has the windows' arrays at the computed contents, the
    other arguments unchanged, every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := outOfΦ m) (Z := keptZ m)
    (hX := fun c => by
      rw [unscopedRest0_eq, V_main_arg1, V_main_arg2, V_main_arg3, V_main_arg4, w_eq c (XWof m c)]
      unfold intoΦ keptZ
      iintro ⟨⟨H1, H2, H3, H4, -⟩, HS, -, -⟩; imodintro
      isplitl [H3 HS]
      · isplitl [H3]; · iexact H3
        iexact HS
      isplitl [H1]; · iexact H1
      isplitl [H2]; · iexact H2
      iexact H4)
    (hin := fun c => by
      rw [scopedRest0_eq, show (dats m 0 c).Φ 0 = Φ m c from rfl]
      unfold intoΦ Φ; rw [ownSems0_eq]
      iintro ⟨⟨H0, HC⟩, Hb, Hm⟩
      ihave Hs2 := (ring_split c) $$ Hb
      icases Hs2 with ⟨Hs, He⟩
      isplitl [H0]; · iexact H0
      isplitl [Hs]; · iexact Hs
      isplitl [He]; · iexact He
      isplitl [Hm]
      · iapply (ssq_in c); iexact Hm
      iexact HC)
    (hout := fun c => by
      rw [scopedRest0_eq, show (dats m 0 c).Φ (Fin.last cfg0.N) = Φ m c from rfl, ownSems0_eq]
      unfold Φ outOfΦ argP; rw [w_eq c (XWof m c)]
      iintro ⟨H0, HS, HE, HM, HC⟩
      isplitl [H0]; · iexact H0
      isplitl [HC]; · iexact HC
      isplitl [HS HE]
      · iapply (ring_join c)
        isplitl [HS]; · iexact HS
        iexact HE
      iapply (ssq_out c); iexact HM)
    (QY := QY m)
    (hY := fun c s' => by
      unfold outOfΦ keptZ argP QY
      iintro ⟨H3, ⟨H1, H2, H4⟩, HSI⟩
      icombine HSI H1 gives %h1
      icombine HSI H2 gives %h2
      icombine HSI H3 gives %h3
      icombine HSI H4 gives %h4
      imodintro
      isplitr
      · ipureintro; exact ⟨Buf.eq_of_forall_mem_univ h1, Buf.eq_of_forall_mem_univ h2, Buf.eq_of_forall_mem_univ h3, Buf.eq_of_forall_mem_univ h4⟩
      iexact HSI)
    (hQ := fun _ hh hz => ⟨hh, hz⟩)

theorem finalA_in0 (c : Dev nD) : finalA m c 0 = m ((c : Thread nD τ).loc main_arg0) :=
  ((dats (F := F) m 0 c).arrAt_in 0 rfl _).trans (V_main_arg0 m c)

end Cert.Proof.MlpDown
end
-- ==== Proof.MlpDownIdeal.Spec.lean ====
/-
  The down phase as mathematics over the extended reals: the residual plus the dequantised projection of the activations,
  the last row of each 64-row block dropped.
-/
module

public import Idealize.ShloMosaic.PureOps.Ideal
public import Idealize.ShloMosaic.Lib.Pointwise

@[expose] public section

noncomputable section

namespace Cert.Proof.MlpDownIdeal

open Idealize.ShloMosaic
open scoped BigOperators

section
variable (a : (⟨2, ![192, 22016]⟩ : Shape).Idx → EReal) (sa : (⟨1, ![192]⟩ : Shape).Idx → EReal)
  (h : (⟨2, ![192, 8192]⟩ : Shape).Idx → EReal)
  (w : (⟨2, ![22016, 8192]⟩ : Shape).Idx → EReal) (s : (⟨1, ![8192]⟩ : Shape).Idx → EReal)

/-- Row `t`, column `n` of the product of the codes. -/
def prod (t : Fin 192) (n : Fin 8192) : EReal := ∑ d : Fin 22016, a (ix2 t d) * w (ix2 d n)

/-- Row `t`, column `n` of the layer's output: the residual plus the product of the codes, times the row's scale, times
    the column's scale. -/
def layerOut (t : Fin 192) (n : Fin 8192) : EReal :=
  h (ix2 t n) + prod a w t n * sa (ix1 t) * s (ix1 n)

/-- The three blocks of 64 rows, the first 63 of each. -/
def stacked (y : (⟨3, ![3, 63, 8192]⟩ : Shape).Idx) : EReal :=
  layerOut a sa h w s ⟨(y 0).val * 64 + (y 1).val, by have h0 : (y 0).val < 3 := (y 0).isLt; have h1 : (y 1).val < 63 := (y 1).isLt; omega⟩
    ⟨(y 2).val, by have h2 : (y 2).val < 8192 := (y 2).isLt; exact h2⟩
end

/-- A sum of 22016 terms in three parts. -/
theorem sum_parts (f : Fin 22016 → EReal) : ∑ d, f d
    = (∑ d : Fin 7424, f ⟨d.val, by omega⟩) + (∑ d : Fin 7424, f ⟨7424 + d.val, by omega⟩) + ∑ d : Fin 7168, f ⟨14848 + d.val, by omega⟩ := by
  have e : ∑ d, f d = ∑ d : Fin (7424 + 7424 + 7168), f d := rfl
  rw [e, Fin.sum_univ_add, Fin.sum_univ_add]
  rfl

end Cert.Proof.MlpDownIdeal

end
-- ==== Proof.MlpDownIdeal.KernelValue.lean ====
/-
  What the kernel's result array holds over the extended reals: the layer's output of its arguments.
-/
module

public import proofs.«01_k».proof.Proof.MlpDownIdeal.Spec
public import proofs.«01_k».proof.Proof.MlpDownIdeal.Launch
public import Idealize.ShloMosaic.Lib.Pipeline.ValueKit

@[expose] public section

set_option maxRecDepth 16384

noncomputable section

namespace Cert.Proof.MlpDownIdeal

open Cert.DownIdeal Cert.DownIdeal.Gen Idealize.ShloMosaic Idealize.ShloMosaic.TcCoe Idealize.SL.Sem
open Idealize.ShloMosaic.Pipeline (Dat)

/-! ## One tile -/

/-- Element `(s, l)` of the tile of row block `b` and lane group `r`. -/
theorem tile_apply (acc : FVec Ideal S192x512 .f32) (rs : Vec Ideal S64x128 .f32) (sc : Vec Ideal S1x128 .f32) (h : Vec Ideal S64x128 .f32)
    (r : Fin 4) (b : Fin 3) (s : Fin 63) (l : Fin 128) (i : Fin 192) (j : Fin 512) (s' : Fin 64) (hs : s'.val = s.val)
    (hi : i.val = 64 * b.val + s.val) (hj : j.val = 128 * r.val + l.val) :
    tile acc rs sc h r b (tix s l) = h (ix2 s' l) + acc (ix2 i j) * rs (ix2 s' l) * sc (ix2 0 l) := by
  rw [show tix s l = ix3 0 s l from by funext a; fin_cases a <;> rfl]
  unfold tile
  pointwise
  have es : (⟨s.val, by omega⟩ : Fin 64) = s' := Fin.ext hs.symm
  have ei : (⟨64 * b.val + s.val, by omega⟩ : Fin 192) = i := Fin.ext hi.symm
  have ej : (⟨128 * r.val + l.val, by omega⟩ : Fin 512) = j := Fin.ext hj.symm
  simp only [es, ei, ej]

/-! ## A slot's contents -/

section Slot
variable (c : Dev nD) (XW : Buf (Elt Ideal) (wM.view.loc (c : Thread nD τ)))

/-- A slot in which a part of column block `b` has landed reads, as a matrix, that part of the weight. -/
theorem slot_cast (s : Fin 6) (q : Fin 2) (b : Fin 16) (f) (off : Fin 3 → Nat) (e : off = slotOff s) (hh) :
    shapeCast S7424x512 (ringM.view.readAt (Elt Ideal) (Rect.unit (s := S6x8192x512) off S1x7424x512.size hh).toLoadRect (landed c XW s q b f))
      shapeCasts_S1x7424x512_S7424x512 = (grp q b).view.read (Elt Ideal) XW := by
  subst e
  have h1 : ∀ f' : Buf (Elt Ideal) ((rslot s).view.loc (c : Thread nD τ)),
      shapeCast S7424x512 (ringM.view.readAt (Elt Ideal) (Rect.unit (s := S6x8192x512) (slotOff s) S1x7424x512.size hh).toLoadRect f')
        shapeCasts_S1x7424x512_S7424x512 = (rslot s).view.read (Elt Ideal) f' := fun _ => rfl
  rw [h1]
  exact View.read_writes_whole (rslot s).view f _
theorem slot_castC (s : Fin 6) (b : Fin 16) (f) (off : Fin 3 → Nat) (e : off = slotOff s) (hh) :
    shapeCast S7168x512 (ringM.view.readAt (Elt Ideal) (Rect.unit (s := S6x8192x512) off S1x7168x512.size hh).toLoadRect (landedC c XW s b f))
      shapeCasts_S1x7168x512_S7168x512 = (grpC b).view.read (Elt Ideal) XW := by
  subst e
  have h1 : ∀ f' : Buf (Elt Ideal) ((rslotC s).view.loc (c : Thread nD τ)),
      shapeCast S7168x512 (ringM.view.readAt (Elt Ideal) (Rect.unit (s := S6x8192x512) (slotOff s) S1x7168x512.size hh).toLoadRect f')
        shapeCasts_S1x7168x512_S7168x512 = (rslotC s).view.read (Elt Ideal) f' := fun _ => rfl
  rw [h1]
  exact View.read_writes_whole (rslotC s).view f _

/-- Element `(d, n)` of part `q` of column block `b` is the weight's at row `7424 q + d`, column `512 b + n`. -/
theorem grp_apply (q : Fin 2) (b : Fin 16) (d : Fin 7424) (n : Fin 512) (i : Fin 22016) (j : Fin 8192) (hi : i.val = 7424 * q.val + d.val)
    (hj : j.val = 512 * b.val + n.val) : (grp q b).view.read (Elt Ideal) XW (ix2 d n) = XW (ix2 i j) := by
  refine congrArg XW (show (grp q b).view.emb (ix2 d n) = ix2 i j from funext fun a => Fin.ext ?_)
  fin_cases a
  · show 7424 * q.val + 1 * d.val = i.val; omega
  · show 512 * b.val + 1 * n.val = j.val; omega
theorem grpC_apply (b : Fin 16) (d : Fin 7168) (n : Fin 512) (i : Fin 22016) (j : Fin 8192) (hi : i.val = 14848 + d.val)
    (hj : j.val = 512 * b.val + n.val) : (grpC b).view.read (Elt Ideal) XW (ix2 d n) = XW (ix2 i j) := by
  refine congrArg XW (show (grpC b).view.emb (ix2 d n) = ix2 i j from funext fun a => Fin.ext ?_)
  fin_cases a
  · show 14848 + 1 * d.val = i.val; omega
  · show 512 * b.val + 1 * n.val = j.val; omega
end Slot

/-! ## The product in three parts -/

theorem pay1_apply (x : Vec Ideal S192x7424 .fp8e4m3) (w : Vec Ideal S1x7424x512 .fp8e4m3) (W : Vec Ideal S7424x512 .fp8e4m3)
    (hw : shapeCast S7424x512 w shapeCasts_S1x7424x512_S7424x512 = W) (i : Fin 192) (j : Fin 512) :
    k0_pay1 x w (ix2 i j) = ∑ d : Fin 7424, x (ix2 i d) * W (ix2 d j) := by
  unfold k0_pay1
  rw [hw]
  pointwise
theorem pay2_apply (a : FVec Ideal S192x512 .f32) (x : Vec Ideal S192x7424 .fp8e4m3) (w : Vec Ideal S1x7424x512 .fp8e4m3) (W : Vec Ideal S7424x512 .fp8e4m3)
    (hw : shapeCast S7424x512 w shapeCasts_S1x7424x512_S7424x512 = W) (i : Fin 192) (j : Fin 512) :
    k0_pay2 a x w (ix2 i j) = a (ix2 i j) + ∑ d : Fin 7424, x (ix2 i d) * W (ix2 d j) := by
  unfold k0_pay2
  rw [hw]
  pointwise
theorem pay3_apply (a : FVec Ideal S192x512 .f32) (x : Vec Ideal S192x7168 .fp8e4m3) (w : Vec Ideal S1x7168x512 .fp8e4m3) (W : Vec Ideal S7168x512 .fp8e4m3)
    (hw : shapeCast S7168x512 w shapeCasts_S1x7168x512_S7168x512 = W) (i : Fin 192) (j : Fin 512) :
    k0_pay3 a x w (ix2 i j) = a (ix2 i j) + ∑ d : Fin 7168, x (ix2 i d) * W (ix2 d j) := by
  unfold k0_pay3
  rw [hw]
  pointwise

/-- A load of a box from a buffer that holds `x` reads `x` at the box's place. -/
theorem load_rep {s : Shape} {e : EltTy} (M : Memref sig .tc .vmem s e) (x : s.Idx → Elt Ideal e) (off size : Fin s.rank → Nat) (inb)
    (i : (Rect.unit (s := s) off size inb).shape.Idx) (j : s.Idx) (hj : ∀ a, (j a).val = off a + (i a).val) :
    M.view.readAt (Elt Ideal) (Rect.unit (s := s) off size inb).toLoadRect (M.view.rep x) i = x j := by
  rw [View.readAt_apply, View.read_rep]
  exact congrArg x (funext fun a => Fin.ext ((Rect.idx_unit_val off size inb i a).trans (hj a).symm))

variable (m : (ℓ : Loc nD τ sig) → Buf (Elt Ideal) ℓ)

/-! ## The input blocks -/

/-- Every window's block index at the one point. -/
theorem kidx : ∀ t : Fin cfg0.N, win0_0.index t = ![0, 0] ∧ win0_1.index t = ![0, 0] ∧ win0_2.index t = ![0, 0] ∧ win0_3.index t = ![0, 0] :=
  (by decide +kernel : ∀ t : Fin grid0.N, _)

theorem kblk0 (c : Dev nD) (a : Fin 192) (b : Fin 22016) : iblk m c 0 t0_0 (ix2 a b) = m ((c : Thread nD τ).loc main_arg0) (ix2 a b) := by
  blk_ext! [iblk, V, kidx t0_0]
theorem kblk1 (c : Dev nD) (a : Fin 192) (b : Fin 128) : iblk m c 1 t0_0 (ix2 a b) = m ((c : Thread nD τ).loc main_arg1) (ix1 a) := by
  blk_ext! [iblk, V, kidx t0_0]
theorem kblk2 (c : Dev nD) (a : Fin 64) (b : Fin 128) (j : Fin 8192) (hj : j.val = a.val * 128 + b.val) :
    iblk m c 2 t0_0 (ix2 a b) = m ((c : Thread nD τ).loc main_arg4) (ix1 j) := by
  blk_ext! [iblk, V, kidx t0_0]
/-- The residual in groups of 128 columns: row `192 q + t` is token `t` of group `q`. -/
theorem kblk3 (c : Dev nD) (a : Fin 12288) (b : Fin 128) (t : Fin 192) (j : Fin 8192) (ht : t.val = a.val % 192) (hj : j.val = a.val / 192 * 128 + b.val) :
    iblk m c 3 t0_0 (ix2 a b) = m ((c : Thread nD τ).loc main_arg2) (ix2 t j) := by
  blk_ext! [iblk, V, kidx t0_0]

/-- Row `i` of the left operand's three column ranges as loaded. -/
theorem leftA (c : Dev nD) (i : Fin 192) (d : Fin 7424) (d' : Fin 22016) (h : d'.val = d.val) :
    lA c (st0 t0_0) (in0 m c t0_0) (ix2 i d) = m ((c : Thread nD τ).loc main_arg0) (ix2 i d') :=
  (load_rep (st0 t0_0) _ _ _ _ _ (ix2 i d') fun a => by
    fin_cases a
    · show i.val = 0 + i.val; omega
    · show d'.val = 0 + d.val; omega).trans (kblk0 m c i d')
theorem leftB (c : Dev nD) (i : Fin 192) (d : Fin 7424) (d' : Fin 22016) (h : d'.val = 7424 + d.val) :
    lB c (st0 t0_0) (in0 m c t0_0) (ix2 i d) = m ((c : Thread nD τ).loc main_arg0) (ix2 i d') :=
  (load_rep (st0 t0_0) _ _ _ _ _ (ix2 i d') fun a => by
    fin_cases a
    · show i.val = 0 + i.val; omega
    · exact h).trans (kblk0 m c i d')
theorem leftC (c : Dev nD) (i : Fin 192) (d : Fin 7168) (d' : Fin 22016) (h : d'.val = 14848 + d.val) :
    lC c (st0 t0_0) (in0 m c t0_0) (ix2 i d) = m ((c : Thread nD τ).loc main_arg0) (ix2 i d') :=
  (load_rep (st0 t0_0) _ _ _ _ _ (ix2 i d') fun a => by
    fin_cases a
    · show i.val = 0 + i.val; omega
    · exact h).trans (kblk0 m c i d')
/-- The row scale of row block `b`'s row `s`, in every lane. -/
theorem rows_apply (c : Dev nD) (b : Fin 3) (s : Fin 64) (l : Fin 128) (t : Fin 192) (ht : t.val = 64 * b.val + s.val) :
    (st1 t0_0).view.readAt (Elt Ideal) (Rect.unit (s := S192x128) ![64 * b.val, 0] S64x128.size (rs_inb b)).toLoadRect (in1 m c t0_0) (ix2 s l)
      = m ((c : Thread nD τ).loc main_arg1) (ix1 t) :=
  (load_rep (st1 t0_0) _ _ _ _ _ (ix2 t l) fun a => by
    fin_cases a
    · exact ht
    · show l.val = 0 + l.val; omega).trans (kblk1 m c t l)
/-- The column scales of a lane group: row `q` of the scales' layout by 128 lanes. -/
theorem cols_apply (c : Dev nD) (off : Fin 2 → Nat) (inb) (q : Fin 64) (e : off = ![q.val, 0]) (l : Fin 128) (n : Fin 8192)
    (hn : n.val = q.val * 128 + l.val) :
    (st2 t0_0).view.readAt (Elt Ideal) (Rect.unit (s := S64x128) off S1x128.size inb).toLoadRect (in2 m c t0_0) (ix2 0 l)
      = m ((c : Thread nD τ).loc main_arg4) (ix1 n) :=
  (load_rep (st2 t0_0) _ _ _ _ _ (ix2 q l) fun a => by
    subst e
    fin_cases a
    · show q.val = q.val + 0; omega
    · show l.val = 0 + l.val; omega).trans (kblk2 m c q l n hn)
/-- The residual's 64 rows at row `o` of its layout by groups. -/
theorem resid_apply (c : Dev nD) (off : Fin 2 → Nat) (inb) (o : Nat) (e : off = ![o, 0]) (s : Fin 64) (l : Fin 128) (R : Fin 12288) (hR : R.val = o + s.val)
    (t : Fin 192) (n : Fin 8192) (ht : t.val = R.val % 192) (hn : n.val = R.val / 192 * 128 + l.val) :
    (st3 t0_0).view.readAt (Elt Ideal) (Rect.unit (s := S12288x128) off S64x128.size inb).toLoadRect (in3 m c t0_0) (ix2 s l)
      = m ((c : Thread nD τ).loc main_arg2) (ix2 t n) :=
  (load_rep (st3 t0_0) _ _ _ _ _ (ix2 R l) fun a => by
    subst e
    fin_cases a
    · exact hR
    · show l.val = 0 + l.val; omega).trans (kblk3 m c R l t n ht hn)

/-- Trip `k`'s 512 columns of the product. -/
theorem accV_apply (c : Dev nD) (k : Fin k0_t1_loop.trips) (i : Fin 192) (j : Fin 512) (n : Fin 8192) (hn : n.val = 512 * k.val + j.val) :
    accV c (XWof m c) (st0 t0_0) (in0 m c t0_0) k (ix2 i j)
      = prod (m ((c : Thread nD τ).loc main_arg0)) (m ((c : Thread nD τ).loc main_arg3)) i n := by
  have hk : k.val < 16 := Nat.lt_of_lt_of_eq k.isLt trips_eq
  have hb : (cb k.val).val = k.val := Ring.bk_val hk
  have hn' : n.val = 512 * (cb k.val).val + j.val := by omega
  unfold prod
  rw [sum_parts]
  unfold accV
  rw [pay3_apply _ _ _ _ (slot_castC c (XWof m c) _ _ _ _ (off27_sC k) _), pay2_apply _ _ _ _ (slot_cast c (XWof m c) _ _ _ _ _ (off24_sB k) _),
    pay1_apply _ _ _ (slot_cast c (XWof m c) _ _ _ _ _ (off24_sA k) _)]
  refine congrArg₂ (· + ·) (congrArg₂ (· + ·) ?_ ?_) ?_
  · exact Finset.sum_congr rfl fun d _ => congrArg₂ (· * ·) (leftA m c i d ⟨d.val, by omega⟩ rfl) (grp_apply c (XWof m c) 0 _ d j ⟨d.val, by omega⟩ n (by show d.val = 7424 * 0 + d.val; omega) hn')
  · exact Finset.sum_congr rfl fun d _ => congrArg₂ (· * ·) (leftB m c i d ⟨7424 + d.val, by omega⟩ rfl) (grp_apply c (XWof m c) 1 _ d j ⟨7424 + d.val, by omega⟩ n (by show 7424 + d.val = 7424 * 1 + d.val; omega) hn')
  · exact Finset.sum_congr rfl fun d _ => congrArg₂ (· * ·) (leftC m c i d ⟨14848 + d.val, by omega⟩ rfl) (grpC_apply c (XWof m c) _ d j ⟨14848 + d.val, by omega⟩ n rfl hn')

/-- What the body leaves in the result's block. -/
theorem outAt_apply (c : Dev nD) (y : S3x63x8192.Idx) : outAt m c t0_0 y
    = stacked (m ((c : Thread nD τ).loc main_arg0)) (m ((c : Thread nD τ).loc main_arg1))
        (m ((c : Thread nD τ).loc main_arg2)) (m ((c : Thread nD τ).loc main_arg3)) (m ((c : Thread nD τ).loc main_arg4)) y := by
  have hB : (y 0).val < 3 := (y 0).isLt
  have hS : (y 1).val < 63 := (y 1).isLt
  have hC : (y 2).val < 8192 := (y 2).isLt
  have hk : (outTrip y).val = (y 2).val / 512 := rfl
  have hk' : (outTrip y).val < 16 := by omega
  have hr : (outGroup y).val = (y 2).val % 512 / 128 := rfl
  have hb : (outBlock y).val = (y 0).val := rfl
  have hs : (outRow y).val = (y 1).val := rfl
  have hl : (outLane y).val = (y 2).val % 128 := rfl
  have ht : (y 0).val * 64 + (y 1).val = 64 * (outBlock y).val + (outRow y).val := by omega
  unfold outAt outVal tileAt stacked layerOut
  refine (tile_apply _ _ _ _ _ _ _ _ ⟨(y 0).val * 64 + (y 1).val, by omega⟩ ⟨128 * (outGroup y).val + (outLane y).val, by omega⟩ ⟨(y 1).val, by omega⟩ rfl ht rfl).trans ?_
  refine congrArg₂ (· + ·) ?_ (congrArg₂ (· * ·) (congrArg₂ (· * ·) ?_ (rows_apply m c _ _ _ _ ht)) ?_)
  · refine resid_apply m c _ _ _ (k0_off29_eq (outTrip y) (outGroup y) (outBlock y)) _ _
      ⟨768 * (outTrip y).val + 192 * (outGroup y).val + 64 * (outBlock y).val + (y 1).val, by omega⟩ rfl _ _ ?_ ?_
    · show (y 0).val * 64 + (y 1).val = (768 * (outTrip y).val + 192 * (outGroup y).val + 64 * (outBlock y).val + (y 1).val) % 192
      omega
    · show (y 2).val = (768 * (outTrip y).val + 192 * (outGroup y).val + 64 * (outBlock y).val + (y 1).val) / 192 * 128 + (outLane y).val
      omega
  · refine accV_apply m c _ _ _ _ ?_
    show (y 2).val = 512 * (outTrip y).val + (128 * (outGroup y).val + (outLane y).val)
    omega
  · refine cols_apply m c _ _ ⟨4 * (outTrip y).val + (outGroup y).val, by omega⟩ (k0_off28_eq (outTrip y) (outGroup y)) _ _ ?_
    show (y 2).val = (4 * (outTrip y).val + (outGroup y).val) * 128 + (outLane y).val
    omega

/-- The kernel's result array after the run. -/
theorem kernel_final (c : Dev nD) : finalA m c 4
    = stacked (m ((c : Thread nD τ).loc main_arg0)) (m ((c : Thread nD τ).loc main_arg1))
        (m ((c : Thread nD τ).loc main_arg2)) (m ((c : Thread nD τ).loc main_arg3)) (m ((c : Thread nD τ).loc main_arg4)) := by
  unfold finalA
  refine (dats m 0 c).arrAt_eq_of_after_last 4 t0_0 (by decide +kernel) _ fun j => ?_
  blk_simp
  rw [after_w4]
  exact outAt_apply m c j

end Cert.Proof.MlpDownIdeal

end
-- ==== Proof.MlpDownIdeal.ReferenceValue.lean ====
/-
  What the reference's result array holds: the layer's output of its arguments.
-/
module

public import proofs.«01_k».proof.Proof.MlpDownIdeal.Spec
public import proofs.«01_k».proof.Proof.Gen.DownReferenceIdeal.Value
public import Idealize.ShloMosaic.Lib.Pipeline.ValueKit
public import Idealize.ShloMosaic.Lib.Pointwise

@[expose] public section

set_option maxRecDepth 16384

noncomputable section

namespace Cert.Proof.MlpDownIdeal

open Cert.DownReferenceIdeal Cert.DownReferenceIdeal.Gen Idealize.ShloMosaic Idealize.ShloMosaic.TcCoe Idealize.SL.Sem
open Idealize.ShloMosaic.Pipeline (Dat)

variable (m : (ℓ : Loc nD τ sig) → Buf (Elt Ideal) ℓ)

/-- Every window's block index at the one point. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The five input blocks at the one point are the arguments. -/
theorem blk0 (c : Dev nD) (a : Fin 192) (b : Fin 22016) : iblk m c 0 t0_0 (ix2 a b) = m ((c : Thread nD τ).loc main_arg0) (ix2 a b) := by
  blk_ext! [iblk, V, idx t0_0]
theorem blk1 (c : Dev nD) (a : Fin 192) (b : Fin 1) : iblk m c 1 t0_0 (ix2 a b) = m ((c : Thread nD τ).loc main_arg1) (ix1 a) := by
  blk_ext! [iblk, V, idx t0_0]
theorem blk2 (c : Dev nD) (a : Fin 192) (b : Fin 8192) : iblk m c 2 t0_0 (ix2 a b) = m ((c : Thread nD τ).loc main_arg2) (ix2 a b) := by
  blk_ext! [iblk, V, idx t0_0]
theorem blk3 (c : Dev nD) (a : Fin 22016) (b : Fin 8192) : iblk m c 3 t0_0 (ix2 a b) = m ((c : Thread nD τ).loc main_arg3) (ix2 a b) := by
  blk_ext! [iblk, V, idx t0_0]
theorem blk4 (c : Dev nD) (a : Fin 1) (b : Fin 8192) : iblk m c 4 t0_0 (ix2 a b) = m ((c : Thread nD τ).loc main_arg4) (ix1 b) := by
  blk_ext! [iblk, V, idx t0_0]

/-- The reference's result array after the run. -/
theorem reference_final (c : Dev nD) : (dats m 0 c).arrAt 5 cfg0.N
    = stacked (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 5 t0_0 (by decide +kernel) _ fun j => ?_
  blk_simp
  rw [after0_5]
  unfold out0_5
  frame_out
  unfold k0_pay1
  pointwise
  unfold stacked layerOut prod
  simp only [blk0, blk1]
  exact congrArg₂ (· + ·) (blk2 m c _ _) (congrArg₂ (· * ·) (congrArg₂ (· * ·)
    (Finset.sum_congr rfl fun d _ => congrArg₂ (· * ·) rfl (blk3 m c _ _)) rfl) (blk4 m c _ _))

end Cert.Proof.MlpDownIdeal

end
-- ==== Proof.LmHead.Names.lean ====
/-
  The names of the logits phase. The kernel streams the head weight (8192 rows, 32000 columns) as 62 column blocks of
  512 columns and one last block of 256 through a ring of six slots: block `t` goes to slot `(t + 2) mod 6`, each slot
  with a DMA semaphore of its own, the last block into the left half of its slot's columns. Here: the column blocks,
  the slots and the semaphores under one name each, the offsets the kernel computes for them in closed form, and the
  pieces the proof moves about: a column block held, a slot held, a slot with a transfer under way.
-/
module

public import proofs.«01_k».proof.Defs
public import proofs.«01_k».proof.Proof.Gen.Logits.Launch
public import proofs.«01_k».proof.Proof.Gen.Logits.Skeleton
public import proofs.«01_k».proof.Proof.Gen.Logits.Loops
public import proofs.«01_k».proof.Proof.Gen.Logits.Points
public import proofs.«01_k».proof.Proof.Gen.Logits.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.LmHead

open Cert.Logits Cert.Logits.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Column blocks, slots, semaphores -/

abbrev wM : Memref sig .tc .hbm S8192x32000 .fp8e4m3 := Memref.whole main_arg2
abbrev ringM : Memref sig .tc .vmem S6x8192x512 .fp8e4m3 := Memref.whole cc0_scratch0
abbrev bigM : Memref sig .tc .vmem S33024x128 .f32 := Memref.whole cc0_scratch1

abbrev grpOff (b : Fin 62) : Fin 2 → Nat := ![0, 512 * b.val]
theorem grpOff_inb (b : Fin 62) : ∀ a, grpOff b a + S8192x512.size a ≤ S8192x32000.size a := by
  have := b.isLt; intro a; fin_cases a
  · show 0 + 8192 ≤ 8192; omega
  · show 512 * b.val + 512 ≤ 32000; omega
abbrev tailOff : Fin 2 → Nat := ![0, 31744]
theorem tailOff_inb : ∀ a, tailOff a + S8192x256.size a ≤ S8192x32000.size a := by decide
abbrev slotOff (s : Fin 6) : Fin 3 → Nat := ![s.val, 0, 0]
theorem slotOff_inb (s : Fin 6) : ∀ a, slotOff s a + S1x8192x512.size a ≤ S6x8192x512.size a := by
  have := s.isLt; intro a; fin_cases a
  · show s.val + 1 ≤ 6; omega
  · show 0 + 8192 ≤ 8192; omega
  · show 0 + 512 ≤ 512; omega
theorem slotOff_inbT (s : Fin 6) : ∀ a, slotOff s a + S1x8192x256.size a ≤ S6x8192x512.size a := by
  have := s.isLt; intro a; fin_cases a
  · show s.val + 1 ≤ 6; omega
  · show 0 + 8192 ≤ 8192; omega
  · show 0 + 256 ≤ 512; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Column block `b` of the weight, 512 columns. -/
def grp (b : Fin 62) : Memref sig .tc .hbm S8192x512 .fp8e4m3 :=
  wM.slice (Rect.unit (s := S8192x32000) (grpOff b) S8192x512.size (grpOff_inb b)) (fun _ => rfl)
/-- The last column block of the weight, 256 columns. -/
def grpT : Memref sig .tc .hbm S8192x256 .fp8e4m3 :=
  wM.slice (Rect.unit (s := S8192x32000) tailOff S8192x256.size tailOff_inb) (fun _ => rfl)
/-- Slot `s` of the ring. -/
def rslot (s : Fin 6) : Memref sig .tc .vmem S8192x512 .fp8e4m3 :=
  (ringM.slice (Rect.unit (s := S6x8192x512) (slotOff s) S1x8192x512.size (slotOff_inb s)) (fun _ => rfl)).squeeze S8192x512 squeezes_S1x8192x512_S8192x512
/-- The left half of slot `s` of the ring. -/
def rslotT (s : Fin 6) : Memref sig .tc .vmem S8192x256 .fp8e4m3 :=
  (ringM.slice (Rect.unit (s := S6x8192x512) (slotOff s) S1x8192x256.size (slotOff_inbT s)) (fun _ => rfl)).squeeze S8192x256 squeezes_S1x8192x256_S8192x256
/-- Slot `s`'s DMA semaphore. -/
def csm (s : Fin 6) : DmaSems sig S_ := (cc0_scratch2.slice (Rect.unit (s := S6) (semOff s) S1.size (semOff_inb s))).squeeze S_ squeezes_S1_S_

instance (s : Fin 6) : ClosedOff (slotOff s) := ⟨slotOff s, rfl⟩
instance (b : Fin 62) : ClosedOff (grpOff b) := ⟨grpOff b, rfl⟩

/-- Block `t`'s slot. -/
abbrev sA (t : ℕ) : Fin 6 := Ring.sl 6 (t + 2)
/-- Block `t` of 512 columns. -/
abbrev gA (t : ℕ) : Fin 62 := Ring.bk 62 t

/-! ## The computed offsets in closed form -/

theorem off2_sA (k : Fin k0_t1_loop.trips) : k0_off2 k = semOff (sA (k.val + 5)) := by
  rw [k0_off2_eq, semOff]; simp only [sA, Ring.sl, Fin.ofNat]; congr 1; omega
theorem off3_sA (k : Fin k0_t1_loop.trips) : k0_off3 k = slotOff (sA (k.val + 5)) := by
  rw [k0_off3_eq, slotOff]; simp only [sA, Ring.sl, Fin.ofNat]; congr 1; omega
theorem off5_sA (k : Fin k0_t1_loop.trips) : k0_off5 k = semOff (sA (k.val + 5)) := by
  rw [k0_off5_eq, semOff]; simp only [sA, Ring.sl, Fin.ofNat]; congr 1; omega
theorem off6_sA (k : Fin k0_t1_loop.trips) : k0_off6 k = slotOff (sA (k.val + 5)) := by
  rw [k0_off6_eq, slotOff]; simp only [sA, Ring.sl, Fin.ofNat]; congr 1; omega
theorem off8_sA (k : Fin k0_t1_loop.trips) : k0_off8 k = semOff (sA k.val) := by
  rw [k0_off8_eq, semOff]; simp only [sA, Ring.sl, Fin.ofNat]; congr 1; omega
theorem off9_sA (k : Fin k0_t1_loop.trips) : k0_off9 k = slotOff (sA k.val) := by
  rw [k0_off9_eq, slotOff]; simp only [sA, Ring.sl, Fin.ofNat]; congr 1; omega
theorem off11_sA (k : Fin k0_t1_loop.trips) : k0_off11 k = slotOff (sA k.val) := by
  rw [k0_off11_eq, slotOff]; simp only [sA, Ring.sl, Fin.ofNat]; congr 1; omega

theorem off4_gA : ∀ k : Fin k0_t1_loop.trips, k.val ≤ 56 → k0_off4 k = grpOff (gA (k.val + 5)) := by decide +kernel
theorem off7_tail : ∀ k : Fin k0_t1_loop.trips, k.val = 57 → k0_off7 k = tailOff := by decide +kernel
theorem off10_gA : ∀ k : Fin k0_t1_loop.trips, k0_off10 k = grpOff (gA k.val) := by decide +kernel
theorem off13_tail : k0_off13 = tailOff := by decide +kernel

theorem trips_eq : k0_t1_loop.trips = 62 := by decide +kernel
theorem cond1_zero : ∀ k : Fin k0_t1_loop.trips, k.val = 0 → ¬ k0_cond1 k = 1#1 := by decide +kernel
theorem cond1_pos : ∀ k : Fin k0_t1_loop.trips, k.val ≠ 0 → k0_cond1 k = 1#1 := by decide +kernel
theorem cond2_low : ∀ k : Fin k0_t1_loop.trips, k.val ≤ 56 → k0_cond2 k = 1#1 := by decide +kernel
theorem cond2_high : ∀ k : Fin k0_t1_loop.trips, 56 < k.val → ¬ k0_cond2 k = 1#1 := by decide +kernel
theorem cond3_yes : ∀ k : Fin k0_t1_loop.trips, k.val = 57 → k0_cond3 k = 1#1 := by decide +kernel
theorem cond3_no : ∀ k : Fin k0_t1_loop.trips, k.val ≠ 57 → ¬ k0_cond3 k = 1#1 := by decide +kernel

/-- The loop's window of the ring, at trip `k`. -/
instance (priority := high) closed11 (k : Fin k0_t1_loop.trips) : ClosedOff (k0_off11 k) := ⟨slotOff (sA k.val), off11_sA k⟩

/-! ## The kernel's slices are these names -/

theorem csm_congr {off : Fin 1 → Nat} {s : Fin 6} (e : off = semOff s) (hh) :
    (cc0_scratch2.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (ringM.slice (Rect.unit (s := S6x8192x512) off S1x8192x512.size hh) hs).squeeze S8192x512 squeezes_S1x8192x512_S8192x512 = rslot s :=
  congrArg (fun M : Memref sig .tc .vmem S1x8192x512 .fp8e4m3 => M.squeeze S8192x512 squeezes_S1x8192x512_S8192x512) (Memref.slice_unit_congr _ e _ _ _ _)
theorem rslotT_congr {off : Fin 3 → Nat} {s : Fin 6} (e : off = slotOff s) (hh hs) :
    (ringM.slice (Rect.unit (s := S6x8192x512) off S1x8192x256.size hh) hs).squeeze S8192x256 squeezes_S1x8192x256_S8192x256 = rslotT s :=
  congrArg (fun M : Memref sig .tc .vmem S1x8192x256 .fp8e4m3 => M.squeeze S8192x256 squeezes_S1x8192x256_S8192x256) (Memref.slice_unit_congr _ e _ _ _ _)
theorem grp_congr {off : Fin 2 → Nat} {b : Fin 62} (e : off = grpOff b) (hh hs) :
    wM.slice (Rect.unit (s := S8192x32000) off S8192x512.size hh) hs = grp b :=
  Memref.slice_unit_congr _ e _ _ _ (fun _ => rfl)
theorem grpT_congr {off : Fin 2 → Nat} (e : off = tailOff) (hh hs) :
    wM.slice (Rect.unit (s := S8192x32000) off S8192x256.size hh) hs = grpT :=
  Memref.slice_unit_congr _ e _ _ _ (fun _ => rfl)

section Canon
variable (k : Fin k0_t1_loop.trips)

@[sl_canon] theorem semL0 (hh) : (cc0_scratch2.slice (Rect.unit (s := S6) ![0] S1.size hh)).squeeze S_ squeezes_S1_S_ = csm 0 := csm_congr (by decide) _
@[sl_canon] theorem semL1 (hh) : (cc0_scratch2.slice (Rect.unit (s := S6) ![1] S1.size hh)).squeeze S_ squeezes_S1_S_ = csm 1 := csm_congr (by decide) _
@[sl_canon] theorem semL2 (hh) : (cc0_scratch2.slice (Rect.unit (s := S6) ![2] S1.size hh)).squeeze S_ squeezes_S1_S_ = csm 2 := csm_congr (by decide) _
@[sl_canon] theorem semL3 (hh) : (cc0_scratch2.slice (Rect.unit (s := S6) ![3] S1.size hh)).squeeze S_ squeezes_S1_S_ = csm 3 := csm_congr (by decide) _
@[sl_canon] theorem semL4 (hh) : (cc0_scratch2.slice (Rect.unit (s := S6) ![4] S1.size hh)).squeeze S_ squeezes_S1_S_ = csm 4 := csm_congr (by decide) _
@[sl_canon] theorem semL5 (hh) : (cc0_scratch2.slice (Rect.unit (s := S6) ![5] S1.size hh)).squeeze S_ squeezes_S1_S_ = csm 5 := csm_congr (by decide) _
@[sl_canon] theorem slotL0 (hh hs) : (ringM.slice (Rect.unit (s := S6x8192x512) ![0, 0, 0] S1x8192x512.size hh) hs).squeeze S8192x512 squeezes_S1x8192x512_S8192x512 = rslot 0 := rslot_congr (by decide) _ _
@[sl_canon] theorem slotL1 (hh hs) : (ringM.slice (Rect.unit (s := S6x8192x512) ![1, 0, 0] S1x8192x512.size hh) hs).squeeze S8192x512 squeezes_S1x8192x512_S8192x512 = rslot 1 := rslot_congr (by decide) _ _
@[sl_canon] theorem slotL2 (hh hs) : (ringM.slice (Rect.unit (s := S6x8192x512) ![2, 0, 0] S1x8192x512.size hh) hs).squeeze S8192x512 squeezes_S1x8192x512_S8192x512 = rslot 2 := rslot_congr (by decide) _ _
@[sl_canon] theorem slotL3 (hh hs) : (ringM.slice (Rect.unit (s := S6x8192x512) ![3, 0, 0] S1x8192x512.size hh) hs).squeeze S8192x512 squeezes_S1x8192x512_S8192x512 = rslot 3 := rslot_congr (by decide) _ _
@[sl_canon] theorem slotL4 (hh hs) : (ringM.slice (Rect.unit (s := S6x8192x512) ![4, 0, 0] S1x8192x512.size hh) hs).squeeze S8192x512 squeezes_S1x8192x512_S8192x512 = rslot 4 := rslot_congr (by decide) _ _
@[sl_canon] theorem slotL5 (hh hs) : (ringM.slice (Rect.unit (s := S6x8192x512) ![5, 0, 0] S1x8192x512.size hh) hs).squeeze S8192x512 squeezes_S1x8192x512_S8192x512 = rslot 5 := rslot_congr (by decide) _ _
@[sl_canon] theorem slotTL4 (hh hs) : (ringM.slice (Rect.unit (s := S6x8192x512) ![4, 0, 0] S1x8192x256.size hh) hs).squeeze S8192x256 squeezes_S1x8192x256_S8192x256 = rslotT 4 := rslotT_congr (by decide) _ _
@[sl_canon] theorem grpL0 (hh hs) : wM.slice (Rect.unit (s := S8192x32000) (k0_off1 0#32) S8192x512.size hh) hs = grp 0 := grp_congr (by decide +kernel) _ _
@[sl_canon] theorem grpL1 (hh hs) : wM.slice (Rect.unit (s := S8192x32000) (k0_off1 1#32) S8192x512.size hh) hs = grp 1 := grp_congr (by decide +kernel) _ _
@[sl_canon] theorem grpL2 (hh hs) : wM.slice (Rect.unit (s := S8192x32000) (k0_off1 2#32) S8192x512.size hh) hs = grp 2 := grp_congr (by decide +kernel) _ _
@[sl_canon] theorem grpL3 (hh hs) : wM.slice (Rect.unit (s := S8192x32000) (k0_off1 3#32) S8192x512.size hh) hs = grp 3 := grp_congr (by decide +kernel) _ _
@[sl_canon] theorem grpL4 (hh hs) : wM.slice (Rect.unit (s := S8192x32000) (k0_off1 4#32) S8192x512.size hh) hs = grp 4 := grp_congr (by decide +kernel) _ _
@[sl_canon] theorem grpL5 (hh hs) : wM.slice (Rect.unit (s := S8192x32000) (k0_off1 5#32) S8192x512.size hh) hs = grp 5 := grp_congr (by decide +kernel) _ _
@[sl_canon] theorem grpTL (hh hs) : wM.slice (Rect.unit (s := S8192x32000) k0_off13 S8192x256.size hh) hs = grpT := grpT_congr off13_tail _ _

@[sl_canon] theorem semI (hh) : (cc0_scratch2.slice (Rect.unit (s := S6) (k0_off2 k) S1.size hh)).squeeze S_ squeezes_S1_S_ = csm (sA (k.val + 5)) := csm_congr (off2_sA k) _
@[sl_canon] theorem slotI (hh hs) : (ringM.slice (Rect.unit (s := S6x8192x512) (k0_off3 k) S1x8192x512.size hh) hs).squeeze S8192x512 squeezes_S1x8192x512_S8192x512 = rslot (sA (k.val + 5)) := rslot_congr (off3_sA k) _ _
@[sl_canon] theorem grpI (hk : k.val ≤ 56) (hh hs) : wM.slice (Rect.unit (s := S8192x32000) (k0_off4 k) S8192x512.size hh) hs = grp (gA (k.val + 5)) := grp_congr (off4_gA k hk) _ _
@[sl_canon] theorem semT (hh) : (cc0_scratch2.slice (Rect.unit (s := S6) (k0_off5 k) S1.size hh)).squeeze S_ squeezes_S1_S_ = csm (sA (k.val + 5)) := csm_congr (off5_sA k) _
@[sl_canon] theorem slotT (hh hs) : (ringM.slice (Rect.unit (s := S6x8192x512) (k0_off6 k) S1x8192x256.size hh) hs).squeeze S8192x256 squeezes_S1x8192x256_S8192x256 = rslotT (sA (k.val + 5)) := rslotT_congr (off6_sA k) _ _
@[sl_canon] theorem grpIT (hk : k.val = 57) (hh hs) : wM.slice (Rect.unit (s := S8192x32000) (k0_off7 k) S8192x256.size hh) hs = grpT := grpT_congr (off7_tail k hk) _ _
@[sl_canon] theorem semW (hh) : (cc0_scratch2.slice (Rect.unit (s := S6) (k0_off8 k) S1.size hh)).squeeze S_ squeezes_S1_S_ = csm (sA k.val) := csm_congr (off8_sA k) _
@[sl_canon] theorem slotW (hh hs) : (ringM.slice (Rect.unit (s := S6x8192x512) (k0_off9 k) S1x8192x512.size hh) hs).squeeze S8192x512 squeezes_S1x8192x512_S8192x512 = rslot (sA k.val) := rslot_congr (off9_sA k) _ _
@[sl_canon] theorem grpW (hh hs) : wM.slice (Rect.unit (s := S8192x32000) (k0_off10 k) S8192x512.size hh) hs = grp (gA k.val) := grp_congr (off10_gA k) _ _

end Canon

/-! ## The pieces -/

section Pieces
variable (c : Dev nD) (XW : Buf (Elt F) (wM.view.loc (c : Thread nD τ)))

/-- Slot `s`'s semaphore at zero. -/
abbrev cellP (s : Fin 6) : sProp 𝕄 := semVal ((c : Thread nD τ), SemLoc.dma (csm s).sem) 0
/-- Slot `s` held at contents `f`. -/
abbrev slotP (s : Fin 6) (f : Buf (Elt F) ((rslot s).view.loc (c : Thread nD τ))) : sProp 𝕄 :=
  (rslot s).view.loc (c : Thread nD τ) ↦[(rslot s).view.set]{fullShare} f
/-- The left half of slot `s` held at contents `f`. -/
abbrev slotTP (s : Fin 6) (f : Buf (Elt F) ((rslotT s).view.loc (c : Thread nD τ))) : sProp 𝕄 :=
  (rslotT s).view.loc (c : Thread nD τ) ↦[(rslotT s).view.set]{fullShare} f
/-- The right half of slot `s` held at contents `f`. -/
abbrev restP (s : Fin 6) (f : Buf (Elt F) ((rslot s).view.loc (c : Thread nD τ))) : sProp 𝕄 :=
  (rslot s).view.loc (c : Thread nD τ) ↦[(rslot s).view.set \ (rslotT s).view.set]{fullShare} f
/-- Column block `b` held, at the weight's contents. -/
abbrev homeP (b : Fin 62) : sProp 𝕄 := (grp b).view.loc (c : Thread nD τ) ↦[(grp b).view.set]{fullShare} XW
/-- The last column block held, at the weight's contents. -/
abbrev homeTP : sProp 𝕄 := grpT.view.loc (c : Thread nD τ) ↦[grpT.view.set]{fullShare} XW
/-- What column block `b`'s transfer leaves in slot `s`. -/
abbrev landed (s : Fin 6) (b : Fin 62) (f : Buf (Elt F) ((rslot s).view.loc (c : Thread nD τ))) : Buf (Elt F) ((rslot s).view.loc (c : Thread nD τ)) :=
  (rslot s).view.writes (Elt F) f [⟨Rect.whole S8192x512, ReadAs.same.apply ((grp b).view.read (Elt F) XW)⟩]
/-- What the last column block's transfer leaves in the left half of slot `s`. -/
abbrev landedT (s : Fin 6) (f : Buf (Elt F) ((rslotT s).view.loc (c : Thread nD τ))) : Buf (Elt F) ((rslotT s).view.loc (c : Thread nD τ)) :=
  (rslotT s).view.writes (Elt F) f [⟨Rect.whole S8192x256, ReadAs.same.apply (grpT.view.read (Elt F) XW)⟩]
/-- Slot `s` with column block `b`'s transfer under way, issued over contents `f`. -/
abbrev flightP (s : Fin 6) (b : Fin 62) (f : Buf (Elt F) ((rslot s).view.loc (c : Thread nD τ))) : sProp 𝕄 :=
  Transfers.Flight countersEmb (c : Thread nD τ) (SemLoc.dma (csm s).sem) () 131072 iprop(slotP c s (landed c XW s b f) ∗ homeP c XW b)
/-- The left half of slot `s` with the last column block's transfer under way, issued over contents `f`. -/
abbrev flightTP (s : Fin 6) (f : Buf (Elt F) ((rslotT s).view.loc (c : Thread nD τ))) : sProp 𝕄 :=
  Transfers.Flight countersEmb (c : Thread nD τ) (SemLoc.dma (csm s).sem) () 65536 iprop(slotTP c s (landedT c XW s f) ∗ homeTP c XW)

/-- Block `t`'s slot held at anything, its semaphore at zero. -/
abbrev freeP (t : ℕ) : sProp 𝕄 := iprop((∃ f, slotP (F := F) c (sA t) f) ∗ cellP (F := F) c (sA t))

end Pieces

end Cert.Proof.LmHead

end
-- ==== Proof.LmHead.Trip.lean ====
module

public import proofs.«01_k».proof.Proof.LmHead.Names

@[expose] public section

noncomputable section

namespace Cert.Proof.LmHead

open Cert.Logits Cert.Logits.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (XW : Buf (Elt F) (wM.view.loc (c : Thread nD τ)))
  (arg0 : Memref sig .tc .smem S3 .f32) (harg0 : arg0.IsWhole)
  (arg1 : Memref sig .tc .vmem S192x8192 .fp8e4m3) (harg1 : arg1.IsWhole)
  (arg2 : Memref sig .tc .vmem S192x128 .f32) (harg2 : arg2.IsWhole)
  (arg3 : Memref sig .tc .vmem S250x128 .f32) (harg3 : arg3.IsWhole)
  (arg5 : Memref sig .tc .vmem S3x63 .f32) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- The four staged inputs, held at their contents. -/
abbrev insP : sProp 𝕄 :=
  iprop((arg0.view.loc (c : Thread nD τ) ↦[arg0.view.set]{fullShare} x0)
    ∗ (arg1.view.loc (c : Thread nD τ) ↦[arg1.view.set]{fullShare} x1)
    ∗ (arg2.view.loc (c : Thread nD τ) ↦[arg2.view.set]{fullShare} x2)
    ∗ (arg3.view.loc (c : Thread nD τ) ↦[arg3.view.set]{fullShare} x3))
/-- The scratch of tiles, maxima and sums held at `fo`. -/
abbrev bigP (fo : Buf (Elt F) (bigM.view.loc (c : Thread nD τ))) : sProp 𝕄 := bigM.view.loc (c : Thread nD τ) ↦[bigM.view.set]{fullShare} fo
abbrev owesP : sProp 𝕄 := iprop(∃ W, owes (c : Thread nD τ) 0 W)

abbrev tripG (k : Fin k0_t1_loop.trips) : Prog (TpuEff nD τ sig (Elt F) Λ₀ .tc) Unit :=
  k0_t1_body (F := F) arg0 harg0 arg1 harg1 arg2 harg2 arg3 harg3 wM (Memref.isWhole_whole _) arg5 harg5 ringM (Memref.isWhole_whole _) bigM (Memref.isWhole_whole _) cc0_scratch2 k ()

abbrev wpT (k : Fin k0_t1_loop.trips) (Q : Unit → sProp 𝕄) : sProp 𝕄 :=
  wp frame (wpE (defs₀ (F := F)) 𝒱₀ (c : Thread nD τ) none) Set.univ (tripG arg0 harg0 arg1 harg1 arg2 harg2 arg3 harg3 arg5 harg5 k) Q

/-! ## What a trip stores -/

/-- Column block `k` of the weight as the matrix product reads it from its slot. -/
abbrev wV (k : Fin k0_t1_loop.trips) : Vec F S1x8192x512 .fp8e4m3 :=
  ringM.view.readAt (Elt F) (Rect.unit (s := S6x8192x512) (k0_off11 k) S1x8192x512.size (k0_off11_inb k)).toLoadRect
    (landed c XW (sA k.val) (gA k.val) (rslot (sA k.val)).view.junk)
/-- The left operand as loaded. -/
abbrev hV : Vec F S192x8192 .fp8e4m3 := arg1.view.readAt (Elt F) (Rect.unit ![0, 0] S192x8192.size inb_S192x8192_S192x8192_0_0).toLoadRect x1

theorem slc (r : Fin 4) (b : Fin 3) : S192x512.Slices ![64 * b.val, 128 * r.val] S64x128 := by
  revert r b; decide
theorem rs_inb (b : Fin 3) : ∀ a, (![64 * b.val, 0] : Fin 2 → Nat) a + S64x128.size a ≤ S192x128.size a := by
  revert b; decide
theorem temp_inb (b : Fin 3) : ∀ a, (![b.val] : Fin 1 → Nat) a + S1.size a ≤ S3.size a := by
  revert b; decide
theorem m_inb (b : Fin 3) : ∀ a, (![768 + 64 * b.val, 0] : Fin 2 → Nat) a + S64x128.size a ≤ S33024x128.size a := by
  revert b; decide
theorem l_inb (b : Fin 3) : ∀ a, (![960 + 64 * b.val, 0] : Fin 2 → Nat) a + S64x128.size a ≤ S33024x128.size a := by
  revert b; decide
theorem t_inb (r : Fin 4) (b : Fin 3) : ∀ a, (![192 * r.val + 64 * b.val, 0] : Fin 2 → Nat) a + S64x128.size a ≤ S33024x128.size a := by
  revert r b; decide

/-- The row scales of row block `b`. -/
abbrev rsV (b : Fin 3) : Vec F S64x128 .f32 :=
  arg2.view.readAt (Elt F) (Rect.unit (s := S192x128) ![64 * b.val, 0] S64x128.size (rs_inb b)).toLoadRect x2
/-- The inverse temperature of row block `b`. -/
abbrev tempV (b : Fin 3) : Elt F .f32 :=
  arg0.view.readAt (Elt F) (Rect.unit (s := S3) ![b.val] S1.size (temp_inb b)).toLoadRect x0 (Shape.Idx.first (by show 0 < S1.numel; decide))

/-- A 64 by 128 piece of the product, scaled by its rows' scales, its columns' scales and the inverse temperature. -/
def scaled (g : FVec F S64x128 .f32) (rs : Vec F S64x128 .f32) (sc : Vec F S1x128 .f32) (t : Elt F .f32) : FVec F S64x128 .f32 :=
  have rs' : FVec F S64x128 .f32 := shapeCast S64x128 rs shapeCasts_S64x128_S64x128
  have sc' : FVec F S1x128 .f32 := shapeCast S1x128 sc shapeCasts_S1x128_S1x128
  have sb : FVec F S64x128 .f32 := broadcastTo S64x128 sc' broadcasts_S1x128_S64x128
  have tb : FVec F S64x128 .f32 := broadcast S64x128 t
  mulf (mulf (mulf g rs') sb) tb

/-- Trip `k`'s scaled logits of 128-lane group `r` and row block `b`. -/
def tileAt (k : Fin k0_t1_loop.trips) (r : Fin 4) (b : Fin 3) : FVec F S64x128 .f32 :=
  scaled (extractStridedSlice S64x128 ![64 * b.val, 128 * r.val] (k0_pay2 (hV c arg1 x1) (wV c XW k)) (slc r b)) (rsV c arg2 x2 b)
    (arg3.view.readAt (Elt F) (Rect.unit (s := S250x128) (k0_off12 k (BitVec.ofNat 32 r.val)) S1x128.size (k0_off12_inb k r)).toLoadRect x3)
    (tempV c arg0 x0 b)

/-- The running maximum `m` carried over four tiles. -/
def maxOf (t : Fin 4 → FVec F S64x128 .f32) (m : FVec F S64x128 .f32) : FVec F S64x128 .f32 :=
  maximumf (maximumf (maximumf (maximumf m (t 0)) (t 1)) (t 2)) (t 3)
/-- The running sum `l` of exponentials, taken from the maximum `m` to the maximum `n` and carried over four tiles. -/
def sumOf (t : Fin 4 → FVec F S64x128 .f32) (m l n : FVec F S64x128 .f32) : FVec F S64x128 .f32 :=
  addf (addf (addf (addf (mulf l (exp (subf m n))) (exp (subf (t 0) n))) (exp (subf (t 1) n))) (exp (subf (t 2) n))) (exp (subf (t 3) n))

/-- A value as it is stored. -/
abbrev st (v : FVec F S64x128 .f32) : FVec F S64x128 .f32 := shapeCast S64x128 v shapeCasts_S64x128_S64x128

/-- Row block `b`'s running maxima as read from the scratch. -/
abbrev mV (b : Fin 3) (fo : Buf (Elt F) (bigM.view.loc (c : Thread nD τ))) : FVec F S64x128 .f32 :=
  bigM.view.readAt (Elt F) (Rect.unit (s := S33024x128) ![768 + 64 * b.val, 0] S64x128.size (m_inb b)).toLoadRect fo
/-- Row block `b`'s running sums as read from the scratch. -/
abbrev lV (b : Fin 3) (fo : Buf (Elt F) (bigM.view.loc (c : Thread nD τ))) : FVec F S64x128 .f32 :=
  bigM.view.readAt (Elt F) (Rect.unit (s := S33024x128) ![960 + 64 * b.val, 0] S64x128.size (l_inb b)).toLoadRect fo

/-- Values stored at the place of tile `r`, of the maxima, and of the sums, of row block `b`. -/
abbrev pieceT (r : Fin 4) (b : Fin 3) (v : FVec F S64x128 .f32) : View.Piece (Elt F) S33024x128 .f32 :=
  ⟨Rect.unit (s := S33024x128) ![192 * r.val + 64 * b.val, 0] S64x128.size (t_inb r b), st v⟩
abbrev pieceM (b : Fin 3) (v : FVec F S64x128 .f32) : View.Piece (Elt F) S33024x128 .f32 :=
  ⟨Rect.unit (s := S33024x128) ![768 + 64 * b.val, 0] S64x128.size (m_inb b), st v⟩
abbrev pieceL (b : Fin 3) (v : FVec F S64x128 .f32) : View.Piece (Elt F) S33024x128 .f32 :=
  ⟨Rect.unit (s := S33024x128) ![960 + 64 * b.val, 0] S64x128.size (l_inb b), st v⟩

/-- What row block `b` stores, the latest first: its sums, its maxima, its four tiles. -/
abbrev blockPieces (t : Fin 4 → FVec F S64x128 .f32) (m l : FVec F S64x128 .f32) (b : Fin 3) : List (View.Piece (Elt F) S33024x128 .f32) :=
  [pieceL b (sumOf t m l (maxOf t m)), pieceM b (maxOf t m), pieceT 3 b (t 3), pieceT 2 b (t 2), pieceT 1 b (t 1), pieceT 0 b (t 0)]

/-- What trip `k` stores, the latest first. -/
abbrev pieces (k : Fin k0_t1_loop.trips) (fo : Buf (Elt F) (bigM.view.loc (c : Thread nD τ))) : List (View.Piece (Elt F) S33024x128 .f32) :=
  let t := fun (b : Fin 3) (r : Fin 4) => tileAt c XW arg0 arg1 arg2 arg3 x0 x1 x2 x3 k r b
  blockPieces (t 2) (mV c 2 fo) (lV c 2 fo) 2 ++ blockPieces (t 1) (mV c 1 fo) (lV c 1 fo) 1 ++ blockPieces (t 0) (mV c 0 fo) (lV c 0 fo) 0

/-- The scratch after trip `k`, from the scratch before it. -/
def nextO (k : Fin k0_t1_loop.trips) (fo : Buf (Elt F) (bigM.view.loc (c : Thread nD τ))) : Buf (Elt F) (bigM.view.loc (c : Thread nD τ)) :=
  bigM.view.writes (Elt F) fo (pieces c XW arg0 arg1 arg2 arg3 x0 x1 x2 x3 k fo)

/-! ## One trip -/

/-- What every trip takes: the inputs, the scratch, its transfer under way. -/
abbrev tripPre (k : ℕ) (fo : Buf (Elt F) (bigM.view.loc (c : Thread nD τ))) : sProp 𝕄 :=
  iprop(insP c arg0 arg1 arg2 arg3 x0 x1 x2 x3 ∗ bigP c fo ∗ owesP c ∗ ∃ f, flightP c XW (sA k) (gA k) f)
/-- What every trip leaves: the scratch updated, its column block and its slot back. -/
abbrev tripPost (k : Fin k0_t1_loop.trips) (fo : Buf (Elt F) (bigM.view.loc (c : Thread nD τ))) : sProp 𝕄 :=
  iprop(insP c arg0 arg1 arg2 arg3 x0 x1 x2 x3 ∗ bigP c (nextO c XW arg0 arg1 arg2 arg3 x0 x1 x2 x3 k fo) ∗ owesP c
    ∗ homeP c XW (gA k.val) ∗ freeP (F := F) c k.val)

set_option backward.proofsInPublic true in
/-- The first trip issues nothing: the transfers of the next five blocks are already under way. -/
theorem tripFirst (k : Fin k0_t1_loop.trips) (hk : k.val = 0) (fo : Buf (Elt F) (bigM.view.loc (c : Thread nD τ))) :
    iprop(tripPre c XW arg0 arg1 arg2 arg3 x0 x1 x2 x3 k.val fo) ⊢ wpT c arg0 harg0 arg1 harg1 arg2 harg2 arg3 harg3 arg5 harg5 k (fun _ => iprop(tripPost c XW arg0 arg1 arg2 arg3 x0 x1 x2 x3 k fo)) := by
  have h1 := cond1_zero k hk
  iintro ⟨⟨H0, H1, H2, H3⟩, HO, ⟨%W, HW⟩, ⟨%fA, HF⟩⟩
  dsimp only [wpT, tripG]
  sl_unfold [k0_t1_body]
  sl_exec
  sl_step
  isplitl [H0 H1 H2 H3]
  · isplitl [H0]; · iexact H0
    isplitl [H1]; · iexact H1
    isplitl [H2]; · iexact H2
    iexact H3
  isplitl [HO]; · iexact HO
  isplitl [HW]; · iexists _; iexact HW
  isplitl [HF_src]; · iexact HF_src
  isplitl [HF_dst]; · iexists _; iexact HF_dst
  iexact HF

set_option backward.proofsInPublic true in
/-- A trip in the middle issues the transfer of the block five ahead into the slot the trip before it freed. -/
theorem tripMid (k : Fin k0_t1_loop.trips) (hk : k.val ≠ 0) (hk' : k.val ≤ 56) (fo : Buf (Elt F) (bigM.view.loc (c : Thread nD τ))) :
    iprop(tripPre c XW arg0 arg1 arg2 arg3 x0 x1 x2 x3 k.val fo ∗ homeP c XW (gA (k.val + 5)) ∗ freeP (F := F) c (k.val + 5))
      ⊢ wpT c arg0 harg0 arg1 harg1 arg2 harg2 arg3 harg3 arg5 harg5 k (fun _ => iprop(tripPost c XW arg0 arg1 arg2 arg3 x0 x1 x2 x3 k fo ∗ ∃ f, flightP c XW (sA (k.val + 5)) (gA (k.val + 5)) f)) := by
  have h1 := cond1_pos k hk
  have h2 := cond2_low k hk'
  have h3 := cond3_no k (by omega)
  iintro ⟨⟨⟨H0, H1, H2, H3⟩, HO, ⟨%W, HW⟩, ⟨%fA, HF⟩⟩, Hg, ⟨%fC, HS⟩, HC⟩
  dsimp only [wpT, tripG]
  sl_unfold [k0_t1_body]
  sl_exec
  sl_step
  isplitl [H0 H1 H2 H3 HO HW HF HF_dst HF_src]
  · isplitl [H0 H1 H2 H3]
    · isplitl [H0]; · iexact H0
      isplitl [H1]; · iexact H1
      isplitl [H2]; · iexact H2
      iexact H3
    isplitl [HO]; · iexact HO
    isplitl [HW]; · iexists _; iexact HW
    isplitl [HF_src]; · iexact HF_src
    isplitl [HF_dst]; · iexists _; iexact HF_dst
    iexact HF
  iexists fC; iexact HC

set_option backward.proofsInPublic true in
/-- Trip 57 issues the transfer of the last block, 256 columns, into the left half of the slot the trip before it freed. -/
theorem tripLast (k : Fin k0_t1_loop.trips) (hk : k.val = 57) (fo : Buf (Elt F) (bigM.view.loc (c : Thread nD τ))) (fC) :
    iprop(tripPre c XW arg0 arg1 arg2 arg3 x0 x1 x2 x3 k.val fo ∗ homeTP c XW ∗ slotTP (F := F) c (sA (k.val + 5)) fC ∗ cellP (F := F) c (sA (k.val + 5)))
      ⊢ wpT c arg0 harg0 arg1 harg1 arg2 harg2 arg3 harg3 arg5 harg5 k (fun _ => iprop(tripPost c XW arg0 arg1 arg2 arg3 x0 x1 x2 x3 k fo ∗ flightTP c XW (sA (k.val + 5)) fC)) := by
  have h1 := cond1_pos k (by omega)
  have h2 := cond2_high k (by omega)
  have h3 := cond3_yes k hk
  iintro ⟨⟨⟨H0, H1, H2, H3⟩, HO, ⟨%W, HW⟩, ⟨%fA, HF⟩⟩, Hg, HS, HC⟩
  dsimp only [wpT, tripG]
  sl_unfold [k0_t1_body]
  sl_exec
  sl_step
  isplitl [H0 H1 H2 H3 HO HW HF HF_dst HF_src]
  · isplitl [H0 H1 H2 H3]
    · isplitl [H0]; · iexact H0
      isplitl [H1]; · iexact H1
      isplitl [H2]; · iexact H2
      iexact H3
    isplitl [HO]; · iexact HO
    isplitl [HW]; · iexists _; iexact HW
    isplitl [HF_src]; · iexact HF_src
    isplitl [HF_dst]; · iexists _; iexact HF_dst
    iexact HF
  iexact HC

set_option backward.proofsInPublic true in
/-- The trips after it issue nothing. -/
theorem tripTail (k : Fin k0_t1_loop.trips) (hk : 57 < k.val) (fo : Buf (Elt F) (bigM.view.loc (c : Thread nD τ))) :
    iprop(tripPre c XW arg0 arg1 arg2 arg3 x0 x1 x2 x3 k.val fo) ⊢ wpT c arg0 harg0 arg1 harg1 arg2 harg2 arg3 harg3 arg5 harg5 k (fun _ => iprop(tripPost c XW arg0 arg1 arg2 arg3 x0 x1 x2 x3 k fo)) := by
  have h1 := cond1_pos k (by omega)
  have h2 := cond2_high k (by omega)
  have h3 := cond3_no k (by omega)
  iintro ⟨⟨H0, H1, H2, H3⟩, HO, ⟨%W, HW⟩, ⟨%fA, HF⟩⟩
  dsimp only [wpT, tripG]
  sl_unfold [k0_t1_body]
  sl_exec
  sl_step
  isplitl [H0 H1 H2 H3]
  · isplitl [H0]; · iexact H0
    isplitl [H1]; · iexact H1
    isplitl [H2]; · iexact H2
    iexact H3
  isplitl [HO]; · iexact HO
  isplitl [HW]; · iexists _; iexact HW
  isplitl [HF_src]; · iexact HF_src
  isplitl [HF_dst]; · iexists _; iexact HF_dst
  iexact HF

end Trip
end Cert.Proof.LmHead
end
-- ==== Proof.LmHead.Body.lean ====
module

public import proofs.«01_k».proof.Proof.LmHead.Trip

@[expose] public section

noncomputable section

namespace Cert.Proof.LmHead

open Cert.Logits Cert.Logits.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## A slot and its left half -/

theorem half_subset (s : Fin 6) : (rslotT s : Memref sig .tc .vmem _ _).view.set ⊆ (rslot s : Memref sig .tc .vmem _ _).view.set := by
  rw [show (rslotT s : Memref sig .tc .vmem _ _).view.set = (Rect.unit (s := S6x8192x512) (slotOff s) S1x8192x256.size (slotOff_inbT s)).set from (View.set_reshape _ _).trans (View.set_slice_whole _ _),
    show (rslot s : Memref sig .tc .vmem _ _).view.set = (Rect.unit (s := S6x8192x512) (slotOff s) S1x8192x512.size (slotOff_inb s)).set from (View.set_reshape _ _).trans (View.set_slice_whole _ _)]
  intro (y : S6x8192x512.Idx) hy
  refine Rect.mem_set_unit.mpr fun a => ?_
  have h := Rect.mem_set_unit.mp hy a
  fin_cases a
  · exact h
  · exact h
  · have h2 : 0 ≤ (y 2).val ∧ (y 2).val < 0 + 256 := h
    show 0 ≤ (y 2).val ∧ (y 2).val < 0 + 512; omega

/-- A slot is its left half and its right half, -/
theorem slot_halves (c : Dev nD) (s : Fin 6) (f) : (slotP c s f : sProp 𝕄) ⊢ iprop(slotTP c s f ∗ restP c s f) :=
  (pointsTo_split_subset (half_subset s)).1
/-- and back. -/
theorem join_halves {ℓ : Loc nD τ sig} {I S : Finset (Idx ℓ)} (h : I ⊆ S) :
    iprop((∃ f, ℓ ↦[I]{fullShare} f) ∗ ∃ f, ℓ ↦[S \ I]{fullShare} f) ⊢ (iprop(∃ f, ℓ ↦[S]{fullShare} f) : sProp 𝕄) := by
  iintro ⟨⟨%f, H⟩, ⟨%g, H'⟩⟩
  ihave J := (pointsTo_join (f := f) (g := g) (Finset.disjoint_sdiff (s := I) (t := S))) $$ [H H']
  · isplitl [H]; · iexact H
    iexact H'
  iexists _
  iapply (entails_of_eq (congrArg (fun T => (ℓ ↦[T]{fullShare} _ : sProp 𝕄)) (Finset.union_sdiff_of_subset h))); iexact J
theorem halves_slot (c : Dev nD) (s : Fin 6) : iprop((∃ f, slotTP c s f) ∗ ∃ f, restP c s f) ⊢ (iprop(∃ f, slotP c s f) : sProp 𝕄) :=
  join_halves (half_subset s)

/-! ## The loop -/

section Loop

variable (c : Dev nD) (XW : Buf (Elt F) (wM.view.loc (c : Thread nD τ)))
  (arg0 : Memref sig .tc .smem S3 .f32) (harg0 : arg0.IsWhole)
  (arg1 : Memref sig .tc .vmem S192x8192 .fp8e4m3) (harg1 : arg1.IsWhole)
  (arg2 : Memref sig .tc .vmem S192x128 .f32) (harg2 : arg2.IsWhole)
  (arg3 : Memref sig .tc .vmem S250x128 .f32) (harg3 : arg3.IsWhole)
  (arg5 : Memref sig .tc .vmem S3x63 .f32) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- Block `t`'s slot before its trip: its transfer under way, or, past the last block, free. -/
def liveP (t : ℕ) : sProp 𝕄 :=
  if t < 62 then iprop(∃ f, flightP c XW (sA t) (gA t) f)
  else if t = 62 then iprop((∃ f, flightTP c XW (sA t) f) ∗ ∃ f, restP (F := F) c (sA t) f) else freeP (F := F) c t
theorem liveP_lt (t : ℕ) (h : t < 62) : liveP c XW t = iprop(∃ f, flightP c XW (sA t) (gA t) f) := if_pos h
theorem liveP_last : liveP c XW 62 = iprop((∃ f, flightTP c XW 4 f) ∗ ∃ f, restP (F := F) c 4 f) := rfl
theorem liveP_eq (t : ℕ) (h : t = 62) : liveP c XW t = iprop((∃ f, flightTP c XW (sA t) f) ∗ ∃ f, restP (F := F) c (sA t) f) := by
  subst h; rfl
theorem liveP_gt (t : ℕ) (h : 62 < t) : liveP c XW t = freeP (F := F) c t := (if_neg (by omega)).trans (if_neg (by omega))

/-- Column block `b` of the 63 held. -/
def blockP (b : Fin 63) : sProp 𝕄 := if h : b.val < 62 then homeP c XW ⟨b.val, h⟩ else homeTP c XW
theorem blockP_lt (t : ℕ) (h : t < 62) : blockP c XW (Ring.bk 63 t) = homeP c XW (gA t) := by
  have e : (Ring.bk 63 t).val = t := Ring.bk_val (by omega)
  rw [blockP, dif_pos (by rw [e]; exact h)]
  congr 1
  all_goals exact Fin.ext (by rw [Ring.bk_val h]; exact e)
theorem blockP_last (t : ℕ) (h : t = 62) : blockP c XW (Ring.bk 63 t) = homeTP c XW := by subst h; rfl

/-- The ring before the first trip: the transfers of blocks 0 to 5 under way, the other column blocks held. -/
abbrev ringZero : sProp 𝕄 :=
  iprop((∃ f, flightP c XW 2 0 f) ∗ (∃ f, flightP c XW 3 1 f) ∗ (∃ f, flightP c XW 4 2 f) ∗ (∃ f, flightP c XW 5 3 f)
    ∗ (∃ f, flightP c XW 0 4 f) ∗ (∃ f, flightP c XW 1 5 f) ∗ bigSep (Ring.homeSet (NB := 63) 6 0) (blockP c XW))
/-- The ring before trip `k`: from trip 1 on, the transfers of blocks `k` to `k + 4` under way, the sixth slot free. -/
def ringAt : ℕ → sProp 𝕄
  | 0 => ringZero c XW
  | k + 1 => iprop(liveP c XW (k + 1) ∗ liveP c XW (k + 2) ∗ liveP c XW (k + 3) ∗ liveP c XW (k + 4) ∗ liveP c XW (k + 5)
      ∗ freeP (F := F) c (k + 6) ∗ bigSep (Ring.homeSet (NB := 63) 5 (k + 1)) (blockP c XW))
theorem ringAt_pos (k : ℕ) (h : k ≠ 0) : ringAt c XW k
    = iprop(liveP c XW k ∗ liveP c XW (k + 1) ∗ liveP c XW (k + 2) ∗ liveP c XW (k + 3) ∗ liveP c XW (k + 4)
      ∗ freeP (F := F) c (k + 5) ∗ bigSep (Ring.homeSet (NB := 63) 5 k) (blockP c XW)) := by
  obtain ⟨n, rfl⟩ := Nat.exists_eq_succ_of_ne_zero h; rfl
theorem ringAt_succ (k : ℕ) : ringAt c XW (k + 1)
    = iprop(liveP c XW (k + 1) ∗ liveP c XW (k + 2) ∗ liveP c XW (k + 3) ∗ liveP c XW (k + 4) ∗ liveP c XW (k + 5)
      ∗ freeP (F := F) c (k + 6) ∗ bigSep (Ring.homeSet (NB := 63) 5 (k + 1)) (blockP c XW)) := rfl

/-- The scratch before trip `k`, from `o0`. -/
def bigAcc (o0 : Buf (Elt F) (bigM.view.loc (c : Thread nD τ))) : ℕ → Buf (Elt F) (bigM.view.loc (c : Thread nD τ))
  | 0 => o0
  | k + 1 => if h : k < k0_t1_loop.trips then nextO c XW arg0 arg1 arg2 arg3 x0 x1 x2 x3 ⟨k, h⟩ (bigAcc o0 k) else bigAcc o0 k
theorem bigAcc_succ (o0) (k : Fin k0_t1_loop.trips) :
    bigAcc c XW arg0 arg1 arg2 arg3 x0 x1 x2 x3 o0 (k.val + 1) = nextO c XW arg0 arg1 arg2 arg3 x0 x1 x2 x3 k (bigAcc c XW arg0 arg1 arg2 arg3 x0 x1 x2 x3 o0 k.val) := by
  rw [bigAcc, dif_pos k.isLt]

theorem trips_pos : 0 < k0_t1_loop.trips := by rw [trips_eq]; decide
theorem freeP_add6 (k : ℕ) : freeP (F := F) c (k + 6) = freeP (F := F) c k := by
  have eA : sA (k + 6) = sA k := by rw [sA, show k + 6 + 2 = k + 2 + 6 by omega, Ring.sl_add]
  unfold freeP; rw [eA]
theorem homes_out (k : ℕ) (h : k + 5 < 63) : bigSep (Ring.homeSet (NB := 63) 5 k) (blockP c XW)
    = iprop(blockP c XW (Ring.bk 63 (k + 5)) ∗ bigSep ((Ring.homeSet (NB := 63) 5 k).erase (Ring.bk 63 (k + 5))) (blockP c XW)) := by
  conv_lhs => rw [Ring.homeSet_out 5 k h, bigSep_insert (Ring.bkL_not_mem_erase 5 k)]
  rfl
theorem homes_next (k : ℕ) (h : k + 5 < 63) : bigSep (Ring.homeSet (NB := 63) 5 (k + 1)) (blockP c XW)
    = iprop(homeP c XW (gA k) ∗ bigSep ((Ring.homeSet (NB := 63) 5 k).erase (Ring.bk 63 (k + 5))) (blockP c XW)) := by
  conv_lhs => rw [Ring.homeSet_succ 5 k h, bigSep_insert (Ring.bk_not_mem_erase 5 k (by omega) (by decide))]
  rw [← blockP_lt c XW k (by omega)]; rfl
theorem homes_tail (k : ℕ) (h : 63 ≤ k + 5) (hk : k < 62) : bigSep (Ring.homeSet (NB := 63) 5 (k + 1)) (blockP c XW)
    = iprop(homeP c XW (gA k) ∗ bigSep (Ring.homeSet (NB := 63) 5 k) (blockP c XW)) := by
  conv_lhs => rw [Ring.homeSet_succ_tail 5 k h (by omega), bigSep_insert (Ring.bk_not_mem_homeSet 5 k (by omega) (by decide))]
  rw [← blockP_lt c XW k hk]; rfl
theorem homes_one : bigSep (Ring.homeSet (NB := 63) 5 1) (blockP c XW)
    = iprop(homeP c XW (gA 0) ∗ bigSep (Ring.homeSet (NB := 63) 6 0) (blockP c XW)) := by
  have e : Ring.homeSet (NB := 63) 5 1 = insert (Ring.bk 63 0) (Ring.homeSet 6 0) := by
    ext b; rw [Ring.mem_homeSet, Finset.mem_insert, Ring.mem_homeSet, Fin.ext_iff, Ring.bk_val (by decide)]; omega
  conv_lhs => rw [e, bigSep_insert (Ring.bk_not_mem_homeSet 6 0 (by decide) (by decide))]
  rw [← blockP_lt c XW 0 (by decide)]; rfl

abbrev heldP (fo : Buf (Elt F) (bigM.view.loc (c : Thread nD τ))) : sProp 𝕄 :=
  iprop(insP c arg0 arg1 arg2 arg3 x0 x1 x2 x3 ∗ bigP c fo ∗ owesP c)

set_option warn.classDefReducibility false in
/-- The loop's invariant. -/
@[sl_loop] def loopInv (o0 : Buf (Elt F) (bigM.view.loc (c : Thread nD τ))) :
    LoopInvTy_k0_t1 (F := F) Unit ℕ (UU nD τ) ℕ 𝒱₀ c none Set.univ arg0 harg0 arg1 harg1 arg2 harg2 arg3 harg3 wM (Memref.isWhole_whole _) arg5 harg5 ringM (Memref.isWhole_whole _) bigM (Memref.isWhole_whole _) cc0_scratch2 where
  inv k _ := iprop(heldP c arg0 arg1 arg2 arg3 x0 x1 x2 x3 (bigAcc c XW arg0 arg1 arg2 arg3 x0 x1 x2 x3 o0 k) ∗ ringAt c XW k)
  step k _ := by
    have hlt : k.val < 62 := Nat.lt_of_lt_of_eq k.isLt trips_eq
    rw [bigAcc_succ, ringAt_succ c XW k.val, freeP_add6]
    by_cases h0 : k.val = 0
    · have hk : k = ⟨0, trips_pos⟩ := Fin.ext h0
      subst hk
      rw [show ringAt c XW (⟨0, trips_pos⟩ : Fin k0_t1_loop.trips).val = ringZero c XW from rfl]
      dsimp only
      rw [liveP_lt c XW (0 + 1) (by decide), liveP_lt c XW (0 + 2) (by decide), liveP_lt c XW (0 + 3) (by decide), liveP_lt c XW (0 + 4) (by decide),
        liveP_lt c XW (0 + 5) (by decide), show (0 + 1 : ℕ) = 1 from rfl, homes_one]
      iintro ⟨⟨HI, HO, HW⟩, F0, F1, F2, F3, F4, F5, HR⟩
      iapply (wp_wand_r Idealize.ShloMosaic.frame (wpE (defs₀ (F := F)) 𝒱₀ (c : Thread nD τ) none) Set.univ)
      isplitl [HI HO HW F0]
      · iapply (tripFirst c XW arg0 harg0 arg1 harg1 arg2 harg2 arg3 harg3 arg5 harg5 x0 x1 x2 x3 ⟨0, trips_pos⟩ rfl _)
        isplitl [HI]; · iexact HI
        isplitl [HO]; · iexact HO
        isplitl [HW]; · iexact HW
        iexact F0
      · iintro %_ ⟨HI, HO, HW, HA, HF⟩
        isplitl [HI HO HW]
        · isplitl [HI]; · iexact HI
          isplitl [HO]; · iexact HO
          iexact HW
        isplitl [F1]; · iexact F1
        isplitl [F2]; · iexact F2
        isplitl [F3]; · iexact F3
        isplitl [F4]; · iexact F4
        isplitl [F5]; · iexact F5
        isplitl [HF]; · iexact HF
        isplitl [HA]; · iexact HA
        iexact HR
    rw [ringAt_pos c XW k.val h0, liveP_lt c XW k.val hlt]
    by_cases h1 : k.val ≤ 56
    · rw [liveP_lt c XW (k.val + 5) (by omega), homes_out c XW k.val (by omega), homes_next c XW k.val (by omega), blockP_lt c XW (k.val + 5) (by omega)]
      iintro ⟨⟨HI, HO, HW⟩, HG, L1, L2, L3, L4, HF, HN, HR⟩
      iapply (wp_wand_r Idealize.ShloMosaic.frame (wpE (defs₀ (F := F)) 𝒱₀ (c : Thread nD τ) none) Set.univ)
      isplitl [HI HO HW HG HF HN]
      · iapply (tripMid c XW arg0 harg0 arg1 harg1 arg2 harg2 arg3 harg3 arg5 harg5 x0 x1 x2 x3 k h0 h1 _)
        isplitl [HI HO HW HG]
        · isplitl [HI]; · iexact HI
          isplitl [HO]; · iexact HO
          isplitl [HW]; · iexact HW
          iexact HG
        isplitl [HN]; · iexact HN
        iexact HF
      · iintro %_ ⟨⟨HI, HO, HW, HA, HF⟩, HG⟩
        isplitl [HI HO HW]
        · isplitl [HI]; · iexact HI
          isplitl [HO]; · iexact HO
          iexact HW
        isplitl [L1]; · iexact L1
        isplitl [L2]; · iexact L2
        isplitl [L3]; · iexact L3
        isplitl [L4]; · iexact L4
        isplitl [HG]; · iexact HG
        isplitl [HF]; · iexact HF
        isplitl [HA]; · iexact HA
        iexact HR
    by_cases h2 : k.val = 57
    · rw [liveP_eq c XW (k.val + 5) (by omega), homes_out c XW k.val (by omega), homes_next c XW k.val (by omega), blockP_last c XW (k.val + 5) (by omega)]
      iintro ⟨⟨HI, HO, HW⟩, HG, L1, L2, L3, L4, ⟨⟨%fC, HS⟩, HC⟩, HN, HR⟩
      ihave HS2 := (slot_halves c (sA (k.val + 5)) fC) $$ HS
      icases HS2 with ⟨HSL, HSR⟩
      iapply (wp_wand_r Idealize.ShloMosaic.frame (wpE (defs₀ (F := F)) 𝒱₀ (c : Thread nD τ) none) Set.univ)
      isplitl [HI HO HW HG HSL HC HN]
      · iapply (tripLast c XW arg0 harg0 arg1 harg1 arg2 harg2 arg3 harg3 arg5 harg5 x0 x1 x2 x3 k h2 _ fC)
        isplitl [HI HO HW HG]
        · isplitl [HI]; · iexact HI
          isplitl [HO]; · iexact HO
          isplitl [HW]; · iexact HW
          iexact HG
        isplitl [HN]; · iexact HN
        isplitl [HSL]; · iexact HSL
        iexact HC
      · iintro %_ ⟨⟨HI, HO, HW, HA, HF⟩, HG⟩
        isplitl [HI HO HW]
        · isplitl [HI]; · iexact HI
          isplitl [HO]; · iexact HO
          iexact HW
        isplitl [L1]; · iexact L1
        isplitl [L2]; · iexact L2
        isplitl [L3]; · iexact L3
        isplitl [L4]; · iexact L4
        isplitl [HG HSR]
        · isplitl [HG]; · iexists fC; iexact HG
          iexists fC; iexact HSR
        isplitl [HF]; · iexact HF
        isplitl [HA]; · iexact HA
        iexact HR
    · rw [liveP_gt c XW (k.val + 5) (by omega), homes_tail c XW k.val (by omega) hlt]
      iintro ⟨⟨HI, HO, HW⟩, HG, L1, L2, L3, L4, HF, HR⟩
      iapply (wp_wand_r Idealize.ShloMosaic.frame (wpE (defs₀ (F := F)) 𝒱₀ (c : Thread nD τ) none) Set.univ)
      isplitl [HI HO HW HG]
      · iapply (tripTail c XW arg0 harg0 arg1 harg1 arg2 harg2 arg3 harg3 arg5 harg5 x0 x1 x2 x3 k (by omega) _)
        isplitl [HI]; · iexact HI
        isplitl [HO]; · iexact HO
        isplitl [HW]; · iexact HW
        iexact HG
      · iintro %_ ⟨HI, HO, HW, HA, HF2⟩
        isplitl [HI HO HW]
        · isplitl [HI]; · iexact HI
          isplitl [HO]; · iexact HO
          iexact HW
        isplitl [L1]; · iexact L1
        isplitl [L2]; · iexact L2
        isplitl [L3]; · iexact L3
        isplitl [L4]; · iexact L4
        isplitl [HF]; · iexact HF
        isplitl [HF2]; · iexact HF2
        isplitl [HA]; · iexact HA
        iexact HR

/-- What the last block's computation does not touch: the other five slots, the right half of the last block's slot, the
    other semaphores, the other column blocks; under one name, opened by `asideP_eq`. -/
abbrev ASIDE : sProp 𝕄 :=
  iprop((∃ f, restP (F := F) c 4 f) ∗ freeP (F := F) c 63 ∗ freeP (F := F) c 64 ∗ freeP (F := F) c 65 ∗ freeP (F := F) c 66 ∗ freeP (F := F) c 67
    ∗ bigSep (Ring.homeSet (NB := 63) 5 62) (blockP c XW))
@[irreducible] def asideP : sProp 𝕄 := ASIDE c XW
theorem asideP_eq : asideP c XW = ASIDE c XW := by rw [asideP]

set_option warn.classDefReducibility false in
/-- After the loop the last block's transfer is under way. -/
def loopExit (o0 : Buf (Elt F) (bigM.view.loc (c : Thread nD τ))) :
    LoopExit (loopInv (F := F) c XW arg0 harg0 arg1 harg1 arg2 harg2 arg3 harg3 arg5 harg5 x0 x1 x2 x3 o0) where
  post _ := iprop(heldP c arg0 arg1 arg2 arg3 x0 x1 x2 x3 (bigAcc c XW arg0 arg1 arg2 arg3 x0 x1 x2 x3 o0 62) ∗ (∃ f, flightTP c XW 4 f) ∗ asideP c XW)
  exit acc := by
    show iprop(heldP c arg0 arg1 arg2 arg3 x0 x1 x2 x3 (bigAcc c XW arg0 arg1 arg2 arg3 x0 x1 x2 x3 o0 k0_t1_loop.trips) ∗ ringAt c XW k0_t1_loop.trips) ⊢ _
    rw [trips_eq, asideP_eq, ringAt_pos c XW 62 (by decide), liveP_last, liveP_gt c XW (62 + 1) (by decide), liveP_gt c XW (62 + 2) (by decide),
      liveP_gt c XW (62 + 3) (by decide), liveP_gt c XW (62 + 4) (by decide)]
    iintro ⟨HH, ⟨HG, HS⟩, L1, L2, L3, L4, L5, HR⟩
    isplitl [HH]; · iexact HH
    isplitl [HG]; · iexact HG
    isplitl [HS]; · iexact HS
    isplitl [L1]; · iexact L1
    isplitl [L2]; · iexact L2
    isplitl [L3]; · iexact L3
    isplitl [L4]; · iexact L4
    isplitl [L5]; · iexact L5
    iexact HR

end Loop

/-! ## The kernel body -/

section Body

variable (c : Dev nD) (XW : Buf (Elt F) (wM.view.loc (c : Thread nD τ)))
  (arg0 : Memref sig .tc .smem S3 .f32) (harg0 : arg0.IsWhole)
  (arg1 : Memref sig .tc .vmem S192x8192 .fp8e4m3) (harg1 : arg1.IsWhole)
  (arg2 : Memref sig .tc .vmem S192x128 .f32) (harg2 : arg2.IsWhole)
  (arg3 : Memref sig .tc .vmem S250x128 .f32) (harg3 : arg3.IsWhole)
  (arg5 : Memref sig .tc .vmem S3x63 .f32) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- The last column block as the matrix product reads it from its slot. -/
abbrev wTV : Vec F S1x8192x256 .fp8e4m3 :=
  ringM.view.readAt (Elt F) (Rect.unit (s := S6x8192x512) ![4, 0, 0] S1x8192x256.size inb_S6x8192x512_S1x8192x256_4_0_0).toLoadRect
    (landedT c XW 4 (rslotT 4).view.junk)
theorem slcT (r : Fin 2) (b : Fin 3) : S192x256.Slices ![64 * b.val, 128 * r.val] S64x128 := by
  revert r b; decide
theorem scT_inb (r : Fin 2) : ∀ a, (![248 + r.val, 0] : Fin 2 → Nat) a + S1x128.size a ≤ S250x128.size a := by
  revert r; decide
/-- The last block's scaled logits of 128-lane group `r` and row block `b`. -/
def tileT (b : Fin 3) (r : Fin 2) : FVec F S64x128 .f32 :=
  scaled (extractStridedSlice S64x128 ![64 * b.val, 128 * r.val] (k0_pay45 (hV c arg1 x1) (wTV c XW)) (slcT r b)) (rsV c arg2 x2 b)
    (arg3.view.readAt (Elt F) (Rect.unit (s := S250x128) ![248 + r.val, 0] S1x128.size (scT_inb r)).toLoadRect x3)
    (tempV c arg0 x0 b)

/-- The running maximum and the running sum carried over the last two tiles. -/
def maxOf2 (t : Fin 2 → FVec F S64x128 .f32) (m : FVec F S64x128 .f32) : FVec F S64x128 .f32 := maximumf (maximumf m (t 0)) (t 1)
def sumOf2 (t : Fin 2 → FVec F S64x128 .f32) (m l n : FVec F S64x128 .f32) : FVec F S64x128 .f32 :=
  addf (addf (mulf l (exp (subf m n))) (exp (subf (t 0) n))) (exp (subf (t 1) n))
/-- What the last block stores in the scratch for one row block, the latest first, -/
abbrev lastPieces (t : Fin 2 → FVec F S64x128 .f32) (m l : FVec F S64x128 .f32) (b : Fin 3) : List (View.Piece (Elt F) S33024x128 .f32) :=
  [pieceL b (sumOf2 t m l (maxOf2 t m)), pieceM b (maxOf2 t m), pieceT 1 b (t 1), pieceT 0 b (t 0)]
/-- and for all three. -/
def endPieces (fo : Buf (Elt F) (bigM.view.loc (c : Thread nD τ))) : List (View.Piece (Elt F) S33024x128 .f32) :=
  lastPieces (tileT c XW arg0 arg1 arg2 arg3 x0 x1 x2 x3 2) (mV c 2 fo) (lV c 2 fo) 2 ++ lastPieces (tileT c XW arg0 arg1 arg2 arg3 x0 x1 x2 x3 1) (mV c 1 fo) (lV c 1 fo) 1
    ++ lastPieces (tileT c XW arg0 arg1 arg2 arg3 x0 x1 x2 x3 0) (mV c 0 fo) (lV c 0 fo) 0
/-- Row block `b`'s 63 results, from its maxima and sums as read back. -/
def lseOf (b : Fin 3) (fo : Buf (Elt F) (bigM.view.loc (c : Thread nD τ))) : FVec F S1x63 .f32 :=
  k0_pay74 (bigM.view.readCov (endPieces c XW arg0 arg1 arg2 arg3 x0 x1 x2 x3 fo) (Rect.unit (s := S33024x128) ![768 + 64 * b.val, 0] S64x128.size (m_inb b)).toLoadRect)
    (bigM.view.readCov (endPieces c XW arg0 arg1 arg2 arg3 x0 x1 x2 x3 fo) (Rect.unit (s := S33024x128) ![960 + 64 * b.val, 0] S64x128.size (l_inb b)).toLoadRect)

theorem row_inb (b : Fin 3) : ∀ a, (![b.val, 0] : Fin 2 → Nat) a + S1x63.size a ≤ S3x63.size a := by
  revert b; decide
/-- Row block `b`'s results with the place they are stored. -/
abbrev rowPiece (b : Fin 3) (v : FVec F S1x63 .f32) : View.Piece (Elt F) S3x63 .f32 :=
  ⟨Rect.unit (s := S3x63) ![b.val, 0] S1x63.size (row_inb b), v⟩

/-- The scratch at the loop's start: the maxima at minus infinity, the sums at zero. -/
abbrev bigZero (gB : Buf (Elt F) (bigM.view.loc (c : Thread nD τ))) : Buf (Elt F) (bigM.view.loc (c : Thread nD τ)) :=
  bigM.view.writes (Elt F) gB [⟨Rect.unit (s := S33024x128) ![960, 0] S192x128.size inb_S33024x128_S192x128_960_0, k0_pay44 (F := F)⟩,
    ⟨Rect.unit (s := S33024x128) ![768, 0] S192x128.size inb_S33024x128_S192x128_768_0, k0_pay43 (F := F)⟩]
/-- The scratch after the loop. -/
abbrev bigEnd (gB : Buf (Elt F) (bigM.view.loc (c : Thread nD τ))) : Buf (Elt F) (bigM.view.loc (c : Thread nD τ)) := bigAcc c XW arg0 arg1 arg2 arg3 x0 x1 x2 x3 (bigZero c gB) 62
/-- The result block after the body. -/
abbrev outOf (gO : Buf (Elt F) (arg5.view.loc (c : Thread nD τ))) (fo : Buf (Elt F) (bigM.view.loc (c : Thread nD τ))) : Buf (Elt F) (arg5.view.loc (c : Thread nD τ)) :=
  arg5.view.writes (Elt F) gO [rowPiece 2 (lseOf c XW arg0 arg1 arg2 arg3 x0 x1 x2 x3 2 fo), rowPiece 1 (lseOf c XW arg0 arg1 arg2 arg3 x0 x1 x2 x3 1 fo),
    rowPiece 0 (lseOf c XW arg0 arg1 arg2 arg3 x0 x1 x2 x3 0 fo)]

abbrev outP (fo : Buf (Elt F) (arg5.view.loc (c : Thread nD τ))) : sProp 𝕄 := arg5.view.loc (c : Thread nD τ) ↦[arg5.view.set]{fullShare} fo

/-- The six slots at anything and their semaphores at zero. -/
abbrev slotsP : sProp 𝕄 :=
  iprop((∃ f, slotP (F := F) c 0 f) ∗ (∃ f, slotP (F := F) c 1 f) ∗ (∃ f, slotP (F := F) c 2 f) ∗ (∃ f, slotP (F := F) c 3 f) ∗ (∃ f, slotP (F := F) c 4 f) ∗ (∃ f, slotP (F := F) c 5 f))
abbrev cellsP : sProp 𝕄 :=
  iprop(cellP (F := F) c 0 ∗ cellP (F := F) c 1 ∗ cellP (F := F) c 2 ∗ cellP (F := F) c 3 ∗ cellP (F := F) c 4 ∗ cellP (F := F) c 5)

theorem homes_all : bigSep Finset.univ (blockP c XW) = iprop(homeTP c XW ∗ bigSep (Ring.homeSet (NB := 63) 5 62) (blockP c XW)) := by
  have e : (Finset.univ : Finset (Fin 63)) = insert (Ring.bk 63 62) (Ring.homeSet 5 62) := by
    ext b; rw [Finset.mem_insert, Ring.mem_homeSet, Fin.ext_iff, Ring.bk_val (by decide)]; have := b.isLt
    simp only [Finset.mem_univ, true_iff]; omega
  conv_lhs => rw [e, bigSep_insert (Ring.bk_not_mem_homeSet 5 62 (by decide) (by decide))]
  rw [blockP_last c XW 62 rfl]; rfl

/-- The kernel on the given staging buffers. -/
abbrev bodyG : Prog (TpuEff nD τ sig (Elt F) Λ₀ .tc) PUnit :=
  cc0_logits_lse arg0 harg0 arg1 harg1 arg2 harg2 arg3 harg3 wM (Memref.isWhole_whole _) arg5 harg5 ringM (Memref.isWhole_whole _) bigM (Memref.isWhole_whole _) cc0_scratch2

/-- What the body takes. -/
abbrev PRE (gO : Buf (Elt F) (arg5.view.loc (c : Thread nD τ))) (gB : Buf (Elt F) (bigM.view.loc (c : Thread nD τ))) (W : Waits sig Unit) : sProp 𝕄 :=
  iprop(insP c arg0 arg1 arg2 arg3 x0 x1 x2 x3 ∗ outP c arg5 gO ∗ bigP c gB
    ∗ (homeP c XW 0 ∗ homeP c XW 1 ∗ homeP c XW 2 ∗ homeP c XW 3 ∗ homeP c XW 4 ∗ homeP c XW 5 ∗ bigSep (Ring.homeSet (NB := 63) 6 0) (blockP c XW))
    ∗ slotsP c ∗ cellsP c ∗ owes (c : Thread nD τ) 0 W)
/-- What the body leaves. -/
abbrev POST (out : Buf (Elt F) (arg5.view.loc (c : Thread nD τ))) : sProp 𝕄 :=
  iprop(insP c arg0 arg1 arg2 arg3 x0 x1 x2 x3 ∗ outP c arg5 out ∗ (∃ f, bigP c f) ∗ bigSep Finset.univ (blockP c XW)
    ∗ slotsP c ∗ cellsP c ∗ owesP c)

theorem freeP_lit (t : ℕ) (a : Fin 6) (ha : sA t = a) : freeP (F := F) c t = iprop((∃ f, slotP (F := F) c a f) ∗ cellP (F := F) c a) := by
  subst ha; rfl

theorem asideP_open : asideP c XW ⊢ iprop((∃ f, restP (F := F) c 4 f) ∗ ((∃ f, slotP (F := F) c 5 f) ∗ cellP (F := F) c 5)
    ∗ ((∃ f, slotP (F := F) c 0 f) ∗ cellP (F := F) c 0) ∗ ((∃ f, slotP (F := F) c 1 f) ∗ cellP (F := F) c 1) ∗ ((∃ f, slotP (F := F) c 2 f) ∗ cellP (F := F) c 2)
    ∗ ((∃ f, slotP (F := F) c 3 f) ∗ cellP (F := F) c 3) ∗ bigSep (Ring.homeSet (NB := 63) 5 62) (blockP c XW)) := by
  refine entails_of_eq ?_
  rw [asideP_eq, ASIDE, freeP_lit c 63 5 rfl, freeP_lit c 64 0 rfl, freeP_lit c 65 1 rfl, freeP_lit c 66 2 rfl, freeP_lit c 67 3 rfl]

set_option warn.classDefReducibility false in
set_option backward.proofsInPublic true in
attribute [local instance] loopExit in
/-- The body runs from `PRE` to `POST`. -/
theorem bodyRun (gO gB W) (Q : PUnit → sProp 𝕄) :
    iprop(PRE c XW arg0 arg1 arg2 arg3 arg5 x0 x1 x2 x3 gO gB W ∗ (POST c XW arg0 arg1 arg2 arg3 arg5 x0 x1 x2 x3 (outOf c XW arg0 arg1 arg2 arg3 arg5 x0 x1 x2 x3 gO (bigEnd c XW arg0 arg1 arg2 arg3 x0 x1 x2 x3 gB)) -∗ Q ⟨⟩))
      ⊢ wp frame (wpE (defs₀ (F := F)) 𝒱₀ (c : Thread nD τ) none) Set.univ (bodyG arg0 harg0 arg1 harg1 arg2 harg2 arg3 harg3 arg5 harg5) Q := by
  iintro ⟨⟨⟨H0, H1, H2, H3⟩, HO, HB, ⟨Hg0, Hg1, Hg2, Hg3, Hg4, Hg5, HR⟩, ⟨⟨%f0, Hs0⟩, ⟨%f1, Hs1⟩, ⟨%f2, Hs2⟩, ⟨%f3, Hs3⟩, ⟨%f4, Hs4⟩, ⟨%f5, Hs5⟩⟩, ⟨Hc0, Hc1, Hc2, Hc3, Hc4, Hc5⟩, HW⟩, Hk⟩
  let L := loopInv c XW arg0 harg0 arg1 harg1 arg2 harg2 arg3 harg3 arg5 harg5 x0 x1 x2 x3 (bigZero c gB)
  sl_exec
  sl_step
  ihave HA := (asideP_open c XW) $$ HL7
  icases HA with ⟨HA4, ⟨HS5, HC5⟩, ⟨HS0, HC0⟩, ⟨HS1, HC1⟩, ⟨HS2, HC2⟩, ⟨HS3, HC3⟩, HAR⟩
  iapply Hk
  isplitl [HL0 HL1 HL2 HL3]
  · isplitl [HL0]; · iexact HL0
    isplitl [HL1]; · iexact HL1
    isplitl [HL2]; · iexact HL2
    iexact HL3
  have eP : bodyRun.sl.HL4_12 c XW arg0 arg1 arg2 arg3 x0 x1 x2 x3 gB = endPieces c XW arg0 arg1 arg2 arg3 x0 x1 x2 x3 (bigEnd c XW arg0 arg1 arg2 arg3 x0 x1 x2 x3 gB) := rfl
  have e0 : k0_pay73 (bodyRun.sl.r_10 c XW arg0 arg1 arg2 arg3 x0 x1 x2 x3 gB) (bodyRun.sl.r_11 c XW arg0 arg1 arg2 arg3 x0 x1 x2 x3 gB) = lseOf c XW arg0 arg1 arg2 arg3 x0 x1 x2 x3 0 (bigEnd c XW arg0 arg1 arg2 arg3 x0 x1 x2 x3 gB) := rfl
  have e1 : k0_pay74 (bodyRun.sl.v220 c XW arg0 arg1 arg2 arg3 x0 x1 x2 x3 gB) (bodyRun.sl.v223 c XW arg0 arg1 arg2 arg3 x0 x1 x2 x3 gB) = lseOf c XW arg0 arg1 arg2 arg3 x0 x1 x2 x3 1 (bigEnd c XW arg0 arg1 arg2 arg3 x0 x1 x2 x3 gB) := rfl
  have e2 : k0_pay1 (bodyRun.sl.v243 c XW arg0 arg1 arg2 arg3 x0 x1 x2 x3 gB) (bodyRun.sl.r_12 c XW arg0 arg1 arg2 arg3 x0 x1 x2 x3 gB) (bodyRun.sl.v246 c XW arg0 arg1 arg2 arg3 x0 x1 x2 x3 gB) = lseOf c XW arg0 arg1 arg2 arg3 x0 x1 x2 x3 2 (bigEnd c XW arg0 arg1 arg2 arg3 x0 x1 x2 x3 gB) := rfl
  have hout : iprop(arg5.view.loc (c : Thread nD τ) ↦[arg5.view.set]{fullShare} arg5.view.writes (Elt F) gO
        [rowPiece 2 (k0_pay1 (bodyRun.sl.v243 c XW arg0 arg1 arg2 arg3 x0 x1 x2 x3 gB) (bodyRun.sl.r_12 c XW arg0 arg1 arg2 arg3 x0 x1 x2 x3 gB) (bodyRun.sl.v246 c XW arg0 arg1 arg2 arg3 x0 x1 x2 x3 gB)),
          rowPiece 1 (k0_pay74 (bodyRun.sl.v220 c XW arg0 arg1 arg2 arg3 x0 x1 x2 x3 gB) (bodyRun.sl.v223 c XW arg0 arg1 arg2 arg3 x0 x1 x2 x3 gB)),
          rowPiece 0 (k0_pay73 (bodyRun.sl.r_10 c XW arg0 arg1 arg2 arg3 x0 x1 x2 x3 gB) (bodyRun.sl.r_11 c XW arg0 arg1 arg2 arg3 x0 x1 x2 x3 gB))])
      ⊢ (outP c arg5 (outOf c XW arg0 arg1 arg2 arg3 arg5 x0 x1 x2 x3 gO (bigEnd c XW arg0 arg1 arg2 arg3 x0 x1 x2 x3 gB)) : sProp 𝕄) := by
    rw [e0, e1, e2]
  isplitl [HO]
  · iapply hout; iexact HO
  isplitl [HL4]; · iexists _; iexact HL4
  isplitl [HL6_src HAR]
  · iapply (entails_of_eq (homes_all c XW).symm)
    isplitl [HL6_src]; · iexact HL6_src
    iexact HAR
  isplitl [HS0 HS1 HS2 HS3 HS5 HL6_dst HA4]
  · isplitl [HS0]; · iexact HS0
    isplitl [HS1]; · iexact HS1
    isplitl [HS2]; · iexact HS2
    isplitl [HS3]; · iexact HS3
    isplitl [HL6_dst HA4]
    · iapply (halves_slot c 4)
      isplitl [HL6_dst]; · iexists _; iexact HL6_dst
      iexact HA4
    iexact HS5
  isplitl [HC0 HC1 HC2 HC3 HC5 HL6]
  · isplitl [HC0]; · iexact HC0
    isplitl [HC1]; · iexact HC1
    isplitl [HC2]; · iexact HC2
    isplitl [HC3]; · iexact HC3
    isplitl [HL6]; · iexact HL6
    iexact HC5
  iexists _; iexact HL5

end Body
end Cert.Proof.LmHead
end
-- ==== Proof.LmHead.Stored.lean ====
/-
  What the logits kernel's scratch holds after its loop, as a recursion over the trips on the maxima and sums of each row
  block, and what its result block holds after the body, whatever both held before.
-/
module

public import proofs.«01_k».proof.Proof.LmHead.Body
public import Idealize.ShloMosaic.Lib.WritesUnit
public import Idealize.ShloMosaic.Lib.Pipeline.ValueKit

@[expose] public section

noncomputable section

namespace Cert.Proof.LmHead

open Cert.Logits Cert.Logits.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # What the scratch holds after the loop, and the result block after the body -/

section Stored

variable (c : Dev nD) (XW : Buf (Elt F) (wM.view.loc (c : Thread nD τ)))
  (arg0 : Memref sig .tc .smem S3 .f32)
  (arg1 : Memref sig .tc .vmem S192x8192 .fp8e4m3)
  (arg2 : Memref sig .tc .vmem S192x128 .f32)
  (arg3 : Memref sig .tc .vmem S250x128 .f32)
  (arg5 : Memref sig .tc .vmem S3x63 .f32)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

theorem st_eq (v : FVec F S64x128 .f32) : st v = v := shapeCast_id v _

/-! ## Reading through stores of 64 rows -/

theorem skipRows (f : bigM.view.ty.Contents (Elt F)) (o : ℕ) (inb) (v : FVec F S64x128 .f32) (L : List (View.Piece (Elt F) S33024x128 .f32)) (y : S33024x128.Idx)
    (h : (y 0).val < o ∨ o + 64 ≤ (y 0).val) :
    bigM.view.read (Elt F) (bigM.view.writes (Elt F) f (⟨Rect.unit (s := S33024x128) ![o, 0] S64x128.size inb, v⟩ :: L)) y
      = bigM.view.read (Elt F) (bigM.view.writes (Elt F) f L) y :=
  View.read_writes_cons_rows_of_not_mem bigM.view f inb v L y rfl rfl h
theorem hitRows (f : bigM.view.ty.Contents (Elt F)) (o : ℕ) (inb) (v : FVec F S64x128 .f32) (L : List (View.Piece (Elt F) S33024x128 .f32)) (i : S64x128.Idx) :
    bigM.view.read (Elt F) (bigM.view.writes (Elt F) f (⟨Rect.unit (s := S33024x128) ![o, 0] S64x128.size inb, v⟩ :: L))
      ((Rect.unit (s := S33024x128) ![o, 0] S64x128.size inb).toLoadRect.idx i) = v i :=
  View.read_writes_cons_rows_of_mem bigM.view f inb v L _ i rfl
    (by show o + 1 * (i 0).val = o + (i 0).val; omega) (by show 0 + 1 * (i 1).val = (i 1).val; omega)

/-- Stores of 64 rows each, none of which meets the rows from `o` on, leave a load of these rows as it was. -/
theorem load_skip (f : bigM.view.ty.Contents (Elt F)) (o o' : ℕ) (inb inb') (v : FVec F S64x128 .f32) (L : List (View.Piece (Elt F) S33024x128 .f32)) (h : o' + 64 ≤ o ∨ o + 64 ≤ o') :
    bigM.view.readAt (Elt F) (Rect.unit (s := S33024x128) ![o, 0] S64x128.size inb).toLoadRect
        (bigM.view.writes (Elt F) f (⟨Rect.unit (s := S33024x128) ![o', 0] S64x128.size inb', v⟩ :: L))
      = bigM.view.readAt (Elt F) (Rect.unit (s := S33024x128) ![o, 0] S64x128.size inb).toLoadRect (bigM.view.writes (Elt F) f L) := by
  funext i
  refine skipRows f o' inb' v L _ ?_
  have hi : (i 0).val < 64 := (i 0).isLt
  show o + 1 * (i 0).val < o' ∨ o' + 64 ≤ o + 1 * (i 0).val
  omega
/-- A load of the rows just stored reads what was stored. -/
theorem load_hit (f : bigM.view.ty.Contents (Elt F)) (o : ℕ) (inb) (v : FVec F S64x128 .f32) (L : List (View.Piece (Elt F) S33024x128 .f32)) :
    bigM.view.readAt (Elt F) (Rect.unit (s := S33024x128) ![o, 0] S64x128.size inb).toLoadRect
        (bigM.view.writes (Elt F) f (⟨Rect.unit (s := S33024x128) ![o, 0] S64x128.size inb, v⟩ :: L)) = v :=
  funext fun i => hitRows f o inb v L i

/-! ## A trip's step -/

section Step
variable (f : bigM.view.ty.Contents (Elt F)) (t : Fin 4 → FVec F S64x128 .f32) (u : Fin 2 → FVec F S64x128 .f32) (m l : FVec F S64x128 .f32) (L : List (View.Piece (Elt F) S33024x128 .f32))

/-- Another row block's stores do not touch row block `b`'s maxima or sums; -/
theorem skipBlockM (b b' : Fin 3) (h : b ≠ b') : mV c b (bigM.view.writes (Elt F) f (blockPieces t m l b' ++ L)) = mV c b (bigM.view.writes (Elt F) f L) := by
  have h' : b.val ≠ b'.val := fun e => h (Fin.ext e)
  have hb := b.isLt; have hb' := b'.isLt
  simp only [blockPieces, List.cons_append, List.nil_append]
  rw [mV, load_skip _ _ _ _ _ _ _ (by omega), load_skip _ _ _ _ _ _ _ (by omega), load_skip _ _ _ _ _ _ _ (by show 192 * 3 + _ + 64 ≤ _ ∨ _; omega),
    load_skip _ _ _ _ _ _ _ (by show 192 * 2 + _ + 64 ≤ _ ∨ _; omega), load_skip _ _ _ _ _ _ _ (by show 192 * 1 + _ + 64 ≤ _ ∨ _; omega), load_skip _ _ _ _ _ _ _ (by show 192 * 0 + _ + 64 ≤ _ ∨ _; omega)]
theorem skipBlockL (b b' : Fin 3) (h : b ≠ b') : lV c b (bigM.view.writes (Elt F) f (blockPieces t m l b' ++ L)) = lV c b (bigM.view.writes (Elt F) f L) := by
  have h' : b.val ≠ b'.val := fun e => h (Fin.ext e)
  have hb := b.isLt; have hb' := b'.isLt
  simp only [blockPieces, List.cons_append, List.nil_append]
  rw [lV, load_skip _ _ _ _ _ _ _ (by omega), load_skip _ _ _ _ _ _ _ (by omega), load_skip _ _ _ _ _ _ _ (by show 192 * 3 + _ + 64 ≤ _ ∨ _; omega),
    load_skip _ _ _ _ _ _ _ (by show 192 * 2 + _ + 64 ≤ _ ∨ _; omega), load_skip _ _ _ _ _ _ _ (by show 192 * 1 + _ + 64 ≤ _ ∨ _; omega), load_skip _ _ _ _ _ _ _ (by show 192 * 0 + _ + 64 ≤ _ ∨ _; omega)]
/-- its own set them. -/
theorem hitBlockM (b : Fin 3) : mV c b (bigM.view.writes (Elt F) f (blockPieces t m l b ++ L)) = maxOf t m := by
  have hb := b.isLt
  simp only [blockPieces, List.cons_append, List.nil_append]
  rw [mV, load_skip _ _ _ _ _ _ _ (by omega), load_hit, st_eq]
theorem hitBlockL (b : Fin 3) : lV c b (bigM.view.writes (Elt F) f (blockPieces t m l b ++ L)) = sumOf t m l (maxOf t m) := by
  simp only [blockPieces, List.cons_append, List.nil_append]
  rw [lV, load_hit, st_eq]
/-- The same for the stores of the last block. -/
theorem skipLastM (b b' : Fin 3) (h : b ≠ b') : mV c b (bigM.view.writes (Elt F) f (lastPieces u m l b' ++ L)) = mV c b (bigM.view.writes (Elt F) f L) := by
  have h' : b.val ≠ b'.val := fun e => h (Fin.ext e)
  have hb := b.isLt; have hb' := b'.isLt
  simp only [lastPieces, List.cons_append, List.nil_append]
  rw [mV, load_skip _ _ _ _ _ _ _ (by omega), load_skip _ _ _ _ _ _ _ (by omega), load_skip _ _ _ _ _ _ _ (by show 192 * 1 + _ + 64 ≤ _ ∨ _; omega), load_skip _ _ _ _ _ _ _ (by show 192 * 0 + _ + 64 ≤ _ ∨ _; omega)]
theorem skipLastL (b b' : Fin 3) (h : b ≠ b') : lV c b (bigM.view.writes (Elt F) f (lastPieces u m l b' ++ L)) = lV c b (bigM.view.writes (Elt F) f L) := by
  have h' : b.val ≠ b'.val := fun e => h (Fin.ext e)
  have hb := b.isLt; have hb' := b'.isLt
  simp only [lastPieces, List.cons_append, List.nil_append]
  rw [lV, load_skip _ _ _ _ _ _ _ (by omega), load_skip _ _ _ _ _ _ _ (by omega), load_skip _ _ _ _ _ _ _ (by show 192 * 1 + _ + 64 ≤ _ ∨ _; omega), load_skip _ _ _ _ _ _ _ (by show 192 * 0 + _ + 64 ≤ _ ∨ _; omega)]
theorem hitLastM (b : Fin 3) : mV c b (bigM.view.writes (Elt F) f (lastPieces u m l b ++ L)) = maxOf2 u m := by
  have hb := b.isLt
  simp only [lastPieces, List.cons_append, List.nil_append]
  rw [mV, load_skip _ _ _ _ _ _ _ (by omega), load_hit, st_eq]
theorem hitLastL (b : Fin 3) : lV c b (bigM.view.writes (Elt F) f (lastPieces u m l b ++ L)) = sumOf2 u m l (maxOf2 u m) := by
  simp only [lastPieces, List.cons_append, List.nil_append]
  rw [lV, load_hit, st_eq]
end Step

theorem fin3 (b : Fin 3) : b = 0 ∨ b = 1 ∨ b = 2 := by revert b; decide
/-- The three row blocks' stores together. -/
theorem threeM (f : bigM.view.ty.Contents (Elt F)) (t : Fin 3 → Fin 4 → FVec F S64x128 .f32) (m l : Fin 3 → FVec F S64x128 .f32) (b : Fin 3) :
    mV c b (bigM.view.writes (Elt F) f ((blockPieces (t 2) (m 2) (l 2) 2 ++ blockPieces (t 1) (m 1) (l 1) 1) ++ blockPieces (t 0) (m 0) (l 0) 0)) = maxOf (t b) (m b) := by
  rw [List.append_assoc]
  obtain rfl | rfl | rfl := fin3 b
  · rw [skipBlockM c _ _ _ _ _ 0 2 (by decide), skipBlockM c _ _ _ _ _ 0 1 (by decide), ← List.append_nil (blockPieces _ _ _ 0)]; exact hitBlockM ..
  · rw [skipBlockM c _ _ _ _ _ 1 2 (by decide)]; exact hitBlockM ..
  · exact hitBlockM ..
theorem threeL (f : bigM.view.ty.Contents (Elt F)) (t : Fin 3 → Fin 4 → FVec F S64x128 .f32) (m l : Fin 3 → FVec F S64x128 .f32) (b : Fin 3) :
    lV c b (bigM.view.writes (Elt F) f ((blockPieces (t 2) (m 2) (l 2) 2 ++ blockPieces (t 1) (m 1) (l 1) 1) ++ blockPieces (t 0) (m 0) (l 0) 0)) = sumOf (t b) (m b) (l b) (maxOf (t b) (m b)) := by
  rw [List.append_assoc]
  obtain rfl | rfl | rfl := fin3 b
  · rw [skipBlockL c _ _ _ _ _ 0 2 (by decide), skipBlockL c _ _ _ _ _ 0 1 (by decide), ← List.append_nil (blockPieces _ _ _ 0)]; exact hitBlockL ..
  · rw [skipBlockL c _ _ _ _ _ 1 2 (by decide)]; exact hitBlockL ..
  · exact hitBlockL ..
theorem threeLastM (f : bigM.view.ty.Contents (Elt F)) (t : Fin 3 → Fin 2 → FVec F S64x128 .f32) (m l : Fin 3 → FVec F S64x128 .f32) (b : Fin 3) :
    mV c b (bigM.view.writes (Elt F) f ((lastPieces (t 2) (m 2) (l 2) 2 ++ lastPieces (t 1) (m 1) (l 1) 1) ++ lastPieces (t 0) (m 0) (l 0) 0)) = maxOf2 (t b) (m b) := by
  rw [List.append_assoc]
  obtain rfl | rfl | rfl := fin3 b
  · rw [skipLastM c _ _ _ _ _ 0 2 (by decide), skipLastM c _ _ _ _ _ 0 1 (by decide), ← List.append_nil (lastPieces _ _ _ 0)]; exact hitLastM ..
  · rw [skipLastM c _ _ _ _ _ 1 2 (by decide)]; exact hitLastM ..
  · exact hitLastM ..
theorem threeLastL (f : bigM.view.ty.Contents (Elt F)) (t : Fin 3 → Fin 2 → FVec F S64x128 .f32) (m l : Fin 3 → FVec F S64x128 .f32) (b : Fin 3) :
    lV c b (bigM.view.writes (Elt F) f ((lastPieces (t 2) (m 2) (l 2) 2 ++ lastPieces (t 1) (m 1) (l 1) 1) ++ lastPieces (t 0) (m 0) (l 0) 0)) = sumOf2 (t b) (m b) (l b) (maxOf2 (t b) (m b)) := by
  rw [List.append_assoc]
  obtain rfl | rfl | rfl := fin3 b
  · rw [skipLastL c _ _ _ _ _ 0 2 (by decide), skipLastL c _ _ _ _ _ 0 1 (by decide), ← List.append_nil (lastPieces _ _ _ 0)]; exact hitLastL ..
  · rw [skipLastL c _ _ _ _ _ 1 2 (by decide)]; exact hitLastL ..
  · exact hitLastL ..

/-- After a trip, row block `b`'s maxima and sums are its maxima and sums before, carried over the trip's four tiles. -/
theorem nextM (k : Fin k0_t1_loop.trips) (b : Fin 3) (fo : Buf (Elt F) (bigM.view.loc (c : Thread nD τ))) :
    mV c b (nextO c XW arg0 arg1 arg2 arg3 x0 x1 x2 x3 k fo) = maxOf (fun r => tileAt c XW arg0 arg1 arg2 arg3 x0 x1 x2 x3 k r b) (mV c b fo) :=
  threeM c fo (fun b r => tileAt c XW arg0 arg1 arg2 arg3 x0 x1 x2 x3 k r b) (fun b => mV c b fo) (fun b => lV c b fo) b

theorem nextL (k : Fin k0_t1_loop.trips) (b : Fin 3) (fo : Buf (Elt F) (bigM.view.loc (c : Thread nD τ))) :
    lV c b (nextO c XW arg0 arg1 arg2 arg3 x0 x1 x2 x3 k fo) = sumOf (fun r => tileAt c XW arg0 arg1 arg2 arg3 x0 x1 x2 x3 k r b) (mV c b fo) (lV c b fo) (maxOf (fun r => tileAt c XW arg0 arg1 arg2 arg3 x0 x1 x2 x3 k r b) (mV c b fo)) :=
  threeL c fo (fun b r => tileAt c XW arg0 arg1 arg2 arg3 x0 x1 x2 x3 k r b) (fun b => mV c b fo) (fun b => lV c b fo) b

/-! ## The maxima and the sums over the whole loop -/

/-- Row block `b`'s maxima and sums before trip `n`. -/
def acc (b : Fin 3) : ℕ → FVec F S64x128 .f32 × FVec F S64x128 .f32
  | 0 => (broadcast S64x128 (Scalar.ofBits .f32 0xFF800000#32), broadcast S64x128 (Scalar.ofBits .f32 0x00000000#32))
  | n + 1 => if h : n < k0_t1_loop.trips then
      (maxOf (fun r => tileAt c XW arg0 arg1 arg2 arg3 x0 x1 x2 x3 ⟨n, h⟩ r b) (acc b n).1,
        sumOf (fun r => tileAt c XW arg0 arg1 arg2 arg3 x0 x1 x2 x3 ⟨n, h⟩ r b) (acc b n).1 (acc b n).2 (maxOf (fun r => tileAt c XW arg0 arg1 arg2 arg3 x0 x1 x2 x3 ⟨n, h⟩ r b) (acc b n).1))
    else acc b n
theorem acc_succ (b : Fin 3) (k : Fin k0_t1_loop.trips) : acc c XW arg0 arg1 arg2 arg3 x0 x1 x2 x3 b (k.val + 1)
    = (maxOf (fun r => tileAt c XW arg0 arg1 arg2 arg3 x0 x1 x2 x3 k r b) (acc c XW arg0 arg1 arg2 arg3 x0 x1 x2 x3 b k.val).1,
        sumOf (fun r => tileAt c XW arg0 arg1 arg2 arg3 x0 x1 x2 x3 k r b) (acc c XW arg0 arg1 arg2 arg3 x0 x1 x2 x3 b k.val).1 (acc c XW arg0 arg1 arg2 arg3 x0 x1 x2 x3 b k.val).2 (maxOf (fun r => tileAt c XW arg0 arg1 arg2 arg3 x0 x1 x2 x3 k r b) (acc c XW arg0 arg1 arg2 arg3 x0 x1 x2 x3 b k.val).1)) := by
  rw [acc, dif_pos k.isLt]

def wix (a : Fin 192) (l : Fin 128) : S192x128.Idx := fun | ⟨0, _⟩ => a | ⟨1, _⟩ => l
theorem pay43_apply (y : S192x128.Idx) : k0_pay43 (F := F) y = Scalar.ofBits .f32 0xFF800000#32 := by
  unfold k0_pay43; rw [shapeCast_id]; rfl
theorem pay44_apply (y : S192x128.Idx) : k0_pay44 (F := F) y = Scalar.ofBits .f32 0x00000000#32 := by
  unfold k0_pay44; rw [shapeCast_id]; rfl
theorem zeroM (b : Fin 3) (gB : Buf (Elt F) (bigM.view.loc (c : Thread nD τ))) : mV c b (bigZero c gB) = broadcast S64x128 (Scalar.ofBits .f32 0xFF800000#32) := by
  funext i
  have hi : (i 0).val < 64 := (i 0).isLt
  have hb := b.isLt
  have h1 : bigM.view.read (Elt F) (bigZero c gB) ((Rect.unit (s := S33024x128) ![768 + 64 * b.val, 0] S64x128.size (m_inb b)).toLoadRect.idx i)
      = k0_pay43 (F := F) (wix ⟨64 * b.val + (i 0).val, by omega⟩ (i 1)) := by
    rw [bigZero, View.read_writes_cons_rows_of_not_mem bigM.view gB _ _ _ _ rfl rfl (Or.inl (by show 768 + 64 * b.val + 1 * (i 0).val < 960; omega))]
    exact View.read_writes_cons_rows_of_mem bigM.view gB _ _ _ _ _ rfl (by show 768 + 64 * b.val + 1 * (i 0).val = 768 + (64 * b.val + (i 0).val); omega) (by show 0 + 1 * (i 1).val = (i 1).val; omega)
  exact h1.trans (pay43_apply _)
theorem zeroL (b : Fin 3) (gB : Buf (Elt F) (bigM.view.loc (c : Thread nD τ))) : lV c b (bigZero c gB) = broadcast S64x128 (Scalar.ofBits .f32 0x00000000#32) := by
  funext i
  have hi : (i 0).val < 64 := (i 0).isLt
  have hb := b.isLt
  have h1 : bigM.view.read (Elt F) (bigZero c gB) ((Rect.unit (s := S33024x128) ![960 + 64 * b.val, 0] S64x128.size (l_inb b)).toLoadRect.idx i)
      = k0_pay44 (F := F) (wix ⟨64 * b.val + (i 0).val, by omega⟩ (i 1)) := by
    exact View.read_writes_cons_rows_of_mem bigM.view gB _ _ _ _ _ rfl (by show 960 + 64 * b.val + 1 * (i 0).val = 960 + (64 * b.val + (i 0).val); omega) (by show 0 + 1 * (i 1).val = (i 1).val; omega)
  exact h1.trans (pay44_apply _)

theorem read_acc (b : Fin 3) (gB : Buf (Elt F) (bigM.view.loc (c : Thread nD τ))) (n : ℕ) (hn : n ≤ 62) :
    mV c b (bigAcc c XW arg0 arg1 arg2 arg3 x0 x1 x2 x3 (bigZero c gB) n) = (acc c XW arg0 arg1 arg2 arg3 x0 x1 x2 x3 b n).1 ∧ lV c b (bigAcc c XW arg0 arg1 arg2 arg3 x0 x1 x2 x3 (bigZero c gB) n) = (acc c XW arg0 arg1 arg2 arg3 x0 x1 x2 x3 b n).2 := by
  induction n with
  | zero => exact ⟨zeroM c b gB, zeroL c b gB⟩
  | succ n ih =>
    obtain ⟨hm, hl⟩ := ih (by omega)
    have hlt : n < k0_t1_loop.trips := by rw [trips_eq]; omega
    have e := bigAcc_succ c XW arg0 arg1 arg2 arg3 x0 x1 x2 x3 (bigZero c gB) ⟨n, hlt⟩
    have e' := acc_succ c XW arg0 arg1 arg2 arg3 x0 x1 x2 x3 b ⟨n, hlt⟩
    dsimp only at e e'
    rw [e, e', nextM, nextL, hm, hl]
    exact ⟨rfl, rfl⟩

/-- Row block `b`'s maxima and sums after the last block. -/
def finM (b : Fin 3) : FVec F S64x128 .f32 := maxOf2 (tileT c XW arg0 arg1 arg2 arg3 x0 x1 x2 x3 b) (acc c XW arg0 arg1 arg2 arg3 x0 x1 x2 x3 b 62).1
def finL (b : Fin 3) : FVec F S64x128 .f32 := sumOf2 (tileT c XW arg0 arg1 arg2 arg3 x0 x1 x2 x3 b) (acc c XW arg0 arg1 arg2 arg3 x0 x1 x2 x3 b 62).1 (acc c XW arg0 arg1 arg2 arg3 x0 x1 x2 x3 b 62).2 (finM c XW arg0 arg1 arg2 arg3 x0 x1 x2 x3 b)

theorem lseOf_eq (b : Fin 3) (gB : Buf (Elt F) (bigM.view.loc (c : Thread nD τ))) : lseOf c XW arg0 arg1 arg2 arg3 x0 x1 x2 x3 b (bigEnd c XW arg0 arg1 arg2 arg3 x0 x1 x2 x3 gB) = k0_pay74 (finM c XW arg0 arg1 arg2 arg3 x0 x1 x2 x3 b) (finL c XW arg0 arg1 arg2 arg3 x0 x1 x2 x3 b) := by
  have hM : bigM.view.readCov (endPieces c XW arg0 arg1 arg2 arg3 x0 x1 x2 x3 (bigEnd c XW arg0 arg1 arg2 arg3 x0 x1 x2 x3 gB)) (Rect.unit (s := S33024x128) ![768 + 64 * b.val, 0] S64x128.size (m_inb b)).toLoadRect = finM c XW arg0 arg1 arg2 arg3 x0 x1 x2 x3 b := by
    show mV c b (bigM.view.writes (Elt F) bigM.view.junk _) = _
    obtain ⟨hm, hl⟩ := read_acc c XW arg0 arg1 arg2 arg3 x0 x1 x2 x3 b gB 62 le_rfl
    unfold endPieces finM; rw [← hm]
    exact threeLastM c _ (fun b => tileT c XW arg0 arg1 arg2 arg3 x0 x1 x2 x3 b) (fun b => mV c b (bigEnd c XW arg0 arg1 arg2 arg3 x0 x1 x2 x3 gB)) (fun b => lV c b (bigEnd c XW arg0 arg1 arg2 arg3 x0 x1 x2 x3 gB)) b
  have hL : bigM.view.readCov (endPieces c XW arg0 arg1 arg2 arg3 x0 x1 x2 x3 (bigEnd c XW arg0 arg1 arg2 arg3 x0 x1 x2 x3 gB)) (Rect.unit (s := S33024x128) ![960 + 64 * b.val, 0] S64x128.size (l_inb b)).toLoadRect = finL c XW arg0 arg1 arg2 arg3 x0 x1 x2 x3 b := by
    show lV c b (bigM.view.writes (Elt F) bigM.view.junk _) = _
    obtain ⟨hm, hl⟩ := read_acc c XW arg0 arg1 arg2 arg3 x0 x1 x2 x3 b gB 62 le_rfl
    unfold endPieces finL finM; rw [← hm, ← hl]
    exact threeLastL c _ (fun b => tileT c XW arg0 arg1 arg2 arg3 x0 x1 x2 x3 b) (fun b => mV c b (bigEnd c XW arg0 arg1 arg2 arg3 x0 x1 x2 x3 gB)) (fun b => lV c b (bigEnd c XW arg0 arg1 arg2 arg3 x0 x1 x2 x3 gB)) b
  rw [lseOf, hM, hL]

/-- Column `s` of a row of results. -/
def rix (s : Fin 63) : S1x63.Idx := fun | ⟨0, _⟩ => (0 : Fin 1) | ⟨1, _⟩ => s
def outBlock (y : S3x63.Idx) : Fin 3 := ⟨(y 0).val, (y 0).isLt⟩
def outCol (y : S3x63.Idx) : Fin 63 := ⟨(y 1).val, (y 1).isLt⟩
/-- What element `y` of the result block holds after the body. -/
def outVal (y : S3x63.Idx) : F .f32 := k0_pay74 (finM c XW arg0 arg1 arg2 arg3 x0 x1 x2 x3 (outBlock y)) (finL c XW arg0 arg1 arg2 arg3 x0 x1 x2 x3 (outBlock y)) (rix (outCol y))

theorem skipRow (g : arg5.view.ty.Contents (Elt F)) (b : Fin 3) (v : FVec F S1x63 .f32) (L) (y : S3x63.Idx) (h : (y 0).val ≠ b.val) :
    arg5.view.read (Elt F) (arg5.view.writes (Elt F) g (rowPiece b v :: L)) y = arg5.view.read (Elt F) (arg5.view.writes (Elt F) g L) y :=
  View.read_writes_cons_rows_of_not_mem arg5.view g (row_inb b) v L y rfl rfl (show (y 0).val < b.val ∨ b.val + 1 ≤ (y 0).val by omega)
theorem hitRow (g : arg5.view.ty.Contents (Elt F)) (b : Fin 3) (v : FVec F S1x63 .f32) (L) (y : S3x63.Idx) (h : (y 0).val = b.val) :
    arg5.view.read (Elt F) (arg5.view.writes (Elt F) g (rowPiece b v :: L)) y = v (rix (outCol y)) :=
  View.read_writes_cons_rows_of_mem arg5.view g (row_inb b) v L y (rix (outCol y)) rfl (by show (y 0).val = b.val + 0; omega) rfl

/-- After the body every element has been stored, whatever was there before. -/
theorem read_outOf (gO) (gB) :
    arg5.view.read (Elt F) (outOf c XW arg0 arg1 arg2 arg3 arg5 x0 x1 x2 x3 gO (bigEnd c XW arg0 arg1 arg2 arg3 x0 x1 x2 x3 gB)) = outVal c XW arg0 arg1 arg2 arg3 x0 x1 x2 x3 := by
  funext y
  rw [outOf, lseOf_eq, lseOf_eq, lseOf_eq, outVal]
  have hy : (y 0).val < 3 := (y 0).isLt
  rcases (by omega : (y 0).val = 0 ∨ (y 0).val = 1 ∨ (y 0).val = 2) with h | h | h
  · rw [skipRow _ _ _ _ _ _ (by rw [h]; decide), skipRow _ _ _ _ _ _ (by rw [h]; decide), hitRow _ _ _ _ _ _ h, show outBlock y = 0 from Fin.ext h]
  · rw [skipRow _ _ _ _ _ _ (by rw [h]; decide), hitRow _ _ _ _ _ _ h, show outBlock y = 1 from Fin.ext h]
  · rw [hitRow _ _ _ _ _ _ h, show outBlock y = 2 from Fin.ext h]

end Stored
end Cert.Proof.LmHead
end
-- ==== Proof.LmHead.Launch.lean ====
/-
  The logits kernel's launch: the weight whole is its 62 column blocks of 512 and its last one of 256, the ring whole is its six slots; the
  body's run is the pipeline's body obligation at its one point; and the whole program runs to a final state with the
  result at the computed contents, the arguments unchanged and every semaphore counter at zero.
-/
module

public import proofs.«01_k».proof.Proof.LmHead.Stored

@[expose] public section

noncomputable section

namespace Cert.Proof.LmHead

open Cert.Logits Cert.Logits.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## @main up to the region -/

abbrev hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The weight's contents, as the column blocks read them. -/
abbrev XWof (c : Dev nD) : Buf (Elt F) (wM.view.loc (c : Thread nD τ)) := m ((c : Thread nD τ).loc main_arg2)

/-! ## The kernel's own semaphores -/

abbrev osem : Fin 6 → SemLoc sig := fun s => .dma (csm s).sem
theorem ownSemFacts : Pipeline.OwnSemFacts spec0 osem := by decide

/-! ## Element sets: the weight's column blocks, the ring's slots -/

abbrev G62 (b : Fin 62) : Finset S8192x32000.Idx := (Rect.unit (s := S8192x32000) (grpOff b) S8192x512.size (grpOff_inb b)).set
abbrev GT : Finset S8192x32000.Idx := (Rect.unit (s := S8192x32000) tailOff S8192x256.size tailOff_inb).set
abbrev S6s (s : Fin 6) : Finset S6x8192x512.Idx := (Rect.unit (s := S6x8192x512) (slotOff s) S1x8192x512.size (slotOff_inb s)).set
/-- Column block `b` of the 63. -/
def B63 (b : Fin 63) : Finset S8192x32000.Idx := if h : b.val < 62 then G62 ⟨b.val, h⟩ else GT

omit [FloatOps F] in
theorem grp_set (b : Fin 62) : (grp b : Memref sig .tc .hbm _ _).view.set = G62 b := View.set_slice_whole _ _
omit [FloatOps F] in
theorem grpT_set : (grpT : Memref sig .tc .hbm _ _).view.set = GT := View.set_slice_whole _ _
omit [FloatOps F] in
theorem rslot_set (s : Fin 6) : (rslot s : Memref sig .tc .vmem _ _).view.set = S6s s := (View.set_reshape _ _).trans (View.set_slice_whole _ _)

theorem mem_G62 (b : Fin 62) (y : S8192x32000.Idx) : y ∈ G62 b ↔ (y 1).val / 512 = b.val := by
  rw [Rect.mem_set_unit]
  have h0 : (y 0).val < 8192 := (y 0).isLt
  constructor
  · intro H; have a0 : 512 * b.val ≤ (y 1).val ∧ (y 1).val < 512 * b.val + 512 := H 1; omega
  · intro H i; fin_cases i
    · show 0 ≤ (y 0).val ∧ (y 0).val < 0 + 8192; omega
    · show 512 * b.val ≤ (y 1).val ∧ (y 1).val < 512 * b.val + 512; omega
theorem mem_GT (y : S8192x32000.Idx) : y ∈ GT ↔ (y 1).val / 512 = 62 := by
  rw [Rect.mem_set_unit]
  have h0 : (y 0).val < 8192 := (y 0).isLt
  have h1 : (y 1).val < 32000 := (y 1).isLt
  constructor
  · intro H; have a0 : 31744 ≤ (y 1).val ∧ (y 1).val < 31744 + 256 := H 1; omega
  · intro H i; fin_cases i
    · show 0 ≤ (y 0).val ∧ (y 0).val < 0 + 8192; omega
    · show 31744 ≤ (y 1).val ∧ (y 1).val < 31744 + 256; omega
theorem mem_B63 (b : Fin 63) (y : S8192x32000.Idx) : y ∈ B63 b ↔ (y 1).val / 512 = b.val := by
  have := b.isLt
  unfold B63; split
  · exact mem_G62 _ y
  · rw [mem_GT]; omega
theorem mem_S6s (s : Fin 6) (y : S6x8192x512.Idx) : y ∈ S6s s ↔ (y 0).val = s.val := by
  rw [Rect.mem_set_unit]
  have h1 : (y 1).val < 8192 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 8192; omega
    · show 0 ≤ (y 2).val ∧ (y 2).val < 0 + 512; omega
theorem B63_disjoint : ∀ j j' : Fin 63, j ≠ j' → Disjoint (B63 j) (B63 j') := by
  intro j j' hne; rw [Finset.disjoint_left]; intro y hy hy'; rw [mem_B63] at hy hy'
  exact hne (Fin.ext (by omega))
theorem B63_cover : (Finset.univ : Finset (Fin 63)).biUnion B63 = Finset.univ := by
  ext y; simp only [Finset.mem_biUnion, Finset.mem_univ, true_and, iff_true]
  have h1 : (y 1).val < 32000 := (y 1).isLt
  refine ⟨⟨(y 1).val / 512, by omega⟩, ?_⟩
  rw [mem_B63]
theorem S6s_disjoint : ∀ s s' : Fin 6, s ≠ s' → Disjoint (S6s s) (S6s s') := by
  intro s s' hne; rw [Finset.disjoint_left]; intro y hy hy'; rw [mem_S6s] at hy hy'; exact hne (Fin.ext (hy.symm.trans hy'))
theorem S6s_cover : (Finset.univ : Finset (Fin 6)).biUnion S6s = Finset.univ := by
  ext y; simp only [Finset.mem_biUnion, Finset.mem_univ, true_and, iff_true]; exact ⟨(y 0).cast (by decide), by rw [mem_S6s]; rfl⟩

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

/-- The weight whole is its 63 column blocks; -/
theorem w_eq (c : Dev nD) (XW : Buf (Elt F) (wM.view.loc (c : Thread nD τ))) :
    (((c : Thread nD τ).loc main_arg2) ↦{fullShare} XW : sProp 𝕄) = bigSep Finset.univ (blockP c XW) := by
  rw [Ring.pointsTo_blocks (ℓ := (c : Thread nD τ).loc main_arg2) B63 B63_disjoint B63_cover]
  refine bigSep_congr fun j _ => ?_
  unfold blockP B63
  split
  · rw [homeP, grp_set]; rfl
  · rw [homeTP, grpT_set]; rfl
/-- at the body's entry, the first six blocks apart from the rest. -/
theorem homes_zero (c : Dev nD) (XW : Buf (Elt F) (wM.view.loc (c : Thread nD τ))) :
    bigSep Finset.univ (blockP c XW) = iprop(homeP c XW 0 ∗ homeP c XW 1 ∗ homeP c XW 2 ∗ homeP c XW 3 ∗ homeP c XW 4 ∗ homeP c XW 5
      ∗ bigSep (Ring.homeSet (NB := 63) 6 0) (blockP c XW)) := by
  have e : (Finset.univ : Finset (Fin 63)) = insert 0 (insert 1 (insert 2 (insert 3 (insert 4 (insert 5 (Ring.homeSet (NB := 63) 6 0)))))) := by
    ext b; simp only [Finset.mem_univ, Finset.mem_insert, Ring.mem_homeSet, true_iff, Fin.ext_iff]; have := b.isLt
    show b.val = 0 ∨ b.val = 1 ∨ b.val = 2 ∨ b.val = 3 ∨ b.val = 4 ∨ b.val = 5 ∨ _; omega
  rw [e, bigSep_insert (by simp [Ring.mem_homeSet, Fin.ext_iff]), bigSep_insert (by simp [Ring.mem_homeSet, Fin.ext_iff]), bigSep_insert (by simp [Ring.mem_homeSet, Fin.ext_iff]),
    bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 6) (f) : slotP c s f = (((c : Thread nD τ).loc cc0_scratch0) ↦[S6s s]{fullShare} f : sProp 𝕄) :=
  congrArg (fun S => (_ ↦[S]{fullShare} f : sProp 𝕄)) (rslot_set s)
/-- The ring whole is its six slots, and back. -/
theorem ring_split (c : Dev nD) :
    iprop(∃ f : Buf (Elt F) ((c : Thread nD τ).loc cc0_scratch0), ((c : Thread nD τ).loc cc0_scratch0) ↦{fullShare} f) ⊢ (slotsP c : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S6s S6s_disjoint S6s_cover f).trans (bigSep_fin6 _))) $$ H
  icases H2 with ⟨H0, H1, H2, H3, H4, H5⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  isplitl [H3]; · iexists f; iapply (entails_of_eq (slotP_eq c 3 f).symm); iexact H3
  isplitl [H4]; · iexists f; iapply (entails_of_eq (slotP_eq c 4 f).symm); iexact H4
  iexists f; iapply (entails_of_eq (slotP_eq c 5 f).symm); iexact H5
theorem ring_join (c : Dev nD) :
    (slotsP c : sProp 𝕄) ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩, ⟨%f4, H4⟩, ⟨%f5, H5⟩⟩
  iapply (Ring.pointsTo_blocks_join_exists (ℓ := (c : Thread nD τ).loc cc0_scratch0) S6s S6s_disjoint S6s_cover f0)
  irw [bigSep_fin6]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  isplitl [H3]; · iexists f3; iapply (entails_of_eq (slotP_eq c 3 f3)); iexact H3
  isplitl [H4]; · iexists f4; iapply (entails_of_eq (slotP_eq c 4 f4)); iexact H4
  iexists f5; iapply (entails_of_eq (slotP_eq c 5 f5)); iexact H5

omit [FloatOps F] in
/-- The kernel's own cells at zero are the six slots' cells. -/
theorem ownSems0_eq (c : Dev nD) : (Pipeline.ownSems0 (Ix := Unit) (Name := ℕ) (U := UU nD τ) (Lvl := ℕ) (Val := Elt F) (τ := τ) osem c : sProp 𝕄)
    = cellsP (F := F) c := by
  unfold Pipeline.ownSems0; rw [bigSep_fin6]

abbrev anyBig (c : Dev nD) : sProp 𝕄 := iprop(∃ f, bigP (F := F) c f)
theorem big_set : (bigM : Memref sig .tc .vmem S33024x128 .f32).view.set = Finset.univ := View.set_whole _
/-- The scratch of tiles, maxima and sums whole is its whole view, and back. -/
theorem big_in (c : Dev nD) :
    iprop(∃ f : Buf (Elt F) ((c : Thread nD τ).loc cc0_scratch1), ((c : Thread nD τ).loc cc0_scratch1) ↦{fullShare} f) ⊢ (anyBig c : sProp 𝕄) := by
  iintro ⟨%f, H⟩
  iexists f
  iapply (entails_of_eq (congrArg (fun S => (((c : Thread nD τ).loc cc0_scratch1) ↦[S]{fullShare} f : sProp 𝕄)) big_set.symm)); iexact H
theorem big_out (c : Dev nD) :
    (anyBig c : sProp 𝕄) ⊢ iprop(∃ f : Buf (Elt F) ((c : Thread nD τ).loc cc0_scratch1), ((c : Thread nD τ).loc cc0_scratch1) ↦{fullShare} f) := by
  iintro ⟨%f, H⟩
  iexists f
  iapply (entails_of_eq (congrArg (fun S => (((c : Thread nD τ).loc cc0_scratch1) ↦[S]{fullShare} f : sProp 𝕄)) big_set)); iexact H

/-! ## The pipeline's proof data -/

/-- The region invariant, the same before and after the one point: the weight's blocks held, the six slots and the
    scratch of tiles, maxima and sums at anything, the six cells at zero. -/
def Φ (c : Dev nD) : sProp 𝕄 :=
  iprop(bigSep Finset.univ (blockP c (XWof m c)) ∗ slotsP c ∗ anyBig c ∗ cellsP (F := F) c)

abbrev st0 (t : Fin cfg0.N) : Memref sig .tc .smem S3 .f32 := win0_0.stage (cfg0.slots t 0)
abbrev st1 (t : Fin cfg0.N) : Memref sig .tc .vmem S192x8192 .fp8e4m3 := win0_1.stage (cfg0.slots t 1)
abbrev st2 (t : Fin cfg0.N) : Memref sig .tc .vmem S192x128 .f32 := win0_2.stage (cfg0.slots t 2)
abbrev st3 (t : Fin cfg0.N) : Memref sig .tc .vmem S250x128 .f32 := win0_3.stage (cfg0.slots t 3)
abbrev st4 (t : Fin cfg0.N) : Memref sig .tc .vmem S3x63 .f32 := win0_4.stage (cfg0.slots t 4)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0
abbrev hst4 (t : Fin cfg0.N) : (st4 t).IsWhole := hstage0_4 0

/-- The four inputs' staging buffers, holding their blocks. -/
abbrev in0 (c : Dev nD) (t : Fin cfg0.N) := (st0 t).view.rep (Val := Elt F) (iblk m c 0 t)
abbrev in1 (c : Dev nD) (t : Fin cfg0.N) := (st1 t).view.rep (Val := Elt F) (iblk m c 1 t)
abbrev in2 (c : Dev nD) (t : Fin cfg0.N) := (st2 t).view.rep (Val := Elt F) (iblk m c 2 t)
abbrev in3 (c : Dev nD) (t : Fin cfg0.N) := (st3 t).view.rep (Val := Elt F) (iblk m c 3 t)

/-- What the body leaves in the result's block. -/
def outAt (c : Dev nD) (t : Fin cfg0.N) : (cfg0.win 4).block.Idx → Elt F (cfg0.win 4).elt :=
  outVal c (XWof m c) (st0 t) (st1 t) (st2 t) (st3 t) (in0 m c t) (in1 m c t) (in2 m c t) (in3 m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0 t) (hst0 t) (st1 t) (hst1 t) (st2 t) (hst2 t) (st3 t) (hst3 t) (st4 t) (hst4 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, HS, ⟨%gB, HM⟩, HC⟩, ⟨%W, -, HW⟩, ⟨%d0, %g0, %hg0, H0⟩, ⟨%d1, %g1, %hg1, H1⟩, ⟨%d2, %g2, %hg2, H2⟩, ⟨%d3, %g3, %hg3, H3⟩, ⟨%d4, %gO, -, HO⟩⟩
  ihave Hh3 := (entails_of_eq (homes_zero c (XWof m c))) $$ Hh
  icases Hh3 with ⟨Hg0, Hg1, Hg2, Hg3, Hg4, Hg5, HR⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  rw [hg0, hg1, hg2, hg3]
  sl_rw [prog_eq t]
  iapply (bodyRun c (XWof m c) (st0 t) (hst0 t) (st1 t) (hst1 t) (st2 t) (hst2 t) (st3 t) (hst3 t) (st4 t) (hst4 t) (in0 m c t) (in1 m c t) (in2 m c t) (in3 m c t) gO gB W)
  isplitl [H0' H1' H2' H3' HO HM Hg0 Hg1 Hg2 Hg3 Hg4 Hg5 HR HS HC HW]
  · isplitl [H0' H1' H2' H3']
    · isplitl [H0']; · iexact H0'
      isplitl [H1']; · iexact H1'
      isplitl [H2']; · iexact H2'
      iexact H3'
    isplitl [HO]; · iexact HO
    isplitl [HM]; · iexact HM
    isplitl [Hg0 Hg1 Hg2 Hg3 Hg4 Hg5 HR]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      iexact HR
    isplitl [HS]; · iexact HS
    isplitl [HC]; · iexact HC
    iexact HW
  · iintro ⟨⟨H0, H1, H2, H3⟩, HO, HM, Hh, HS, HC, ⟨%W', HW⟩⟩
    isplitl [Hh HS HM HC]
    · isplitl [Hh]; · iexact Hh
      isplitl [HS]; · iexact HS
      isplitl [HM]; · iexact HM
      iexact HC
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr
    · ipureintro; exact read_outOf c (XWof m c) (st0 t) (st1 t) (st2 t) (st3 t) (st4 t) (in0 m c t) (in1 m c t) (in2 m c t) (in3 m c t) gO gB
    iexact HO

/-! ## The run -/

def intoΦ (c : Dev nD) : sProp 𝕄 := iprop(bigSep Finset.univ (blockP c (XWof m c)) ∗ Pipeline.ownSems0 osem c)
/-- The arguments no window stages, unchanged. -/
abbrev argP (c : Dev nD) (b : Ref sig .tc) : sProp 𝕄 := ((c : Thread nD τ).loc b) ↦{fullShare} m ((c : Thread nD τ).loc b)
def outOfΦ (c : Dev nD) : sProp 𝕄 := argP m c main_arg2
def keptZ (c : Dev nD) : sProp 𝕄 := iprop(argP m c main_arg1 ∗ argP m c main_arg3)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg2) = m ((c : Thread nD τ).loc main_arg2)
  ∧ s.mem ((c : Thread nD τ).loc main_arg1) = m ((c : Thread nD τ).loc main_arg1)
  ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- At the compiled mesh, for any float values, from any memory with zero counters: every weakly fair execution of
    @main on the TensorCores terminates, and every final state has the windows' arrays at the computed contents, the
    other arguments unchanged, every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := outOfΦ m) (Z := keptZ m)
    (hX := fun c => by
      rw [unscopedRest0_eq, V_main_arg1, V_main_arg2, V_main_arg3, w_eq c (XWof m c)]
      unfold intoΦ keptZ
      iintro ⟨⟨H1, H2, H3, -⟩, HS, -, -⟩; imodintro
      isplitl [H2 HS]
      · isplitl [H2]; · iexact H2
        iexact HS
      isplitl [H1]; · iexact H1
      iexact H3)
    (hin := fun c => by
      rw [scopedRest0_eq, show (dats m 0 c).Φ 0 = Φ m c from rfl]
      unfold intoΦ Φ; rw [ownSems0_eq]
      iintro ⟨⟨H0, HC⟩, Hb, Hm⟩
      ihave Hs := (ring_split c) $$ Hb
      isplitl [H0]; · iexact H0
      isplitl [Hs]; · iexact Hs
      isplitl [Hm]
      · iapply (big_in c); iexact Hm
      iexact HC)
    (hout := fun c => by
      rw [scopedRest0_eq, show (dats m 0 c).Φ (Fin.last cfg0.N) = Φ m c from rfl, ownSems0_eq]
      unfold Φ outOfΦ argP; rw [w_eq c (XWof m c)]
      iintro ⟨H0, HS, HM, HC⟩
      isplitl [H0]; · iexact H0
      isplitl [HC]; · iexact HC
      isplitl [HS]
      · iapply (ring_join c); iexact HS
      iapply (big_out c); iexact HM)
    (QY := QY m)
    (hY := fun c s' => by
      unfold outOfΦ keptZ argP QY
      iintro ⟨H2, ⟨H1, H3⟩, HSI⟩
      icombine HSI H2 gives %h2
      icombine HSI H1 gives %h1
      icombine HSI H3 gives %h3
      imodintro
      isplitr
      · ipureintro; exact ⟨Buf.eq_of_forall_mem_univ h2, Buf.eq_of_forall_mem_univ h1, Buf.eq_of_forall_mem_univ h3⟩
      iexact HSI)
    (hQ := fun _ hh hz => ⟨hh, hz⟩)

theorem finalA_arg0 (c : Dev nD) : finalA m c 1 = m ((c : Thread nD τ).loc main_arg0) :=
  ((dats (F := F) m 0 c).arrAt_in 1 rfl _).trans (V_main_arg0 m c)
theorem finalA_arg4 (c : Dev nD) : finalA m c 0 = m ((c : Thread nD τ).loc main_arg4) :=
  ((dats (F := F) m 0 c).arrAt_in 0 rfl _).trans (V_main_arg4 m c)

end Cert.Proof.LmHead
end
-- ==== Proof.LmHeadIdeal.Spec.lean ====
/-
  The logits phase as mathematics over the extended reals: the scaled logits of a row, and the logarithm of the sum of
  their exponentials, taken against their maximum; and a running maximum with a running sum, carried over more terms.
-/
module

public import Idealize.ShloMosaic.PureOps.Ideal
public import Idealize.ShloMosaic.Lib.Pointwise

@[expose] public section

noncomputable section

namespace Cert.Proof.LmHeadIdeal

open Idealize.ShloMosaic
open scoped BigOperators

section
variable (h : (⟨2, ![192, 8192]⟩ : Shape).Idx → EReal) (hs : (⟨1, ![192]⟩ : Shape).Idx → EReal)
  (w : (⟨2, ![8192, 32000]⟩ : Shape).Idx → EReal) (s : (⟨1, ![32000]⟩ : Shape).Idx → EReal) (temp : (⟨1, ![3]⟩ : Shape).Idx → EReal)

/-- Token `j` of row block `b`, column `n`: the product of the codes, times the row's scale, times the column's scale,
    times the row block's inverse temperature. -/
def logit (b : Fin 3) (j : Fin 64) (n : Fin 32000) : EReal :=
  (∑ d : Fin 8192, h (ix2 ⟨64 * b.val + j.val, by omega⟩ d) * w (ix2 d n)) * hs (ix1 ⟨64 * b.val + j.val, by omega⟩) * s (ix1 n) * temp (ix1 b)

/-- The greatest logit of a row. -/
def top (b : Fin 3) (j : Fin 64) : EReal := Finset.univ.sup (logit h hs w s temp b j)

/-- The logarithm of the sum of the exponentials of a row's logits. -/
def lse (b : Fin 3) (j : Fin 64) : EReal :=
  top h hs w s temp b j + Ideal.log (∑ n : Fin 32000, Ideal.exp (logit h hs w s temp b j n - top h hs w s temp b j))

/-- The three blocks' rows, the first 63 of each. -/
def results (y : (⟨2, ![3, 63]⟩ : Shape).Idx) : EReal :=
  lse h hs w s temp ⟨(y 0).val, (y 0).isLt⟩ ⟨(y 1).val, by have h1 : (y 1).val < 63 := (y 1).isLt; omega⟩
end

/-- The word of −∞ reads as the least element; -/
theorem negInf : Ideal.ofBits .f32 0xFF800000#32 = ⊥ := by
  simp [Ideal.ofBits, Ideal.ieee]
/-- the maximum folded from it is the supremum. -/
theorem fold_max {ι : Type*} [Fintype ι] (f : ι → EReal) : Finset.univ.fold max (Ideal.ofBits .f32 0xFF800000#32) f = Finset.univ.sup f := by
  rw [negInf]; rfl

/-! ## Exponentials against a maximum -/

theorem exp_nonneg (x : EReal) : 0 ≤ Ideal.exp x := by
  induction x with
  | bot => exact le_rfl
  | top => exact le_top
  | coe r => exact EReal.coe_nonneg.mpr (Real.exp_pos r).le

/-- Moving an exponential from the maximum `m` to the greater maximum `n`. -/
theorem exp_rescale {x m n : EReal} (hx : x ≤ m) (hm : m ≤ n) : Ideal.exp (x - m) * Ideal.exp (m - n) = Ideal.exp (x - n) := by
  induction n with
  | bot =>
    obtain rfl := le_bot_iff.mp hm
    obtain rfl := le_bot_iff.mp hx
    simp
  | top => simp [sub_eq_add_neg, EReal.add_bot]
  | coe n =>
    induction m with
    | top => exact absurd hm (by simp)
    | bot =>
      obtain rfl := le_bot_iff.mp hx
      simp [sub_eq_add_neg, EReal.bot_add]
    | coe m =>
      induction x with
      | top => exact absurd hx (by simp)
      | bot => simp [sub_eq_add_neg, EReal.bot_add]
      | coe x =>
        rw [← EReal.coe_sub, ← EReal.coe_sub, ← EReal.coe_sub, Ideal.exp_coe, Ideal.exp_coe, Ideal.exp_coe, ← EReal.coe_mul, ← Real.exp_add]
        congr 2; ring

/-- A sum of nonnegative terms times a factor, term by term. -/
theorem sum_mul_nonneg {ι : Type*} (S : Finset ι) (f : ι → EReal) (hf : ∀ i ∈ S, 0 ≤ f i) (c : EReal) : (∑ i ∈ S, f i) * c = ∑ i ∈ S, f i * c := by
  classical
  induction S using Finset.induction_on with
  | empty => simp
  | insert a S ha ih =>
    rw [Finset.sum_insert ha, Finset.sum_insert ha,
      EReal.right_distrib_of_nonneg (hf a (Finset.mem_insert_self a S)) (Finset.sum_nonneg fun i hi => hf i (Finset.mem_insert_of_mem hi)),
      ih fun i hi => hf i (Finset.mem_insert_of_mem hi)]

/-- The sum of exponentials against the maximum, moved to a greater maximum. -/
theorem sum_rescale {ι : Type*} (S : Finset ι) (x : ι → EReal) {m n : EReal} (hm : S.sup x ≤ m) (hn : m ≤ n) :
    (∑ i ∈ S, Ideal.exp (x i - m)) * Ideal.exp (m - n) = ∑ i ∈ S, Ideal.exp (x i - n) := by
  rw [sum_mul_nonneg S _ (fun i _ => exp_nonneg _)]
  exact Finset.sum_congr rfl fun i hi => exp_rescale ((Finset.le_sup hi).trans hm) hn

/-! ## A running maximum and a running sum -/

/-- The maximum of the first `n` terms, and the sum of their exponentials against it. -/
def runMax (x : ℕ → EReal) (n : ℕ) : EReal := (Finset.range n).sup x
def runSum (x : ℕ → EReal) (n : ℕ) : EReal := ∑ q ∈ Finset.range n, Ideal.exp (x q - runMax x n)

theorem runMax_zero (x : ℕ → EReal) : runMax x 0 = ⊥ := rfl
theorem runSum_zero (x : ℕ → EReal) : runSum x 0 = 0 := rfl
theorem runMax_succ (x : ℕ → EReal) (n : ℕ) : runMax x (n + 1) = max (runMax x n) (x n) := by
  rw [runMax, Finset.range_add_one, Finset.sup_insert, max_comm]; rfl
/-- The running sum carried over further terms: moved to the new maximum, the new terms' exponentials added. -/
theorem runSum_add (x : ℕ → EReal) (n k : ℕ) :
    runSum x (n + k) = runSum x n * Ideal.exp (runMax x n - runMax x (n + k)) + ∑ r ∈ Finset.range k, Ideal.exp (x (n + r) - runMax x (n + k)) := by
  have hle : runMax x n ≤ runMax x (n + k) := Finset.sup_mono (Finset.range_mono (Nat.le_add_right n k))
  rw [runSum, runSum, Finset.sum_range_add]
  exact congrArg (· + _) (sum_rescale (Finset.range n) x (m := runMax x n) le_rfl hle).symm

/-- A row of 32000 terms in 128 lanes of 250: the maximum and the sum of the exponentials over the lanes' own. -/
def lane (x : Fin 32000 → EReal) (l : Fin 128) (q : ℕ) : EReal := if h : 128 * q + l.val < 32000 then x ⟨128 * q + l.val, h⟩ else ⊥
theorem sup_lanes (x : Fin 32000 → EReal) : (Finset.univ.sup fun l : Fin 128 => runMax (lane x l) 250) = Finset.univ.sup x := by
  apply le_antisymm
  · refine Finset.sup_le fun l _ => Finset.sup_le fun q hq => ?_
    have := Finset.mem_range.mp hq
    rw [lane, dif_pos (by omega)]
    exact Finset.le_sup (Finset.mem_univ _)
  · refine Finset.sup_le fun n _ => ?_
    have e : lane x ⟨n.val % 128, by omega⟩ (n.val / 128) = x n := by
      rw [lane, dif_pos (by show 128 * (n.val / 128) + n.val % 128 < 32000; omega)]
      exact congrArg x (Fin.ext (by show 128 * (n.val / 128) + n.val % 128 = n.val; omega))
    rw [← e]
    exact (Finset.le_sup (f := lane x ⟨n.val % 128, by omega⟩) (Finset.mem_range.mpr (by omega : n.val / 128 < 250))).trans
      (Finset.le_sup (f := fun l : Fin 128 => runMax (lane x l) 250) (Finset.mem_univ _))
theorem sum_lanes (x : Fin 32000 → EReal) (g : EReal → EReal) :
    ∑ l : Fin 128, ∑ q ∈ Finset.range 250, g (lane x l q) = ∑ n : Fin 32000, g (x n) := by
  rw [← Equiv.sum_comp (finProdFinEquiv : Fin 250 × Fin 128 ≃ Fin 32000) fun n => g (x n), Fintype.sum_prod_type_right]
  refine Finset.sum_congr rfl fun l _ => ?_
  rw [← Fin.sum_univ_eq_sum_range (fun q => g (lane x l q)) 250]
  refine Finset.sum_congr rfl fun q _ => congrArg g ?_
  rw [lane, dif_pos (by omega)]
  exact congrArg x (Fin.ext (by show 128 * q.val + l.val = l.val + 128 * q.val; omega))
/-- The lanes' sums, moved to the row's maximum, add up to the row's sum. -/
theorem lanes_combine (x : Fin 32000 → EReal) :
    ∑ l : Fin 128, runSum (lane x l) 250 * Ideal.exp (runMax (lane x l) 250 - Finset.univ.sup x) = ∑ n : Fin 32000, Ideal.exp (x n - Finset.univ.sup x) := by
  rw [← sum_lanes x fun y => Ideal.exp (y - Finset.univ.sup x)]
  refine Finset.sum_congr rfl fun l _ => ?_
  refine sum_rescale _ _ le_rfl ?_
  rw [← sup_lanes x]
  exact Finset.le_sup (f := fun l : Fin 128 => runMax (lane x l) 250) (Finset.mem_univ l)

end Cert.Proof.LmHeadIdeal

end
-- ==== Proof.LmHeadIdeal.Names.lean ====
/-
  The names of the logits phase. The kernel streams the head weight (8192 rows, 32000 columns) as 62 column blocks of
  512 columns and one last block of 256 through a ring of six slots: block `t` goes to slot `(t + 2) mod 6`, each slot
  with a DMA semaphore of its own, the last block into the left half of its slot's columns. Here: the column blocks,
  the slots and the semaphores under one name each, the offsets the kernel computes for them in closed form, and the
  pieces the proof moves about: a column block held, a slot held, a slot with a transfer under way.
-/
module

public import proofs.«01_k».proof.Defs
public import proofs.«01_k».proof.Proof.Gen.LogitsIdeal.Launch
public import proofs.«01_k».proof.Proof.Gen.LogitsIdeal.Skeleton
public import proofs.«01_k».proof.Proof.Gen.LogitsIdeal.Loops
public import proofs.«01_k».proof.Proof.Gen.LogitsIdeal.Points
public import proofs.«01_k».proof.Proof.Gen.LogitsIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.LmHeadIdeal

open Cert.LogitsIdeal Cert.LogitsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Column blocks, slots, semaphores -/

abbrev wM : Memref sig .tc .hbm S8192x32000 .fp8e4m3 := Memref.whole main_arg2
abbrev ringM : Memref sig .tc .vmem S6x8192x512 .fp8e4m3 := Memref.whole cc0_scratch0
abbrev bigM : Memref sig .tc .vmem S33024x128 .f32 := Memref.whole cc0_scratch1

abbrev grpOff (b : Fin 62) : Fin 2 → Nat := ![0, 512 * b.val]
theorem grpOff_inb (b : Fin 62) : ∀ a, grpOff b a + S8192x512.size a ≤ S8192x32000.size a := by
  have := b.isLt; intro a; fin_cases a
  · show 0 + 8192 ≤ 8192; omega
  · show 512 * b.val + 512 ≤ 32000; omega
abbrev tailOff : Fin 2 → Nat := ![0, 31744]
theorem tailOff_inb : ∀ a, tailOff a + S8192x256.size a ≤ S8192x32000.size a := by decide
abbrev slotOff (s : Fin 6) : Fin 3 → Nat := ![s.val, 0, 0]
theorem slotOff_inb (s : Fin 6) : ∀ a, slotOff s a + S1x8192x512.size a ≤ S6x8192x512.size a := by
  have := s.isLt; intro a; fin_cases a
  · show s.val + 1 ≤ 6; omega
  · show 0 + 8192 ≤ 8192; omega
  · show 0 + 512 ≤ 512; omega
theorem slotOff_inbT (s : Fin 6) : ∀ a, slotOff s a + S1x8192x256.size a ≤ S6x8192x512.size a := by
  have := s.isLt; intro a; fin_cases a
  · show s.val + 1 ≤ 6; omega
  · show 0 + 8192 ≤ 8192; omega
  · show 0 + 256 ≤ 512; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Column block `b` of the weight, 512 columns. -/
def grp (b : Fin 62) : Memref sig .tc .hbm S8192x512 .fp8e4m3 :=
  wM.slice (Rect.unit (s := S8192x32000) (grpOff b) S8192x512.size (grpOff_inb b)) (fun _ => rfl)
/-- The last column block of the weight, 256 columns. -/
def grpT : Memref sig .tc .hbm S8192x256 .fp8e4m3 :=
  wM.slice (Rect.unit (s := S8192x32000) tailOff S8192x256.size tailOff_inb) (fun _ => rfl)
/-- Slot `s` of the ring. -/
def rslot (s : Fin 6) : Memref sig .tc .vmem S8192x512 .fp8e4m3 :=
  (ringM.slice (Rect.unit (s := S6x8192x512) (slotOff s) S1x8192x512.size (slotOff_inb s)) (fun _ => rfl)).squeeze S8192x512 squeezes_S1x8192x512_S8192x512
/-- The left half of slot `s` of the ring. -/
def rslotT (s : Fin 6) : Memref sig .tc .vmem S8192x256 .fp8e4m3 :=
  (ringM.slice (Rect.unit (s := S6x8192x512) (slotOff s) S1x8192x256.size (slotOff_inbT s)) (fun _ => rfl)).squeeze S8192x256 squeezes_S1x8192x256_S8192x256
/-- Slot `s`'s DMA semaphore. -/
def csm (s : Fin 6) : DmaSems sig S_ := (cc0_scratch2.slice (Rect.unit (s := S6) (semOff s) S1.size (semOff_inb s))).squeeze S_ squeezes_S1_S_

instance (s : Fin 6) : ClosedOff (slotOff s) := ⟨slotOff s, rfl⟩
instance (b : Fin 62) : ClosedOff (grpOff b) := ⟨grpOff b, rfl⟩

/-- Block `t`'s slot. -/
abbrev sA (t : ℕ) : Fin 6 := Ring.sl 6 (t + 2)
/-- Block `t` of 512 columns. -/
abbrev gA (t : ℕ) : Fin 62 := Ring.bk 62 t

/-! ## The computed offsets in closed form -/

theorem off2_sA (k : Fin k0_t1_loop.trips) : k0_off2 k = semOff (sA (k.val + 5)) := by
  rw [k0_off2_eq, semOff]; simp only [sA, Ring.sl, Fin.ofNat]; congr 1; omega
theorem off3_sA (k : Fin k0_t1_loop.trips) : k0_off3 k = slotOff (sA (k.val + 5)) := by
  rw [k0_off3_eq, slotOff]; simp only [sA, Ring.sl, Fin.ofNat]; congr 1; omega
theorem off5_sA (k : Fin k0_t1_loop.trips) : k0_off5 k = semOff (sA (k.val + 5)) := by
  rw [k0_off5_eq, semOff]; simp only [sA, Ring.sl, Fin.ofNat]; congr 1; omega
theorem off6_sA (k : Fin k0_t1_loop.trips) : k0_off6 k = slotOff (sA (k.val + 5)) := by
  rw [k0_off6_eq, slotOff]; simp only [sA, Ring.sl, Fin.ofNat]; congr 1; omega
theorem off8_sA (k : Fin k0_t1_loop.trips) : k0_off8 k = semOff (sA k.val) := by
  rw [k0_off8_eq, semOff]; simp only [sA, Ring.sl, Fin.ofNat]; congr 1; omega
theorem off9_sA (k : Fin k0_t1_loop.trips) : k0_off9 k = slotOff (sA k.val) := by
  rw [k0_off9_eq, slotOff]; simp only [sA, Ring.sl, Fin.ofNat]; congr 1; omega
theorem off11_sA (k : Fin k0_t1_loop.trips) : k0_off11 k = slotOff (sA k.val) := by
  rw [k0_off11_eq, slotOff]; simp only [sA, Ring.sl, Fin.ofNat]; congr 1; omega

theorem off4_gA : ∀ k : Fin k0_t1_loop.trips, k.val ≤ 56 → k0_off4 k = grpOff (gA (k.val + 5)) := by decide +kernel
theorem off7_tail : ∀ k : Fin k0_t1_loop.trips, k.val = 57 → k0_off7 k = tailOff := by decide +kernel
theorem off10_gA : ∀ k : Fin k0_t1_loop.trips, k0_off10 k = grpOff (gA k.val) := by decide +kernel
theorem off13_tail : k0_off13 = tailOff := by decide +kernel

theorem trips_eq : k0_t1_loop.trips = 62 := by decide +kernel
theorem cond1_zero : ∀ k : Fin k0_t1_loop.trips, k.val = 0 → ¬ k0_cond1 k = 1#1 := by decide +kernel
theorem cond1_pos : ∀ k : Fin k0_t1_loop.trips, k.val ≠ 0 → k0_cond1 k = 1#1 := by decide +kernel
theorem cond2_low : ∀ k : Fin k0_t1_loop.trips, k.val ≤ 56 → k0_cond2 k = 1#1 := by decide +kernel
theorem cond2_high : ∀ k : Fin k0_t1_loop.trips, 56 < k.val → ¬ k0_cond2 k = 1#1 := by decide +kernel
theorem cond3_yes : ∀ k : Fin k0_t1_loop.trips, k.val = 57 → k0_cond3 k = 1#1 := by decide +kernel
theorem cond3_no : ∀ k : Fin k0_t1_loop.trips, k.val ≠ 57 → ¬ k0_cond3 k = 1#1 := by decide +kernel

/-- The loop's window of the ring, at trip `k`. -/
instance (priority := high) closed11 (k : Fin k0_t1_loop.trips) : ClosedOff (k0_off11 k) := ⟨slotOff (sA k.val), off11_sA k⟩

/-! ## The kernel's slices are these names -/

theorem csm_congr {off : Fin 1 → Nat} {s : Fin 6} (e : off = semOff s) (hh) :
    (cc0_scratch2.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (ringM.slice (Rect.unit (s := S6x8192x512) off S1x8192x512.size hh) hs).squeeze S8192x512 squeezes_S1x8192x512_S8192x512 = rslot s :=
  congrArg (fun M : Memref sig .tc .vmem S1x8192x512 .fp8e4m3 => M.squeeze S8192x512 squeezes_S1x8192x512_S8192x512) (Memref.slice_unit_congr _ e _ _ _ _)
theorem rslotT_congr {off : Fin 3 → Nat} {s : Fin 6} (e : off = slotOff s) (hh hs) :
    (ringM.slice (Rect.unit (s := S6x8192x512) off S1x8192x256.size hh) hs).squeeze S8192x256 squeezes_S1x8192x256_S8192x256 = rslotT s :=
  congrArg (fun M : Memref sig .tc .vmem S1x8192x256 .fp8e4m3 => M.squeeze S8192x256 squeezes_S1x8192x256_S8192x256) (Memref.slice_unit_congr _ e _ _ _ _)
theorem grp_congr {off : Fin 2 → Nat} {b : Fin 62} (e : off = grpOff b) (hh hs) :
    wM.slice (Rect.unit (s := S8192x32000) off S8192x512.size hh) hs = grp b :=
  Memref.slice_unit_congr _ e _ _ _ (fun _ => rfl)
theorem grpT_congr {off : Fin 2 → Nat} (e : off = tailOff) (hh hs) :
    wM.slice (Rect.unit (s := S8192x32000) off S8192x256.size hh) hs = grpT :=
  Memref.slice_unit_congr _ e _ _ _ (fun _ => rfl)

section Canon
variable (k : Fin k0_t1_loop.trips)

@[sl_canon] theorem semL0 (hh) : (cc0_scratch2.slice (Rect.unit (s := S6) ![0] S1.size hh)).squeeze S_ squeezes_S1_S_ = csm 0 := csm_congr (by decide) _
@[sl_canon] theorem semL1 (hh) : (cc0_scratch2.slice (Rect.unit (s := S6) ![1] S1.size hh)).squeeze S_ squeezes_S1_S_ = csm 1 := csm_congr (by decide) _
@[sl_canon] theorem semL2 (hh) : (cc0_scratch2.slice (Rect.unit (s := S6) ![2] S1.size hh)).squeeze S_ squeezes_S1_S_ = csm 2 := csm_congr (by decide) _
@[sl_canon] theorem semL3 (hh) : (cc0_scratch2.slice (Rect.unit (s := S6) ![3] S1.size hh)).squeeze S_ squeezes_S1_S_ = csm 3 := csm_congr (by decide) _
@[sl_canon] theorem semL4 (hh) : (cc0_scratch2.slice (Rect.unit (s := S6) ![4] S1.size hh)).squeeze S_ squeezes_S1_S_ = csm 4 := csm_congr (by decide) _
@[sl_canon] theorem semL5 (hh) : (cc0_scratch2.slice (Rect.unit (s := S6) ![5] S1.size hh)).squeeze S_ squeezes_S1_S_ = csm 5 := csm_congr (by decide) _
@[sl_canon] theorem slotL0 (hh hs) : (ringM.slice (Rect.unit (s := S6x8192x512) ![0, 0, 0] S1x8192x512.size hh) hs).squeeze S8192x512 squeezes_S1x8192x512_S8192x512 = rslot 0 := rslot_congr (by decide) _ _
@[sl_canon] theorem slotL1 (hh hs) : (ringM.slice (Rect.unit (s := S6x8192x512) ![1, 0, 0] S1x8192x512.size hh) hs).squeeze S8192x512 squeezes_S1x8192x512_S8192x512 = rslot 1 := rslot_congr (by decide) _ _
@[sl_canon] theorem slotL2 (hh hs) : (ringM.slice (Rect.unit (s := S6x8192x512) ![2, 0, 0] S1x8192x512.size hh) hs).squeeze S8192x512 squeezes_S1x8192x512_S8192x512 = rslot 2 := rslot_congr (by decide) _ _
@[sl_canon] theorem slotL3 (hh hs) : (ringM.slice (Rect.unit (s := S6x8192x512) ![3, 0, 0] S1x8192x512.size hh) hs).squeeze S8192x512 squeezes_S1x8192x512_S8192x512 = rslot 3 := rslot_congr (by decide) _ _
@[sl_canon] theorem slotL4 (hh hs) : (ringM.slice (Rect.unit (s := S6x8192x512) ![4, 0, 0] S1x8192x512.size hh) hs).squeeze S8192x512 squeezes_S1x8192x512_S8192x512 = rslot 4 := rslot_congr (by decide) _ _
@[sl_canon] theorem slotL5 (hh hs) : (ringM.slice (Rect.unit (s := S6x8192x512) ![5, 0, 0] S1x8192x512.size hh) hs).squeeze S8192x512 squeezes_S1x8192x512_S8192x512 = rslot 5 := rslot_congr (by decide) _ _
@[sl_canon] theorem slotTL4 (hh hs) : (ringM.slice (Rect.unit (s := S6x8192x512) ![4, 0, 0] S1x8192x256.size hh) hs).squeeze S8192x256 squeezes_S1x8192x256_S8192x256 = rslotT 4 := rslotT_congr (by decide) _ _
@[sl_canon] theorem grpL0 (hh hs) : wM.slice (Rect.unit (s := S8192x32000) (k0_off1 0#32) S8192x512.size hh) hs = grp 0 := grp_congr (by decide +kernel) _ _
@[sl_canon] theorem grpL1 (hh hs) : wM.slice (Rect.unit (s := S8192x32000) (k0_off1 1#32) S8192x512.size hh) hs = grp 1 := grp_congr (by decide +kernel) _ _
@[sl_canon] theorem grpL2 (hh hs) : wM.slice (Rect.unit (s := S8192x32000) (k0_off1 2#32) S8192x512.size hh) hs = grp 2 := grp_congr (by decide +kernel) _ _
@[sl_canon] theorem grpL3 (hh hs) : wM.slice (Rect.unit (s := S8192x32000) (k0_off1 3#32) S8192x512.size hh) hs = grp 3 := grp_congr (by decide +kernel) _ _
@[sl_canon] theorem grpL4 (hh hs) : wM.slice (Rect.unit (s := S8192x32000) (k0_off1 4#32) S8192x512.size hh) hs = grp 4 := grp_congr (by decide +kernel) _ _
@[sl_canon] theorem grpL5 (hh hs) : wM.slice (Rect.unit (s := S8192x32000) (k0_off1 5#32) S8192x512.size hh) hs = grp 5 := grp_congr (by decide +kernel) _ _
@[sl_canon] theorem grpTL (hh hs) : wM.slice (Rect.unit (s := S8192x32000) k0_off13 S8192x256.size hh) hs = grpT := grpT_congr off13_tail _ _

@[sl_canon] theorem semI (hh) : (cc0_scratch2.slice (Rect.unit (s := S6) (k0_off2 k) S1.size hh)).squeeze S_ squeezes_S1_S_ = csm (sA (k.val + 5)) := csm_congr (off2_sA k) _
@[sl_canon] theorem slotI (hh hs) : (ringM.slice (Rect.unit (s := S6x8192x512) (k0_off3 k) S1x8192x512.size hh) hs).squeeze S8192x512 squeezes_S1x8192x512_S8192x512 = rslot (sA (k.val + 5)) := rslot_congr (off3_sA k) _ _
@[sl_canon] theorem grpI (hk : k.val ≤ 56) (hh hs) : wM.slice (Rect.unit (s := S8192x32000) (k0_off4 k) S8192x512.size hh) hs = grp (gA (k.val + 5)) := grp_congr (off4_gA k hk) _ _
@[sl_canon] theorem semT (hh) : (cc0_scratch2.slice (Rect.unit (s := S6) (k0_off5 k) S1.size hh)).squeeze S_ squeezes_S1_S_ = csm (sA (k.val + 5)) := csm_congr (off5_sA k) _
@[sl_canon] theorem slotT (hh hs) : (ringM.slice (Rect.unit (s := S6x8192x512) (k0_off6 k) S1x8192x256.size hh) hs).squeeze S8192x256 squeezes_S1x8192x256_S8192x256 = rslotT (sA (k.val + 5)) := rslotT_congr (off6_sA k) _ _
@[sl_canon] theorem grpIT (hk : k.val = 57) (hh hs) : wM.slice (Rect.unit (s := S8192x32000) (k0_off7 k) S8192x256.size hh) hs = grpT := grpT_congr (off7_tail k hk) _ _
@[sl_canon] theorem semW (hh) : (cc0_scratch2.slice (Rect.unit (s := S6) (k0_off8 k) S1.size hh)).squeeze S_ squeezes_S1_S_ = csm (sA k.val) := csm_congr (off8_sA k) _
@[sl_canon] theorem slotW (hh hs) : (ringM.slice (Rect.unit (s := S6x8192x512) (k0_off9 k) S1x8192x512.size hh) hs).squeeze S8192x512 squeezes_S1x8192x512_S8192x512 = rslot (sA k.val) := rslot_congr (off9_sA k) _ _
@[sl_canon] theorem grpW (hh hs) : wM.slice (Rect.unit (s := S8192x32000) (k0_off10 k) S8192x512.size hh) hs = grp (gA k.val) := grp_congr (off10_gA k) _ _

end Canon

/-! ## The pieces -/

section Pieces
variable (c : Dev nD) (XW : Buf (Elt F) (wM.view.loc (c : Thread nD τ)))

/-- Slot `s`'s semaphore at zero. -/
abbrev cellP (s : Fin 6) : sProp 𝕄 := semVal ((c : Thread nD τ), SemLoc.dma (csm s).sem) 0
/-- Slot `s` held at contents `f`. -/
abbrev slotP (s : Fin 6) (f : Buf (Elt F) ((rslot s).view.loc (c : Thread nD τ))) : sProp 𝕄 :=
  (rslot s).view.loc (c : Thread nD τ) ↦[(rslot s).view.set]{fullShare} f
/-- The left half of slot `s` held at contents `f`. -/
abbrev slotTP (s : Fin 6) (f : Buf (Elt F) ((rslotT s).view.loc (c : Thread nD τ))) : sProp 𝕄 :=
  (rslotT s).view.loc (c : Thread nD τ) ↦[(rslotT s).view.set]{fullShare} f
/-- The right half of slot `s` held at contents `f`. -/
abbrev restP (s : Fin 6) (f : Buf (Elt F) ((rslot s).view.loc (c : Thread nD τ))) : sProp 𝕄 :=
  (rslot s).view.loc (c : Thread nD τ) ↦[(rslot s).view.set \ (rslotT s).view.set]{fullShare} f
/-- Column block `b` held, at the weight's contents. -/
abbrev homeP (b : Fin 62) : sProp 𝕄 := (grp b).view.loc (c : Thread nD τ) ↦[(grp b).view.set]{fullShare} XW
/-- The last column block held, at the weight's contents. -/
abbrev homeTP : sProp 𝕄 := grpT.view.loc (c : Thread nD τ) ↦[grpT.view.set]{fullShare} XW
/-- What column block `b`'s transfer leaves in slot `s`. -/
abbrev landed (s : Fin 6) (b : Fin 62) (f : Buf (Elt F) ((rslot s).view.loc (c : Thread nD τ))) : Buf (Elt F) ((rslot s).view.loc (c : Thread nD τ)) :=
  (rslot s).view.writes (Elt F) f [⟨Rect.whole S8192x512, ReadAs.same.apply ((grp b).view.read (Elt F) XW)⟩]
/-- What the last column block's transfer leaves in the left half of slot `s`. -/
abbrev landedT (s : Fin 6) (f : Buf (Elt F) ((rslotT s).view.loc (c : Thread nD τ))) : Buf (Elt F) ((rslotT s).view.loc (c : Thread nD τ)) :=
  (rslotT s).view.writes (Elt F) f [⟨Rect.whole S8192x256, ReadAs.same.apply (grpT.view.read (Elt F) XW)⟩]
/-- Slot `s` with column block `b`'s transfer under way, issued over contents `f`. -/
abbrev flightP (s : Fin 6) (b : Fin 62) (f : Buf (Elt F) ((rslot s).view.loc (c : Thread nD τ))) : sProp 𝕄 :=
  Transfers.Flight countersEmb (c : Thread nD τ) (SemLoc.dma (csm s).sem) () 131072 iprop(slotP c s (landed c XW s b f) ∗ homeP c XW b)
/-- The left half of slot `s` with the last column block's transfer under way, issued over contents `f`. -/
abbrev flightTP (s : Fin 6) (f : Buf (Elt F) ((rslotT s).view.loc (c : Thread nD τ))) : sProp 𝕄 :=
  Transfers.Flight countersEmb (c : Thread nD τ) (SemLoc.dma (csm s).sem) () 65536 iprop(slotTP c s (landedT c XW s f) ∗ homeTP c XW)

/-- Block `t`'s slot held at anything, its semaphore at zero. -/
abbrev freeP (t : ℕ) : sProp 𝕄 := iprop((∃ f, slotP (F := F) c (sA t) f) ∗ cellP (F := F) c (sA t))

end Pieces

end Cert.Proof.LmHeadIdeal

end
-- ==== Proof.LmHeadIdeal.Trip.lean ====
module

public import proofs.«01_k».proof.Proof.LmHeadIdeal.Names

@[expose] public section

noncomputable section

namespace Cert.Proof.LmHeadIdeal

open Cert.LogitsIdeal Cert.LogitsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (XW : Buf (Elt F) (wM.view.loc (c : Thread nD τ)))
  (arg0 : Memref sig .tc .smem S3 .f32) (harg0 : arg0.IsWhole)
  (arg1 : Memref sig .tc .vmem S192x8192 .fp8e4m3) (harg1 : arg1.IsWhole)
  (arg2 : Memref sig .tc .vmem S192x128 .f32) (harg2 : arg2.IsWhole)
  (arg3 : Memref sig .tc .vmem S250x128 .f32) (harg3 : arg3.IsWhole)
  (arg5 : Memref sig .tc .vmem S3x63 .f32) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- The four staged inputs, held at their contents. -/
abbrev insP : sProp 𝕄 :=
  iprop((arg0.view.loc (c : Thread nD τ) ↦[arg0.view.set]{fullShare} x0)
    ∗ (arg1.view.loc (c : Thread nD τ) ↦[arg1.view.set]{fullShare} x1)
    ∗ (arg2.view.loc (c : Thread nD τ) ↦[arg2.view.set]{fullShare} x2)
    ∗ (arg3.view.loc (c : Thread nD τ) ↦[arg3.view.set]{fullShare} x3))
/-- The scratch of tiles, maxima and sums held at `fo`. -/
abbrev bigP (fo : Buf (Elt F) (bigM.view.loc (c : Thread nD τ))) : sProp 𝕄 := bigM.view.loc (c : Thread nD τ) ↦[bigM.view.set]{fullShare} fo
abbrev owesP : sProp 𝕄 := iprop(∃ W, owes (c : Thread nD τ) 0 W)

abbrev tripG (k : Fin k0_t1_loop.trips) : Prog (TpuEff nD τ sig (Elt F) Λ₀ .tc) Unit :=
  k0_t1_body (F := F) arg0 harg0 arg1 harg1 arg2 harg2 arg3 harg3 wM (Memref.isWhole_whole _) arg5 harg5 ringM (Memref.isWhole_whole _) bigM (Memref.isWhole_whole _) cc0_scratch2 k ()

abbrev wpT (k : Fin k0_t1_loop.trips) (Q : Unit → sProp 𝕄) : sProp 𝕄 :=
  wp frame (wpE (defs₀ (F := F)) 𝒱₀ (c : Thread nD τ) none) Set.univ (tripG arg0 harg0 arg1 harg1 arg2 harg2 arg3 harg3 arg5 harg5 k) Q

/-! ## What a trip stores -/

/-- Column block `k` of the weight as the matrix product reads it from its slot. -/
abbrev wV (k : Fin k0_t1_loop.trips) : Vec F S1x8192x512 .fp8e4m3 :=
  ringM.view.readAt (Elt F) (Rect.unit (s := S6x8192x512) (k0_off11 k) S1x8192x512.size (k0_off11_inb k)).toLoadRect
    (landed c XW (sA k.val) (gA k.val) (rslot (sA k.val)).view.junk)
/-- The left operand as loaded. -/
abbrev hV : Vec F S192x8192 .fp8e4m3 := arg1.view.readAt (Elt F) (Rect.unit ![0, 0] S192x8192.size inb_S192x8192_S192x8192_0_0).toLoadRect x1

theorem slc (r : Fin 4) (b : Fin 3) : S192x512.Slices ![64 * b.val, 128 * r.val] S64x128 := by
  revert r b; decide
theorem rs_inb (b : Fin 3) : ∀ a, (![64 * b.val, 0] : Fin 2 → Nat) a + S64x128.size a ≤ S192x128.size a := by
  revert b; decide
theorem temp_inb (b : Fin 3) : ∀ a, (![b.val] : Fin 1 → Nat) a + S1.size a ≤ S3.size a := by
  revert b; decide
theorem m_inb (b : Fin 3) : ∀ a, (![768 + 64 * b.val, 0] : Fin 2 → Nat) a + S64x128.size a ≤ S33024x128.size a := by
  revert b; decide
theorem l_inb (b : Fin 3) : ∀ a, (![960 + 64 * b.val, 0] : Fin 2 → Nat) a + S64x128.size a ≤ S33024x128.size a := by
  revert b; decide
theorem t_inb (r : Fin 4) (b : Fin 3) : ∀ a, (![192 * r.val + 64 * b.val, 0] : Fin 2 → Nat) a + S64x128.size a ≤ S33024x128.size a := by
  revert r b; decide

/-- The row scales of row block `b`. -/
abbrev rsV (b : Fin 3) : Vec F S64x128 .f32 :=
  arg2.view.readAt (Elt F) (Rect.unit (s := S192x128) ![64 * b.val, 0] S64x128.size (rs_inb b)).toLoadRect x2
/-- The inverse temperature of row block `b`. -/
abbrev tempV (b : Fin 3) : Elt F .f32 :=
  arg0.view.readAt (Elt F) (Rect.unit (s := S3) ![b.val] S1.size (temp_inb b)).toLoadRect x0 (Shape.Idx.first (by show 0 < S1.numel; decide))

/-- A 64 by 128 piece of the product, scaled by its rows' scales, its columns' scales and the inverse temperature. -/
def scaled (g : FVec F S64x128 .f32) (rs : Vec F S64x128 .f32) (sc : Vec F S1x128 .f32) (t : Elt F .f32) : FVec F S64x128 .f32 :=
  have rs' : FVec F S64x128 .f32 := shapeCast S64x128 rs shapeCasts_S64x128_S64x128
  have sc' : FVec F S1x128 .f32 := shapeCast S1x128 sc shapeCasts_S1x128_S1x128
  have sb : FVec F S64x128 .f32 := broadcastTo S64x128 sc' broadcasts_S1x128_S64x128
  have tb : FVec F S64x128 .f32 := broadcast S64x128 t
  mulf (mulf (mulf g rs') sb) tb

/-- Trip `k`'s scaled logits of 128-lane group `r` and row block `b`. -/
def tileAt (k : Fin k0_t1_loop.trips) (r : Fin 4) (b : Fin 3) : FVec F S64x128 .f32 :=
  scaled (extractStridedSlice S64x128 ![64 * b.val, 128 * r.val] (k0_pay2 (hV c arg1 x1) (wV c XW k)) (slc r b)) (rsV c arg2 x2 b)
    (arg3.view.readAt (Elt F) (Rect.unit (s := S250x128) (k0_off12 k (BitVec.ofNat 32 r.val)) S1x128.size (k0_off12_inb k r)).toLoadRect x3)
    (tempV c arg0 x0 b)

/-- The running maximum `m` carried over four tiles. -/
def maxOf (t : Fin 4 → FVec F S64x128 .f32) (m : FVec F S64x128 .f32) : FVec F S64x128 .f32 :=
  maximumf (maximumf (maximumf (maximumf m (t 0)) (t 1)) (t 2)) (t 3)
/-- The running sum `l` of exponentials, taken from the maximum `m` to the maximum `n` and carried over four tiles. -/
def sumOf (t : Fin 4 → FVec F S64x128 .f32) (m l n : FVec F S64x128 .f32) : FVec F S64x128 .f32 :=
  addf (addf (addf (addf (mulf l (exp (subf m n))) (exp (subf (t 0) n))) (exp (subf (t 1) n))) (exp (subf (t 2) n))) (exp (subf (t 3) n))

/-- A value as it is stored. -/
abbrev st (v : FVec F S64x128 .f32) : FVec F S64x128 .f32 := shapeCast S64x128 v shapeCasts_S64x128_S64x128

/-- Row block `b`'s running maxima as read from the scratch. -/
abbrev mV (b : Fin 3) (fo : Buf (Elt F) (bigM.view.loc (c : Thread nD τ))) : FVec F S64x128 .f32 :=
  bigM.view.readAt (Elt F) (Rect.unit (s := S33024x128) ![768 + 64 * b.val, 0] S64x128.size (m_inb b)).toLoadRect fo
/-- Row block `b`'s running sums as read from the scratch. -/
abbrev lV (b : Fin 3) (fo : Buf (Elt F) (bigM.view.loc (c : Thread nD τ))) : FVec F S64x128 .f32 :=
  bigM.view.readAt (Elt F) (Rect.unit (s := S33024x128) ![960 + 64 * b.val, 0] S64x128.size (l_inb b)).toLoadRect fo

/-- Values stored at the place of tile `r`, of the maxima, and of the sums, of row block `b`. -/
abbrev pieceT (r : Fin 4) (b : Fin 3) (v : FVec F S64x128 .f32) : View.Piece (Elt F) S33024x128 .f32 :=
  ⟨Rect.unit (s := S33024x128) ![192 * r.val + 64 * b.val, 0] S64x128.size (t_inb r b), st v⟩
abbrev pieceM (b : Fin 3) (v : FVec F S64x128 .f32) : View.Piece (Elt F) S33024x128 .f32 :=
  ⟨Rect.unit (s := S33024x128) ![768 + 64 * b.val, 0] S64x128.size (m_inb b), st v⟩
abbrev pieceL (b : Fin 3) (v : FVec F S64x128 .f32) : View.Piece (Elt F) S33024x128 .f32 :=
  ⟨Rect.unit (s := S33024x128) ![960 + 64 * b.val, 0] S64x128.size (l_inb b), st v⟩

/-- What row block `b` stores, the latest first: its sums, its maxima, its four tiles. -/
abbrev blockPieces (t : Fin 4 → FVec F S64x128 .f32) (m l : FVec F S64x128 .f32) (b : Fin 3) : List (View.Piece (Elt F) S33024x128 .f32) :=
  [pieceL b (sumOf t m l (maxOf t m)), pieceM b (maxOf t m), pieceT 3 b (t 3), pieceT 2 b (t 2), pieceT 1 b (t 1), pieceT 0 b (t 0)]

/-- What trip `k` stores, the latest first. -/
abbrev pieces (k : Fin k0_t1_loop.trips) (fo : Buf (Elt F) (bigM.view.loc (c : Thread nD τ))) : List (View.Piece (Elt F) S33024x128 .f32) :=
  let t := fun (b : Fin 3) (r : Fin 4) => tileAt c XW arg0 arg1 arg2 arg3 x0 x1 x2 x3 k r b
  blockPieces (t 2) (mV c 2 fo) (lV c 2 fo) 2 ++ blockPieces (t 1) (mV c 1 fo) (lV c 1 fo) 1 ++ blockPieces (t 0) (mV c 0 fo) (lV c 0 fo) 0

/-- The scratch after trip `k`, from the scratch before it. -/
def nextO (k : Fin k0_t1_loop.trips) (fo : Buf (Elt F) (bigM.view.loc (c : Thread nD τ))) : Buf (Elt F) (bigM.view.loc (c : Thread nD τ)) :=
  bigM.view.writes (Elt F) fo (pieces c XW arg0 arg1 arg2 arg3 x0 x1 x2 x3 k fo)

/-! ## One trip -/

/-- What every trip takes: the inputs, the scratch, its transfer under way. -/
abbrev tripPre (k : ℕ) (fo : Buf (Elt F) (bigM.view.loc (c : Thread nD τ))) : sProp 𝕄 :=
  iprop(insP c arg0 arg1 arg2 arg3 x0 x1 x2 x3 ∗ bigP c fo ∗ owesP c ∗ ∃ f, flightP c XW (sA k) (gA k) f)
/-- What every trip leaves: the scratch updated, its column block and its slot back. -/
abbrev tripPost (k : Fin k0_t1_loop.trips) (fo : Buf (Elt F) (bigM.view.loc (c : Thread nD τ))) : sProp 𝕄 :=
  iprop(insP c arg0 arg1 arg2 arg3 x0 x1 x2 x3 ∗ bigP c (nextO c XW arg0 arg1 arg2 arg3 x0 x1 x2 x3 k fo) ∗ owesP c
    ∗ homeP c XW (gA k.val) ∗ freeP (F := F) c k.val)

set_option backward.proofsInPublic true in
/-- The first trip issues nothing: the transfers of the next five blocks are already under way. -/
theorem tripFirst (k : Fin k0_t1_loop.trips) (hk : k.val = 0) (fo : Buf (Elt F) (bigM.view.loc (c : Thread nD τ))) :
    iprop(tripPre c XW arg0 arg1 arg2 arg3 x0 x1 x2 x3 k.val fo) ⊢ wpT c arg0 harg0 arg1 harg1 arg2 harg2 arg3 harg3 arg5 harg5 k (fun _ => iprop(tripPost c XW arg0 arg1 arg2 arg3 x0 x1 x2 x3 k fo)) := by
  have h1 := cond1_zero k hk
  iintro ⟨⟨H0, H1, H2, H3⟩, HO, ⟨%W, HW⟩, ⟨%fA, HF⟩⟩
  dsimp only [wpT, tripG]
  sl_unfold [k0_t1_body]
  sl_exec
  sl_step
  isplitl [H0 H1 H2 H3]
  · isplitl [H0]; · iexact H0
    isplitl [H1]; · iexact H1
    isplitl [H2]; · iexact H2
    iexact H3
  isplitl [HO]; · iexact HO
  isplitl [HW]; · iexists _; iexact HW
  isplitl [HF_src]; · iexact HF_src
  isplitl [HF_dst]; · iexists _; iexact HF_dst
  iexact HF

set_option backward.proofsInPublic true in
/-- A trip in the middle issues the transfer of the block five ahead into the slot the trip before it freed. -/
theorem tripMid (k : Fin k0_t1_loop.trips) (hk : k.val ≠ 0) (hk' : k.val ≤ 56) (fo : Buf (Elt F) (bigM.view.loc (c : Thread nD τ))) :
    iprop(tripPre c XW arg0 arg1 arg2 arg3 x0 x1 x2 x3 k.val fo ∗ homeP c XW (gA (k.val + 5)) ∗ freeP (F := F) c (k.val + 5))
      ⊢ wpT c arg0 harg0 arg1 harg1 arg2 harg2 arg3 harg3 arg5 harg5 k (fun _ => iprop(tripPost c XW arg0 arg1 arg2 arg3 x0 x1 x2 x3 k fo ∗ ∃ f, flightP c XW (sA (k.val + 5)) (gA (k.val + 5)) f)) := by
  have h1 := cond1_pos k hk
  have h2 := cond2_low k hk'
  have h3 := cond3_no k (by omega)
  iintro ⟨⟨⟨H0, H1, H2, H3⟩, HO, ⟨%W, HW⟩, ⟨%fA, HF⟩⟩, Hg, ⟨%fC, HS⟩, HC⟩
  dsimp only [wpT, tripG]
  sl_unfold [k0_t1_body]
  sl_exec
  sl_step
  isplitl [H0 H1 H2 H3 HO HW HF HF_dst HF_src]
  · isplitl [H0 H1 H2 H3]
    · isplitl [H0]; · iexact H0
      isplitl [H1]; · iexact H1
      isplitl [H2]; · iexact H2
      iexact H3
    isplitl [HO]; · iexact HO
    isplitl [HW]; · iexists _; iexact HW
    isplitl [HF_src]; · iexact HF_src
    isplitl [HF_dst]; · iexists _; iexact HF_dst
    iexact HF
  iexists fC; iexact HC

set_option backward.proofsInPublic true in
/-- Trip 57 issues the transfer of the last block, 256 columns, into the left half of the slot the trip before it freed. -/
theorem tripLast (k : Fin k0_t1_loop.trips) (hk : k.val = 57) (fo : Buf (Elt F) (bigM.view.loc (c : Thread nD τ))) (fC) :
    iprop(tripPre c XW arg0 arg1 arg2 arg3 x0 x1 x2 x3 k.val fo ∗ homeTP c XW ∗ slotTP (F := F) c (sA (k.val + 5)) fC ∗ cellP (F := F) c (sA (k.val + 5)))
      ⊢ wpT c arg0 harg0 arg1 harg1 arg2 harg2 arg3 harg3 arg5 harg5 k (fun _ => iprop(tripPost c XW arg0 arg1 arg2 arg3 x0 x1 x2 x3 k fo ∗ flightTP c XW (sA (k.val + 5)) fC)) := by
  have h1 := cond1_pos k (by omega)
  have h2 := cond2_high k (by omega)
  have h3 := cond3_yes k hk
  iintro ⟨⟨⟨H0, H1, H2, H3⟩, HO, ⟨%W, HW⟩, ⟨%fA, HF⟩⟩, Hg, HS, HC⟩
  dsimp only [wpT, tripG]
  sl_unfold [k0_t1_body]
  sl_exec
  sl_step
  isplitl [H0 H1 H2 H3 HO HW HF HF_dst HF_src]
  · isplitl [H0 H1 H2 H3]
    · isplitl [H0]; · iexact H0
      isplitl [H1]; · iexact H1
      isplitl [H2]; · iexact H2
      iexact H3
    isplitl [HO]; · iexact HO
    isplitl [HW]; · iexists _; iexact HW
    isplitl [HF_src]; · iexact HF_src
    isplitl [HF_dst]; · iexists _; iexact HF_dst
    iexact HF
  iexact HC

set_option backward.proofsInPublic true in
/-- The trips after it issue nothing. -/
theorem tripTail (k : Fin k0_t1_loop.trips) (hk : 57 < k.val) (fo : Buf (Elt F) (bigM.view.loc (c : Thread nD τ))) :
    iprop(tripPre c XW arg0 arg1 arg2 arg3 x0 x1 x2 x3 k.val fo) ⊢ wpT c arg0 harg0 arg1 harg1 arg2 harg2 arg3 harg3 arg5 harg5 k (fun _ => iprop(tripPost c XW arg0 arg1 arg2 arg3 x0 x1 x2 x3 k fo)) := by
  have h1 := cond1_pos k (by omega)
  have h2 := cond2_high k (by omega)
  have h3 := cond3_no k (by omega)
  iintro ⟨⟨H0, H1, H2, H3⟩, HO, ⟨%W, HW⟩, ⟨%fA, HF⟩⟩
  dsimp only [wpT, tripG]
  sl_unfold [k0_t1_body]
  sl_exec
  sl_step
  isplitl [H0 H1 H2 H3]
  · isplitl [H0]; · iexact H0
    isplitl [H1]; · iexact H1
    isplitl [H2]; · iexact H2
    iexact H3
  isplitl [HO]; · iexact HO
  isplitl [HW]; · iexists _; iexact HW
  isplitl [HF_src]; · iexact HF_src
  isplitl [HF_dst]; · iexists _; iexact HF_dst
  iexact HF

end Trip
end Cert.Proof.LmHeadIdeal
end
-- ==== Proof.LmHeadIdeal.Body.lean ====
module

public import proofs.«01_k».proof.Proof.LmHeadIdeal.Trip

@[expose] public section

noncomputable section

namespace Cert.Proof.LmHeadIdeal

open Cert.LogitsIdeal Cert.LogitsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## A slot and its left half -/

theorem half_subset (s : Fin 6) : (rslotT s : Memref sig .tc .vmem _ _).view.set ⊆ (rslot s : Memref sig .tc .vmem _ _).view.set := by
  rw [show (rslotT s : Memref sig .tc .vmem _ _).view.set = (Rect.unit (s := S6x8192x512) (slotOff s) S1x8192x256.size (slotOff_inbT s)).set from (View.set_reshape _ _).trans (View.set_slice_whole _ _),
    show (rslot s : Memref sig .tc .vmem _ _).view.set = (Rect.unit (s := S6x8192x512) (slotOff s) S1x8192x512.size (slotOff_inb s)).set from (View.set_reshape _ _).trans (View.set_slice_whole _ _)]
  intro (y : S6x8192x512.Idx) hy
  refine Rect.mem_set_unit.mpr fun a => ?_
  have h := Rect.mem_set_unit.mp hy a
  fin_cases a
  · exact h
  · exact h
  · have h2 : 0 ≤ (y 2).val ∧ (y 2).val < 0 + 256 := h
    show 0 ≤ (y 2).val ∧ (y 2).val < 0 + 512; omega

/-- A slot is its left half and its right half, -/
theorem slot_halves (c : Dev nD) (s : Fin 6) (f) : (slotP c s f : sProp 𝕄) ⊢ iprop(slotTP c s f ∗ restP c s f) :=
  (pointsTo_split_subset (half_subset s)).1
/-- and back. -/
theorem join_halves {ℓ : Loc nD τ sig} {I S : Finset (Idx ℓ)} (h : I ⊆ S) :
    iprop((∃ f, ℓ ↦[I]{fullShare} f) ∗ ∃ f, ℓ ↦[S \ I]{fullShare} f) ⊢ (iprop(∃ f, ℓ ↦[S]{fullShare} f) : sProp 𝕄) := by
  iintro ⟨⟨%f, H⟩, ⟨%g, H'⟩⟩
  ihave J := (pointsTo_join (f := f) (g := g) (Finset.disjoint_sdiff (s := I) (t := S))) $$ [H H']
  · isplitl [H]; · iexact H
    iexact H'
  iexists _
  iapply (entails_of_eq (congrArg (fun T => (ℓ ↦[T]{fullShare} _ : sProp 𝕄)) (Finset.union_sdiff_of_subset h))); iexact J
theorem halves_slot (c : Dev nD) (s : Fin 6) : iprop((∃ f, slotTP c s f) ∗ ∃ f, restP c s f) ⊢ (iprop(∃ f, slotP c s f) : sProp 𝕄) :=
  join_halves (half_subset s)

/-! ## The loop -/

section Loop

variable (c : Dev nD) (XW : Buf (Elt F) (wM.view.loc (c : Thread nD τ)))
  (arg0 : Memref sig .tc .smem S3 .f32) (harg0 : arg0.IsWhole)
  (arg1 : Memref sig .tc .vmem S192x8192 .fp8e4m3) (harg1 : arg1.IsWhole)
  (arg2 : Memref sig .tc .vmem S192x128 .f32) (harg2 : arg2.IsWhole)
  (arg3 : Memref sig .tc .vmem S250x128 .f32) (harg3 : arg3.IsWhole)
  (arg5 : Memref sig .tc .vmem S3x63 .f32) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- Block `t`'s slot before its trip: its transfer under way, or, past the last block, free. -/
def liveP (t : ℕ) : sProp 𝕄 :=
  if t < 62 then iprop(∃ f, flightP c XW (sA t) (gA t) f)
  else if t = 62 then iprop((∃ f, flightTP c XW (sA t) f) ∗ ∃ f, restP (F := F) c (sA t) f) else freeP (F := F) c t
theorem liveP_lt (t : ℕ) (h : t < 62) : liveP c XW t = iprop(∃ f, flightP c XW (sA t) (gA t) f) := if_pos h
theorem liveP_last : liveP c XW 62 = iprop((∃ f, flightTP c XW 4 f) ∗ ∃ f, restP (F := F) c 4 f) := rfl
theorem liveP_eq (t : ℕ) (h : t = 62) : liveP c XW t = iprop((∃ f, flightTP c XW (sA t) f) ∗ ∃ f, restP (F := F) c (sA t) f) := by
  subst h; rfl
theorem liveP_gt (t : ℕ) (h : 62 < t) : liveP c XW t = freeP (F := F) c t := (if_neg (by omega)).trans (if_neg (by omega))

/-- Column block `b` of the 63 held. -/
def blockP (b : Fin 63) : sProp 𝕄 := if h : b.val < 62 then homeP c XW ⟨b.val, h⟩ else homeTP c XW
theorem blockP_lt (t : ℕ) (h : t < 62) : blockP c XW (Ring.bk 63 t) = homeP c XW (gA t) := by
  have e : (Ring.bk 63 t).val = t := Ring.bk_val (by omega)
  rw [blockP, dif_pos (by rw [e]; exact h)]
  congr 1
  all_goals exact Fin.ext (by rw [Ring.bk_val h]; exact e)
theorem blockP_last (t : ℕ) (h : t = 62) : blockP c XW (Ring.bk 63 t) = homeTP c XW := by subst h; rfl

/-- The ring before the first trip: the transfers of blocks 0 to 5 under way, the other column blocks held. -/
abbrev ringZero : sProp 𝕄 :=
  iprop((∃ f, flightP c XW 2 0 f) ∗ (∃ f, flightP c XW 3 1 f) ∗ (∃ f, flightP c XW 4 2 f) ∗ (∃ f, flightP c XW 5 3 f)
    ∗ (∃ f, flightP c XW 0 4 f) ∗ (∃ f, flightP c XW 1 5 f) ∗ bigSep (Ring.homeSet (NB := 63) 6 0) (blockP c XW))
/-- The ring before trip `k`: from trip 1 on, the transfers of blocks `k` to `k + 4` under way, the sixth slot free. -/
def ringAt : ℕ → sProp 𝕄
  | 0 => ringZero c XW
  | k + 1 => iprop(liveP c XW (k + 1) ∗ liveP c XW (k + 2) ∗ liveP c XW (k + 3) ∗ liveP c XW (k + 4) ∗ liveP c XW (k + 5)
      ∗ freeP (F := F) c (k + 6) ∗ bigSep (Ring.homeSet (NB := 63) 5 (k + 1)) (blockP c XW))
theorem ringAt_pos (k : ℕ) (h : k ≠ 0) : ringAt c XW k
    = iprop(liveP c XW k ∗ liveP c XW (k + 1) ∗ liveP c XW (k + 2) ∗ liveP c XW (k + 3) ∗ liveP c XW (k + 4)
      ∗ freeP (F := F) c (k + 5) ∗ bigSep (Ring.homeSet (NB := 63) 5 k) (blockP c XW)) := by
  obtain ⟨n, rfl⟩ := Nat.exists_eq_succ_of_ne_zero h; rfl
theorem ringAt_succ (k : ℕ) : ringAt c XW (k + 1)
    = iprop(liveP c XW (k + 1) ∗ liveP c XW (k + 2) ∗ liveP c XW (k + 3) ∗ liveP c XW (k + 4) ∗ liveP c XW (k + 5)
      ∗ freeP (F := F) c (k + 6) ∗ bigSep (Ring.homeSet (NB := 63) 5 (k + 1)) (blockP c XW)) := rfl

/-- The scratch before trip `k`, from `o0`. -/
def bigAcc (o0 : Buf (Elt F) (bigM.view.loc (c : Thread nD τ))) : ℕ → Buf (Elt F) (bigM.view.loc (c : Thread nD τ))
  | 0 => o0
  | k + 1 => if h : k < k0_t1_loop.trips then nextO c XW arg0 arg1 arg2 arg3 x0 x1 x2 x3 ⟨k, h⟩ (bigAcc o0 k) else bigAcc o0 k
theorem bigAcc_succ (o0) (k : Fin k0_t1_loop.trips) :
    bigAcc c XW arg0 arg1 arg2 arg3 x0 x1 x2 x3 o0 (k.val + 1) = nextO c XW arg0 arg1 arg2 arg3 x0 x1 x2 x3 k (bigAcc c XW arg0 arg1 arg2 arg3 x0 x1 x2 x3 o0 k.val) := by
  rw [bigAcc, dif_pos k.isLt]

theorem trips_pos : 0 < k0_t1_loop.trips := by rw [trips_eq]; decide
theorem freeP_add6 (k : ℕ) : freeP (F := F) c (k + 6) = freeP (F := F) c k := by
  have eA : sA (k + 6) = sA k := by rw [sA, show k + 6 + 2 = k + 2 + 6 by omega, Ring.sl_add]
  unfold freeP; rw [eA]
theorem homes_out (k : ℕ) (h : k + 5 < 63) : bigSep (Ring.homeSet (NB := 63) 5 k) (blockP c XW)
    = iprop(blockP c XW (Ring.bk 63 (k + 5)) ∗ bigSep ((Ring.homeSet (NB := 63) 5 k).erase (Ring.bk 63 (k + 5))) (blockP c XW)) := by
  conv_lhs => rw [Ring.homeSet_out 5 k h, bigSep_insert (Ring.bkL_not_mem_erase 5 k)]
  rfl
theorem homes_next (k : ℕ) (h : k + 5 < 63) : bigSep (Ring.homeSet (NB := 63) 5 (k + 1)) (blockP c XW)
    = iprop(homeP c XW (gA k) ∗ bigSep ((Ring.homeSet (NB := 63) 5 k).erase (Ring.bk 63 (k + 5))) (blockP c XW)) := by
  conv_lhs => rw [Ring.homeSet_succ 5 k h, bigSep_insert (Ring.bk_not_mem_erase 5 k (by omega) (by decide))]
  rw [← blockP_lt c XW k (by omega)]; rfl
theorem homes_tail (k : ℕ) (h : 63 ≤ k + 5) (hk : k < 62) : bigSep (Ring.homeSet (NB := 63) 5 (k + 1)) (blockP c XW)
    = iprop(homeP c XW (gA k) ∗ bigSep (Ring.homeSet (NB := 63) 5 k) (blockP c XW)) := by
  conv_lhs => rw [Ring.homeSet_succ_tail 5 k h (by omega), bigSep_insert (Ring.bk_not_mem_homeSet 5 k (by omega) (by decide))]
  rw [← blockP_lt c XW k hk]; rfl
theorem homes_one : bigSep (Ring.homeSet (NB := 63) 5 1) (blockP c XW)
    = iprop(homeP c XW (gA 0) ∗ bigSep (Ring.homeSet (NB := 63) 6 0) (blockP c XW)) := by
  have e : Ring.homeSet (NB := 63) 5 1 = insert (Ring.bk 63 0) (Ring.homeSet 6 0) := by
    ext b; rw [Ring.mem_homeSet, Finset.mem_insert, Ring.mem_homeSet, Fin.ext_iff, Ring.bk_val (by decide)]; omega
  conv_lhs => rw [e, bigSep_insert (Ring.bk_not_mem_homeSet 6 0 (by decide) (by decide))]
  rw [← blockP_lt c XW 0 (by decide)]; rfl

abbrev heldP (fo : Buf (Elt F) (bigM.view.loc (c : Thread nD τ))) : sProp 𝕄 :=
  iprop(insP c arg0 arg1 arg2 arg3 x0 x1 x2 x3 ∗ bigP c fo ∗ owesP c)

set_option warn.classDefReducibility false in
/-- The loop's invariant. -/
@[sl_loop] def loopInv (o0 : Buf (Elt F) (bigM.view.loc (c : Thread nD τ))) :
    LoopInvTy_k0_t1 (F := F) Unit ℕ (UU nD τ) ℕ 𝒱₀ c none Set.univ arg0 harg0 arg1 harg1 arg2 harg2 arg3 harg3 wM (Memref.isWhole_whole _) arg5 harg5 ringM (Memref.isWhole_whole _) bigM (Memref.isWhole_whole _) cc0_scratch2 where
  inv k _ := iprop(heldP c arg0 arg1 arg2 arg3 x0 x1 x2 x3 (bigAcc c XW arg0 arg1 arg2 arg3 x0 x1 x2 x3 o0 k) ∗ ringAt c XW k)
  step k _ := by
    have hlt : k.val < 62 := Nat.lt_of_lt_of_eq k.isLt trips_eq
    rw [bigAcc_succ, ringAt_succ c XW k.val, freeP_add6]
    by_cases h0 : k.val = 0
    · have hk : k = ⟨0, trips_pos⟩ := Fin.ext h0
      subst hk
      rw [show ringAt c XW (⟨0, trips_pos⟩ : Fin k0_t1_loop.trips).val = ringZero c XW from rfl]
      dsimp only
      rw [liveP_lt c XW (0 + 1) (by decide), liveP_lt c XW (0 + 2) (by decide), liveP_lt c XW (0 + 3) (by decide), liveP_lt c XW (0 + 4) (by decide),
        liveP_lt c XW (0 + 5) (by decide), show (0 + 1 : ℕ) = 1 from rfl, homes_one]
      iintro ⟨⟨HI, HO, HW⟩, F0, F1, F2, F3, F4, F5, HR⟩
      iapply (wp_wand_r Idealize.ShloMosaic.frame (wpE (defs₀ (F := F)) 𝒱₀ (c : Thread nD τ) none) Set.univ)
      isplitl [HI HO HW F0]
      · iapply (tripFirst c XW arg0 harg0 arg1 harg1 arg2 harg2 arg3 harg3 arg5 harg5 x0 x1 x2 x3 ⟨0, trips_pos⟩ rfl _)
        isplitl [HI]; · iexact HI
        isplitl [HO]; · iexact HO
        isplitl [HW]; · iexact HW
        iexact F0
      · iintro %_ ⟨HI, HO, HW, HA, HF⟩
        isplitl [HI HO HW]
        · isplitl [HI]; · iexact HI
          isplitl [HO]; · iexact HO
          iexact HW
        isplitl [F1]; · iexact F1
        isplitl [F2]; · iexact F2
        isplitl [F3]; · iexact F3
        isplitl [F4]; · iexact F4
        isplitl [F5]; · iexact F5
        isplitl [HF]; · iexact HF
        isplitl [HA]; · iexact HA
        iexact HR
    rw [ringAt_pos c XW k.val h0, liveP_lt c XW k.val hlt]
    by_cases h1 : k.val ≤ 56
    · rw [liveP_lt c XW (k.val + 5) (by omega), homes_out c XW k.val (by omega), homes_next c XW k.val (by omega), blockP_lt c XW (k.val + 5) (by omega)]
      iintro ⟨⟨HI, HO, HW⟩, HG, L1, L2, L3, L4, HF, HN, HR⟩
      iapply (wp_wand_r Idealize.ShloMosaic.frame (wpE (defs₀ (F := F)) 𝒱₀ (c : Thread nD τ) none) Set.univ)
      isplitl [HI HO HW HG HF HN]
      · iapply (tripMid c XW arg0 harg0 arg1 harg1 arg2 harg2 arg3 harg3 arg5 harg5 x0 x1 x2 x3 k h0 h1 _)
        isplitl [HI HO HW HG]
        · isplitl [HI]; · iexact HI
          isplitl [HO]; · iexact HO
          isplitl [HW]; · iexact HW
          iexact HG
        isplitl [HN]; · iexact HN
        iexact HF
      · iintro %_ ⟨⟨HI, HO, HW, HA, HF⟩, HG⟩
        isplitl [HI HO HW]
        · isplitl [HI]; · iexact HI
          isplitl [HO]; · iexact HO
          iexact HW
        isplitl [L1]; · iexact L1
        isplitl [L2]; · iexact L2
        isplitl [L3]; · iexact L3
        isplitl [L4]; · iexact L4
        isplitl [HG]; · iexact HG
        isplitl [HF]; · iexact HF
        isplitl [HA]; · iexact HA
        iexact HR
    by_cases h2 : k.val = 57
    · rw [liveP_eq c XW (k.val + 5) (by omega), homes_out c XW k.val (by omega), homes_next c XW k.val (by omega), blockP_last c XW (k.val + 5) (by omega)]
      iintro ⟨⟨HI, HO, HW⟩, HG, L1, L2, L3, L4, ⟨⟨%fC, HS⟩, HC⟩, HN, HR⟩
      ihave HS2 := (slot_halves c (sA (k.val + 5)) fC) $$ HS
      icases HS2 with ⟨HSL, HSR⟩
      iapply (wp_wand_r Idealize.ShloMosaic.frame (wpE (defs₀ (F := F)) 𝒱₀ (c : Thread nD τ) none) Set.univ)
      isplitl [HI HO HW HG HSL HC HN]
      · iapply (tripLast c XW arg0 harg0 arg1 harg1 arg2 harg2 arg3 harg3 arg5 harg5 x0 x1 x2 x3 k h2 _ fC)
        isplitl [HI HO HW HG]
        · isplitl [HI]; · iexact HI
          isplitl [HO]; · iexact HO
          isplitl [HW]; · iexact HW
          iexact HG
        isplitl [HN]; · iexact HN
        isplitl [HSL]; · iexact HSL
        iexact HC
      · iintro %_ ⟨⟨HI, HO, HW, HA, HF⟩, HG⟩
        isplitl [HI HO HW]
        · isplitl [HI]; · iexact HI
          isplitl [HO]; · iexact HO
          iexact HW
        isplitl [L1]; · iexact L1
        isplitl [L2]; · iexact L2
        isplitl [L3]; · iexact L3
        isplitl [L4]; · iexact L4
        isplitl [HG HSR]
        · isplitl [HG]; · iexists fC; iexact HG
          iexists fC; iexact HSR
        isplitl [HF]; · iexact HF
        isplitl [HA]; · iexact HA
        iexact HR
    · rw [liveP_gt c XW (k.val + 5) (by omega), homes_tail c XW k.val (by omega) hlt]
      iintro ⟨⟨HI, HO, HW⟩, HG, L1, L2, L3, L4, HF, HR⟩
      iapply (wp_wand_r Idealize.ShloMosaic.frame (wpE (defs₀ (F := F)) 𝒱₀ (c : Thread nD τ) none) Set.univ)
      isplitl [HI HO HW HG]
      · iapply (tripTail c XW arg0 harg0 arg1 harg1 arg2 harg2 arg3 harg3 arg5 harg5 x0 x1 x2 x3 k (by omega) _)
        isplitl [HI]; · iexact HI
        isplitl [HO]; · iexact HO
        isplitl [HW]; · iexact HW
        iexact HG
      · iintro %_ ⟨HI, HO, HW, HA, HF2⟩
        isplitl [HI HO HW]
        · isplitl [HI]; · iexact HI
          isplitl [HO]; · iexact HO
          iexact HW
        isplitl [L1]; · iexact L1
        isplitl [L2]; · iexact L2
        isplitl [L3]; · iexact L3
        isplitl [L4]; · iexact L4
        isplitl [HF]; · iexact HF
        isplitl [HF2]; · iexact HF2
        isplitl [HA]; · iexact HA
        iexact HR

/-- What the last block's computation does not touch: the other five slots, the right half of the last block's slot, the
    other semaphores, the other column blocks; under one name, opened by `asideP_eq`. -/
abbrev ASIDE : sProp 𝕄 :=
  iprop((∃ f, restP (F := F) c 4 f) ∗ freeP (F := F) c 63 ∗ freeP (F := F) c 64 ∗ freeP (F := F) c 65 ∗ freeP (F := F) c 66 ∗ freeP (F := F) c 67
    ∗ bigSep (Ring.homeSet (NB := 63) 5 62) (blockP c XW))
@[irreducible] def asideP : sProp 𝕄 := ASIDE c XW
theorem asideP_eq : asideP c XW = ASIDE c XW := by rw [asideP]

set_option warn.classDefReducibility false in
/-- After the loop the last block's transfer is under way. -/
def loopExit (o0 : Buf (Elt F) (bigM.view.loc (c : Thread nD τ))) :
    LoopExit (loopInv (F := F) c XW arg0 harg0 arg1 harg1 arg2 harg2 arg3 harg3 arg5 harg5 x0 x1 x2 x3 o0) where
  post _ := iprop(heldP c arg0 arg1 arg2 arg3 x0 x1 x2 x3 (bigAcc c XW arg0 arg1 arg2 arg3 x0 x1 x2 x3 o0 62) ∗ (∃ f, flightTP c XW 4 f) ∗ asideP c XW)
  exit acc := by
    show iprop(heldP c arg0 arg1 arg2 arg3 x0 x1 x2 x3 (bigAcc c XW arg0 arg1 arg2 arg3 x0 x1 x2 x3 o0 k0_t1_loop.trips) ∗ ringAt c XW k0_t1_loop.trips) ⊢ _
    rw [trips_eq, asideP_eq, ringAt_pos c XW 62 (by decide), liveP_last, liveP_gt c XW (62 + 1) (by decide), liveP_gt c XW (62 + 2) (by decide),
      liveP_gt c XW (62 + 3) (by decide), liveP_gt c XW (62 + 4) (by decide)]
    iintro ⟨HH, ⟨HG, HS⟩, L1, L2, L3, L4, L5, HR⟩
    isplitl [HH]; · iexact HH
    isplitl [HG]; · iexact HG
    isplitl [HS]; · iexact HS
    isplitl [L1]; · iexact L1
    isplitl [L2]; · iexact L2
    isplitl [L3]; · iexact L3
    isplitl [L4]; · iexact L4
    isplitl [L5]; · iexact L5
    iexact HR

end Loop

/-! ## The kernel body -/

section Body

variable (c : Dev nD) (XW : Buf (Elt F) (wM.view.loc (c : Thread nD τ)))
  (arg0 : Memref sig .tc .smem S3 .f32) (harg0 : arg0.IsWhole)
  (arg1 : Memref sig .tc .vmem S192x8192 .fp8e4m3) (harg1 : arg1.IsWhole)
  (arg2 : Memref sig .tc .vmem S192x128 .f32) (harg2 : arg2.IsWhole)
  (arg3 : Memref sig .tc .vmem S250x128 .f32) (harg3 : arg3.IsWhole)
  (arg5 : Memref sig .tc .vmem S3x63 .f32) (harg5 : arg5.IsWhole)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

/-- The last column block as the matrix product reads it from its slot. -/
abbrev wTV : Vec F S1x8192x256 .fp8e4m3 :=
  ringM.view.readAt (Elt F) (Rect.unit (s := S6x8192x512) ![4, 0, 0] S1x8192x256.size inb_S6x8192x512_S1x8192x256_4_0_0).toLoadRect
    (landedT c XW 4 (rslotT 4).view.junk)
theorem slcT (r : Fin 2) (b : Fin 3) : S192x256.Slices ![64 * b.val, 128 * r.val] S64x128 := by
  revert r b; decide
theorem scT_inb (r : Fin 2) : ∀ a, (![248 + r.val, 0] : Fin 2 → Nat) a + S1x128.size a ≤ S250x128.size a := by
  revert r; decide
/-- The last block's scaled logits of 128-lane group `r` and row block `b`. -/
def tileT (b : Fin 3) (r : Fin 2) : FVec F S64x128 .f32 :=
  scaled (extractStridedSlice S64x128 ![64 * b.val, 128 * r.val] (k0_pay45 (hV c arg1 x1) (wTV c XW)) (slcT r b)) (rsV c arg2 x2 b)
    (arg3.view.readAt (Elt F) (Rect.unit (s := S250x128) ![248 + r.val, 0] S1x128.size (scT_inb r)).toLoadRect x3)
    (tempV c arg0 x0 b)

/-- The running maximum and the running sum carried over the last two tiles. -/
def maxOf2 (t : Fin 2 → FVec F S64x128 .f32) (m : FVec F S64x128 .f32) : FVec F S64x128 .f32 := maximumf (maximumf m (t 0)) (t 1)
def sumOf2 (t : Fin 2 → FVec F S64x128 .f32) (m l n : FVec F S64x128 .f32) : FVec F S64x128 .f32 :=
  addf (addf (mulf l (exp (subf m n))) (exp (subf (t 0) n))) (exp (subf (t 1) n))
/-- What the last block stores in the scratch for one row block, the latest first, -/
abbrev lastPieces (t : Fin 2 → FVec F S64x128 .f32) (m l : FVec F S64x128 .f32) (b : Fin 3) : List (View.Piece (Elt F) S33024x128 .f32) :=
  [pieceL b (sumOf2 t m l (maxOf2 t m)), pieceM b (maxOf2 t m), pieceT 1 b (t 1), pieceT 0 b (t 0)]
/-- and for all three. -/
def endPieces (fo : Buf (Elt F) (bigM.view.loc (c : Thread nD τ))) : List (View.Piece (Elt F) S33024x128 .f32) :=
  lastPieces (tileT c XW arg0 arg1 arg2 arg3 x0 x1 x2 x3 2) (mV c 2 fo) (lV c 2 fo) 2 ++ lastPieces (tileT c XW arg0 arg1 arg2 arg3 x0 x1 x2 x3 1) (mV c 1 fo) (lV c 1 fo) 1
    ++ lastPieces (tileT c XW arg0 arg1 arg2 arg3 x0 x1 x2 x3 0) (mV c 0 fo) (lV c 0 fo) 0
/-- Row block `b`'s 63 results, from its maxima and sums as read back. -/
def lseOf (b : Fin 3) (fo : Buf (Elt F) (bigM.view.loc (c : Thread nD τ))) : FVec F S1x63 .f32 :=
  k0_pay74 (bigM.view.readCov (endPieces c XW arg0 arg1 arg2 arg3 x0 x1 x2 x3 fo) (Rect.unit (s := S33024x128) ![768 + 64 * b.val, 0] S64x128.size (m_inb b)).toLoadRect)
    (bigM.view.readCov (endPieces c XW arg0 arg1 arg2 arg3 x0 x1 x2 x3 fo) (Rect.unit (s := S33024x128) ![960 + 64 * b.val, 0] S64x128.size (l_inb b)).toLoadRect)

theorem row_inb (b : Fin 3) : ∀ a, (![b.val, 0] : Fin 2 → Nat) a + S1x63.size a ≤ S3x63.size a := by
  revert b; decide
/-- Row block `b`'s results with the place they are stored. -/
abbrev rowPiece (b : Fin 3) (v : FVec F S1x63 .f32) : View.Piece (Elt F) S3x63 .f32 :=
  ⟨Rect.unit (s := S3x63) ![b.val, 0] S1x63.size (row_inb b), v⟩

/-- The scratch at the loop's start: the maxima at minus infinity, the sums at zero. -/
abbrev bigZero (gB : Buf (Elt F) (bigM.view.loc (c : Thread nD τ))) : Buf (Elt F) (bigM.view.loc (c : Thread nD τ)) :=
  bigM.view.writes (Elt F) gB [⟨Rect.unit (s := S33024x128) ![960, 0] S192x128.size inb_S33024x128_S192x128_960_0, k0_pay44 (F := F)⟩,
    ⟨Rect.unit (s := S33024x128) ![768, 0] S192x128.size inb_S33024x128_S192x128_768_0, k0_pay43 (F := F)⟩]
/-- The scratch after the loop. -/
abbrev bigEnd (gB : Buf (Elt F) (bigM.view.loc (c : Thread nD τ))) : Buf (Elt F) (bigM.view.loc (c : Thread nD τ)) := bigAcc c XW arg0 arg1 arg2 arg3 x0 x1 x2 x3 (bigZero c gB) 62
/-- The result block after the body. -/
abbrev outOf (gO : Buf (Elt F) (arg5.view.loc (c : Thread nD τ))) (fo : Buf (Elt F) (bigM.view.loc (c : Thread nD τ))) : Buf (Elt F) (arg5.view.loc (c : Thread nD τ)) :=
  arg5.view.writes (Elt F) gO [rowPiece 2 (lseOf c XW arg0 arg1 arg2 arg3 x0 x1 x2 x3 2 fo), rowPiece 1 (lseOf c XW arg0 arg1 arg2 arg3 x0 x1 x2 x3 1 fo),
    rowPiece 0 (lseOf c XW arg0 arg1 arg2 arg3 x0 x1 x2 x3 0 fo)]

abbrev outP (fo : Buf (Elt F) (arg5.view.loc (c : Thread nD τ))) : sProp 𝕄 := arg5.view.loc (c : Thread nD τ) ↦[arg5.view.set]{fullShare} fo

/-- The six slots at anything and their semaphores at zero. -/
abbrev slotsP : sProp 𝕄 :=
  iprop((∃ f, slotP (F := F) c 0 f) ∗ (∃ f, slotP (F := F) c 1 f) ∗ (∃ f, slotP (F := F) c 2 f) ∗ (∃ f, slotP (F := F) c 3 f) ∗ (∃ f, slotP (F := F) c 4 f) ∗ (∃ f, slotP (F := F) c 5 f))
abbrev cellsP : sProp 𝕄 :=
  iprop(cellP (F := F) c 0 ∗ cellP (F := F) c 1 ∗ cellP (F := F) c 2 ∗ cellP (F := F) c 3 ∗ cellP (F := F) c 4 ∗ cellP (F := F) c 5)

theorem homes_all : bigSep Finset.univ (blockP c XW) = iprop(homeTP c XW ∗ bigSep (Ring.homeSet (NB := 63) 5 62) (blockP c XW)) := by
  have e : (Finset.univ : Finset (Fin 63)) = insert (Ring.bk 63 62) (Ring.homeSet 5 62) := by
    ext b; rw [Finset.mem_insert, Ring.mem_homeSet, Fin.ext_iff, Ring.bk_val (by decide)]; have := b.isLt
    simp only [Finset.mem_univ, true_iff]; omega
  conv_lhs => rw [e, bigSep_insert (Ring.bk_not_mem_homeSet 5 62 (by decide) (by decide))]
  rw [blockP_last c XW 62 rfl]; rfl

/-- The kernel on the given staging buffers. -/
abbrev bodyG : Prog (TpuEff nD τ sig (Elt F) Λ₀ .tc) PUnit :=
  cc0_logits_lse arg0 harg0 arg1 harg1 arg2 harg2 arg3 harg3 wM (Memref.isWhole_whole _) arg5 harg5 ringM (Memref.isWhole_whole _) bigM (Memref.isWhole_whole _) cc0_scratch2

/-- What the body takes. -/
abbrev PRE (gO : Buf (Elt F) (arg5.view.loc (c : Thread nD τ))) (gB : Buf (Elt F) (bigM.view.loc (c : Thread nD τ))) (W : Waits sig Unit) : sProp 𝕄 :=
  iprop(insP c arg0 arg1 arg2 arg3 x0 x1 x2 x3 ∗ outP c arg5 gO ∗ bigP c gB
    ∗ (homeP c XW 0 ∗ homeP c XW 1 ∗ homeP c XW 2 ∗ homeP c XW 3 ∗ homeP c XW 4 ∗ homeP c XW 5 ∗ bigSep (Ring.homeSet (NB := 63) 6 0) (blockP c XW))
    ∗ slotsP c ∗ cellsP c ∗ owes (c : Thread nD τ) 0 W)
/-- What the body leaves. -/
abbrev POST (out : Buf (Elt F) (arg5.view.loc (c : Thread nD τ))) : sProp 𝕄 :=
  iprop(insP c arg0 arg1 arg2 arg3 x0 x1 x2 x3 ∗ outP c arg5 out ∗ (∃ f, bigP c f) ∗ bigSep Finset.univ (blockP c XW)
    ∗ slotsP c ∗ cellsP c ∗ owesP c)

theorem freeP_lit (t : ℕ) (a : Fin 6) (ha : sA t = a) : freeP (F := F) c t = iprop((∃ f, slotP (F := F) c a f) ∗ cellP (F := F) c a) := by
  subst ha; rfl

theorem asideP_open : asideP c XW ⊢ iprop((∃ f, restP (F := F) c 4 f) ∗ ((∃ f, slotP (F := F) c 5 f) ∗ cellP (F := F) c 5)
    ∗ ((∃ f, slotP (F := F) c 0 f) ∗ cellP (F := F) c 0) ∗ ((∃ f, slotP (F := F) c 1 f) ∗ cellP (F := F) c 1) ∗ ((∃ f, slotP (F := F) c 2 f) ∗ cellP (F := F) c 2)
    ∗ ((∃ f, slotP (F := F) c 3 f) ∗ cellP (F := F) c 3) ∗ bigSep (Ring.homeSet (NB := 63) 5 62) (blockP c XW)) := by
  refine entails_of_eq ?_
  rw [asideP_eq, ASIDE, freeP_lit c 63 5 rfl, freeP_lit c 64 0 rfl, freeP_lit c 65 1 rfl, freeP_lit c 66 2 rfl, freeP_lit c 67 3 rfl]

set_option warn.classDefReducibility false in
set_option backward.proofsInPublic true in
attribute [local instance] loopExit in
/-- The body runs from `PRE` to `POST`. -/
theorem bodyRun (gO gB W) (Q : PUnit → sProp 𝕄) :
    iprop(PRE c XW arg0 arg1 arg2 arg3 arg5 x0 x1 x2 x3 gO gB W ∗ (POST c XW arg0 arg1 arg2 arg3 arg5 x0 x1 x2 x3 (outOf c XW arg0 arg1 arg2 arg3 arg5 x0 x1 x2 x3 gO (bigEnd c XW arg0 arg1 arg2 arg3 x0 x1 x2 x3 gB)) -∗ Q ⟨⟩))
      ⊢ wp frame (wpE (defs₀ (F := F)) 𝒱₀ (c : Thread nD τ) none) Set.univ (bodyG arg0 harg0 arg1 harg1 arg2 harg2 arg3 harg3 arg5 harg5) Q := by
  iintro ⟨⟨⟨H0, H1, H2, H3⟩, HO, HB, ⟨Hg0, Hg1, Hg2, Hg3, Hg4, Hg5, HR⟩, ⟨⟨%f0, Hs0⟩, ⟨%f1, Hs1⟩, ⟨%f2, Hs2⟩, ⟨%f3, Hs3⟩, ⟨%f4, Hs4⟩, ⟨%f5, Hs5⟩⟩, ⟨Hc0, Hc1, Hc2, Hc3, Hc4, Hc5⟩, HW⟩, Hk⟩
  let L := loopInv c XW arg0 harg0 arg1 harg1 arg2 harg2 arg3 harg3 arg5 harg5 x0 x1 x2 x3 (bigZero c gB)
  sl_exec
  sl_step
  ihave HA := (asideP_open c XW) $$ HL7
  icases HA with ⟨HA4, ⟨HS5, HC5⟩, ⟨HS0, HC0⟩, ⟨HS1, HC1⟩, ⟨HS2, HC2⟩, ⟨HS3, HC3⟩, HAR⟩
  iapply Hk
  isplitl [HL0 HL1 HL2 HL3]
  · isplitl [HL0]; · iexact HL0
    isplitl [HL1]; · iexact HL1
    isplitl [HL2]; · iexact HL2
    iexact HL3
  have eP : bodyRun.sl.HL4_12 c XW arg0 arg1 arg2 arg3 x0 x1 x2 x3 gB = endPieces c XW arg0 arg1 arg2 arg3 x0 x1 x2 x3 (bigEnd c XW arg0 arg1 arg2 arg3 x0 x1 x2 x3 gB) := rfl
  have e0 : k0_pay73 (bodyRun.sl.r_10 c XW arg0 arg1 arg2 arg3 x0 x1 x2 x3 gB) (bodyRun.sl.r_11 c XW arg0 arg1 arg2 arg3 x0 x1 x2 x3 gB) = lseOf c XW arg0 arg1 arg2 arg3 x0 x1 x2 x3 0 (bigEnd c XW arg0 arg1 arg2 arg3 x0 x1 x2 x3 gB) := rfl
  have e1 : k0_pay74 (bodyRun.sl.v220 c XW arg0 arg1 arg2 arg3 x0 x1 x2 x3 gB) (bodyRun.sl.v223 c XW arg0 arg1 arg2 arg3 x0 x1 x2 x3 gB) = lseOf c XW arg0 arg1 arg2 arg3 x0 x1 x2 x3 1 (bigEnd c XW arg0 arg1 arg2 arg3 x0 x1 x2 x3 gB) := rfl
  have e2 : k0_pay1 (bodyRun.sl.v243 c XW arg0 arg1 arg2 arg3 x0 x1 x2 x3 gB) (bodyRun.sl.r_12 c XW arg0 arg1 arg2 arg3 x0 x1 x2 x3 gB) (bodyRun.sl.v246 c XW arg0 arg1 arg2 arg3 x0 x1 x2 x3 gB) = lseOf c XW arg0 arg1 arg2 arg3 x0 x1 x2 x3 2 (bigEnd c XW arg0 arg1 arg2 arg3 x0 x1 x2 x3 gB) := rfl
  have hout : iprop(arg5.view.loc (c : Thread nD τ) ↦[arg5.view.set]{fullShare} arg5.view.writes (Elt F) gO
        [rowPiece 2 (k0_pay1 (bodyRun.sl.v243 c XW arg0 arg1 arg2 arg3 x0 x1 x2 x3 gB) (bodyRun.sl.r_12 c XW arg0 arg1 arg2 arg3 x0 x1 x2 x3 gB) (bodyRun.sl.v246 c XW arg0 arg1 arg2 arg3 x0 x1 x2 x3 gB)),
          rowPiece 1 (k0_pay74 (bodyRun.sl.v220 c XW arg0 arg1 arg2 arg3 x0 x1 x2 x3 gB) (bodyRun.sl.v223 c XW arg0 arg1 arg2 arg3 x0 x1 x2 x3 gB)),
          rowPiece 0 (k0_pay73 (bodyRun.sl.r_10 c XW arg0 arg1 arg2 arg3 x0 x1 x2 x3 gB) (bodyRun.sl.r_11 c XW arg0 arg1 arg2 arg3 x0 x1 x2 x3 gB))])
      ⊢ (outP c arg5 (outOf c XW arg0 arg1 arg2 arg3 arg5 x0 x1 x2 x3 gO (bigEnd c XW arg0 arg1 arg2 arg3 x0 x1 x2 x3 gB)) : sProp 𝕄) := by
    rw [e0, e1, e2]
  isplitl [HO]
  · iapply hout; iexact HO
  isplitl [HL4]; · iexists _; iexact HL4
  isplitl [HL6_src HAR]
  · iapply (entails_of_eq (homes_all c XW).symm)
    isplitl [HL6_src]; · iexact HL6_src
    iexact HAR
  isplitl [HS0 HS1 HS2 HS3 HS5 HL6_dst HA4]
  · isplitl [HS0]; · iexact HS0
    isplitl [HS1]; · iexact HS1
    isplitl [HS2]; · iexact HS2
    isplitl [HS3]; · iexact HS3
    isplitl [HL6_dst HA4]
    · iapply (halves_slot c 4)
      isplitl [HL6_dst]; · iexists _; iexact HL6_dst
      iexact HA4
    iexact HS5
  isplitl [HC0 HC1 HC2 HC3 HC5 HL6]
  · isplitl [HC0]; · iexact HC0
    isplitl [HC1]; · iexact HC1
    isplitl [HC2]; · iexact HC2
    isplitl [HC3]; · iexact HC3
    isplitl [HL6]; · iexact HL6
    iexact HC5
  iexists _; iexact HL5

end Body
end Cert.Proof.LmHeadIdeal
end
-- ==== Proof.LmHeadIdeal.Stored.lean ====
/-
  What the logits kernel's scratch holds after its loop, as a recursion over the trips on the maxima and sums of each row
  block, and what its result block holds after the body, whatever both held before.
-/
module

public import proofs.«01_k».proof.Proof.LmHeadIdeal.Body
public import Idealize.ShloMosaic.Lib.WritesUnit
public import Idealize.ShloMosaic.Lib.Pipeline.ValueKit

@[expose] public section

noncomputable section

namespace Cert.Proof.LmHeadIdeal

open Cert.LogitsIdeal Cert.LogitsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # What the scratch holds after the loop, and the result block after the body -/

section Stored

variable (c : Dev nD) (XW : Buf (Elt F) (wM.view.loc (c : Thread nD τ)))
  (arg0 : Memref sig .tc .smem S3 .f32)
  (arg1 : Memref sig .tc .vmem S192x8192 .fp8e4m3)
  (arg2 : Memref sig .tc .vmem S192x128 .f32)
  (arg3 : Memref sig .tc .vmem S250x128 .f32)
  (arg5 : Memref sig .tc .vmem S3x63 .f32)
  (x0 : Buf (Elt F) (arg0.view.loc (c : Thread nD τ))) (x1 : Buf (Elt F) (arg1.view.loc (c : Thread nD τ)))
  (x2 : Buf (Elt F) (arg2.view.loc (c : Thread nD τ))) (x3 : Buf (Elt F) (arg3.view.loc (c : Thread nD τ)))

theorem st_eq (v : FVec F S64x128 .f32) : st v = v := shapeCast_id v _

/-! ## Reading through stores of 64 rows -/

theorem skipRows (f : bigM.view.ty.Contents (Elt F)) (o : ℕ) (inb) (v : FVec F S64x128 .f32) (L : List (View.Piece (Elt F) S33024x128 .f32)) (y : S33024x128.Idx)
    (h : (y 0).val < o ∨ o + 64 ≤ (y 0).val) :
    bigM.view.read (Elt F) (bigM.view.writes (Elt F) f (⟨Rect.unit (s := S33024x128) ![o, 0] S64x128.size inb, v⟩ :: L)) y
      = bigM.view.read (Elt F) (bigM.view.writes (Elt F) f L) y :=
  View.read_writes_cons_rows_of_not_mem bigM.view f inb v L y rfl rfl h
theorem hitRows (f : bigM.view.ty.Contents (Elt F)) (o : ℕ) (inb) (v : FVec F S64x128 .f32) (L : List (View.Piece (Elt F) S33024x128 .f32)) (i : S64x128.Idx) :
    bigM.view.read (Elt F) (bigM.view.writes (Elt F) f (⟨Rect.unit (s := S33024x128) ![o, 0] S64x128.size inb, v⟩ :: L))
      ((Rect.unit (s := S33024x128) ![o, 0] S64x128.size inb).toLoadRect.idx i) = v i :=
  View.read_writes_cons_rows_of_mem bigM.view f inb v L _ i rfl
    (by show o + 1 * (i 0).val = o + (i 0).val; omega) (by show 0 + 1 * (i 1).val = (i 1).val; omega)

/-- Stores of 64 rows each, none of which meets the rows from `o` on, leave a load of these rows as it was. -/
theorem load_skip (f : bigM.view.ty.Contents (Elt F)) (o o' : ℕ) (inb inb') (v : FVec F S64x128 .f32) (L : List (View.Piece (Elt F) S33024x128 .f32)) (h : o' + 64 ≤ o ∨ o + 64 ≤ o') :
    bigM.view.readAt (Elt F) (Rect.unit (s := S33024x128) ![o, 0] S64x128.size inb).toLoadRect
        (bigM.view.writes (Elt F) f (⟨Rect.unit (s := S33024x128) ![o', 0] S64x128.size inb', v⟩ :: L))
      = bigM.view.readAt (Elt F) (Rect.unit (s := S33024x128) ![o, 0] S64x128.size inb).toLoadRect (bigM.view.writes (Elt F) f L) := by
  funext i
  refine skipRows f o' inb' v L _ ?_
  have hi : (i 0).val < 64 := (i 0).isLt
  show o + 1 * (i 0).val < o' ∨ o' + 64 ≤ o + 1 * (i 0).val
  omega
/-- A load of the rows just stored reads what was stored. -/
theorem load_hit (f : bigM.view.ty.Contents (Elt F)) (o : ℕ) (inb) (v : FVec F S64x128 .f32) (L : List (View.Piece (Elt F) S33024x128 .f32)) :
    bigM.view.readAt (Elt F) (Rect.unit (s := S33024x128) ![o, 0] S64x128.size inb).toLoadRect
        (bigM.view.writes (Elt F) f (⟨Rect.unit (s := S33024x128) ![o, 0] S64x128.size inb, v⟩ :: L)) = v :=
  funext fun i => hitRows f o inb v L i

/-! ## A trip's step -/

section Step
variable (f : bigM.view.ty.Contents (Elt F)) (t : Fin 4 → FVec F S64x128 .f32) (u : Fin 2 → FVec F S64x128 .f32) (m l : FVec F S64x128 .f32) (L : List (View.Piece (Elt F) S33024x128 .f32))

/-- Another row block's stores do not touch row block `b`'s maxima or sums; -/
theorem skipBlockM (b b' : Fin 3) (h : b ≠ b') : mV c b (bigM.view.writes (Elt F) f (blockPieces t m l b' ++ L)) = mV c b (bigM.view.writes (Elt F) f L) := by
  have h' : b.val ≠ b'.val := fun e => h (Fin.ext e)
  have hb := b.isLt; have hb' := b'.isLt
  simp only [blockPieces, List.cons_append, List.nil_append]
  rw [mV, load_skip _ _ _ _ _ _ _ (by omega), load_skip _ _ _ _ _ _ _ (by omega), load_skip _ _ _ _ _ _ _ (by show 192 * 3 + _ + 64 ≤ _ ∨ _; omega),
    load_skip _ _ _ _ _ _ _ (by show 192 * 2 + _ + 64 ≤ _ ∨ _; omega), load_skip _ _ _ _ _ _ _ (by show 192 * 1 + _ + 64 ≤ _ ∨ _; omega), load_skip _ _ _ _ _ _ _ (by show 192 * 0 + _ + 64 ≤ _ ∨ _; omega)]
theorem skipBlockL (b b' : Fin 3) (h : b ≠ b') : lV c b (bigM.view.writes (Elt F) f (blockPieces t m l b' ++ L)) = lV c b (bigM.view.writes (Elt F) f L) := by
  have h' : b.val ≠ b'.val := fun e => h (Fin.ext e)
  have hb := b.isLt; have hb' := b'.isLt
  simp only [blockPieces, List.cons_append, List.nil_append]
  rw [lV, load_skip _ _ _ _ _ _ _ (by omega), load_skip _ _ _ _ _ _ _ (by omega), load_skip _ _ _ _ _ _ _ (by show 192 * 3 + _ + 64 ≤ _ ∨ _; omega),
    load_skip _ _ _ _ _ _ _ (by show 192 * 2 + _ + 64 ≤ _ ∨ _; omega), load_skip _ _ _ _ _ _ _ (by show 192 * 1 + _ + 64 ≤ _ ∨ _; omega), load_skip _ _ _ _ _ _ _ (by show 192 * 0 + _ + 64 ≤ _ ∨ _; omega)]
/-- its own set them. -/
theorem hitBlockM (b : Fin 3) : mV c b (bigM.view.writes (Elt F) f (blockPieces t m l b ++ L)) = maxOf t m := by
  have hb := b.isLt
  simp only [blockPieces, List.cons_append, List.nil_append]
  rw [mV, load_skip _ _ _ _ _ _ _ (by omega), load_hit, st_eq]
theorem hitBlockL (b : Fin 3) : lV c b (bigM.view.writes (Elt F) f (blockPieces t m l b ++ L)) = sumOf t m l (maxOf t m) := by
  simp only [blockPieces, List.cons_append, List.nil_append]
  rw [lV, load_hit, st_eq]
/-- The same for the stores of the last block. -/
theorem skipLastM (b b' : Fin 3) (h : b ≠ b') : mV c b (bigM.view.writes (Elt F) f (lastPieces u m l b' ++ L)) = mV c b (bigM.view.writes (Elt F) f L) := by
  have h' : b.val ≠ b'.val := fun e => h (Fin.ext e)
  have hb := b.isLt; have hb' := b'.isLt
  simp only [lastPieces, List.cons_append, List.nil_append]
  rw [mV, load_skip _ _ _ _ _ _ _ (by omega), load_skip _ _ _ _ _ _ _ (by omega), load_skip _ _ _ _ _ _ _ (by show 192 * 1 + _ + 64 ≤ _ ∨ _; omega), load_skip _ _ _ _ _ _ _ (by show 192 * 0 + _ + 64 ≤ _ ∨ _; omega)]
theorem skipLastL (b b' : Fin 3) (h : b ≠ b') : lV c b (bigM.view.writes (Elt F) f (lastPieces u m l b' ++ L)) = lV c b (bigM.view.writes (Elt F) f L) := by
  have h' : b.val ≠ b'.val := fun e => h (Fin.ext e)
  have hb := b.isLt; have hb' := b'.isLt
  simp only [lastPieces, List.cons_append, List.nil_append]
  rw [lV, load_skip _ _ _ _ _ _ _ (by omega), load_skip _ _ _ _ _ _ _ (by omega), load_skip _ _ _ _ _ _ _ (by show 192 * 1 + _ + 64 ≤ _ ∨ _; omega), load_skip _ _ _ _ _ _ _ (by show 192 * 0 + _ + 64 ≤ _ ∨ _; omega)]
theorem hitLastM (b : Fin 3) : mV c b (bigM.view.writes (Elt F) f (lastPieces u m l b ++ L)) = maxOf2 u m := by
  have hb := b.isLt
  simp only [lastPieces, List.cons_append, List.nil_append]
  rw [mV, load_skip _ _ _ _ _ _ _ (by omega), load_hit, st_eq]
theorem hitLastL (b : Fin 3) : lV c b (bigM.view.writes (Elt F) f (lastPieces u m l b ++ L)) = sumOf2 u m l (maxOf2 u m) := by
  simp only [lastPieces, List.cons_append, List.nil_append]
  rw [lV, load_hit, st_eq]
end Step

theorem fin3 (b : Fin 3) : b = 0 ∨ b = 1 ∨ b = 2 := by revert b; decide
/-- The three row blocks' stores together. -/
theorem threeM (f : bigM.view.ty.Contents (Elt F)) (t : Fin 3 → Fin 4 → FVec F S64x128 .f32) (m l : Fin 3 → FVec F S64x128 .f32) (b : Fin 3) :
    mV c b (bigM.view.writes (Elt F) f ((blockPieces (t 2) (m 2) (l 2) 2 ++ blockPieces (t 1) (m 1) (l 1) 1) ++ blockPieces (t 0) (m 0) (l 0) 0)) = maxOf (t b) (m b) := by
  rw [List.append_assoc]
  obtain rfl | rfl | rfl := fin3 b
  · rw [skipBlockM c _ _ _ _ _ 0 2 (by decide), skipBlockM c _ _ _ _ _ 0 1 (by decide), ← List.append_nil (blockPieces _ _ _ 0)]; exact hitBlockM ..
  · rw [skipBlockM c _ _ _ _ _ 1 2 (by decide)]; exact hitBlockM ..
  · exact hitBlockM ..
theorem threeL (f : bigM.view.ty.Contents (Elt F)) (t : Fin 3 → Fin 4 → FVec F S64x128 .f32) (m l : Fin 3 → FVec F S64x128 .f32) (b : Fin 3) :
    lV c b (bigM.view.writes (Elt F) f ((blockPieces (t 2) (m 2) (l 2) 2 ++ blockPieces (t 1) (m 1) (l 1) 1) ++ blockPieces (t 0) (m 0) (l 0) 0)) = sumOf (t b) (m b) (l b) (maxOf (t b) (m b)) := by
  rw [List.append_assoc]
  obtain rfl | rfl | rfl := fin3 b
  · rw [skipBlockL c _ _ _ _ _ 0 2 (by decide), skipBlockL c _ _ _ _ _ 0 1 (by decide), ← List.append_nil (blockPieces _ _ _ 0)]; exact hitBlockL ..
  · rw [skipBlockL c _ _ _ _ _ 1 2 (by decide)]; exact hitBlockL ..
  · exact hitBlockL ..
theorem threeLastM (f : bigM.view.ty.Contents (Elt F)) (t : Fin 3 → Fin 2 → FVec F S64x128 .f32) (m l : Fin 3 → FVec F S64x128 .f32) (b : Fin 3) :
    mV c b (bigM.view.writes (Elt F) f ((lastPieces (t 2) (m 2) (l 2) 2 ++ lastPieces (t 1) (m 1) (l 1) 1) ++ lastPieces (t 0) (m 0) (l 0) 0)) = maxOf2 (t b) (m b) := by
  rw [List.append_assoc]
  obtain rfl | rfl | rfl := fin3 b
  · rw [skipLastM c _ _ _ _ _ 0 2 (by decide), skipLastM c _ _ _ _ _ 0 1 (by decide), ← List.append_nil (lastPieces _ _ _ 0)]; exact hitLastM ..
  · rw [skipLastM c _ _ _ _ _ 1 2 (by decide)]; exact hitLastM ..
  · exact hitLastM ..
theorem threeLastL (f : bigM.view.ty.Contents (Elt F)) (t : Fin 3 → Fin 2 → FVec F S64x128 .f32) (m l : Fin 3 → FVec F S64x128 .f32) (b : Fin 3) :
    lV c b (bigM.view.writes (Elt F) f ((lastPieces (t 2) (m 2) (l 2) 2 ++ lastPieces (t 1) (m 1) (l 1) 1) ++ lastPieces (t 0) (m 0) (l 0) 0)) = sumOf2 (t b) (m b) (l b) (maxOf2 (t b) (m b)) := by
  rw [List.append_assoc]
  obtain rfl | rfl | rfl := fin3 b
  · rw [skipLastL c _ _ _ _ _ 0 2 (by decide), skipLastL c _ _ _ _ _ 0 1 (by decide), ← List.append_nil (lastPieces _ _ _ 0)]; exact hitLastL ..
  · rw [skipLastL c _ _ _ _ _ 1 2 (by decide)]; exact hitLastL ..
  · exact hitLastL ..

/-- After a trip, row block `b`'s maxima and sums are its maxima and sums before, carried over the trip's four tiles. -/
theorem nextM (k : Fin k0_t1_loop.trips) (b : Fin 3) (fo : Buf (Elt F) (bigM.view.loc (c : Thread nD τ))) :
    mV c b (nextO c XW arg0 arg1 arg2 arg3 x0 x1 x2 x3 k fo) = maxOf (fun r => tileAt c XW arg0 arg1 arg2 arg3 x0 x1 x2 x3 k r b) (mV c b fo) :=
  threeM c fo (fun b r => tileAt c XW arg0 arg1 arg2 arg3 x0 x1 x2 x3 k r b) (fun b => mV c b fo) (fun b => lV c b fo) b

theorem nextL (k : Fin k0_t1_loop.trips) (b : Fin 3) (fo : Buf (Elt F) (bigM.view.loc (c : Thread nD τ))) :
    lV c b (nextO c XW arg0 arg1 arg2 arg3 x0 x1 x2 x3 k fo) = sumOf (fun r => tileAt c XW arg0 arg1 arg2 arg3 x0 x1 x2 x3 k r b) (mV c b fo) (lV c b fo) (maxOf (fun r => tileAt c XW arg0 arg1 arg2 arg3 x0 x1 x2 x3 k r b) (mV c b fo)) :=
  threeL c fo (fun b r => tileAt c XW arg0 arg1 arg2 arg3 x0 x1 x2 x3 k r b) (fun b => mV c b fo) (fun b => lV c b fo) b

/-! ## The maxima and the sums over the whole loop -/

/-- Row block `b`'s maxima and sums before trip `n`. -/
def acc (b : Fin 3) : ℕ → FVec F S64x128 .f32 × FVec F S64x128 .f32
  | 0 => (broadcast S64x128 (Scalar.ofBits .f32 0xFF800000#32), broadcast S64x128 (Scalar.ofBits .f32 0x00000000#32))
  | n + 1 => if h : n < k0_t1_loop.trips then
      (maxOf (fun r => tileAt c XW arg0 arg1 arg2 arg3 x0 x1 x2 x3 ⟨n, h⟩ r b) (acc b n).1,
        sumOf (fun r => tileAt c XW arg0 arg1 arg2 arg3 x0 x1 x2 x3 ⟨n, h⟩ r b) (acc b n).1 (acc b n).2 (maxOf (fun r => tileAt c XW arg0 arg1 arg2 arg3 x0 x1 x2 x3 ⟨n, h⟩ r b) (acc b n).1))
    else acc b n
theorem acc_succ (b : Fin 3) (k : Fin k0_t1_loop.trips) : acc c XW arg0 arg1 arg2 arg3 x0 x1 x2 x3 b (k.val + 1)
    = (maxOf (fun r => tileAt c XW arg0 arg1 arg2 arg3 x0 x1 x2 x3 k r b) (acc c XW arg0 arg1 arg2 arg3 x0 x1 x2 x3 b k.val).1,
        sumOf (fun r => tileAt c XW arg0 arg1 arg2 arg3 x0 x1 x2 x3 k r b) (acc c XW arg0 arg1 arg2 arg3 x0 x1 x2 x3 b k.val).1 (acc c XW arg0 arg1 arg2 arg3 x0 x1 x2 x3 b k.val).2 (maxOf (fun r => tileAt c XW arg0 arg1 arg2 arg3 x0 x1 x2 x3 k r b) (acc c XW arg0 arg1 arg2 arg3 x0 x1 x2 x3 b k.val).1)) := by
  rw [acc, dif_pos k.isLt]

def wix (a : Fin 192) (l : Fin 128) : S192x128.Idx := fun | ⟨0, _⟩ => a | ⟨1, _⟩ => l
theorem pay43_apply (y : S192x128.Idx) : k0_pay43 (F := F) y = Scalar.ofBits .f32 0xFF800000#32 := by
  unfold k0_pay43; rw [shapeCast_id]; rfl
theorem pay44_apply (y : S192x128.Idx) : k0_pay44 (F := F) y = Scalar.ofBits .f32 0x00000000#32 := by
  unfold k0_pay44; rw [shapeCast_id]; rfl
theorem zeroM (b : Fin 3) (gB : Buf (Elt F) (bigM.view.loc (c : Thread nD τ))) : mV c b (bigZero c gB) = broadcast S64x128 (Scalar.ofBits .f32 0xFF800000#32) := by
  funext i
  have hi : (i 0).val < 64 := (i 0).isLt
  have hb := b.isLt
  have h1 : bigM.view.read (Elt F) (bigZero c gB) ((Rect.unit (s := S33024x128) ![768 + 64 * b.val, 0] S64x128.size (m_inb b)).toLoadRect.idx i)
      = k0_pay43 (F := F) (wix ⟨64 * b.val + (i 0).val, by omega⟩ (i 1)) := by
    rw [bigZero, View.read_writes_cons_rows_of_not_mem bigM.view gB _ _ _ _ rfl rfl (Or.inl (by show 768 + 64 * b.val + 1 * (i 0).val < 960; omega))]
    exact View.read_writes_cons_rows_of_mem bigM.view gB _ _ _ _ _ rfl (by show 768 + 64 * b.val + 1 * (i 0).val = 768 + (64 * b.val + (i 0).val); omega) (by show 0 + 1 * (i 1).val = (i 1).val; omega)
  exact h1.trans (pay43_apply _)
theorem zeroL (b : Fin 3) (gB : Buf (Elt F) (bigM.view.loc (c : Thread nD τ))) : lV c b (bigZero c gB) = broadcast S64x128 (Scalar.ofBits .f32 0x00000000#32) := by
  funext i
  have hi : (i 0).val < 64 := (i 0).isLt
  have hb := b.isLt
  have h1 : bigM.view.read (Elt F) (bigZero c gB) ((Rect.unit (s := S33024x128) ![960 + 64 * b.val, 0] S64x128.size (l_inb b)).toLoadRect.idx i)
      = k0_pay44 (F := F) (wix ⟨64 * b.val + (i 0).val, by omega⟩ (i 1)) := by
    exact View.read_writes_cons_rows_of_mem bigM.view gB _ _ _ _ _ rfl (by show 960 + 64 * b.val + 1 * (i 0).val = 960 + (64 * b.val + (i 0).val); omega) (by show 0 + 1 * (i 1).val = (i 1).val; omega)
  exact h1.trans (pay44_apply _)

theorem read_acc (b : Fin 3) (gB : Buf (Elt F) (bigM.view.loc (c : Thread nD τ))) (n : ℕ) (hn : n ≤ 62) :
    mV c b (bigAcc c XW arg0 arg1 arg2 arg3 x0 x1 x2 x3 (bigZero c gB) n) = (acc c XW arg0 arg1 arg2 arg3 x0 x1 x2 x3 b n).1 ∧ lV c b (bigAcc c XW arg0 arg1 arg2 arg3 x0 x1 x2 x3 (bigZero c gB) n) = (acc c XW arg0 arg1 arg2 arg3 x0 x1 x2 x3 b n).2 := by
  induction n with
  | zero => exact ⟨zeroM c b gB, zeroL c b gB⟩
  | succ n ih =>
    obtain ⟨hm, hl⟩ := ih (by omega)
    have hlt : n < k0_t1_loop.trips := by rw [trips_eq]; omega
    have e := bigAcc_succ c XW arg0 arg1 arg2 arg3 x0 x1 x2 x3 (bigZero c gB) ⟨n, hlt⟩
    have e' := acc_succ c XW arg0 arg1 arg2 arg3 x0 x1 x2 x3 b ⟨n, hlt⟩
    dsimp only at e e'
    rw [e, e', nextM, nextL, hm, hl]
    exact ⟨rfl, rfl⟩

/-- Row block `b`'s maxima and sums after the last block. -/
def finM (b : Fin 3) : FVec F S64x128 .f32 := maxOf2 (tileT c XW arg0 arg1 arg2 arg3 x0 x1 x2 x3 b) (acc c XW arg0 arg1 arg2 arg3 x0 x1 x2 x3 b 62).1
def finL (b : Fin 3) : FVec F S64x128 .f32 := sumOf2 (tileT c XW arg0 arg1 arg2 arg3 x0 x1 x2 x3 b) (acc c XW arg0 arg1 arg2 arg3 x0 x1 x2 x3 b 62).1 (acc c XW arg0 arg1 arg2 arg3 x0 x1 x2 x3 b 62).2 (finM c XW arg0 arg1 arg2 arg3 x0 x1 x2 x3 b)

theorem lseOf_eq (b : Fin 3) (gB : Buf (Elt F) (bigM.view.loc (c : Thread nD τ))) : lseOf c XW arg0 arg1 arg2 arg3 x0 x1 x2 x3 b (bigEnd c XW arg0 arg1 arg2 arg3 x0 x1 x2 x3 gB) = k0_pay74 (finM c XW arg0 arg1 arg2 arg3 x0 x1 x2 x3 b) (finL c XW arg0 arg1 arg2 arg3 x0 x1 x2 x3 b) := by
  have hM : bigM.view.readCov (endPieces c XW arg0 arg1 arg2 arg3 x0 x1 x2 x3 (bigEnd c XW arg0 arg1 arg2 arg3 x0 x1 x2 x3 gB)) (Rect.unit (s := S33024x128) ![768 + 64 * b.val, 0] S64x128.size (m_inb b)).toLoadRect = finM c XW arg0 arg1 arg2 arg3 x0 x1 x2 x3 b := by
    show mV c b (bigM.view.writes (Elt F) bigM.view.junk _) = _
    obtain ⟨hm, hl⟩ := read_acc c XW arg0 arg1 arg2 arg3 x0 x1 x2 x3 b gB 62 le_rfl
    unfold endPieces finM; rw [← hm]
    exact threeLastM c _ (fun b => tileT c XW arg0 arg1 arg2 arg3 x0 x1 x2 x3 b) (fun b => mV c b (bigEnd c XW arg0 arg1 arg2 arg3 x0 x1 x2 x3 gB)) (fun b => lV c b (bigEnd c XW arg0 arg1 arg2 arg3 x0 x1 x2 x3 gB)) b
  have hL : bigM.view.readCov (endPieces c XW arg0 arg1 arg2 arg3 x0 x1 x2 x3 (bigEnd c XW arg0 arg1 arg2 arg3 x0 x1 x2 x3 gB)) (Rect.unit (s := S33024x128) ![960 + 64 * b.val, 0] S64x128.size (l_inb b)).toLoadRect = finL c XW arg0 arg1 arg2 arg3 x0 x1 x2 x3 b := by
    show lV c b (bigM.view.writes (Elt F) bigM.view.junk _) = _
    obtain ⟨hm, hl⟩ := read_acc c XW arg0 arg1 arg2 arg3 x0 x1 x2 x3 b gB 62 le_rfl
    unfold endPieces finL finM; rw [← hm, ← hl]
    exact threeLastL c _ (fun b => tileT c XW arg0 arg1 arg2 arg3 x0 x1 x2 x3 b) (fun b => mV c b (bigEnd c XW arg0 arg1 arg2 arg3 x0 x1 x2 x3 gB)) (fun b => lV c b (bigEnd c XW arg0 arg1 arg2 arg3 x0 x1 x2 x3 gB)) b
  rw [lseOf, hM, hL]

/-- Column `s` of a row of results. -/
def rix (s : Fin 63) : S1x63.Idx := fun | ⟨0, _⟩ => (0 : Fin 1) | ⟨1, _⟩ => s
def outBlock (y : S3x63.Idx) : Fin 3 := ⟨(y 0).val, (y 0).isLt⟩
def outCol (y : S3x63.Idx) : Fin 63 := ⟨(y 1).val, (y 1).isLt⟩
/-- What element `y` of the result block holds after the body. -/
def outVal (y : S3x63.Idx) : F .f32 := k0_pay74 (finM c XW arg0 arg1 arg2 arg3 x0 x1 x2 x3 (outBlock y)) (finL c XW arg0 arg1 arg2 arg3 x0 x1 x2 x3 (outBlock y)) (rix (outCol y))

theorem skipRow (g : arg5.view.ty.Contents (Elt F)) (b : Fin 3) (v : FVec F S1x63 .f32) (L) (y : S3x63.Idx) (h : (y 0).val ≠ b.val) :
    arg5.view.read (Elt F) (arg5.view.writes (Elt F) g (rowPiece b v :: L)) y = arg5.view.read (Elt F) (arg5.view.writes (Elt F) g L) y :=
  View.read_writes_cons_rows_of_not_mem arg5.view g (row_inb b) v L y rfl rfl (show (y 0).val < b.val ∨ b.val + 1 ≤ (y 0).val by omega)
theorem hitRow (g : arg5.view.ty.Contents (Elt F)) (b : Fin 3) (v : FVec F S1x63 .f32) (L) (y : S3x63.Idx) (h : (y 0).val = b.val) :
    arg5.view.read (Elt F) (arg5.view.writes (Elt F) g (rowPiece b v :: L)) y = v (rix (outCol y)) :=
  View.read_writes_cons_rows_of_mem arg5.view g (row_inb b) v L y (rix (outCol y)) rfl (by show (y 0).val = b.val + 0; omega) rfl

/-- After the body every element has been stored, whatever was there before. -/
theorem read_outOf (gO) (gB) :
    arg5.view.read (Elt F) (outOf c XW arg0 arg1 arg2 arg3 arg5 x0 x1 x2 x3 gO (bigEnd c XW arg0 arg1 arg2 arg3 x0 x1 x2 x3 gB)) = outVal c XW arg0 arg1 arg2 arg3 x0 x1 x2 x3 := by
  funext y
  rw [outOf, lseOf_eq, lseOf_eq, lseOf_eq, outVal]
  have hy : (y 0).val < 3 := (y 0).isLt
  rcases (by omega : (y 0).val = 0 ∨ (y 0).val = 1 ∨ (y 0).val = 2) with h | h | h
  · rw [skipRow _ _ _ _ _ _ (by rw [h]; decide), skipRow _ _ _ _ _ _ (by rw [h]; decide), hitRow _ _ _ _ _ _ h, show outBlock y = 0 from Fin.ext h]
  · rw [skipRow _ _ _ _ _ _ (by rw [h]; decide), hitRow _ _ _ _ _ _ h, show outBlock y = 1 from Fin.ext h]
  · rw [hitRow _ _ _ _ _ _ h, show outBlock y = 2 from Fin.ext h]

end Stored
end Cert.Proof.LmHeadIdeal
end
-- ==== Proof.LmHeadIdeal.Launch.lean ====
/-
  The logits kernel's launch: the weight whole is its 62 column blocks of 512 and its last one of 256, the ring whole is its six slots; the
  body's run is the pipeline's body obligation at its one point; and the whole program runs to a final state with the
  result at the computed contents, the arguments unchanged and every semaphore counter at zero.
-/
module

public import proofs.«01_k».proof.Proof.LmHeadIdeal.Stored

@[expose] public section

noncomputable section

namespace Cert.Proof.LmHeadIdeal

open Cert.LogitsIdeal Cert.LogitsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## @main up to the region -/

abbrev hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The weight's contents, as the column blocks read them. -/
abbrev XWof (c : Dev nD) : Buf (Elt F) (wM.view.loc (c : Thread nD τ)) := m ((c : Thread nD τ).loc main_arg2)

/-! ## The kernel's own semaphores -/

abbrev osem : Fin 6 → SemLoc sig := fun s => .dma (csm s).sem
theorem ownSemFacts : Pipeline.OwnSemFacts spec0 osem := by decide

/-! ## Element sets: the weight's column blocks, the ring's slots -/

abbrev G62 (b : Fin 62) : Finset S8192x32000.Idx := (Rect.unit (s := S8192x32000) (grpOff b) S8192x512.size (grpOff_inb b)).set
abbrev GT : Finset S8192x32000.Idx := (Rect.unit (s := S8192x32000) tailOff S8192x256.size tailOff_inb).set
abbrev S6s (s : Fin 6) : Finset S6x8192x512.Idx := (Rect.unit (s := S6x8192x512) (slotOff s) S1x8192x512.size (slotOff_inb s)).set
/-- Column block `b` of the 63. -/
def B63 (b : Fin 63) : Finset S8192x32000.Idx := if h : b.val < 62 then G62 ⟨b.val, h⟩ else GT

omit [FloatOps F] in
theorem grp_set (b : Fin 62) : (grp b : Memref sig .tc .hbm _ _).view.set = G62 b := View.set_slice_whole _ _
omit [FloatOps F] in
theorem grpT_set : (grpT : Memref sig .tc .hbm _ _).view.set = GT := View.set_slice_whole _ _
omit [FloatOps F] in
theorem rslot_set (s : Fin 6) : (rslot s : Memref sig .tc .vmem _ _).view.set = S6s s := (View.set_reshape _ _).trans (View.set_slice_whole _ _)

theorem mem_G62 (b : Fin 62) (y : S8192x32000.Idx) : y ∈ G62 b ↔ (y 1).val / 512 = b.val := by
  rw [Rect.mem_set_unit]
  have h0 : (y 0).val < 8192 := (y 0).isLt
  constructor
  · intro H; have a0 : 512 * b.val ≤ (y 1).val ∧ (y 1).val < 512 * b.val + 512 := H 1; omega
  · intro H i; fin_cases i
    · show 0 ≤ (y 0).val ∧ (y 0).val < 0 + 8192; omega
    · show 512 * b.val ≤ (y 1).val ∧ (y 1).val < 512 * b.val + 512; omega
theorem mem_GT (y : S8192x32000.Idx) : y ∈ GT ↔ (y 1).val / 512 = 62 := by
  rw [Rect.mem_set_unit]
  have h0 : (y 0).val < 8192 := (y 0).isLt
  have h1 : (y 1).val < 32000 := (y 1).isLt
  constructor
  · intro H; have a0 : 31744 ≤ (y 1).val ∧ (y 1).val < 31744 + 256 := H 1; omega
  · intro H i; fin_cases i
    · show 0 ≤ (y 0).val ∧ (y 0).val < 0 + 8192; omega
    · show 31744 ≤ (y 1).val ∧ (y 1).val < 31744 + 256; omega
theorem mem_B63 (b : Fin 63) (y : S8192x32000.Idx) : y ∈ B63 b ↔ (y 1).val / 512 = b.val := by
  have := b.isLt
  unfold B63; split
  · exact mem_G62 _ y
  · rw [mem_GT]; omega
theorem mem_S6s (s : Fin 6) (y : S6x8192x512.Idx) : y ∈ S6s s ↔ (y 0).val = s.val := by
  rw [Rect.mem_set_unit]
  have h1 : (y 1).val < 8192 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 8192; omega
    · show 0 ≤ (y 2).val ∧ (y 2).val < 0 + 512; omega
theorem B63_disjoint : ∀ j j' : Fin 63, j ≠ j' → Disjoint (B63 j) (B63 j') := by
  intro j j' hne; rw [Finset.disjoint_left]; intro y hy hy'; rw [mem_B63] at hy hy'
  exact hne (Fin.ext (by omega))
theorem B63_cover : (Finset.univ : Finset (Fin 63)).biUnion B63 = Finset.univ := by
  ext y; simp only [Finset.mem_biUnion, Finset.mem_univ, true_and, iff_true]
  have h1 : (y 1).val < 32000 := (y 1).isLt
  refine ⟨⟨(y 1).val / 512, by omega⟩, ?_⟩
  rw [mem_B63]
theorem S6s_disjoint : ∀ s s' : Fin 6, s ≠ s' → Disjoint (S6s s) (S6s s') := by
  intro s s' hne; rw [Finset.disjoint_left]; intro y hy hy'; rw [mem_S6s] at hy hy'; exact hne (Fin.ext (hy.symm.trans hy'))
theorem S6s_cover : (Finset.univ : Finset (Fin 6)).biUnion S6s = Finset.univ := by
  ext y; simp only [Finset.mem_biUnion, Finset.mem_univ, true_and, iff_true]; exact ⟨(y 0).cast (by decide), by rw [mem_S6s]; rfl⟩

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

/-- The weight whole is its 63 column blocks; -/
theorem w_eq (c : Dev nD) (XW : Buf (Elt F) (wM.view.loc (c : Thread nD τ))) :
    (((c : Thread nD τ).loc main_arg2) ↦{fullShare} XW : sProp 𝕄) = bigSep Finset.univ (blockP c XW) := by
  rw [Ring.pointsTo_blocks (ℓ := (c : Thread nD τ).loc main_arg2) B63 B63_disjoint B63_cover]
  refine bigSep_congr fun j _ => ?_
  unfold blockP B63
  split
  · rw [homeP, grp_set]; rfl
  · rw [homeTP, grpT_set]; rfl
/-- at the body's entry, the first six blocks apart from the rest. -/
theorem homes_zero (c : Dev nD) (XW : Buf (Elt F) (wM.view.loc (c : Thread nD τ))) :
    bigSep Finset.univ (blockP c XW) = iprop(homeP c XW 0 ∗ homeP c XW 1 ∗ homeP c XW 2 ∗ homeP c XW 3 ∗ homeP c XW 4 ∗ homeP c XW 5
      ∗ bigSep (Ring.homeSet (NB := 63) 6 0) (blockP c XW)) := by
  have e : (Finset.univ : Finset (Fin 63)) = insert 0 (insert 1 (insert 2 (insert 3 (insert 4 (insert 5 (Ring.homeSet (NB := 63) 6 0)))))) := by
    ext b; simp only [Finset.mem_univ, Finset.mem_insert, Ring.mem_homeSet, true_iff, Fin.ext_iff]; have := b.isLt
    show b.val = 0 ∨ b.val = 1 ∨ b.val = 2 ∨ b.val = 3 ∨ b.val = 4 ∨ b.val = 5 ∨ _; omega
  rw [e, bigSep_insert (by simp [Ring.mem_homeSet, Fin.ext_iff]), bigSep_insert (by simp [Ring.mem_homeSet, Fin.ext_iff]), bigSep_insert (by simp [Ring.mem_homeSet, Fin.ext_iff]),
    bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 6) (f) : slotP c s f = (((c : Thread nD τ).loc cc0_scratch0) ↦[S6s s]{fullShare} f : sProp 𝕄) :=
  congrArg (fun S => (_ ↦[S]{fullShare} f : sProp 𝕄)) (rslot_set s)
/-- The ring whole is its six slots, and back. -/
theorem ring_split (c : Dev nD) :
    iprop(∃ f : Buf (Elt F) ((c : Thread nD τ).loc cc0_scratch0), ((c : Thread nD τ).loc cc0_scratch0) ↦{fullShare} f) ⊢ (slotsP c : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S6s S6s_disjoint S6s_cover f).trans (bigSep_fin6 _))) $$ H
  icases H2 with ⟨H0, H1, H2, H3, H4, H5⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  isplitl [H3]; · iexists f; iapply (entails_of_eq (slotP_eq c 3 f).symm); iexact H3
  isplitl [H4]; · iexists f; iapply (entails_of_eq (slotP_eq c 4 f).symm); iexact H4
  iexists f; iapply (entails_of_eq (slotP_eq c 5 f).symm); iexact H5
theorem ring_join (c : Dev nD) :
    (slotsP c : sProp 𝕄) ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩, ⟨%f4, H4⟩, ⟨%f5, H5⟩⟩
  iapply (Ring.pointsTo_blocks_join_exists (ℓ := (c : Thread nD τ).loc cc0_scratch0) S6s S6s_disjoint S6s_cover f0)
  irw [bigSep_fin6]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  isplitl [H3]; · iexists f3; iapply (entails_of_eq (slotP_eq c 3 f3)); iexact H3
  isplitl [H4]; · iexists f4; iapply (entails_of_eq (slotP_eq c 4 f4)); iexact H4
  iexists f5; iapply (entails_of_eq (slotP_eq c 5 f5)); iexact H5

omit [FloatOps F] in
/-- The kernel's own cells at zero are the six slots' cells. -/
theorem ownSems0_eq (c : Dev nD) : (Pipeline.ownSems0 (Ix := Unit) (Name := ℕ) (U := UU nD τ) (Lvl := ℕ) (Val := Elt F) (τ := τ) osem c : sProp 𝕄)
    = cellsP (F := F) c := by
  unfold Pipeline.ownSems0; rw [bigSep_fin6]

abbrev anyBig (c : Dev nD) : sProp 𝕄 := iprop(∃ f, bigP (F := F) c f)
theorem big_set : (bigM : Memref sig .tc .vmem S33024x128 .f32).view.set = Finset.univ := View.set_whole _
/-- The scratch of tiles, maxima and sums whole is its whole view, and back. -/
theorem big_in (c : Dev nD) :
    iprop(∃ f : Buf (Elt F) ((c : Thread nD τ).loc cc0_scratch1), ((c : Thread nD τ).loc cc0_scratch1) ↦{fullShare} f) ⊢ (anyBig c : sProp 𝕄) := by
  iintro ⟨%f, H⟩
  iexists f
  iapply (entails_of_eq (congrArg (fun S => (((c : Thread nD τ).loc cc0_scratch1) ↦[S]{fullShare} f : sProp 𝕄)) big_set.symm)); iexact H
theorem big_out (c : Dev nD) :
    (anyBig c : sProp 𝕄) ⊢ iprop(∃ f : Buf (Elt F) ((c : Thread nD τ).loc cc0_scratch1), ((c : Thread nD τ).loc cc0_scratch1) ↦{fullShare} f) := by
  iintro ⟨%f, H⟩
  iexists f
  iapply (entails_of_eq (congrArg (fun S => (((c : Thread nD τ).loc cc0_scratch1) ↦[S]{fullShare} f : sProp 𝕄)) big_set)); iexact H

/-! ## The pipeline's proof data -/

/-- The region invariant, the same before and after the one point: the weight's blocks held, the six slots and the
    scratch of tiles, maxima and sums at anything, the six cells at zero. -/
def Φ (c : Dev nD) : sProp 𝕄 :=
  iprop(bigSep Finset.univ (blockP c (XWof m c)) ∗ slotsP c ∗ anyBig c ∗ cellsP (F := F) c)

abbrev st0 (t : Fin cfg0.N) : Memref sig .tc .smem S3 .f32 := win0_0.stage (cfg0.slots t 0)
abbrev st1 (t : Fin cfg0.N) : Memref sig .tc .vmem S192x8192 .fp8e4m3 := win0_1.stage (cfg0.slots t 1)
abbrev st2 (t : Fin cfg0.N) : Memref sig .tc .vmem S192x128 .f32 := win0_2.stage (cfg0.slots t 2)
abbrev st3 (t : Fin cfg0.N) : Memref sig .tc .vmem S250x128 .f32 := win0_3.stage (cfg0.slots t 3)
abbrev st4 (t : Fin cfg0.N) : Memref sig .tc .vmem S3x63 .f32 := win0_4.stage (cfg0.slots t 4)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0
abbrev hst4 (t : Fin cfg0.N) : (st4 t).IsWhole := hstage0_4 0

/-- The four inputs' staging buffers, holding their blocks. -/
abbrev in0 (c : Dev nD) (t : Fin cfg0.N) := (st0 t).view.rep (Val := Elt F) (iblk m c 0 t)
abbrev in1 (c : Dev nD) (t : Fin cfg0.N) := (st1 t).view.rep (Val := Elt F) (iblk m c 1 t)
abbrev in2 (c : Dev nD) (t : Fin cfg0.N) := (st2 t).view.rep (Val := Elt F) (iblk m c 2 t)
abbrev in3 (c : Dev nD) (t : Fin cfg0.N) := (st3 t).view.rep (Val := Elt F) (iblk m c 3 t)

/-- What the body leaves in the result's block. -/
def outAt (c : Dev nD) (t : Fin cfg0.N) : (cfg0.win 4).block.Idx → Elt F (cfg0.win 4).elt :=
  outVal c (XWof m c) (st0 t) (st1 t) (st2 t) (st3 t) (in0 m c t) (in1 m c t) (in2 m c t) (in3 m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0 t) (hst0 t) (st1 t) (hst1 t) (st2 t) (hst2 t) (st3 t) (hst3 t) (st4 t) (hst4 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, HS, ⟨%gB, HM⟩, HC⟩, ⟨%W, -, HW⟩, ⟨%d0, %g0, %hg0, H0⟩, ⟨%d1, %g1, %hg1, H1⟩, ⟨%d2, %g2, %hg2, H2⟩, ⟨%d3, %g3, %hg3, H3⟩, ⟨%d4, %gO, -, HO⟩⟩
  ihave Hh3 := (entails_of_eq (homes_zero c (XWof m c))) $$ Hh
  icases Hh3 with ⟨Hg0, Hg1, Hg2, Hg3, Hg4, Hg5, HR⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  rw [hg0, hg1, hg2, hg3]
  sl_rw [prog_eq t]
  iapply (bodyRun c (XWof m c) (st0 t) (hst0 t) (st1 t) (hst1 t) (st2 t) (hst2 t) (st3 t) (hst3 t) (st4 t) (hst4 t) (in0 m c t) (in1 m c t) (in2 m c t) (in3 m c t) gO gB W)
  isplitl [H0' H1' H2' H3' HO HM Hg0 Hg1 Hg2 Hg3 Hg4 Hg5 HR HS HC HW]
  · isplitl [H0' H1' H2' H3']
    · isplitl [H0']; · iexact H0'
      isplitl [H1']; · iexact H1'
      isplitl [H2']; · iexact H2'
      iexact H3'
    isplitl [HO]; · iexact HO
    isplitl [HM]; · iexact HM
    isplitl [Hg0 Hg1 Hg2 Hg3 Hg4 Hg5 HR]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      iexact HR
    isplitl [HS]; · iexact HS
    isplitl [HC]; · iexact HC
    iexact HW
  · iintro ⟨⟨H0, H1, H2, H3⟩, HO, HM, Hh, HS, HC, ⟨%W', HW⟩⟩
    isplitl [Hh HS HM HC]
    · isplitl [Hh]; · iexact Hh
      isplitl [HS]; · iexact HS
      isplitl [HM]; · iexact HM
      iexact HC
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr
    · ipureintro; exact read_outOf c (XWof m c) (st0 t) (st1 t) (st2 t) (st3 t) (st4 t) (in0 m c t) (in1 m c t) (in2 m c t) (in3 m c t) gO gB
    iexact HO

/-! ## The run -/

def intoΦ (c : Dev nD) : sProp 𝕄 := iprop(bigSep Finset.univ (blockP c (XWof m c)) ∗ Pipeline.ownSems0 osem c)
/-- The arguments no window stages, unchanged. -/
abbrev argP (c : Dev nD) (b : Ref sig .tc) : sProp 𝕄 := ((c : Thread nD τ).loc b) ↦{fullShare} m ((c : Thread nD τ).loc b)
def outOfΦ (c : Dev nD) : sProp 𝕄 := argP m c main_arg2
def keptZ (c : Dev nD) : sProp 𝕄 := iprop(argP m c main_arg1 ∗ argP m c main_arg3)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg2) = m ((c : Thread nD τ).loc main_arg2)
  ∧ s.mem ((c : Thread nD τ).loc main_arg1) = m ((c : Thread nD τ).loc main_arg1)
  ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- At the compiled mesh, for any float values, from any memory with zero counters: every weakly fair execution of
    @main on the TensorCores terminates, and every final state has the windows' arrays at the computed contents, the
    other arguments unchanged, every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := outOfΦ m) (Z := keptZ m)
    (hX := fun c => by
      rw [unscopedRest0_eq, V_main_arg1, V_main_arg2, V_main_arg3, w_eq c (XWof m c)]
      unfold intoΦ keptZ
      iintro ⟨⟨H1, H2, H3, -⟩, HS, -, -⟩; imodintro
      isplitl [H2 HS]
      · isplitl [H2]; · iexact H2
        iexact HS
      isplitl [H1]; · iexact H1
      iexact H3)
    (hin := fun c => by
      rw [scopedRest0_eq, show (dats m 0 c).Φ 0 = Φ m c from rfl]
      unfold intoΦ Φ; rw [ownSems0_eq]
      iintro ⟨⟨H0, HC⟩, Hb, Hm⟩
      ihave Hs := (ring_split c) $$ Hb
      isplitl [H0]; · iexact H0
      isplitl [Hs]; · iexact Hs
      isplitl [Hm]
      · iapply (big_in c); iexact Hm
      iexact HC)
    (hout := fun c => by
      rw [scopedRest0_eq, show (dats m 0 c).Φ (Fin.last cfg0.N) = Φ m c from rfl, ownSems0_eq]
      unfold Φ outOfΦ argP; rw [w_eq c (XWof m c)]
      iintro ⟨H0, HS, HM, HC⟩
      isplitl [H0]; · iexact H0
      isplitl [HC]; · iexact HC
      isplitl [HS]
      · iapply (ring_join c); iexact HS
      iapply (big_out c); iexact HM)
    (QY := QY m)
    (hY := fun c s' => by
      unfold outOfΦ keptZ argP QY
      iintro ⟨H2, ⟨H1, H3⟩, HSI⟩
      icombine HSI H2 gives %h2
      icombine HSI H1 gives %h1
      icombine HSI H3 gives %h3
      imodintro
      isplitr
      · ipureintro; exact ⟨Buf.eq_of_forall_mem_univ h2, Buf.eq_of_forall_mem_univ h1, Buf.eq_of_forall_mem_univ h3⟩
      iexact HSI)
    (hQ := fun _ hh hz => ⟨hh, hz⟩)

theorem finalA_arg0 (c : Dev nD) : finalA m c 1 = m ((c : Thread nD τ).loc main_arg0) :=
  ((dats (F := F) m 0 c).arrAt_in 1 rfl _).trans (V_main_arg0 m c)
theorem finalA_arg4 (c : Dev nD) : finalA m c 0 = m ((c : Thread nD τ).loc main_arg4) :=
  ((dats (F := F) m 0 c).arrAt_in 0 rfl _).trans (V_main_arg4 m c)

end Cert.Proof.LmHeadIdeal
end
-- ==== Proof.LmHeadIdeal.KernelValue.lean ====
/-
  What the kernel's result array holds over the extended reals: the logarithms of the sums of the exponentials of its
  arguments' logits.
-/
module

public import proofs.«01_k».proof.Proof.LmHeadIdeal.Spec
public import proofs.«01_k».proof.Proof.LmHeadIdeal.Launch
public import Idealize.ShloMosaic.Lib.Pipeline.ValueKit

@[expose] public section

set_option maxRecDepth 16384

noncomputable section

namespace Cert.Proof.LmHeadIdeal

open Cert.LogitsIdeal Cert.LogitsIdeal.Gen Idealize.ShloMosaic Idealize.ShloMosaic.TcCoe Idealize.SL.Sem
open Idealize.ShloMosaic.Pipeline (Dat)

/-! ## The last step: one row block's result from its lanes' maxima and sums -/

/-- A diagonal of 64 values summed over the rows: in a lane below 64, the lane's own. -/
theorem sum_diag (v : Fin 64 → EReal) (j : Fin 64) : (∑ i : Fin 64, if i = j then v i else 0) = v j := by
  rw [Finset.sum_ite_eq' Finset.univ j v, if_pos (Finset.mem_univ j)]

/-- The word comparison of two numbers below 64. -/
theorem cmpi_diag (s : Fin 63) (i : Fin 64) : IntOp.cmpi CmpIPredicate.eq (BitVec.ofNat 32 s.val) (BitVec.ofNat 32 i.val) = 1#1 ↔ i.val = s.val := by
  revert s i; decide

/-- A row block's result in column `s`: the greatest of the lanes' maxima, plus the logarithm of the lanes' sums moved to it. -/
theorem pay74_apply (M L : FVec Ideal S64x128 .f32) (s : Fin 63) (j : Fin 64) (hj : j.val = s.val) :
    k0_pay74 M L (rix s) = (Finset.univ.sup fun l : Fin 128 => M (ix2 j l))
      + Ideal.log (∑ l : Fin 128, L (ix2 j l) * Ideal.exp (M (ix2 j l) - Finset.univ.sup fun l : Fin 128 => M (ix2 j l))) := by
  rw [show rix s = ix2 0 s from by funext a; fin_cases a <;> rfl]
  unfold k0_pay74
  pointwise
  simp only [fold_max]
  refine Eq.trans (Finset.sum_congr rfl fun i _ => ?_) (sum_diag (fun i => (Finset.univ.sup fun l : Fin 128 => M (ix2 i l))
      + Ideal.log (∑ l : Fin 128, L (ix2 i l) * Ideal.exp (M (ix2 i l) - Finset.univ.sup fun l : Fin 128 => M (ix2 i l)))) j)
  have e : (IntOp.cmpi CmpIPredicate.eq (BitVec.ofNat 32 s.val) (BitVec.ofNat 32 i.val) = 1#1) ↔ i = j := by
    rw [cmpi_diag, Fin.ext_iff, hj]
  unfold Scalar.select
  exact if_congr e rfl rfl

/-! ## One tile -/

/-- Element `(s, l)` of a piece, scaled. -/
theorem scaled_apply (g rs : FVec Ideal S64x128 .f32) (sc : FVec Ideal S1x128 .f32) (t : EReal) (s : Fin 64) (l : Fin 128) :
    scaled g rs sc t (ix2 s l) = g (ix2 s l) * rs (ix2 s l) * sc (ix2 0 l) * t := by
  unfold scaled
  pointwise

/-! ## A slot's contents -/

section Slot
variable (c : Dev nD) (XW : Buf (Elt Ideal) (wM.view.loc (c : Thread nD τ)))

/-- A slot in which column block `b` has landed reads, as a matrix, that block of the weight. -/
theorem slot_cast (s : Fin 6) (b : Fin 62) (f) (off : Fin 3 → Nat) (e : off = slotOff s) (hh) :
    shapeCast S8192x512 (ringM.view.readAt (Elt Ideal) (Rect.unit (s := S6x8192x512) off S1x8192x512.size hh).toLoadRect (landed c XW s b f))
      shapeCasts_S1x8192x512_S8192x512 = (grp b).view.read (Elt Ideal) XW := by
  subst e
  have h1 : ∀ f' : Buf (Elt Ideal) ((rslot s).view.loc (c : Thread nD τ)),
      shapeCast S8192x512 (ringM.view.readAt (Elt Ideal) (Rect.unit (s := S6x8192x512) (slotOff s) S1x8192x512.size hh).toLoadRect f')
        shapeCasts_S1x8192x512_S8192x512 = (rslot s).view.read (Elt Ideal) f' := fun _ => rfl
  rw [h1]
  exact View.read_writes_whole (rslot s).view f _
/-- The half slot in which the last column block has landed likewise. -/
theorem slotT_cast (f) (hh) :
    shapeCast S8192x256 (ringM.view.readAt (Elt Ideal) (Rect.unit (s := S6x8192x512) ![4, 0, 0] S1x8192x256.size hh).toLoadRect (landedT c XW 4 f))
      shapeCasts_S1x8192x256_S8192x256 = grpT.view.read (Elt Ideal) XW := by
  have h1 : ∀ f' : Buf (Elt Ideal) ((rslotT 4).view.loc (c : Thread nD τ)),
      shapeCast S8192x256 (ringM.view.readAt (Elt Ideal) (Rect.unit (s := S6x8192x512) ![4, 0, 0] S1x8192x256.size hh).toLoadRect f')
        shapeCasts_S1x8192x256_S8192x256 = (rslotT 4).view.read (Elt Ideal) f' := fun _ => rfl
  rw [h1]
  exact View.read_writes_whole (rslotT 4).view f _

/-- Element `(d, n)` of column block `b` is the weight's at column `512 b + n`. -/
theorem grp_apply (b : Fin 62) (d : Fin 8192) (n : Fin 512) (j : Fin 32000) (hj : j.val = 512 * b.val + n.val) :
    (grp b).view.read (Elt Ideal) XW (ix2 d n) = XW (ix2 d j) := by
  refine congrArg XW (show (grp b).view.emb (ix2 d n) = ix2 d j from funext fun a => Fin.ext ?_)
  fin_cases a
  · show 0 + 1 * d.val = d.val; omega
  · show 512 * b.val + 1 * n.val = j.val; omega
/-- Element `(d, n)` of the last column block is the weight's at column `31744 + n`. -/
theorem grpT_apply (d : Fin 8192) (n : Fin 256) (j : Fin 32000) (hj : j.val = 31744 + n.val) :
    grpT.view.read (Elt Ideal) XW (ix2 d n) = XW (ix2 d j) := by
  refine congrArg XW (show grpT.view.emb (ix2 d n) = ix2 d j from funext fun a => Fin.ext ?_)
  fin_cases a
  · show 0 + 1 * d.val = d.val; omega
  · show 31744 + 1 * n.val = j.val; omega
end Slot

/-! ## The two products -/

/-- An element of the product with a column block, and with the last one. -/
theorem pay2_apply (x : Vec Ideal S192x8192 .fp8e4m3) (w : Vec Ideal S1x8192x512 .fp8e4m3) (W : Vec Ideal S8192x512 .fp8e4m3)
    (hw : shapeCast S8192x512 w shapeCasts_S1x8192x512_S8192x512 = W) (i : Fin 192) (j : Fin 512) :
    k0_pay2 x w (ix2 i j) = ∑ d : Fin 8192, x (ix2 i d) * W (ix2 d j) := by
  unfold k0_pay2
  rw [hw]
  pointwise
theorem pay45_apply (x : Vec Ideal S192x8192 .fp8e4m3) (w : Vec Ideal S1x8192x256 .fp8e4m3) (W : Vec Ideal S8192x256 .fp8e4m3)
    (hw : shapeCast S8192x256 w shapeCasts_S1x8192x256_S8192x256 = W) (i : Fin 192) (j : Fin 256) :
    k0_pay45 x w (ix2 i j) = ∑ d : Fin 8192, x (ix2 i d) * W (ix2 d j) := by
  unfold k0_pay45
  rw [hw]
  pointwise

/-- A load of a box from a buffer that holds `x` reads `x` at the box's place. -/
theorem load_rep {s : Shape} {e : EltTy} {sp : Space} (M : Memref sig .tc sp s e) (x : s.Idx → Elt Ideal e) (off size : Fin s.rank → Nat) (inb)
    (i : (Rect.unit (s := s) off size inb).shape.Idx) (j : s.Idx) (hj : ∀ a, (j a).val = off a + (i a).val) :
    M.view.readAt (Elt Ideal) (Rect.unit (s := s) off size inb).toLoadRect (M.view.rep x) i = x j := by
  rw [View.readAt_apply, View.read_rep]
  exact congrArg x (funext fun a => Fin.ext ((Rect.idx_unit_val off size inb i a).trans (hj a).symm))

variable (m : (ℓ : Loc nD τ sig) → Buf (Elt Ideal) ℓ)

/-! ## The input blocks -/

/-- Every window's block index at the one point. -/
theorem kidx : ∀ t : Fin cfg0.N, win0_0.index t = ![0] ∧ win0_1.index t = ![0, 0] ∧ win0_2.index t = ![0, 0] ∧ win0_3.index t = ![0, 0] ∧ win0_4.index t = ![0, 0] :=
  (by decide +kernel : ∀ t : Fin grid0.N, _)

theorem kblk0 (c : Dev nD) (a : Fin 3) : iblk m c 0 t0_0 (ix1 a) = m ((c : Thread nD τ).loc main_arg4) (ix1 a) := by
  blk_ext! [iblk, V, kidx t0_0]
theorem kblk1 (c : Dev nD) (a : Fin 192) (b : Fin 8192) : iblk m c 1 t0_0 (ix2 a b) = m ((c : Thread nD τ).loc main_arg0) (ix2 a b) := by
  blk_ext! [iblk, V, kidx t0_0]
theorem kblk2 (c : Dev nD) (a : Fin 192) (b : Fin 128) : iblk m c 2 t0_0 (ix2 a b) = m ((c : Thread nD τ).loc main_arg1) (ix1 a) := by
  blk_ext! [iblk, V, kidx t0_0]
theorem kblk3 (c : Dev nD) (a : Fin 250) (b : Fin 128) (j : Fin 32000) (hj : j.val = a.val * 128 + b.val) :
    iblk m c 3 t0_0 (ix2 a b) = m ((c : Thread nD τ).loc main_arg3) (ix1 j) := by
  blk_ext! [iblk, V, kidx t0_0]

/-- The inverse temperature of row block `b`. -/
theorem temp_apply (c : Dev nD) (b : Fin 3) : tempV c (st0 t0_0) (in0 m c t0_0) b = m ((c : Thread nD τ).loc main_arg4) (ix1 b) :=
  (load_rep (st0 t0_0) _ _ _ _ _ (ix1 b) fun a => by fin_cases a; rfl).trans (kblk0 m c b)
/-- Row `i` of the left operand as loaded. -/
theorem left_apply (c : Dev nD) (i : Fin 192) (d : Fin 8192) :
    hV c (st1 t0_0) (in1 m c t0_0) (ix2 i d) = m ((c : Thread nD τ).loc main_arg0) (ix2 i d) :=
  (load_rep (st1 t0_0) _ _ _ _ _ (ix2 i d) fun a => by
    fin_cases a
    · show i.val = 0 + i.val; omega
    · show d.val = 0 + d.val; omega).trans (kblk1 m c i d)
/-- The row scale of row block `b`'s row `s`, in every lane. -/
theorem rows_apply (c : Dev nD) (b : Fin 3) (s : Fin 64) (l : Fin 128) :
    rsV c (st2 t0_0) (in2 m c t0_0) b (ix2 s l) = m ((c : Thread nD τ).loc main_arg1) (ix1 ⟨64 * b.val + s.val, by omega⟩) :=
  (load_rep (st2 t0_0) _ _ _ _ _ (ix2 ⟨64 * b.val + s.val, by omega⟩ l) fun a => by
    fin_cases a
    · rfl
    · show l.val = 0 + l.val; omega).trans (kblk2 m c _ l)
/-- The column scales of a lane group: row `q` of the scales' layout by 128 lanes. -/
theorem cols_apply (c : Dev nD) (off : Fin 2 → Nat) (inb) (q : Fin 250) (e : off = ![q.val, 0]) (l : Fin 128) (n : Fin 32000)
    (hn : n.val = q.val * 128 + l.val) :
    (st3 t0_0).view.readAt (Elt Ideal) (Rect.unit (s := S250x128) off S1x128.size inb).toLoadRect (in3 m c t0_0) (ix2 0 l)
      = m ((c : Thread nD τ).loc main_arg3) (ix1 n) :=
  (load_rep (st3 t0_0) _ _ _ _ _ (ix2 q l) fun a => by
    subst e
    fin_cases a
    · show q.val = q.val + 0; omega
    · show l.val = 0 + l.val; omega).trans (kblk3 m c q l n hn)

/-! ## The tiles, the running maxima and sums -/

/-- The logits of the arguments, -/
abbrev logitOf (c : Dev nD) : Fin 3 → Fin 64 → Fin 32000 → EReal := logit (m ((c : Thread nD τ).loc main_arg0)) (m ((c : Thread nD τ).loc main_arg1))
  (m ((c : Thread nD τ).loc main_arg2)) (m ((c : Thread nD τ).loc main_arg3)) (m ((c : Thread nD τ).loc main_arg4))
/-- a trip's tile and a tile of the last block, -/
abbrev tileOf (c : Dev nD) := tileAt c (XWof m c) (st0 t0_0) (st1 t0_0) (st2 t0_0) (st3 t0_0) (in0 m c t0_0) (in1 m c t0_0) (in2 m c t0_0) (in3 m c t0_0)
abbrev tileTOf (c : Dev nD) := tileT c (XWof m c) (st0 t0_0) (st1 t0_0) (st2 t0_0) (st3 t0_0) (in0 m c t0_0) (in1 m c t0_0) (in2 m c t0_0) (in3 m c t0_0)
/-- the maxima and sums before a trip, -/
abbrev accOf (c : Dev nD) := acc c (XWof m c) (st0 t0_0) (st1 t0_0) (st2 t0_0) (st3 t0_0) (in0 m c t0_0) (in1 m c t0_0) (in2 m c t0_0) (in3 m c t0_0)
/-- and after the last block. -/
abbrev finMOf (c : Dev nD) := finM c (XWof m c) (st0 t0_0) (st1 t0_0) (st2 t0_0) (st3 t0_0) (in0 m c t0_0) (in1 m c t0_0) (in2 m c t0_0) (in3 m c t0_0)
abbrev finLOf (c : Dev nD) := finL c (XWof m c) (st0 t0_0) (st1 t0_0) (st2 t0_0) (st3 t0_0) (in0 m c t0_0) (in1 m c t0_0) (in2 m c t0_0) (in3 m c t0_0)

/-- A trip's tile holds logits: its lane `l` the lane's term number `4 k + r`. -/
theorem tileOf_apply (c : Dev nD) (k : Fin k0_t1_loop.trips) (r : Fin 4) (b : Fin 3) (s : Fin 64) (l : Fin 128) :
    tileOf m c k r b (ix2 s l) = lane (logitOf m c b s) l (4 * k.val + r.val) := by
  have hk : k.val < 62 := trips_eq ▸ k.isLt
  have hg : (gA k.val).val = k.val := Nat.mod_eq_of_lt hk
  rw [lane, dif_pos (by omega)]
  refine (scaled_apply _ _ _ _ s l).trans ?_
  refine congrArg₂ (· * ·) (congrArg₂ (· * ·) (congrArg₂ (· * ·) ?_ (rows_apply m c b s l)) ?_) (temp_apply m c b)
  · pointwise
    rw [pay2_apply _ _ _ (slot_cast c (XWof m c) _ _ _ _ (off11_sA k) _)]
    refine Finset.sum_congr rfl fun d _ => congrArg₂ (· * ·) (left_apply m c _ d) (grp_apply c (XWof m c) _ d _ _ ?_)
    show 128 * (4 * k.val + r.val) + l.val = 512 * (gA k.val).val + (128 * r.val + l.val)
    omega
  · refine cols_apply m c _ _ ⟨4 * k.val + r.val, by omega⟩ (k0_off12_eq k r) l _ ?_
    show 128 * (4 * k.val + r.val) + l.val = (4 * k.val + r.val) * 128 + l.val
    omega

/-- A tile of the last block likewise, from term number 248 on. -/
theorem tileTOf_apply (c : Dev nD) (r : Fin 2) (b : Fin 3) (s : Fin 64) (l : Fin 128) :
    tileTOf m c b r (ix2 s l) = lane (logitOf m c b s) l (248 + r.val) := by
  rw [lane, dif_pos (by omega)]
  refine (scaled_apply _ _ _ _ s l).trans ?_
  refine congrArg₂ (· * ·) (congrArg₂ (· * ·) (congrArg₂ (· * ·) ?_ (rows_apply m c b s l)) ?_) (temp_apply m c b)
  · pointwise
    rw [pay45_apply _ _ _ (slotT_cast c (XWof m c) _ _)]
    refine Finset.sum_congr rfl fun d _ => congrArg₂ (· * ·) (left_apply m c _ d) (grpT_apply c (XWof m c) d _ _ ?_)
    show 128 * (248 + r.val) + l.val = 31744 + (128 * r.val + l.val)
    omega
  · refine cols_apply m c _ _ ⟨248 + r.val, by omega⟩ rfl l _ ?_
    show 128 * (248 + r.val) + l.val = (248 + r.val) * 128 + l.val
    omega

/-- A running maximum and a running sum carried over the next four terms, and over the next two. -/
theorem maxOf_apply (x : ℕ → EReal) (n : ℕ) (t : Fin 4 → FVec Ideal S64x128 .f32) (M : FVec Ideal S64x128 .f32) (i : S64x128.Idx)
    (ht : ∀ r, t r i = x (n + r.val)) (hM : M i = runMax x n) : maxOf t M i = runMax x (n + 4) := by
  rw [show n + 4 = n + 1 + 1 + 1 + 1 from rfl, runMax_succ, runMax_succ, runMax_succ, runMax_succ, ← hM]
  show max (max (max (max (M i) (t 0 i)) (t 1 i)) (t 2 i)) (t 3 i) = _
  rw [ht, ht, ht, ht]; rfl
theorem sumOf_apply (x : ℕ → EReal) (n : ℕ) (t : Fin 4 → FVec Ideal S64x128 .f32) (M L N : FVec Ideal S64x128 .f32) (i : S64x128.Idx)
    (ht : ∀ r, t r i = x (n + r.val)) (hM : M i = runMax x n) (hL : L i = runSum x n) (hN : N i = runMax x (n + 4)) :
    sumOf t M L N i = runSum x (n + 4) := by
  rw [runSum_add x n 4, ← Fin.sum_univ_eq_sum_range (fun r => Ideal.exp (x (n + r) - runMax x (n + 4))) 4, Fin.sum_univ_four, ← hM, ← hL, ← hN]
  show L i * Ideal.exp (M i - N i) + Ideal.exp (t 0 i - N i) + Ideal.exp (t 1 i - N i) + Ideal.exp (t 2 i - N i) + Ideal.exp (t 3 i - N i) = _
  rw [ht, ht, ht, ht, add_assoc, add_assoc, add_assoc, add_assoc, add_assoc]
theorem maxOf2_apply (x : ℕ → EReal) (n : ℕ) (t : Fin 2 → FVec Ideal S64x128 .f32) (M : FVec Ideal S64x128 .f32) (i : S64x128.Idx)
    (ht : ∀ r, t r i = x (n + r.val)) (hM : M i = runMax x n) : maxOf2 t M i = runMax x (n + 2) := by
  rw [show n + 2 = n + 1 + 1 from rfl, runMax_succ, runMax_succ, ← hM]
  show max (max (M i) (t 0 i)) (t 1 i) = _
  rw [ht, ht]; rfl
theorem sumOf2_apply (x : ℕ → EReal) (n : ℕ) (t : Fin 2 → FVec Ideal S64x128 .f32) (M L N : FVec Ideal S64x128 .f32) (i : S64x128.Idx)
    (ht : ∀ r, t r i = x (n + r.val)) (hM : M i = runMax x n) (hL : L i = runSum x n) (hN : N i = runMax x (n + 2)) :
    sumOf2 t M L N i = runSum x (n + 2) := by
  rw [runSum_add x n 2, ← Fin.sum_univ_eq_sum_range (fun r => Ideal.exp (x (n + r) - runMax x (n + 2))) 2, Fin.sum_univ_two, ← hM, ← hL, ← hN]
  show L i * Ideal.exp (M i - N i) + Ideal.exp (t 0 i - N i) + Ideal.exp (t 1 i - N i) = _
  rw [ht, ht, add_assoc]

/-- Before trip `n`, each lane holds the maximum of its first `4 n` logits and the sum of their exponentials against it. -/
theorem accOf_apply (c : Dev nD) (b : Fin 3) (s : Fin 64) (l : Fin 128) (n : ℕ) (hn : n ≤ 62) :
    (accOf m c b n).1 (ix2 s l) = runMax (lane (logitOf m c b s) l) (4 * n) ∧ (accOf m c b n).2 (ix2 s l) = runSum (lane (logitOf m c b s) l) (4 * n) := by
  induction n with
  | zero =>
    refine ⟨?_, ?_⟩
    · show Scalar.ofBits (F := Ideal) .f32 0xFF800000#32 = ⊥
      exact negInf
    · show Scalar.ofBits (F := Ideal) .f32 0x00000000#32 = 0
      pointwise
  | succ n ih =>
    obtain ⟨hM, hL⟩ := ih (by omega)
    have hlt : n < k0_t1_loop.trips := by rw [trips_eq]; omega
    have e : accOf m c b (n + 1) = (maxOf (fun r => tileOf m c ⟨n, hlt⟩ r b) (accOf m c b n).1,
        sumOf (fun r => tileOf m c ⟨n, hlt⟩ r b) (accOf m c b n).1 (accOf m c b n).2 (maxOf (fun r => tileOf m c ⟨n, hlt⟩ r b) (accOf m c b n).1)) :=
      acc_succ c (XWof m c) (st0 t0_0) (st1 t0_0) (st2 t0_0) (st3 t0_0) (in0 m c t0_0) (in1 m c t0_0) (in2 m c t0_0) (in3 m c t0_0) b ⟨n, hlt⟩
    rw [e, show 4 * (n + 1) = 4 * n + 4 from rfl]
    have ht : ∀ r : Fin 4, tileOf m c ⟨n, hlt⟩ r b (ix2 s l) = lane (logitOf m c b s) l (4 * n + r.val) := fun r => tileOf_apply m c ⟨n, hlt⟩ r b s l
    have hN := maxOf_apply _ (4 * n) (fun r => tileOf m c ⟨n, hlt⟩ r b) _ (ix2 s l) ht hM
    exact ⟨hN, sumOf_apply _ (4 * n) (fun r => tileOf m c ⟨n, hlt⟩ r b) _ _ _ (ix2 s l) ht hM hL hN⟩

/-- After the last block, over all of the lane's 250 logits. -/
theorem finOf_apply (c : Dev nD) (b : Fin 3) (s : Fin 64) (l : Fin 128) :
    finMOf m c b (ix2 s l) = runMax (lane (logitOf m c b s) l) 250 ∧ finLOf m c b (ix2 s l) = runSum (lane (logitOf m c b s) l) 250 := by
  obtain ⟨hM, hL⟩ := accOf_apply m c b s l 62 le_rfl
  have ht : ∀ r : Fin 2, tileTOf m c b r (ix2 s l) = lane (logitOf m c b s) l (248 + r.val) := fun r => tileTOf_apply m c r b s l
  have hN := maxOf2_apply _ 248 (tileTOf m c b) _ (ix2 s l) ht hM
  exact ⟨hN, sumOf2_apply _ 248 (tileTOf m c b) _ _ _ (ix2 s l) ht hM hL hN⟩

/-- What the body leaves in the result's block. -/
theorem outAt_apply (c : Dev nD) (y : S3x63.Idx) : outAt m c t0_0 y
    = results (m ((c : Thread nD τ).loc main_arg0)) (m ((c : Thread nD τ).loc main_arg1))
        (m ((c : Thread nD τ).loc main_arg2)) (m ((c : Thread nD τ).loc main_arg3)) (m ((c : Thread nD τ).loc main_arg4)) y := by
  have h1 : (y 1).val < 63 := (y 1).isLt
  refine (pay74_apply _ _ (outCol y) ⟨(y 1).val, by omega⟩ rfl).trans ?_
  have eM : ∀ l : Fin 128, finMOf m c (outBlock y) (ix2 ⟨(y 1).val, by omega⟩ l) = _ := fun l => (finOf_apply m c (outBlock y) ⟨(y 1).val, by omega⟩ l).1
  have eL : ∀ l : Fin 128, finLOf m c (outBlock y) (ix2 ⟨(y 1).val, by omega⟩ l) = _ := fun l => (finOf_apply m c (outBlock y) ⟨(y 1).val, by omega⟩ l).2
  simp only [eM, eL]
  rw [sup_lanes, lanes_combine]
  rfl

/-- The kernel's result array after the run. -/
theorem kernel_final (c : Dev nD) : finalA m c 4
    = results (m ((c : Thread nD τ).loc main_arg0)) (m ((c : Thread nD τ).loc main_arg1))
        (m ((c : Thread nD τ).loc main_arg2)) (m ((c : Thread nD τ).loc main_arg3)) (m ((c : Thread nD τ).loc main_arg4)) := by
  unfold finalA
  refine (dats m 0 c).arrAt_eq_of_after_last 4 t0_0 (by decide +kernel) _ fun j => ?_
  blk_simp
  rw [after_w4]
  exact outAt_apply m c j

end Cert.Proof.LmHeadIdeal

end
-- ==== Proof.LmHeadIdeal.ReferenceValue.lean ====
/-
  What the reference's result array holds: the logarithms of the sums of the exponentials of its arguments' logits.
-/
module

public import proofs.«01_k».proof.Proof.LmHeadIdeal.Spec
public import proofs.«01_k».proof.Proof.Gen.LogitsReferenceIdeal.Value
public import Idealize.ShloMosaic.Lib.Pipeline.ValueKit
public import Idealize.ShloMosaic.Lib.Pointwise

@[expose] public section

set_option maxRecDepth 16384

noncomputable section

namespace Cert.Proof.LmHeadIdeal

open Cert.LogitsReferenceIdeal Cert.LogitsReferenceIdeal.Gen Idealize.ShloMosaic Idealize.ShloMosaic.TcCoe Idealize.SL.Sem
open Idealize.ShloMosaic.Pipeline (Dat)

/-! ## The reference's operations, one after another -/

/-- A maximum over the last of three axes. -/
theorem max_apply {n0 n1 n2 : Nat} (x : FVec Ideal ⟨3, ![n0, n1, n2]⟩ .f32) (h : (⟨3, ![n0, n1, n2]⟩ : Shape).Reduces [2] ⟨2, ![n0, n1]⟩)
    (hφ : FKind.Formats .f32) (hacc : 0xFF800000#32 = FKind.maximumf.neutral .f32 hφ) (a : Fin n0) (b : Fin n1) :
    multiReduction .maximumf [2] ⟨2, ![n0, n1]⟩ x 0xFF800000#32 h hφ hacc (ix2 a b) = Finset.univ.sup fun n => x (ix3 a b n) := by
  rw [multiReduction_maximumf_eq_fold, Shape.Reduces.fold_fiber_r3_a2]
  exact fold_max _
/-- A sum over it. -/
theorem add_apply {n0 n1 n2 : Nat} (x : FVec Ideal ⟨3, ![n0, n1, n2]⟩ .f32) (h : (⟨3, ![n0, n1, n2]⟩ : Shape).Reduces [2] ⟨2, ![n0, n1]⟩)
    (hφ : FKind.Formats .f32) (hacc : 0x00000000#32 = FKind.add.neutral .f32 hφ) (a : Fin n0) (b : Fin n1) :
    multiReduction .add [2] ⟨2, ![n0, n1]⟩ x 0x00000000#32 h hφ hacc (ix2 a b) = ∑ n, x (ix3 a b n) := by
  pointwise

/-- The product, scaled by its rows' scales and its columns' scales. -/
def scaled2 (v0 : FVec Ideal S192x8192 .fp8e4m3) (v1 : FVec Ideal S8192x32000 .fp8e4m3) (v3 : FVec Ideal S192x1 .f32) (v7 : FVec Ideal S1x32000 .f32) :
    FVec Ideal S192x32000 .f32 :=
  mulf (mulf (matmul dot_S192x8192_S8192x32000_S192x32000_1_0_0_1_n_n none v0 v1 (constant S192x32000 .f32 0x00000000#32))
      (broadcastTo S192x32000 (shapeCast S192x1 v3 shapeCasts_S192x1_S192x1) broadcasts_S192x1_S192x32000))
    (broadcastTo S192x32000 (shapeCast S1x32000 v7 shapeCasts_S1x32000_S1x32000) broadcasts_S1x32000_S192x32000)
/-- Its element `(i, n)`. -/
theorem scaled2_apply (v0 : FVec Ideal S192x8192 .fp8e4m3) (v1 : FVec Ideal S8192x32000 .fp8e4m3) (v3 : FVec Ideal S192x1 .f32) (v7 : FVec Ideal S1x32000 .f32)
    (i : Fin 192) (n : Fin 32000) :
    scaled2 v0 v1 v3 v7 (ix2 i n) = (∑ d : Fin 8192, (v0 (ix2 i d) * v1 (ix2 d n) : EReal)) * v3 (ix2 i 0) * v7 (ix2 0 n) := by
  unfold scaled2
  pointwise

/-- The first 63 rows of each row block, scaled by the block's inverse temperature. -/
def rows63 (v : FVec Ideal S192x32000 .f32) (v13 : FVec Ideal S3x1x1 .f32) : FVec Ideal S3x63x32000 .f32 :=
  mulf (extractStridedSlice S3x63x32000 ![0, 0, 0] (shapeCast S3x64x32000 v shapeCasts_S192x32000_S3x64x32000) slices_S3x64x32000_o0_0_0_S3x63x32000)
    (broadcastTo S3x63x32000 (shapeCast S3x1x1 v13 shapeCasts_S3x1x1_S3x1x1) broadcasts_S3x1x1_S3x63x32000)
/-- Row `b` of row block `a` is row `64 a + b` of the whole. -/
theorem cast_apply (v : FVec Ideal S192x32000 .f32) (a : Fin 3) (b : Fin 64) (n : Fin 32000) (i : Fin 192) (hi : i.val = a.val * 64 + b.val) :
    shapeCast S3x64x32000 v shapeCasts_S192x32000_S3x64x32000 (ix3 a b n) = v (ix2 i n) := by
  pointwise
  exact congrArg (fun i => v (ix2 i n)) (Fin.ext hi.symm)
/-- The slice of the first 63 rows, scaled, at an element. -/
theorem slice_apply (w : FVec Ideal S3x64x32000 .f32) (v13 : FVec Ideal S3x1x1 .f32) (a : Fin 3) (b : Fin 63) (n : Fin 32000) :
    (mulf (extractStridedSlice S3x63x32000 ![0, 0, 0] w slices_S3x64x32000_o0_0_0_S3x63x32000)
      (broadcastTo S3x63x32000 (shapeCast S3x1x1 v13 shapeCasts_S3x1x1_S3x1x1) broadcasts_S3x1x1_S3x63x32000) : FVec Ideal S3x63x32000 .f32) (ix3 a b n)
      = (w (ix3 a ⟨b.val, by omega⟩ n) * v13 (ix3 a 0 0) : EReal) := by
  pointwise
/-- Their element `(a, b, n)`. -/
theorem rows63_apply (v : FVec Ideal S192x32000 .f32) (v13 : FVec Ideal S3x1x1 .f32) (a : Fin 3) (b : Fin 63) (n : Fin 32000) (i : Fin 192) (hi : i.val = a.val * 64 + b.val) :
    rows63 v v13 (ix3 a b n) = (v (ix2 i n) * v13 (ix3 a 0 0) : EReal) := by
  unfold rows63
  rw [slice_apply, cast_apply v a ⟨b.val, by omega⟩ n i hi]

/-- Every element's exponential against a maximum per row. -/
def expAgainst (x : FVec Ideal S3x63x32000 .f32) (v17 : FVec Ideal S3x63 .f32) : FVec Ideal S3x63x32000 .f32 :=
  exp (subf x (broadcastTo S3x63x32000 (shapeCast S3x63x1 v17 shapeCasts_S3x63_S3x63x1) broadcasts_S3x63x1_S3x63x32000))
/-- At an element. -/
theorem expAgainst_apply (x : FVec Ideal S3x63x32000 .f32) (v17 : FVec Ideal S3x63 .f32) (a : Fin 3) (b : Fin 63) (n : Fin 32000) :
    expAgainst x v17 (ix3 a b n) = Ideal.exp (x (ix3 a b n) - v17 (ix2 a b)) := by
  unfold expAgainst
  pointwise

/-- The maxima of the rows, -/
def rowMax (x : FVec Ideal S3x63x32000 .f32) : FVec Ideal S3x63 .f32 :=
  multiReduction .maximumf [2] S3x63 x 0xFF800000#32 reduces_S3x63x32000_S3x63 (.inl rfl) rfl
/-- and the logarithms of the sums of their exponentials. -/
def rowLse (x : FVec Ideal S3x63x32000 .f32) : FVec Ideal S3x63 .f32 :=
  addf (rowMax x) (log (multiReduction .add [2] S3x63 (expAgainst x (rowMax x)) 0x00000000#32 reduces_S3x63x32000_S3x63 (.inl rfl) rfl))
/-- A sum with a logarithm, at an element. -/
theorem addf_log_apply {t : Shape} (x y : FVec Ideal t .f32) (i : t.Idx) : addf x (log y) i = (x i + Ideal.log (y i) : EReal) := rfl
/-- The two at row `b` of row block `a`. -/
theorem rowMax_apply (x : FVec Ideal S3x63x32000 .f32) (a : Fin 3) (b : Fin 63) : rowMax x (ix2 a b) = (Finset.univ.sup fun n => x (ix3 a b n) : EReal) :=
  max_apply x _ _ _ a b
theorem rowLse_apply (x : FVec Ideal S3x63x32000 .f32) (a : Fin 3) (b : Fin 63) :
    rowLse x (ix2 a b) = (Finset.univ.sup fun n => x (ix3 a b n) : EReal) + Ideal.log (∑ n, Ideal.exp (x (ix3 a b n) - Finset.univ.sup fun n => x (ix3 a b n))) := by
  unfold rowLse
  rw [addf_log_apply]
  refine congrArg₂ (· + ·) (rowMax_apply x a b) (congrArg Ideal.log ((add_apply _ _ _ _ a b).trans (Finset.sum_congr rfl fun n _ => ?_)))
  rw [expAgainst_apply, rowMax_apply]

/-- The reference computes these, one after another. -/
theorem pay1_eq (v0 : FVec Ideal S192x8192 .fp8e4m3) (v1 : FVec Ideal S8192x32000 .fp8e4m3) (v3 : FVec Ideal S192x1 .f32) (v7 : FVec Ideal S1x32000 .f32)
    (v13 : FVec Ideal S3x1x1 .f32) : k0_pay1 v0 v1 v3 v7 v13 = rowLse (rows63 (scaled2 v0 v1 v3 v7) v13) := rfl

/-! ## The reference's result -/

variable (m : (ℓ : Loc nD τ sig) → Buf (Elt Ideal) ℓ)

/-- Every window's block index at the one point. -/
theorem idx : ∀ t : Fin cfg0.N, win0_0.index t = ![0, 0] ∧ win0_1.index t = ![0, 0] ∧ win0_2.index t = ![0, 0] ∧ win0_3.index t = ![0, 0] ∧ win0_4.index t = ![0, 0, 0] :=
  (by decide +kernel : ∀ t : Fin grid0.N, _)

/-- The five input blocks at the one point are the arguments. -/
theorem blk0 (c : Dev nD) (a : Fin 192) (b : Fin 8192) : iblk m c 0 t0_0 (ix2 a b) = m ((c : Thread nD τ).loc main_arg0) (ix2 a b) := by
  blk_ext! [iblk, V, idx t0_0]
theorem blk1 (c : Dev nD) (a : Fin 192) (b : Fin 1) : iblk m c 1 t0_0 (ix2 a b) = m ((c : Thread nD τ).loc main_arg1) (ix1 a) := by
  blk_ext! [iblk, V, idx t0_0]
theorem blk2 (c : Dev nD) (a : Fin 8192) (b : Fin 32000) : iblk m c 2 t0_0 (ix2 a b) = m ((c : Thread nD τ).loc main_arg2) (ix2 a b) := by
  blk_ext! [iblk, V, idx t0_0]
theorem blk3 (c : Dev nD) (a : Fin 1) (b : Fin 32000) : iblk m c 3 t0_0 (ix2 a b) = m ((c : Thread nD τ).loc main_arg3) (ix1 b) := by
  blk_ext! [iblk, V, idx t0_0]
theorem blk4 (c : Dev nD) (a : Fin 3) (b d : Fin 1) : iblk m c 4 t0_0 (ix3 a b d) = m ((c : Thread nD τ).loc main_arg4) (ix1 a) := by
  blk_ext! [iblk, V, idx t0_0]

/-- The reference's result array after the run. -/
theorem reference_final (c : Dev nD) : (dats m 0 c).arrAt 5 cfg0.N
    = results (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 5 t0_0 (by decide +kernel) _ fun j => ?_
  blk_simp
  rw [after0_5]
  unfold out0_5
  frame_out
  have hj0 : (j 0).val < 3 := (j 0).isLt
  have hj1 : (j 1).val < 63 := (j 1).isLt
  have ej : j = ix2 ⟨(j 0).val, hj0⟩ ⟨(j 1).val, hj1⟩ := by funext a; fin_cases a <;> rfl
  rw [pay1_eq]
  have ex : ∀ n : Fin 32000, rows63 (scaled2 (iblk m c 0 t0_0) (iblk m c 2 t0_0) (iblk m c 1 t0_0) (iblk m c 3 t0_0)) (iblk m c 4 t0_0)
      (ix3 ⟨(j 0).val, hj0⟩ ⟨(j 1).val, hj1⟩ n) = logit (m ((c : Thread nD τ).loc main_arg0)) (m ((c : Thread nD τ).loc main_arg1))
        (m ((c : Thread nD τ).loc main_arg2)) (m ((c : Thread nD τ).loc main_arg3)) (m ((c : Thread nD τ).loc main_arg4)) ⟨(j 0).val, hj0⟩ ⟨(j 1).val, by omega⟩ n := by
    intro n
    rw [rows63_apply _ _ _ _ n ⟨64 * (j 0).val + (j 1).val, by omega⟩ (by show 64 * (j 0).val + (j 1).val = (j 0).val * 64 + (j 1).val; omega), scaled2_apply]
    exact congrArg₂ (· * ·) (congrArg₂ (· * ·) (congrArg₂ (· * ·)
      (Finset.sum_congr rfl fun d _ => congrArg₂ (· * ·) (blk0 m c _ _) (blk2 m c _ _)) (blk1 m c _ _)) (blk3 m c _ _)) (blk4 m c _ _ _)
  rw [ej]
  refine (rowLse_apply _ _ _).trans ?_
  simp only [ex]
  rfl

end Cert.Proof.LmHeadIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal.Value
public import proofs.«01_k».proof.Proof.Gen.Logits
public import proofs.«01_k».proof.Proof.Gen.Logits.Skeleton
public import proofs.«01_k».proof.Proof.Gen.Logits.Loops
public import proofs.«01_k».proof.Proof.Gen.Logits.Launch
public import proofs.«01_k».proof.Proof.Gen.Logits.Points
public import proofs.«01_k».proof.Proof.Gen.Logits.Frame
public import proofs.«01_k».proof.Proof.Gen.LogitsIdeal
public import proofs.«01_k».proof.Proof.Gen.LogitsIdeal.Skeleton
public import proofs.«01_k».proof.Proof.Gen.LogitsIdeal.Loops
public import proofs.«01_k».proof.Proof.Gen.LogitsIdeal.Launch
public import proofs.«01_k».proof.Proof.Gen.LogitsIdeal.Points
public import proofs.«01_k».proof.Proof.Gen.LogitsIdeal.Frame
public import proofs.«01_k».proof.Proof.Gen.LogitsReferenceIdeal.Value
public import proofs.«01_k».proof.Proof.GateUp.Launch
public import proofs.«01_k».proof.Proof.GateUpIdeal.KernelValue
public import proofs.«01_k».proof.Proof.GateUpIdeal.ReferenceValue
public import proofs.«01_k».proof.Proof.MlpDown.Launch
public import proofs.«01_k».proof.Proof.MlpDownIdeal.KernelValue
public import proofs.«01_k».proof.Proof.MlpDownIdeal.ReferenceValue
public import proofs.«01_k».proof.Proof.LmHead.Launch
public import proofs.«01_k».proof.Proof.LmHeadIdeal.KernelValue
public import proofs.«01_k».proof.Proof.LmHeadIdeal.ReferenceValue
public import Idealize.ShloMosaic.Adequacy
public import Idealize.ShloMosaic.Init

@[expose] public section

noncomputable section

namespace Cert.Proof

open Idealize.ShloMosaic Idealize.SL.Sem

/-- The compiled program's run leaves the arguments unchanged and every semaphore at zero. -/
theorem frame_Kernel : Cert.quiescent_Kernel := fun m ρ _ =>
  (θ_run Cert.Kernel.defs _ _).mono
    (fun _ h => ⟨fun c => ⟨((h.1 c).1 0).trans (GateUp.finalA_in0 m c), (h.1 c).2.2.1, (h.1 c).2.1, (h.1 c).2.2.2⟩, h.2⟩)
    (GateUp.run_main m ρ)

/-- Its ideal reading's run likewise. -/
theorem frame_KernelIdeal : Cert.quiescent_KernelIdeal := fun m ρ _ =>
  (θ_run Cert.KernelIdeal.defs _ _).mono
    (fun _ h => ⟨fun c => ⟨((h.1 c).1 0).trans (GateUpIdeal.finalA_in0 m c), (h.1 c).2.2.1, (h.1 c).2.1, (h.1 c).2.2.2⟩, h.2⟩)
    (GateUpIdeal.run_main m ρ)

/-- Over the extended reals both programs' results are the grouped activations of the shared arguments. -/
theorem algebraic : Cert.algebraic_KernelIdeal_ReferenceIdeal := fun m ρ m' ρ' _ hargs =>
  ⟨fun c => GateUpIdeal.finalA m c 3,
    (θ_run Cert.KernelIdeal.defs _ _).mono
      (fun _ h c => ⟨(h.1 c).1 3, ((h.1 c).1 0).trans (GateUpIdeal.finalA_in0 m c), (h.1 c).2.2.1, (h.1 c).2.1, (h.1 c).2.2.2⟩)
      (GateUpIdeal.run_main m ρ),
    (θ_run Cert.ReferenceIdeal.defs _ _).mono
      (fun _ h c => ⟨by
        refine ((h c).1.trans (GateUpIdeal.reference_final m' c)).trans (Eq.trans ?_ (GateUpIdeal.kernel_final m c).symm)
        rw [(hargs c).1, (hargs c).2.1, (hargs c).2.2.1, (hargs c).2.2.2],
        (h c).2⟩)
      (Cert.ReferenceIdeal.Value.run_blocks m' ρ')⟩

/-- The compiled down program's run leaves the arguments unchanged and every semaphore at zero. -/
theorem frame_Down : Cert.quiescent_Down := fun m ρ _ =>
  (θ_run Cert.Down.defs _ _).mono
    (fun _ h => ⟨fun c => ⟨((h.1 c).1 0).trans (MlpDown.finalA_in0 m c), (h.1 c).2⟩, h.2⟩)
    (MlpDown.run_main m ρ)

/-- Its ideal reading's run likewise. -/
theorem frame_DownIdeal : Cert.quiescent_DownIdeal := fun m ρ _ =>
  (θ_run Cert.DownIdeal.defs _ _).mono
    (fun _ h => ⟨fun c => ⟨((h.1 c).1 0).trans (MlpDownIdeal.finalA_in0 m c), (h.1 c).2⟩, h.2⟩)
    (MlpDownIdeal.run_main m ρ)

/-- Over the extended reals both programs' results are the layer's output of the shared arguments. -/
theorem algebraicDown : Cert.algebraic_DownIdeal_DownReferenceIdeal := fun m ρ m' ρ' _ hargs =>
  ⟨fun c => MlpDownIdeal.finalA m c 4,
    (θ_run Cert.DownIdeal.defs _ _).mono
      (fun _ h c => ⟨(h.1 c).1 4, ((h.1 c).1 0).trans (MlpDownIdeal.finalA_in0 m c), (h.1 c).2⟩)
      (MlpDownIdeal.run_main m ρ),
    (θ_run Cert.DownReferenceIdeal.defs _ _).mono
      (fun _ h c => ⟨by
        refine ((h c).1.trans (MlpDownIdeal.reference_final m' c)).trans (Eq.trans ?_ (MlpDownIdeal.kernel_final m c).symm)
        rw [(hargs c).1, (hargs c).2.1, (hargs c).2.2.1, (hargs c).2.2.2.1, (hargs c).2.2.2.2],
        (h c).2⟩)
      (Cert.DownReferenceIdeal.Value.run_blocks m' ρ')⟩

/-- The compiled logits program's run leaves the arguments unchanged and every semaphore at zero. -/
theorem frame_Logits : Cert.quiescent_Logits := fun m ρ _ =>
  (θ_run Cert.Logits.defs _ _).mono
    (fun _ h => ⟨fun c => ⟨((h.1 c).1 1).trans (LmHead.finalA_arg0 m c), (h.1 c).2.2.1, (h.1 c).2.1, (h.1 c).2.2.2, ((h.1 c).1 0).trans (LmHead.finalA_arg4 m c)⟩, h.2⟩)
    (LmHead.run_main m ρ)

/-- Its ideal reading's run likewise. -/
theorem frame_LogitsIdeal : Cert.quiescent_LogitsIdeal := fun m ρ _ =>
  (θ_run Cert.LogitsIdeal.defs _ _).mono
    (fun _ h => ⟨fun c => ⟨((h.1 c).1 1).trans (LmHeadIdeal.finalA_arg0 m c), (h.1 c).2.2.1, (h.1 c).2.1, (h.1 c).2.2.2, ((h.1 c).1 0).trans (LmHeadIdeal.finalA_arg4 m c)⟩, h.2⟩)
    (LmHeadIdeal.run_main m ρ)

/-- Over the extended reals both programs' results are the logarithms of the sums of the exponentials of the shared
    arguments' logits. -/
theorem algebraicLogits : Cert.algebraic_LogitsIdeal_LogitsReferenceIdeal := fun m ρ m' ρ' _ hargs =>
  ⟨fun c => LmHeadIdeal.finalA m c 4,
    (θ_run Cert.LogitsIdeal.defs _ _).mono
      (fun _ h c => ⟨(h.1 c).1 4, ((h.1 c).1 1).trans (LmHeadIdeal.finalA_arg0 m c), (h.1 c).2.2.1, (h.1 c).2.1, (h.1 c).2.2.2, ((h.1 c).1 0).trans (LmHeadIdeal.finalA_arg4 m c)⟩)
      (LmHeadIdeal.run_main m ρ),
    (θ_run Cert.LogitsReferenceIdeal.defs _ _).mono
      (fun _ h c => ⟨by
        refine ((h c).1.trans (LmHeadIdeal.reference_final m' c)).trans (Eq.trans ?_ (LmHeadIdeal.kernel_final m c).symm)
        rw [(hargs c).1, (hargs c).2.1, (hargs c).2.2.1, (hargs c).2.2.2.1, (hargs c).2.2.2.2],
        (h c).2⟩)
      (Cert.LogitsReferenceIdeal.Value.run_blocks m' ρ')⟩

theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts,
    Cert.Logits.Gen.facts, Cert.LogitsIdeal.Gen.facts, Cert.LogitsReferenceIdeal.Gen.facts,
    frame_Kernel, frame_KernelIdeal, fun m ρ _ => Cert.ReferenceIdeal.Gen.frame m ρ,
    frame_Down, frame_DownIdeal, fun m ρ _ => Cert.DownReferenceIdeal.Gen.frame m ρ,
    frame_Logits, frame_LogitsIdeal, fun m ρ _ => Cert.LogitsReferenceIdeal.Gen.frame m ρ,
    trivial, algebraic, trivial, algebraicDown, trivial, algebraicLogits⟩

end Cert.Proof

end
